-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_selected_and_finite [hPre_selected_and_finite : Cert.Pre_selected_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_selected_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_selected_and_finite [hPre_selected_and_finite : Cert.Pre_selected_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_selected_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_ProjV (m : (ℓ : Loc Cert.ProjV.nD Cert.ProjV.τ Cert.ProjV.sig) → Buf (Elt Bits) ℓ) : Prop :=
  True

def Pre_ProjVIdeal (m : (ℓ : Loc Cert.ProjVIdeal.nD Cert.ProjVIdeal.τ Cert.ProjVIdeal.sig) → Buf (Elt Ideal) ℓ) : Prop :=
  True

def Pre_ProjVRefIdeal (m : (ℓ : Loc Cert.ProjVRefIdeal.nD Cert.ProjVRefIdeal.τ Cert.ProjVRefIdeal.sig) → Buf (Elt Ideal) ℓ) : Prop :=
  True

def Pre_ProjK (m : (ℓ : Loc Cert.ProjK.nD Cert.ProjK.τ Cert.ProjK.sig) → Buf (Elt Bits) ℓ) : Prop :=
  True

def Pre_ProjKIdeal (m : (ℓ : Loc Cert.ProjKIdeal.nD Cert.ProjKIdeal.τ Cert.ProjKIdeal.sig) → Buf (Elt Ideal) ℓ) : Prop :=
  True

def Pre_ProjKRefIdeal (m : (ℓ : Loc Cert.ProjKRefIdeal.nD Cert.ProjKRefIdeal.τ Cert.ProjKRefIdeal.sig) → Buf (Elt Ideal) ℓ) : Prop :=
  True

def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_ProjQRefIdeal (m : (ℓ : Loc Cert.ProjQRefIdeal.nD Cert.ProjQRefIdeal.τ Cert.ProjQRefIdeal.sig) → Buf (Elt Ideal) ℓ) : Prop :=
  True

def Pre_DsaV (m : (ℓ : Loc Cert.DsaV.nD Cert.DsaV.τ Cert.DsaV.sig) → Buf (Elt Bits) ℓ) : Prop :=
  True

def Pre_DsaVIdeal (m : (ℓ : Loc Cert.DsaVIdeal.nD Cert.DsaVIdeal.τ Cert.DsaVIdeal.sig) → Buf (Elt Ideal) ℓ) : Prop :=
  True

def Pre_DsaVRefIdeal (m : (ℓ : Loc Cert.DsaVRefIdeal.nD Cert.DsaVRefIdeal.τ Cert.DsaVRefIdeal.sig) → Buf (Elt Ideal) ℓ) : Prop :=
  True

def Pre_DsaK (m : (ℓ : Loc Cert.DsaK.nD Cert.DsaK.τ Cert.DsaK.sig) → Buf (Elt Bits) ℓ) : Prop :=
  True

def Pre_DsaKIdeal (m : (ℓ : Loc Cert.DsaKIdeal.nD Cert.DsaKIdeal.τ Cert.DsaKIdeal.sig) → Buf (Elt Ideal) ℓ) : Prop :=
  True

def Pre_DsaKRefIdeal (m : (ℓ : Loc Cert.DsaKRefIdeal.nD Cert.DsaKRefIdeal.τ Cert.DsaKRefIdeal.sig) → Buf (Elt Ideal) ℓ) : Prop :=
  True

def Pre_DsaQ (m : (ℓ : Loc Cert.DsaQ.nD Cert.DsaQ.τ Cert.DsaQ.sig) → Buf (Elt Bits) ℓ) : Prop :=
  True

def Pre_DsaQIdeal (m : (ℓ : Loc Cert.DsaQIdeal.nD Cert.DsaQIdeal.τ Cert.DsaQIdeal.sig) → Buf (Elt Ideal) ℓ) : Prop :=
  True

def Pre_DsaQRefIdeal (m : (ℓ : Loc Cert.DsaQRefIdeal.nD Cert.DsaQRefIdeal.τ Cert.DsaQRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_DownS (m : (ℓ : Loc Cert.DownS.nD Cert.DownS.τ Cert.DownS.sig) → Buf (Elt Bits) ℓ) : Prop :=
  True

def Pre_DownSIdeal (m : (ℓ : Loc Cert.DownSIdeal.nD Cert.DownSIdeal.τ Cert.DownSIdeal.sig) → Buf (Elt Ideal) ℓ) : Prop :=
  True

def Pre_DownSRefIdeal (m : (ℓ : Loc Cert.DownSRefIdeal.nD Cert.DownSRefIdeal.τ Cert.DownSRefIdeal.sig) → Buf (Elt Ideal) ℓ) : Prop :=
  True

def Pre_ProjVS (m : (ℓ : Loc Cert.ProjVS.nD Cert.ProjVS.τ Cert.ProjVS.sig) → Buf (Elt Bits) ℓ) : Prop :=
  True

def Pre_ProjVSIdeal (m : (ℓ : Loc Cert.ProjVSIdeal.nD Cert.ProjVSIdeal.τ Cert.ProjVSIdeal.sig) → Buf (Elt Ideal) ℓ) : Prop :=
  True

def Pre_ProjVSRefIdeal (m : (ℓ : Loc Cert.ProjVSRefIdeal.nD Cert.ProjVSRefIdeal.τ Cert.ProjVSRefIdeal.sig) → Buf (Elt Ideal) ℓ) : Prop :=
  True

def Pre_ProjKS (m : (ℓ : Loc Cert.ProjKS.nD Cert.ProjKS.τ Cert.ProjKS.sig) → Buf (Elt Bits) ℓ) : Prop :=
  True

def Pre_ProjKSIdeal (m : (ℓ : Loc Cert.ProjKSIdeal.nD Cert.ProjKSIdeal.τ Cert.ProjKSIdeal.sig) → Buf (Elt Ideal) ℓ) : Prop :=
  True

def Pre_ProjKSRefIdeal (m : (ℓ : Loc Cert.ProjKSRefIdeal.nD Cert.ProjKSRefIdeal.τ Cert.ProjKSRefIdeal.sig) → Buf (Elt Ideal) ℓ) : Prop :=
  True

def Pre_DsaVS (m : (ℓ : Loc Cert.DsaVS.nD Cert.DsaVS.τ Cert.DsaVS.sig) → Buf (Elt Bits) ℓ) : Prop :=
  True

def Pre_DsaVSIdeal (m : (ℓ : Loc Cert.DsaVSIdeal.nD Cert.DsaVSIdeal.τ Cert.DsaVSIdeal.sig) → Buf (Elt Ideal) ℓ) : Prop :=
  True

def Pre_DsaVSRefIdeal (m : (ℓ : Loc Cert.DsaVSRefIdeal.nD Cert.DsaVSRefIdeal.τ Cert.DsaVSRefIdeal.sig) → Buf (Elt Ideal) ℓ) : Prop :=
  True

def Pre_DsaKS (m : (ℓ : Loc Cert.DsaKS.nD Cert.DsaKS.τ Cert.DsaKS.sig) → Buf (Elt Bits) ℓ) : Prop :=
  True

def Pre_DsaKSIdeal (m : (ℓ : Loc Cert.DsaKSIdeal.nD Cert.DsaKSIdeal.τ Cert.DsaKSIdeal.sig) → Buf (Elt Ideal) ℓ) : Prop :=
  True

def Pre_DsaKSRefIdeal (m : (ℓ : Loc Cert.DsaKSRefIdeal.nD Cert.DsaKSRefIdeal.τ Cert.DsaKSRefIdeal.sig) → Buf (Elt Ideal) ℓ) : Prop :=
  True

def Pre_IdxK (m : (ℓ : Loc Cert.IdxK.nD Cert.IdxK.τ Cert.IdxK.sig) → Buf (Elt Bits) ℓ) : Prop :=
  True

def Pre_IdxKIdeal (m : (ℓ : Loc Cert.IdxKIdeal.nD Cert.IdxKIdeal.τ Cert.IdxKIdeal.sig) → Buf (Elt Ideal) ℓ) : Prop :=
  True

def Pre_IdxKRefIdeal (m : (ℓ : Loc Cert.IdxKRefIdeal.nD Cert.IdxKRefIdeal.τ Cert.IdxKRefIdeal.sig) → Buf (Elt Ideal) ℓ) : Prop :=
  True

def Pre_IdxKS (m : (ℓ : Loc Cert.IdxKS.nD Cert.IdxKS.τ Cert.IdxKS.sig) → Buf (Elt Bits) ℓ) : Prop :=
  True

def Pre_IdxKSIdeal (m : (ℓ : Loc Cert.IdxKSIdeal.nD Cert.IdxKSIdeal.τ Cert.IdxKSIdeal.sig) → Buf (Elt Ideal) ℓ) : Prop :=
  True

def Pre_IdxKSRefIdeal (m : (ℓ : Loc Cert.IdxKSRefIdeal.nD Cert.IdxKSRefIdeal.τ Cert.IdxKSRefIdeal.sig) → Buf (Elt Ideal) ℓ) : Prop :=
  True

def Pre_IdxQ (m : (ℓ : Loc Cert.IdxQ.nD Cert.IdxQ.τ Cert.IdxQ.sig) → Buf (Elt Bits) ℓ) : Prop :=
  True

def Pre_IdxQIdeal (m : (ℓ : Loc Cert.IdxQIdeal.nD Cert.IdxQIdeal.τ Cert.IdxQIdeal.sig) → Buf (Elt Ideal) ℓ) : Prop :=
  True

def Pre_IdxQRefIdeal (m : (ℓ : Loc Cert.IdxQRefIdeal.nD Cert.IdxQRefIdeal.τ Cert.IdxQRefIdeal.sig) → Buf (Elt Ideal) ℓ) : Prop :=
  True

def Pre_PoolS (m : (ℓ : Loc Cert.PoolS.nD Cert.PoolS.τ Cert.PoolS.sig) → Buf (Elt Bits) ℓ) : Prop :=
  True

def Pre_PoolSIdeal (m : (ℓ : Loc Cert.PoolSIdeal.nD Cert.PoolSIdeal.τ Cert.PoolSIdeal.sig) → Buf (Elt Ideal) ℓ) : Prop :=
  True

def Pre_PoolSRefIdeal (m : (ℓ : Loc Cert.PoolSRefIdeal.nD Cert.PoolSRefIdeal.τ Cert.PoolSRefIdeal.sig) → Buf (Elt Ideal) ℓ) : Prop :=
  True

def Pre_PoolP (m : (ℓ : Loc Cert.PoolP.nD Cert.PoolP.τ Cert.PoolP.sig) → Buf (Elt Bits) ℓ) : Prop :=
  True

def Pre_PoolPIdeal (m : (ℓ : Loc Cert.PoolPIdeal.nD Cert.PoolPIdeal.τ Cert.PoolPIdeal.sig) → Buf (Elt Ideal) ℓ) : Prop :=
  True

def Pre_PoolPRefIdeal (m : (ℓ : Loc Cert.PoolPRefIdeal.nD Cert.PoolPRefIdeal.τ Cert.PoolPRefIdeal.sig) → Buf (Elt Ideal) ℓ) : Prop :=
  True

def Pre_OutProjS (m : (ℓ : Loc Cert.OutProjS.nD Cert.OutProjS.τ Cert.OutProjS.sig) → Buf (Elt Bits) ℓ) : Prop :=
  True

def Pre_OutProjSIdeal (m : (ℓ : Loc Cert.OutProjSIdeal.nD Cert.OutProjSIdeal.τ Cert.OutProjSIdeal.sig) → Buf (Elt Ideal) ℓ) : Prop :=
  True

def Pre_OutProjSRefIdeal (m : (ℓ : Loc Cert.OutProjSRefIdeal.nD Cert.OutProjSRefIdeal.τ Cert.OutProjSRefIdeal.sig) → Buf (Elt Ideal) ℓ) : Prop :=
  True

def Pre_UpS (m : (ℓ : Loc Cert.UpS.nD Cert.UpS.τ Cert.UpS.sig) → Buf (Elt Bits) ℓ) : Prop :=
  True

def Pre_UpSIdeal (m : (ℓ : Loc Cert.UpSIdeal.nD Cert.UpSIdeal.τ Cert.UpSIdeal.sig) → Buf (Elt Ideal) ℓ) : Prop :=
  True

def Pre_UpSRefIdeal (m : (ℓ : Loc Cert.UpSRefIdeal.nD Cert.UpSRefIdeal.τ Cert.UpSRefIdeal.sig) → Buf (Elt Ideal) ℓ) : Prop :=
  True

def Pre_ProjQS (m : (ℓ : Loc Cert.ProjQS.nD Cert.ProjQS.τ Cert.ProjQS.sig) → Buf (Elt Bits) ℓ) : Prop :=
  True

def Pre_ProjQSIdeal (m : (ℓ : Loc Cert.ProjQSIdeal.nD Cert.ProjQSIdeal.τ Cert.ProjQSIdeal.sig) → Buf (Elt Ideal) ℓ) : Prop :=
  True

def Pre_ProjQSRefIdeal (m : (ℓ : Loc Cert.ProjQSRefIdeal.nD Cert.ProjQSRefIdeal.τ Cert.ProjQSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_selected_and_finite [hKernelIdeal : Cert.KernelIdeal.Facts] [hPre_selected_and_finite : Cert.Pre_selected_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_selected_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_selected_and_finite [hReferenceIdeal : Cert.ReferenceIdeal.Facts] [hPre_selected_and_finite : Cert.Pre_selected_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_selected_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_ProjV [hProjV : Cert.ProjV.Facts] : Prop :=
  ∀ (m : (ℓ : Loc Cert.ProjV.nD Cert.ProjV.τ Cert.ProjV.sig) → Buf (Elt Bits) ℓ) (g : Dev Cert.ProjV.nD → PrngReg), Pre_ProjV m →
    θ_run (Cert.ProjV.defs (F := Bits)) (onTc (τ := Cert.ProjV.τ) (Cert.ProjV.main (F := Bits))) ⟨m, fun _ => 0, g⟩ (fun r => (∀ c : Dev Cert.ProjV.nD,
      r.2.mem ((c.tc : Thread Cert.ProjV.nD Cert.ProjV.τ).loc Cert.ProjV.main_arg0) = m ((c.tc : Thread Cert.ProjV.nD Cert.ProjV.τ).loc Cert.ProjV.main_arg0)
      ∧ r.2.mem ((c.tc : Thread Cert.ProjV.nD Cert.ProjV.τ).loc Cert.ProjV.main_arg1) = m ((c.tc : Thread Cert.ProjV.nD Cert.ProjV.τ).loc Cert.ProjV.main_arg1))
      ∧ r.2.sem = fun _ => 0)

def quiescent_ProjVIdeal [hProjVIdeal : Cert.ProjVIdeal.Facts] : Prop :=
  ∀ (m : (ℓ : Loc Cert.ProjVIdeal.nD Cert.ProjVIdeal.τ Cert.ProjVIdeal.sig) → Buf (Elt Ideal) ℓ) (g : Dev Cert.ProjVIdeal.nD → PrngReg), Pre_ProjVIdeal m →
    θ_run (Cert.ProjVIdeal.defs (F := Ideal)) (onTc (τ := Cert.ProjVIdeal.τ) (Cert.ProjVIdeal.main (F := Ideal))) ⟨m, fun _ => 0, g⟩ (fun r => (∀ c : Dev Cert.ProjVIdeal.nD,
      r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
      ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1))
      ∧ r.2.sem = fun _ => 0)

def quiescent_ProjVRefIdeal [hProjVRefIdeal : Cert.ProjVRefIdeal.Facts] : Prop :=
  ∀ (m : (ℓ : Loc Cert.ProjVRefIdeal.nD Cert.ProjVRefIdeal.τ Cert.ProjVRefIdeal.sig) → Buf (Elt Ideal) ℓ) (g : Dev Cert.ProjVRefIdeal.nD → PrngReg), Pre_ProjVRefIdeal m →
    θ_run (Cert.ProjVRefIdeal.defs (F := Ideal)) (onTc (τ := Cert.ProjVRefIdeal.τ) (Cert.ProjVRefIdeal.main (F := Ideal))) ⟨m, fun _ => 0, g⟩ (fun r => (∀ c : Dev Cert.ProjVRefIdeal.nD,
      r.2.mem ((c.tc : Thread Cert.ProjVRefIdeal.nD Cert.ProjVRefIdeal.τ).loc Cert.ProjVRefIdeal.main_arg0) = m ((c.tc : Thread Cert.ProjVRefIdeal.nD Cert.ProjVRefIdeal.τ).loc Cert.ProjVRefIdeal.main_arg0)
      ∧ r.2.mem ((c.tc : Thread Cert.ProjVRefIdeal.nD Cert.ProjVRefIdeal.τ).loc Cert.ProjVRefIdeal.main_arg1) = m ((c.tc : Thread Cert.ProjVRefIdeal.nD Cert.ProjVRefIdeal.τ).loc Cert.ProjVRefIdeal.main_arg1))
      ∧ r.2.sem = fun _ => 0)

def quiescent_ProjK [hProjK : Cert.ProjK.Facts] : Prop :=
  ∀ (m : (ℓ : Loc Cert.ProjK.nD Cert.ProjK.τ Cert.ProjK.sig) → Buf (Elt Bits) ℓ) (g : Dev Cert.ProjK.nD → PrngReg), Pre_ProjK m →
    θ_run (Cert.ProjK.defs (F := Bits)) (onTc (τ := Cert.ProjK.τ) (Cert.ProjK.main (F := Bits))) ⟨m, fun _ => 0, g⟩ (fun r => (∀ c : Dev Cert.ProjK.nD,
      r.2.mem ((c.tc : Thread Cert.ProjK.nD Cert.ProjK.τ).loc Cert.ProjK.main_arg0) = m ((c.tc : Thread Cert.ProjK.nD Cert.ProjK.τ).loc Cert.ProjK.main_arg0)
      ∧ r.2.mem ((c.tc : Thread Cert.ProjK.nD Cert.ProjK.τ).loc Cert.ProjK.main_arg1) = m ((c.tc : Thread Cert.ProjK.nD Cert.ProjK.τ).loc Cert.ProjK.main_arg1)
      ∧ r.2.mem ((c.tc : Thread Cert.ProjK.nD Cert.ProjK.τ).loc Cert.ProjK.main_arg2) = m ((c.tc : Thread Cert.ProjK.nD Cert.ProjK.τ).loc Cert.ProjK.main_arg2))
      ∧ r.2.sem = fun _ => 0)

def quiescent_ProjKIdeal [hProjKIdeal : Cert.ProjKIdeal.Facts] : Prop :=
  ∀ (m : (ℓ : Loc Cert.ProjKIdeal.nD Cert.ProjKIdeal.τ Cert.ProjKIdeal.sig) → Buf (Elt Ideal) ℓ) (g : Dev Cert.ProjKIdeal.nD → PrngReg), Pre_ProjKIdeal m →
    θ_run (Cert.ProjKIdeal.defs (F := Ideal)) (onTc (τ := Cert.ProjKIdeal.τ) (Cert.ProjKIdeal.main (F := Ideal))) ⟨m, fun _ => 0, g⟩ (fun r => (∀ c : Dev Cert.ProjKIdeal.nD,
      r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
      ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1)
      ∧ r.2.mem ((c.tc : Thread Cert.ProjKIdeal.nD Cert.ProjKIdeal.τ).loc Cert.ProjKIdeal.main_arg2) = m ((c.tc : Thread Cert.ProjKIdeal.nD Cert.ProjKIdeal.τ).loc Cert.ProjKIdeal.main_arg2))
      ∧ r.2.sem = fun _ => 0)

def quiescent_ProjKRefIdeal [hProjKRefIdeal : Cert.ProjKRefIdeal.Facts] : Prop :=
  ∀ (m : (ℓ : Loc Cert.ProjKRefIdeal.nD Cert.ProjKRefIdeal.τ Cert.ProjKRefIdeal.sig) → Buf (Elt Ideal) ℓ) (g : Dev Cert.ProjKRefIdeal.nD → PrngReg), Pre_ProjKRefIdeal m →
    θ_run (Cert.ProjKRefIdeal.defs (F := Ideal)) (onTc (τ := Cert.ProjKRefIdeal.τ) (Cert.ProjKRefIdeal.main (F := Ideal))) ⟨m, fun _ => 0, g⟩ (fun r => (∀ c : Dev Cert.ProjKRefIdeal.nD,
      r.2.mem ((c.tc : Thread Cert.ProjKRefIdeal.nD Cert.ProjKRefIdeal.τ).loc Cert.ProjKRefIdeal.main_arg0) = m ((c.tc : Thread Cert.ProjKRefIdeal.nD Cert.ProjKRefIdeal.τ).loc Cert.ProjKRefIdeal.main_arg0)
      ∧ r.2.mem ((c.tc : Thread Cert.ProjKRefIdeal.nD Cert.ProjKRefIdeal.τ).loc Cert.ProjKRefIdeal.main_arg1) = m ((c.tc : Thread Cert.ProjKRefIdeal.nD Cert.ProjKRefIdeal.τ).loc Cert.ProjKRefIdeal.main_arg1)
      ∧ r.2.mem ((c.tc : Thread Cert.ProjKRefIdeal.nD Cert.ProjKRefIdeal.τ).loc Cert.ProjKRefIdeal.main_arg2) = m ((c.tc : Thread Cert.ProjKRefIdeal.nD Cert.ProjKRefIdeal.τ).loc Cert.ProjKRefIdeal.main_arg2))
      ∧ r.2.sem = fun _ => 0)

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1)
      ∧ r.2.mem ((c.tc : Thread Cert.ProjQ.nD Cert.ProjQ.τ).loc Cert.ProjQ.main_arg2) = m ((c.tc : Thread Cert.ProjQ.nD Cert.ProjQ.τ).loc Cert.ProjQ.main_arg2))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
      ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2))
      ∧ r.2.sem = fun _ => 0)

def quiescent_ProjQRefIdeal [hProjQRefIdeal : Cert.ProjQRefIdeal.Facts] : Prop :=
  ∀ (m : (ℓ : Loc Cert.ProjQRefIdeal.nD Cert.ProjQRefIdeal.τ Cert.ProjQRefIdeal.sig) → Buf (Elt Ideal) ℓ) (g : Dev Cert.ProjQRefIdeal.nD → PrngReg), Pre_ProjQRefIdeal m →
    θ_run (Cert.ProjQRefIdeal.defs (F := Ideal)) (onTc (τ := Cert.ProjQRefIdeal.τ) (Cert.ProjQRefIdeal.main (F := Ideal))) ⟨m, fun _ => 0, g⟩ (fun r => (∀ c : Dev Cert.ProjQRefIdeal.nD,
      r.2.mem ((c.tc : Thread Cert.ProjQRefIdeal.nD Cert.ProjQRefIdeal.τ).loc Cert.ProjQRefIdeal.main_arg0) = m ((c.tc : Thread Cert.ProjQRefIdeal.nD Cert.ProjQRefIdeal.τ).loc Cert.ProjQRefIdeal.main_arg0)
      ∧ r.2.mem ((c.tc : Thread Cert.ProjQRefIdeal.nD Cert.ProjQRefIdeal.τ).loc Cert.ProjQRefIdeal.main_arg1) = m ((c.tc : Thread Cert.ProjQRefIdeal.nD Cert.ProjQRefIdeal.τ).loc Cert.ProjQRefIdeal.main_arg1)
      ∧ r.2.mem ((c.tc : Thread Cert.ProjQRefIdeal.nD Cert.ProjQRefIdeal.τ).loc Cert.ProjQRefIdeal.main_arg2) = m ((c.tc : Thread Cert.ProjQRefIdeal.nD Cert.ProjQRefIdeal.τ).loc Cert.ProjQRefIdeal.main_arg2))
      ∧ r.2.sem = fun _ => 0)

def quiescent_DsaV [hDsaV : Cert.DsaV.Facts] : Prop :=
  ∀ (m : (ℓ : Loc Cert.DsaV.nD Cert.DsaV.τ Cert.DsaV.sig) → Buf (Elt Bits) ℓ) (g : Dev Cert.DsaV.nD → PrngReg), Pre_DsaV m →
    θ_run (Cert.DsaV.defs (F := Bits)) (onTc (τ := Cert.DsaV.τ) (Cert.DsaV.main (F := Bits))) ⟨m, fun _ => 0, g⟩ (fun r => (∀ c : Dev Cert.DsaV.nD,
      r.2.mem ((c.tc : Thread Cert.DsaV.nD Cert.DsaV.τ).loc Cert.DsaV.main_arg0) = m ((c.tc : Thread Cert.DsaV.nD Cert.DsaV.τ).loc Cert.DsaV.main_arg0)
      ∧ r.2.mem ((c.tc : Thread Cert.DsaV.nD Cert.DsaV.τ).loc Cert.DsaV.main_arg1) = m ((c.tc : Thread Cert.DsaV.nD Cert.DsaV.τ).loc Cert.DsaV.main_arg1))
      ∧ r.2.sem = fun _ => 0)

def quiescent_DsaVIdeal [hDsaVIdeal : Cert.DsaVIdeal.Facts] : Prop :=
  ∀ (m : (ℓ : Loc Cert.DsaVIdeal.nD Cert.DsaVIdeal.τ Cert.DsaVIdeal.sig) → Buf (Elt Ideal) ℓ) (g : Dev Cert.DsaVIdeal.nD → PrngReg), Pre_DsaVIdeal m →
    θ_run (Cert.DsaVIdeal.defs (F := Ideal)) (onTc (τ := Cert.DsaVIdeal.τ) (Cert.DsaVIdeal.main (F := Ideal))) ⟨m, fun _ => 0, g⟩ (fun r => (∀ c : Dev Cert.DsaVIdeal.nD,
      r.2.mem ((c.tc : Thread Cert.DsaVIdeal.nD Cert.DsaVIdeal.τ).loc Cert.DsaVIdeal.main_arg0) = m ((c.tc : Thread Cert.DsaVIdeal.nD Cert.DsaVIdeal.τ).loc Cert.DsaVIdeal.main_arg0)
      ∧ r.2.mem ((c.tc : Thread Cert.DsaVIdeal.nD Cert.DsaVIdeal.τ).loc Cert.DsaVIdeal.main_arg1) = m ((c.tc : Thread Cert.DsaVIdeal.nD Cert.DsaVIdeal.τ).loc Cert.DsaVIdeal.main_arg1))
      ∧ r.2.sem = fun _ => 0)

def quiescent_DsaVRefIdeal [hDsaVRefIdeal : Cert.DsaVRefIdeal.Facts] : Prop :=
  ∀ (m : (ℓ : Loc Cert.DsaVRefIdeal.nD Cert.DsaVRefIdeal.τ Cert.DsaVRefIdeal.sig) → Buf (Elt Ideal) ℓ) (g : Dev Cert.DsaVRefIdeal.nD → PrngReg), Pre_DsaVRefIdeal m →
    θ_run (Cert.DsaVRefIdeal.defs (F := Ideal)) (onTc (τ := Cert.DsaVRefIdeal.τ) (Cert.DsaVRefIdeal.main (F := Ideal))) ⟨m, fun _ => 0, g⟩ (fun r => (∀ c : Dev Cert.DsaVRefIdeal.nD,
      r.2.mem ((c.tc : Thread Cert.DsaVRefIdeal.nD Cert.DsaVRefIdeal.τ).loc Cert.DsaVRefIdeal.main_arg0) = m ((c.tc : Thread Cert.DsaVRefIdeal.nD Cert.DsaVRefIdeal.τ).loc Cert.DsaVRefIdeal.main_arg0)
      ∧ r.2.mem ((c.tc : Thread Cert.DsaVRefIdeal.nD Cert.DsaVRefIdeal.τ).loc Cert.DsaVRefIdeal.main_arg1) = m ((c.tc : Thread Cert.DsaVRefIdeal.nD Cert.DsaVRefIdeal.τ).loc Cert.DsaVRefIdeal.main_arg1))
      ∧ r.2.sem = fun _ => 0)

def quiescent_DsaK [hDsaK : Cert.DsaK.Facts] : Prop :=
  ∀ (m : (ℓ : Loc Cert.DsaK.nD Cert.DsaK.τ Cert.DsaK.sig) → Buf (Elt Bits) ℓ) (g : Dev Cert.DsaK.nD → PrngReg), Pre_DsaK m →
    θ_run (Cert.DsaK.defs (F := Bits)) (onTc (τ := Cert.DsaK.τ) (Cert.DsaK.main (F := Bits))) ⟨m, fun _ => 0, g⟩ (fun r => (∀ c : Dev Cert.DsaK.nD,
      r.2.mem ((c.tc : Thread Cert.DsaK.nD Cert.DsaK.τ).loc Cert.DsaK.main_arg0) = m ((c.tc : Thread Cert.DsaK.nD Cert.DsaK.τ).loc Cert.DsaK.main_arg0)
      ∧ r.2.mem ((c.tc : Thread Cert.DsaK.nD Cert.DsaK.τ).loc Cert.DsaK.main_arg1) = m ((c.tc : Thread Cert.DsaK.nD Cert.DsaK.τ).loc Cert.DsaK.main_arg1)
      ∧ r.2.mem ((c.tc : Thread Cert.DsaK.nD Cert.DsaK.τ).loc Cert.DsaK.main_arg2) = m ((c.tc : Thread Cert.DsaK.nD Cert.DsaK.τ).loc Cert.DsaK.main_arg2))
      ∧ r.2.sem = fun _ => 0)

def quiescent_DsaKIdeal [hDsaKIdeal : Cert.DsaKIdeal.Facts] : Prop :=
  ∀ (m : (ℓ : Loc Cert.DsaKIdeal.nD Cert.DsaKIdeal.τ Cert.DsaKIdeal.sig) → Buf (Elt Ideal) ℓ) (g : Dev Cert.DsaKIdeal.nD → PrngReg), Pre_DsaKIdeal m →
    θ_run (Cert.DsaKIdeal.defs (F := Ideal)) (onTc (τ := Cert.DsaKIdeal.τ) (Cert.DsaKIdeal.main (F := Ideal))) ⟨m, fun _ => 0, g⟩ (fun r => (∀ c : Dev Cert.DsaKIdeal.nD,
      r.2.mem ((c.tc : Thread Cert.DsaKIdeal.nD Cert.DsaKIdeal.τ).loc Cert.DsaKIdeal.main_arg0) = m ((c.tc : Thread Cert.DsaKIdeal.nD Cert.DsaKIdeal.τ).loc Cert.DsaKIdeal.main_arg0)
      ∧ r.2.mem ((c.tc : Thread Cert.DsaKIdeal.nD Cert.DsaKIdeal.τ).loc Cert.DsaKIdeal.main_arg1) = m ((c.tc : Thread Cert.DsaKIdeal.nD Cert.DsaKIdeal.τ).loc Cert.DsaKIdeal.main_arg1)
      ∧ r.2.mem ((c.tc : Thread Cert.DsaKIdeal.nD Cert.DsaKIdeal.τ).loc Cert.DsaKIdeal.main_arg2) = m ((c.tc : Thread Cert.DsaKIdeal.nD Cert.DsaKIdeal.τ).loc Cert.DsaKIdeal.main_arg2))
      ∧ r.2.sem = fun _ => 0)

def quiescent_DsaKRefIdeal [hDsaKRefIdeal : Cert.DsaKRefIdeal.Facts] : Prop :=
  ∀ (m : (ℓ : Loc Cert.DsaKRefIdeal.nD Cert.DsaKRefIdeal.τ Cert.DsaKRefIdeal.sig) → Buf (Elt Ideal) ℓ) (g : Dev Cert.DsaKRefIdeal.nD → PrngReg), Pre_DsaKRefIdeal m →
    θ_run (Cert.DsaKRefIdeal.defs (F := Ideal)) (onTc (τ := Cert.DsaKRefIdeal.τ) (Cert.DsaKRefIdeal.main (F := Ideal))) ⟨m, fun _ => 0, g⟩ (fun r => (∀ c : Dev Cert.DsaKRefIdeal.nD,
      r.2.mem ((c.tc : Thread Cert.DsaKRefIdeal.nD Cert.DsaKRefIdeal.τ).loc Cert.DsaKRefIdeal.main_arg0) = m ((c.tc : Thread Cert.DsaKRefIdeal.nD Cert.DsaKRefIdeal.τ).loc Cert.DsaKRefIdeal.main_arg0)
      ∧ r.2.mem ((c.tc : Thread Cert.DsaKRefIdeal.nD Cert.DsaKRefIdeal.τ).loc Cert.DsaKRefIdeal.main_arg1) = m ((c.tc : Thread Cert.DsaKRefIdeal.nD Cert.DsaKRefIdeal.τ).loc Cert.DsaKRefIdeal.main_arg1)
      ∧ r.2.mem ((c.tc : Thread Cert.DsaKRefIdeal.nD Cert.DsaKRefIdeal.τ).loc Cert.DsaKRefIdeal.main_arg2) = m ((c.tc : Thread Cert.DsaKRefIdeal.nD Cert.DsaKRefIdeal.τ).loc Cert.DsaKRefIdeal.main_arg2))
      ∧ r.2.sem = fun _ => 0)

def quiescent_DsaQ [hDsaQ : Cert.DsaQ.Facts] : Prop :=
  ∀ (m : (ℓ : Loc Cert.DsaQ.nD Cert.DsaQ.τ Cert.DsaQ.sig) → Buf (Elt Bits) ℓ) (g : Dev Cert.DsaQ.nD → PrngReg), Pre_DsaQ m →
    θ_run (Cert.DsaQ.defs (F := Bits)) (onTc (τ := Cert.DsaQ.τ) (Cert.DsaQ.main (F := Bits))) ⟨m, fun _ => 0, g⟩ (fun r => (∀ c : Dev Cert.DsaQ.nD,
      r.2.mem ((c.tc : Thread Cert.DsaQ.nD Cert.DsaQ.τ).loc Cert.DsaQ.main_arg0) = m ((c.tc : Thread Cert.DsaQ.nD Cert.DsaQ.τ).loc Cert.DsaQ.main_arg0)
      ∧ r.2.mem ((c.tc : Thread Cert.DsaQ.nD Cert.DsaQ.τ).loc Cert.DsaQ.main_arg1) = m ((c.tc : Thread Cert.DsaQ.nD Cert.DsaQ.τ).loc Cert.DsaQ.main_arg1)
      ∧ r.2.mem ((c.tc : Thread Cert.DsaQ.nD Cert.DsaQ.τ).loc Cert.DsaQ.main_arg2) = m ((c.tc : Thread Cert.DsaQ.nD Cert.DsaQ.τ).loc Cert.DsaQ.main_arg2))
      ∧ r.2.sem = fun _ => 0)

def quiescent_DsaQIdeal [hDsaQIdeal : Cert.DsaQIdeal.Facts] : Prop :=
  ∀ (m : (ℓ : Loc Cert.DsaQIdeal.nD Cert.DsaQIdeal.τ Cert.DsaQIdeal.sig) → Buf (Elt Ideal) ℓ) (g : Dev Cert.DsaQIdeal.nD → PrngReg), Pre_DsaQIdeal m →
    θ_run (Cert.DsaQIdeal.defs (F := Ideal)) (onTc (τ := Cert.DsaQIdeal.τ) (Cert.DsaQIdeal.main (F := Ideal))) ⟨m, fun _ => 0, g⟩ (fun r => (∀ c : Dev Cert.DsaQIdeal.nD,
      r.2.mem ((c.tc : Thread Cert.DsaQIdeal.nD Cert.DsaQIdeal.τ).loc Cert.DsaQIdeal.main_arg0) = m ((c.tc : Thread Cert.DsaQIdeal.nD Cert.DsaQIdeal.τ).loc Cert.DsaQIdeal.main_arg0)
      ∧ r.2.mem ((c.tc : Thread Cert.DsaQIdeal.nD Cert.DsaQIdeal.τ).loc Cert.DsaQIdeal.main_arg1) = m ((c.tc : Thread Cert.DsaQIdeal.nD Cert.DsaQIdeal.τ).loc Cert.DsaQIdeal.main_arg1)
      ∧ r.2.mem ((c.tc : Thread Cert.DsaQIdeal.nD Cert.DsaQIdeal.τ).loc Cert.DsaQIdeal.main_arg2) = m ((c.tc : Thread Cert.DsaQIdeal.nD Cert.DsaQIdeal.τ).loc Cert.DsaQIdeal.main_arg2))
      ∧ r.2.sem = fun _ => 0)

def quiescent_DsaQRefIdeal [hDsaQRefIdeal : Cert.DsaQRefIdeal.Facts] : Prop :=
  ∀ (m : (ℓ : Loc Cert.DsaQRefIdeal.nD Cert.DsaQRefIdeal.τ Cert.DsaQRefIdeal.sig) → Buf (Elt Ideal) ℓ) (g : Dev Cert.DsaQRefIdeal.nD → PrngReg), Pre_DsaQRefIdeal m →
    θ_run (Cert.DsaQRefIdeal.defs (F := Ideal)) (onTc (τ := Cert.DsaQRefIdeal.τ) (Cert.DsaQRefIdeal.main (F := Ideal))) ⟨m, fun _ => 0, g⟩ (fun r => (∀ c : Dev Cert.DsaQRefIdeal.nD,
      r.2.mem ((c.tc : Thread Cert.DsaQRefIdeal.nD Cert.DsaQRefIdeal.τ).loc Cert.DsaQRefIdeal.main_arg0) = m ((c.tc : Thread Cert.DsaQRefIdeal.nD Cert.DsaQRefIdeal.τ).loc Cert.DsaQRefIdeal.main_arg0)
      ∧ r.2.mem ((c.tc : Thread Cert.DsaQRefIdeal.nD Cert.DsaQRefIdeal.τ).loc Cert.DsaQRefIdeal.main_arg1) = m ((c.tc : Thread Cert.DsaQRefIdeal.nD Cert.DsaQRefIdeal.τ).loc Cert.DsaQRefIdeal.main_arg1)
      ∧ r.2.mem ((c.tc : Thread Cert.DsaQRefIdeal.nD Cert.DsaQRefIdeal.τ).loc Cert.DsaQRefIdeal.main_arg2) = m ((c.tc : Thread Cert.DsaQRefIdeal.nD Cert.DsaQRefIdeal.τ).loc Cert.DsaQRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_DownS [hDownS : Cert.DownS.Facts] : Prop :=
  ∀ (m : (ℓ : Loc Cert.DownS.nD Cert.DownS.τ Cert.DownS.sig) → Buf (Elt Bits) ℓ) (g : Dev Cert.DownS.nD → PrngReg), Pre_DownS m →
    θ_run (Cert.DownS.defs (F := Bits)) (onTc (τ := Cert.DownS.τ) (Cert.DownS.main (F := Bits))) ⟨m, fun _ => 0, g⟩ (fun r => (∀ c : Dev Cert.DownS.nD,
      r.2.mem ((c.tc : Thread Cert.DownS.nD Cert.DownS.τ).loc Cert.DownS.main_arg0) = m ((c.tc : Thread Cert.DownS.nD Cert.DownS.τ).loc Cert.DownS.main_arg0)
      ∧ r.2.mem ((c.tc : Thread Cert.DownS.nD Cert.DownS.τ).loc Cert.DownS.main_arg1) = m ((c.tc : Thread Cert.DownS.nD Cert.DownS.τ).loc Cert.DownS.main_arg1)
      ∧ r.2.mem ((c.tc : Thread Cert.DownS.nD Cert.DownS.τ).loc Cert.DownS.main_arg2) = m ((c.tc : Thread Cert.DownS.nD Cert.DownS.τ).loc Cert.DownS.main_arg2))
      ∧ r.2.sem = fun _ => 0)

def quiescent_DownSIdeal [hDownSIdeal : Cert.DownSIdeal.Facts] : Prop :=
  ∀ (m : (ℓ : Loc Cert.DownSIdeal.nD Cert.DownSIdeal.τ Cert.DownSIdeal.sig) → Buf (Elt Ideal) ℓ) (g : Dev Cert.DownSIdeal.nD → PrngReg), Pre_DownSIdeal m →
    θ_run (Cert.DownSIdeal.defs (F := Ideal)) (onTc (τ := Cert.DownSIdeal.τ) (Cert.DownSIdeal.main (F := Ideal))) ⟨m, fun _ => 0, g⟩ (fun r => (∀ c : Dev Cert.DownSIdeal.nD,
      r.2.mem ((c.tc : Thread Cert.DownSIdeal.nD Cert.DownSIdeal.τ).loc Cert.DownSIdeal.main_arg0) = m ((c.tc : Thread Cert.DownSIdeal.nD Cert.DownSIdeal.τ).loc Cert.DownSIdeal.main_arg0)
      ∧ r.2.mem ((c.tc : Thread Cert.DownSIdeal.nD Cert.DownSIdeal.τ).loc Cert.DownSIdeal.main_arg1) = m ((c.tc : Thread Cert.DownSIdeal.nD Cert.DownSIdeal.τ).loc Cert.DownSIdeal.main_arg1)
      ∧ r.2.mem ((c.tc : Thread Cert.DownSIdeal.nD Cert.DownSIdeal.τ).loc Cert.DownSIdeal.main_arg2) = m ((c.tc : Thread Cert.DownSIdeal.nD Cert.DownSIdeal.τ).loc Cert.DownSIdeal.main_arg2))
      ∧ r.2.sem = fun _ => 0)

def quiescent_DownSRefIdeal [hDownSRefIdeal : Cert.DownSRefIdeal.Facts] : Prop :=
  ∀ (m : (ℓ : Loc Cert.DownSRefIdeal.nD Cert.DownSRefIdeal.τ Cert.DownSRefIdeal.sig) → Buf (Elt Ideal) ℓ) (g : Dev Cert.DownSRefIdeal.nD → PrngReg), Pre_DownSRefIdeal m →
    θ_run (Cert.DownSRefIdeal.defs (F := Ideal)) (onTc (τ := Cert.DownSRefIdeal.τ) (Cert.DownSRefIdeal.main (F := Ideal))) ⟨m, fun _ => 0, g⟩ (fun r => (∀ c : Dev Cert.DownSRefIdeal.nD,
      r.2.mem ((c.tc : Thread Cert.DownSRefIdeal.nD Cert.DownSRefIdeal.τ).loc Cert.DownSRefIdeal.main_arg0) = m ((c.tc : Thread Cert.DownSRefIdeal.nD Cert.DownSRefIdeal.τ).loc Cert.DownSRefIdeal.main_arg0)
      ∧ r.2.mem ((c.tc : Thread Cert.DownSRefIdeal.nD Cert.DownSRefIdeal.τ).loc Cert.DownSRefIdeal.main_arg1) = m ((c.tc : Thread Cert.DownSRefIdeal.nD Cert.DownSRefIdeal.τ).loc Cert.DownSRefIdeal.main_arg1)
      ∧ r.2.mem ((c.tc : Thread Cert.DownSRefIdeal.nD Cert.DownSRefIdeal.τ).loc Cert.DownSRefIdeal.main_arg2) = m ((c.tc : Thread Cert.DownSRefIdeal.nD Cert.DownSRefIdeal.τ).loc Cert.DownSRefIdeal.main_arg2))
      ∧ r.2.sem = fun _ => 0)

def quiescent_ProjVS [hProjVS : Cert.ProjVS.Facts] : Prop :=
  ∀ (m : (ℓ : Loc Cert.ProjVS.nD Cert.ProjVS.τ Cert.ProjVS.sig) → Buf (Elt Bits) ℓ) (g : Dev Cert.ProjVS.nD → PrngReg), Pre_ProjVS m →
    θ_run (Cert.ProjVS.defs (F := Bits)) (onTc (τ := Cert.ProjVS.τ) (Cert.ProjVS.main (F := Bits))) ⟨m, fun _ => 0, g⟩ (fun r => (∀ c : Dev Cert.ProjVS.nD,
      r.2.mem ((c.tc : Thread Cert.ProjVS.nD Cert.ProjVS.τ).loc Cert.ProjVS.main_arg0) = m ((c.tc : Thread Cert.ProjVS.nD Cert.ProjVS.τ).loc Cert.ProjVS.main_arg0)
      ∧ r.2.mem ((c.tc : Thread Cert.ProjVS.nD Cert.ProjVS.τ).loc Cert.ProjVS.main_arg1) = m ((c.tc : Thread Cert.ProjVS.nD Cert.ProjVS.τ).loc Cert.ProjVS.main_arg1))
      ∧ r.2.sem = fun _ => 0)

def quiescent_ProjVSIdeal [hProjVSIdeal : Cert.ProjVSIdeal.Facts] : Prop :=
  ∀ (m : (ℓ : Loc Cert.ProjVSIdeal.nD Cert.ProjVSIdeal.τ Cert.ProjVSIdeal.sig) → Buf (Elt Ideal) ℓ) (g : Dev Cert.ProjVSIdeal.nD → PrngReg), Pre_ProjVSIdeal m →
    θ_run (Cert.ProjVSIdeal.defs (F := Ideal)) (onTc (τ := Cert.ProjVSIdeal.τ) (Cert.ProjVSIdeal.main (F := Ideal))) ⟨m, fun _ => 0, g⟩ (fun r => (∀ c : Dev Cert.ProjVSIdeal.nD,
      r.2.mem ((c.tc : Thread Cert.ProjVSIdeal.nD Cert.ProjVSIdeal.τ).loc Cert.ProjVSIdeal.main_arg0) = m ((c.tc : Thread Cert.ProjVSIdeal.nD Cert.ProjVSIdeal.τ).loc Cert.ProjVSIdeal.main_arg0)
      ∧ r.2.mem ((c.tc : Thread Cert.ProjVSIdeal.nD Cert.ProjVSIdeal.τ).loc Cert.ProjVSIdeal.main_arg1) = m ((c.tc : Thread Cert.ProjVSIdeal.nD Cert.ProjVSIdeal.τ).loc Cert.ProjVSIdeal.main_arg1))
      ∧ r.2.sem = fun _ => 0)

def quiescent_ProjVSRefIdeal [hProjVSRefIdeal : Cert.ProjVSRefIdeal.Facts] : Prop :=
  ∀ (m : (ℓ : Loc Cert.ProjVSRefIdeal.nD Cert.ProjVSRefIdeal.τ Cert.ProjVSRefIdeal.sig) → Buf (Elt Ideal) ℓ) (g : Dev Cert.ProjVSRefIdeal.nD → PrngReg), Pre_ProjVSRefIdeal m →
    θ_run (Cert.ProjVSRefIdeal.defs (F := Ideal)) (onTc (τ := Cert.ProjVSRefIdeal.τ) (Cert.ProjVSRefIdeal.main (F := Ideal))) ⟨m, fun _ => 0, g⟩ (fun r => (∀ c : Dev Cert.ProjVSRefIdeal.nD,
      r.2.mem ((c.tc : Thread Cert.ProjVSRefIdeal.nD Cert.ProjVSRefIdeal.τ).loc Cert.ProjVSRefIdeal.main_arg0) = m ((c.tc : Thread Cert.ProjVSRefIdeal.nD Cert.ProjVSRefIdeal.τ).loc Cert.ProjVSRefIdeal.main_arg0)
      ∧ r.2.mem ((c.tc : Thread Cert.ProjVSRefIdeal.nD Cert.ProjVSRefIdeal.τ).loc Cert.ProjVSRefIdeal.main_arg1) = m ((c.tc : Thread Cert.ProjVSRefIdeal.nD Cert.ProjVSRefIdeal.τ).loc Cert.ProjVSRefIdeal.main_arg1))
      ∧ r.2.sem = fun _ => 0)

def quiescent_ProjKS [hProjKS : Cert.ProjKS.Facts] : Prop :=
  ∀ (m : (ℓ : Loc Cert.ProjKS.nD Cert.ProjKS.τ Cert.ProjKS.sig) → Buf (Elt Bits) ℓ) (g : Dev Cert.ProjKS.nD → PrngReg), Pre_ProjKS m →
    θ_run (Cert.ProjKS.defs (F := Bits)) (onTc (τ := Cert.ProjKS.τ) (Cert.ProjKS.main (F := Bits))) ⟨m, fun _ => 0, g⟩ (fun r => (∀ c : Dev Cert.ProjKS.nD,
      r.2.mem ((c.tc : Thread Cert.ProjKS.nD Cert.ProjKS.τ).loc Cert.ProjKS.main_arg0) = m ((c.tc : Thread Cert.ProjKS.nD Cert.ProjKS.τ).loc Cert.ProjKS.main_arg0)
      ∧ r.2.mem ((c.tc : Thread Cert.ProjKS.nD Cert.ProjKS.τ).loc Cert.ProjKS.main_arg1) = m ((c.tc : Thread Cert.ProjKS.nD Cert.ProjKS.τ).loc Cert.ProjKS.main_arg1)
      ∧ r.2.mem ((c.tc : Thread Cert.ProjKS.nD Cert.ProjKS.τ).loc Cert.ProjKS.main_arg2) = m ((c.tc : Thread Cert.ProjKS.nD Cert.ProjKS.τ).loc Cert.ProjKS.main_arg2))
      ∧ r.2.sem = fun _ => 0)

def quiescent_ProjKSIdeal [hProjKSIdeal : Cert.ProjKSIdeal.Facts] : Prop :=
  ∀ (m : (ℓ : Loc Cert.ProjKSIdeal.nD Cert.ProjKSIdeal.τ Cert.ProjKSIdeal.sig) → Buf (Elt Ideal) ℓ) (g : Dev Cert.ProjKSIdeal.nD → PrngReg), Pre_ProjKSIdeal m →
    θ_run (Cert.ProjKSIdeal.defs (F := Ideal)) (onTc (τ := Cert.ProjKSIdeal.τ) (Cert.ProjKSIdeal.main (F := Ideal))) ⟨m, fun _ => 0, g⟩ (fun r => (∀ c : Dev Cert.ProjKSIdeal.nD,
      r.2.mem ((c.tc : Thread Cert.ProjKSIdeal.nD Cert.ProjKSIdeal.τ).loc Cert.ProjKSIdeal.main_arg0) = m ((c.tc : Thread Cert.ProjKSIdeal.nD Cert.ProjKSIdeal.τ).loc Cert.ProjKSIdeal.main_arg0)
      ∧ r.2.mem ((c.tc : Thread Cert.ProjKSIdeal.nD Cert.ProjKSIdeal.τ).loc Cert.ProjKSIdeal.main_arg1) = m ((c.tc : Thread Cert.ProjKSIdeal.nD Cert.ProjKSIdeal.τ).loc Cert.ProjKSIdeal.main_arg1)
      ∧ r.2.mem ((c.tc : Thread Cert.ProjKSIdeal.nD Cert.ProjKSIdeal.τ).loc Cert.ProjKSIdeal.main_arg2) = m ((c.tc : Thread Cert.ProjKSIdeal.nD Cert.ProjKSIdeal.τ).loc Cert.ProjKSIdeal.main_arg2))
      ∧ r.2.sem = fun _ => 0)

def quiescent_ProjKSRefIdeal [hProjKSRefIdeal : Cert.ProjKSRefIdeal.Facts] : Prop :=
  ∀ (m : (ℓ : Loc Cert.ProjKSRefIdeal.nD Cert.ProjKSRefIdeal.τ Cert.ProjKSRefIdeal.sig) → Buf (Elt Ideal) ℓ) (g : Dev Cert.ProjKSRefIdeal.nD → PrngReg), Pre_ProjKSRefIdeal m →
    θ_run (Cert.ProjKSRefIdeal.defs (F := Ideal)) (onTc (τ := Cert.ProjKSRefIdeal.τ) (Cert.ProjKSRefIdeal.main (F := Ideal))) ⟨m, fun _ => 0, g⟩ (fun r => (∀ c : Dev Cert.ProjKSRefIdeal.nD,
      r.2.mem ((c.tc : Thread Cert.ProjKSRefIdeal.nD Cert.ProjKSRefIdeal.τ).loc Cert.ProjKSRefIdeal.main_arg0) = m ((c.tc : Thread Cert.ProjKSRefIdeal.nD Cert.ProjKSRefIdeal.τ).loc Cert.ProjKSRefIdeal.main_arg0)
      ∧ r.2.mem ((c.tc : Thread Cert.ProjKSRefIdeal.nD Cert.ProjKSRefIdeal.τ).loc Cert.ProjKSRefIdeal.main_arg1) = m ((c.tc : Thread Cert.ProjKSRefIdeal.nD Cert.ProjKSRefIdeal.τ).loc Cert.ProjKSRefIdeal.main_arg1)
      ∧ r.2.mem ((c.tc : Thread Cert.ProjKSRefIdeal.nD Cert.ProjKSRefIdeal.τ).loc Cert.ProjKSRefIdeal.main_arg2) = m ((c.tc : Thread Cert.ProjKSRefIdeal.nD Cert.ProjKSRefIdeal.τ).loc Cert.ProjKSRefIdeal.main_arg2))
      ∧ r.2.sem = fun _ => 0)

def quiescent_DsaVS [hDsaVS : Cert.DsaVS.Facts] : Prop :=
  ∀ (m : (ℓ : Loc Cert.DsaVS.nD Cert.DsaVS.τ Cert.DsaVS.sig) → Buf (Elt Bits) ℓ) (g : Dev Cert.DsaVS.nD → PrngReg), Pre_DsaVS m →
    θ_run (Cert.DsaVS.defs (F := Bits)) (onTc (τ := Cert.DsaVS.τ) (Cert.DsaVS.main (F := Bits))) ⟨m, fun _ => 0, g⟩ (fun r => (∀ c : Dev Cert.DsaVS.nD,
      r.2.mem ((c.tc : Thread Cert.DsaVS.nD Cert.DsaVS.τ).loc Cert.DsaVS.main_arg0) = m ((c.tc : Thread Cert.DsaVS.nD Cert.DsaVS.τ).loc Cert.DsaVS.main_arg0)
      ∧ r.2.mem ((c.tc : Thread Cert.DsaVS.nD Cert.DsaVS.τ).loc Cert.DsaVS.main_arg1) = m ((c.tc : Thread Cert.DsaVS.nD Cert.DsaVS.τ).loc Cert.DsaVS.main_arg1))
      ∧ r.2.sem = fun _ => 0)

def quiescent_DsaVSIdeal [hDsaVSIdeal : Cert.DsaVSIdeal.Facts] : Prop :=
  ∀ (m : (ℓ : Loc Cert.DsaVSIdeal.nD Cert.DsaVSIdeal.τ Cert.DsaVSIdeal.sig) → Buf (Elt Ideal) ℓ) (g : Dev Cert.DsaVSIdeal.nD → PrngReg), Pre_DsaVSIdeal m →
    θ_run (Cert.DsaVSIdeal.defs (F := Ideal)) (onTc (τ := Cert.DsaVSIdeal.τ) (Cert.DsaVSIdeal.main (F := Ideal))) ⟨m, fun _ => 0, g⟩ (fun r => (∀ c : Dev Cert.DsaVSIdeal.nD,
      r.2.mem ((c.tc : Thread Cert.DsaVSIdeal.nD Cert.DsaVSIdeal.τ).loc Cert.DsaVSIdeal.main_arg0) = m ((c.tc : Thread Cert.DsaVSIdeal.nD Cert.DsaVSIdeal.τ).loc Cert.DsaVSIdeal.main_arg0)
      ∧ r.2.mem ((c.tc : Thread Cert.DsaVSIdeal.nD Cert.DsaVSIdeal.τ).loc Cert.DsaVSIdeal.main_arg1) = m ((c.tc : Thread Cert.DsaVSIdeal.nD Cert.DsaVSIdeal.τ).loc Cert.DsaVSIdeal.main_arg1))
      ∧ r.2.sem = fun _ => 0)

def quiescent_DsaVSRefIdeal [hDsaVSRefIdeal : Cert.DsaVSRefIdeal.Facts] : Prop :=
  ∀ (m : (ℓ : Loc Cert.DsaVSRefIdeal.nD Cert.DsaVSRefIdeal.τ Cert.DsaVSRefIdeal.sig) → Buf (Elt Ideal) ℓ) (g : Dev Cert.DsaVSRefIdeal.nD → PrngReg), Pre_DsaVSRefIdeal m →
    θ_run (Cert.DsaVSRefIdeal.defs (F := Ideal)) (onTc (τ := Cert.DsaVSRefIdeal.τ) (Cert.DsaVSRefIdeal.main (F := Ideal))) ⟨m, fun _ => 0, g⟩ (fun r => (∀ c : Dev Cert.DsaVSRefIdeal.nD,
      r.2.mem ((c.tc : Thread Cert.DsaVSRefIdeal.nD Cert.DsaVSRefIdeal.τ).loc Cert.DsaVSRefIdeal.main_arg0) = m ((c.tc : Thread Cert.DsaVSRefIdeal.nD Cert.DsaVSRefIdeal.τ).loc Cert.DsaVSRefIdeal.main_arg0)
      ∧ r.2.mem ((c.tc : Thread Cert.DsaVSRefIdeal.nD Cert.DsaVSRefIdeal.τ).loc Cert.DsaVSRefIdeal.main_arg1) = m ((c.tc : Thread Cert.DsaVSRefIdeal.nD Cert.DsaVSRefIdeal.τ).loc Cert.DsaVSRefIdeal.main_arg1))
      ∧ r.2.sem = fun _ => 0)

def quiescent_DsaKS [hDsaKS : Cert.DsaKS.Facts] : Prop :=
  ∀ (m : (ℓ : Loc Cert.DsaKS.nD Cert.DsaKS.τ Cert.DsaKS.sig) → Buf (Elt Bits) ℓ) (g : Dev Cert.DsaKS.nD → PrngReg), Pre_DsaKS m →
    θ_run (Cert.DsaKS.defs (F := Bits)) (onTc (τ := Cert.DsaKS.τ) (Cert.DsaKS.main (F := Bits))) ⟨m, fun _ => 0, g⟩ (fun r => (∀ c : Dev Cert.DsaKS.nD,
      r.2.mem ((c.tc : Thread Cert.DsaKS.nD Cert.DsaKS.τ).loc Cert.DsaKS.main_arg0) = m ((c.tc : Thread Cert.DsaKS.nD Cert.DsaKS.τ).loc Cert.DsaKS.main_arg0)
      ∧ r.2.mem ((c.tc : Thread Cert.DsaKS.nD Cert.DsaKS.τ).loc Cert.DsaKS.main_arg1) = m ((c.tc : Thread Cert.DsaKS.nD Cert.DsaKS.τ).loc Cert.DsaKS.main_arg1)
      ∧ r.2.mem ((c.tc : Thread Cert.DsaKS.nD Cert.DsaKS.τ).loc Cert.DsaKS.main_arg2) = m ((c.tc : Thread Cert.DsaKS.nD Cert.DsaKS.τ).loc Cert.DsaKS.main_arg2))
      ∧ r.2.sem = fun _ => 0)

def quiescent_DsaKSIdeal [hDsaKSIdeal : Cert.DsaKSIdeal.Facts] : Prop :=
  ∀ (m : (ℓ : Loc Cert.DsaKSIdeal.nD Cert.DsaKSIdeal.τ Cert.DsaKSIdeal.sig) → Buf (Elt Ideal) ℓ) (g : Dev Cert.DsaKSIdeal.nD → PrngReg), Pre_DsaKSIdeal m →
    θ_run (Cert.DsaKSIdeal.defs (F := Ideal)) (onTc (τ := Cert.DsaKSIdeal.τ) (Cert.DsaKSIdeal.main (F := Ideal))) ⟨m, fun _ => 0, g⟩ (fun r => (∀ c : Dev Cert.DsaKSIdeal.nD,
      r.2.mem ((c.tc : Thread Cert.DsaKSIdeal.nD Cert.DsaKSIdeal.τ).loc Cert.DsaKSIdeal.main_arg0) = m ((c.tc : Thread Cert.DsaKSIdeal.nD Cert.DsaKSIdeal.τ).loc Cert.DsaKSIdeal.main_arg0)
      ∧ r.2.mem ((c.tc : Thread Cert.DsaKSIdeal.nD Cert.DsaKSIdeal.τ).loc Cert.DsaKSIdeal.main_arg1) = m ((c.tc : Thread Cert.DsaKSIdeal.nD Cert.DsaKSIdeal.τ).loc Cert.DsaKSIdeal.main_arg1)
      ∧ r.2.mem ((c.tc : Thread Cert.DsaKSIdeal.nD Cert.DsaKSIdeal.τ).loc Cert.DsaKSIdeal.main_arg2) = m ((c.tc : Thread Cert.DsaKSIdeal.nD Cert.DsaKSIdeal.τ).loc Cert.DsaKSIdeal.main_arg2))
      ∧ r.2.sem = fun _ => 0)

def quiescent_DsaKSRefIdeal [hDsaKSRefIdeal : Cert.DsaKSRefIdeal.Facts] : Prop :=
  ∀ (m : (ℓ : Loc Cert.DsaKSRefIdeal.nD Cert.DsaKSRefIdeal.τ Cert.DsaKSRefIdeal.sig) → Buf (Elt Ideal) ℓ) (g : Dev Cert.DsaKSRefIdeal.nD → PrngReg), Pre_DsaKSRefIdeal m →
    θ_run (Cert.DsaKSRefIdeal.defs (F := Ideal)) (onTc (τ := Cert.DsaKSRefIdeal.τ) (Cert.DsaKSRefIdeal.main (F := Ideal))) ⟨m, fun _ => 0, g⟩ (fun r => (∀ c : Dev Cert.DsaKSRefIdeal.nD,
      r.2.mem ((c.tc : Thread Cert.DsaKSRefIdeal.nD Cert.DsaKSRefIdeal.τ).loc Cert.DsaKSRefIdeal.main_arg0) = m ((c.tc : Thread Cert.DsaKSRefIdeal.nD Cert.DsaKSRefIdeal.τ).loc Cert.DsaKSRefIdeal.main_arg0)
      ∧ r.2.mem ((c.tc : Thread Cert.DsaKSRefIdeal.nD Cert.DsaKSRefIdeal.τ).loc Cert.DsaKSRefIdeal.main_arg1) = m ((c.tc : Thread Cert.DsaKSRefIdeal.nD Cert.DsaKSRefIdeal.τ).loc Cert.DsaKSRefIdeal.main_arg1)
      ∧ r.2.mem ((c.tc : Thread Cert.DsaKSRefIdeal.nD Cert.DsaKSRefIdeal.τ).loc Cert.DsaKSRefIdeal.main_arg2) = m ((c.tc : Thread Cert.DsaKSRefIdeal.nD Cert.DsaKSRefIdeal.τ).loc Cert.DsaKSRefIdeal.main_arg2))
      ∧ r.2.sem = fun _ => 0)

def quiescent_IdxK [hIdxK : Cert.IdxK.Facts] : Prop :=
  ∀ (m : (ℓ : Loc Cert.IdxK.nD Cert.IdxK.τ Cert.IdxK.sig) → Buf (Elt Bits) ℓ) (g : Dev Cert.IdxK.nD → PrngReg), Pre_IdxK m →
    θ_run (Cert.IdxK.defs (F := Bits)) (onTc (τ := Cert.IdxK.τ) (Cert.IdxK.main (F := Bits))) ⟨m, fun _ => 0, g⟩ (fun r => (∀ c : Dev Cert.IdxK.nD,
      r.2.mem ((c.tc : Thread Cert.IdxK.nD Cert.IdxK.τ).loc Cert.IdxK.main_arg0) = m ((c.tc : Thread Cert.IdxK.nD Cert.IdxK.τ).loc Cert.IdxK.main_arg0)
      ∧ r.2.mem ((c.tc : Thread Cert.IdxK.nD Cert.IdxK.τ).loc Cert.IdxK.main_arg1) = m ((c.tc : Thread Cert.IdxK.nD Cert.IdxK.τ).loc Cert.IdxK.main_arg1))
      ∧ r.2.sem = fun _ => 0)

def quiescent_IdxKIdeal [hIdxKIdeal : Cert.IdxKIdeal.Facts] : Prop :=
  ∀ (m : (ℓ : Loc Cert.IdxKIdeal.nD Cert.IdxKIdeal.τ Cert.IdxKIdeal.sig) → Buf (Elt Ideal) ℓ) (g : Dev Cert.IdxKIdeal.nD → PrngReg), Pre_IdxKIdeal m →
    θ_run (Cert.IdxKIdeal.defs (F := Ideal)) (onTc (τ := Cert.IdxKIdeal.τ) (Cert.IdxKIdeal.main (F := Ideal))) ⟨m, fun _ => 0, g⟩ (fun r => (∀ c : Dev Cert.IdxKIdeal.nD,
      r.2.mem ((c.tc : Thread Cert.IdxKIdeal.nD Cert.IdxKIdeal.τ).loc Cert.IdxKIdeal.main_arg0) = m ((c.tc : Thread Cert.IdxKIdeal.nD Cert.IdxKIdeal.τ).loc Cert.IdxKIdeal.main_arg0)
      ∧ r.2.mem ((c.tc : Thread Cert.IdxKIdeal.nD Cert.IdxKIdeal.τ).loc Cert.IdxKIdeal.main_arg1) = m ((c.tc : Thread Cert.IdxKIdeal.nD Cert.IdxKIdeal.τ).loc Cert.IdxKIdeal.main_arg1))
      ∧ r.2.sem = fun _ => 0)

def quiescent_IdxKRefIdeal [hIdxKRefIdeal : Cert.IdxKRefIdeal.Facts] : Prop :=
  ∀ (m : (ℓ : Loc Cert.IdxKRefIdeal.nD Cert.IdxKRefIdeal.τ Cert.IdxKRefIdeal.sig) → Buf (Elt Ideal) ℓ) (g : Dev Cert.IdxKRefIdeal.nD → PrngReg), Pre_IdxKRefIdeal m →
    θ_run (Cert.IdxKRefIdeal.defs (F := Ideal)) (onTc (τ := Cert.IdxKRefIdeal.τ) (Cert.IdxKRefIdeal.main (F := Ideal))) ⟨m, fun _ => 0, g⟩ (fun r => (∀ c : Dev Cert.IdxKRefIdeal.nD,
      r.2.mem ((c.tc : Thread Cert.IdxKRefIdeal.nD Cert.IdxKRefIdeal.τ).loc Cert.IdxKRefIdeal.main_arg0) = m ((c.tc : Thread Cert.IdxKRefIdeal.nD Cert.IdxKRefIdeal.τ).loc Cert.IdxKRefIdeal.main_arg0)
      ∧ r.2.mem ((c.tc : Thread Cert.IdxKRefIdeal.nD Cert.IdxKRefIdeal.τ).loc Cert.IdxKRefIdeal.main_arg1) = m ((c.tc : Thread Cert.IdxKRefIdeal.nD Cert.IdxKRefIdeal.τ).loc Cert.IdxKRefIdeal.main_arg1))
      ∧ r.2.sem = fun _ => 0)

def quiescent_IdxKS [hIdxKS : Cert.IdxKS.Facts] : Prop :=
  ∀ (m : (ℓ : Loc Cert.IdxKS.nD Cert.IdxKS.τ Cert.IdxKS.sig) → Buf (Elt Bits) ℓ) (g : Dev Cert.IdxKS.nD → PrngReg), Pre_IdxKS m →
    θ_run (Cert.IdxKS.defs (F := Bits)) (onTc (τ := Cert.IdxKS.τ) (Cert.IdxKS.main (F := Bits))) ⟨m, fun _ => 0, g⟩ (fun r => (∀ c : Dev Cert.IdxKS.nD,
      r.2.mem ((c.tc : Thread Cert.IdxKS.nD Cert.IdxKS.τ).loc Cert.IdxKS.main_arg0) = m ((c.tc : Thread Cert.IdxKS.nD Cert.IdxKS.τ).loc Cert.IdxKS.main_arg0)
      ∧ r.2.mem ((c.tc : Thread Cert.IdxKS.nD Cert.IdxKS.τ).loc Cert.IdxKS.main_arg1) = m ((c.tc : Thread Cert.IdxKS.nD Cert.IdxKS.τ).loc Cert.IdxKS.main_arg1))
      ∧ r.2.sem = fun _ => 0)

def quiescent_IdxKSIdeal [hIdxKSIdeal : Cert.IdxKSIdeal.Facts] : Prop :=
  ∀ (m : (ℓ : Loc Cert.IdxKSIdeal.nD Cert.IdxKSIdeal.τ Cert.IdxKSIdeal.sig) → Buf (Elt Ideal) ℓ) (g : Dev Cert.IdxKSIdeal.nD → PrngReg), Pre_IdxKSIdeal m →
    θ_run (Cert.IdxKSIdeal.defs (F := Ideal)) (onTc (τ := Cert.IdxKSIdeal.τ) (Cert.IdxKSIdeal.main (F := Ideal))) ⟨m, fun _ => 0, g⟩ (fun r => (∀ c : Dev Cert.IdxKSIdeal.nD,
      r.2.mem ((c.tc : Thread Cert.IdxKSIdeal.nD Cert.IdxKSIdeal.τ).loc Cert.IdxKSIdeal.main_arg0) = m ((c.tc : Thread Cert.IdxKSIdeal.nD Cert.IdxKSIdeal.τ).loc Cert.IdxKSIdeal.main_arg0)
      ∧ r.2.mem ((c.tc : Thread Cert.IdxKSIdeal.nD Cert.IdxKSIdeal.τ).loc Cert.IdxKSIdeal.main_arg1) = m ((c.tc : Thread Cert.IdxKSIdeal.nD Cert.IdxKSIdeal.τ).loc Cert.IdxKSIdeal.main_arg1))
      ∧ r.2.sem = fun _ => 0)

def quiescent_IdxKSRefIdeal [hIdxKSRefIdeal : Cert.IdxKSRefIdeal.Facts] : Prop :=
  ∀ (m : (ℓ : Loc Cert.IdxKSRefIdeal.nD Cert.IdxKSRefIdeal.τ Cert.IdxKSRefIdeal.sig) → Buf (Elt Ideal) ℓ) (g : Dev Cert.IdxKSRefIdeal.nD → PrngReg), Pre_IdxKSRefIdeal m →
    θ_run (Cert.IdxKSRefIdeal.defs (F := Ideal)) (onTc (τ := Cert.IdxKSRefIdeal.τ) (Cert.IdxKSRefIdeal.main (F := Ideal))) ⟨m, fun _ => 0, g⟩ (fun r => (∀ c : Dev Cert.IdxKSRefIdeal.nD,
      r.2.mem ((c.tc : Thread Cert.IdxKSRefIdeal.nD Cert.IdxKSRefIdeal.τ).loc Cert.IdxKSRefIdeal.main_arg0) = m ((c.tc : Thread Cert.IdxKSRefIdeal.nD Cert.IdxKSRefIdeal.τ).loc Cert.IdxKSRefIdeal.main_arg0)
      ∧ r.2.mem ((c.tc : Thread Cert.IdxKSRefIdeal.nD Cert.IdxKSRefIdeal.τ).loc Cert.IdxKSRefIdeal.main_arg1) = m ((c.tc : Thread Cert.IdxKSRefIdeal.nD Cert.IdxKSRefIdeal.τ).loc Cert.IdxKSRefIdeal.main_arg1))
      ∧ r.2.sem = fun _ => 0)

def quiescent_IdxQ [hIdxQ : Cert.IdxQ.Facts] : Prop :=
  ∀ (m : (ℓ : Loc Cert.IdxQ.nD Cert.IdxQ.τ Cert.IdxQ.sig) → Buf (Elt Bits) ℓ) (g : Dev Cert.IdxQ.nD → PrngReg), Pre_IdxQ m →
    θ_run (Cert.IdxQ.defs (F := Bits)) (onTc (τ := Cert.IdxQ.τ) (Cert.IdxQ.main (F := Bits))) ⟨m, fun _ => 0, g⟩ (fun r => (∀ c : Dev Cert.IdxQ.nD,
      r.2.mem ((c.tc : Thread Cert.IdxQ.nD Cert.IdxQ.τ).loc Cert.IdxQ.main_arg0) = m ((c.tc : Thread Cert.IdxQ.nD Cert.IdxQ.τ).loc Cert.IdxQ.main_arg0)
      ∧ r.2.mem ((c.tc : Thread Cert.IdxQ.nD Cert.IdxQ.τ).loc Cert.IdxQ.main_arg1) = m ((c.tc : Thread Cert.IdxQ.nD Cert.IdxQ.τ).loc Cert.IdxQ.main_arg1))
      ∧ r.2.sem = fun _ => 0)

def quiescent_IdxQIdeal [hIdxQIdeal : Cert.IdxQIdeal.Facts] : Prop :=
  ∀ (m : (ℓ : Loc Cert.IdxQIdeal.nD Cert.IdxQIdeal.τ Cert.IdxQIdeal.sig) → Buf (Elt Ideal) ℓ) (g : Dev Cert.IdxQIdeal.nD → PrngReg), Pre_IdxQIdeal m →
    θ_run (Cert.IdxQIdeal.defs (F := Ideal)) (onTc (τ := Cert.IdxQIdeal.τ) (Cert.IdxQIdeal.main (F := Ideal))) ⟨m, fun _ => 0, g⟩ (fun r => (∀ c : Dev Cert.IdxQIdeal.nD,
      r.2.mem ((c.tc : Thread Cert.IdxQIdeal.nD Cert.IdxQIdeal.τ).loc Cert.IdxQIdeal.main_arg0) = m ((c.tc : Thread Cert.IdxQIdeal.nD Cert.IdxQIdeal.τ).loc Cert.IdxQIdeal.main_arg0)
      ∧ r.2.mem ((c.tc : Thread Cert.IdxQIdeal.nD Cert.IdxQIdeal.τ).loc Cert.IdxQIdeal.main_arg1) = m ((c.tc : Thread Cert.IdxQIdeal.nD Cert.IdxQIdeal.τ).loc Cert.IdxQIdeal.main_arg1))
      ∧ r.2.sem = fun _ => 0)

def quiescent_IdxQRefIdeal [hIdxQRefIdeal : Cert.IdxQRefIdeal.Facts] : Prop :=
  ∀ (m : (ℓ : Loc Cert.IdxQRefIdeal.nD Cert.IdxQRefIdeal.τ Cert.IdxQRefIdeal.sig) → Buf (Elt Ideal) ℓ) (g : Dev Cert.IdxQRefIdeal.nD → PrngReg), Pre_IdxQRefIdeal m →
    θ_run (Cert.IdxQRefIdeal.defs (F := Ideal)) (onTc (τ := Cert.IdxQRefIdeal.τ) (Cert.IdxQRefIdeal.main (F := Ideal))) ⟨m, fun _ => 0, g⟩ (fun r => (∀ c : Dev Cert.IdxQRefIdeal.nD,
      r.2.mem ((c.tc : Thread Cert.IdxQRefIdeal.nD Cert.IdxQRefIdeal.τ).loc Cert.IdxQRefIdeal.main_arg0) = m ((c.tc : Thread Cert.IdxQRefIdeal.nD Cert.IdxQRefIdeal.τ).loc Cert.IdxQRefIdeal.main_arg0)
      ∧ r.2.mem ((c.tc : Thread Cert.IdxQRefIdeal.nD Cert.IdxQRefIdeal.τ).loc Cert.IdxQRefIdeal.main_arg1) = m ((c.tc : Thread Cert.IdxQRefIdeal.nD Cert.IdxQRefIdeal.τ).loc Cert.IdxQRefIdeal.main_arg1))
      ∧ r.2.sem = fun _ => 0)

def quiescent_PoolS [hPoolS : Cert.PoolS.Facts] : Prop :=
  ∀ (m : (ℓ : Loc Cert.PoolS.nD Cert.PoolS.τ Cert.PoolS.sig) → Buf (Elt Bits) ℓ) (g : Dev Cert.PoolS.nD → PrngReg), Pre_PoolS m →
    θ_run (Cert.PoolS.defs (F := Bits)) (onTc (τ := Cert.PoolS.τ) (Cert.PoolS.main (F := Bits))) ⟨m, fun _ => 0, g⟩ (fun r => (∀ c : Dev Cert.PoolS.nD,
      r.2.mem ((c.tc : Thread Cert.PoolS.nD Cert.PoolS.τ).loc Cert.PoolS.main_arg0) = m ((c.tc : Thread Cert.PoolS.nD Cert.PoolS.τ).loc Cert.PoolS.main_arg0)
      ∧ r.2.mem ((c.tc : Thread Cert.PoolS.nD Cert.PoolS.τ).loc Cert.PoolS.main_arg1) = m ((c.tc : Thread Cert.PoolS.nD Cert.PoolS.τ).loc Cert.PoolS.main_arg1)
      ∧ r.2.mem ((c.tc : Thread Cert.PoolS.nD Cert.PoolS.τ).loc Cert.PoolS.main_arg2) = m ((c.tc : Thread Cert.PoolS.nD Cert.PoolS.τ).loc Cert.PoolS.main_arg2))
      ∧ r.2.sem = fun _ => 0)

def quiescent_PoolSIdeal [hPoolSIdeal : Cert.PoolSIdeal.Facts] : Prop :=
  ∀ (m : (ℓ : Loc Cert.PoolSIdeal.nD Cert.PoolSIdeal.τ Cert.PoolSIdeal.sig) → Buf (Elt Ideal) ℓ) (g : Dev Cert.PoolSIdeal.nD → PrngReg), Pre_PoolSIdeal m →
    θ_run (Cert.PoolSIdeal.defs (F := Ideal)) (onTc (τ := Cert.PoolSIdeal.τ) (Cert.PoolSIdeal.main (F := Ideal))) ⟨m, fun _ => 0, g⟩ (fun r => (∀ c : Dev Cert.PoolSIdeal.nD,
      r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
      ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
      ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2))
      ∧ r.2.sem = fun _ => 0)

def quiescent_PoolSRefIdeal [hPoolSRefIdeal : Cert.PoolSRefIdeal.Facts] : Prop :=
  ∀ (m : (ℓ : Loc Cert.PoolSRefIdeal.nD Cert.PoolSRefIdeal.τ Cert.PoolSRefIdeal.sig) → Buf (Elt Ideal) ℓ) (g : Dev Cert.PoolSRefIdeal.nD → PrngReg), Pre_PoolSRefIdeal m →
    θ_run (Cert.PoolSRefIdeal.defs (F := Ideal)) (onTc (τ := Cert.PoolSRefIdeal.τ) (Cert.PoolSRefIdeal.main (F := Ideal))) ⟨m, fun _ => 0, g⟩ (fun r => (∀ c : Dev Cert.PoolSRefIdeal.nD,
      r.2.mem ((c.tc : Thread Cert.PoolSRefIdeal.nD Cert.PoolSRefIdeal.τ).loc Cert.PoolSRefIdeal.main_arg0) = m ((c.tc : Thread Cert.PoolSRefIdeal.nD Cert.PoolSRefIdeal.τ).loc Cert.PoolSRefIdeal.main_arg0)
      ∧ r.2.mem ((c.tc : Thread Cert.PoolSRefIdeal.nD Cert.PoolSRefIdeal.τ).loc Cert.PoolSRefIdeal.main_arg1) = m ((c.tc : Thread Cert.PoolSRefIdeal.nD Cert.PoolSRefIdeal.τ).loc Cert.PoolSRefIdeal.main_arg1)
      ∧ r.2.mem ((c.tc : Thread Cert.PoolSRefIdeal.nD Cert.PoolSRefIdeal.τ).loc Cert.PoolSRefIdeal.main_arg2) = m ((c.tc : Thread Cert.PoolSRefIdeal.nD Cert.PoolSRefIdeal.τ).loc Cert.PoolSRefIdeal.main_arg2))
      ∧ r.2.sem = fun _ => 0)

def quiescent_PoolP [hPoolP : Cert.PoolP.Facts] : Prop :=
  ∀ (m : (ℓ : Loc Cert.PoolP.nD Cert.PoolP.τ Cert.PoolP.sig) → Buf (Elt Bits) ℓ) (g : Dev Cert.PoolP.nD → PrngReg), Pre_PoolP m →
    θ_run (Cert.PoolP.defs (F := Bits)) (onTc (τ := Cert.PoolP.τ) (Cert.PoolP.main (F := Bits))) ⟨m, fun _ => 0, g⟩ (fun r => (∀ c : Dev Cert.PoolP.nD,
      r.2.mem ((c.tc : Thread Cert.PoolP.nD Cert.PoolP.τ).loc Cert.PoolP.main_arg0) = m ((c.tc : Thread Cert.PoolP.nD Cert.PoolP.τ).loc Cert.PoolP.main_arg0)
      ∧ r.2.mem ((c.tc : Thread Cert.PoolP.nD Cert.PoolP.τ).loc Cert.PoolP.main_arg1) = m ((c.tc : Thread Cert.PoolP.nD Cert.PoolP.τ).loc Cert.PoolP.main_arg1))
      ∧ r.2.sem = fun _ => 0)

def quiescent_PoolPIdeal [hPoolPIdeal : Cert.PoolPIdeal.Facts] : Prop :=
  ∀ (m : (ℓ : Loc Cert.PoolPIdeal.nD Cert.PoolPIdeal.τ Cert.PoolPIdeal.sig) → Buf (Elt Ideal) ℓ) (g : Dev Cert.PoolPIdeal.nD → PrngReg), Pre_PoolPIdeal m →
    θ_run (Cert.PoolPIdeal.defs (F := Ideal)) (onTc (τ := Cert.PoolPIdeal.τ) (Cert.PoolPIdeal.main (F := Ideal))) ⟨m, fun _ => 0, g⟩ (fun r => (∀ c : Dev Cert.PoolPIdeal.nD,
      r.2.mem ((c.tc : Thread Cert.PoolPIdeal.nD Cert.PoolPIdeal.τ).loc Cert.PoolPIdeal.main_arg0) = m ((c.tc : Thread Cert.PoolPIdeal.nD Cert.PoolPIdeal.τ).loc Cert.PoolPIdeal.main_arg0)
      ∧ r.2.mem ((c.tc : Thread Cert.PoolPIdeal.nD Cert.PoolPIdeal.τ).loc Cert.PoolPIdeal.main_arg1) = m ((c.tc : Thread Cert.PoolPIdeal.nD Cert.PoolPIdeal.τ).loc Cert.PoolPIdeal.main_arg1))
      ∧ r.2.sem = fun _ => 0)

def quiescent_PoolPRefIdeal [hPoolPRefIdeal : Cert.PoolPRefIdeal.Facts] : Prop :=
  ∀ (m : (ℓ : Loc Cert.PoolPRefIdeal.nD Cert.PoolPRefIdeal.τ Cert.PoolPRefIdeal.sig) → Buf (Elt Ideal) ℓ) (g : Dev Cert.PoolPRefIdeal.nD → PrngReg), Pre_PoolPRefIdeal m →
    θ_run (Cert.PoolPRefIdeal.defs (F := Ideal)) (onTc (τ := Cert.PoolPRefIdeal.τ) (Cert.PoolPRefIdeal.main (F := Ideal))) ⟨m, fun _ => 0, g⟩ (fun r => (∀ c : Dev Cert.PoolPRefIdeal.nD,
      r.2.mem ((c.tc : Thread Cert.PoolPRefIdeal.nD Cert.PoolPRefIdeal.τ).loc Cert.PoolPRefIdeal.main_arg0) = m ((c.tc : Thread Cert.PoolPRefIdeal.nD Cert.PoolPRefIdeal.τ).loc Cert.PoolPRefIdeal.main_arg0)
      ∧ r.2.mem ((c.tc : Thread Cert.PoolPRefIdeal.nD Cert.PoolPRefIdeal.τ).loc Cert.PoolPRefIdeal.main_arg1) = m ((c.tc : Thread Cert.PoolPRefIdeal.nD Cert.PoolPRefIdeal.τ).loc Cert.PoolPRefIdeal.main_arg1))
      ∧ r.2.sem = fun _ => 0)

def quiescent_OutProjS [hOutProjS : Cert.OutProjS.Facts] : Prop :=
  ∀ (m : (ℓ : Loc Cert.OutProjS.nD Cert.OutProjS.τ Cert.OutProjS.sig) → Buf (Elt Bits) ℓ) (g : Dev Cert.OutProjS.nD → PrngReg), Pre_OutProjS m →
    θ_run (Cert.OutProjS.defs (F := Bits)) (onTc (τ := Cert.OutProjS.τ) (Cert.OutProjS.main (F := Bits))) ⟨m, fun _ => 0, g⟩ (fun r => (∀ c : Dev Cert.OutProjS.nD,
      r.2.mem ((c.tc : Thread Cert.OutProjS.nD Cert.OutProjS.τ).loc Cert.OutProjS.main_arg0) = m ((c.tc : Thread Cert.OutProjS.nD Cert.OutProjS.τ).loc Cert.OutProjS.main_arg0)
      ∧ r.2.mem ((c.tc : Thread Cert.OutProjS.nD Cert.OutProjS.τ).loc Cert.OutProjS.main_arg1) = m ((c.tc : Thread Cert.OutProjS.nD Cert.OutProjS.τ).loc Cert.OutProjS.main_arg1)
      ∧ r.2.mem ((c.tc : Thread Cert.OutProjS.nD Cert.OutProjS.τ).loc Cert.OutProjS.main_arg2) = m ((c.tc : Thread Cert.OutProjS.nD Cert.OutProjS.τ).loc Cert.OutProjS.main_arg2))
      ∧ r.2.sem = fun _ => 0)

def quiescent_OutProjSIdeal [hOutProjSIdeal : Cert.OutProjSIdeal.Facts] : Prop :=
  ∀ (m : (ℓ : Loc Cert.OutProjSIdeal.nD Cert.OutProjSIdeal.τ Cert.OutProjSIdeal.sig) → Buf (Elt Ideal) ℓ) (g : Dev Cert.OutProjSIdeal.nD → PrngReg), Pre_OutProjSIdeal m →
    θ_run (Cert.OutProjSIdeal.defs (F := Ideal)) (onTc (τ := Cert.OutProjSIdeal.τ) (Cert.OutProjSIdeal.main (F := Ideal))) ⟨m, fun _ => 0, g⟩ (fun r => (∀ c : Dev Cert.OutProjSIdeal.nD,
      r.2.mem ((c.tc : Thread Cert.OutProjSIdeal.nD Cert.OutProjSIdeal.τ).loc Cert.OutProjSIdeal.main_arg0) = m ((c.tc : Thread Cert.OutProjSIdeal.nD Cert.OutProjSIdeal.τ).loc Cert.OutProjSIdeal.main_arg0)
      ∧ r.2.mem ((c.tc : Thread Cert.OutProjSIdeal.nD Cert.OutProjSIdeal.τ).loc Cert.OutProjSIdeal.main_arg1) = m ((c.tc : Thread Cert.OutProjSIdeal.nD Cert.OutProjSIdeal.τ).loc Cert.OutProjSIdeal.main_arg1)
      ∧ r.2.mem ((c.tc : Thread Cert.OutProjSIdeal.nD Cert.OutProjSIdeal.τ).loc Cert.OutProjSIdeal.main_arg2) = m ((c.tc : Thread Cert.OutProjSIdeal.nD Cert.OutProjSIdeal.τ).loc Cert.OutProjSIdeal.main_arg2))
      ∧ r.2.sem = fun _ => 0)

def quiescent_OutProjSRefIdeal [hOutProjSRefIdeal : Cert.OutProjSRefIdeal.Facts] : Prop :=
  ∀ (m : (ℓ : Loc Cert.OutProjSRefIdeal.nD Cert.OutProjSRefIdeal.τ Cert.OutProjSRefIdeal.sig) → Buf (Elt Ideal) ℓ) (g : Dev Cert.OutProjSRefIdeal.nD → PrngReg), Pre_OutProjSRefIdeal m →
    θ_run (Cert.OutProjSRefIdeal.defs (F := Ideal)) (onTc (τ := Cert.OutProjSRefIdeal.τ) (Cert.OutProjSRefIdeal.main (F := Ideal))) ⟨m, fun _ => 0, g⟩ (fun r => (∀ c : Dev Cert.OutProjSRefIdeal.nD,
      r.2.mem ((c.tc : Thread Cert.OutProjSRefIdeal.nD Cert.OutProjSRefIdeal.τ).loc Cert.OutProjSRefIdeal.main_arg0) = m ((c.tc : Thread Cert.OutProjSRefIdeal.nD Cert.OutProjSRefIdeal.τ).loc Cert.OutProjSRefIdeal.main_arg0)
      ∧ r.2.mem ((c.tc : Thread Cert.OutProjSRefIdeal.nD Cert.OutProjSRefIdeal.τ).loc Cert.OutProjSRefIdeal.main_arg1) = m ((c.tc : Thread Cert.OutProjSRefIdeal.nD Cert.OutProjSRefIdeal.τ).loc Cert.OutProjSRefIdeal.main_arg1)
      ∧ r.2.mem ((c.tc : Thread Cert.OutProjSRefIdeal.nD Cert.OutProjSRefIdeal.τ).loc Cert.OutProjSRefIdeal.main_arg2) = m ((c.tc : Thread Cert.OutProjSRefIdeal.nD Cert.OutProjSRefIdeal.τ).loc Cert.OutProjSRefIdeal.main_arg2))
      ∧ r.2.sem = fun _ => 0)

def quiescent_UpS [hUpS : Cert.UpS.Facts] : Prop :=
  ∀ (m : (ℓ : Loc Cert.UpS.nD Cert.UpS.τ Cert.UpS.sig) → Buf (Elt Bits) ℓ) (g : Dev Cert.UpS.nD → PrngReg), Pre_UpS m →
    θ_run (Cert.UpS.defs (F := Bits)) (onTc (τ := Cert.UpS.τ) (Cert.UpS.main (F := Bits))) ⟨m, fun _ => 0, g⟩ (fun r => (∀ c : Dev Cert.UpS.nD,
      r.2.mem ((c.tc : Thread Cert.UpS.nD Cert.UpS.τ).loc Cert.UpS.main_arg0) = m ((c.tc : Thread Cert.UpS.nD Cert.UpS.τ).loc Cert.UpS.main_arg0)
      ∧ r.2.mem ((c.tc : Thread Cert.UpS.nD Cert.UpS.τ).loc Cert.UpS.main_arg1) = m ((c.tc : Thread Cert.UpS.nD Cert.UpS.τ).loc Cert.UpS.main_arg1)
      ∧ r.2.mem ((c.tc : Thread Cert.UpS.nD Cert.UpS.τ).loc Cert.UpS.main_arg2) = m ((c.tc : Thread Cert.UpS.nD Cert.UpS.τ).loc Cert.UpS.main_arg2))
      ∧ r.2.sem = fun _ => 0)

def quiescent_UpSIdeal [hUpSIdeal : Cert.UpSIdeal.Facts] : Prop :=
  ∀ (m : (ℓ : Loc Cert.UpSIdeal.nD Cert.UpSIdeal.τ Cert.UpSIdeal.sig) → Buf (Elt Ideal) ℓ) (g : Dev Cert.UpSIdeal.nD → PrngReg), Pre_UpSIdeal m →
    θ_run (Cert.UpSIdeal.defs (F := Ideal)) (onTc (τ := Cert.UpSIdeal.τ) (Cert.UpSIdeal.main (F := Ideal))) ⟨m, fun _ => 0, g⟩ (fun r => (∀ c : Dev Cert.UpSIdeal.nD,
      r.2.mem ((c.tc : Thread Cert.UpSIdeal.nD Cert.UpSIdeal.τ).loc Cert.UpSIdeal.main_arg0) = m ((c.tc : Thread Cert.UpSIdeal.nD Cert.UpSIdeal.τ).loc Cert.UpSIdeal.main_arg0)
      ∧ r.2.mem ((c.tc : Thread Cert.UpSIdeal.nD Cert.UpSIdeal.τ).loc Cert.UpSIdeal.main_arg1) = m ((c.tc : Thread Cert.UpSIdeal.nD Cert.UpSIdeal.τ).loc Cert.UpSIdeal.main_arg1)
      ∧ r.2.mem ((c.tc : Thread Cert.UpSIdeal.nD Cert.UpSIdeal.τ).loc Cert.UpSIdeal.main_arg2) = m ((c.tc : Thread Cert.UpSIdeal.nD Cert.UpSIdeal.τ).loc Cert.UpSIdeal.main_arg2))
      ∧ r.2.sem = fun _ => 0)

def quiescent_UpSRefIdeal [hUpSRefIdeal : Cert.UpSRefIdeal.Facts] : Prop :=
  ∀ (m : (ℓ : Loc Cert.UpSRefIdeal.nD Cert.UpSRefIdeal.τ Cert.UpSRefIdeal.sig) → Buf (Elt Ideal) ℓ) (g : Dev Cert.UpSRefIdeal.nD → PrngReg), Pre_UpSRefIdeal m →
    θ_run (Cert.UpSRefIdeal.defs (F := Ideal)) (onTc (τ := Cert.UpSRefIdeal.τ) (Cert.UpSRefIdeal.main (F := Ideal))) ⟨m, fun _ => 0, g⟩ (fun r => (∀ c : Dev Cert.UpSRefIdeal.nD,
      r.2.mem ((c.tc : Thread Cert.UpSRefIdeal.nD Cert.UpSRefIdeal.τ).loc Cert.UpSRefIdeal.main_arg0) = m ((c.tc : Thread Cert.UpSRefIdeal.nD Cert.UpSRefIdeal.τ).loc Cert.UpSRefIdeal.main_arg0)
      ∧ r.2.mem ((c.tc : Thread Cert.UpSRefIdeal.nD Cert.UpSRefIdeal.τ).loc Cert.UpSRefIdeal.main_arg1) = m ((c.tc : Thread Cert.UpSRefIdeal.nD Cert.UpSRefIdeal.τ).loc Cert.UpSRefIdeal.main_arg1)
      ∧ r.2.mem ((c.tc : Thread Cert.UpSRefIdeal.nD Cert.UpSRefIdeal.τ).loc Cert.UpSRefIdeal.main_arg2) = m ((c.tc : Thread Cert.UpSRefIdeal.nD Cert.UpSRefIdeal.τ).loc Cert.UpSRefIdeal.main_arg2))
      ∧ r.2.sem = fun _ => 0)

def quiescent_ProjQS [hProjQS : Cert.ProjQS.Facts] : Prop :=
  ∀ (m : (ℓ : Loc Cert.ProjQS.nD Cert.ProjQS.τ Cert.ProjQS.sig) → Buf (Elt Bits) ℓ) (g : Dev Cert.ProjQS.nD → PrngReg), Pre_ProjQS m →
    θ_run (Cert.ProjQS.defs (F := Bits)) (onTc (τ := Cert.ProjQS.τ) (Cert.ProjQS.main (F := Bits))) ⟨m, fun _ => 0, g⟩ (fun r => (∀ c : Dev Cert.ProjQS.nD,
      r.2.mem ((c.tc : Thread Cert.ProjQS.nD Cert.ProjQS.τ).loc Cert.ProjQS.main_arg0) = m ((c.tc : Thread Cert.ProjQS.nD Cert.ProjQS.τ).loc Cert.ProjQS.main_arg0)
      ∧ r.2.mem ((c.tc : Thread Cert.ProjQS.nD Cert.ProjQS.τ).loc Cert.ProjQS.main_arg1) = m ((c.tc : Thread Cert.ProjQS.nD Cert.ProjQS.τ).loc Cert.ProjQS.main_arg1)
      ∧ r.2.mem ((c.tc : Thread Cert.ProjQS.nD Cert.ProjQS.τ).loc Cert.ProjQS.main_arg2) = m ((c.tc : Thread Cert.ProjQS.nD Cert.ProjQS.τ).loc Cert.ProjQS.main_arg2))
      ∧ r.2.sem = fun _ => 0)

def quiescent_ProjQSIdeal [hProjQSIdeal : Cert.ProjQSIdeal.Facts] : Prop :=
  ∀ (m : (ℓ : Loc Cert.ProjQSIdeal.nD Cert.ProjQSIdeal.τ Cert.ProjQSIdeal.sig) → Buf (Elt Ideal) ℓ) (g : Dev Cert.ProjQSIdeal.nD → PrngReg), Pre_ProjQSIdeal m →
    θ_run (Cert.ProjQSIdeal.defs (F := Ideal)) (onTc (τ := Cert.ProjQSIdeal.τ) (Cert.ProjQSIdeal.main (F := Ideal))) ⟨m, fun _ => 0, g⟩ (fun r => (∀ c : Dev Cert.ProjQSIdeal.nD,
      r.2.mem ((c.tc : Thread Cert.ProjQSIdeal.nD Cert.ProjQSIdeal.τ).loc Cert.ProjQSIdeal.main_arg0) = m ((c.tc : Thread Cert.ProjQSIdeal.nD Cert.ProjQSIdeal.τ).loc Cert.ProjQSIdeal.main_arg0)
      ∧ r.2.mem ((c.tc : Thread Cert.ProjQSIdeal.nD Cert.ProjQSIdeal.τ).loc Cert.ProjQSIdeal.main_arg1) = m ((c.tc : Thread Cert.ProjQSIdeal.nD Cert.ProjQSIdeal.τ).loc Cert.ProjQSIdeal.main_arg1)
      ∧ r.2.mem ((c.tc : Thread Cert.ProjQSIdeal.nD Cert.ProjQSIdeal.τ).loc Cert.ProjQSIdeal.main_arg2) = m ((c.tc : Thread Cert.ProjQSIdeal.nD Cert.ProjQSIdeal.τ).loc Cert.ProjQSIdeal.main_arg2))
      ∧ r.2.sem = fun _ => 0)

def quiescent_ProjQSRefIdeal [hProjQSRefIdeal : Cert.ProjQSRefIdeal.Facts] : Prop :=
  ∀ (m : (ℓ : Loc Cert.ProjQSRefIdeal.nD Cert.ProjQSRefIdeal.τ Cert.ProjQSRefIdeal.sig) → Buf (Elt Ideal) ℓ) (g : Dev Cert.ProjQSRefIdeal.nD → PrngReg), Pre_ProjQSRefIdeal m →
    θ_run (Cert.ProjQSRefIdeal.defs (F := Ideal)) (onTc (τ := Cert.ProjQSRefIdeal.τ) (Cert.ProjQSRefIdeal.main (F := Ideal))) ⟨m, fun _ => 0, g⟩ (fun r => (∀ c : Dev Cert.ProjQSRefIdeal.nD,
      r.2.mem ((c.tc : Thread Cert.ProjQSRefIdeal.nD Cert.ProjQSRefIdeal.τ).loc Cert.ProjQSRefIdeal.main_arg0) = m ((c.tc : Thread Cert.ProjQSRefIdeal.nD Cert.ProjQSRefIdeal.τ).loc Cert.ProjQSRefIdeal.main_arg0)
      ∧ r.2.mem ((c.tc : Thread Cert.ProjQSRefIdeal.nD Cert.ProjQSRefIdeal.τ).loc Cert.ProjQSRefIdeal.main_arg1) = m ((c.tc : Thread Cert.ProjQSRefIdeal.nD Cert.ProjQSRefIdeal.τ).loc Cert.ProjQSRefIdeal.main_arg1)
      ∧ r.2.mem ((c.tc : Thread Cert.ProjQSRefIdeal.nD Cert.ProjQSRefIdeal.τ).loc Cert.ProjQSRefIdeal.main_arg2) = m ((c.tc : Thread Cert.ProjQSRefIdeal.nD Cert.ProjQSRefIdeal.τ).loc Cert.ProjQSRefIdeal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3E0293EE#32 (((Real.sqrt 128)⁻¹ * (Real.log 2)⁻¹ : ℝ) : EReal)

def algebraic_KernelIdeal_ReferenceIdeal_pre_selected_and_finite [hKernelIdeal : Cert.KernelIdeal.Facts] [hReferenceIdeal : Cert.ReferenceIdeal.Facts] [hPre_selected_and_finite : Cert.Pre_selected_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_selected_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_ProjV_ProjVIdeal : Prop :=
  True

def algebraic_ProjVIdeal_ProjVRefIdeal [hProjVIdeal : Cert.ProjVIdeal.Facts] [hProjVRefIdeal : Cert.ProjVRefIdeal.Facts] : Prop :=
  ∀ (m : (ℓ : Loc Cert.ProjVIdeal.nD Cert.ProjVIdeal.τ Cert.ProjVIdeal.sig) → Buf (Elt Ideal) ℓ) (g : Dev Cert.ProjVIdeal.nD → PrngReg)
    (m' : (ℓ : Loc Cert.ProjVRefIdeal.nD Cert.ProjVRefIdeal.τ Cert.ProjVRefIdeal.sig) → Buf (Elt Ideal) ℓ) (g' : Dev Cert.ProjVRefIdeal.nD → PrngReg), Pre_ProjVIdeal m →
    (∀ c : Dev Cert.ProjVIdeal.nD,
      m' ((c.tc : Thread Cert.ProjVRefIdeal.nD Cert.ProjVRefIdeal.τ).loc Cert.ProjVRefIdeal.main_arg0) = m ((c.tc : Thread Cert.ProjVIdeal.nD Cert.ProjVIdeal.τ).loc Cert.ProjVIdeal.main_arg0)
      ∧ m' ((c.tc : Thread Cert.ProjVRefIdeal.nD Cert.ProjVRefIdeal.τ).loc Cert.ProjVRefIdeal.main_arg1) = m ((c.tc : Thread Cert.ProjVIdeal.nD Cert.ProjVIdeal.τ).loc Cert.ProjVIdeal.main_arg1)) →
    ∃ (v0 : (c : Dev Cert.ProjVIdeal.nD) → Buf (Elt Ideal) ((c.tc : Thread Cert.ProjVIdeal.nD Cert.ProjVIdeal.τ).loc Cert.ProjVIdeal.main_v0_0)) (v1 : (c : Dev Cert.ProjVIdeal.nD) → Buf (Elt Ideal) ((c.tc : Thread Cert.ProjVIdeal.nD Cert.ProjVIdeal.τ).loc Cert.ProjVIdeal.main_v0_1)),
      θ_run (Cert.ProjVIdeal.defs (F := Ideal)) (onTc (τ := Cert.ProjVIdeal.τ) (Cert.ProjVIdeal.main (F := Ideal))) ⟨m, fun _ => 0, g⟩ (fun r => ∀ c : Dev Cert.ProjVIdeal.nD,
          r.2.mem ((c.tc : Thread Cert.ProjVIdeal.nD Cert.ProjVIdeal.τ).loc Cert.ProjVIdeal.main_v0_0) = v0 c
          ∧ r.2.mem ((c.tc : Thread Cert.ProjVIdeal.nD Cert.ProjVIdeal.τ).loc Cert.ProjVIdeal.main_v0_1) = v1 c
          ∧ r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
          ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1))
      ∧ θ_run (Cert.ProjVRefIdeal.defs (F := Ideal)) (onTc (τ := Cert.ProjVRefIdeal.τ) (Cert.ProjVRefIdeal.main (F := Ideal))) ⟨m', fun _ => 0, g'⟩ (fun r => ∀ c : Dev Cert.ProjVRefIdeal.nD,
          r.2.mem ((c.tc : Thread Cert.ProjVRefIdeal.nD Cert.ProjVRefIdeal.τ).loc Cert.ProjVRefIdeal.main_v5) = v0 c
          ∧ r.2.mem ((c.tc : Thread Cert.ProjVRefIdeal.nD Cert.ProjVRefIdeal.τ).loc Cert.ProjVRefIdeal.main_v6) = v1 c
          ∧ r.2.mem ((c.tc : Thread Cert.ProjVRefIdeal.nD Cert.ProjVRefIdeal.τ).loc Cert.ProjVRefIdeal.main_arg0) = m' ((c.tc : Thread Cert.ProjVRefIdeal.nD Cert.ProjVRefIdeal.τ).loc Cert.ProjVRefIdeal.main_arg0)
          ∧ r.2.mem ((c.tc : Thread Cert.ProjVRefIdeal.nD Cert.ProjVRefIdeal.τ).loc Cert.ProjVRefIdeal.main_arg1) = m' ((c.tc : Thread Cert.ProjVRefIdeal.nD Cert.ProjVRefIdeal.τ).loc Cert.ProjVRefIdeal.main_arg1))

def preserves_ProjK_ProjKIdeal : Prop :=
  True

def algebraic_ProjKIdeal_ProjKRefIdeal [hProjKIdeal : Cert.ProjKIdeal.Facts] [hProjKRefIdeal : Cert.ProjKRefIdeal.Facts] : Prop :=
  ∀ (m : (ℓ : Loc Cert.ProjKIdeal.nD Cert.ProjKIdeal.τ Cert.ProjKIdeal.sig) → Buf (Elt Ideal) ℓ) (g : Dev Cert.ProjKIdeal.nD → PrngReg)
    (m' : (ℓ : Loc Cert.ProjKRefIdeal.nD Cert.ProjKRefIdeal.τ Cert.ProjKRefIdeal.sig) → Buf (Elt Ideal) ℓ) (g' : Dev Cert.ProjKRefIdeal.nD → PrngReg), Pre_ProjKIdeal m →
    (∀ c : Dev Cert.ProjKIdeal.nD,
      m' ((c.tc : Thread Cert.ProjKRefIdeal.nD Cert.ProjKRefIdeal.τ).loc Cert.ProjKRefIdeal.main_arg0) = m ((c.tc : Thread Cert.ProjKIdeal.nD Cert.ProjKIdeal.τ).loc Cert.ProjKIdeal.main_arg0)
      ∧ m' ((c.tc : Thread Cert.ProjKRefIdeal.nD Cert.ProjKRefIdeal.τ).loc Cert.ProjKRefIdeal.main_arg1) = m ((c.tc : Thread Cert.ProjKIdeal.nD Cert.ProjKIdeal.τ).loc Cert.ProjKIdeal.main_arg1)
      ∧ m' ((c.tc : Thread Cert.ProjKRefIdeal.nD Cert.ProjKRefIdeal.τ).loc Cert.ProjKRefIdeal.main_arg2) = m ((c.tc : Thread Cert.ProjKIdeal.nD Cert.ProjKIdeal.τ).loc Cert.ProjKIdeal.main_arg2)) →
    ∃ (v0 : (c : Dev Cert.ProjKIdeal.nD) → Buf (Elt Ideal) ((c.tc : Thread Cert.ProjKIdeal.nD Cert.ProjKIdeal.τ).loc Cert.ProjKIdeal.main_v4_0)) (v1 : (c : Dev Cert.ProjKIdeal.nD) → Buf (Elt Ideal) ((c.tc : Thread Cert.ProjKIdeal.nD Cert.ProjKIdeal.τ).loc Cert.ProjKIdeal.main_v4_1)),
      θ_run (Cert.ProjKIdeal.defs (F := Ideal)) (onTc (τ := Cert.ProjKIdeal.τ) (Cert.ProjKIdeal.main (F := Ideal))) ⟨m, fun _ => 0, g⟩ (fun r => ∀ c : Dev Cert.ProjKIdeal.nD,
          r.2.mem ((c.tc : Thread Cert.ProjKIdeal.nD Cert.ProjKIdeal.τ).loc Cert.ProjKIdeal.main_v4_0) = v0 c
          ∧ r.2.mem ((c.tc : Thread Cert.ProjKIdeal.nD Cert.ProjKIdeal.τ).loc Cert.ProjKIdeal.main_v4_1) = v1 c
          ∧ r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
          ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1)
          ∧ r.2.mem ((c.tc : Thread Cert.ProjKIdeal.nD Cert.ProjKIdeal.τ).loc Cert.ProjKIdeal.main_arg2) = m ((c.tc : Thread Cert.ProjKIdeal.nD Cert.ProjKIdeal.τ).loc Cert.ProjKIdeal.main_arg2))
      ∧ θ_run (Cert.ProjKRefIdeal.defs (F := Ideal)) (onTc (τ := Cert.ProjKRefIdeal.τ) (Cert.ProjKRefIdeal.main (F := Ideal))) ⟨m', fun _ => 0, g'⟩ (fun r => ∀ c : Dev Cert.ProjKRefIdeal.nD,
          r.2.mem ((c.tc : Thread Cert.ProjKRefIdeal.nD Cert.ProjKRefIdeal.τ).loc Cert.ProjKRefIdeal.main_v18) = v0 c
          ∧ r.2.mem ((c.tc : Thread Cert.ProjKRefIdeal.nD Cert.ProjKRefIdeal.τ).loc Cert.ProjKRefIdeal.main_v19) = v1 c
          ∧ r.2.mem ((c.tc : Thread Cert.ProjKRefIdeal.nD Cert.ProjKRefIdeal.τ).loc Cert.ProjKRefIdeal.main_arg0) = m' ((c.tc : Thread Cert.ProjKRefIdeal.nD Cert.ProjKRefIdeal.τ).loc Cert.ProjKRefIdeal.main_arg0)
          ∧ r.2.mem ((c.tc : Thread Cert.ProjKRefIdeal.nD Cert.ProjKRefIdeal.τ).loc Cert.ProjKRefIdeal.main_arg1) = m' ((c.tc : Thread Cert.ProjKRefIdeal.nD Cert.ProjKRefIdeal.τ).loc Cert.ProjKRefIdeal.main_arg1)
          ∧ r.2.mem ((c.tc : Thread Cert.ProjKRefIdeal.nD Cert.ProjKRefIdeal.τ).loc Cert.ProjKRefIdeal.main_arg2) = m' ((c.tc : Thread Cert.ProjKRefIdeal.nD Cert.ProjKRefIdeal.τ).loc Cert.ProjKRefIdeal.main_arg2))

def preserves_ProjQ_ProjQIdeal : Prop :=
  True

def algebraic_ProjQIdeal_ProjQRefIdeal [hProjQIdeal : Cert.ProjQIdeal.Facts] [hProjQRefIdeal : Cert.ProjQRefIdeal.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.ProjQRefIdeal.nD Cert.ProjQRefIdeal.τ Cert.ProjQRefIdeal.sig) → Buf (Elt Ideal) ℓ) (g' : Dev Cert.ProjQRefIdeal.nD → PrngReg), Pre_ProjQIdeal m →
    (∀ c : Dev Cert.ProjQIdeal.nD,
      m' ((c.tc : Thread Cert.ProjQRefIdeal.nD Cert.ProjQRefIdeal.τ).loc Cert.ProjQRefIdeal.main_arg0) = m ((c.tc : Thread Cert.ProjQIdeal.nD Cert.ProjQIdeal.τ).loc Cert.ProjQIdeal.main_arg0)
      ∧ m' ((c.tc : Thread Cert.ProjQRefIdeal.nD Cert.ProjQRefIdeal.τ).loc Cert.ProjQRefIdeal.main_arg1) = m ((c.tc : Thread Cert.ProjQIdeal.nD Cert.ProjQIdeal.τ).loc Cert.ProjQIdeal.main_arg1)
      ∧ m' ((c.tc : Thread Cert.ProjQRefIdeal.nD Cert.ProjQRefIdeal.τ).loc Cert.ProjQRefIdeal.main_arg2) = m ((c.tc : Thread Cert.ProjQIdeal.nD Cert.ProjQIdeal.τ).loc Cert.ProjQIdeal.main_arg2)) →
    ∃ (v0 : (c : Dev Cert.ProjQIdeal.nD) → Buf (Elt Ideal) ((c.tc : Thread Cert.ProjQIdeal.nD Cert.ProjQIdeal.τ).loc Cert.ProjQIdeal.main_v4)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v4) = v0 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1)
          ∧ r.2.mem ((c.tc : Thread Cert.ProjQIdeal.nD Cert.ProjQIdeal.τ).loc Cert.ProjQIdeal.main_arg2) = m ((c.tc : Thread Cert.ProjQIdeal.nD Cert.ProjQIdeal.τ).loc Cert.ProjQIdeal.main_arg2))
      ∧ θ_run (Cert.ProjQRefIdeal.defs (F := Ideal)) (onTc (τ := Cert.ProjQRefIdeal.τ) (Cert.ProjQRefIdeal.main (F := Ideal))) ⟨m', fun _ => 0, g'⟩ (fun r => ∀ c : Dev Cert.ProjQRefIdeal.nD,
          r.2.mem ((c.tc : Thread Cert.ProjQRefIdeal.nD Cert.ProjQRefIdeal.τ).loc Cert.ProjQRefIdeal.main_v19) = v0 c
          ∧ r.2.mem ((c.tc : Thread Cert.ProjQRefIdeal.nD Cert.ProjQRefIdeal.τ).loc Cert.ProjQRefIdeal.main_arg0) = m' ((c.tc : Thread Cert.ProjQRefIdeal.nD Cert.ProjQRefIdeal.τ).loc Cert.ProjQRefIdeal.main_arg0)
          ∧ r.2.mem ((c.tc : Thread Cert.ProjQRefIdeal.nD Cert.ProjQRefIdeal.τ).loc Cert.ProjQRefIdeal.main_arg1) = m' ((c.tc : Thread Cert.ProjQRefIdeal.nD Cert.ProjQRefIdeal.τ).loc Cert.ProjQRefIdeal.main_arg1)
          ∧ r.2.mem ((c.tc : Thread Cert.ProjQRefIdeal.nD Cert.ProjQRefIdeal.τ).loc Cert.ProjQRefIdeal.main_arg2) = m' ((c.tc : Thread Cert.ProjQRefIdeal.nD Cert.ProjQRefIdeal.τ).loc Cert.ProjQRefIdeal.main_arg2))

def preserves_DsaV_DsaVIdeal : Prop :=
  True

def algebraic_DsaVIdeal_DsaVRefIdeal [hDsaVIdeal : Cert.DsaVIdeal.Facts] [hDsaVRefIdeal : Cert.DsaVRefIdeal.Facts] : Prop :=
  ∀ (m : (ℓ : Loc Cert.DsaVIdeal.nD Cert.DsaVIdeal.τ Cert.DsaVIdeal.sig) → Buf (Elt Ideal) ℓ) (g : Dev Cert.DsaVIdeal.nD → PrngReg)
    (m' : (ℓ : Loc Cert.DsaVRefIdeal.nD Cert.DsaVRefIdeal.τ Cert.DsaVRefIdeal.sig) → Buf (Elt Ideal) ℓ) (g' : Dev Cert.DsaVRefIdeal.nD → PrngReg), Pre_DsaVIdeal m →
    (∀ c : Dev Cert.DsaVIdeal.nD,
      m' ((c.tc : Thread Cert.DsaVRefIdeal.nD Cert.DsaVRefIdeal.τ).loc Cert.DsaVRefIdeal.main_arg0) = m ((c.tc : Thread Cert.DsaVIdeal.nD Cert.DsaVIdeal.τ).loc Cert.DsaVIdeal.main_arg0)
      ∧ m' ((c.tc : Thread Cert.DsaVRefIdeal.nD Cert.DsaVRefIdeal.τ).loc Cert.DsaVRefIdeal.main_arg1) = m ((c.tc : Thread Cert.DsaVIdeal.nD Cert.DsaVIdeal.τ).loc Cert.DsaVIdeal.main_arg1)) →
    ∃ (v0 : (c : Dev Cert.DsaVIdeal.nD) → Buf (Elt Ideal) ((c.tc : Thread Cert.DsaVIdeal.nD Cert.DsaVIdeal.τ).loc Cert.DsaVIdeal.main_v0_0)) (v1 : (c : Dev Cert.DsaVIdeal.nD) → Buf (Elt Ideal) ((c.tc : Thread Cert.DsaVIdeal.nD Cert.DsaVIdeal.τ).loc Cert.DsaVIdeal.main_v0_1)),
      θ_run (Cert.DsaVIdeal.defs (F := Ideal)) (onTc (τ := Cert.DsaVIdeal.τ) (Cert.DsaVIdeal.main (F := Ideal))) ⟨m, fun _ => 0, g⟩ (fun r => ∀ c : Dev Cert.DsaVIdeal.nD,
          r.2.mem ((c.tc : Thread Cert.DsaVIdeal.nD Cert.DsaVIdeal.τ).loc Cert.DsaVIdeal.main_v0_0) = v0 c
          ∧ r.2.mem ((c.tc : Thread Cert.DsaVIdeal.nD Cert.DsaVIdeal.τ).loc Cert.DsaVIdeal.main_v0_1) = v1 c
          ∧ r.2.mem ((c.tc : Thread Cert.DsaVIdeal.nD Cert.DsaVIdeal.τ).loc Cert.DsaVIdeal.main_arg0) = m ((c.tc : Thread Cert.DsaVIdeal.nD Cert.DsaVIdeal.τ).loc Cert.DsaVIdeal.main_arg0)
          ∧ r.2.mem ((c.tc : Thread Cert.DsaVIdeal.nD Cert.DsaVIdeal.τ).loc Cert.DsaVIdeal.main_arg1) = m ((c.tc : Thread Cert.DsaVIdeal.nD Cert.DsaVIdeal.τ).loc Cert.DsaVIdeal.main_arg1))
      ∧ θ_run (Cert.DsaVRefIdeal.defs (F := Ideal)) (onTc (τ := Cert.DsaVRefIdeal.τ) (Cert.DsaVRefIdeal.main (F := Ideal))) ⟨m', fun _ => 0, g'⟩ (fun r => ∀ c : Dev Cert.DsaVRefIdeal.nD,
          r.2.mem ((c.tc : Thread Cert.DsaVRefIdeal.nD Cert.DsaVRefIdeal.τ).loc Cert.DsaVRefIdeal.main_v6) = v0 c
          ∧ r.2.mem ((c.tc : Thread Cert.DsaVRefIdeal.nD Cert.DsaVRefIdeal.τ).loc Cert.DsaVRefIdeal.main_v7) = v1 c
          ∧ r.2.mem ((c.tc : Thread Cert.DsaVRefIdeal.nD Cert.DsaVRefIdeal.τ).loc Cert.DsaVRefIdeal.main_arg0) = m' ((c.tc : Thread Cert.DsaVRefIdeal.nD Cert.DsaVRefIdeal.τ).loc Cert.DsaVRefIdeal.main_arg0)
          ∧ r.2.mem ((c.tc : Thread Cert.DsaVRefIdeal.nD Cert.DsaVRefIdeal.τ).loc Cert.DsaVRefIdeal.main_arg1) = m' ((c.tc : Thread Cert.DsaVRefIdeal.nD Cert.DsaVRefIdeal.τ).loc Cert.DsaVRefIdeal.main_arg1))

def preserves_DsaK_DsaKIdeal : Prop :=
  True

def algebraic_DsaKIdeal_DsaKRefIdeal [hDsaKIdeal : Cert.DsaKIdeal.Facts] [hDsaKRefIdeal : Cert.DsaKRefIdeal.Facts] : Prop :=
  ∀ (m : (ℓ : Loc Cert.DsaKIdeal.nD Cert.DsaKIdeal.τ Cert.DsaKIdeal.sig) → Buf (Elt Ideal) ℓ) (g : Dev Cert.DsaKIdeal.nD → PrngReg)
    (m' : (ℓ : Loc Cert.DsaKRefIdeal.nD Cert.DsaKRefIdeal.τ Cert.DsaKRefIdeal.sig) → Buf (Elt Ideal) ℓ) (g' : Dev Cert.DsaKRefIdeal.nD → PrngReg), Pre_DsaKIdeal m →
    (∀ c : Dev Cert.DsaKIdeal.nD,
      m' ((c.tc : Thread Cert.DsaKRefIdeal.nD Cert.DsaKRefIdeal.τ).loc Cert.DsaKRefIdeal.main_arg0) = m ((c.tc : Thread Cert.DsaKIdeal.nD Cert.DsaKIdeal.τ).loc Cert.DsaKIdeal.main_arg0)
      ∧ m' ((c.tc : Thread Cert.DsaKRefIdeal.nD Cert.DsaKRefIdeal.τ).loc Cert.DsaKRefIdeal.main_arg1) = m ((c.tc : Thread Cert.DsaKIdeal.nD Cert.DsaKIdeal.τ).loc Cert.DsaKIdeal.main_arg1)
      ∧ m' ((c.tc : Thread Cert.DsaKRefIdeal.nD Cert.DsaKRefIdeal.τ).loc Cert.DsaKRefIdeal.main_arg2) = m ((c.tc : Thread Cert.DsaKIdeal.nD Cert.DsaKIdeal.τ).loc Cert.DsaKIdeal.main_arg2)) →
    ∃ (v0 : (c : Dev Cert.DsaKIdeal.nD) → Buf (Elt Ideal) ((c.tc : Thread Cert.DsaKIdeal.nD Cert.DsaKIdeal.τ).loc Cert.DsaKIdeal.main_v35_0)) (v1 : (c : Dev Cert.DsaKIdeal.nD) → Buf (Elt Ideal) ((c.tc : Thread Cert.DsaKIdeal.nD Cert.DsaKIdeal.τ).loc Cert.DsaKIdeal.main_v35_1)),
      θ_run (Cert.DsaKIdeal.defs (F := Ideal)) (onTc (τ := Cert.DsaKIdeal.τ) (Cert.DsaKIdeal.main (F := Ideal))) ⟨m, fun _ => 0, g⟩ (fun r => ∀ c : Dev Cert.DsaKIdeal.nD,
          r.2.mem ((c.tc : Thread Cert.DsaKIdeal.nD Cert.DsaKIdeal.τ).loc Cert.DsaKIdeal.main_v35_0) = v0 c
          ∧ r.2.mem ((c.tc : Thread Cert.DsaKIdeal.nD Cert.DsaKIdeal.τ).loc Cert.DsaKIdeal.main_v35_1) = v1 c
          ∧ r.2.mem ((c.tc : Thread Cert.DsaKIdeal.nD Cert.DsaKIdeal.τ).loc Cert.DsaKIdeal.main_arg0) = m ((c.tc : Thread Cert.DsaKIdeal.nD Cert.DsaKIdeal.τ).loc Cert.DsaKIdeal.main_arg0)
          ∧ r.2.mem ((c.tc : Thread Cert.DsaKIdeal.nD Cert.DsaKIdeal.τ).loc Cert.DsaKIdeal.main_arg1) = m ((c.tc : Thread Cert.DsaKIdeal.nD Cert.DsaKIdeal.τ).loc Cert.DsaKIdeal.main_arg1)
          ∧ r.2.mem ((c.tc : Thread Cert.DsaKIdeal.nD Cert.DsaKIdeal.τ).loc Cert.DsaKIdeal.main_arg2) = m ((c.tc : Thread Cert.DsaKIdeal.nD Cert.DsaKIdeal.τ).loc Cert.DsaKIdeal.main_arg2))
      ∧ θ_run (Cert.DsaKRefIdeal.defs (F := Ideal)) (onTc (τ := Cert.DsaKRefIdeal.τ) (Cert.DsaKRefIdeal.main (F := Ideal))) ⟨m', fun _ => 0, g'⟩ (fun r => ∀ c : Dev Cert.DsaKRefIdeal.nD,
          r.2.mem ((c.tc : Thread Cert.DsaKRefIdeal.nD Cert.DsaKRefIdeal.τ).loc Cert.DsaKRefIdeal.main_v49) = v0 c
          ∧ r.2.mem ((c.tc : Thread Cert.DsaKRefIdeal.nD Cert.DsaKRefIdeal.τ).loc Cert.DsaKRefIdeal.main_v50) = v1 c
          ∧ r.2.mem ((c.tc : Thread Cert.DsaKRefIdeal.nD Cert.DsaKRefIdeal.τ).loc Cert.DsaKRefIdeal.main_arg0) = m' ((c.tc : Thread Cert.DsaKRefIdeal.nD Cert.DsaKRefIdeal.τ).loc Cert.DsaKRefIdeal.main_arg0)
          ∧ r.2.mem ((c.tc : Thread Cert.DsaKRefIdeal.nD Cert.DsaKRefIdeal.τ).loc Cert.DsaKRefIdeal.main_arg1) = m' ((c.tc : Thread Cert.DsaKRefIdeal.nD Cert.DsaKRefIdeal.τ).loc Cert.DsaKRefIdeal.main_arg1)
          ∧ r.2.mem ((c.tc : Thread Cert.DsaKRefIdeal.nD Cert.DsaKRefIdeal.τ).loc Cert.DsaKRefIdeal.main_arg2) = m' ((c.tc : Thread Cert.DsaKRefIdeal.nD Cert.DsaKRefIdeal.τ).loc Cert.DsaKRefIdeal.main_arg2))

def preserves_DsaQ_DsaQIdeal : Prop :=
  True

def algebraic_DsaQIdeal_DsaQRefIdeal [hDsaQIdeal : Cert.DsaQIdeal.Facts] [hDsaQRefIdeal : Cert.DsaQRefIdeal.Facts] : Prop :=
  ∀ (m : (ℓ : Loc Cert.DsaQIdeal.nD Cert.DsaQIdeal.τ Cert.DsaQIdeal.sig) → Buf (Elt Ideal) ℓ) (g : Dev Cert.DsaQIdeal.nD → PrngReg)
    (m' : (ℓ : Loc Cert.DsaQRefIdeal.nD Cert.DsaQRefIdeal.τ Cert.DsaQRefIdeal.sig) → Buf (Elt Ideal) ℓ) (g' : Dev Cert.DsaQRefIdeal.nD → PrngReg), Pre_DsaQIdeal m →
    (∀ c : Dev Cert.DsaQIdeal.nD,
      m' ((c.tc : Thread Cert.DsaQRefIdeal.nD Cert.DsaQRefIdeal.τ).loc Cert.DsaQRefIdeal.main_arg0) = m ((c.tc : Thread Cert.DsaQIdeal.nD Cert.DsaQIdeal.τ).loc Cert.DsaQIdeal.main_arg0)
      ∧ m' ((c.tc : Thread Cert.DsaQRefIdeal.nD Cert.DsaQRefIdeal.τ).loc Cert.DsaQRefIdeal.main_arg1) = m ((c.tc : Thread Cert.DsaQIdeal.nD Cert.DsaQIdeal.τ).loc Cert.DsaQIdeal.main_arg1)
      ∧ m' ((c.tc : Thread Cert.DsaQRefIdeal.nD Cert.DsaQRefIdeal.τ).loc Cert.DsaQRefIdeal.main_arg2) = m ((c.tc : Thread Cert.DsaQIdeal.nD Cert.DsaQIdeal.τ).loc Cert.DsaQIdeal.main_arg2)) →
    ∃ (v0 : (c : Dev Cert.DsaQIdeal.nD) → Buf (Elt Ideal) ((c.tc : Thread Cert.DsaQIdeal.nD Cert.DsaQIdeal.τ).loc Cert.DsaQIdeal.main_v35)),
      θ_run (Cert.DsaQIdeal.defs (F := Ideal)) (onTc (τ := Cert.DsaQIdeal.τ) (Cert.DsaQIdeal.main (F := Ideal))) ⟨m, fun _ => 0, g⟩ (fun r => ∀ c : Dev Cert.DsaQIdeal.nD,
          r.2.mem ((c.tc : Thread Cert.DsaQIdeal.nD Cert.DsaQIdeal.τ).loc Cert.DsaQIdeal.main_v35) = v0 c
          ∧ r.2.mem ((c.tc : Thread Cert.DsaQIdeal.nD Cert.DsaQIdeal.τ).loc Cert.DsaQIdeal.main_arg0) = m ((c.tc : Thread Cert.DsaQIdeal.nD Cert.DsaQIdeal.τ).loc Cert.DsaQIdeal.main_arg0)
          ∧ r.2.mem ((c.tc : Thread Cert.DsaQIdeal.nD Cert.DsaQIdeal.τ).loc Cert.DsaQIdeal.main_arg1) = m ((c.tc : Thread Cert.DsaQIdeal.nD Cert.DsaQIdeal.τ).loc Cert.DsaQIdeal.main_arg1)
          ∧ r.2.mem ((c.tc : Thread Cert.DsaQIdeal.nD Cert.DsaQIdeal.τ).loc Cert.DsaQIdeal.main_arg2) = m ((c.tc : Thread Cert.DsaQIdeal.nD Cert.DsaQIdeal.τ).loc Cert.DsaQIdeal.main_arg2))
      ∧ θ_run (Cert.DsaQRefIdeal.defs (F := Ideal)) (onTc (τ := Cert.DsaQRefIdeal.τ) (Cert.DsaQRefIdeal.main (F := Ideal))) ⟨m', fun _ => 0, g'⟩ (fun r => ∀ c : Dev Cert.DsaQRefIdeal.nD,
          r.2.mem ((c.tc : Thread Cert.DsaQRefIdeal.nD Cert.DsaQRefIdeal.τ).loc Cert.DsaQRefIdeal.main_v50) = v0 c
          ∧ r.2.mem ((c.tc : Thread Cert.DsaQRefIdeal.nD Cert.DsaQRefIdeal.τ).loc Cert.DsaQRefIdeal.main_arg0) = m' ((c.tc : Thread Cert.DsaQRefIdeal.nD Cert.DsaQRefIdeal.τ).loc Cert.DsaQRefIdeal.main_arg0)
          ∧ r.2.mem ((c.tc : Thread Cert.DsaQRefIdeal.nD Cert.DsaQRefIdeal.τ).loc Cert.DsaQRefIdeal.main_arg1) = m' ((c.tc : Thread Cert.DsaQRefIdeal.nD Cert.DsaQRefIdeal.τ).loc Cert.DsaQRefIdeal.main_arg1)
          ∧ r.2.mem ((c.tc : Thread Cert.DsaQRefIdeal.nD Cert.DsaQRefIdeal.τ).loc Cert.DsaQRefIdeal.main_arg2) = m' ((c.tc : Thread Cert.DsaQRefIdeal.nD Cert.DsaQRefIdeal.τ).loc Cert.DsaQRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_DownS_DownSIdeal : Prop :=
  True

def algebraic_DownSIdeal_DownSRefIdeal [hDownSIdeal : Cert.DownSIdeal.Facts] [hDownSRefIdeal : Cert.DownSRefIdeal.Facts] : Prop :=
  ∀ (m : (ℓ : Loc Cert.DownSIdeal.nD Cert.DownSIdeal.τ Cert.DownSIdeal.sig) → Buf (Elt Ideal) ℓ) (g : Dev Cert.DownSIdeal.nD → PrngReg)
    (m' : (ℓ : Loc Cert.DownSRefIdeal.nD Cert.DownSRefIdeal.τ Cert.DownSRefIdeal.sig) → Buf (Elt Ideal) ℓ) (g' : Dev Cert.DownSRefIdeal.nD → PrngReg), Pre_DownSIdeal m →
    (∀ c : Dev Cert.DownSIdeal.nD,
      m' ((c.tc : Thread Cert.DownSRefIdeal.nD Cert.DownSRefIdeal.τ).loc Cert.DownSRefIdeal.main_arg0) = m ((c.tc : Thread Cert.DownSIdeal.nD Cert.DownSIdeal.τ).loc Cert.DownSIdeal.main_arg0)
      ∧ m' ((c.tc : Thread Cert.DownSRefIdeal.nD Cert.DownSRefIdeal.τ).loc Cert.DownSRefIdeal.main_arg1) = m ((c.tc : Thread Cert.DownSIdeal.nD Cert.DownSIdeal.τ).loc Cert.DownSIdeal.main_arg1)
      ∧ m' ((c.tc : Thread Cert.DownSRefIdeal.nD Cert.DownSRefIdeal.τ).loc Cert.DownSRefIdeal.main_arg2) = m ((c.tc : Thread Cert.DownSIdeal.nD Cert.DownSIdeal.τ).loc Cert.DownSIdeal.main_arg2)) →
    ∃ (v0 : (c : Dev Cert.DownSIdeal.nD) → Buf (Elt Ideal) ((c.tc : Thread Cert.DownSIdeal.nD Cert.DownSIdeal.τ).loc Cert.DownSIdeal.main_v0)),
      θ_run (Cert.DownSIdeal.defs (F := Ideal)) (onTc (τ := Cert.DownSIdeal.τ) (Cert.DownSIdeal.main (F := Ideal))) ⟨m, fun _ => 0, g⟩ (fun r => ∀ c : Dev Cert.DownSIdeal.nD,
          r.2.mem ((c.tc : Thread Cert.DownSIdeal.nD Cert.DownSIdeal.τ).loc Cert.DownSIdeal.main_v0) = v0 c
          ∧ r.2.mem ((c.tc : Thread Cert.DownSIdeal.nD Cert.DownSIdeal.τ).loc Cert.DownSIdeal.main_arg0) = m ((c.tc : Thread Cert.DownSIdeal.nD Cert.DownSIdeal.τ).loc Cert.DownSIdeal.main_arg0)
          ∧ r.2.mem ((c.tc : Thread Cert.DownSIdeal.nD Cert.DownSIdeal.τ).loc Cert.DownSIdeal.main_arg1) = m ((c.tc : Thread Cert.DownSIdeal.nD Cert.DownSIdeal.τ).loc Cert.DownSIdeal.main_arg1)
          ∧ r.2.mem ((c.tc : Thread Cert.DownSIdeal.nD Cert.DownSIdeal.τ).loc Cert.DownSIdeal.main_arg2) = m ((c.tc : Thread Cert.DownSIdeal.nD Cert.DownSIdeal.τ).loc Cert.DownSIdeal.main_arg2))
      ∧ θ_run (Cert.DownSRefIdeal.defs (F := Ideal)) (onTc (τ := Cert.DownSRefIdeal.τ) (Cert.DownSRefIdeal.main (F := Ideal))) ⟨m', fun _ => 0, g'⟩ (fun r => ∀ c : Dev Cert.DownSRefIdeal.nD,
          r.2.mem ((c.tc : Thread Cert.DownSRefIdeal.nD Cert.DownSRefIdeal.τ).loc Cert.DownSRefIdeal.main_v2) = v0 c
          ∧ r.2.mem ((c.tc : Thread Cert.DownSRefIdeal.nD Cert.DownSRefIdeal.τ).loc Cert.DownSRefIdeal.main_arg0) = m' ((c.tc : Thread Cert.DownSRefIdeal.nD Cert.DownSRefIdeal.τ).loc Cert.DownSRefIdeal.main_arg0)
          ∧ r.2.mem ((c.tc : Thread Cert.DownSRefIdeal.nD Cert.DownSRefIdeal.τ).loc Cert.DownSRefIdeal.main_arg1) = m' ((c.tc : Thread Cert.DownSRefIdeal.nD Cert.DownSRefIdeal.τ).loc Cert.DownSRefIdeal.main_arg1)
          ∧ r.2.mem ((c.tc : Thread Cert.DownSRefIdeal.nD Cert.DownSRefIdeal.τ).loc Cert.DownSRefIdeal.main_arg2) = m' ((c.tc : Thread Cert.DownSRefIdeal.nD Cert.DownSRefIdeal.τ).loc Cert.DownSRefIdeal.main_arg2))

def preserves_ProjVS_ProjVSIdeal : Prop :=
  True

def algebraic_ProjVSIdeal_ProjVSRefIdeal [hProjVSIdeal : Cert.ProjVSIdeal.Facts] [hProjVSRefIdeal : Cert.ProjVSRefIdeal.Facts] : Prop :=
  ∀ (m : (ℓ : Loc Cert.ProjVSIdeal.nD Cert.ProjVSIdeal.τ Cert.ProjVSIdeal.sig) → Buf (Elt Ideal) ℓ) (g : Dev Cert.ProjVSIdeal.nD → PrngReg)
    (m' : (ℓ : Loc Cert.ProjVSRefIdeal.nD Cert.ProjVSRefIdeal.τ Cert.ProjVSRefIdeal.sig) → Buf (Elt Ideal) ℓ) (g' : Dev Cert.ProjVSRefIdeal.nD → PrngReg), Pre_ProjVSIdeal m →
    (∀ c : Dev Cert.ProjVSIdeal.nD,
      m' ((c.tc : Thread Cert.ProjVSRefIdeal.nD Cert.ProjVSRefIdeal.τ).loc Cert.ProjVSRefIdeal.main_arg0) = m ((c.tc : Thread Cert.ProjVSIdeal.nD Cert.ProjVSIdeal.τ).loc Cert.ProjVSIdeal.main_arg0)
      ∧ m' ((c.tc : Thread Cert.ProjVSRefIdeal.nD Cert.ProjVSRefIdeal.τ).loc Cert.ProjVSRefIdeal.main_arg1) = m ((c.tc : Thread Cert.ProjVSIdeal.nD Cert.ProjVSIdeal.τ).loc Cert.ProjVSIdeal.main_arg1)) →
    ∃ (v0 : (c : Dev Cert.ProjVSIdeal.nD) → Buf (Elt Ideal) ((c.tc : Thread Cert.ProjVSIdeal.nD Cert.ProjVSIdeal.τ).loc Cert.ProjVSIdeal.main_v0_0)) (v1 : (c : Dev Cert.ProjVSIdeal.nD) → Buf (Elt Ideal) ((c.tc : Thread Cert.ProjVSIdeal.nD Cert.ProjVSIdeal.τ).loc Cert.ProjVSIdeal.main_v0_1)),
      θ_run (Cert.ProjVSIdeal.defs (F := Ideal)) (onTc (τ := Cert.ProjVSIdeal.τ) (Cert.ProjVSIdeal.main (F := Ideal))) ⟨m, fun _ => 0, g⟩ (fun r => ∀ c : Dev Cert.ProjVSIdeal.nD,
          r.2.mem ((c.tc : Thread Cert.ProjVSIdeal.nD Cert.ProjVSIdeal.τ).loc Cert.ProjVSIdeal.main_v0_0) = v0 c
          ∧ r.2.mem ((c.tc : Thread Cert.ProjVSIdeal.nD Cert.ProjVSIdeal.τ).loc Cert.ProjVSIdeal.main_v0_1) = v1 c
          ∧ r.2.mem ((c.tc : Thread Cert.ProjVSIdeal.nD Cert.ProjVSIdeal.τ).loc Cert.ProjVSIdeal.main_arg0) = m ((c.tc : Thread Cert.ProjVSIdeal.nD Cert.ProjVSIdeal.τ).loc Cert.ProjVSIdeal.main_arg0)
          ∧ r.2.mem ((c.tc : Thread Cert.ProjVSIdeal.nD Cert.ProjVSIdeal.τ).loc Cert.ProjVSIdeal.main_arg1) = m ((c.tc : Thread Cert.ProjVSIdeal.nD Cert.ProjVSIdeal.τ).loc Cert.ProjVSIdeal.main_arg1))
      ∧ θ_run (Cert.ProjVSRefIdeal.defs (F := Ideal)) (onTc (τ := Cert.ProjVSRefIdeal.τ) (Cert.ProjVSRefIdeal.main (F := Ideal))) ⟨m', fun _ => 0, g'⟩ (fun r => ∀ c : Dev Cert.ProjVSRefIdeal.nD,
          r.2.mem ((c.tc : Thread Cert.ProjVSRefIdeal.nD Cert.ProjVSRefIdeal.τ).loc Cert.ProjVSRefIdeal.main_v5) = v0 c
          ∧ r.2.mem ((c.tc : Thread Cert.ProjVSRefIdeal.nD Cert.ProjVSRefIdeal.τ).loc Cert.ProjVSRefIdeal.main_v6) = v1 c
          ∧ r.2.mem ((c.tc : Thread Cert.ProjVSRefIdeal.nD Cert.ProjVSRefIdeal.τ).loc Cert.ProjVSRefIdeal.main_arg0) = m' ((c.tc : Thread Cert.ProjVSRefIdeal.nD Cert.ProjVSRefIdeal.τ).loc Cert.ProjVSRefIdeal.main_arg0)
          ∧ r.2.mem ((c.tc : Thread Cert.ProjVSRefIdeal.nD Cert.ProjVSRefIdeal.τ).loc Cert.ProjVSRefIdeal.main_arg1) = m' ((c.tc : Thread Cert.ProjVSRefIdeal.nD Cert.ProjVSRefIdeal.τ).loc Cert.ProjVSRefIdeal.main_arg1))

def preserves_ProjKS_ProjKSIdeal : Prop :=
  True

def algebraic_ProjKSIdeal_ProjKSRefIdeal [hProjKSIdeal : Cert.ProjKSIdeal.Facts] [hProjKSRefIdeal : Cert.ProjKSRefIdeal.Facts] : Prop :=
  ∀ (m : (ℓ : Loc Cert.ProjKSIdeal.nD Cert.ProjKSIdeal.τ Cert.ProjKSIdeal.sig) → Buf (Elt Ideal) ℓ) (g : Dev Cert.ProjKSIdeal.nD → PrngReg)
    (m' : (ℓ : Loc Cert.ProjKSRefIdeal.nD Cert.ProjKSRefIdeal.τ Cert.ProjKSRefIdeal.sig) → Buf (Elt Ideal) ℓ) (g' : Dev Cert.ProjKSRefIdeal.nD → PrngReg), Pre_ProjKSIdeal m →
    (∀ c : Dev Cert.ProjKSIdeal.nD,
      m' ((c.tc : Thread Cert.ProjKSRefIdeal.nD Cert.ProjKSRefIdeal.τ).loc Cert.ProjKSRefIdeal.main_arg0) = m ((c.tc : Thread Cert.ProjKSIdeal.nD Cert.ProjKSIdeal.τ).loc Cert.ProjKSIdeal.main_arg0)
      ∧ m' ((c.tc : Thread Cert.ProjKSRefIdeal.nD Cert.ProjKSRefIdeal.τ).loc Cert.ProjKSRefIdeal.main_arg1) = m ((c.tc : Thread Cert.ProjKSIdeal.nD Cert.ProjKSIdeal.τ).loc Cert.ProjKSIdeal.main_arg1)
      ∧ m' ((c.tc : Thread Cert.ProjKSRefIdeal.nD Cert.ProjKSRefIdeal.τ).loc Cert.ProjKSRefIdeal.main_arg2) = m ((c.tc : Thread Cert.ProjKSIdeal.nD Cert.ProjKSIdeal.τ).loc Cert.ProjKSIdeal.main_arg2)) →
    ∃ (v0 : (c : Dev Cert.ProjKSIdeal.nD) → Buf (Elt Ideal) ((c.tc : Thread Cert.ProjKSIdeal.nD Cert.ProjKSIdeal.τ).loc Cert.ProjKSIdeal.main_v4_0)) (v1 : (c : Dev Cert.ProjKSIdeal.nD) → Buf (Elt Ideal) ((c.tc : Thread Cert.ProjKSIdeal.nD Cert.ProjKSIdeal.τ).loc Cert.ProjKSIdeal.main_v4_1)),
      θ_run (Cert.ProjKSIdeal.defs (F := Ideal)) (onTc (τ := Cert.ProjKSIdeal.τ) (Cert.ProjKSIdeal.main (F := Ideal))) ⟨m, fun _ => 0, g⟩ (fun r => ∀ c : Dev Cert.ProjKSIdeal.nD,
          r.2.mem ((c.tc : Thread Cert.ProjKSIdeal.nD Cert.ProjKSIdeal.τ).loc Cert.ProjKSIdeal.main_v4_0) = v0 c
          ∧ r.2.mem ((c.tc : Thread Cert.ProjKSIdeal.nD Cert.ProjKSIdeal.τ).loc Cert.ProjKSIdeal.main_v4_1) = v1 c
          ∧ r.2.mem ((c.tc : Thread Cert.ProjKSIdeal.nD Cert.ProjKSIdeal.τ).loc Cert.ProjKSIdeal.main_arg0) = m ((c.tc : Thread Cert.ProjKSIdeal.nD Cert.ProjKSIdeal.τ).loc Cert.ProjKSIdeal.main_arg0)
          ∧ r.2.mem ((c.tc : Thread Cert.ProjKSIdeal.nD Cert.ProjKSIdeal.τ).loc Cert.ProjKSIdeal.main_arg1) = m ((c.tc : Thread Cert.ProjKSIdeal.nD Cert.ProjKSIdeal.τ).loc Cert.ProjKSIdeal.main_arg1)
          ∧ r.2.mem ((c.tc : Thread Cert.ProjKSIdeal.nD Cert.ProjKSIdeal.τ).loc Cert.ProjKSIdeal.main_arg2) = m ((c.tc : Thread Cert.ProjKSIdeal.nD Cert.ProjKSIdeal.τ).loc Cert.ProjKSIdeal.main_arg2))
      ∧ θ_run (Cert.ProjKSRefIdeal.defs (F := Ideal)) (onTc (τ := Cert.ProjKSRefIdeal.τ) (Cert.ProjKSRefIdeal.main (F := Ideal))) ⟨m', fun _ => 0, g'⟩ (fun r => ∀ c : Dev Cert.ProjKSRefIdeal.nD,
          r.2.mem ((c.tc : Thread Cert.ProjKSRefIdeal.nD Cert.ProjKSRefIdeal.τ).loc Cert.ProjKSRefIdeal.main_v18) = v0 c
          ∧ r.2.mem ((c.tc : Thread Cert.ProjKSRefIdeal.nD Cert.ProjKSRefIdeal.τ).loc Cert.ProjKSRefIdeal.main_v19) = v1 c
          ∧ r.2.mem ((c.tc : Thread Cert.ProjKSRefIdeal.nD Cert.ProjKSRefIdeal.τ).loc Cert.ProjKSRefIdeal.main_arg0) = m' ((c.tc : Thread Cert.ProjKSRefIdeal.nD Cert.ProjKSRefIdeal.τ).loc Cert.ProjKSRefIdeal.main_arg0)
          ∧ r.2.mem ((c.tc : Thread Cert.ProjKSRefIdeal.nD Cert.ProjKSRefIdeal.τ).loc Cert.ProjKSRefIdeal.main_arg1) = m' ((c.tc : Thread Cert.ProjKSRefIdeal.nD Cert.ProjKSRefIdeal.τ).loc Cert.ProjKSRefIdeal.main_arg1)
          ∧ r.2.mem ((c.tc : Thread Cert.ProjKSRefIdeal.nD Cert.ProjKSRefIdeal.τ).loc Cert.ProjKSRefIdeal.main_arg2) = m' ((c.tc : Thread Cert.ProjKSRefIdeal.nD Cert.ProjKSRefIdeal.τ).loc Cert.ProjKSRefIdeal.main_arg2))

def preserves_DsaVS_DsaVSIdeal : Prop :=
  True

def algebraic_DsaVSIdeal_DsaVSRefIdeal [hDsaVSIdeal : Cert.DsaVSIdeal.Facts] [hDsaVSRefIdeal : Cert.DsaVSRefIdeal.Facts] : Prop :=
  ∀ (m : (ℓ : Loc Cert.DsaVSIdeal.nD Cert.DsaVSIdeal.τ Cert.DsaVSIdeal.sig) → Buf (Elt Ideal) ℓ) (g : Dev Cert.DsaVSIdeal.nD → PrngReg)
    (m' : (ℓ : Loc Cert.DsaVSRefIdeal.nD Cert.DsaVSRefIdeal.τ Cert.DsaVSRefIdeal.sig) → Buf (Elt Ideal) ℓ) (g' : Dev Cert.DsaVSRefIdeal.nD → PrngReg), Pre_DsaVSIdeal m →
    (∀ c : Dev Cert.DsaVSIdeal.nD,
      m' ((c.tc : Thread Cert.DsaVSRefIdeal.nD Cert.DsaVSRefIdeal.τ).loc Cert.DsaVSRefIdeal.main_arg0) = m ((c.tc : Thread Cert.DsaVSIdeal.nD Cert.DsaVSIdeal.τ).loc Cert.DsaVSIdeal.main_arg0)
      ∧ m' ((c.tc : Thread Cert.DsaVSRefIdeal.nD Cert.DsaVSRefIdeal.τ).loc Cert.DsaVSRefIdeal.main_arg1) = m ((c.tc : Thread Cert.DsaVSIdeal.nD Cert.DsaVSIdeal.τ).loc Cert.DsaVSIdeal.main_arg1)) →
    ∃ (v0 : (c : Dev Cert.DsaVSIdeal.nD) → Buf (Elt Ideal) ((c.tc : Thread Cert.DsaVSIdeal.nD Cert.DsaVSIdeal.τ).loc Cert.DsaVSIdeal.main_v0_0)) (v1 : (c : Dev Cert.DsaVSIdeal.nD) → Buf (Elt Ideal) ((c.tc : Thread Cert.DsaVSIdeal.nD Cert.DsaVSIdeal.τ).loc Cert.DsaVSIdeal.main_v0_1)),
      θ_run (Cert.DsaVSIdeal.defs (F := Ideal)) (onTc (τ := Cert.DsaVSIdeal.τ) (Cert.DsaVSIdeal.main (F := Ideal))) ⟨m, fun _ => 0, g⟩ (fun r => ∀ c : Dev Cert.DsaVSIdeal.nD,
          r.2.mem ((c.tc : Thread Cert.DsaVSIdeal.nD Cert.DsaVSIdeal.τ).loc Cert.DsaVSIdeal.main_v0_0) = v0 c
          ∧ r.2.mem ((c.tc : Thread Cert.DsaVSIdeal.nD Cert.DsaVSIdeal.τ).loc Cert.DsaVSIdeal.main_v0_1) = v1 c
          ∧ r.2.mem ((c.tc : Thread Cert.DsaVSIdeal.nD Cert.DsaVSIdeal.τ).loc Cert.DsaVSIdeal.main_arg0) = m ((c.tc : Thread Cert.DsaVSIdeal.nD Cert.DsaVSIdeal.τ).loc Cert.DsaVSIdeal.main_arg0)
          ∧ r.2.mem ((c.tc : Thread Cert.DsaVSIdeal.nD Cert.DsaVSIdeal.τ).loc Cert.DsaVSIdeal.main_arg1) = m ((c.tc : Thread Cert.DsaVSIdeal.nD Cert.DsaVSIdeal.τ).loc Cert.DsaVSIdeal.main_arg1))
      ∧ θ_run (Cert.DsaVSRefIdeal.defs (F := Ideal)) (onTc (τ := Cert.DsaVSRefIdeal.τ) (Cert.DsaVSRefIdeal.main (F := Ideal))) ⟨m', fun _ => 0, g'⟩ (fun r => ∀ c : Dev Cert.DsaVSRefIdeal.nD,
          r.2.mem ((c.tc : Thread Cert.DsaVSRefIdeal.nD Cert.DsaVSRefIdeal.τ).loc Cert.DsaVSRefIdeal.main_v6) = v0 c
          ∧ r.2.mem ((c.tc : Thread Cert.DsaVSRefIdeal.nD Cert.DsaVSRefIdeal.τ).loc Cert.DsaVSRefIdeal.main_v7) = v1 c
          ∧ r.2.mem ((c.tc : Thread Cert.DsaVSRefIdeal.nD Cert.DsaVSRefIdeal.τ).loc Cert.DsaVSRefIdeal.main_arg0) = m' ((c.tc : Thread Cert.DsaVSRefIdeal.nD Cert.DsaVSRefIdeal.τ).loc Cert.DsaVSRefIdeal.main_arg0)
          ∧ r.2.mem ((c.tc : Thread Cert.DsaVSRefIdeal.nD Cert.DsaVSRefIdeal.τ).loc Cert.DsaVSRefIdeal.main_arg1) = m' ((c.tc : Thread Cert.DsaVSRefIdeal.nD Cert.DsaVSRefIdeal.τ).loc Cert.DsaVSRefIdeal.main_arg1))

def preserves_DsaKS_DsaKSIdeal : Prop :=
  True

def algebraic_DsaKSIdeal_DsaKSRefIdeal [hDsaKSIdeal : Cert.DsaKSIdeal.Facts] [hDsaKSRefIdeal : Cert.DsaKSRefIdeal.Facts] : Prop :=
  ∀ (m : (ℓ : Loc Cert.DsaKSIdeal.nD Cert.DsaKSIdeal.τ Cert.DsaKSIdeal.sig) → Buf (Elt Ideal) ℓ) (g : Dev Cert.DsaKSIdeal.nD → PrngReg)
    (m' : (ℓ : Loc Cert.DsaKSRefIdeal.nD Cert.DsaKSRefIdeal.τ Cert.DsaKSRefIdeal.sig) → Buf (Elt Ideal) ℓ) (g' : Dev Cert.DsaKSRefIdeal.nD → PrngReg), Pre_DsaKSIdeal m →
    (∀ c : Dev Cert.DsaKSIdeal.nD,
      m' ((c.tc : Thread Cert.DsaKSRefIdeal.nD Cert.DsaKSRefIdeal.τ).loc Cert.DsaKSRefIdeal.main_arg0) = m ((c.tc : Thread Cert.DsaKSIdeal.nD Cert.DsaKSIdeal.τ).loc Cert.DsaKSIdeal.main_arg0)
      ∧ m' ((c.tc : Thread Cert.DsaKSRefIdeal.nD Cert.DsaKSRefIdeal.τ).loc Cert.DsaKSRefIdeal.main_arg1) = m ((c.tc : Thread Cert.DsaKSIdeal.nD Cert.DsaKSIdeal.τ).loc Cert.DsaKSIdeal.main_arg1)
      ∧ m' ((c.tc : Thread Cert.DsaKSRefIdeal.nD Cert.DsaKSRefIdeal.τ).loc Cert.DsaKSRefIdeal.main_arg2) = m ((c.tc : Thread Cert.DsaKSIdeal.nD Cert.DsaKSIdeal.τ).loc Cert.DsaKSIdeal.main_arg2)) →
    ∃ (v0 : (c : Dev Cert.DsaKSIdeal.nD) → Buf (Elt Ideal) ((c.tc : Thread Cert.DsaKSIdeal.nD Cert.DsaKSIdeal.τ).loc Cert.DsaKSIdeal.main_v40_0)) (v1 : (c : Dev Cert.DsaKSIdeal.nD) → Buf (Elt Ideal) ((c.tc : Thread Cert.DsaKSIdeal.nD Cert.DsaKSIdeal.τ).loc Cert.DsaKSIdeal.main_v40_1)),
      θ_run (Cert.DsaKSIdeal.defs (F := Ideal)) (onTc (τ := Cert.DsaKSIdeal.τ) (Cert.DsaKSIdeal.main (F := Ideal))) ⟨m, fun _ => 0, g⟩ (fun r => ∀ c : Dev Cert.DsaKSIdeal.nD,
          r.2.mem ((c.tc : Thread Cert.DsaKSIdeal.nD Cert.DsaKSIdeal.τ).loc Cert.DsaKSIdeal.main_v40_0) = v0 c
          ∧ r.2.mem ((c.tc : Thread Cert.DsaKSIdeal.nD Cert.DsaKSIdeal.τ).loc Cert.DsaKSIdeal.main_v40_1) = v1 c
          ∧ r.2.mem ((c.tc : Thread Cert.DsaKSIdeal.nD Cert.DsaKSIdeal.τ).loc Cert.DsaKSIdeal.main_arg0) = m ((c.tc : Thread Cert.DsaKSIdeal.nD Cert.DsaKSIdeal.τ).loc Cert.DsaKSIdeal.main_arg0)
          ∧ r.2.mem ((c.tc : Thread Cert.DsaKSIdeal.nD Cert.DsaKSIdeal.τ).loc Cert.DsaKSIdeal.main_arg1) = m ((c.tc : Thread Cert.DsaKSIdeal.nD Cert.DsaKSIdeal.τ).loc Cert.DsaKSIdeal.main_arg1)
          ∧ r.2.mem ((c.tc : Thread Cert.DsaKSIdeal.nD Cert.DsaKSIdeal.τ).loc Cert.DsaKSIdeal.main_arg2) = m ((c.tc : Thread Cert.DsaKSIdeal.nD Cert.DsaKSIdeal.τ).loc Cert.DsaKSIdeal.main_arg2))
      ∧ θ_run (Cert.DsaKSRefIdeal.defs (F := Ideal)) (onTc (τ := Cert.DsaKSRefIdeal.τ) (Cert.DsaKSRefIdeal.main (F := Ideal))) ⟨m', fun _ => 0, g'⟩ (fun r => ∀ c : Dev Cert.DsaKSRefIdeal.nD,
          r.2.mem ((c.tc : Thread Cert.DsaKSRefIdeal.nD Cert.DsaKSRefIdeal.τ).loc Cert.DsaKSRefIdeal.main_v52) = v0 c
          ∧ r.2.mem ((c.tc : Thread Cert.DsaKSRefIdeal.nD Cert.DsaKSRefIdeal.τ).loc Cert.DsaKSRefIdeal.main_v53) = v1 c
          ∧ r.2.mem ((c.tc : Thread Cert.DsaKSRefIdeal.nD Cert.DsaKSRefIdeal.τ).loc Cert.DsaKSRefIdeal.main_arg0) = m' ((c.tc : Thread Cert.DsaKSRefIdeal.nD Cert.DsaKSRefIdeal.τ).loc Cert.DsaKSRefIdeal.main_arg0)
          ∧ r.2.mem ((c.tc : Thread Cert.DsaKSRefIdeal.nD Cert.DsaKSRefIdeal.τ).loc Cert.DsaKSRefIdeal.main_arg1) = m' ((c.tc : Thread Cert.DsaKSRefIdeal.nD Cert.DsaKSRefIdeal.τ).loc Cert.DsaKSRefIdeal.main_arg1)
          ∧ r.2.mem ((c.tc : Thread Cert.DsaKSRefIdeal.nD Cert.DsaKSRefIdeal.τ).loc Cert.DsaKSRefIdeal.main_arg2) = m' ((c.tc : Thread Cert.DsaKSRefIdeal.nD Cert.DsaKSRefIdeal.τ).loc Cert.DsaKSRefIdeal.main_arg2))

def preserves_IdxK_IdxKIdeal : Prop :=
  True

def algebraic_IdxKIdeal_IdxKRefIdeal [hIdxKIdeal : Cert.IdxKIdeal.Facts] [hIdxKRefIdeal : Cert.IdxKRefIdeal.Facts] : Prop :=
  ∀ (m : (ℓ : Loc Cert.IdxKIdeal.nD Cert.IdxKIdeal.τ Cert.IdxKIdeal.sig) → Buf (Elt Ideal) ℓ) (g : Dev Cert.IdxKIdeal.nD → PrngReg)
    (m' : (ℓ : Loc Cert.IdxKRefIdeal.nD Cert.IdxKRefIdeal.τ Cert.IdxKRefIdeal.sig) → Buf (Elt Ideal) ℓ) (g' : Dev Cert.IdxKRefIdeal.nD → PrngReg), Pre_IdxKIdeal m →
    (∀ c : Dev Cert.IdxKIdeal.nD,
      m' ((c.tc : Thread Cert.IdxKRefIdeal.nD Cert.IdxKRefIdeal.τ).loc Cert.IdxKRefIdeal.main_arg0) = m ((c.tc : Thread Cert.IdxKIdeal.nD Cert.IdxKIdeal.τ).loc Cert.IdxKIdeal.main_arg0)
      ∧ m' ((c.tc : Thread Cert.IdxKRefIdeal.nD Cert.IdxKRefIdeal.τ).loc Cert.IdxKRefIdeal.main_arg1) = m ((c.tc : Thread Cert.IdxKIdeal.nD Cert.IdxKIdeal.τ).loc Cert.IdxKIdeal.main_arg1)) →
    ∃ (v0 : (c : Dev Cert.IdxKIdeal.nD) → Buf (Elt Ideal) ((c.tc : Thread Cert.IdxKIdeal.nD Cert.IdxKIdeal.τ).loc Cert.IdxKIdeal.main_v34)),
      θ_run (Cert.IdxKIdeal.defs (F := Ideal)) (onTc (τ := Cert.IdxKIdeal.τ) (Cert.IdxKIdeal.main (F := Ideal))) ⟨m, fun _ => 0, g⟩ (fun r => ∀ c : Dev Cert.IdxKIdeal.nD,
          r.2.mem ((c.tc : Thread Cert.IdxKIdeal.nD Cert.IdxKIdeal.τ).loc Cert.IdxKIdeal.main_v34) = v0 c
          ∧ r.2.mem ((c.tc : Thread Cert.IdxKIdeal.nD Cert.IdxKIdeal.τ).loc Cert.IdxKIdeal.main_arg0) = m ((c.tc : Thread Cert.IdxKIdeal.nD Cert.IdxKIdeal.τ).loc Cert.IdxKIdeal.main_arg0)
          ∧ r.2.mem ((c.tc : Thread Cert.IdxKIdeal.nD Cert.IdxKIdeal.τ).loc Cert.IdxKIdeal.main_arg1) = m ((c.tc : Thread Cert.IdxKIdeal.nD Cert.IdxKIdeal.τ).loc Cert.IdxKIdeal.main_arg1))
      ∧ θ_run (Cert.IdxKRefIdeal.defs (F := Ideal)) (onTc (τ := Cert.IdxKRefIdeal.τ) (Cert.IdxKRefIdeal.main (F := Ideal))) ⟨m', fun _ => 0, g'⟩ (fun r => ∀ c : Dev Cert.IdxKRefIdeal.nD,
          r.2.mem ((c.tc : Thread Cert.IdxKRefIdeal.nD Cert.IdxKRefIdeal.τ).loc Cert.IdxKRefIdeal.main_v34) = v0 c
          ∧ r.2.mem ((c.tc : Thread Cert.IdxKRefIdeal.nD Cert.IdxKRefIdeal.τ).loc Cert.IdxKRefIdeal.main_arg0) = m' ((c.tc : Thread Cert.IdxKRefIdeal.nD Cert.IdxKRefIdeal.τ).loc Cert.IdxKRefIdeal.main_arg0)
          ∧ r.2.mem ((c.tc : Thread Cert.IdxKRefIdeal.nD Cert.IdxKRefIdeal.τ).loc Cert.IdxKRefIdeal.main_arg1) = m' ((c.tc : Thread Cert.IdxKRefIdeal.nD Cert.IdxKRefIdeal.τ).loc Cert.IdxKRefIdeal.main_arg1))

def preserves_IdxKS_IdxKSIdeal : Prop :=
  True

def algebraic_IdxKSIdeal_IdxKSRefIdeal [hIdxKSIdeal : Cert.IdxKSIdeal.Facts] [hIdxKSRefIdeal : Cert.IdxKSRefIdeal.Facts] : Prop :=
  ∀ (m : (ℓ : Loc Cert.IdxKSIdeal.nD Cert.IdxKSIdeal.τ Cert.IdxKSIdeal.sig) → Buf (Elt Ideal) ℓ) (g : Dev Cert.IdxKSIdeal.nD → PrngReg)
    (m' : (ℓ : Loc Cert.IdxKSRefIdeal.nD Cert.IdxKSRefIdeal.τ Cert.IdxKSRefIdeal.sig) → Buf (Elt Ideal) ℓ) (g' : Dev Cert.IdxKSRefIdeal.nD → PrngReg), Pre_IdxKSIdeal m →
    (∀ c : Dev Cert.IdxKSIdeal.nD,
      m' ((c.tc : Thread Cert.IdxKSRefIdeal.nD Cert.IdxKSRefIdeal.τ).loc Cert.IdxKSRefIdeal.main_arg0) = m ((c.tc : Thread Cert.IdxKSIdeal.nD Cert.IdxKSIdeal.τ).loc Cert.IdxKSIdeal.main_arg0)
      ∧ m' ((c.tc : Thread Cert.IdxKSRefIdeal.nD Cert.IdxKSRefIdeal.τ).loc Cert.IdxKSRefIdeal.main_arg1) = m ((c.tc : Thread Cert.IdxKSIdeal.nD Cert.IdxKSIdeal.τ).loc Cert.IdxKSIdeal.main_arg1)) →
    ∃ (v0 : (c : Dev Cert.IdxKSIdeal.nD) → Buf (Elt Ideal) ((c.tc : Thread Cert.IdxKSIdeal.nD Cert.IdxKSIdeal.τ).loc Cert.IdxKSIdeal.main_v39)),
      θ_run (Cert.IdxKSIdeal.defs (F := Ideal)) (onTc (τ := Cert.IdxKSIdeal.τ) (Cert.IdxKSIdeal.main (F := Ideal))) ⟨m, fun _ => 0, g⟩ (fun r => ∀ c : Dev Cert.IdxKSIdeal.nD,
          r.2.mem ((c.tc : Thread Cert.IdxKSIdeal.nD Cert.IdxKSIdeal.τ).loc Cert.IdxKSIdeal.main_v39) = v0 c
          ∧ r.2.mem ((c.tc : Thread Cert.IdxKSIdeal.nD Cert.IdxKSIdeal.τ).loc Cert.IdxKSIdeal.main_arg0) = m ((c.tc : Thread Cert.IdxKSIdeal.nD Cert.IdxKSIdeal.τ).loc Cert.IdxKSIdeal.main_arg0)
          ∧ r.2.mem ((c.tc : Thread Cert.IdxKSIdeal.nD Cert.IdxKSIdeal.τ).loc Cert.IdxKSIdeal.main_arg1) = m ((c.tc : Thread Cert.IdxKSIdeal.nD Cert.IdxKSIdeal.τ).loc Cert.IdxKSIdeal.main_arg1))
      ∧ θ_run (Cert.IdxKSRefIdeal.defs (F := Ideal)) (onTc (τ := Cert.IdxKSRefIdeal.τ) (Cert.IdxKSRefIdeal.main (F := Ideal))) ⟨m', fun _ => 0, g'⟩ (fun r => ∀ c : Dev Cert.IdxKSRefIdeal.nD,
          r.2.mem ((c.tc : Thread Cert.IdxKSRefIdeal.nD Cert.IdxKSRefIdeal.τ).loc Cert.IdxKSRefIdeal.main_v37) = v0 c
          ∧ r.2.mem ((c.tc : Thread Cert.IdxKSRefIdeal.nD Cert.IdxKSRefIdeal.τ).loc Cert.IdxKSRefIdeal.main_arg0) = m' ((c.tc : Thread Cert.IdxKSRefIdeal.nD Cert.IdxKSRefIdeal.τ).loc Cert.IdxKSRefIdeal.main_arg0)
          ∧ r.2.mem ((c.tc : Thread Cert.IdxKSRefIdeal.nD Cert.IdxKSRefIdeal.τ).loc Cert.IdxKSRefIdeal.main_arg1) = m' ((c.tc : Thread Cert.IdxKSRefIdeal.nD Cert.IdxKSRefIdeal.τ).loc Cert.IdxKSRefIdeal.main_arg1))

def preserves_IdxQ_IdxQIdeal : Prop :=
  True

def algebraic_IdxQIdeal_IdxQRefIdeal [hIdxQIdeal : Cert.IdxQIdeal.Facts] [hIdxQRefIdeal : Cert.IdxQRefIdeal.Facts] : Prop :=
  ∀ (m : (ℓ : Loc Cert.IdxQIdeal.nD Cert.IdxQIdeal.τ Cert.IdxQIdeal.sig) → Buf (Elt Ideal) ℓ) (g : Dev Cert.IdxQIdeal.nD → PrngReg)
    (m' : (ℓ : Loc Cert.IdxQRefIdeal.nD Cert.IdxQRefIdeal.τ Cert.IdxQRefIdeal.sig) → Buf (Elt Ideal) ℓ) (g' : Dev Cert.IdxQRefIdeal.nD → PrngReg), Pre_IdxQIdeal m →
    (∀ c : Dev Cert.IdxQIdeal.nD,
      m' ((c.tc : Thread Cert.IdxQRefIdeal.nD Cert.IdxQRefIdeal.τ).loc Cert.IdxQRefIdeal.main_arg0) = m ((c.tc : Thread Cert.IdxQIdeal.nD Cert.IdxQIdeal.τ).loc Cert.IdxQIdeal.main_arg0)
      ∧ m' ((c.tc : Thread Cert.IdxQRefIdeal.nD Cert.IdxQRefIdeal.τ).loc Cert.IdxQRefIdeal.main_arg1) = m ((c.tc : Thread Cert.IdxQIdeal.nD Cert.IdxQIdeal.τ).loc Cert.IdxQIdeal.main_arg1)) →
    ∃ (v0 : (c : Dev Cert.IdxQIdeal.nD) → Buf (Elt Ideal) ((c.tc : Thread Cert.IdxQIdeal.nD Cert.IdxQIdeal.τ).loc Cert.IdxQIdeal.main_v31)),
      θ_run (Cert.IdxQIdeal.defs (F := Ideal)) (onTc (τ := Cert.IdxQIdeal.τ) (Cert.IdxQIdeal.main (F := Ideal))) ⟨m, fun _ => 0, g⟩ (fun r => ∀ c : Dev Cert.IdxQIdeal.nD,
          r.2.mem ((c.tc : Thread Cert.IdxQIdeal.nD Cert.IdxQIdeal.τ).loc Cert.IdxQIdeal.main_v31) = v0 c
          ∧ r.2.mem ((c.tc : Thread Cert.IdxQIdeal.nD Cert.IdxQIdeal.τ).loc Cert.IdxQIdeal.main_arg0) = m ((c.tc : Thread Cert.IdxQIdeal.nD Cert.IdxQIdeal.τ).loc Cert.IdxQIdeal.main_arg0)
          ∧ r.2.mem ((c.tc : Thread Cert.IdxQIdeal.nD Cert.IdxQIdeal.τ).loc Cert.IdxQIdeal.main_arg1) = m ((c.tc : Thread Cert.IdxQIdeal.nD Cert.IdxQIdeal.τ).loc Cert.IdxQIdeal.main_arg1))
      ∧ θ_run (Cert.IdxQRefIdeal.defs (F := Ideal)) (onTc (τ := Cert.IdxQRefIdeal.τ) (Cert.IdxQRefIdeal.main (F := Ideal))) ⟨m', fun _ => 0, g'⟩ (fun r => ∀ c : Dev Cert.IdxQRefIdeal.nD,
          r.2.mem ((c.tc : Thread Cert.IdxQRefIdeal.nD Cert.IdxQRefIdeal.τ).loc Cert.IdxQRefIdeal.main_v35) = v0 c
          ∧ r.2.mem ((c.tc : Thread Cert.IdxQRefIdeal.nD Cert.IdxQRefIdeal.τ).loc Cert.IdxQRefIdeal.main_arg0) = m' ((c.tc : Thread Cert.IdxQRefIdeal.nD Cert.IdxQRefIdeal.τ).loc Cert.IdxQRefIdeal.main_arg0)
          ∧ r.2.mem ((c.tc : Thread Cert.IdxQRefIdeal.nD Cert.IdxQRefIdeal.τ).loc Cert.IdxQRefIdeal.main_arg1) = m' ((c.tc : Thread Cert.IdxQRefIdeal.nD Cert.IdxQRefIdeal.τ).loc Cert.IdxQRefIdeal.main_arg1))

def preserves_PoolS_PoolSIdeal : Prop :=
  True

def algebraic_PoolSIdeal_PoolSRefIdeal [hPoolSIdeal : Cert.PoolSIdeal.Facts] [hPoolSRefIdeal : Cert.PoolSRefIdeal.Facts] : Prop :=
  ∀ (m : (ℓ : Loc Cert.PoolSIdeal.nD Cert.PoolSIdeal.τ Cert.PoolSIdeal.sig) → Buf (Elt Ideal) ℓ) (g : Dev Cert.PoolSIdeal.nD → PrngReg)
    (m' : (ℓ : Loc Cert.PoolSRefIdeal.nD Cert.PoolSRefIdeal.τ Cert.PoolSRefIdeal.sig) → Buf (Elt Ideal) ℓ) (g' : Dev Cert.PoolSRefIdeal.nD → PrngReg), Pre_PoolSIdeal m →
    (∀ c : Dev Cert.PoolSIdeal.nD,
      m' ((c.tc : Thread Cert.PoolSRefIdeal.nD Cert.PoolSRefIdeal.τ).loc Cert.PoolSRefIdeal.main_arg0) = m ((c.tc : Thread Cert.PoolSIdeal.nD Cert.PoolSIdeal.τ).loc Cert.PoolSIdeal.main_arg0)
      ∧ m' ((c.tc : Thread Cert.PoolSRefIdeal.nD Cert.PoolSRefIdeal.τ).loc Cert.PoolSRefIdeal.main_arg1) = m ((c.tc : Thread Cert.PoolSIdeal.nD Cert.PoolSIdeal.τ).loc Cert.PoolSIdeal.main_arg1)
      ∧ m' ((c.tc : Thread Cert.PoolSRefIdeal.nD Cert.PoolSRefIdeal.τ).loc Cert.PoolSRefIdeal.main_arg2) = m ((c.tc : Thread Cert.PoolSIdeal.nD Cert.PoolSIdeal.τ).loc Cert.PoolSIdeal.main_arg2)) →
    ∃ (v0 : (c : Dev Cert.PoolSIdeal.nD) → Buf (Elt Ideal) ((c.tc : Thread Cert.PoolSIdeal.nD Cert.PoolSIdeal.τ).loc Cert.PoolSIdeal.main_v4)),
      θ_run (Cert.PoolSIdeal.defs (F := Ideal)) (onTc (τ := Cert.PoolSIdeal.τ) (Cert.PoolSIdeal.main (F := Ideal))) ⟨m, fun _ => 0, g⟩ (fun r => ∀ c : Dev Cert.PoolSIdeal.nD,
          r.2.mem ((c.tc : Thread Cert.PoolSIdeal.nD Cert.PoolSIdeal.τ).loc Cert.PoolSIdeal.main_v4) = v0 c
          ∧ r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
          ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
          ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2))
      ∧ θ_run (Cert.PoolSRefIdeal.defs (F := Ideal)) (onTc (τ := Cert.PoolSRefIdeal.τ) (Cert.PoolSRefIdeal.main (F := Ideal))) ⟨m', fun _ => 0, g'⟩ (fun r => ∀ c : Dev Cert.PoolSRefIdeal.nD,
          r.2.mem ((c.tc : Thread Cert.PoolSRefIdeal.nD Cert.PoolSRefIdeal.τ).loc Cert.PoolSRefIdeal.main_v15) = v0 c
          ∧ r.2.mem ((c.tc : Thread Cert.PoolSRefIdeal.nD Cert.PoolSRefIdeal.τ).loc Cert.PoolSRefIdeal.main_arg0) = m' ((c.tc : Thread Cert.PoolSRefIdeal.nD Cert.PoolSRefIdeal.τ).loc Cert.PoolSRefIdeal.main_arg0)
          ∧ r.2.mem ((c.tc : Thread Cert.PoolSRefIdeal.nD Cert.PoolSRefIdeal.τ).loc Cert.PoolSRefIdeal.main_arg1) = m' ((c.tc : Thread Cert.PoolSRefIdeal.nD Cert.PoolSRefIdeal.τ).loc Cert.PoolSRefIdeal.main_arg1)
          ∧ r.2.mem ((c.tc : Thread Cert.PoolSRefIdeal.nD Cert.PoolSRefIdeal.τ).loc Cert.PoolSRefIdeal.main_arg2) = m' ((c.tc : Thread Cert.PoolSRefIdeal.nD Cert.PoolSRefIdeal.τ).loc Cert.PoolSRefIdeal.main_arg2))

def preserves_PoolP_PoolPIdeal : Prop :=
  True

def algebraic_PoolPIdeal_PoolPRefIdeal [hPoolPIdeal : Cert.PoolPIdeal.Facts] [hPoolPRefIdeal : Cert.PoolPRefIdeal.Facts] : Prop :=
  ∀ (m : (ℓ : Loc Cert.PoolPIdeal.nD Cert.PoolPIdeal.τ Cert.PoolPIdeal.sig) → Buf (Elt Ideal) ℓ) (g : Dev Cert.PoolPIdeal.nD → PrngReg)
    (m' : (ℓ : Loc Cert.PoolPRefIdeal.nD Cert.PoolPRefIdeal.τ Cert.PoolPRefIdeal.sig) → Buf (Elt Ideal) ℓ) (g' : Dev Cert.PoolPRefIdeal.nD → PrngReg), Pre_PoolPIdeal m →
    (∀ c : Dev Cert.PoolPIdeal.nD,
      m' ((c.tc : Thread Cert.PoolPRefIdeal.nD Cert.PoolPRefIdeal.τ).loc Cert.PoolPRefIdeal.main_arg0) = m ((c.tc : Thread Cert.PoolPIdeal.nD Cert.PoolPIdeal.τ).loc Cert.PoolPIdeal.main_arg0)
      ∧ m' ((c.tc : Thread Cert.PoolPRefIdeal.nD Cert.PoolPRefIdeal.τ).loc Cert.PoolPRefIdeal.main_arg1) = m ((c.tc : Thread Cert.PoolPIdeal.nD Cert.PoolPIdeal.τ).loc Cert.PoolPIdeal.main_arg1)) →
    ∃ (v0 : (c : Dev Cert.PoolPIdeal.nD) → Buf (Elt Ideal) ((c.tc : Thread Cert.PoolPIdeal.nD Cert.PoolPIdeal.τ).loc Cert.PoolPIdeal.main_v6)),
      θ_run (Cert.PoolPIdeal.defs (F := Ideal)) (onTc (τ := Cert.PoolPIdeal.τ) (Cert.PoolPIdeal.main (F := Ideal))) ⟨m, fun _ => 0, g⟩ (fun r => ∀ c : Dev Cert.PoolPIdeal.nD,
          r.2.mem ((c.tc : Thread Cert.PoolPIdeal.nD Cert.PoolPIdeal.τ).loc Cert.PoolPIdeal.main_v6) = v0 c
          ∧ r.2.mem ((c.tc : Thread Cert.PoolPIdeal.nD Cert.PoolPIdeal.τ).loc Cert.PoolPIdeal.main_arg0) = m ((c.tc : Thread Cert.PoolPIdeal.nD Cert.PoolPIdeal.τ).loc Cert.PoolPIdeal.main_arg0)
          ∧ r.2.mem ((c.tc : Thread Cert.PoolPIdeal.nD Cert.PoolPIdeal.τ).loc Cert.PoolPIdeal.main_arg1) = m ((c.tc : Thread Cert.PoolPIdeal.nD Cert.PoolPIdeal.τ).loc Cert.PoolPIdeal.main_arg1))
      ∧ θ_run (Cert.PoolPRefIdeal.defs (F := Ideal)) (onTc (τ := Cert.PoolPRefIdeal.τ) (Cert.PoolPRefIdeal.main (F := Ideal))) ⟨m', fun _ => 0, g'⟩ (fun r => ∀ c : Dev Cert.PoolPRefIdeal.nD,
          r.2.mem ((c.tc : Thread Cert.PoolPRefIdeal.nD Cert.PoolPRefIdeal.τ).loc Cert.PoolPRefIdeal.main_v14) = v0 c
          ∧ r.2.mem ((c.tc : Thread Cert.PoolPRefIdeal.nD Cert.PoolPRefIdeal.τ).loc Cert.PoolPRefIdeal.main_arg0) = m' ((c.tc : Thread Cert.PoolPRefIdeal.nD Cert.PoolPRefIdeal.τ).loc Cert.PoolPRefIdeal.main_arg0)
          ∧ r.2.mem ((c.tc : Thread Cert.PoolPRefIdeal.nD Cert.PoolPRefIdeal.τ).loc Cert.PoolPRefIdeal.main_arg1) = m' ((c.tc : Thread Cert.PoolPRefIdeal.nD Cert.PoolPRefIdeal.τ).loc Cert.PoolPRefIdeal.main_arg1))

def preserves_OutProjS_OutProjSIdeal : Prop :=
  True

def algebraic_OutProjSIdeal_OutProjSRefIdeal [hOutProjSIdeal : Cert.OutProjSIdeal.Facts] [hOutProjSRefIdeal : Cert.OutProjSRefIdeal.Facts] : Prop :=
  ∀ (m : (ℓ : Loc Cert.OutProjSIdeal.nD Cert.OutProjSIdeal.τ Cert.OutProjSIdeal.sig) → Buf (Elt Ideal) ℓ) (g : Dev Cert.OutProjSIdeal.nD → PrngReg)
    (m' : (ℓ : Loc Cert.OutProjSRefIdeal.nD Cert.OutProjSRefIdeal.τ Cert.OutProjSRefIdeal.sig) → Buf (Elt Ideal) ℓ) (g' : Dev Cert.OutProjSRefIdeal.nD → PrngReg), Pre_OutProjSIdeal m →
    (∀ c : Dev Cert.OutProjSIdeal.nD,
      m' ((c.tc : Thread Cert.OutProjSRefIdeal.nD Cert.OutProjSRefIdeal.τ).loc Cert.OutProjSRefIdeal.main_arg0) = m ((c.tc : Thread Cert.OutProjSIdeal.nD Cert.OutProjSIdeal.τ).loc Cert.OutProjSIdeal.main_arg0)
      ∧ m' ((c.tc : Thread Cert.OutProjSRefIdeal.nD Cert.OutProjSRefIdeal.τ).loc Cert.OutProjSRefIdeal.main_arg1) = m ((c.tc : Thread Cert.OutProjSIdeal.nD Cert.OutProjSIdeal.τ).loc Cert.OutProjSIdeal.main_arg1)
      ∧ m' ((c.tc : Thread Cert.OutProjSRefIdeal.nD Cert.OutProjSRefIdeal.τ).loc Cert.OutProjSRefIdeal.main_arg2) = m ((c.tc : Thread Cert.OutProjSIdeal.nD Cert.OutProjSIdeal.τ).loc Cert.OutProjSIdeal.main_arg2)) →
    ∃ (v0 : (c : Dev Cert.OutProjSIdeal.nD) → Buf (Elt Ideal) ((c.tc : Thread Cert.OutProjSIdeal.nD Cert.OutProjSIdeal.τ).loc Cert.OutProjSIdeal.main_v0)),
      θ_run (Cert.OutProjSIdeal.defs (F := Ideal)) (onTc (τ := Cert.OutProjSIdeal.τ) (Cert.OutProjSIdeal.main (F := Ideal))) ⟨m, fun _ => 0, g⟩ (fun r => ∀ c : Dev Cert.OutProjSIdeal.nD,
          r.2.mem ((c.tc : Thread Cert.OutProjSIdeal.nD Cert.OutProjSIdeal.τ).loc Cert.OutProjSIdeal.main_v0) = v0 c
          ∧ r.2.mem ((c.tc : Thread Cert.OutProjSIdeal.nD Cert.OutProjSIdeal.τ).loc Cert.OutProjSIdeal.main_arg0) = m ((c.tc : Thread Cert.OutProjSIdeal.nD Cert.OutProjSIdeal.τ).loc Cert.OutProjSIdeal.main_arg0)
          ∧ r.2.mem ((c.tc : Thread Cert.OutProjSIdeal.nD Cert.OutProjSIdeal.τ).loc Cert.OutProjSIdeal.main_arg1) = m ((c.tc : Thread Cert.OutProjSIdeal.nD Cert.OutProjSIdeal.τ).loc Cert.OutProjSIdeal.main_arg1)
          ∧ r.2.mem ((c.tc : Thread Cert.OutProjSIdeal.nD Cert.OutProjSIdeal.τ).loc Cert.OutProjSIdeal.main_arg2) = m ((c.tc : Thread Cert.OutProjSIdeal.nD Cert.OutProjSIdeal.τ).loc Cert.OutProjSIdeal.main_arg2))
      ∧ θ_run (Cert.OutProjSRefIdeal.defs (F := Ideal)) (onTc (τ := Cert.OutProjSRefIdeal.τ) (Cert.OutProjSRefIdeal.main (F := Ideal))) ⟨m', fun _ => 0, g'⟩ (fun r => ∀ c : Dev Cert.OutProjSRefIdeal.nD,
          r.2.mem ((c.tc : Thread Cert.OutProjSRefIdeal.nD Cert.OutProjSRefIdeal.τ).loc Cert.OutProjSRefIdeal.main_v2) = v0 c
          ∧ r.2.mem ((c.tc : Thread Cert.OutProjSRefIdeal.nD Cert.OutProjSRefIdeal.τ).loc Cert.OutProjSRefIdeal.main_arg0) = m' ((c.tc : Thread Cert.OutProjSRefIdeal.nD Cert.OutProjSRefIdeal.τ).loc Cert.OutProjSRefIdeal.main_arg0)
          ∧ r.2.mem ((c.tc : Thread Cert.OutProjSRefIdeal.nD Cert.OutProjSRefIdeal.τ).loc Cert.OutProjSRefIdeal.main_arg1) = m' ((c.tc : Thread Cert.OutProjSRefIdeal.nD Cert.OutProjSRefIdeal.τ).loc Cert.OutProjSRefIdeal.main_arg1)
          ∧ r.2.mem ((c.tc : Thread Cert.OutProjSRefIdeal.nD Cert.OutProjSRefIdeal.τ).loc Cert.OutProjSRefIdeal.main_arg2) = m' ((c.tc : Thread Cert.OutProjSRefIdeal.nD Cert.OutProjSRefIdeal.τ).loc Cert.OutProjSRefIdeal.main_arg2))

def preserves_UpS_UpSIdeal : Prop :=
  True

def algebraic_UpSIdeal_UpSRefIdeal [hUpSIdeal : Cert.UpSIdeal.Facts] [hUpSRefIdeal : Cert.UpSRefIdeal.Facts] : Prop :=
  ∀ (m : (ℓ : Loc Cert.UpSIdeal.nD Cert.UpSIdeal.τ Cert.UpSIdeal.sig) → Buf (Elt Ideal) ℓ) (g : Dev Cert.UpSIdeal.nD → PrngReg)
    (m' : (ℓ : Loc Cert.UpSRefIdeal.nD Cert.UpSRefIdeal.τ Cert.UpSRefIdeal.sig) → Buf (Elt Ideal) ℓ) (g' : Dev Cert.UpSRefIdeal.nD → PrngReg), Pre_UpSIdeal m →
    (∀ c : Dev Cert.UpSIdeal.nD,
      m' ((c.tc : Thread Cert.UpSRefIdeal.nD Cert.UpSRefIdeal.τ).loc Cert.UpSRefIdeal.main_arg0) = m ((c.tc : Thread Cert.UpSIdeal.nD Cert.UpSIdeal.τ).loc Cert.UpSIdeal.main_arg0)
      ∧ m' ((c.tc : Thread Cert.UpSRefIdeal.nD Cert.UpSRefIdeal.τ).loc Cert.UpSRefIdeal.main_arg1) = m ((c.tc : Thread Cert.UpSIdeal.nD Cert.UpSIdeal.τ).loc Cert.UpSIdeal.main_arg1)
      ∧ m' ((c.tc : Thread Cert.UpSRefIdeal.nD Cert.UpSRefIdeal.τ).loc Cert.UpSRefIdeal.main_arg2) = m ((c.tc : Thread Cert.UpSIdeal.nD Cert.UpSIdeal.τ).loc Cert.UpSIdeal.main_arg2)) →
    ∃ (v0 : (c : Dev Cert.UpSIdeal.nD) → Buf (Elt Ideal) ((c.tc : Thread Cert.UpSIdeal.nD Cert.UpSIdeal.τ).loc Cert.UpSIdeal.main_v0)),
      θ_run (Cert.UpSIdeal.defs (F := Ideal)) (onTc (τ := Cert.UpSIdeal.τ) (Cert.UpSIdeal.main (F := Ideal))) ⟨m, fun _ => 0, g⟩ (fun r => ∀ c : Dev Cert.UpSIdeal.nD,
          r.2.mem ((c.tc : Thread Cert.UpSIdeal.nD Cert.UpSIdeal.τ).loc Cert.UpSIdeal.main_v0) = v0 c
          ∧ r.2.mem ((c.tc : Thread Cert.UpSIdeal.nD Cert.UpSIdeal.τ).loc Cert.UpSIdeal.main_arg0) = m ((c.tc : Thread Cert.UpSIdeal.nD Cert.UpSIdeal.τ).loc Cert.UpSIdeal.main_arg0)
          ∧ r.2.mem ((c.tc : Thread Cert.UpSIdeal.nD Cert.UpSIdeal.τ).loc Cert.UpSIdeal.main_arg1) = m ((c.tc : Thread Cert.UpSIdeal.nD Cert.UpSIdeal.τ).loc Cert.UpSIdeal.main_arg1)
          ∧ r.2.mem ((c.tc : Thread Cert.UpSIdeal.nD Cert.UpSIdeal.τ).loc Cert.UpSIdeal.main_arg2) = m ((c.tc : Thread Cert.UpSIdeal.nD Cert.UpSIdeal.τ).loc Cert.UpSIdeal.main_arg2))
      ∧ θ_run (Cert.UpSRefIdeal.defs (F := Ideal)) (onTc (τ := Cert.UpSRefIdeal.τ) (Cert.UpSRefIdeal.main (F := Ideal))) ⟨m', fun _ => 0, g'⟩ (fun r => ∀ c : Dev Cert.UpSRefIdeal.nD,
          r.2.mem ((c.tc : Thread Cert.UpSRefIdeal.nD Cert.UpSRefIdeal.τ).loc Cert.UpSRefIdeal.main_v5) = v0 c
          ∧ r.2.mem ((c.tc : Thread Cert.UpSRefIdeal.nD Cert.UpSRefIdeal.τ).loc Cert.UpSRefIdeal.main_arg0) = m' ((c.tc : Thread Cert.UpSRefIdeal.nD Cert.UpSRefIdeal.τ).loc Cert.UpSRefIdeal.main_arg0)
          ∧ r.2.mem ((c.tc : Thread Cert.UpSRefIdeal.nD Cert.UpSRefIdeal.τ).loc Cert.UpSRefIdeal.main_arg1) = m' ((c.tc : Thread Cert.UpSRefIdeal.nD Cert.UpSRefIdeal.τ).loc Cert.UpSRefIdeal.main_arg1)
          ∧ r.2.mem ((c.tc : Thread Cert.UpSRefIdeal.nD Cert.UpSRefIdeal.τ).loc Cert.UpSRefIdeal.main_arg2) = m' ((c.tc : Thread Cert.UpSRefIdeal.nD Cert.UpSRefIdeal.τ).loc Cert.UpSRefIdeal.main_arg2))

def preserves_ProjQS_ProjQSIdeal : Prop :=
  True

def algebraic_ProjQSIdeal_ProjQSRefIdeal [hProjQSIdeal : Cert.ProjQSIdeal.Facts] [hProjQSRefIdeal : Cert.ProjQSRefIdeal.Facts] : Prop :=
  ∀ (m : (ℓ : Loc Cert.ProjQSIdeal.nD Cert.ProjQSIdeal.τ Cert.ProjQSIdeal.sig) → Buf (Elt Ideal) ℓ) (g : Dev Cert.ProjQSIdeal.nD → PrngReg)
    (m' : (ℓ : Loc Cert.ProjQSRefIdeal.nD Cert.ProjQSRefIdeal.τ Cert.ProjQSRefIdeal.sig) → Buf (Elt Ideal) ℓ) (g' : Dev Cert.ProjQSRefIdeal.nD → PrngReg), Pre_ProjQSIdeal m →
    (∀ c : Dev Cert.ProjQSIdeal.nD,
      m' ((c.tc : Thread Cert.ProjQSRefIdeal.nD Cert.ProjQSRefIdeal.τ).loc Cert.ProjQSRefIdeal.main_arg0) = m ((c.tc : Thread Cert.ProjQSIdeal.nD Cert.ProjQSIdeal.τ).loc Cert.ProjQSIdeal.main_arg0)
      ∧ m' ((c.tc : Thread Cert.ProjQSRefIdeal.nD Cert.ProjQSRefIdeal.τ).loc Cert.ProjQSRefIdeal.main_arg1) = m ((c.tc : Thread Cert.ProjQSIdeal.nD Cert.ProjQSIdeal.τ).loc Cert.ProjQSIdeal.main_arg1)
      ∧ m' ((c.tc : Thread Cert.ProjQSRefIdeal.nD Cert.ProjQSRefIdeal.τ).loc Cert.ProjQSRefIdeal.main_arg2) = m ((c.tc : Thread Cert.ProjQSIdeal.nD Cert.ProjQSIdeal.τ).loc Cert.ProjQSIdeal.main_arg2)) →
    ∃ (v0 : (c : Dev Cert.ProjQSIdeal.nD) → Buf (Elt Ideal) ((c.tc : Thread Cert.ProjQSIdeal.nD Cert.ProjQSIdeal.τ).loc Cert.ProjQSIdeal.main_v4)),
      θ_run (Cert.ProjQSIdeal.defs (F := Ideal)) (onTc (τ := Cert.ProjQSIdeal.τ) (Cert.ProjQSIdeal.main (F := Ideal))) ⟨m, fun _ => 0, g⟩ (fun r => ∀ c : Dev Cert.ProjQSIdeal.nD,
          r.2.mem ((c.tc : Thread Cert.ProjQSIdeal.nD Cert.ProjQSIdeal.τ).loc Cert.ProjQSIdeal.main_v4) = v0 c
          ∧ r.2.mem ((c.tc : Thread Cert.ProjQSIdeal.nD Cert.ProjQSIdeal.τ).loc Cert.ProjQSIdeal.main_arg0) = m ((c.tc : Thread Cert.ProjQSIdeal.nD Cert.ProjQSIdeal.τ).loc Cert.ProjQSIdeal.main_arg0)
          ∧ r.2.mem ((c.tc : Thread Cert.ProjQSIdeal.nD Cert.ProjQSIdeal.τ).loc Cert.ProjQSIdeal.main_arg1) = m ((c.tc : Thread Cert.ProjQSIdeal.nD Cert.ProjQSIdeal.τ).loc Cert.ProjQSIdeal.main_arg1)
          ∧ r.2.mem ((c.tc : Thread Cert.ProjQSIdeal.nD Cert.ProjQSIdeal.τ).loc Cert.ProjQSIdeal.main_arg2) = m ((c.tc : Thread Cert.ProjQSIdeal.nD Cert.ProjQSIdeal.τ).loc Cert.ProjQSIdeal.main_arg2))
      ∧ θ_run (Cert.ProjQSRefIdeal.defs (F := Ideal)) (onTc (τ := Cert.ProjQSRefIdeal.τ) (Cert.ProjQSRefIdeal.main (F := Ideal))) ⟨m', fun _ => 0, g'⟩ (fun r => ∀ c : Dev Cert.ProjQSRefIdeal.nD,
          r.2.mem ((c.tc : Thread Cert.ProjQSRefIdeal.nD Cert.ProjQSRefIdeal.τ).loc Cert.ProjQSRefIdeal.main_v19) = v0 c
          ∧ r.2.mem ((c.tc : Thread Cert.ProjQSRefIdeal.nD Cert.ProjQSRefIdeal.τ).loc Cert.ProjQSRefIdeal.main_arg0) = m' ((c.tc : Thread Cert.ProjQSRefIdeal.nD Cert.ProjQSRefIdeal.τ).loc Cert.ProjQSRefIdeal.main_arg0)
          ∧ r.2.mem ((c.tc : Thread Cert.ProjQSRefIdeal.nD Cert.ProjQSRefIdeal.τ).loc Cert.ProjQSRefIdeal.main_arg1) = m' ((c.tc : Thread Cert.ProjQSRefIdeal.nD Cert.ProjQSRefIdeal.τ).loc Cert.ProjQSRefIdeal.main_arg1)
          ∧ r.2.mem ((c.tc : Thread Cert.ProjQSRefIdeal.nD Cert.ProjQSRefIdeal.τ).loc Cert.ProjQSRefIdeal.main_arg2) = m' ((c.tc : Thread Cert.ProjQSRefIdeal.nD Cert.ProjQSRefIdeal.τ).loc Cert.ProjQSRefIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hOutProj : Cert.OutProj.Facts) (hOutProjIdeal : Cert.OutProjIdeal.Facts) (hOutProjRefIdeal : Cert.OutProjRefIdeal.Facts) (hProjV : Cert.ProjV.Facts) (hProjVIdeal : Cert.ProjVIdeal.Facts) (hProjVRefIdeal : Cert.ProjVRefIdeal.Facts) (hProjK : Cert.ProjK.Facts) (hProjKIdeal : Cert.ProjKIdeal.Facts) (hProjKRefIdeal : Cert.ProjKRefIdeal.Facts) (hProjQ : Cert.ProjQ.Facts) (hProjQIdeal : Cert.ProjQIdeal.Facts) (hProjQRefIdeal : Cert.ProjQRefIdeal.Facts) (hDsaV : Cert.DsaV.Facts) (hDsaVIdeal : Cert.DsaVIdeal.Facts) (hDsaVRefIdeal : Cert.DsaVRefIdeal.Facts) (hDsaK : Cert.DsaK.Facts) (hDsaKIdeal : Cert.DsaKIdeal.Facts) (hDsaKRefIdeal : Cert.DsaKRefIdeal.Facts) (hDsaQ : Cert.DsaQ.Facts) (hDsaQIdeal : Cert.DsaQIdeal.Facts) (hDsaQRefIdeal : Cert.DsaQRefIdeal.Facts) (hNorm : Cert.Norm.Facts) (hNormIdeal : Cert.NormIdeal.Facts) (hNormRefIdeal : Cert.NormRefIdeal.Facts) (hDownS : Cert.DownS.Facts) (hDownSIdeal : Cert.DownSIdeal.Facts) (hDownSRefIdeal : Cert.DownSRefIdeal.Facts) (hProjVS : Cert.ProjVS.Facts) (hProjVSIdeal : Cert.ProjVSIdeal.Facts) (hProjVSRefIdeal : Cert.ProjVSRefIdeal.Facts) (hProjKS : Cert.ProjKS.Facts) (hProjKSIdeal : Cert.ProjKSIdeal.Facts) (hProjKSRefIdeal : Cert.ProjKSRefIdeal.Facts) (hDsaVS : Cert.DsaVS.Facts) (hDsaVSIdeal : Cert.DsaVSIdeal.Facts) (hDsaVSRefIdeal : Cert.DsaVSRefIdeal.Facts) (hDsaKS : Cert.DsaKS.Facts) (hDsaKSIdeal : Cert.DsaKSIdeal.Facts) (hDsaKSRefIdeal : Cert.DsaKSRefIdeal.Facts) (hIdxK : Cert.IdxK.Facts) (hIdxKIdeal : Cert.IdxKIdeal.Facts) (hIdxKRefIdeal : Cert.IdxKRefIdeal.Facts) (hIdxKS : Cert.IdxKS.Facts) (hIdxKSIdeal : Cert.IdxKSIdeal.Facts) (hIdxKSRefIdeal : Cert.IdxKSRefIdeal.Facts) (hIdxQ : Cert.IdxQ.Facts) (hIdxQIdeal : Cert.IdxQIdeal.Facts) (hIdxQRefIdeal : Cert.IdxQRefIdeal.Facts) (hPoolS : Cert.PoolS.Facts) (hPoolSIdeal : Cert.PoolSIdeal.Facts) (hPoolSRefIdeal : Cert.PoolSRefIdeal.Facts) (hPoolP : Cert.PoolP.Facts) (hPoolPIdeal : Cert.PoolPIdeal.Facts) (hPoolPRefIdeal : Cert.PoolPRefIdeal.Facts) (hOutProjS : Cert.OutProjS.Facts) (hOutProjSIdeal : Cert.OutProjSIdeal.Facts) (hOutProjSRefIdeal : Cert.OutProjSRefIdeal.Facts) (hUpS : Cert.UpS.Facts) (hUpSIdeal : Cert.UpSIdeal.Facts) (hUpSRefIdeal : Cert.UpSRefIdeal.Facts) (hProjQS : Cert.ProjQS.Facts) (hProjQSIdeal : Cert.ProjQSIdeal.Facts) (hProjQSRefIdeal : Cert.ProjQSRefIdeal.Facts) (hPre_selected_and_finite : Cert.Pre_selected_and_finite.Facts),
    quiescent_Kernel (hKernel := hKernel)
    ∧ quiescent_KernelIdeal (hKernelIdeal := hKernelIdeal)
    ∧ quiescent_KernelIdeal_pre_selected_and_finite (hKernelIdeal := hKernelIdeal) (hPre_selected_and_finite := hPre_selected_and_finite)
    ∧ quiescent_ReferenceIdeal (hReferenceIdeal := hReferenceIdeal)
    ∧ quiescent_ReferenceIdeal_pre_selected_and_finite (hReferenceIdeal := hReferenceIdeal) (hPre_selected_and_finite := hPre_selected_and_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_ProjV (hProjV := hProjV)
    ∧ quiescent_ProjVIdeal (hProjVIdeal := hProjVIdeal)
    ∧ quiescent_ProjVRefIdeal (hProjVRefIdeal := hProjVRefIdeal)
    ∧ quiescent_ProjK (hProjK := hProjK)
    ∧ quiescent_ProjKIdeal (hProjKIdeal := hProjKIdeal)
    ∧ quiescent_ProjKRefIdeal (hProjKRefIdeal := hProjKRefIdeal)
    ∧ quiescent_ProjQ (hProjQ := hProjQ)
    ∧ quiescent_ProjQIdeal (hProjQIdeal := hProjQIdeal)
    ∧ quiescent_ProjQRefIdeal (hProjQRefIdeal := hProjQRefIdeal)
    ∧ quiescent_DsaV (hDsaV := hDsaV)
    ∧ quiescent_DsaVIdeal (hDsaVIdeal := hDsaVIdeal)
    ∧ quiescent_DsaVRefIdeal (hDsaVRefIdeal := hDsaVRefIdeal)
    ∧ quiescent_DsaK (hDsaK := hDsaK)
    ∧ quiescent_DsaKIdeal (hDsaKIdeal := hDsaKIdeal)
    ∧ quiescent_DsaKRefIdeal (hDsaKRefIdeal := hDsaKRefIdeal)
    ∧ quiescent_DsaQ (hDsaQ := hDsaQ)
    ∧ quiescent_DsaQIdeal (hDsaQIdeal := hDsaQIdeal)
    ∧ quiescent_DsaQRefIdeal (hDsaQRefIdeal := hDsaQRefIdeal)
    ∧ quiescent_Norm (hNorm := hNorm)
    ∧ quiescent_NormIdeal (hNormIdeal := hNormIdeal)
    ∧ quiescent_NormRefIdeal (hNormRefIdeal := hNormRefIdeal)
    ∧ quiescent_DownS (hDownS := hDownS)
    ∧ quiescent_DownSIdeal (hDownSIdeal := hDownSIdeal)
    ∧ quiescent_DownSRefIdeal (hDownSRefIdeal := hDownSRefIdeal)
    ∧ quiescent_ProjVS (hProjVS := hProjVS)
    ∧ quiescent_ProjVSIdeal (hProjVSIdeal := hProjVSIdeal)
    ∧ quiescent_ProjVSRefIdeal (hProjVSRefIdeal := hProjVSRefIdeal)
    ∧ quiescent_ProjKS (hProjKS := hProjKS)
    ∧ quiescent_ProjKSIdeal (hProjKSIdeal := hProjKSIdeal)
    ∧ quiescent_ProjKSRefIdeal (hProjKSRefIdeal := hProjKSRefIdeal)
    ∧ quiescent_DsaVS (hDsaVS := hDsaVS)
    ∧ quiescent_DsaVSIdeal (hDsaVSIdeal := hDsaVSIdeal)
    ∧ quiescent_DsaVSRefIdeal (hDsaVSRefIdeal := hDsaVSRefIdeal)
    ∧ quiescent_DsaKS (hDsaKS := hDsaKS)
    ∧ quiescent_DsaKSIdeal (hDsaKSIdeal := hDsaKSIdeal)
    ∧ quiescent_DsaKSRefIdeal (hDsaKSRefIdeal := hDsaKSRefIdeal)
    ∧ quiescent_IdxK (hIdxK := hIdxK)
    ∧ quiescent_IdxKIdeal (hIdxKIdeal := hIdxKIdeal)
    ∧ quiescent_IdxKRefIdeal (hIdxKRefIdeal := hIdxKRefIdeal)
    ∧ quiescent_IdxKS (hIdxKS := hIdxKS)
    ∧ quiescent_IdxKSIdeal (hIdxKSIdeal := hIdxKSIdeal)
    ∧ quiescent_IdxKSRefIdeal (hIdxKSRefIdeal := hIdxKSRefIdeal)
    ∧ quiescent_IdxQ (hIdxQ := hIdxQ)
    ∧ quiescent_IdxQIdeal (hIdxQIdeal := hIdxQIdeal)
    ∧ quiescent_IdxQRefIdeal (hIdxQRefIdeal := hIdxQRefIdeal)
    ∧ quiescent_PoolS (hPoolS := hPoolS)
    ∧ quiescent_PoolSIdeal (hPoolSIdeal := hPoolSIdeal)
    ∧ quiescent_PoolSRefIdeal (hPoolSRefIdeal := hPoolSRefIdeal)
    ∧ quiescent_PoolP (hPoolP := hPoolP)
    ∧ quiescent_PoolPIdeal (hPoolPIdeal := hPoolPIdeal)
    ∧ quiescent_PoolPRefIdeal (hPoolPRefIdeal := hPoolPRefIdeal)
    ∧ quiescent_OutProjS (hOutProjS := hOutProjS)
    ∧ quiescent_OutProjSIdeal (hOutProjSIdeal := hOutProjSIdeal)
    ∧ quiescent_OutProjSRefIdeal (hOutProjSRefIdeal := hOutProjSRefIdeal)
    ∧ quiescent_UpS (hUpS := hUpS)
    ∧ quiescent_UpSIdeal (hUpSIdeal := hUpSIdeal)
    ∧ quiescent_UpSRefIdeal (hUpSRefIdeal := hUpSRefIdeal)
    ∧ quiescent_ProjQS (hProjQS := hProjQS)
    ∧ quiescent_ProjQSIdeal (hProjQSIdeal := hProjQSIdeal)
    ∧ quiescent_ProjQSRefIdeal (hProjQSRefIdeal := hProjQSRefIdeal)
    ∧ preserves_Kernel_KernelIdeal
    ∧ algebraic_KernelIdeal_ReferenceIdeal_pre_selected_and_finite (hKernelIdeal := hKernelIdeal) (hReferenceIdeal := hReferenceIdeal) (hPre_selected_and_finite := hPre_selected_and_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_OutProj_OutProjIdeal
    ∧ algebraic_OutProjIdeal_OutProjRefIdeal (hOutProjIdeal := hOutProjIdeal) (hOutProjRefIdeal := hOutProjRefIdeal)
    ∧ preserves_ProjV_ProjVIdeal
    ∧ algebraic_ProjVIdeal_ProjVRefIdeal (hProjVIdeal := hProjVIdeal) (hProjVRefIdeal := hProjVRefIdeal)
    ∧ preserves_ProjK_ProjKIdeal
    ∧ algebraic_ProjKIdeal_ProjKRefIdeal (hProjKIdeal := hProjKIdeal) (hProjKRefIdeal := hProjKRefIdeal)
    ∧ preserves_ProjQ_ProjQIdeal
    ∧ algebraic_ProjQIdeal_ProjQRefIdeal (hProjQIdeal := hProjQIdeal) (hProjQRefIdeal := hProjQRefIdeal)
    ∧ preserves_DsaV_DsaVIdeal
    ∧ algebraic_DsaVIdeal_DsaVRefIdeal (hDsaVIdeal := hDsaVIdeal) (hDsaVRefIdeal := hDsaVRefIdeal)
    ∧ preserves_DsaK_DsaKIdeal
    ∧ algebraic_DsaKIdeal_DsaKRefIdeal (hDsaKIdeal := hDsaKIdeal) (hDsaKRefIdeal := hDsaKRefIdeal)
    ∧ preserves_DsaQ_DsaQIdeal
    ∧ algebraic_DsaQIdeal_DsaQRefIdeal (hDsaQIdeal := hDsaQIdeal) (hDsaQRefIdeal := hDsaQRefIdeal)
    ∧ preserves_Norm_NormIdeal
    ∧ algebraic_NormIdeal_NormRefIdeal (hNormIdeal := hNormIdeal) (hNormRefIdeal := hNormRefIdeal)
    ∧ preserves_DownS_DownSIdeal
    ∧ algebraic_DownSIdeal_DownSRefIdeal (hDownSIdeal := hDownSIdeal) (hDownSRefIdeal := hDownSRefIdeal)
    ∧ preserves_ProjVS_ProjVSIdeal
    ∧ algebraic_ProjVSIdeal_ProjVSRefIdeal (hProjVSIdeal := hProjVSIdeal) (hProjVSRefIdeal := hProjVSRefIdeal)
    ∧ preserves_ProjKS_ProjKSIdeal
    ∧ algebraic_ProjKSIdeal_ProjKSRefIdeal (hProjKSIdeal := hProjKSIdeal) (hProjKSRefIdeal := hProjKSRefIdeal)
    ∧ preserves_DsaVS_DsaVSIdeal
    ∧ algebraic_DsaVSIdeal_DsaVSRefIdeal (hDsaVSIdeal := hDsaVSIdeal) (hDsaVSRefIdeal := hDsaVSRefIdeal)
    ∧ preserves_DsaKS_DsaKSIdeal
    ∧ algebraic_DsaKSIdeal_DsaKSRefIdeal (hDsaKSIdeal := hDsaKSIdeal) (hDsaKSRefIdeal := hDsaKSRefIdeal)
    ∧ preserves_IdxK_IdxKIdeal
    ∧ algebraic_IdxKIdeal_IdxKRefIdeal (hIdxKIdeal := hIdxKIdeal) (hIdxKRefIdeal := hIdxKRefIdeal)
    ∧ preserves_IdxKS_IdxKSIdeal
    ∧ algebraic_IdxKSIdeal_IdxKSRefIdeal (hIdxKSIdeal := hIdxKSIdeal) (hIdxKSRefIdeal := hIdxKSRefIdeal)
    ∧ preserves_IdxQ_IdxQIdeal
    ∧ algebraic_IdxQIdeal_IdxQRefIdeal (hIdxQIdeal := hIdxQIdeal) (hIdxQRefIdeal := hIdxQRefIdeal)
    ∧ preserves_PoolS_PoolSIdeal
    ∧ algebraic_PoolSIdeal_PoolSRefIdeal (hPoolSIdeal := hPoolSIdeal) (hPoolSRefIdeal := hPoolSRefIdeal)
    ∧ preserves_PoolP_PoolPIdeal
    ∧ algebraic_PoolPIdeal_PoolPRefIdeal (hPoolPIdeal := hPoolPIdeal) (hPoolPRefIdeal := hPoolPRefIdeal)
    ∧ preserves_OutProjS_OutProjSIdeal
    ∧ algebraic_OutProjSIdeal_OutProjSRefIdeal (hOutProjSIdeal := hOutProjSIdeal) (hOutProjSRefIdeal := hOutProjSRefIdeal)
    ∧ preserves_UpS_UpSIdeal
    ∧ algebraic_UpSIdeal_UpSRefIdeal (hUpSIdeal := hUpSIdeal) (hUpSRefIdeal := hUpSRefIdeal)
    ∧ preserves_ProjQS_ProjQSIdeal
    ∧ algebraic_ProjQSIdeal_ProjQSRefIdeal (hProjQSIdeal := hProjQSIdeal) (hProjQSRefIdeal := hProjQSRefIdeal)
-- ==== Pre_selected_and_finite.lean ====
abbrev S8192x2048 : Shape := ⟨2, ![8192, 2048]⟩
abbrev S8192x4096 : Shape := ⟨2, ![8192, 4096]⟩
abbrev S4096 : Shape := ⟨1, ![4096]⟩
abbrev S2x4096x4096 : Shape := ⟨3, ![2, 4096, 4096]⟩
abbrev S_ : Shape := ⟨0, ![]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S2x4096 : Shape := ⟨2, ![2, 4096]⟩

class Facts : Prop where
  shapeCasts_S8192x4096_S2x4096x4096 : S8192x4096.ShapeCasts S2x4096x4096
  bcast_S_S2x4096x4096 : S_.BroadcastsInDim S2x4096x4096 (![] : Fin 0 → Fin S2x4096x4096.rank)
  bcast_S4096_S1x1x4096_2 : S4096.BroadcastsInDim S1x1x4096 (![2] : Fin 1 → Fin S1x1x4096.rank)
  bcast_S4096_S1x4096x1_1 : S4096.BroadcastsInDim S1x4096x1 (![1] : Fin 1 → Fin S1x4096x1.rank)
  bcast_S1x1x4096_S1x4096x4096_0_1_2 : S1x1x4096.BroadcastsInDim S1x4096x4096 (![0, 1, 2] : Fin 3 → Fin S1x4096x4096.rank)
  bcast_S1x4096x1_S1x4096x4096_0_1_2 : S1x4096x1.BroadcastsInDim S1x4096x4096 (![0, 1, 2] : Fin 3 → Fin S1x4096x4096.rank)
  bcast_S1x4096x4096_S2x4096x4096_0_1_2 : S1x4096x4096.BroadcastsInDim S2x4096x4096 (![0, 1, 2] : Fin 3 → Fin S2x4096x4096.rank)
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  reducesTo_S2x4096x4096_S2x4096_d2 : S2x4096x4096.ReducesTo [2] S2x4096
  reducesTo_S2x4096_S_d0_1 : S2x4096.ReducesTo [0, 1] S_

variable [Facts]

def fn_part1 {F : FTy → Type} [FloatOps F] (main_v10 : IVec S2x4096x4096 1) (main_v15 : IVec S_ 1) (main_v19 : IVec S8192x2048 1) : IVec S_ 1 :=
  let main_c_2 : IVec S_ 1 := constantI S_ 1 1#1
  let main_v20 : IVec S_ 1 := (fun x v => Host.reduce IntOp.andi x v reducesTo_S8192x2048_S_d0_1 h_S_) main_v19 main_c_2
  let main_v21 : IVec S_ 1 := andi main_v15 main_v20
  let main_c_3 : IVec S_ 1 := constantI S_ 1 0#1
  let main_v22 : IVec S2x4096 1 := (fun x v => Host.reduce IntOp.ori x v reducesTo_S2x4096x4096_S2x4096_d2 h_S_) main_v10 main_c_3
  let main_c_4 : IVec S_ 1 := constantI S_ 1 1#1
  let main_v23 : IVec S_ 1 := (fun x v => Host.reduce IntOp.andi x v reducesTo_S2x4096_S_d0_1 h_S_) main_v22 main_c_4
  let main_v24 : IVec S_ 1 := andi main_v21 main_v23
  main_v24

def fn {F : FTy → Type} [FloatOps F] (main_arg0 : FVec F S8192x2048 .bf16) (main_arg1 : FVec F S8192x2048 .bf16) (main_arg2 : FVec F S8192x2048 .bf16) (main_arg3 : IVec S8192x4096 32) : IVec S_ 1 :=
  let main_v0 : IVec S4096 32 := iotaInDim S4096 32 0
  let main_v1 : IVec S2x4096x4096 32 := shapeCast S2x4096x4096 main_arg3 shapeCasts_S8192x4096_S2x4096x4096
  let main_c : IVec S_ 32 := constantI S_ 32 0#32
  let main_v2 : IVec S2x4096x4096 32 := broadcastInDim S2x4096x4096 ![] bcast_S_S2x4096x4096 main_c
  let main_v3 : IVec S2x4096x4096 1 := cmpi .sgt main_v1 main_v2
  let main_v4 : IVec S1x1x4096 32 := broadcastInDim S1x1x4096 ![2] bcast_S4096_S1x1x4096_2 main_v0
  let main_v5 : IVec S1x4096x1 32 := broadcastInDim S1x4096x1 ![1] bcast_S4096_S1x4096x1_1 main_v0
  let main_v6 : IVec S1x4096x4096 32 := broadcastInDim S1x4096x4096 ![0, 1, 2] bcast_S1x1x4096_S1x4096x4096_0_1_2 main_v4
  let main_v7 : IVec S1x4096x4096 32 := broadcastInDim S1x4096x4096 ![0, 1, 2] bcast_S1x4096x1_S1x4096x4096_0_1_2 main_v5
  let main_v8 : IVec S1x4096x4096 1 := cmpi .sle main_v6 main_v7
  let main_v9 : IVec S2x4096x4096 1 := broadcastInDim S2x4096x4096 ![0, 1, 2] bcast_S1x4096x4096_S2x4096x4096_0_1_2 main_v8
  let main_v10 : IVec S2x4096x4096 1 := andi main_v3 main_v9
  let main_v11 : FVec F S8192x2048 .f32 := (extf .f32 · bitsLt_bf16_f32) main_arg0
  let main_v12 : FVec F S8192x2048 .f32 := Host.absf main_v11
  let main_cst : FVec F S_ .f32 := constant S_ .f32 0x7F800000#32
  let main_v13 : FVec F S8192x2048 .f32 := broadcastInDim S8192x2048 ![] bcast_S_S8192x2048 main_cst
  let main_v14 : IVec S8192x2048 1 := cmpf .olt main_v12 main_v13
  let main_c_0 : IVec S_ 1 := constantI S_ 1 1#1
  let main_v15 : IVec S_ 1 := (fun x v => Host.reduce IntOp.andi x v reducesTo_S8192x2048_S_d0_1 h_S_) main_v14 main_c_0
  let main_v16 : FVec F S8192x2048 .f32 := (extf .f32 · bitsLt_bf16_f32) main_arg1
  let main_v17 : FVec F S8192x2048 .f32 := Host.absf main_v16
  let main_cst_1 : FVec F S_ .f32 := constant S_ .f32 0x7F800000#32
  let main_v18 : FVec F S8192x2048 .f32 := broadcastInDim S8192x2048 ![] bcast_S_S8192x2048 main_cst_1
  let main_v19 : IVec S8192x2048 1 := cmpf .olt main_v17 main_v18
  fn_part1 (F := F) main_v10 main_v15 main_v19
-- ==== Kernel.lean ====
abbrev S8192x2048 : Shape := ⟨2, ![8192, 2048]⟩
abbrev S8192x4096 : Shape := ⟨2, ![8192, 4096]⟩
abbrev S_ : Shape := ⟨0, ![]⟩
abbrev S256x512 : Shape := ⟨2, ![256, 512]⟩
abbrev S4096x512 : Shape := ⟨2, ![4096, 512]⟩
abbrev S256x4096 : Shape := ⟨2, ![256, 4096]⟩
abbrev S256x128 : Shape := ⟨2, ![256, 128]⟩
abbrev S256x1 : Shape := ⟨2, ![256, 1]⟩
abbrev S512x128 : Shape := ⟨2, ![512, 128]⟩
abbrev S256 : Shape := ⟨1, ![256]⟩

abbrev nBuf : Space → Nat
  | .hbm => 20
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x4096, .i32⟩
  | .hbm, ⟨4, _⟩ => ⟨S8192x4096, .i32⟩
  | .hbm, ⟨5, _⟩ => ⟨S_, .i32⟩
  | .hbm, ⟨6, _⟩ => ⟨S8192x4096, .i32⟩
  | .hbm, ⟨7, _⟩ => ⟨S8192x4096, .i32⟩
  | .hbm, ⟨8, _⟩ => ⟨S8192x4096, .i32⟩
  | .hbm, ⟨9, _⟩ => ⟨S_, .i32⟩
  | .hbm, ⟨10, _⟩ => ⟨S8192x4096, .i32⟩
  | .hbm, ⟨11, _⟩ => ⟨S8192x4096, .i1⟩
  | .hbm, ⟨12, _⟩ => ⟨S8192x4096, .i1⟩
  | .hbm, ⟨13, _⟩ => ⟨S8192x4096, .i1⟩
  | .hbm, ⟨14, _⟩ => ⟨S_, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x2048, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S256x4096, .f32⟩
  | .local _ .vmem, ⟨7, _⟩ => ⟨S256x4096, .f32⟩
  | .local _ .vmem, ⟨8, _⟩ => ⟨S256x512, .bf16⟩
  | .local _ .vmem, ⟨9, _⟩ => ⟨S256x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_22 : BitVec 32 := 0#32
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v37 : BitVec 32 := Scalar.subi v20 c0_i32_22
  let c1_i32_23 : BitVec 32 := 1#32
  let v39 : BitVec 32 := Scalar.divsi v37 c1_i32_23
  let v40 : BitVec 32 := Scalar.muli v39 c1_i32_23
  let v41 : BitVec 32 := Scalar.addi c0_i32_22 v40
  let c1_i32_24 : BitVec 32 := 1#32
  ⟨c0_i32_22, v41, c1_i32_24⟩
def k0_mult1 (i : grid0.Coords) (k0_t1 : Fin (k0_t1_loop i).trips) : BitVec 32 :=
  let c0_i32_22 : BitVec 32 := 0#32
  let c1_i32_24 : BitVec 32 := 1#32
  let arg8 : BitVec 32 := Scf.iv c0_i32_22 c1_i32_24 k0_t1
  let c512_i32_34 : BitVec 32 := 512#32
  let v60 : BitVec 32 := Scalar.muli arg8 c512_i32_34
  v60
def k0_off1 (i : grid0.Coords) (k0_t1 : Fin (k0_t1_loop i).trips) : Fin 2 → Nat :=
  let c0_i32_22 : BitVec 32 := 0#32
  let c1_i32_24 : BitVec 32 := 1#32
  let arg8 : BitVec 32 := Scf.iv c0_i32_22 c1_i32_24 k0_t1
  let c512_i32_34 : BitVec 32 := 512#32
  let v60 : BitVec 32 := Scalar.muli arg8 c512_i32_34
  let v61 : BitVec 32 := v60
  let v62 : Index := Scalar.indexCast v61
  let c0_35 : Index := 0#32
  ![v62.toNat, 0]
def k0_off2 (i : grid0.Coords) (k0_t1 : Fin (k0_t1_loop i).trips) : Fin 2 → Nat :=
  let c0_i32_22 : BitVec 32 := 0#32
  let c1_i32_24 : BitVec 32 := 1#32
  let arg8 : BitVec 32 := Scf.iv c0_i32_22 c1_i32_24 k0_t1
  let c512_i32_34 : BitVec 32 := 512#32
  let v60 : BitVec 32 := Scalar.muli arg8 c512_i32_34
  let v61 : BitVec 32 := v60
  let v64 : Index := Scalar.indexCast v61
  let c128_36 : Index := 128#32
  ![v64.toNat, 128]
def k0_off3 (i : grid0.Coords) (k0_t1 : Fin (k0_t1_loop i).trips) : Fin 2 → Nat :=
  let c0_i32_22 : BitVec 32 := 0#32
  let c1_i32_24 : BitVec 32 := 1#32
  let arg8 : BitVec 32 := Scf.iv c0_i32_22 c1_i32_24 k0_t1
  let c512_i32_34 : BitVec 32 := 512#32
  let v60 : BitVec 32 := Scalar.muli arg8 c512_i32_34
  let v61 : BitVec 32 := v60
  let v66 : Index := Scalar.indexCast v61
  let c256_37 : Index := 256#32
  ![v66.toNat, 256]
def k0_off4 (i : grid0.Coords) (k0_t1 : Fin (k0_t1_loop i).trips) : Fin 2 → Nat :=
  let c0_i32_22 : BitVec 32 := 0#32
  let c1_i32_24 : BitVec 32 := 1#32
  let arg8 : BitVec 32 := Scf.iv c0_i32_22 c1_i32_24 k0_t1
  let c512_i32_34 : BitVec 32 := 512#32
  let v60 : BitVec 32 := Scalar.muli arg8 c512_i32_34
  let v61 : BitVec 32 := v60
  let v68 : Index := Scalar.indexCast v61
  let c384_38 : Index := 384#32
  ![v68.toNat, 384]
def k0_off5 (i : grid0.Coords) (k0_t1 : Fin (k0_t1_loop i).trips) : Fin 2 → Nat :=
  let c0_43 : Index := 0#32
  let c0_i32_22 : BitVec 32 := 0#32
  let c1_i32_24 : BitVec 32 := 1#32
  let arg8 : BitVec 32 := Scf.iv c0_i32_22 c1_i32_24 k0_t1
  let c512_i32_34 : BitVec 32 := 512#32
  let v60 : BitVec 32 := Scalar.muli arg8 c512_i32_34
  let v61 : BitVec 32 := v60
  let v78 : Index := Scalar.indexCast v61
  ![0, v78.toNat]
@[reducible] def k0_t2_loop (i : grid0.Coords) : Scf.Loop 32 :=
  let c0_i32_22 : BitVec 32 := 0#32
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v37 : BitVec 32 := Scalar.subi v20 c0_i32_22
  let c1_i32_23 : BitVec 32 := 1#32
  let v39 : BitVec 32 := Scalar.divsi v37 c1_i32_23
  let v40 : BitVec 32 := Scalar.muli v39 c1_i32_23
  let v41 : BitVec 32 := Scalar.addi c0_i32_22 v40
  let v38 : BitVec 32 := Scalar.addi c0_i32_22 v37
  let c1_i32_25 : BitVec 32 := 1#32
  ⟨v41, v38, c1_i32_25⟩
def k0_mult2 (i : grid0.Coords) (k0_t2 : Fin (k0_t2_loop i).trips) : BitVec 32 :=
  let c0_i32_22 : BitVec 32 := 0#32
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v37 : BitVec 32 := Scalar.subi v20 c0_i32_22
  let c1_i32_23 : BitVec 32 := 1#32
  let v39 : BitVec 32 := Scalar.divsi v37 c1_i32_23
  let v40 : BitVec 32 := Scalar.muli v39 c1_i32_23
  let v41 : BitVec 32 := Scalar.addi c0_i32_22 v40
  let c1_i32_25 : BitVec 32 := 1#32
  let arg8 : BitVec 32 := Scf.iv v41 c1_i32_25 k0_t2
  let c512_i32_34 : BitVec 32 := 512#32
  let v60 : BitVec 32 := Scalar.muli arg8 c512_i32_34
  v60
def k0_off6 (i : grid0.Coords) (k0_t2 : Fin (k0_t2_loop i).trips) : Fin 2 → Nat :=
  let c0_i32_22 : BitVec 32 := 0#32
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v37 : BitVec 32 := Scalar.subi v20 c0_i32_22
  let c1_i32_23 : BitVec 32 := 1#32
  let v39 : BitVec 32 := Scalar.divsi v37 c1_i32_23
  let v40 : BitVec 32 := Scalar.muli v39 c1_i32_23
  let v41 : BitVec 32 := Scalar.addi c0_i32_22 v40
  let c1_i32_25 : BitVec 32 := 1#32
  let arg8 : BitVec 32 := Scf.iv v41 c1_i32_25 k0_t2
  let c512_i32_34 : BitVec 32 := 512#32
  let v60 : BitVec 32 := Scalar.muli arg8 c512_i32_34
  let v61 : BitVec 32 := v60
  let v62 : Index := Scalar.indexCast v61
  let c0_35 : Index := 0#32
  ![v62.toNat, 0]
def k0_off7 (i : grid0.Coords) (k0_t2 : Fin (k0_t2_loop i).trips) : Fin 2 → Nat :=
  let c0_i32_22 : BitVec 32 := 0#32
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v37 : BitVec 32 := Scalar.subi v20 c0_i32_22
  let c1_i32_23 : BitVec 32 := 1#32
  let v39 : BitVec 32 := Scalar.divsi v37 c1_i32_23
  let v40 : BitVec 32 := Scalar.muli v39 c1_i32_23
  let v41 : BitVec 32 := Scalar.addi c0_i32_22 v40
  let c1_i32_25 : BitVec 32 := 1#32
  let arg8 : BitVec 32 := Scf.iv v41 c1_i32_25 k0_t2
  let c512_i32_34 : BitVec 32 := 512#32
  let v60 : BitVec 32 := Scalar.muli arg8 c512_i32_34
  let v61 : BitVec 32 := v60
  let v64 : Index := Scalar.indexCast v61
  let c128_36 : Index := 128#32
  ![v64.toNat, 128]
def k0_off8 (i : grid0.Coords) (k0_t2 : Fin (k0_t2_loop i).trips) : Fin 2 → Nat :=
  let c0_i32_22 : BitVec 32 := 0#32
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v37 : BitVec 32 := Scalar.subi v20 c0_i32_22
  let c1_i32_23 : BitVec 32 := 1#32
  let v39 : BitVec 32 := Scalar.divsi v37 c1_i32_23
  let v40 : BitVec 32 := Scalar.muli v39 c1_i32_23
  let v41 : BitVec 32 := Scalar.addi c0_i32_22 v40
  let c1_i32_25 : BitVec 32 := 1#32
  let arg8 : BitVec 32 := Scf.iv v41 c1_i32_25 k0_t2
  let c512_i32_34 : BitVec 32 := 512#32
  let v60 : BitVec 32 := Scalar.muli arg8 c512_i32_34
  let v61 : BitVec 32 := v60
  let v66 : Index := Scalar.indexCast v61
  let c256_37 : Index := 256#32
  ![v66.toNat, 256]
def k0_off9 (i : grid0.Coords) (k0_t2 : Fin (k0_t2_loop i).trips) : Fin 2 → Nat :=
  let c0_i32_22 : BitVec 32 := 0#32
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v37 : BitVec 32 := Scalar.subi v20 c0_i32_22
  let c1_i32_23 : BitVec 32 := 1#32
  let v39 : BitVec 32 := Scalar.divsi v37 c1_i32_23
  let v40 : BitVec 32 := Scalar.muli v39 c1_i32_23
  let v41 : BitVec 32 := Scalar.addi c0_i32_22 v40
  let c1_i32_25 : BitVec 32 := 1#32
  let arg8 : BitVec 32 := Scf.iv v41 c1_i32_25 k0_t2
  let c512_i32_34 : BitVec 32 := 512#32
  let v60 : BitVec 32 := Scalar.muli arg8 c512_i32_34
  let v61 : BitVec 32 := v60
  let v68 : Index := Scalar.indexCast v61
  let c384_38 : Index := 384#32
  ![v68.toNat, 384]
def k0_off10 (i : grid0.Coords) (k0_t2 : Fin (k0_t2_loop i).trips) : Fin 2 → Nat :=
  let c0_43 : Index := 0#32
  let c0_i32_22 : BitVec 32 := 0#32
  let arg2 : BitVec 32 := BitVec.ofNat 32 (i 2).val
  let c1_i32 : BitVec 32 := 1#32
  let v0 : BitVec 32 := Scalar.addi arg2 c1_i32
  let c256_i32 : BitVec 32 := 256#32
  let v1 : BitVec 32 := Scalar.muli v0 c256_i32
  let c512_i32 : BitVec 32 := 512#32
  let v2 : BitVec 32 := Scalar.addi v1 c512_i32
  let c1_i32_0 : BitVec 32 := 1#32
  let v3 : BitVec 32 := Scalar.subi v2 c1_i32_0
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v37 : BitVec 32 := Scalar.subi v20 c0_i32_22
  let c1_i32_23 : BitVec 32 := 1#32
  let v39 : BitVec 32 := Scalar.divsi v37 c1_i32_23
  let v40 : BitVec 32 := Scalar.muli v39 c1_i32_23
  let v41 : BitVec 32 := Scalar.addi c0_i32_22 v40
  let c1_i32_25 : BitVec 32 := 1#32
  let arg8 : BitVec 32 := Scf.iv v41 c1_i32_25 k0_t2
  let c512_i32_34 : BitVec 32 := 512#32
  let v60 : BitVec 32 := Scalar.muli arg8 c512_i32_34
  let v61 : BitVec 32 := v60
  let v78 : Index := Scalar.indexCast v61
  ![0, v78.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | "scale_log2e" => some (((Real.sqrt 128)⁻¹ * (Real.log 2)⁻¹ : ℝ) : EReal)
  | _ => none
-- ==== ReferenceIdeal.lean ====
abbrev S8192x2048 : Shape := ⟨2, ![8192, 2048]⟩
abbrev S8192x4096 : Shape := ⟨2, ![8192, 4096]⟩
abbrev S2x4096x16x128 : Shape := ⟨4, ![2, 4096, 16, 128]⟩
abbrev S2x16x4096x4096 : Shape := ⟨4, ![2, 16, 4096, 4096]⟩
abbrev S_ : Shape := ⟨0, ![]⟩
abbrev S4096 : Shape := ⟨1, ![4096]⟩
abbrev S2x4096x4096 : Shape := ⟨3, ![2, 4096, 4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S2x1x4096x4096 : Shape := ⟨4, ![2, 1, 4096, 4096]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x4096, .i32⟩
  | .hbm, ⟨4, _⟩ => ⟨S8192x2048, .f32⟩
  | .hbm, ⟨5, _⟩ => ⟨S2x4096x16x128, .f32⟩
  | .hbm, ⟨6, _⟩ => ⟨S8192x2048, .f32⟩
  | .hbm, ⟨7, _⟩ => ⟨S2x4096x16x128, .f32⟩
  | .hbm, ⟨8, _⟩ => ⟨S8192x2048, .f32⟩
  | .hbm, ⟨9, _⟩ => ⟨S2x4096x16x128, .f32⟩
  | .hbm, ⟨10, _⟩ => ⟨S2x16x4096x4096, .f32⟩
  | .hbm, ⟨11, _⟩ => ⟨S_, .f32⟩
  | .hbm, ⟨12, _⟩ => ⟨S_, .f32⟩
  | .hbm, ⟨13, _⟩ => ⟨S2x16x4096x4096, .f32⟩
  | .hbm, ⟨14, _⟩ => ⟨S2x16x4096x4096, .f32⟩
  | .hbm, ⟨15, _⟩ => ⟨S4096, .i32⟩
  | .hbm, ⟨16, _⟩ => ⟨S2x4096x4096, .i32⟩
  | .hbm, ⟨17, _⟩ => ⟨S_, .i32⟩
  | .hbm, ⟨18, _⟩ => ⟨S2x4096x4096, .i32⟩
  | .hbm, ⟨19, _⟩ => ⟨S2x4096x4096, .i1⟩
  | .hbm, ⟨20, _⟩ => ⟨S1x1x4096, .i32⟩
  | .hbm, ⟨21, _⟩ => ⟨S1x4096x1, .i32⟩
  | .hbm, ⟨22, _⟩ => ⟨S1x4096x4096, .i32⟩
  | .hbm, ⟨23, _⟩ => ⟨S1x4096x4096, .i32⟩
  | .hbm, ⟨24, _⟩ => ⟨S1x4096x4096, .i1⟩
  | .hbm, ⟨25, _⟩ => ⟨S2x4096x4096, .i1⟩
  | .hbm, ⟨26, _⟩ => ⟨S2x4096x4096, .i1⟩
  | .hbm, ⟨27, _⟩ => ⟨S2x1x4096x4096, .i1⟩
  | .hbm, ⟨28, _⟩ => ⟨S_, .f32⟩
  | .hbm, ⟨29, _⟩ => ⟨S_, .f32⟩
  | .hbm, ⟨30, _⟩ => ⟨S2x16x4096x4096, .i1⟩
  | .hbm, ⟨31, _⟩ => ⟨S2x16x4096x4096, .f32⟩
  | .hbm, ⟨32, _⟩ => ⟨S2x16x4096x4096, .f32⟩
  | .hbm, ⟨33, _⟩ => ⟨S_, .f32⟩
  | .hbm, ⟨34, _⟩ => ⟨S2x16x4096, .f32⟩
  | .hbm, ⟨35, _⟩ => ⟨S_, .f32⟩
  | .hbm, ⟨36, _⟩ => ⟨S2x16x4096, .f32⟩
  | .hbm, ⟨37, _⟩ => ⟨S2x16x4096, .f32⟩
  | .hbm, ⟨38, _⟩ => ⟨S2x16x4096x1, .f32⟩
  | .hbm, ⟨39, _⟩ => ⟨S2x16x4096x4096, .f32⟩
  | .hbm, ⟨40, _⟩ => ⟨S2x16x4096x4096, .f32⟩
  | .hbm, ⟨41, _⟩ => ⟨S2x16x4096x4096, .f32⟩
  | .hbm, ⟨42, _⟩ => ⟨S_, .f32⟩
  | .hbm, ⟨43, _⟩ => ⟨S2x16x4096, .f32⟩
  | .hbm, ⟨44, _⟩ => ⟨S2x16x4096x1, .f32⟩
  | .hbm, ⟨45, _⟩ => ⟨S2x16x4096x4096, .f32⟩
  | .hbm, ⟨46, _⟩ => ⟨S2x16x4096x4096, .f32⟩
  | .hbm, ⟨47, _⟩ => ⟨S2x16x128x4096, .f32⟩
  | .hbm, ⟨48, _⟩ => ⟨S2x4096x16x128, .f32⟩
  | .hbm, ⟨49, _⟩ => ⟨S8192x2048, .f32⟩
  | .hbm, ⟨50, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Up.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpIdeal.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S8192x2048 : Shape := ⟨2, ![8192, 2048]⟩
abbrev S2048x5632 : Shape := ⟨2, ![2048, 5632]⟩
abbrev S8192x5632 : Shape := ⟨2, ![8192, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S8192x2048, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .f32⟩
  | .local _ .vmem, ⟨3, _⟩ => ⟨S5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownIdeal.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .f32⟩
  | .local _ .vmem, ⟨3, _⟩ => ⟨S5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8192x5632, .f32⟩
  | .hbm, ⟨4, _⟩ => ⟨S8192x2048, .f32⟩
  | .hbm, ⟨5, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjIdeal.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ProjV.lean ====
abbrev S8192x2048 : Shape := ⟨2, ![8192, 2048]⟩
abbrev S2048x6144 : Shape := ⟨2, ![2048, 6144]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩
abbrev S256x128 : Shape := ⟨2, ![256, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x2048, .f32⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjVIdeal.lean ====
abbrev S8192x2048 : Shape := ⟨2, ![8192, 2048]⟩
abbrev S2048x6144 : Shape := ⟨2, ![2048, 6144]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩
abbrev S256x128 : Shape := ⟨2, ![256, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x2048, .f32⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjVRefIdeal.lean ====
abbrev S8192x2048 : Shape := ⟨2, ![8192, 2048]⟩
abbrev S2048x6144 : Shape := ⟨2, ![2048, 6144]⟩
abbrev S8192x6144 : Shape := ⟨2, ![8192, 6144]⟩
abbrev S8192x3x16x128 : Shape := ⟨4, ![8192, 3, 16, 128]⟩
abbrev S8192x1x16x128 : Shape := ⟨4, ![8192, 1, 16, 128]⟩
abbrev S8192x16x128 : Shape := ⟨3, ![8192, 16, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S8192x2048, .f32⟩
  | .hbm, ⟨3, _⟩ => ⟨S8192x6144, .f32⟩
  | .hbm, ⟨4, _⟩ => ⟨S8192x3x16x128, .f32⟩
  | .hbm, ⟨5, _⟩ => ⟨S8192x1x16x128, .f32⟩
  | .hbm, ⟨6, _⟩ => ⟨S8192x16x128, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== ProjK.lean ====
abbrev S8192x2048 : Shape := ⟨2, ![8192, 2048]⟩
abbrev S2048x6144 : Shape := ⟨2, ![2048, 6144]⟩
abbrev S128 : Shape := ⟨1, ![128]⟩
abbrev S1x128 : Shape := ⟨2, ![1, 128]⟩
abbrev S1x1x1x128 : Shape := ⟨4, ![1, 1, 1, 128]⟩
abbrev S1x1x4x128 : Shape := ⟨4, ![1, 1, 4, 128]⟩
abbrev S1x512 : Shape := ⟨2, ![1, 512]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S128, .f32⟩
  | .hbm, ⟨3, _⟩ => ⟨S1x128, .f32⟩
  | .hbm, ⟨4, _⟩ => ⟨S1x1x1x128, .f32⟩
  | .hbm, ⟨5, _⟩ => ⟨S1x1x4x128, .f32⟩
  | .hbm, ⟨6, _⟩ => ⟨S1x512, .f32⟩
  | .hbm, ⟨7, _⟩ => ⟨S8192x2048, .f32⟩
  | .hbm, ⟨8, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | .local _ .vmem, ⟨7, _⟩ => ⟨S1024x512, .bf16⟩
  | .local _ .vmem, ⟨8, _⟩ => ⟨S1024x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjKIdeal.lean ====
abbrev S8192x2048 : Shape := ⟨2, ![8192, 2048]⟩
abbrev S2048x6144 : Shape := ⟨2, ![2048, 6144]⟩
abbrev S128 : Shape := ⟨1, ![128]⟩
abbrev S1x128 : Shape := ⟨2, ![1, 128]⟩
abbrev S1x1x1x128 : Shape := ⟨4, ![1, 1, 1, 128]⟩
abbrev S1x1x4x128 : Shape := ⟨4, ![1, 1, 4, 128]⟩
abbrev S1x512 : Shape := ⟨2, ![1, 512]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S128, .f32⟩
  | .hbm, ⟨3, _⟩ => ⟨S1x128, .f32⟩
  | .hbm, ⟨4, _⟩ => ⟨S1x1x1x128, .f32⟩
  | .hbm, ⟨5, _⟩ => ⟨S1x1x4x128, .f32⟩
  | .hbm, ⟨6, _⟩ => ⟨S1x512, .f32⟩
  | .hbm, ⟨7, _⟩ => ⟨S8192x2048, .f32⟩
  | .hbm, ⟨8, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | .local _ .vmem, ⟨7, _⟩ => ⟨S1024x512, .bf16⟩
  | .local _ .vmem, ⟨8, _⟩ => ⟨S1024x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjKRefIdeal.lean ====
abbrev S8192x2048 : Shape := ⟨2, ![8192, 2048]⟩
abbrev S2048x6144 : Shape := ⟨2, ![2048, 6144]⟩
abbrev S128 : Shape := ⟨1, ![128]⟩
abbrev S8192x6144 : Shape := ⟨2, ![8192, 6144]⟩
abbrev S8192x3x16x128 : Shape := ⟨4, ![8192, 3, 16, 128]⟩
abbrev S8192x1x16x128 : Shape := ⟨4, ![8192, 1, 16, 128]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S128, .f32⟩
  | .hbm, ⟨3, _⟩ => ⟨S8192x2048, .f32⟩
  | .hbm, ⟨4, _⟩ => ⟨S8192x6144, .f32⟩
  | .hbm, ⟨5, _⟩ => ⟨S8192x3x16x128, .f32⟩
  | .hbm, ⟨6, _⟩ => ⟨S8192x1x16x128, .f32⟩
  | .hbm, ⟨7, _⟩ => ⟨S8192x16x128, .f32⟩
  | .hbm, ⟨8, _⟩ => ⟨S8192x16x128, .f32⟩
  | .hbm, ⟨9, _⟩ => ⟨S_, .f32⟩
  | .hbm, ⟨10, _⟩ => ⟨S8192x16, .f32⟩
  | .hbm, ⟨11, _⟩ => ⟨S8192x16x1, .f32⟩
  | .hbm, ⟨12, _⟩ => ⟨S_, .f32⟩
  | .hbm, ⟨13, _⟩ => ⟨S8192x16x1, .f32⟩
  | .hbm, ⟨14, _⟩ => ⟨S8192x16x1, .f32⟩
  | .hbm, ⟨15, _⟩ => ⟨S_, .f32⟩
  | .hbm, ⟨16, _⟩ => ⟨S8192x16x1, .f32⟩
  | .hbm, ⟨17, _⟩ => ⟨S8192x16x1, .f32⟩
  | .hbm, ⟨18, _⟩ => ⟨S8192x16x1, .f32⟩
  | .hbm, ⟨19, _⟩ => ⟨S8192x16x128, .f32⟩
  | .hbm, ⟨20, _⟩ => ⟨S8192x16x128, .f32⟩
  | .hbm, ⟨21, _⟩ => ⟨S1x1x128, .f32⟩
  | .hbm, ⟨22, _⟩ => ⟨S8192x16x128, .f32⟩
  | .hbm, ⟨23, _⟩ => ⟨S8192x16x128, .f32⟩
  | .hbm, ⟨24, _⟩ => ⟨S8192x2048, .f32⟩
  | .hbm, ⟨25, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== ProjQ.lean ====
abbrev S8192x2048 : Shape := ⟨2, ![8192, 2048]⟩
abbrev S2048x6144 : Shape := ⟨2, ![2048, 6144]⟩
abbrev S128 : Shape := ⟨1, ![128]⟩
abbrev S1x128 : Shape := ⟨2, ![1, 128]⟩
abbrev S1x1x1x128 : Shape := ⟨4, ![1, 1, 1, 128]⟩
abbrev S1x1x4x128 : Shape := ⟨4, ![1, 1, 4, 128]⟩
abbrev S1x512 : Shape := ⟨2, ![1, 512]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S128, .f32⟩
  | .hbm, ⟨3, _⟩ => ⟨S1x128, .f32⟩
  | .hbm, ⟨4, _⟩ => ⟨S1x1x1x128, .f32⟩
  | .hbm, ⟨5, _⟩ => ⟨S1x1x4x128, .f32⟩
  | .hbm, ⟨6, _⟩ => ⟨S1x512, .f32⟩
  | .hbm, ⟨7, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1024x512, .bf16⟩
  | .local _ .vmem, ⟨6, _⟩ => ⟨S1024x512, .bf16⟩
  | .local _ .vmem, ⟨7, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjQIdeal.lean ====
abbrev S8192x2048 : Shape := ⟨2, ![8192, 2048]⟩
abbrev S2048x6144 : Shape := ⟨2, ![2048, 6144]⟩
abbrev S128 : Shape := ⟨1, ![128]⟩
abbrev S1x128 : Shape := ⟨2, ![1, 128]⟩
abbrev S1x1x1x128 : Shape := ⟨4, ![1, 1, 1, 128]⟩
abbrev S1x1x4x128 : Shape := ⟨4, ![1, 1, 4, 128]⟩
abbrev S1x512 : Shape := ⟨2, ![1, 512]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S128, .f32⟩
  | .hbm, ⟨3, _⟩ => ⟨S1x128, .f32⟩
  | .hbm, ⟨4, _⟩ => ⟨S1x1x1x128, .f32⟩
  | .hbm, ⟨5, _⟩ => ⟨S1x1x4x128, .f32⟩
  | .hbm, ⟨6, _⟩ => ⟨S1x512, .f32⟩
  | .hbm, ⟨7, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1024x512, .bf16⟩
  | .local _ .vmem, ⟨6, _⟩ => ⟨S1024x512, .bf16⟩
  | .local _ .vmem, ⟨7, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjQRefIdeal.lean ====
abbrev S8192x2048 : Shape := ⟨2, ![8192, 2048]⟩
abbrev S2048x6144 : Shape := ⟨2, ![2048, 6144]⟩
abbrev S128 : Shape := ⟨1, ![128]⟩
abbrev S8192x6144 : Shape := ⟨2, ![8192, 6144]⟩
abbrev S8192x3x16x128 : Shape := ⟨4, ![8192, 3, 16, 128]⟩
abbrev S8192x1x16x128 : Shape := ⟨4, ![8192, 1, 16, 128]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .f32⟩
  | .hbm, ⟨2, _⟩ => ⟨S128, .f32⟩
  | .hbm, ⟨3, _⟩ => ⟨S8192x2048, .f32⟩
  | .hbm, ⟨4, _⟩ => ⟨S8192x6144, .f32⟩
  | .hbm, ⟨5, _⟩ => ⟨S8192x3x16x128, .f32⟩
  | .hbm, ⟨6, _⟩ => ⟨S8192x1x16x128, .f32⟩
  | .hbm, ⟨7, _⟩ => ⟨S8192x16x128, .f32⟩
  | .hbm, ⟨8, _⟩ => ⟨S8192x16x128, .f32⟩
  | .hbm, ⟨9, _⟩ => ⟨S_, .f32⟩
  | .hbm, ⟨10, _⟩ => ⟨S8192x16, .f32⟩
  | .hbm, ⟨11, _⟩ => ⟨S8192x16x1, .f32⟩
  | .hbm, ⟨12, _⟩ => ⟨S_, .f32⟩
  | .hbm, ⟨13, _⟩ => ⟨S8192x16x1, .f32⟩
  | .hbm, ⟨14, _⟩ => ⟨S8192x16x1, .f32⟩
  | .hbm, ⟨15, _⟩ => ⟨S_, .f32⟩
  | .hbm, ⟨16, _⟩ => ⟨S8192x16x1, .f32⟩
  | .hbm, ⟨17, _⟩ => ⟨S8192x16x1, .f32⟩
  | .hbm, ⟨18, _⟩ => ⟨S8192x16x1, .f32⟩
  | .hbm, ⟨19, _⟩ => ⟨S8192x16x128, .f32⟩
  | .hbm, ⟨20, _⟩ => ⟨S8192x16x128, .f32⟩
  | .hbm, ⟨21, _⟩ => ⟨S1x1x128, .f32⟩
  | .hbm, ⟨22, _⟩ => ⟨S8192x16x128, .f32⟩
  | .hbm, ⟨23, _⟩ => ⟨S8192x16x128, .f32⟩
  | .hbm, ⟨24, _⟩ => ⟨S8192x2048, .f32⟩
  | .hbm, ⟨25, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== DsaV.lean ====
abbrev S8192x2048 : Shape := ⟨2, ![8192, 2048]⟩
abbrev S2048x7248 : Shape := ⟨2, ![2048, 7248]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩
abbrev S256x128 : Shape := ⟨2, ![256, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x7248, .f32⟩
  | .hbm, ⟨2, _⟩ => ⟨S8192x2048, .f32⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DsaVIdeal.lean ====
abbrev S8192x2048 : Shape := ⟨2, ![8192, 2048]⟩
abbrev S2048x7248 : Shape := ⟨2, ![2048, 7248]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩
abbrev S256x128 : Shape := ⟨2, ![256, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x7248, .f32⟩
  | .hbm, ⟨2, _⟩ => ⟨S8192x2048, .f32⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DsaVRefIdeal.lean ====
abbrev S8192x2048 : Shape := ⟨2, ![8192, 2048]⟩
abbrev S2048x7248 : Shape := ⟨2, ![2048, 7248]⟩
abbrev S8192x7248 : Shape := ⟨2, ![8192, 7248]⟩
abbrev S8192x6144 : Shape := ⟨2, ![8192, 6144]⟩
abbrev S2x4096x3x16x128 : Shape := ⟨5, ![2, 4096, 3, 16, 128]⟩
abbrev S2x4096x1x16x128 : Shape := ⟨5, ![2, 4096, 1, 16, 128]⟩
abbrev S2x4096x16x128 : Shape := ⟨4, ![2, 4096, 16, 128]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7248, .f32⟩
  | .hbm, ⟨2, _⟩ => ⟨S8192x2048, .f32⟩
  | .hbm, ⟨3, _⟩ => ⟨S8192x7248, .f32⟩
  | .hbm, ⟨4, _⟩ => ⟨S8192x6144, .f32⟩
  | .hbm, ⟨5, _⟩ => ⟨S2x4096x3x16x128, .f32⟩
  | .hbm, ⟨6, _⟩ => ⟨S2x4096x1x16x128, .f32⟩
  | .hbm, ⟨7, _⟩ => ⟨S2x4096x16x128, .f32⟩
  | .hbm, ⟨8, _⟩ => ⟨S8192x2048, .f32⟩
  | .hbm, ⟨9, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== DsaK.lean ====
abbrev S8192x2048 : Shape := ⟨2, ![8192, 2048]⟩
abbrev S2048x7248 : Shape := ⟨2, ![2048, 7248]⟩
abbrev S128 : Shape := ⟨1, ![128]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S1x4096x1x128 : Shape := ⟨4, ![1, 4096, 1, 128]⟩
abbrev S1x128 : Shape := ⟨2, ![1, 128]⟩
abbrev S1x1x1x128 : Shape := ⟨4, ![1, 1, 1, 128]⟩
abbrev S1x1x4x128 : Shape := ⟨4, ![1, 1, 4, 128]⟩
abbrev S1x512 : Shape := ⟨2, ![1, 512]⟩
abbrev S1024x2048 : Shape := ⟨2, ![1024, 2048]⟩
abbrev S2048x512 : Shape := ⟨2, ![2048, 512]⟩
abbrev S1024x128 : Shape := ⟨2, ![1024, 128]⟩
abbrev S1024x512 : Shape := ⟨2, ![1024, 512]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 45
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S2048x7248, .f32⟩
  | .hbm, ⟨2, _⟩ => ⟨S128, .f32⟩
  | .hbm, ⟨3, _⟩ => ⟨S4096, .i32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S4096, .f32⟩
  | .hbm, ⟨13, _⟩ => ⟨S4096x1, .f32⟩
  | .hbm, ⟨14, _⟩ => ⟨S1x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S_, .f32⟩
  | .hbm, ⟨21, _⟩ => ⟨S4096x96, .f32⟩
  | .hbm, ⟨22, _⟩ => ⟨S_, .f32⟩
  | .hbm, ⟨23, _⟩ => ⟨S4096x16, .f32⟩
  | .hbm, ⟨24, _⟩ => ⟨S_, .f32⟩
  | .hbm, ⟨25, _⟩ => ⟨S4096x96, .f32⟩
  | .hbm, ⟨26, _⟩ => ⟨S4096x128, .f32⟩
  | .hbm, ⟨27, _⟩ => ⟨S4096x128, .f32⟩
  | .hbm, ⟨28, _⟩ => ⟨S4096x16, .f32⟩
  | .hbm, ⟨29, _⟩ => ⟨S4096x128, .f32⟩
  | .hbm, ⟨30, _⟩ => ⟨S1x4096x1x128, .f32⟩
  | .hbm, ⟨31, _⟩ => ⟨S1x4096x1x128, .f32⟩
  | .hbm, ⟨32, _⟩ => ⟨S4096x128, .f32⟩
  | .hbm, ⟨33, _⟩ => ⟨S1x4096x1x128, .f32⟩
  | .hbm, ⟨34, _⟩ => ⟨S1x4096x1x128, .f32⟩
  | .hbm, ⟨35, _⟩ => ⟨S4096x128, .f32⟩
  | .hbm, ⟨36, _⟩ => ⟨S1x4096x1x128, .f32⟩
  | .hbm, ⟨37, _⟩ => ⟨S1x4096x1x128, .f32⟩
  | .hbm, ⟨38, _⟩ => ⟨S4096x128, .f32⟩
  | .hbm, ⟨39, _⟩ => ⟨S1x128, .f32⟩
  | .hbm, ⟨40, _⟩ => ⟨S1x1x1x128, .f32⟩
  | .hbm, ⟨41, _⟩ => ⟨S1x1x4x128, .f32⟩
  | .hbm, ⟨42, _⟩ => ⟨S1x512, .f32⟩
  | .hbm, ⟨43, _⟩ => ⟨S8192x2048, .f32⟩
  | .hbm, ⟨44, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x512, .f32⟩
  | .local _ .vmem, ⟨12, _⟩ => ⟨S1024x512, .f32⟩
  | .local _ .vmem, ⟨13, _⟩ => ⟨S1024x512, .bf16⟩
  | .local _ .vmem, ⟨14, _⟩ => ⟨S1024x512, .bf16⟩
  | .local _ .vmem, ⟨15, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35_0 : Ref sig .tc := ⟨.hbm, 43, rfl⟩
abbrev main_v35_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DsaKRefIdeal.lean ====
abbrev S8192x2048 : Shape := ⟨2, ![8192, 2048]⟩
abbrev S2048x7248 : Shape := ⟨2, ![2048, 7248]⟩
abbrev S128 : Shape := ⟨1, ![128]⟩
abbrev S8192x7248 : Shape := ⟨2, ![8192, 7248]⟩
abbrev S8192x6144 : Shape := ⟨2, ![8192, 6144]⟩
abbrev S2x4096x3x16x128 : Shape := ⟨5, ![2, 4096, 3, 16, 128]⟩
abbrev S2x4096x1x16x128 : Shape := ⟨5, ![2, 4096, 1, 16, 128]⟩
abbrev S2x4096x16x128 : Shape := ⟨4, ![2, 4096, 16, 128]⟩
abbrev S_ : Shape := ⟨0, ![]⟩
abbrev S2x4096x16 : Shape := ⟨3, ![2, 4096, 16]⟩
abbrev S2x4096x16x1 : Shape := ⟨4, ![2, 4096, 16, 1]⟩
abbrev S1x1x1x128 : Shape := ⟨4, ![1, 1, 1, 128]⟩
abbrev S4096 : Shape := ⟨1, ![4096]⟩
abbrev S4096x1 : Shape := ⟨2, ![4096, 1]⟩
abbrev S16 : Shape := ⟨1, ![16]⟩
abbrev S1x16 : Shape := ⟨2, ![1, 16]⟩
abbrev S4096x16 : Shape := ⟨2, ![4096, 16]⟩
abbrev S1x4096x1x16 : Shape := ⟨4, ![1, 4096, 1, 16]⟩
abbrev S2x4096x16x16 : Shape := ⟨4, ![2, 4096, 16, 16]⟩
abbrev S2x4096x16x96 : Shape := ⟨4, ![2, 4096, 16, 96]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7248, .f32⟩
  | .hbm, ⟨2, _⟩ => ⟨S128, .f32⟩
  | .hbm, ⟨3, _⟩ => ⟨S8192x2048, .f32⟩
  | .hbm, ⟨4, _⟩ => ⟨S8192x7248, .f32⟩
  | .hbm, ⟨5, _⟩ => ⟨S8192x6144, .f32⟩
  | .hbm, ⟨6, _⟩ => ⟨S2x4096x3x16x128, .f32⟩
  | .hbm, ⟨7, _⟩ => ⟨S2x4096x1x16x128, .f32⟩
  | .hbm, ⟨8, _⟩ => ⟨S2x4096x16x128, .f32⟩
  | .hbm, ⟨9, _⟩ => ⟨S2x4096x16x128, .f32⟩
  | .hbm, ⟨10, _⟩ => ⟨S_, .f32⟩
  | .hbm, ⟨11, _⟩ => ⟨S2x4096x16, .f32⟩
  | .hbm, ⟨12, _⟩ => ⟨S2x4096x16x1, .f32⟩
  | .hbm, ⟨13, _⟩ => ⟨S_, .f32⟩
  | .hbm, ⟨14, _⟩ => ⟨S2x4096x16x1, .f32⟩
  | .hbm, ⟨15, _⟩ => ⟨S2x4096x16x1, .f32⟩
  | .hbm, ⟨16, _⟩ => ⟨S_, .f32⟩
  | .hbm, ⟨17, _⟩ => ⟨S2x4096x16x1, .f32⟩
  | .hbm, ⟨18, _⟩ => ⟨S2x4096x16x1, .f32⟩
  | .hbm, ⟨19, _⟩ => ⟨S2x4096x16x1, .f32⟩
  | .hbm, ⟨20, _⟩ => ⟨S2x4096x16x128, .f32⟩
  | .hbm, ⟨21, _⟩ => ⟨S2x4096x16x128, .f32⟩
  | .hbm, ⟨22, _⟩ => ⟨S1x1x1x128, .f32⟩
  | .hbm, ⟨23, _⟩ => ⟨S2x4096x16x128, .f32⟩
  | .hbm, ⟨24, _⟩ => ⟨S2x4096x16x128, .f32⟩
  | .hbm, ⟨25, _⟩ => ⟨S4096, .f32⟩
  | .hbm, ⟨26, _⟩ => ⟨S4096x1, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S1x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S1x4096x1x16, .f32⟩
  | .hbm, ⟨41, _⟩ => ⟨S4096x16, .f32⟩
  | .hbm, ⟨42, _⟩ => ⟨S1x4096x1x16, .f32⟩
  | .hbm, ⟨43, _⟩ => ⟨S2x4096x16x16, .f32⟩
  | .hbm, ⟨44, _⟩ => ⟨S2x4096x16x16, .f32⟩
  | .hbm, ⟨45, _⟩ => ⟨S2x4096x16x16, .f32⟩
  | .hbm, ⟨46, _⟩ => ⟨S2x4096x16x16, .f32⟩
  | .hbm, ⟨47, _⟩ => ⟨S2x4096x16x16, .f32⟩
  | .hbm, ⟨48, _⟩ => ⟨S2x4096x16x16, .f32⟩
  | .hbm, ⟨49, _⟩ => ⟨S2x4096x16x16, .f32⟩
  | .hbm, ⟨50, _⟩ => ⟨S2x4096x16x16, .f32⟩
  | .hbm, ⟨51, _⟩ => ⟨S2x4096x16x16, .f32⟩
  | .hbm, ⟨52, _⟩ => ⟨S2x4096x16x16, .f32⟩
  | .hbm, ⟨53, _⟩ => ⟨S2x4096x16x16, .f32⟩
  | .hbm, ⟨54, _⟩ => ⟨S2x4096x16x16, .f32⟩
  | .hbm, ⟨55, _⟩ => ⟨S2x4096x16x96, .f32⟩
  | .hbm, ⟨56, _⟩ => ⟨S2x4096x16x128, .f32⟩
  | .hbm, ⟨57, _⟩ => ⟨S8192x2048, .f32⟩
  | .hbm, ⟨58, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩

abbrev nD : Nat := 1
abbrev τ : Topo := Topo.v7x

variable {F : FTy → Type} [FloatOps F]
-- ==== DsaQ.lean ====
abbrev S8192x2048 : Shape := ⟨2, ![8192, 2048]⟩
abbrev S2048x7248 : Shape := ⟨2, ![2048, 7248]⟩
abbrev S128 : Shape := ⟨1, ![128]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S1x4096x1x128 : Shape := ⟨4, ![1, 4096, 1, 128]⟩
abbrev S1x128 : Shape := ⟨2, ![1, 128]⟩
abbrev S1x1x1x128 : Shape := ⟨4, ![1, 1, 1, 128]⟩
abbrev S1x1x4x128 : Shape := ⟨4, ![1, 1, 4, 128]⟩
abbrev S1x512 : Shape := ⟨2, ![1, 512]⟩
abbrev S1024x2048 : Shape := ⟨2, ![1024, 2048]⟩
abbrev S2048x512 : Shape := ⟨2, ![2048, 512]⟩
abbrev S1024x128 : Shape := ⟨2, ![1024, 128]⟩
abbrev S1024x512 : Shape := ⟨2, ![1024, 512]⟩
abbrev S256x2048 : Shape := ⟨2, ![256, 2048]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 44
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x7248, .f32⟩
  | .hbm, ⟨2, _⟩ => ⟨S128, .f32⟩
  | .hbm, ⟨3, _⟩ => ⟨S4096, .i32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S4096, .f32⟩
  | .hbm, ⟨13, _⟩ => ⟨S4096x1, .f32⟩
  | .hbm, ⟨14, _⟩ => ⟨S1x16, .f32⟩
  | .hbm, ⟨15, _⟩ => ⟨S4096x16, .f32⟩
  | .hbm, ⟨16, _⟩ => ⟨S4096x16, .f32⟩
  | .hbm, ⟨17, _⟩ => ⟨S4096x16, .f32⟩
  | .hbm, ⟨18, _⟩ => ⟨S4096x16, .f32⟩
  | .hbm, ⟨19, _⟩ => ⟨S4096x16, .f32⟩
  | .hbm, ⟨20, _⟩ => ⟨S_, .f32⟩
  | .hbm, ⟨21, _⟩ => ⟨S4096x96, .f32⟩
  | .hbm, ⟨22, _⟩ => ⟨S_, .f32⟩
  | .hbm, ⟨23, _⟩ => ⟨S4096x16, .f32⟩
  | .hbm, ⟨24, _⟩ => ⟨S_, .f32⟩
  | .hbm, ⟨25, _⟩ => ⟨S4096x96, .f32⟩
  | .hbm, ⟨26, _⟩ => ⟨S4096x128, .f32⟩
  | .hbm, ⟨27, _⟩ => ⟨S4096x128, .f32⟩
  | .hbm, ⟨28, _⟩ => ⟨S4096x16, .f32⟩
  | .hbm, ⟨29, _⟩ => ⟨S4096x128, .f32⟩
  | .hbm, ⟨30, _⟩ => ⟨S1x4096x1x128, .f32⟩
  | .hbm, ⟨31, _⟩ => ⟨S1x4096x1x128, .f32⟩
  | .hbm, ⟨32, _⟩ => ⟨S4096x128, .f32⟩
  | .hbm, ⟨33, _⟩ => ⟨S1x4096x1x128, .f32⟩
  | .hbm, ⟨34, _⟩ => ⟨S1x4096x1x128, .f32⟩
  | .hbm, ⟨35, _⟩ => ⟨S4096x128, .f32⟩
  | .hbm, ⟨36, _⟩ => ⟨S1x4096x1x128, .f32⟩
  | .hbm, ⟨37, _⟩ => ⟨S1x4096x1x128, .f32⟩
  | .hbm, ⟨38, _⟩ => ⟨S4096x128, .f32⟩
  | .hbm, ⟨39, _⟩ => ⟨S1x128, .f32⟩
  | .hbm, ⟨40, _⟩ => ⟨S1x1x1x128, .f32⟩
  | .hbm, ⟨41, _⟩ => ⟨S1x1x4x128, .f32⟩
  | .hbm, ⟨42, _⟩ => ⟨S1x512, .f32⟩
  | .hbm, ⟨43, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x512, .bf16⟩
  | .local _ .vmem, ⟨12, _⟩ => ⟨S1024x512, .bf16⟩
  | .local _ .vmem, ⟨13, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DsaQRefIdeal.lean ====
abbrev S8192x2048 : Shape := ⟨2, ![8192, 2048]⟩
abbrev S2048x7248 : Shape := ⟨2, ![2048, 7248]⟩
abbrev S128 : Shape := ⟨1, ![128]⟩
abbrev S8192x7248 : Shape := ⟨2, ![8192, 7248]⟩
abbrev S8192x6144 : Shape := ⟨2, ![8192, 6144]⟩
abbrev S2x4096x3x16x128 : Shape := ⟨5, ![2, 4096, 3, 16, 128]⟩
abbrev S2x4096x1x16x128 : Shape := ⟨5, ![2, 4096, 1, 16, 128]⟩
abbrev S2x4096x16x128 : Shape := ⟨4, ![2, 4096, 16, 128]⟩
abbrev S_ : Shape := ⟨0, ![]⟩
abbrev S2x4096x16 : Shape := ⟨3, ![2, 4096, 16]⟩
abbrev S2x4096x16x1 : Shape := ⟨4, ![2, 4096, 16, 1]⟩
abbrev S1x1x1x128 : Shape := ⟨4, ![1, 1, 1, 128]⟩
abbrev S4096 : Shape := ⟨1, ![4096]⟩
abbrev S4096x1 : Shape := ⟨2, ![4096, 1]⟩
abbrev S16 : Shape := ⟨1, ![16]⟩
abbrev S1x16 : Shape := ⟨2, ![1, 16]⟩
abbrev S4096x16 : Shape := ⟨2, ![4096, 16]⟩
abbrev S1x4096x1x16 : Shape := ⟨4, ![1, 4096, 1, 16]⟩
abbrev S2x4096x16x16 : Shape := ⟨4, ![2, 4096, 16, 16]⟩
abbrev S2x4096x16x96 : Shape := ⟨4, ![2, 4096, 16, 96]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7248, .f32⟩
  | .hbm, ⟨2, _⟩ => ⟨S128, .f32⟩
  | .hbm, ⟨3, _⟩ => ⟨S8192x2048, .f32⟩
  | .hbm, ⟨4, _⟩ => ⟨S8192x7248, .f32⟩
  | .hbm, ⟨5, _⟩ => ⟨S8192x6144, .f32⟩
  | .hbm, ⟨6, _⟩ => ⟨S2x4096x3x16x128, .f32⟩
  | .hbm, ⟨7, _⟩ => ⟨S2x4096x1x16x128, .f32⟩
  | .hbm, ⟨8, _⟩ => ⟨S2x4096x16x128, .f32⟩
  | .hbm, ⟨9, _⟩ => ⟨S2x4096x16x128, .f32⟩
  | .hbm, ⟨10, _⟩ => ⟨S_, .f32⟩
  | .hbm, ⟨11, _⟩ => ⟨S2x4096x16, .f32⟩
  | .hbm, ⟨12, _⟩ => ⟨S2x4096x16x1, .f32⟩
  | .hbm, ⟨13, _⟩ => ⟨S_, .f32⟩
  | .hbm, ⟨14, _⟩ => ⟨S2x4096x16x1, .f32⟩
  | .hbm, ⟨15, _⟩ => ⟨S2x4096x16x1, .f32⟩
  | .hbm, ⟨16, _⟩ => ⟨S_, .f32⟩
  | .hbm, ⟨17, _⟩ => ⟨S2x4096x16x1, .f32⟩
  | .hbm, ⟨18, _⟩ => ⟨S2x4096x16x1, .f32⟩
  | .hbm, ⟨19, _⟩ => ⟨S2x4096x16x1, .f32⟩
  | .hbm, ⟨20, _⟩ => ⟨S2x4096x16x128, .f32⟩
  | .hbm, ⟨21, _⟩ => ⟨S2x4096x16x128, .f32⟩
  | .hbm, ⟨22, _⟩ => ⟨S1x1x1x128, .f32⟩
  | .hbm, ⟨23, _⟩ => ⟨S2x4096x16x128, .f32⟩
  | .hbm, ⟨24, _⟩ => ⟨S2x4096x16x128, .f32⟩
  | .hbm, ⟨25, _⟩ => ⟨S4096, .f32⟩
  | .hbm, ⟨26, _⟩ => ⟨S4096x1, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S1x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S1x4096x1x16, .f32⟩
  | .hbm, ⟨41, _⟩ => ⟨S4096x16, .f32⟩
  | .hbm, ⟨42, _⟩ => ⟨S1x4096x1x16, .f32⟩
  | .hbm, ⟨43, _⟩ => ⟨S2x4096x16x16, .f32⟩
  | .hbm, ⟨44, _⟩ => ⟨S2x4096x16x16, .f32⟩
  | .hbm, ⟨45, _⟩ => ⟨S2x4096x16x16, .f32⟩
  | .hbm, ⟨46, _⟩ => ⟨S2x4096x16x16, .f32⟩
  | .hbm, ⟨47, _⟩ => ⟨S2x4096x16x16, .f32⟩
  | .hbm, ⟨48, _⟩ => ⟨S2x4096x16x16, .f32⟩
  | .hbm, ⟨49, _⟩ => ⟨S2x4096x16x16, .f32⟩
  | .hbm, ⟨50, _⟩ => ⟨S2x4096x16x16, .f32⟩
  | .hbm, ⟨51, _⟩ => ⟨S2x4096x16x16, .f32⟩
  | .hbm, ⟨52, _⟩ => ⟨S2x4096x16x16, .f32⟩
  | .hbm, ⟨53, _⟩ => ⟨S2x4096x16x16, .f32⟩
  | .hbm, ⟨54, _⟩ => ⟨S2x4096x16x16, .f32⟩
  | .hbm, ⟨55, _⟩ => ⟨S2x4096x16x96, .f32⟩
  | .hbm, ⟨56, _⟩ => ⟨S2x4096x16x128, .f32⟩
  | .hbm, ⟨57, _⟩ => ⟨S8192x2048, .f32⟩
  | .hbm, ⟨58, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩

abbrev nD : Nat := 1
abbrev τ : Topo := Topo.v7x

variable {F : FTy → Type} [FloatOps F]
-- ==== Norm.lean ====
abbrev S32x2048 : Shape := ⟨2, ![32, 2048]⟩
abbrev S2048 : Shape := ⟨1, ![2048]⟩
abbrev S1x2048 : Shape := ⟨2, ![1, 2048]⟩
abbrev S32 : Shape := ⟨1, ![32]⟩
abbrev S32x1 : Shape := ⟨2, ![32, 1]⟩

abbrev nBuf : Space → Nat
  | .hbm => 4
  | .vmem => 3
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S1x2048, .f32⟩
  | .hbm, ⟨3, _⟩ => ⟨S32x2048, .f32⟩
  | .local _ .vmem, ⟨0, _⟩ => ⟨S32x2048, .f32⟩
  | .local _ .vmem, ⟨1, _⟩ => ⟨S1x2048, .f32⟩
  | .local _ .vmem, ⟨2, _⟩ => ⟨S32x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormRefIdeal.lean ====
abbrev S32x2048 : Shape := ⟨2, ![32, 2048]⟩
abbrev S2048 : Shape := ⟨1, ![2048]⟩
abbrev S_ : Shape := ⟨0, ![]⟩
abbrev S32 : Shape := ⟨1, ![32]⟩
abbrev S32x1 : Shape := ⟨2, ![32, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S32x2048, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S_, .f32⟩
  | .hbm, ⟨7, _⟩ => ⟨S32x1, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1, .f32⟩
  | .hbm, ⟨13, _⟩ => ⟨S32x2048, .f32⟩
  | .hbm, ⟨14, _⟩ => ⟨S32x2048, .f32⟩
  | .hbm, ⟨15, _⟩ => ⟨S1x2048, .f32⟩
  | .hbm, ⟨16, _⟩ => ⟨S32x2048, .f32⟩
  | .hbm, ⟨17, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== DownS.lean ====
abbrev S32x5632 : Shape := ⟨2, ![32, 5632]⟩
abbrev S5632x2048 : Shape := ⟨2, ![5632, 2048]⟩
abbrev S32x2048 : Shape := ⟨2, ![32, 2048]⟩
abbrev S5632x512 : Shape := ⟨2, ![5632, 512]⟩
abbrev S32x512 : Shape := ⟨2, ![32, 512]⟩

abbrev nBuf : Space → Nat
  | .hbm => 4
  | .vmem => 8
  | .smem => 0
  | _ => 0

abbrev bufTy : (tb : Table) → Fin (tcTables nBuf tb) → BufTy
  | .hbm, ⟨0, _⟩ => ⟨S32x5632, .bf16⟩
  | .hbm, ⟨1, _⟩ => ⟨S5632x2048, .f32⟩
  | .hbm, ⟨2, _⟩ => ⟨S32x2048, .f32⟩
  | .hbm, ⟨3, _⟩ => ⟨S32x2048, .f32⟩
  | .local _ .vmem, ⟨0, _⟩ => ⟨S32x5632, .bf16⟩
  | .local _ .vmem, ⟨1, _⟩ => ⟨S5632x512, .f32⟩
  | .local _ .vmem, ⟨2, _⟩ => ⟨S5632x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S5632x512, .bf16⟩
  | _, _ => ⟨S32x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownSIdeal.lean ====
abbrev S32x5632 : Shape := ⟨2, ![32, 5632]⟩
abbrev S5632x2048 : Shape := ⟨2, ![5632, 2048]⟩
abbrev S32x2048 : Shape := ⟨2, ![32, 2048]⟩
abbrev S5632x512 : Shape := ⟨2, ![5632, 512]⟩
abbrev S32x512 : Shape := ⟨2, ![32, 512]⟩

abbrev nBuf : Space → Nat
  | .hbm => 4
  | .vmem => 8
  | .smem => 0
  | _ => 0

abbrev bufTy : (tb : Table) → Fin (tcTables nBuf tb) → BufTy
  | .hbm, ⟨0, _⟩ => ⟨S32x5632, .bf16⟩
  | .hbm, ⟨1, _⟩ => ⟨S5632x2048, .f32⟩
  | .hbm, ⟨2, _⟩ => ⟨S32x2048, .f32⟩
  | .hbm, ⟨3, _⟩ => ⟨S32x2048, .f32⟩
  | .local _ .vmem, ⟨0, _⟩ => ⟨S32x5632, .bf16⟩
  | .local _ .vmem, ⟨1, _⟩ => ⟨S5632x512, .f32⟩
  | .local _ .vmem, ⟨2, _⟩ => ⟨S5632x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S5632x512, .bf16⟩
  | _, _ => ⟨S32x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownSRefIdeal.lean ====
abbrev S32x5632 : Shape := ⟨2, ![32, 5632]⟩
abbrev S5632x2048 : Shape := ⟨2, ![5632, 2048]⟩
abbrev S32x2048 : Shape := ⟨2, ![32, 2048]⟩

abbrev nBuf : Space → Nat
  | .hbm => 6
  | .vmem => 0
  | .smem => 0
  | _ => 0

abbrev bufTy : (tb : Table) → Fin (tcTables nBuf tb) → BufTy
  | .hbm, ⟨0, _⟩ => ⟨S32x5632, .bf16⟩
  | .hbm, ⟨1, _⟩ => ⟨S5632x2048, .f32⟩
  | .hbm, ⟨2, _⟩ => ⟨S32x2048, .f32⟩
  | .hbm, ⟨3, _⟩ => ⟨S32x5632, .f32⟩
  | .hbm, ⟨4, _⟩ => ⟨S32x2048, .f32⟩
  | .hbm, ⟨5, _⟩ => ⟨S32x2048, .f32⟩
  | _, _ => ⟨S32x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ProjVS.lean ====
abbrev S32x2048 : Shape := ⟨2, ![32, 2048]⟩
abbrev S2048x6144 : Shape := ⟨2, ![2048, 6144]⟩
abbrev S2048x512 : Shape := ⟨2, ![2048, 512]⟩
abbrev S32x512 : Shape := ⟨2, ![32, 512]⟩
abbrev S32x128 : Shape := ⟨2, ![32, 128]⟩

abbrev nBuf : Space → Nat
  | .hbm => 4
  | .vmem => 8
  | .smem => 0
  | _ => 0

abbrev bufTy : (tb : Table) → Fin (tcTables nBuf tb) → BufTy
  | .hbm, ⟨0, _⟩ => ⟨S32x2048, .bf16⟩
  | .hbm, ⟨1, _⟩ => ⟨S2048x6144, .f32⟩
  | .hbm, ⟨2, _⟩ => ⟨S32x2048, .f32⟩
  | .hbm, ⟨3, _⟩ => ⟨S32x2048, .bf16⟩
  | .local _ .vmem, ⟨0, _⟩ => ⟨S32x2048, .bf16⟩
  | .local _ .vmem, ⟨1, _⟩ => ⟨S2048x512, .f32⟩
  | .local _ .vmem, ⟨2, _⟩ => ⟨S2048x512, .f32⟩
  | .local _ .vmem, ⟨3, _⟩ => ⟨S32x512, .f32⟩
  | .local _ .vmem, ⟨4, _⟩ => ⟨S32x512, .f32⟩
  | .local _ .vmem, ⟨5, _⟩ => ⟨S32x512, .bf16⟩
  | .local _ .vmem, ⟨6, _⟩ => ⟨S32x512, .bf16⟩
  | .local _ .vmem, ⟨7, _⟩ => ⟨S2048x512, .bf16⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjVSRefIdeal.lean ====
abbrev S32x2048 : Shape := ⟨2, ![32, 2048]⟩
abbrev S2048x6144 : Shape := ⟨2, ![2048, 6144]⟩
abbrev S32x6144 : Shape := ⟨2, ![32, 6144]⟩
abbrev S32x3x16x128 : Shape := ⟨4, ![32, 3, 16, 128]⟩
abbrev S32x1x16x128 : Shape := ⟨4, ![32, 1, 16, 128]⟩
abbrev S32x16x128 : Shape := ⟨3, ![32, 16, 128]⟩

abbrev nBuf : Space → Nat
  | .hbm => 9
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S2048x6144, .f32⟩
  | .hbm, ⟨2, _⟩ => ⟨S32x2048, .f32⟩
  | .hbm, ⟨3, _⟩ => ⟨S32x6144, .f32⟩
  | .hbm, ⟨4, _⟩ => ⟨S32x3x16x128, .f32⟩
  | .hbm, ⟨5, _⟩ => ⟨S32x1x16x128, .f32⟩
  | .hbm, ⟨6, _⟩ => ⟨S32x16x128, .f32⟩
  | .hbm, ⟨7, _⟩ => ⟨S32x2048, .f32⟩
  | .hbm, ⟨8, _⟩ => ⟨S32x2048, .bf16⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== ProjKS.lean ====
abbrev S32x2048 : Shape := ⟨2, ![32, 2048]⟩
abbrev S2048x6144 : Shape := ⟨2, ![2048, 6144]⟩
abbrev S128 : Shape := ⟨1, ![128]⟩
abbrev S1x128 : Shape := ⟨2, ![1, 128]⟩
abbrev S1x1x1x128 : Shape := ⟨4, ![1, 1, 1, 128]⟩
abbrev S1x1x4x128 : Shape := ⟨4, ![1, 1, 4, 128]⟩
abbrev S1x512 : Shape := ⟨2, ![1, 512]⟩
abbrev S2048x512 : Shape := ⟨2, ![2048, 512]⟩
abbrev S32x512 : Shape := ⟨2, ![32, 512]⟩
abbrev S32x128 : Shape := ⟨2, ![32, 128]⟩
abbrev S32 : Shape := ⟨1, ![32]⟩
abbrev S32x1 : Shape := ⟨2, ![32, 1]⟩

abbrev nBuf : Space → Nat
  | .hbm => 9
  | .vmem => 9
  | .smem => 0
  | _ => 0

abbrev bufTy : (tb : Table) → Fin (tcTables nBuf tb) → BufTy
  | .hbm, ⟨0, _⟩ => ⟨S32x2048, .bf16⟩
  | .hbm, ⟨1, _⟩ => ⟨S2048x6144, .f32⟩
  | .hbm, ⟨2, _⟩ => ⟨S128, .f32⟩
  | .hbm, ⟨3, _⟩ => ⟨S1x128, .f32⟩
  | .hbm, ⟨4, _⟩ => ⟨S1x1x1x128, .f32⟩
  | .hbm, ⟨5, _⟩ => ⟨S1x1x4x128, .f32⟩
  | .hbm, ⟨6, _⟩ => ⟨S1x512, .f32⟩
  | .hbm, ⟨7, _⟩ => ⟨S32x2048, .f32⟩
  | .hbm, ⟨8, _⟩ => ⟨S32x2048, .bf16⟩
  | .local _ .vmem, ⟨0, _⟩ => ⟨S32x2048, .bf16⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S32x512, .f32⟩
  | .local _ .vmem, ⟨5, _⟩ => ⟨S32x512, .f32⟩
  | .local _ .vmem, ⟨6, _⟩ => ⟨S32x512, .bf16⟩
  | .local _ .vmem, ⟨7, _⟩ => ⟨S32x512, .bf16⟩
  | .local _ .vmem, ⟨8, _⟩ => ⟨S2048x512, .bf16⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjKSRefIdeal.lean ====
abbrev S32x2048 : Shape := ⟨2, ![32, 2048]⟩
abbrev S2048x6144 : Shape := ⟨2, ![2048, 6144]⟩
abbrev S128 : Shape := ⟨1, ![128]⟩
abbrev S32x6144 : Shape := ⟨2, ![32, 6144]⟩
abbrev S32x3x16x128 : Shape := ⟨4, ![32, 3, 16, 128]⟩
abbrev S32x1x16x128 : Shape := ⟨4, ![32, 1, 16, 128]⟩
abbrev S32x16x128 : Shape := ⟨3, ![32, 16, 128]⟩
abbrev S_ : Shape := ⟨0, ![]⟩
abbrev S32x16 : Shape := ⟨2, ![32, 16]⟩
abbrev S32x16x1 : Shape := ⟨3, ![32, 16, 1]⟩
abbrev S1x1x128 : Shape := ⟨3, ![1, 1, 128]⟩

abbrev nBuf : Space → Nat
  | .hbm => 26
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S2048x6144, .f32⟩
  | .hbm, ⟨2, _⟩ => ⟨S128, .f32⟩
  | .hbm, ⟨3, _⟩ => ⟨S32x2048, .f32⟩
  | .hbm, ⟨4, _⟩ => ⟨S32x6144, .f32⟩
  | .hbm, ⟨5, _⟩ => ⟨S32x3x16x128, .f32⟩
  | .hbm, ⟨6, _⟩ => ⟨S32x1x16x128, .f32⟩
  | .hbm, ⟨7, _⟩ => ⟨S32x16x128, .f32⟩
  | .hbm, ⟨8, _⟩ => ⟨S32x16x128, .f32⟩
  | .hbm, ⟨9, _⟩ => ⟨S_, .f32⟩
  | .hbm, ⟨10, _⟩ => ⟨S32x16, .f32⟩
  | .hbm, ⟨11, _⟩ => ⟨S32x16x1, .f32⟩
  | .hbm, ⟨12, _⟩ => ⟨S_, .f32⟩
  | .hbm, ⟨13, _⟩ => ⟨S32x16x1, .f32⟩
  | .hbm, ⟨14, _⟩ => ⟨S32x16x1, .f32⟩
  | .hbm, ⟨15, _⟩ => ⟨S_, .f32⟩
  | .hbm, ⟨16, _⟩ => ⟨S32x16x1, .f32⟩
  | .hbm, ⟨17, _⟩ => ⟨S32x16x1, .f32⟩
  | .hbm, ⟨18, _⟩ => ⟨S32x16x1, .f32⟩
  | .hbm, ⟨19, _⟩ => ⟨S32x16x128, .f32⟩
  | .hbm, ⟨20, _⟩ => ⟨S32x16x128, .f32⟩
  | .hbm, ⟨21, _⟩ => ⟨S1x1x128, .f32⟩
  | .hbm, ⟨22, _⟩ => ⟨S32x16x128, .f32⟩
  | .hbm, ⟨23, _⟩ => ⟨S32x16x128, .f32⟩
  | .hbm, ⟨24, _⟩ => ⟨S32x2048, .f32⟩
  | .hbm, ⟨25, _⟩ => ⟨S32x2048, .bf16⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== DsaVS.lean ====
abbrev S32x2048 : Shape := ⟨2, ![32, 2048]⟩
abbrev S2048x7248 : Shape := ⟨2, ![2048, 7248]⟩
abbrev S2048x512 : Shape := ⟨2, ![2048, 512]⟩
abbrev S32x512 : Shape := ⟨2, ![32, 512]⟩
abbrev S32x128 : Shape := ⟨2, ![32, 128]⟩

abbrev nBuf : Space → Nat
  | .hbm => 4
  | .vmem => 8
  | .smem => 0
  | _ => 0

abbrev bufTy : (tb : Table) → Fin (tcTables nBuf tb) → BufTy
  | .hbm, ⟨0, _⟩ => ⟨S32x2048, .bf16⟩
  | .hbm, ⟨1, _⟩ => ⟨S2048x7248, .f32⟩
  | .hbm, ⟨2, _⟩ => ⟨S32x2048, .f32⟩
  | .hbm, ⟨3, _⟩ => ⟨S32x2048, .bf16⟩
  | .local _ .vmem, ⟨0, _⟩ => ⟨S32x2048, .bf16⟩
  | .local _ .vmem, ⟨1, _⟩ => ⟨S2048x512, .f32⟩
  | .local _ .vmem, ⟨2, _⟩ => ⟨S2048x512, .f32⟩
  | .local _ .vmem, ⟨3, _⟩ => ⟨S32x512, .f32⟩
  | .local _ .vmem, ⟨4, _⟩ => ⟨S32x512, .f32⟩
  | .local _ .vmem, ⟨5, _⟩ => ⟨S32x512, .bf16⟩
  | .local _ .vmem, ⟨6, _⟩ => ⟨S32x512, .bf16⟩
  | .local _ .vmem, ⟨7, _⟩ => ⟨S2048x512, .bf16⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DsaVSRefIdeal.lean ====
abbrev S32x2048 : Shape := ⟨2, ![32, 2048]⟩
abbrev S2048x7248 : Shape := ⟨2, ![2048, 7248]⟩
abbrev S32x7248 : Shape := ⟨2, ![32, 7248]⟩
abbrev S32x6144 : Shape := ⟨2, ![32, 6144]⟩
abbrev S8x4x3x16x128 : Shape := ⟨5, ![8, 4, 3, 16, 128]⟩
abbrev S8x4x1x16x128 : Shape := ⟨5, ![8, 4, 1, 16, 128]⟩
abbrev S8x4x16x128 : Shape := ⟨4, ![8, 4, 16, 128]⟩

abbrev nBuf : Space → Nat
  | .hbm => 10
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S2048x7248, .f32⟩
  | .hbm, ⟨2, _⟩ => ⟨S32x2048, .f32⟩
  | .hbm, ⟨3, _⟩ => ⟨S32x7248, .f32⟩
  | .hbm, ⟨4, _⟩ => ⟨S32x6144, .f32⟩
  | .hbm, ⟨5, _⟩ => ⟨S8x4x3x16x128, .f32⟩
  | .hbm, ⟨6, _⟩ => ⟨S8x4x1x16x128, .f32⟩
  | .hbm, ⟨7, _⟩ => ⟨S8x4x16x128, .f32⟩
  | .hbm, ⟨8, _⟩ => ⟨S32x2048, .f32⟩
  | .hbm, ⟨9, _⟩ => ⟨S32x2048, .bf16⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== DsaKS.lean ====
abbrev S32x2048 : Shape := ⟨2, ![32, 2048]⟩
abbrev S2048x7248 : Shape := ⟨2, ![2048, 7248]⟩
abbrev S128 : Shape := ⟨1, ![128]⟩
abbrev S4 : Shape := ⟨1, ![4]⟩
abbrev S_ : Shape := ⟨0, ![]⟩
abbrev S1x4 : Shape := ⟨2, ![1, 4]⟩
abbrev S8x4 : Shape := ⟨2, ![8, 4]⟩
abbrev S32 : Shape := ⟨1, ![32]⟩
abbrev S16 : Shape := ⟨1, ![16]⟩
abbrev S32x1 : Shape := ⟨2, ![32, 1]⟩
abbrev S1x16 : Shape := ⟨2, ![1, 16]⟩
abbrev S32x16 : Shape := ⟨2, ![32, 16]⟩
abbrev S32x96 : Shape := ⟨2, ![32, 96]⟩
abbrev S32x128 : Shape := ⟨2, ![32, 128]⟩
abbrev S1x32x1x128 : Shape := ⟨4, ![1, 32, 1, 128]⟩
abbrev S1x128 : Shape := ⟨2, ![1, 128]⟩
abbrev S1x1x1x128 : Shape := ⟨4, ![1, 1, 1, 128]⟩
abbrev S1x1x4x128 : Shape := ⟨4, ![1, 1, 4, 128]⟩
abbrev S1x512 : Shape := ⟨2, ![1, 512]⟩
abbrev S2048x512 : Shape := ⟨2, ![2048, 512]⟩
abbrev S32x512 : Shape := ⟨2, ![32, 512]⟩

abbrev nBuf : Space → Nat
  | .hbm => 51
  | .vmem => 12
  | .smem => 0
  | _ => 0

abbrev bufTy : (tb : Table) → Fin (tcTables nBuf tb) → BufTy
  | .hbm, ⟨0, _⟩ => ⟨S32x2048, .bf16⟩
  | .hbm, ⟨1, _⟩ => ⟨S2048x7248, .f32⟩
  | .hbm, ⟨2, _⟩ => ⟨S128, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S1x4, .i32⟩
  | .hbm, ⟨8, _⟩ => ⟨S8x4, .i32⟩
  | .hbm, ⟨9, _⟩ => ⟨S32, .i32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S32, .f32⟩
  | .hbm, ⟨19, _⟩ => ⟨S32x1, .f32⟩
  | .hbm, ⟨20, _⟩ => ⟨S1x16, .f32⟩
  | .hbm, ⟨21, _⟩ => ⟨S32x16, .f32⟩
  | .hbm, ⟨22, _⟩ => ⟨S32x16, .f32⟩
  | .hbm, ⟨23, _⟩ => ⟨S32x16, .f32⟩
  | .hbm, ⟨24, _⟩ => ⟨S32x16, .f32⟩
  | .hbm, ⟨25, _⟩ => ⟨S32x16, .f32⟩
  | .hbm, ⟨26, _⟩ => ⟨S_, .f32⟩
  | .hbm, ⟨27, _⟩ => ⟨S32x96, .f32⟩
  | .hbm, ⟨28, _⟩ => ⟨S_, .f32⟩
  | .hbm, ⟨29, _⟩ => ⟨S32x16, .f32⟩
  | .hbm, ⟨30, _⟩ => ⟨S_, .f32⟩
  | .hbm, ⟨31, _⟩ => ⟨S32x96, .f32⟩
  | .hbm, ⟨32, _⟩ => ⟨S32x128, .f32⟩
  | .hbm, ⟨33, _⟩ => ⟨S32x128, .f32⟩
  | .hbm, ⟨34, _⟩ => ⟨S32x16, .f32⟩
  | .hbm, ⟨35, _⟩ => ⟨S32x128, .f32⟩
  | .hbm, ⟨36, _⟩ => ⟨S1x32x1x128, .f32⟩
  | .hbm, ⟨37, _⟩ => ⟨S1x32x1x128, .f32⟩
  | .hbm, ⟨38, _⟩ => ⟨S32x128, .f32⟩
  | .hbm, ⟨39, _⟩ => ⟨S1x32x1x128, .f32⟩
  | .hbm, ⟨40, _⟩ => ⟨S1x32x1x128, .f32⟩
  | .hbm, ⟨41, _⟩ => ⟨S32x128, .f32⟩
  | .hbm, ⟨42, _⟩ => ⟨S1x32x1x128, .f32⟩
  | .hbm, ⟨43, _⟩ => ⟨S1x32x1x128, .f32⟩
  | .hbm, ⟨44, _⟩ => ⟨S32x128, .f32⟩
  | .hbm, ⟨45, _⟩ => ⟨S1x128, .f32⟩
  | .hbm, ⟨46, _⟩ => ⟨S1x1x1x128, .f32⟩
  | .hbm, ⟨47, _⟩ => ⟨S1x1x4x128, .f32⟩
  | .hbm, ⟨48, _⟩ => ⟨S1x512, .f32⟩
  | .hbm, ⟨49, _⟩ => ⟨S32x2048, .f32⟩
  | .hbm, ⟨50, _⟩ => ⟨S32x2048, .bf16⟩
  | .local _ .vmem, ⟨0, _⟩ => ⟨S32x2048, .bf16⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x512, .f32⟩
  | .local _ .vmem, ⟨8, _⟩ => ⟨S32x512, .f32⟩
  | .local _ .vmem, ⟨9, _⟩ => ⟨S32x512, .bf16⟩
  | .local _ .vmem, ⟨10, _⟩ => ⟨S32x512, .bf16⟩
  | .local _ .vmem, ⟨11, _⟩ => ⟨S2048x512, .bf16⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40_0 : Ref sig .tc := ⟨.hbm, 49, rfl⟩
abbrev main_v40_1 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DsaKSRefIdeal.lean ====
abbrev S32x2048 : Shape := ⟨2, ![32, 2048]⟩
abbrev S2048x7248 : Shape := ⟨2, ![2048, 7248]⟩
abbrev S128 : Shape := ⟨1, ![128]⟩
abbrev S4 : Shape := ⟨1, ![4]⟩
abbrev S_ : Shape := ⟨0, ![]⟩
abbrev S32x7248 : Shape := ⟨2, ![32, 7248]⟩
abbrev S32x6144 : Shape := ⟨2, ![32, 6144]⟩
abbrev S8x4x3x16x128 : Shape := ⟨5, ![8, 4, 3, 16, 128]⟩
abbrev S8x4x1x16x128 : Shape := ⟨5, ![8, 4, 1, 16, 128]⟩
abbrev S8x4x16x128 : Shape := ⟨4, ![8, 4, 16, 128]⟩
abbrev S8x4x16 : Shape := ⟨3, ![8, 4, 16]⟩
abbrev S8x4x16x1 : Shape := ⟨4, ![8, 4, 16, 1]⟩
abbrev S1x1x1x128 : Shape := ⟨4, ![1, 1, 1, 128]⟩
abbrev S4x1 : Shape := ⟨2, ![4, 1]⟩
abbrev S16 : Shape := ⟨1, ![16]⟩
abbrev S1x16 : Shape := ⟨2, ![1, 16]⟩
abbrev S4x16 : Shape := ⟨2, ![4, 16]⟩
abbrev S1x4x1x16 : Shape := ⟨4, ![1, 4, 1, 16]⟩
abbrev S8x4x16x16 : Shape := ⟨4, ![8, 4, 16, 16]⟩
abbrev S8x4x16x96 : Shape := ⟨4, ![8, 4, 16, 96]⟩

abbrev nBuf : Space → Nat
  | .hbm => 63
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S2048x7248, .f32⟩
  | .hbm, ⟨2, _⟩ => ⟨S128, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S4, .f32⟩
  | .hbm, ⟨8, _⟩ => ⟨S32x2048, .f32⟩
  | .hbm, ⟨9, _⟩ => ⟨S32x7248, .f32⟩
  | .hbm, ⟨10, _⟩ => ⟨S32x6144, .f32⟩
  | .hbm, ⟨11, _⟩ => ⟨S8x4x3x16x128, .f32⟩
  | .hbm, ⟨12, _⟩ => ⟨S8x4x1x16x128, .f32⟩
  | .hbm, ⟨13, _⟩ => ⟨S8x4x16x128, .f32⟩
  | .hbm, ⟨14, _⟩ => ⟨S8x4x16x128, .f32⟩
  | .hbm, ⟨15, _⟩ => ⟨S_, .f32⟩
  | .hbm, ⟨16, _⟩ => ⟨S8x4x16, .f32⟩
  | .hbm, ⟨17, _⟩ => ⟨S8x4x16x1, .f32⟩
  | .hbm, ⟨18, _⟩ => ⟨S_, .f32⟩
  | .hbm, ⟨19, _⟩ => ⟨S8x4x16x1, .f32⟩
  | .hbm, ⟨20, _⟩ => ⟨S8x4x16x1, .f32⟩
  | .hbm, ⟨21, _⟩ => ⟨S_, .f32⟩
  | .hbm, ⟨22, _⟩ => ⟨S8x4x16x1, .f32⟩
  | .hbm, ⟨23, _⟩ => ⟨S8x4x16x1, .f32⟩
  | .hbm, ⟨24, _⟩ => ⟨S8x4x16x1, .f32⟩
  | .hbm, ⟨25, _⟩ => ⟨S8x4x16x128, .f32⟩
  | .hbm, ⟨26, _⟩ => ⟨S8x4x16x128, .f32⟩
  | .hbm, ⟨27, _⟩ => ⟨S1x1x1x128, .f32⟩
  | .hbm, ⟨28, _⟩ => ⟨S8x4x16x128, .f32⟩
  | .hbm, ⟨29, _⟩ => ⟨S8x4x16x128, .f32⟩
  | .hbm, ⟨30, _⟩ => ⟨S4x1, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S1x16, .f32⟩
  | .hbm, ⟨40, _⟩ => ⟨S4x16, .f32⟩
  | .hbm, ⟨41, _⟩ => ⟨S4x16, .f32⟩
  | .hbm, ⟨42, _⟩ => ⟨S4x16, .f32⟩
  | .hbm, ⟨43, _⟩ => ⟨S4x16, .f32⟩
  | .hbm, ⟨44, _⟩ => ⟨S1x4x1x16, .f32⟩
  | .hbm, ⟨45, _⟩ => ⟨S4x16, .f32⟩
  | .hbm, ⟨46, _⟩ => ⟨S1x4x1x16, .f32⟩
  | .hbm, ⟨47, _⟩ => ⟨S8x4x16x16, .f32⟩
  | .hbm, ⟨48, _⟩ => ⟨S8x4x16x16, .f32⟩
  | .hbm, ⟨49, _⟩ => ⟨S8x4x16x16, .f32⟩
  | .hbm, ⟨50, _⟩ => ⟨S8x4x16x16, .f32⟩
  | .hbm, ⟨51, _⟩ => ⟨S8x4x16x16, .f32⟩
  | .hbm, ⟨52, _⟩ => ⟨S8x4x16x16, .f32⟩
  | .hbm, ⟨53, _⟩ => ⟨S8x4x16x16, .f32⟩
  | .hbm, ⟨54, _⟩ => ⟨S8x4x16x16, .f32⟩
  | .hbm, ⟨55, _⟩ => ⟨S8x4x16x16, .f32⟩
  | .hbm, ⟨56, _⟩ => ⟨S8x4x16x16, .f32⟩
  | .hbm, ⟨57, _⟩ => ⟨S8x4x16x16, .f32⟩
  | .hbm, ⟨58, _⟩ => ⟨S8x4x16x16, .f32⟩
  | .hbm, ⟨59, _⟩ => ⟨S8x4x16x96, .f32⟩
  | .hbm, ⟨60, _⟩ => ⟨S8x4x16x128, .f32⟩
  | .hbm, ⟨61, _⟩ => ⟨S32x2048, .f32⟩
  | .hbm, ⟨62, _⟩ => ⟨S32x2048, .bf16⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩

abbrev nD : Nat := 1
abbrev τ : Topo := Topo.v7x

variable {F : FTy → Type} [FloatOps F]
-- ==== IdxK.lean ====
abbrev S8192x2048 : Shape := ⟨2, ![8192, 2048]⟩
abbrev S2048x7248 : Shape := ⟨2, ![2048, 7248]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S2048x80 : Shape := ⟨2, ![2048, 80]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩
abbrev S256x2048 : Shape := ⟨2, ![256, 2048]⟩
abbrev S256x128 : Shape := ⟨2, ![256, 128]⟩
abbrev S8192x64 : Shape := ⟨2, ![8192, 64]⟩

abbrev nBuf : Space → Nat
  | .hbm => 44
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x7248, .f32⟩
  | .hbm, ⟨2, _⟩ => ⟨S4096, .i32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S4096, .f32⟩
  | .hbm, ⟨12, _⟩ => ⟨S4096x1, .f32⟩
  | .hbm, ⟨13, _⟩ => ⟨S1x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S_, .f32⟩
  | .hbm, ⟨20, _⟩ => ⟨S4096x48, .f32⟩
  | .hbm, ⟨21, _⟩ => ⟨S_, .f32⟩
  | .hbm, ⟨22, _⟩ => ⟨S4096x8, .f32⟩
  | .hbm, ⟨23, _⟩ => ⟨S_, .f32⟩
  | .hbm, ⟨24, _⟩ => ⟨S4096x48, .f32⟩
  | .hbm, ⟨25, _⟩ => ⟨S4096x64, .f32⟩
  | .hbm, ⟨26, _⟩ => ⟨S4096x64, .f32⟩
  | .hbm, ⟨27, _⟩ => ⟨S4096x8, .f32⟩
  | .hbm, ⟨28, _⟩ => ⟨S4096x64, .f32⟩
  | .hbm, ⟨29, _⟩ => ⟨S1x4096x1x64, .f32⟩
  | .hbm, ⟨30, _⟩ => ⟨S1x4096x2x64, .f32⟩
  | .hbm, ⟨31, _⟩ => ⟨S4096x128, .f32⟩
  | .hbm, ⟨32, _⟩ => ⟨S1x4096x1x64, .f32⟩
  | .hbm, ⟨33, _⟩ => ⟨S1x4096x2x64, .f32⟩
  | .hbm, ⟨34, _⟩ => ⟨S4096x128, .f32⟩
  | .hbm, ⟨35, _⟩ => ⟨S1x4096x1x64, .f32⟩
  | .hbm, ⟨36, _⟩ => ⟨S1x4096x2x64, .f32⟩
  | .hbm, ⟨37, _⟩ => ⟨S4096x128, .f32⟩
  | .hbm, ⟨38, _⟩ => ⟨S2048x80, .f32⟩
  | .hbm, ⟨39, _⟩ => ⟨S_, .i32⟩
  | .hbm, ⟨40, _⟩ => ⟨S_, .f32⟩
  | .hbm, ⟨41, _⟩ => ⟨S2048x128, .f32⟩
  | .hbm, ⟨42, _⟩ => ⟨S8192x128, .f32⟩
  | .hbm, ⟨43, _⟩ => ⟨S8192x64, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S2048x128, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c : Ref sig .tc := ⟨.hbm, 39, rfl⟩
abbrev main_call0_v0 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== IdxKRefIdeal.lean ====
abbrev S8192x2048 : Shape := ⟨2, ![8192, 2048]⟩
abbrev S2048x7248 : Shape := ⟨2, ![2048, 7248]⟩
abbrev S8192x7248 : Shape := ⟨2, ![8192, 7248]⟩
abbrev S8192x64 : Shape := ⟨2, ![8192, 64]⟩
abbrev S2x4096x1x64 : Shape := ⟨4, ![2, 4096, 1, 64]⟩
abbrev S4096 : Shape := ⟨1, ![4096]⟩
abbrev S4096x1 : Shape := ⟨2, ![4096, 1]⟩
abbrev S8 : Shape := ⟨1, ![8]⟩
abbrev S_ : Shape := ⟨0, ![]⟩
abbrev S1x8 : Shape := ⟨2, ![1, 8]⟩
abbrev S4096x8 : Shape := ⟨2, ![4096, 8]⟩
abbrev S1x4096x1x8 : Shape := ⟨4, ![1, 4096, 1, 8]⟩
abbrev S2x4096x1x8 : Shape := ⟨4, ![2, 4096, 1, 8]⟩
abbrev S2x4096x1x48 : Shape := ⟨4, ![2, 4096, 1, 48]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7248, .f32⟩
  | .hbm, ⟨2, _⟩ => ⟨S8192x2048, .f32⟩
  | .hbm, ⟨3, _⟩ => ⟨S8192x7248, .f32⟩
  | .hbm, ⟨4, _⟩ => ⟨S8192x64, .f32⟩
  | .hbm, ⟨5, _⟩ => ⟨S2x4096x1x64, .f32⟩
  | .hbm, ⟨6, _⟩ => ⟨S4096, .f32⟩
  | .hbm, ⟨7, _⟩ => ⟨S4096x1, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S1x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S1x4096x1x8, .f32⟩
  | .hbm, ⟨22, _⟩ => ⟨S4096x8, .f32⟩
  | .hbm, ⟨23, _⟩ => ⟨S1x4096x1x8, .f32⟩
  | .hbm, ⟨24, _⟩ => ⟨S2x4096x1x8, .f32⟩
  | .hbm, ⟨25, _⟩ => ⟨S2x4096x1x8, .f32⟩
  | .hbm, ⟨26, _⟩ => ⟨S2x4096x1x8, .f32⟩
  | .hbm, ⟨27, _⟩ => ⟨S2x4096x1x8, .f32⟩
  | .hbm, ⟨28, _⟩ => ⟨S2x4096x1x8, .f32⟩
  | .hbm, ⟨29, _⟩ => ⟨S2x4096x1x8, .f32⟩
  | .hbm, ⟨30, _⟩ => ⟨S2x4096x1x8, .f32⟩
  | .hbm, ⟨31, _⟩ => ⟨S2x4096x1x8, .f32⟩
  | .hbm, ⟨32, _⟩ => ⟨S2x4096x1x8, .f32⟩
  | .hbm, ⟨33, _⟩ => ⟨S2x4096x1x8, .f32⟩
  | .hbm, ⟨34, _⟩ => ⟨S2x4096x1x8, .f32⟩
  | .hbm, ⟨35, _⟩ => ⟨S2x4096x1x8, .f32⟩
  | .hbm, ⟨36, _⟩ => ⟨S2x4096x1x48, .f32⟩
  | .hbm, ⟨37, _⟩ => ⟨S2x4096x1x64, .f32⟩
  | .hbm, ⟨38, _⟩ => ⟨S8192x64, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩

abbrev nD : Nat := 1
abbrev τ : Topo := Topo.v7x

variable {F : FTy → Type} [FloatOps F]
-- ==== IdxKS.lean ====
abbrev S32x2048 : Shape := ⟨2, ![32, 2048]⟩
abbrev S2048x7248 : Shape := ⟨2, ![2048, 7248]⟩
abbrev S4 : Shape := ⟨1, ![4]⟩
abbrev S_ : Shape := ⟨0, ![]⟩
abbrev S1x4 : Shape := ⟨2, ![1, 4]⟩
abbrev S8x4 : Shape := ⟨2, ![8, 4]⟩
abbrev S32 : Shape := ⟨1, ![32]⟩
abbrev S8 : Shape := ⟨1, ![8]⟩
abbrev S32x1 : Shape := ⟨2, ![32, 1]⟩
abbrev S1x8 : Shape := ⟨2, ![1, 8]⟩
abbrev S32x8 : Shape := ⟨2, ![32, 8]⟩
abbrev S32x48 : Shape := ⟨2, ![32, 48]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S2048x80 : Shape := ⟨2, ![2048, 80]⟩
abbrev S2048x128 : Shape := ⟨2, ![2048, 128]⟩

abbrev nBuf : Space → Nat
  | .hbm => 50
  | .vmem => 7
  | .smem => 0
  | _ => 0

abbrev bufTy : (tb : Table) → Fin (tcTables nBuf tb) → BufTy
  | .hbm, ⟨0, _⟩ => ⟨S32x2048, .bf16⟩
  | .hbm, ⟨1, _⟩ => ⟨S2048x7248, .f32⟩
  | .hbm, ⟨2, _⟩ => ⟨S4, .i32⟩
  | .hbm, ⟨3, _⟩ => ⟨S_, .i32⟩
  | .hbm, ⟨4, _⟩ => ⟨S4, .i32⟩
  | .hbm, ⟨5, _⟩ => ⟨S4, .i32⟩
  | .hbm, ⟨6, _⟩ => ⟨S1x4, .i32⟩
  | .hbm, ⟨7, _⟩ => ⟨S8x4, .i32⟩
  | .hbm, ⟨8, _⟩ => ⟨S32, .i32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S32, .f32⟩
  | .hbm, ⟨18, _⟩ => ⟨S32x1, .f32⟩
  | .hbm, ⟨19, _⟩ => ⟨S1x8, .f32⟩
  | .hbm, ⟨20, _⟩ => ⟨S32x8, .f32⟩
  | .hbm, ⟨21, _⟩ => ⟨S32x8, .f32⟩
  | .hbm, ⟨22, _⟩ => ⟨S32x8, .f32⟩
  | .hbm, ⟨23, _⟩ => ⟨S32x8, .f32⟩
  | .hbm, ⟨24, _⟩ => ⟨S32x8, .f32⟩
  | .hbm, ⟨25, _⟩ => ⟨S_, .f32⟩
  | .hbm, ⟨26, _⟩ => ⟨S32x48, .f32⟩
  | .hbm, ⟨27, _⟩ => ⟨S_, .f32⟩
  | .hbm, ⟨28, _⟩ => ⟨S32x8, .f32⟩
  | .hbm, ⟨29, _⟩ => ⟨S_, .f32⟩
  | .hbm, ⟨30, _⟩ => ⟨S32x48, .f32⟩
  | .hbm, ⟨31, _⟩ => ⟨S32x64, .f32⟩
  | .hbm, ⟨32, _⟩ => ⟨S32x64, .f32⟩
  | .hbm, ⟨33, _⟩ => ⟨S32x8, .f32⟩
  | .hbm, ⟨34, _⟩ => ⟨S32x64, .f32⟩
  | .hbm, ⟨35, _⟩ => ⟨S1x32x1x64, .f32⟩
  | .hbm, ⟨36, _⟩ => ⟨S1x32x2x64, .f32⟩
  | .hbm, ⟨37, _⟩ => ⟨S32x128, .f32⟩
  | .hbm, ⟨38, _⟩ => ⟨S1x32x1x64, .f32⟩
  | .hbm, ⟨39, _⟩ => ⟨S1x32x2x64, .f32⟩
  | .hbm, ⟨40, _⟩ => ⟨S32x128, .f32⟩
  | .hbm, ⟨41, _⟩ => ⟨S1x32x1x64, .f32⟩
  | .hbm, ⟨42, _⟩ => ⟨S1x32x2x64, .f32⟩
  | .hbm, ⟨43, _⟩ => ⟨S32x128, .f32⟩
  | .hbm, ⟨44, _⟩ => ⟨S2048x80, .f32⟩
  | .hbm, ⟨45, _⟩ => ⟨S_, .i32⟩
  | .hbm, ⟨46, _⟩ => ⟨S_, .f32⟩
  | .hbm, ⟨47, _⟩ => ⟨S2048x128, .f32⟩
  | .hbm, ⟨48, _⟩ => ⟨S32x128, .f32⟩
  | .hbm, ⟨49, _⟩ => ⟨S32x64, .f32⟩
  | .local _ .vmem, ⟨0, _⟩ => ⟨S32x2048, .bf16⟩
  | .local _ .vmem, ⟨1, _⟩ => ⟨S2048x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S2048x128, .bf16⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_4 : Ref sig .tc := ⟨.hbm, 45, rfl⟩
abbrev main_call0_v0 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== IdxKSRefIdeal.lean ====
abbrev S32x2048 : Shape := ⟨2, ![32, 2048]⟩
abbrev S2048x7248 : Shape := ⟨2, ![2048, 7248]⟩
abbrev S32x7248 : Shape := ⟨2, ![32, 7248]⟩
abbrev S32x64 : Shape := ⟨2, ![32, 64]⟩
abbrev S8x4x1x64 : Shape := ⟨4, ![8, 4, 1, 64]⟩
abbrev S4 : Shape := ⟨1, ![4]⟩
abbrev S_ : Shape := ⟨0, ![]⟩
abbrev S4x1 : Shape := ⟨2, ![4, 1]⟩
abbrev S8 : Shape := ⟨1, ![8]⟩
abbrev S1x8 : Shape := ⟨2, ![1, 8]⟩
abbrev S4x8 : Shape := ⟨2, ![4, 8]⟩
abbrev S1x4x1x8 : Shape := ⟨4, ![1, 4, 1, 8]⟩
abbrev S8x4x1x8 : Shape := ⟨4, ![8, 4, 1, 8]⟩
abbrev S8x4x1x48 : Shape := ⟨4, ![8, 4, 1, 48]⟩

abbrev nBuf : Space → Nat
  | .hbm => 43
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S2048x7248, .f32⟩
  | .hbm, ⟨2, _⟩ => ⟨S32x2048, .f32⟩
  | .hbm, ⟨3, _⟩ => ⟨S32x7248, .f32⟩
  | .hbm, ⟨4, _⟩ => ⟨S32x64, .f32⟩
  | .hbm, ⟨5, _⟩ => ⟨S8x4x1x64, .f32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S4, .f32⟩
  | .hbm, ⟨11, _⟩ => ⟨S4x1, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S1x8, .f32⟩
  | .hbm, ⟨21, _⟩ => ⟨S4x8, .f32⟩
  | .hbm, ⟨22, _⟩ => ⟨S4x8, .f32⟩
  | .hbm, ⟨23, _⟩ => ⟨S4x8, .f32⟩
  | .hbm, ⟨24, _⟩ => ⟨S4x8, .f32⟩
  | .hbm, ⟨25, _⟩ => ⟨S1x4x1x8, .f32⟩
  | .hbm, ⟨26, _⟩ => ⟨S4x8, .f32⟩
  | .hbm, ⟨27, _⟩ => ⟨S1x4x1x8, .f32⟩
  | .hbm, ⟨28, _⟩ => ⟨S8x4x1x8, .f32⟩
  | .hbm, ⟨29, _⟩ => ⟨S8x4x1x8, .f32⟩
  | .hbm, ⟨30, _⟩ => ⟨S8x4x1x8, .f32⟩
  | .hbm, ⟨31, _⟩ => ⟨S8x4x1x8, .f32⟩
  | .hbm, ⟨32, _⟩ => ⟨S8x4x1x8, .f32⟩
  | .hbm, ⟨33, _⟩ => ⟨S8x4x1x8, .f32⟩
  | .hbm, ⟨34, _⟩ => ⟨S8x4x1x8, .f32⟩
  | .hbm, ⟨35, _⟩ => ⟨S8x4x1x8, .f32⟩
  | .hbm, ⟨36, _⟩ => ⟨S8x4x1x8, .f32⟩
  | .hbm, ⟨37, _⟩ => ⟨S8x4x1x8, .f32⟩
  | .hbm, ⟨38, _⟩ => ⟨S8x4x1x8, .f32⟩
  | .hbm, ⟨39, _⟩ => ⟨S8x4x1x8, .f32⟩
  | .hbm, ⟨40, _⟩ => ⟨S8x4x1x48, .f32⟩
  | .hbm, ⟨41, _⟩ => ⟨S8x4x1x64, .f32⟩
  | .hbm, ⟨42, _⟩ => ⟨S32x64, .f32⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]
-- ==== IdxQ.lean ====
abbrev S8192x2048 : Shape := ⟨2, ![8192, 2048]⟩
abbrev S2048x7248 : Shape := ⟨2, ![2048, 7248]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8192x1024 : Shape := ⟨2, ![8192, 1024]⟩
abbrev S1024x2048 : Shape := ⟨2, ![1024, 2048]⟩
abbrev S2048x512 : Shape := ⟨2, ![2048, 512]⟩
abbrev S1024x128 : Shape := ⟨2, ![1024, 128]⟩
abbrev S1024x512 : Shape := ⟨2, ![1024, 512]⟩
abbrev S256x2048 : Shape := ⟨2, ![256, 2048]⟩
abbrev S256x512 : Shape := ⟨2, ![256, 512]⟩
abbrev S256x128 : Shape := ⟨2, ![256, 128]⟩

abbrev nBuf : Space → Nat
  | .hbm => 39
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x7248, .f32⟩
  | .hbm, ⟨2, _⟩ => ⟨S4096, .i32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S4096, .f32⟩
  | .hbm, ⟨12, _⟩ => ⟨S4096x1, .f32⟩
  | .hbm, ⟨13, _⟩ => ⟨S1x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S_, .f32⟩
  | .hbm, ⟨20, _⟩ => ⟨S4096x48, .f32⟩
  | .hbm, ⟨21, _⟩ => ⟨S_, .f32⟩
  | .hbm, ⟨22, _⟩ => ⟨S4096x8, .f32⟩
  | .hbm, ⟨23, _⟩ => ⟨S_, .f32⟩
  | .hbm, ⟨24, _⟩ => ⟨S4096x48, .f32⟩
  | .hbm, ⟨25, _⟩ => ⟨S4096x64, .f32⟩
  | .hbm, ⟨26, _⟩ => ⟨S4096x64, .f32⟩
  | .hbm, ⟨27, _⟩ => ⟨S4096x8, .f32⟩
  | .hbm, ⟨28, _⟩ => ⟨S4096x64, .f32⟩
  | .hbm, ⟨29, _⟩ => ⟨S1x4096x1x64, .f32⟩
  | .hbm, ⟨30, _⟩ => ⟨S1x4096x2x64, .f32⟩
  | .hbm, ⟨31, _⟩ => ⟨S4096x128, .f32⟩
  | .hbm, ⟨32, _⟩ => ⟨S1x4096x1x64, .f32⟩
  | .hbm, ⟨33, _⟩ => ⟨S1x4096x2x64, .f32⟩
  | .hbm, ⟨34, _⟩ => ⟨S4096x128, .f32⟩
  | .hbm, ⟨35, _⟩ => ⟨S1x4096x1x64, .f32⟩
  | .hbm, ⟨36, _⟩ => ⟨S1x4096x2x64, .f32⟩
  | .hbm, ⟨37, _⟩ => ⟨S4096x128, .f32⟩
  | .hbm, ⟨38, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | .local _ .vmem, ⟨12, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== IdxQRefIdeal.lean ====
abbrev S8192x2048 : Shape := ⟨2, ![8192, 2048]⟩
abbrev S2048x7248 : Shape := ⟨2, ![2048, 7248]⟩
abbrev S8192x7248 : Shape := ⟨2, ![8192, 7248]⟩
abbrev S8192x1024 : Shape := ⟨2, ![8192, 1024]⟩
abbrev S2x4096x16x64 : Shape := ⟨4, ![2, 4096, 16, 64]⟩
abbrev S4096 : Shape := ⟨1, ![4096]⟩
abbrev S4096x1 : Shape := ⟨2, ![4096, 1]⟩
abbrev S8 : Shape := ⟨1, ![8]⟩
abbrev S_ : Shape := ⟨0, ![]⟩
abbrev S1x8 : Shape := ⟨2, ![1, 8]⟩
abbrev S4096x8 : Shape := ⟨2, ![4096, 8]⟩
abbrev S1x4096x1x8 : Shape := ⟨4, ![1, 4096, 1, 8]⟩
abbrev S2x4096x16x8 : Shape := ⟨4, ![2, 4096, 16, 8]⟩
abbrev S2x4096x16x48 : Shape := ⟨4, ![2, 4096, 16, 48]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7248, .f32⟩
  | .hbm, ⟨2, _⟩ => ⟨S8192x2048, .f32⟩
  | .hbm, ⟨3, _⟩ => ⟨S8192x7248, .f32⟩
  | .hbm, ⟨4, _⟩ => ⟨S8192x1024, .f32⟩
  | .hbm, ⟨5, _⟩ => ⟨S2x4096x16x64, .f32⟩
  | .hbm, ⟨6, _⟩ => ⟨S4096, .f32⟩
  | .hbm, ⟨7, _⟩ => ⟨S4096x1, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S1x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S1x4096x1x8, .f32⟩
  | .hbm, ⟨22, _⟩ => ⟨S4096x8, .f32⟩
  | .hbm, ⟨23, _⟩ => ⟨S1x4096x1x8, .f32⟩
  | .hbm, ⟨24, _⟩ => ⟨S2x4096x16x8, .f32⟩
  | .hbm, ⟨25, _⟩ => ⟨S2x4096x16x8, .f32⟩
  | .hbm, ⟨26, _⟩ => ⟨S2x4096x16x8, .f32⟩
  | .hbm, ⟨27, _⟩ => ⟨S2x4096x16x8, .f32⟩
  | .hbm, ⟨28, _⟩ => ⟨S2x4096x16x8, .f32⟩
  | .hbm, ⟨29, _⟩ => ⟨S2x4096x16x8, .f32⟩
  | .hbm, ⟨30, _⟩ => ⟨S2x4096x16x8, .f32⟩
  | .hbm, ⟨31, _⟩ => ⟨S2x4096x16x8, .f32⟩
  | .hbm, ⟨32, _⟩ => ⟨S2x4096x16x8, .f32⟩
  | .hbm, ⟨33, _⟩ => ⟨S2x4096x16x8, .f32⟩
  | .hbm, ⟨34, _⟩ => ⟨S2x4096x16x8, .f32⟩
  | .hbm, ⟨35, _⟩ => ⟨S2x4096x16x8, .f32⟩
  | .hbm, ⟨36, _⟩ => ⟨S2x4096x16x48, .f32⟩
  | .hbm, ⟨37, _⟩ => ⟨S2x4096x16x64, .f32⟩
  | .hbm, ⟨38, _⟩ => ⟨S8192x1024, .f32⟩
  | .hbm, ⟨39, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩

abbrev nD : Nat := 1
abbrev τ : Topo := Topo.v7x

variable {F : FTy → Type} [FloatOps F]
-- ==== PoolS.lean ====
abbrev S8x15x2048 : Shape := ⟨3, ![8, 15, 2048]⟩
abbrev S32x2048 : Shape := ⟨2, ![32, 2048]⟩
abbrev S2048 : Shape := ⟨1, ![2048]⟩
abbrev S1x2048 : Shape := ⟨2, ![1, 2048]⟩
abbrev S32 : Shape := ⟨1, ![32]⟩
abbrev S32x1 : Shape := ⟨2, ![32, 1]⟩
abbrev S8x4x2048 : Shape := ⟨3, ![8, 4, 2048]⟩
abbrev S8x19x2048 : Shape := ⟨3, ![8, 19, 2048]⟩

abbrev nBuf : Space → Nat
  | .hbm => 8
  | .vmem => 3
  | .smem => 0
  | _ => 0

abbrev bufTy : (tb : Table) → Fin (tcTables nBuf tb) → BufTy
  | .hbm, ⟨0, _⟩ => ⟨S8x15x2048, .f32⟩
  | .hbm, ⟨1, _⟩ => ⟨S32x2048, .f32⟩
  | .hbm, ⟨2, _⟩ => ⟨S2048, .f32⟩
  | .hbm, ⟨3, _⟩ => ⟨S1x2048, .f32⟩
  | .hbm, ⟨4, _⟩ => ⟨S32x2048, .f32⟩
  | .hbm, ⟨5, _⟩ => ⟨S8x4x2048, .f32⟩
  | .hbm, ⟨6, _⟩ => ⟨S8x19x2048, .f32⟩
  | .hbm, ⟨7, _⟩ => ⟨S8x15x2048, .f32⟩
  | .local _ .vmem, ⟨0, _⟩ => ⟨S32x2048, .f32⟩
  | .local _ .vmem, ⟨1, _⟩ => ⟨S1x2048, .f32⟩
  | .local _ .vmem, ⟨2, _⟩ => ⟨S32x2048, .f32⟩
  | _, _ => ⟨S8x15x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== PoolSRefIdeal.lean ====
abbrev S8x15x2048 : Shape := ⟨3, ![8, 15, 2048]⟩
abbrev S32x2048 : Shape := ⟨2, ![32, 2048]⟩
abbrev S2048 : Shape := ⟨1, ![2048]⟩
abbrev S_ : Shape := ⟨0, ![]⟩
abbrev S32 : Shape := ⟨1, ![32]⟩
abbrev S32x1 : Shape := ⟨2, ![32, 1]⟩
abbrev S1x2048 : Shape := ⟨2, ![1, 2048]⟩
abbrev S8x4x2048 : Shape := ⟨3, ![8, 4, 2048]⟩
abbrev S8x19x2048 : Shape := ⟨3, ![8, 19, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8x15x2048, .f32⟩
  | .hbm, ⟨1, _⟩ => ⟨S32x2048, .f32⟩
  | .hbm, ⟨2, _⟩ => ⟨S2048, .f32⟩
  | .hbm, ⟨3, _⟩ => ⟨S32x2048, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S32x2048, .f32⟩
  | .hbm, ⟨15, _⟩ => ⟨S32x2048, .f32⟩
  | .hbm, ⟨16, _⟩ => ⟨S1x2048, .f32⟩
  | .hbm, ⟨17, _⟩ => ⟨S32x2048, .f32⟩
  | .hbm, ⟨18, _⟩ => ⟨S32x2048, .f32⟩
  | .hbm, ⟨19, _⟩ => ⟨S8x4x2048, .f32⟩
  | .hbm, ⟨20, _⟩ => ⟨S8x19x2048, .f32⟩
  | .hbm, ⟨21, _⟩ => ⟨S8x15x2048, .f32⟩
  | _, _ => ⟨S8x15x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== PoolP.lean ====
abbrev S8192x2048 : Shape := ⟨2, ![8192, 2048]⟩
abbrev S2048 : Shape := ⟨1, ![2048]⟩
abbrev S2x4096x2048 : Shape := ⟨3, ![2, 4096, 2048]⟩
abbrev S2x16x2048 : Shape := ⟨3, ![2, 16, 2048]⟩
abbrev S32x2048 : Shape := ⟨2, ![32, 2048]⟩
abbrev S1x2048 : Shape := ⟨2, ![1, 2048]⟩
abbrev S32 : Shape := ⟨1, ![32]⟩
abbrev S32x1 : Shape := ⟨2, ![32, 1]⟩
abbrev S2x15x2048 : Shape := ⟨3, ![2, 15, 2048]⟩

abbrev nBuf : Space → Nat
  | .hbm => 9
  | .vmem => 3
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x4096x2048, .f32⟩
  | .hbm, ⟨3, _⟩ => ⟨S2x16x2048, .f32⟩
  | .hbm, ⟨4, _⟩ => ⟨S32x2048, .f32⟩
  | .hbm, ⟨5, _⟩ => ⟨S1x2048, .f32⟩
  | .hbm, ⟨6, _⟩ => ⟨S32x2048, .f32⟩
  | .hbm, ⟨7, _⟩ => ⟨S2x16x2048, .f32⟩
  | .hbm, ⟨8, _⟩ => ⟨S2x15x2048, .f32⟩
  | .local _ .vmem, ⟨0, _⟩ => ⟨S32x2048, .f32⟩
  | .local _ .vmem, ⟨1, _⟩ => ⟨S1x2048, .f32⟩
  | .local _ .vmem, ⟨2, _⟩ => ⟨S32x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== PoolPRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x4096x2048 : Shape := ⟨3, ![2, 4096, 2048]⟩
abbrev S2x15x2048 : Shape := ⟨3, ![2, 15, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S2x4096x2048, .f32⟩
  | .hbm, ⟨19, _⟩ => ⟨S2x15x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== OutProjS.lean ====
abbrev S32x2048 : Shape := ⟨2, ![32, 2048]⟩
abbrev S2048x2048 : Shape := ⟨2, ![2048, 2048]⟩
abbrev S2048x512 : Shape := ⟨2, ![2048, 512]⟩
abbrev S32x512 : Shape := ⟨2, ![32, 512]⟩

abbrev nBuf : Space → Nat
  | .hbm => 4
  | .vmem => 8
  | .smem => 0
  | _ => 0

abbrev bufTy : (tb : Table) → Fin (tcTables nBuf tb) → BufTy
  | .hbm, ⟨0, _⟩ => ⟨S32x2048, .bf16⟩
  | .hbm, ⟨1, _⟩ => ⟨S2048x2048, .f32⟩
  | .hbm, ⟨2, _⟩ => ⟨S32x2048, .f32⟩
  | .hbm, ⟨3, _⟩ => ⟨S32x2048, .f32⟩
  | .local _ .vmem, ⟨0, _⟩ => ⟨S32x2048, .bf16⟩
  | .local _ .vmem, ⟨1, _⟩ => ⟨S2048x512, .f32⟩
  | .local _ .vmem, ⟨2, _⟩ => ⟨S2048x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S2048x512, .bf16⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjSRefIdeal.lean ====
abbrev S32x2048 : Shape := ⟨2, ![32, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S2048x2048, .f32⟩
  | .hbm, ⟨2, _⟩ => ⟨S32x2048, .f32⟩
  | .hbm, ⟨3, _⟩ => ⟨S32x2048, .f32⟩
  | .hbm, ⟨4, _⟩ => ⟨S32x2048, .f32⟩
  | .hbm, ⟨5, _⟩ => ⟨S32x2048, .f32⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpS.lean ====
abbrev S32x2048 : Shape := ⟨2, ![32, 2048]⟩
abbrev S2048x5632 : Shape := ⟨2, ![2048, 5632]⟩
abbrev S32x5632 : Shape := ⟨2, ![32, 5632]⟩
abbrev S2048x512 : Shape := ⟨2, ![2048, 512]⟩
abbrev S32x512 : Shape := ⟨2, ![32, 512]⟩

abbrev nBuf : Space → Nat
  | .hbm => 4
  | .vmem => 9
  | .smem => 0
  | _ => 0

abbrev bufTy : (tb : Table) → Fin (tcTables nBuf tb) → BufTy
  | .hbm, ⟨0, _⟩ => ⟨S32x2048, .bf16⟩
  | .hbm, ⟨1, _⟩ => ⟨S2048x5632, .f32⟩
  | .hbm, ⟨2, _⟩ => ⟨S2048x5632, .f32⟩
  | .hbm, ⟨3, _⟩ => ⟨S32x5632, .bf16⟩
  | .local _ .vmem, ⟨0, _⟩ => ⟨S32x2048, .bf16⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S32x512, .bf16⟩
  | .local _ .vmem, ⟨6, _⟩ => ⟨S32x512, .bf16⟩
  | .local _ .vmem, ⟨7, _⟩ => ⟨S2048x512, .bf16⟩
  | .local _ .vmem, ⟨8, _⟩ => ⟨S2048x512, .bf16⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpSRefIdeal.lean ====
abbrev S32x2048 : Shape := ⟨2, ![32, 2048]⟩
abbrev S2048x5632 : Shape := ⟨2, ![2048, 5632]⟩
abbrev S32x5632 : Shape := ⟨2, ![32, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S2048x5632, .f32⟩
  | .hbm, ⟨2, _⟩ => ⟨S2048x5632, .f32⟩
  | .hbm, ⟨3, _⟩ => ⟨S32x2048, .f32⟩
  | .hbm, ⟨4, _⟩ => ⟨S32x5632, .f32⟩
  | .hbm, ⟨5, _⟩ => ⟨S32x5632, .f32⟩
  | .hbm, ⟨6, _⟩ => ⟨S32x5632, .f32⟩
  | .hbm, ⟨7, _⟩ => ⟨S_, .f32⟩
  | .hbm, ⟨8, _⟩ => ⟨S32x5632, .f32⟩
  | .hbm, ⟨9, _⟩ => ⟨S32x5632, .f32⟩
  | .hbm, ⟨10, _⟩ => ⟨S_, .f32⟩
  | .hbm, ⟨11, _⟩ => ⟨S32x5632, .f32⟩
  | .hbm, ⟨12, _⟩ => ⟨S32x5632, .f32⟩
  | .hbm, ⟨13, _⟩ => ⟨S32x5632, .f32⟩
  | .hbm, ⟨14, _⟩ => ⟨S32x5632, .f32⟩
  | .hbm, ⟨15, _⟩ => ⟨S32x5632, .f32⟩
  | .hbm, ⟨16, _⟩ => ⟨S32x5632, .bf16⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== ProjQS.lean ====
abbrev S32x2048 : Shape := ⟨2, ![32, 2048]⟩
abbrev S2048x6144 : Shape := ⟨2, ![2048, 6144]⟩
abbrev S128 : Shape := ⟨1, ![128]⟩
abbrev S1x128 : Shape := ⟨2, ![1, 128]⟩
abbrev S1x1x1x128 : Shape := ⟨4, ![1, 1, 1, 128]⟩
abbrev S1x1x4x128 : Shape := ⟨4, ![1, 1, 4, 128]⟩
abbrev S1x512 : Shape := ⟨2, ![1, 512]⟩
abbrev S2048x512 : Shape := ⟨2, ![2048, 512]⟩
abbrev S32x512 : Shape := ⟨2, ![32, 512]⟩
abbrev S32x128 : Shape := ⟨2, ![32, 128]⟩
abbrev S32 : Shape := ⟨1, ![32]⟩
abbrev S32x1 : Shape := ⟨2, ![32, 1]⟩

abbrev nBuf : Space → Nat
  | .hbm => 8
  | .vmem => 7
  | .smem => 0
  | _ => 0

abbrev bufTy : (tb : Table) → Fin (tcTables nBuf tb) → BufTy
  | .hbm, ⟨0, _⟩ => ⟨S32x2048, .bf16⟩
  | .hbm, ⟨1, _⟩ => ⟨S2048x6144, .f32⟩
  | .hbm, ⟨2, _⟩ => ⟨S128, .f32⟩
  | .hbm, ⟨3, _⟩ => ⟨S1x128, .f32⟩
  | .hbm, ⟨4, _⟩ => ⟨S1x1x1x128, .f32⟩
  | .hbm, ⟨5, _⟩ => ⟨S1x1x4x128, .f32⟩
  | .hbm, ⟨6, _⟩ => ⟨S1x512, .f32⟩
  | .hbm, ⟨7, _⟩ => ⟨S32x2048, .bf16⟩
  | .local _ .vmem, ⟨0, _⟩ => ⟨S32x2048, .bf16⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S32x512, .bf16⟩
  | .local _ .vmem, ⟨5, _⟩ => ⟨S32x512, .bf16⟩
  | .local _ .vmem, ⟨6, _⟩ => ⟨S2048x512, .bf16⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjQSRefIdeal.lean ====
abbrev S32x2048 : Shape := ⟨2, ![32, 2048]⟩
abbrev S2048x6144 : Shape := ⟨2, ![2048, 6144]⟩
abbrev S128 : Shape := ⟨1, ![128]⟩
abbrev S32x6144 : Shape := ⟨2, ![32, 6144]⟩
abbrev S32x3x16x128 : Shape := ⟨4, ![32, 3, 16, 128]⟩
abbrev S32x1x16x128 : Shape := ⟨4, ![32, 1, 16, 128]⟩
abbrev S32x16x128 : Shape := ⟨3, ![32, 16, 128]⟩
abbrev S_ : Shape := ⟨0, ![]⟩
abbrev S32x16 : Shape := ⟨2, ![32, 16]⟩
abbrev S32x16x1 : Shape := ⟨3, ![32, 16, 1]⟩
abbrev S1x1x128 : Shape := ⟨3, ![1, 1, 128]⟩

abbrev nBuf : Space → Nat
  | .hbm => 26
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S2048x6144, .f32⟩
  | .hbm, ⟨2, _⟩ => ⟨S128, .f32⟩
  | .hbm, ⟨3, _⟩ => ⟨S32x2048, .f32⟩
  | .hbm, ⟨4, _⟩ => ⟨S32x6144, .f32⟩
  | .hbm, ⟨5, _⟩ => ⟨S32x3x16x128, .f32⟩
  | .hbm, ⟨6, _⟩ => ⟨S32x1x16x128, .f32⟩
  | .hbm, ⟨7, _⟩ => ⟨S32x16x128, .f32⟩
  | .hbm, ⟨8, _⟩ => ⟨S32x16x128, .f32⟩
  | .hbm, ⟨9, _⟩ => ⟨S_, .f32⟩
  | .hbm, ⟨10, _⟩ => ⟨S32x16, .f32⟩
  | .hbm, ⟨11, _⟩ => ⟨S32x16x1, .f32⟩
  | .hbm, ⟨12, _⟩ => ⟨S_, .f32⟩
  | .hbm, ⟨13, _⟩ => ⟨S32x16x1, .f32⟩
  | .hbm, ⟨14, _⟩ => ⟨S32x16x1, .f32⟩
  | .hbm, ⟨15, _⟩ => ⟨S_, .f32⟩
  | .hbm, ⟨16, _⟩ => ⟨S32x16x1, .f32⟩
  | .hbm, ⟨17, _⟩ => ⟨S32x16x1, .f32⟩
  | .hbm, ⟨18, _⟩ => ⟨S32x16x1, .f32⟩
  | .hbm, ⟨19, _⟩ => ⟨S32x16x128, .f32⟩
  | .hbm, ⟨20, _⟩ => ⟨S32x16x128, .f32⟩
  | .hbm, ⟨21, _⟩ => ⟨S1x1x128, .f32⟩
  | .hbm, ⟨22, _⟩ => ⟨S32x16x128, .f32⟩
  | .hbm, ⟨23, _⟩ => ⟨S32x16x128, .f32⟩
  | .hbm, ⟨24, _⟩ => ⟨S32x2048, .f32⟩
  | .hbm, ⟨25, _⟩ => ⟨S32x2048, .bf16⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.Online.lean ====
module
public import Idealize.ShloMosaic.PureOps.Ideal

/-! Online softmax over the extended reals, for ONE query.  Its keys are numbered `0, 1, …`; `s j` is key `j`'s score in
    bits, `⊥` where the key is masked, and `v j` one coordinate of its value.  The kernel visits the keys block by block
    and keeps a running maximum, a running mass and a running weighted sum; these are shown to be the maximum, the mass
    and the weighted sum of all keys seen so far, whatever the blocks. -/

@[expose] public section

noncomputable section

namespace Cert.Online

open Idealize.ShloMosaic Finset

variable (s v : ℕ → EReal)

/-- The largest score among the first `n` keys. -/
def top (n : ℕ) : EReal := (range n).sup s

/-- The mass of the first `n` keys relative to their largest score. -/
def mass (n : ℕ) : EReal := ∑ j ∈ range n, Ideal.exp2 (s j - top s n)

/-- The values of the first `n` keys, weighted relative to their largest score. -/
def acc (n : ℕ) : EReal := ∑ j ∈ range n, Ideal.exp2 (s j - top s n) * v j

/-- A power of two is not negative. -/
theorem exp2_nonneg (x : EReal) : 0 ≤ Ideal.exp2 x := by
  induction x with
  | bot => simp
  | coe r => rw [Ideal.exp2_coe]; exact_mod_cast (Real.rpow_pos_of_pos two_pos r).le
  | top => simp

/-- A power of two is finite away from plus infinity. -/
theorem exp2_ne_top {x : EReal} (h : x ≠ ⊤) : Ideal.exp2 x ≠ ⊤ := by
  induction x with
  | bot => simp
  | coe r => rw [Ideal.exp2_coe]; exact EReal.coe_ne_top _
  | top => exact absurd rfl h

/-- Minus infinity less anything is minus infinity. -/
theorem bot_sub (x : EReal) : (⊥ : EReal) - x = ⊥ := by rw [sub_eq_add_neg, EReal.bot_add]

/-- Moving a weight from one maximum to a larger one. -/
theorem rescale {x m m' : EReal} (hx : x ≤ m) (hm : m ≤ m') (ht : m' ≠ ⊤) :
    Ideal.exp2 (m - m') * Ideal.exp2 (x - m) = Ideal.exp2 (x - m') := by
  induction x with
  | bot => simp [bot_sub]
  | top => exact absurd (top_le_iff.mp (hx.trans hm)) ht
  | coe x =>
    induction m with
    | bot => exact absurd (le_bot_iff.mp hx) (EReal.coe_ne_bot x)
    | top => exact absurd (top_le_iff.mp hm) ht
    | coe m =>
      induction m' with
      | bot => exact absurd (le_bot_iff.mp hm) (EReal.coe_ne_bot m)
      | top => exact absurd rfl ht
      | coe m' =>
        rw [← EReal.coe_sub, ← EReal.coe_sub, ← EReal.coe_sub, Ideal.exp2_coe, Ideal.exp2_coe, Ideal.exp2_coe,
          ← EReal.coe_mul]
        congr 1
        show (2 : ℝ) ^ (m - m') * (2 : ℝ) ^ (x - m) = (2 : ℝ) ^ (x - m')
        rw [← Real.rpow_add two_pos]
        congr 1
        ring

/-- A nonnegative real factor distributes over any finite sum. -/
theorem mul_sum_of_nonneg {ι : Type*} (t : Finset ι) (f : ι → EReal) {a : EReal} (h0 : 0 ≤ a) (ht : a ≠ ⊤) :
    a * ∑ j ∈ t, f j = ∑ j ∈ t, a * f j := by
  classical
  induction t using Finset.induction_on with
  | empty => simp
  | insert j t hj ih => rw [sum_insert hj, sum_insert hj, EReal.left_distrib_of_nonneg_of_ne_top h0 ht, ih]

/-- A score among the first `n` is at most their maximum. -/
theorem le_top {j n : ℕ} (h : j < n) : s j ≤ top s n := Finset.le_sup (mem_range.mpr h)

/-- More scores, a larger maximum. -/
theorem top_mono {n n' : ℕ} (h : n ≤ n') : top s n ≤ top s n' := Finset.sup_mono (range_mono h)

/-- A maximum of scores below plus infinity is below it. -/
theorem top_ne_top (hs : ∀ j, s j ≠ ⊤) (n : ℕ) : top s n ≠ ⊤ :=
  ((Finset.sup_lt_iff (show (⊥ : EReal) < ⊤ from bot_lt_top)).mpr fun j _ => lt_top_iff_ne_top.mpr (hs j)).ne

/-- The maximum of no scores. -/
theorem top_zero : top s 0 = ⊥ := by simp [top]
/-- The mass of no scores. -/
theorem mass_zero : mass s 0 = 0 := by simp [mass]
/-- The accumulator of no scores. -/
theorem acc_zero : acc s v 0 = 0 := by simp [acc]

/-- The maximum after one more block. -/
theorem top_add (n b : ℕ) : top s (n + b) = max (top s n) ((range b).sup fun i => s (n + i)) := by
  refine le_antisymm (Finset.sup_le fun j hj => ?_) (max_le (top_mono s (Nat.le_add_right n b)) (Finset.sup_le fun i hi => ?_))
  · rcases lt_or_ge j n with h | h
    · exact (le_top s h).trans (le_max_left _ _)
    · obtain ⟨i, rfl⟩ := Nat.exists_eq_add_of_le h
      exact (Finset.le_sup (f := fun i => s (n + i))
        (mem_range.mpr (Nat.lt_of_add_lt_add_left (mem_range.mp hj)))).trans (le_max_right _ _)
  · exact le_top s (Nat.add_lt_add_left (mem_range.mp hi) n)

/-- A score less a maximum above it is below plus infinity. -/
theorem sub_ne_top {a b : EReal} (h : a ≤ b) (hb : b ≠ ⊤) : a - b ≠ ⊤ := by
  induction b with
  | bot => rw [le_bot_iff.mp h, bot_sub]; exact bot_ne_top
  | top => exact absurd rfl hb
  | coe b =>
    induction a with
    | bot => rw [bot_sub]; exact bot_ne_top
    | top => exact absurd (top_le_iff.mp h) hb
    | coe a => rw [← EReal.coe_sub]; exact EReal.coe_ne_top _

/-- The mass after one more block: the old mass rescaled, plus the block's. -/
theorem mass_add (hs : ∀ j, s j ≠ ⊤) (n b : ℕ) :
    Ideal.exp2 (top s n - top s (n + b)) * mass s n + ∑ i ∈ range b, Ideal.exp2 (s (n + i) - top s (n + b))
      = mass s (n + b) := by
  have hle := top_mono s (Nat.le_add_right n b)
  have ht := top_ne_top s hs (n + b)
  rw [mass, mass, Finset.sum_range_add, mul_sum_of_nonneg _ _ (exp2_nonneg _) (exp2_ne_top ?_)]
  · congr 1
    exact sum_congr rfl fun j hj => rescale (le_top s (mem_range.mp hj)) hle ht
  · exact sub_ne_top hle ht

/-- The weighted sum after one more block. -/
theorem acc_add (hs : ∀ j, s j ≠ ⊤) (n b : ℕ) :
    Ideal.exp2 (top s n - top s (n + b)) * acc s v n
        + ∑ i ∈ range b, Ideal.exp2 (s (n + i) - top s (n + b)) * v (n + i)
      = acc s v (n + b) := by
  have hle := top_mono s (Nat.le_add_right n b)
  have ht := top_ne_top s hs (n + b)
  rw [acc, acc, Finset.sum_range_add, mul_sum_of_nonneg _ _ (exp2_nonneg _) (exp2_ne_top ?_)]
  · congr 1
    refine sum_congr rfl fun j hj => ?_
    rw [← mul_assoc, rescale (le_top s (mem_range.mp hj)) hle ht]
  · exact sub_ne_top hle ht

/-! ### Masked keys at the end -/

/-- Scores of minus infinity do not change the maximum. -/
theorem top_stop {n N : ℕ} (h : n ≤ N) (hb : ∀ j, n ≤ j → j < N → s j = ⊥) : top s n = top s N := by
  refine le_antisymm (top_mono s h) (Finset.sup_le fun j hj => ?_)
  rcases lt_or_ge j n with h' | h'
  · exact le_top s h'
  · rw [hb j h' (mem_range.mp hj)]; exact bot_le

/-- Nor the mass. -/
theorem mass_stop {n N : ℕ} (h : n ≤ N) (hb : ∀ j, n ≤ j → j < N → s j = ⊥) : mass s n = mass s N := by
  obtain ⟨b, rfl⟩ := Nat.exists_eq_add_of_le h
  rw [mass, mass, ← top_stop s h hb, Finset.sum_range_add]
  refine (add_zero _).symm.trans (congrArg _ (Finset.sum_eq_zero fun i hi => ?_).symm)
  rw [hb (n + i) (Nat.le_add_right n i) (Nat.add_lt_add_left (mem_range.mp hi) n), bot_sub, Ideal.exp2_bot]

/-- Nor the accumulator. -/
theorem acc_stop {n N : ℕ} (h : n ≤ N) (hb : ∀ j, n ≤ j → j < N → s j = ⊥) : acc s v n = acc s v N := by
  obtain ⟨b, rfl⟩ := Nat.exists_eq_add_of_le h
  rw [acc, acc, ← top_stop s h hb, Finset.sum_range_add]
  refine (add_zero _).symm.trans (congrArg _ (Finset.sum_eq_zero fun i hi => ?_).symm)
  rw [hb (n + i) (Nat.le_add_right n i) (Nat.add_lt_add_left (mem_range.mp hi) n), bot_sub, Ideal.exp2_bot, zero_mul]

/-! ### From base two to base `e`, and the division -/

/-- With one visible key among the first `N` the mass is a positive real number. -/
theorem mass_real (hs : ∀ j, s j ≠ ⊤) {N k : ℕ} (hk : k < N) (h : s k ≠ ⊥) : ∃ r : ℝ, 0 < r ∧ mass s N = r := by
  have ht := top_ne_top s hs N
  have hb : top s N ≠ ⊥ := fun e => h (le_bot_iff.mp (e ▸ le_top s hk))
  have hpos : 0 < mass s N := by
    refine lt_of_lt_of_le ?_ (Finset.single_le_sum (fun j _ => exp2_nonneg (s j - top s N)) (mem_range.mpr hk))
    lift s k to ℝ using ⟨hs k, h⟩ with x
    lift top s N to ℝ using ⟨ht, hb⟩ with m
    rw [← EReal.coe_sub, Ideal.exp2_coe]
    exact_mod_cast Real.rpow_pos_of_pos two_pos (x - m)
  have hlt : mass s N ≠ ⊤ := by
    have : ∀ t : Finset ℕ, (∀ j ∈ t, j < N) → ∑ j ∈ t, Ideal.exp2 (s j - top s N) ≠ ⊤ := by
      intro t
      induction t using Finset.induction_on with
      | empty => intro _; simp
      | insert j t hj ih =>
        intro hmem
        rw [sum_insert hj]
        exact EReal.add_ne_top (exp2_ne_top (sub_ne_top (le_top s (hmem j (mem_insert_self j t))) ht))
          (ih fun i hi => hmem i (mem_insert_of_mem hi))
    exact this _ fun j hj => mem_range.mp hj
  generalize mass s N = M at hpos hlt
  induction M with
  | bot => exact absurd hpos (not_lt.mpr bot_le)
  | top => exact absurd rfl hlt
  | coe r => exact ⟨r, by exact_mod_cast hpos, rfl⟩

/-- `2 ^ (y / log 2) = e ^ y`, for scores that are real or masked. -/
theorem exp2_scaled {x m : EReal} (hx : x ≠ ⊤) (hm : m ≠ ⊤) (hb : m ≠ ⊥) :
    Ideal.exp2 (x * ((Real.log 2)⁻¹ : ℝ) - m * ((Real.log 2)⁻¹ : ℝ)) = Ideal.exp (x - m) := by
  have hlog : 0 < Real.log 2 := Real.log_pos one_lt_two
  lift m to ℝ using ⟨hm, hb⟩
  induction x with
  | bot => rw [EReal.bot_mul_coe_of_pos (inv_pos.mpr hlog), bot_sub, bot_sub]; simp
  | top => exact absurd rfl hx
  | coe x =>
    rw [← EReal.coe_mul, ← EReal.coe_mul, ← EReal.coe_sub, ← EReal.coe_sub, Ideal.exp2_coe, Ideal.exp_coe]
    congr 1
    show (2 : ℝ) ^ (x * (Real.log 2)⁻¹ - m * (Real.log 2)⁻¹) = _
    rw [Real.rpow_def_of_pos two_pos]
    congr 1
    field_simp

/-- Scaling by a positive number keeps order. -/
theorem mul_pos_mono {c : ℝ} (hc : 0 < c) : Monotone fun x : EReal => x * (c : EReal) :=
  fun _ _ h => mul_le_mul_of_nonneg_right h (by exact_mod_cast hc.le)

/-- The largest scaled score is the scaled largest score. -/
theorem top_scaled (x : ℕ → EReal) {c : ℝ} (hc : 0 < c) (hx : ∀ j, s j = x j * (c : EReal)) (N : ℕ) :
    top s N = top x N * (c : EReal) := by
  have e : s = (fun y : EReal => y * (c : EReal)) ∘ x := funext hx
  rw [top, e]
  exact (Finset.comp_sup_eq_sup_comp_of_is_total _ (mul_pos_mono hc) (EReal.bot_mul_coe_of_pos hc)).symm

/-- The kernel's quotient, over the keys it visits, is softmax attention over all keys. -/
theorem attend (x : ℕ → EReal) (hx : ∀ j, s j = x j * ((Real.log 2)⁻¹ : ℝ)) (ht : ∀ j, x j ≠ ⊤) {n N k : ℕ}
    (h : n ≤ N) (hb : ∀ j, n ≤ j → j < N → x j = ⊥) (hk : k < N) (hv : x k ≠ ⊥) :
    Ideal.div (acc s v n) (mass s n)
      = ∑ j ∈ range N, v j * Ideal.div (Ideal.exp (x j - top x N)) (∑ i ∈ range N, Ideal.exp (x i - top x N)) := by
  have hlog : 0 < (Real.log 2)⁻¹ := inv_pos.mpr (Real.log_pos one_lt_two)
  have hsb : ∀ j, n ≤ j → j < N → s j = ⊥ := fun j h1 h2 => by
    rw [hx, hb j h1 h2, EReal.bot_mul_coe_of_pos hlog]
  have hst : ∀ j, s j ≠ ⊤ := fun j => by
    rw [hx]
    have := ht j
    generalize x j = y at this
    induction y with
    | bot => rw [EReal.bot_mul_coe_of_pos hlog]; exact bot_ne_top
    | top => exact absurd rfl this
    | coe y => rw [← EReal.coe_mul]; exact EReal.coe_ne_top _
  have hsk : s k ≠ ⊥ := by
    rw [hx]
    have := ht k
    generalize x k = y at this hv
    induction y with
    | bot => exact absurd rfl hv
    | top => exact absurd rfl this
    | coe y => rw [← EReal.coe_mul]; exact EReal.coe_ne_bot _
  have hxt := top_ne_top x ht N
  have hxb : top x N ≠ ⊥ := fun e => hv (le_bot_iff.mp (e ▸ le_top x hk))
  have hterm : ∀ j, Ideal.exp2 (s j - top s N) = Ideal.exp (x j - top x N) := fun j => by
    rw [top_scaled s x hlog hx, hx, exp2_scaled (ht j) hxt hxb]
  have hmass : mass s N = ∑ i ∈ range N, Ideal.exp (x i - top x N) := Finset.sum_congr rfl fun j _ => hterm j
  obtain ⟨r, hr, hm⟩ := mass_real s hst hk hsk
  rw [acc_stop s v h hsb, mass_stop s h hsb, ← hmass, hm, Ideal.div_coe hr.ne', acc, mul_comm,
    mul_sum_of_nonneg _ _ (by exact_mod_cast (one_div_pos.mpr hr).le) (EReal.coe_ne_top _)]
  refine Finset.sum_congr rfl fun j _ => ?_
  rw [Ideal.div_coe hr.ne', ← hterm j, mul_comm (v j), mul_assoc, mul_left_comm]

end Cert.Online
-- ==== Proof.DsaTrip.lean ====
module
public import proofs.«01_k».proof.Proof.Gen.KernelIdeal.Value
public import Idealize.ShloMosaic.Lib.Pipeline.ValueKit
public import proofs.«01_k».proof.Proof.Online

/-! One trip of the sparse-attention kernel's key loop: 512 keys, four heads.  Each head carries a running maximum, mass
    and weighted sum per query row; a trip moves them over one block of keys. -/

@[expose] public section

set_option maxRecDepth 16384

noncomputable section

namespace Cert.KernelIdeal.Hand

open Cert.KernelIdeal Cert.KernelIdeal.Gen Idealize.ShloMosaic Idealize.ShloMosaic.TcCoe Idealize.SL.Sem

section Trip

variable {F : FTy → Type} [FloatOps F] [Named F]

/-- A head's new weighted sum. -/
def headA (q : Vec F S256x128 .bf16) (m : FVec F S256x1 .f32) (a : FVec F S256x128 .f32) (kb vb : Vec F S512x128 .bf16)
    (b : Vec F S256x512 .f32) : FVec F S256x128 .f32 :=
  k0_pay7 (k0_pay47 a (k0_pay25 q m kb b)) (k0_pay48 vb (k0_pay28 q m kb b))

/-- The block of keys, or of values, that trip `k` loads for each head, and its block of the bias. -/
def ld1 (i : grid0.Coords) (k : Fin (k0_t1_loop i).trips) (X : Vec F S4096x512 .bf16) : Vec F S512x128 .bf16 :=
  View.ld X (Rect.unit (s := S4096x512) (k0_off1 i k) S512x128.size (k0_off1_inb i k))
/-- The same of the second head. -/
def ld2 (i : grid0.Coords) (k : Fin (k0_t1_loop i).trips) (X : Vec F S4096x512 .bf16) : Vec F S512x128 .bf16 :=
  View.ld X (Rect.unit (s := S4096x512) (k0_off2 i k) S512x128.size (k0_off2_inb i k))
/-- The same of the third head. -/
def ld3 (i : grid0.Coords) (k : Fin (k0_t1_loop i).trips) (X : Vec F S4096x512 .bf16) : Vec F S512x128 .bf16 :=
  View.ld X (Rect.unit (s := S4096x512) (k0_off3 i k) S512x128.size (k0_off3_inb i k))
/-- The same of the fourth head. -/
def ld4 (i : grid0.Coords) (k : Fin (k0_t1_loop i).trips) (X : Vec F S4096x512 .bf16) : Vec F S512x128 .bf16 :=
  View.ld X (Rect.unit (s := S4096x512) (k0_off4 i k) S512x128.size (k0_off4_inb i k))
/-- The block of the bias that a trip loads. -/
def ldB (i : grid0.Coords) (k : Fin (k0_t1_loop i).trips) (X : Vec F S256x4096 .f32) : Vec F S256x512 .f32 :=
  View.ld X (Rect.unit (s := S256x4096) (k0_off5 i k) S256x512.size (k0_off5_inb i k))

/-- A trip runs the same step on each of the four heads. -/
theorem trip_eq (𝒱 : Variants) (c : Dev nD) (bd : Option 𝒱.V) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x4096 .f32) (harg6 : arg6.IsWhole) (arg7 : Memref sig .tc .vmem S256x512 .bf16) (harg7 : arg7.IsWhole) (v21 : Vec F S256x128 .bf16) (v22 : Vec F S256x128 .bf16) (v23 : Vec F S256x128 .bf16) (v24 : Vec F S256x128 .bf16) (X_arg4 : BufTy.Contents (Elt F) arg4.view.ty) (X_arg5 : BufTy.Contents (Elt F) arg5.view.ty) (X_arg6 : BufTy.Contents (Elt F) arg6.view.ty)
    (k : Fin (k0_t1_loop i).trips) (m1 l1 : FVec F S256x1 .f32) (a1 : FVec F S256x128 .f32) (m2 l2 : FVec F S256x1 .f32)
    (a2 : FVec F S256x128 .f32) (m3 l3 : FVec F S256x1 .f32) (a3 : FVec F S256x128 .f32) (m4 l4 : FVec F S256x1 .f32)
    (a4 : FVec F S256x128 .f32) :
    tripR_k0_t1 (F := F) 𝒱 c bd i arg3 harg3 arg4 harg4 arg5 harg5 arg6 harg6 arg7 harg7 v21 v22 v23 v24 X_arg4 X_arg5
        X_arg6 k (m1, l1, a1, m2, l2, a2, m3, l3, a3, m4, l4, a4)
      = (let K := View.read (Elt F) arg4.view X_arg4
         let V := View.read (Elt F) arg5.view X_arg5
         let b := ldB i k (View.read (Elt F) arg6.view X_arg6)
         (k0_pay24 v21 m1 (ld1 i k K) b, k0_pay27 v21 m1 l1 (ld1 i k K) b, headA v21 m1 a1 (ld1 i k K) (ld1 i k V) b,
          k0_pay24 v22 m2 (ld2 i k K) b, k0_pay27 v22 m2 l2 (ld2 i k K) b, headA v22 m2 a2 (ld2 i k K) (ld2 i k V) b,
          k0_pay24 v23 m3 (ld3 i k K) b, k0_pay27 v23 m3 l3 (ld3 i k K) b, headA v23 m3 a3 (ld3 i k K) (ld3 i k V) b,
          k0_pay24 v24 m4 (ld4 i k K) b, k0_pay27 v24 m4 l4 (ld4 i k K) b, headA v24 m4 a4 (ld4 i k K) (ld4 i k V) b)) := by
  unfold tripR_k0_t1 trip_k0_t1
  dsimp only
  frame_out
  rfl

end Trip

/-- A block's scores in bits: scaled products of queries and keys, plus the bias. -/
theorem head_score (q : Vec Ideal S256x128 .bf16) (kb : Vec Ideal S512x128 .bf16) (b : Vec Ideal S256x512 .f32)
    (r : Fin 256) (j : Fin 512) : k0_pay23 q kb b (ix2 r j)
      = (∑ d : Fin 128, q (ix2 r d) * kb (ix2 j d)) * ((Real.sqrt 128)⁻¹ * (Real.log 2)⁻¹ : ℝ) + b (ix2 r j) := by
  pointwise [k0_pay23, k0_pay19]
  rw [IdealRules.named_const.ideal_named_scalar _ _ _ _ rfl]

/-- The running maximum after a trip. -/
theorem head_max (q : Vec Ideal S256x128 .bf16) (m : FVec Ideal S256x1 .f32) (kb : Vec Ideal S512x128 .bf16)
    (b : Vec Ideal S256x512 .f32) (r : Fin 256) : k0_pay24 q m kb b (ix2 r 0)
      = max (m (ix2 r 0)) (Finset.univ.sup fun j : Fin 512 => k0_pay23 q kb b (ix2 r j)) := by
  have hb : Ideal.ofBits FTy.f32 4286578688#32 = ⊥ := by simp [Ideal.ofBits, Ideal.ieee]
  pointwise [k0_pay24]
  rw [hb]
  rfl

/-- The running mass after a trip. -/
theorem head_mass (q : Vec Ideal S256x128 .bf16) (m l : FVec Ideal S256x1 .f32) (kb : Vec Ideal S512x128 .bf16)
    (b : Vec Ideal S256x512 .f32) (r : Fin 256) : k0_pay27 q m l kb b (ix2 r 0)
      = Ideal.exp2 (m (ix2 r 0) - k0_pay24 q m kb b (ix2 r 0)) * l (ix2 r 0)
        + ∑ j : Fin 512, Ideal.exp2 (k0_pay23 q kb b (ix2 r j) - k0_pay24 q m kb b (ix2 r 0)) := by
  pointwise [k0_pay27, k0_pay25, k0_pay26]
  rfl

/-- The running accumulator after a trip. -/
theorem head_acc (q : Vec Ideal S256x128 .bf16) (m : FVec Ideal S256x1 .f32) (a : FVec Ideal S256x128 .f32)
    (kb vb : Vec Ideal S512x128 .bf16) (b : Vec Ideal S256x512 .f32) (r : Fin 256) (d : Fin 128) :
    headA q m a kb vb b (ix2 r d)
      = Ideal.exp2 (m (ix2 r 0) - k0_pay24 q m kb b (ix2 r 0)) * a (ix2 r d)
        + ∑ j : Fin 512, Ideal.exp2 (k0_pay23 q kb b (ix2 r j) - k0_pay24 q m kb b (ix2 r 0)) * vb (ix2 j d) := by
  pointwise [headA, k0_pay7, k0_pay47, k0_pay48, k0_pay28, k0_pay25, k0_pay26]
  rfl

/-- A head's carried values are the maximum, the mass and the weighted sum of its first `n` keys: row `r` scores the
    keys by `s r`, and column `d` of the values is `v d`. -/
structure HeadOK (s : Fin 256 → ℕ → EReal) (v : Fin 128 → ℕ → EReal) (n : ℕ) (m l : FVec Ideal S256x1 .f32)
    (a : FVec Ideal S256x128 .f32) : Prop where
  top : ∀ r : Fin 256, m (ix2 r 0) = Online.top (s r) n
  mass : ∀ r : Fin 256, l (ix2 r 0) = Online.mass (s r) n
  acc : ∀ (r : Fin 256) (d : Fin 128), a (ix2 r d) = Online.acc (s r) (v d) n

/-- A trip's step on one head moves this over one block of keys. -/
theorem HeadOK.step {s : Fin 256 → ℕ → EReal} {v : Fin 128 → ℕ → EReal} {n : ℕ} {m l : FVec Ideal S256x1 .f32}
    {a : FVec Ideal S256x128 .f32} (h : HeadOK s v n m l a) (hs : ∀ r j, s r j ≠ ⊤) (q : Vec Ideal S256x128 .bf16)
    (kb vb : Vec Ideal S512x128 .bf16) (b : Vec Ideal S256x512 .f32)
    (hk : ∀ (r : Fin 256) (j : Fin 512), k0_pay23 q kb b (ix2 r j) = s r (n + j))
    (hv : ∀ (j : Fin 512) (d : Fin 128), vb (ix2 j d) = v d (n + j)) :
    HeadOK s v (n + 512) (k0_pay24 q m kb b) (k0_pay27 q m l kb b) (headA q m a kb vb b) := by
  have htop : ∀ r : Fin 256, k0_pay24 q m kb b (ix2 r 0) = Online.top (s r) (n + 512) := fun r => by
    rw [head_max, h.top, Online.top_add]
    congr 1
    refine le_antisymm (Finset.sup_le fun j _ => ?_) (Finset.sup_le fun i hi => ?_)
    · rw [hk]
      exact Finset.le_sup (f := fun i => s r (n + i)) (Finset.mem_range.mpr j.isLt)
    · exact (hk r ⟨i, Finset.mem_range.mp hi⟩).symm.le.trans
        (Finset.le_sup (f := fun j : Fin 512 => k0_pay23 q kb b (ix2 r j)) (Finset.mem_univ _))
  refine ⟨htop, fun r => ?_, fun r d => ?_⟩
  · rw [head_mass, htop, h.top, h.mass, ← Online.mass_add (s r) (hs r), Finset.sum_range]
    simp only [hk]
  · rw [head_acc, htop, h.top, h.acc, ← Online.acc_add (s r) (v d) (hs r), Finset.sum_range]
    simp only [hk, hv]

end Cert.KernelIdeal.Hand
-- ==== Proof.DsaLoop.lean ====
module
public import proofs.«01_k».proof.Proof.DsaTrip

/-! The key loop of the sparse-attention kernel: after `n` trips the four heads carry the maximum, mass and weighted sum
    of their first `512 * n` keys. -/

@[expose] public section

set_option maxRecDepth 16384

noncomputable section

namespace Cert.KernelIdeal.Hand

open Cert.KernelIdeal Cert.KernelIdeal.Gen Idealize.ShloMosaic Idealize.ShloMosaic.TcCoe Idealize.SL.Sem

/-- Column `d` of head `e` among a group's four heads. -/
def col (e : Fin 4) (d : Fin 128) : Fin 512 := ⟨128 * e.val + d.val, by omega⟩

/-- The queries of head `e`. -/
def queries (Q : Vec Ideal S256x512 .bf16) (e : Fin 4) : Vec Ideal S256x128 .bf16 := fun y => Q (ix2 (y 0) (col e (y 1)))

/-- Row `r`'s score of key `j` in bits for head `e`, and `⊥` past the last key. -/
def score (Q : Vec Ideal S256x512 .bf16) (K : Vec Ideal S4096x512 .bf16) (B : Vec Ideal S256x4096 .f32) (e : Fin 4)
    (r : Fin 256) (j : ℕ) : EReal :=
  if h : j < 4096 then
    (∑ d : Fin 128, Q (ix2 r (col e d)) * K (ix2 (⟨j, h⟩ : Fin 4096) (col e d)))
        * ((Real.sqrt 128)⁻¹ * (Real.log 2)⁻¹ : ℝ) + B (ix2 r (⟨j, h⟩ : Fin 4096))
  else ⊥

/-- Column `d` of head `e`'s values, and 0 past the last key. -/
def value (V : Vec Ideal S4096x512 .bf16) (e : Fin 4) (d : Fin 128) (j : ℕ) : EReal :=
  if h : j < 4096 then V (ix2 (⟨j, h⟩ : Fin 4096) (col e d)) else 0

/-- The keys of a trip are within the keys of the batch. -/
theorem key_lt {i : grid0.Coords} (k : Fin (k0_t1_loop i).trips) (j : Fin 512) : 512 * k.val + j.val < 4096 := by
  have := Nat.lt_of_lt_of_le k.isLt (k0_t1_abs i).2.1
  omega

/-- A trip's slice of the first head's keys or values, read at an index. -/
theorem ld1_apply (i : grid0.Coords) (k : Fin (k0_t1_loop i).trips) (X : Vec Ideal S4096x512 .bf16) (j : Fin 512)
    (d : Fin 128) : ld1 i k X (ix2 j d) = X (ix2 (⟨512 * k.val + j.val, key_lt k j⟩ : Fin 4096) (col 0 d)) := by
  refine View.ld_unit_apply_of X _ _ _ _ _ fun a => ?_
  refine Eq.trans ?_ (congrArg (· + _) (congrFun (k0_off1_eq i k) a).symm)
  fin_cases a <;> rfl

/-- The same for the second head. -/
theorem ld2_apply (i : grid0.Coords) (k : Fin (k0_t1_loop i).trips) (X : Vec Ideal S4096x512 .bf16) (j : Fin 512)
    (d : Fin 128) : ld2 i k X (ix2 j d) = X (ix2 (⟨512 * k.val + j.val, key_lt k j⟩ : Fin 4096) (col 1 d)) := by
  refine View.ld_unit_apply_of X _ _ _ _ _ fun a => ?_
  refine Eq.trans ?_ (congrArg (· + _) (congrFun (k0_off2_eq i k) a).symm)
  fin_cases a <;> rfl

/-- The same for the third head. -/
theorem ld3_apply (i : grid0.Coords) (k : Fin (k0_t1_loop i).trips) (X : Vec Ideal S4096x512 .bf16) (j : Fin 512)
    (d : Fin 128) : ld3 i k X (ix2 j d) = X (ix2 (⟨512 * k.val + j.val, key_lt k j⟩ : Fin 4096) (col 2 d)) := by
  refine View.ld_unit_apply_of X _ _ _ _ _ fun a => ?_
  refine Eq.trans ?_ (congrArg (· + _) (congrFun (k0_off3_eq i k) a).symm)
  fin_cases a <;> rfl

/-- The same for the fourth head. -/
theorem ld4_apply (i : grid0.Coords) (k : Fin (k0_t1_loop i).trips) (X : Vec Ideal S4096x512 .bf16) (j : Fin 512)
    (d : Fin 128) : ld4 i k X (ix2 j d) = X (ix2 (⟨512 * k.val + j.val, key_lt k j⟩ : Fin 4096) (col 3 d)) := by
  refine View.ld_unit_apply_of X _ _ _ _ _ fun a => ?_
  refine Eq.trans ?_ (congrArg (· + _) (congrFun (k0_off4_eq i k) a).symm)
  fin_cases a <;> rfl

/-- A trip's slice of the bias, read at an index. -/
theorem ldB_apply (i : grid0.Coords) (k : Fin (k0_t1_loop i).trips) (X : Vec Ideal S256x4096 .f32) (r : Fin 256)
    (j : Fin 512) : ldB i k X (ix2 r j) = X (ix2 r (⟨512 * k.val + j.val, key_lt k j⟩ : Fin 4096)) := by
  refine View.ld_unit_apply_of X _ _ _ _ _ fun a => ?_
  refine Eq.trans ?_ (congrArg (· + _) (congrFun (k0_off5_eq i k) a).symm)
  fin_cases a
  · exact (Nat.zero_add _).symm
  · rfl

/-- A loaded block's scores are the scores of its keys. -/
theorem block_score (Q : Vec Ideal S256x512 .bf16) (K : Vec Ideal S4096x512 .bf16) (B : Vec Ideal S256x4096 .f32)
    (e : Fin 4) (i : grid0.Coords) (k : Fin (k0_t1_loop i).trips) (kb : Vec Ideal S512x128 .bf16)
    (hkb : ∀ (j : Fin 512) (d : Fin 128), kb (ix2 j d) = K (ix2 (⟨512 * k.val + j.val, key_lt k j⟩ : Fin 4096) (col e d)))
    (r : Fin 256) (j : Fin 512) :
    k0_pay23 (queries Q e) kb (ldB i k B) (ix2 r j) = score Q K B e r (512 * k.val + j.val) := by
  rw [head_score, ldB_apply, score, dif_pos (key_lt k j)]
  simp only [hkb]
  rfl

/-- A value of a trip's block is the value of the key that the block holds there. -/
theorem block_value (V : Vec Ideal S4096x512 .bf16) (e : Fin 4) (i : grid0.Coords) (k : Fin (k0_t1_loop i).trips)
    (vb : Vec Ideal S512x128 .bf16)
    (hvb : ∀ (j : Fin 512) (d : Fin 128), vb (ix2 j d) = V (ix2 (⟨512 * k.val + j.val, key_lt k j⟩ : Fin 4096) (col e d)))
    (j : Fin 512) (d : Fin 128) : vb (ix2 j d) = value V e d (512 * k.val + j.val) := by
  rw [hvb, value, dif_pos (key_lt k j)]

/-- What a head carries after `n` keys. -/
abbrev Carries (Q : Vec Ideal S256x512 .bf16) (K V : Vec Ideal S4096x512 .bf16) (B : Vec Ideal S256x4096 .f32) (e : Fin 4)
    (n : ℕ) (x : FVec Ideal S256x1 .f32 × FVec Ideal S256x1 .f32 × FVec Ideal S256x128 .f32) : Prop :=
  HeadOK (score Q K B e) (value V e) n x.1 x.2.1 x.2.2

/-- The four heads' carried values. -/
abbrev Carry := FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32 × FVec Ideal S256x1 .f32 × FVec Ideal S256x1 .f32 × FVec Ideal S256x128 .f32

/-- All four heads carry what they should after `n` keys. -/
def AllCarry (Q : Vec Ideal S256x512 .bf16) (K V : Vec Ideal S4096x512 .bf16) (B : Vec Ideal S256x4096 .f32) (n : ℕ) :
    Carry → Prop
  | (m1, l1, a1, m2, l2, a2, m3, l3, a3, m4, l4, a4) =>
    Carries Q K V B 0 n (m1, l1, a1) ∧ Carries Q K V B 1 n (m2, l2, a2) ∧ Carries Q K V B 2 n (m3, l3, a3)
      ∧ Carries Q K V B 3 n (m4, l4, a4)

/-- After any number of trips the loop carries the four heads' running state over the keys read so far. -/
theorem loop_carries (𝒱 : Variants) (c : Dev nD) (bd : Option 𝒱.V) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x4096 .f32) (harg6 : arg6.IsWhole) (arg7 : Memref sig .tc .vmem S256x512 .bf16) (harg7 : arg7.IsWhole) (v21 : Vec Ideal S256x128 .bf16) (v22 : Vec Ideal S256x128 .bf16) (v23 : Vec Ideal S256x128 .bf16) (v24 : Vec Ideal S256x128 .bf16) (X_arg4 : BufTy.Contents (Elt Ideal) arg4.view.ty) (X_arg5 : BufTy.Contents (Elt Ideal) arg5.view.ty) (X_arg6 : BufTy.Contents (Elt Ideal) arg6.view.ty)
    (Q : Vec Ideal S256x512 .bf16) (K V : Vec Ideal S4096x512 .bf16) (B : Vec Ideal S256x4096 .f32)
    (h1 : v21 = queries Q 0) (h2 : v22 = queries Q 1) (h3 : v23 = queries Q 2) (h4 : v24 = queries Q 3)
    (hK : View.read (Elt Ideal) arg4.view X_arg4 = K) (hV : View.read (Elt Ideal) arg5.view X_arg5 = V)
    (hB : View.read (Elt Ideal) arg6.view X_arg6 = B) (hs : ∀ e r j, score Q K B e r j ≠ ⊤)
    (init : Carry) (h0 : AllCarry Q K V B 0 init) :
    ∀ n, n ≤ (k0_t1_loop i).trips → AllCarry Q K V B (512 * n) (st_k0_t1 (F := Ideal) 𝒱 c bd i arg3 harg3 arg4 harg4 arg5 harg5 arg6 harg6 arg7 harg7 v21 v22 v23 v24 X_arg4 X_arg5 X_arg6 init n) := by
  intro n
  induction n with
  | zero => intro _; exact h0
  | succ n ih =>
    intro hn
    have hp := ih (by omega)
    rw [st_k0_t1_succ (F := Ideal) 𝒱 c bd i arg3 harg3 arg4 harg4 arg5 harg5 arg6 harg6 arg7 harg7 v21 v22 v23 v24 X_arg4 X_arg5 X_arg6 init ⟨n, hn⟩]
    generalize st_k0_t1 (F := Ideal) 𝒱 c bd i arg3 harg3 arg4 harg4 arg5 harg5 arg6 harg6 arg7 harg7 v21 v22 v23 v24 X_arg4 X_arg5 X_arg6 init n = x at hp ⊢
    obtain ⟨m1, l1, a1, m2, l2, a2, m3, l3, a3, m4, l4, a4⟩ := x
    obtain ⟨p1, p2, p3, p4⟩ := hp
    rw [trip_eq, hK, hV, hB, h1, h2, h3, h4]
    refine ⟨p1.step (hs 0) _ _ _ _ ?_ ?_, p2.step (hs 1) _ _ _ _ ?_ ?_, p3.step (hs 2) _ _ _ _ ?_ ?_,
      p4.step (hs 3) _ _ _ _ ?_ ?_⟩
    · exact block_score Q K B 0 i ⟨n, hn⟩ _ (ld1_apply i _ K)
    · exact block_value V 0 i ⟨n, hn⟩ _ (ld1_apply i _ V)
    · exact block_score Q K B 1 i ⟨n, hn⟩ _ (ld2_apply i _ K)
    · exact block_value V 1 i ⟨n, hn⟩ _ (ld2_apply i _ V)
    · exact block_score Q K B 2 i ⟨n, hn⟩ _ (ld3_apply i _ K)
    · exact block_value V 2 i ⟨n, hn⟩ _ (ld3_apply i _ V)
    · exact block_score Q K B 3 i ⟨n, hn⟩ _ (ld4_apply i _ K)
    · exact block_value V 3 i ⟨n, hn⟩ _ (ld4_apply i _ V)

end Cert.KernelIdeal.Hand
-- ==== Proof.DsaPoint.lean ====
module
public import proofs.«01_k».proof.Proof.DsaLoop

/-! What a grid point of the sparse-attention kernel writes: each head's weighted sum divided by its mass. -/

@[expose] public section

set_option maxRecDepth 16384

noncomputable section

namespace Cert.KernelIdeal.Hand

open Cert.KernelIdeal Cert.KernelIdeal.Gen Idealize.ShloMosaic Idealize.ShloMosaic.TcCoe Idealize.SL.Sem

/-- The key loop stops at the last key block that its query rows can see. -/
theorem trips_eq (i : grid0.Coords) : (k0_t1_loop i).trips = (256 * (i 2).val + 767) / 512 := by
  unfold k0_t1_loop
  generalize (i 2 : Fin 16) = n
  revert n
  decide

/-- The loop's remainder is empty. -/
theorem trips_rest (i : grid0.Coords) : (k0_t2_loop i).trips = 0 := by
  unfold k0_t2_loop
  generalize (i 2 : Fin 16) = n
  revert n
  decide

section Ends

variable {F : FTy → Type} [FloatOps F] [Named F]

/-- The remainder loop makes no trips and leaves its state alone. -/
theorem rest_eq (𝒱 : Variants) (c : Dev nD) (bd : Option 𝒱.V) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x4096 .f32) (harg6 : arg6.IsWhole) (arg7 : Memref sig .tc .vmem S256x512 .bf16) (harg7 : arg7.IsWhole) (v21 : Vec F S256x128 .bf16) (v22 : Vec F S256x128 .bf16) (v23 : Vec F S256x128 .bf16) (v24 : Vec F S256x128 .bf16) (v41 : BitVec 32) (X_arg4 : BufTy.Contents (Elt F) arg4.view.ty) (X_arg5 : BufTy.Contents (Elt F) arg5.view.ty) (X_arg6 : BufTy.Contents (Elt F) arg6.view.ty)
    (init : FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32)
    (n : ℕ) (hn : n = (k0_t2_loop i).trips) :
    st_k0_t2 (F := F) 𝒱 c bd i arg3 harg3 arg4 harg4 arg5 harg5 arg6 harg6 arg7 harg7 v21 v22 v23 v24 v41 X_arg4 X_arg5
      X_arg6 init n = init := by
  rw [hn, trips_rest]
  rfl

/-- The values carried out of the key loop. -/
def loopEnd (𝒱 : Variants) (c : Dev nD) (bd : Option 𝒱.V) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x4096 .f32) (harg6 : arg6.IsWhole) (arg7 : Memref sig .tc .vmem S256x512 .bf16) (harg7 : arg7.IsWhole) (v21 : Vec F S256x128 .bf16) (v22 : Vec F S256x128 .bf16) (v23 : Vec F S256x128 .bf16) (v24 : Vec F S256x128 .bf16) (X_arg4 : BufTy.Contents (Elt F) arg4.view.ty) (X_arg5 : BufTy.Contents (Elt F) arg5.view.ty) (X_arg6 : BufTy.Contents (Elt F) arg6.view.ty)
    (init : FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32) :=
  st_k0_t1 (F := F) 𝒱 c bd i arg3 harg3 arg4 harg4 arg5 harg5 arg6 harg6 arg7 harg7 v21 v22 v23 v24 X_arg4 X_arg5 X_arg6 init (k0_t1_loop i).trips

/-- The key loop run for all its trips is `loopEnd`. -/
theorem loopEnd_eq (𝒱 : Variants) (c : Dev nD) (bd : Option 𝒱.V) (i : grid0.Coords) (arg3 : Memref sig .tc .vmem S256x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S256x4096 .f32) (harg6 : arg6.IsWhole) (arg7 : Memref sig .tc .vmem S256x512 .bf16) (harg7 : arg7.IsWhole) (v21 : Vec F S256x128 .bf16) (v22 : Vec F S256x128 .bf16) (v23 : Vec F S256x128 .bf16) (v24 : Vec F S256x128 .bf16) (X_arg4 : BufTy.Contents (Elt F) arg4.view.ty) (X_arg5 : BufTy.Contents (Elt F) arg5.view.ty) (X_arg6 : BufTy.Contents (Elt F) arg6.view.ty)
    (init : FVec F S256x1 .f32 × FVec F S256x1 .f32 × FVec F S256x128 .f32 × FVec F S256x1 .f32 × FVec F S256x1 .f32 × FVec F S256x128 .f32 × FVec F S256x1 .f32 × FVec F S256x1 .f32 × FVec F S256x128 .f32 × FVec F S256x1 .f32 × FVec F S256x1 .f32 × FVec F S256x128 .f32)
    (n : ℕ) (hn : n = (k0_t1_loop i).trips) :
    st_k0_t1 (F := F) 𝒱 c bd i arg3 harg3 arg4 harg4 arg5 harg5 arg6 harg6 arg7 harg7 v21 v22 v23 v24 X_arg4 X_arg5 X_arg6 init n
      = loopEnd 𝒱 c bd i arg3 harg3 arg4 harg4 arg5 harg5 arg6 harg6 arg7 harg7 v21 v22 v23 v24 X_arg4 X_arg5 X_arg6 init := by
  rw [hn]
  rfl

end Ends

/-- The attention output at row `r` and column `cc` of a block, over the first `n` keys. -/
def att (Q : Vec Ideal S256x512 .bf16) (K V : Vec Ideal S4096x512 .bf16) (B : Vec Ideal S256x4096 .f32) (n : ℕ)
    (r : Fin 256) (e : Fin 4) (d : Fin 128) : EReal :=
  Ideal.div (Online.acc (score Q K B e r) (value V e d) n) (Online.mass (score Q K B e r) n)

/-- An entry of the quotient of accumulator and mass. -/
theorem quotient_at (l : FVec Ideal S256x1 .f32) (a : FVec Ideal S256x128 .f32) (r : Fin 256) (d : Fin 128) :
    k0_pay15 l a (ix2 r d) = Ideal.div (a (ix2 r d)) (l (ix2 r 0)) := by
  pointwise [k0_pay15]

/-- The quotient of a head's state is the softmax-weighted sum over the keys read. -/
theorem HeadOK.quotient {Q : Vec Ideal S256x512 .bf16} {K V : Vec Ideal S4096x512 .bf16} {B : Vec Ideal S256x4096 .f32}
    {e : Fin 4} {n : ℕ} {m l : FVec Ideal S256x1 .f32} {a : FVec Ideal S256x128 .f32}
    (h : HeadOK (score Q K B e) (value V e) n m l a) (x : S256x128.Idx) :
    k0_pay15 l a x = att Q K V B n (x 0) e (x 1) := by
  obtain ⟨r, d, rfl⟩ : ∃ r d, x = ix2 r d := ⟨x 0, x 1, funext fun a => by fin_cases a <;> rfl⟩
  rw [quotient_at, h.mass, h.acc]
  rfl

/-- The queries that a head loads. -/
theorem queries_ld (Q : Vec Ideal S256x512 .bf16) (e : Fin 4) (off : Fin 2 → ℕ) (h : off = ![0, 128 * e.val])
    (inb : ∀ a, off a + S256x128.size a ≤ S256x512.size a) :
    (View.ld Q (Rect.unit (s := S256x512) off S256x128.size inb) : Vec Ideal S256x128 .bf16) = queries Q e := by
  subst h
  refine funext fun y => View.ld_unit_apply_of Q _ _ _ _ _ fun a => ?_
  fin_cases a
  · exact (Nat.zero_add _).symm
  · rfl

/-- A head starts from no keys. -/
theorem start (Q : Vec Ideal S256x512 .bf16) (K V : Vec Ideal S4096x512 .bf16) (B : Vec Ideal S256x4096 .f32) (e : Fin 4) :
    HeadOK (score Q K B e) (value V e) 0 (k0_pay79 (F := Ideal)) (k0_pay80 (F := Ideal)) (k0_pay81 (F := Ideal)) where
  top r := by
    rw [Online.top_zero]
    pointwise [k0_pay79]
    rw [IdealRules.named_const.ideal_named_scalar _ _ _ _ rfl]
  mass r := by
    rw [Online.mass_zero]
    pointwise [k0_pay80]
  acc r d := by
    rw [Online.acc_zero]
    pointwise [k0_pay81]

/-- The attention output at column `j` of a block: head `j / 128`, column `j % 128` of it. -/
def attAt (Q : Vec Ideal S256x512 .bf16) (K V : Vec Ideal S4096x512 .bf16) (B : Vec Ideal S256x4096 .f32) (n : ℕ)
    (r : Fin 256) (j : Fin 512) : EReal :=
  att Q K V B n r ⟨j.val / 128, by omega⟩ ⟨j.val % 128, Nat.mod_lt _ (by decide)⟩

/-- The attention at a column reads that column's head only. -/
theorem attAt_col (Q : Vec Ideal S256x512 .bf16) (K V : Vec Ideal S4096x512 .bf16) (B : Vec Ideal S256x4096 .f32) (n : ℕ)
    (r r' : Fin 256) (j : Fin 512) (e : Fin 4) (d : Fin 128) (hr : r'.val = r.val) (h : j.val = 128 * e.val + d.val) :
    att Q K V B n r e d = attAt Q K V B n r' j := by
  obtain rfl : r = r' := Fin.ext hr.symm
  rw [attAt]
  congr 1 <;> apply Fin.ext <;> dsimp only <;> omega

variable (m : (ℓ : Loc nD τ sig) → Buf (Elt Ideal) ℓ)

/-- Every grid point stores the attention of its four heads and 256 queries. -/
theorem point (c : Dev nD) (t : Fin cfg0.N) (y : S256x512.Idx)
    (hs : ∀ e r j, score (iblk m c 0 t) (iblk m c 1 t) (iblk m c 3 t) e r j ≠ ⊤) :
    outsAt0 m c t y = attAt (iblk m c 0 t) (iblk m c 1 t) (iblk m c 2 t) (iblk m c 3 t)
      (512 * (k0_t1_loop (grid0.coords t)).trips) (y 0) (y 1) := by
  unfold outsAt0
  frame_out
  rw [rest_eq (hn := rfl)]
  dsimp only
  rw [loopEnd_eq (hn := rfl)]
  have hx := loop_carries Variants.none c none (grid0.coords t) (ms0_0 t) (hs0_0 t) (ms0_1 t) (hs0_1 t)
    (ms0_2 t) (hs0_2 t) (ms0_3 t) (hs0_3 t) (ms0_4 t) (hs0_4 t)
    (View.ld (iblk m c 0 t) (Rect.unit ![0, 0] ![256, 128] inb_S256x512_S256x128_0_0))
    (View.ld (iblk m c 0 t) (Rect.unit ![0, 128] ![256, 128] inb_S256x512_S256x128_0_128))
    (View.ld (iblk m c 0 t) (Rect.unit ![0, 256] ![256, 128] inb_S256x512_S256x128_0_256))
    (View.ld (iblk m c 0 t) (Rect.unit ![0, 384] ![256, 128] inb_S256x512_S256x128_0_384))
    ((hs0_1 t).unread (iblk m c 1 t)) ((hs0_2 t).unread (iblk m c 2 t)) ((hs0_3 t).unread (iblk m c 3 t))
    (iblk m c 0 t) (iblk m c 1 t) (iblk m c 2 t) (iblk m c 3 t) (queries_ld _ 0 _ rfl _) (queries_ld _ 1 _ rfl _)
    (queries_ld _ 2 _ rfl _) (queries_ld _ 3 _ rfl _) ((hs0_1 t).read_unread _)
    ((hs0_2 t).read_unread _) ((hs0_3 t).read_unread _) hs
    (k0_pay79, k0_pay80, k0_pay81, k0_pay82, k0_pay83, k0_pay84, k0_pay1 (Named.named κ "mask" 0xF149F2CA#32), k0_pay2,
      k0_pay3, k0_pay4, k0_pay5, k0_pay6)
    ⟨start _ _ _ _ 0, start _ _ _ _ 1, start _ _ _ _ 2, start _ _ _ _ 3⟩ _ le_rfl
  rw [loopEnd_eq (hn := rfl)] at hx
  generalize loopEnd Variants.none c none (grid0.coords t) (ms0_0 t) (hs0_0 t) (ms0_1 t) (hs0_1 t)
    (ms0_2 t) (hs0_2 t) (ms0_3 t) (hs0_3 t) (ms0_4 t) (hs0_4 t)
    (View.ld (iblk m c 0 t) (Rect.unit ![0, 0] ![256, 128] inb_S256x512_S256x128_0_0))
    (View.ld (iblk m c 0 t) (Rect.unit ![0, 128] ![256, 128] inb_S256x512_S256x128_0_128))
    (View.ld (iblk m c 0 t) (Rect.unit ![0, 256] ![256, 128] inb_S256x512_S256x128_0_256))
    (View.ld (iblk m c 0 t) (Rect.unit ![0, 384] ![256, 128] inb_S256x512_S256x128_0_384))
    ((hs0_1 t).unread (iblk m c 1 t)) ((hs0_2 t).unread (iblk m c 2 t)) ((hs0_3 t).unread (iblk m c 3 t))
    (k0_pay79, k0_pay80, k0_pay81, k0_pay82, k0_pay83, k0_pay84, k0_pay1 (Named.named κ "mask" 0xF149F2CA#32), k0_pay2,
      k0_pay3, k0_pay4, k0_pay5, k0_pay6) = x at hx ⊢
  obtain ⟨m1, l1, a1, m2, l2, a2, m3, l3, a3, m4, l4, a4⟩ := x
  dsimp only
  generalize 512 * (k0_t1_loop (grid0.coords t)).trips = n at hx ⊢
  obtain ⟨p1, p2, p3, p4⟩ := hx
  canon_tiles x h
  · exact (p4.quotient x).trans (attAt_col _ _ _ _ _ _ _ _ 3 _ (by omega) (by omega))
  · exact (p3.quotient x).trans (attAt_col _ _ _ _ _ _ _ _ 2 _ (by omega) (by omega))
  · exact (p2.quotient x).trans (attAt_col _ _ _ _ _ _ _ _ 1 _ (by omega) (by omega))
  · exact (p1.quotient x).trans (attAt_col _ _ _ _ _ _ _ _ 0 _ (by omega) (by omega))

end Cert.KernelIdeal.Hand
-- ==== Proof.DsaRef.lean ====
module
public import proofs.«01_k».proof.Proof.Gen.ReferenceIdeal.Read
public import Idealize.ShloMosaic.Lib.Pipeline.ValueKit
public import proofs.«01_k».proof.Proof.Online

/-! What the reference of the sparse attention computes at an index. -/

@[expose] public section

set_option maxRecDepth 16384

noncomputable section

namespace Cert.ReferenceIdeal.Hand

open Cert.ReferenceIdeal Cert.ReferenceIdeal.Read Idealize.ShloMosaic

/-- The masked score of key `j` for head `h` and query `i` of batch `b`; `⊥` past the last key. -/
def masked (q k : Vec Ideal S8192x2048 .bf16) (sel : Vec Ideal S8192x4096 .i32) (b : Fin 2) (h : Fin 16) (i : Fin 4096)
    (j : ℕ) : EReal :=
  if hj : j < 4096 then val_main_v22 (F := Ideal) q k sel (ix4 b h i (⟨j, hj⟩ : Fin 4096)) else ⊥

/-- The reference's masked score, for finite queries and keys. -/
theorem masked_of_fin (q k : Vec Ideal S8192x2048 .bf16) (sel : Vec Ideal S8192x4096 .i32) (b : Fin 2) (h : Fin 16)
    (i j : Fin 4096) : masked q k sel b h i j.val = val_main_v22 (F := Ideal) q k sel (ix4 b h i j) := dif_pos j.isLt

/-- The reference's row maximum. -/
theorem max_at (q k : Vec Ideal S8192x2048 .bf16) (sel : Vec Ideal S8192x4096 .i32) (b : Fin 2) (h : Fin 16) (i : Fin 4096) :
    val_main_v23 (F := Ideal) q k sel (ix3 b h i) = Online.top (masked q k sel b h i) 4096 := by
  have hb : Ideal.ofBits FTy.f32 4286578688#32 = ⊥ := by simp [Ideal.ofBits, Ideal.ieee]
  pointwise [val_main_v23]
  rw [val_main_cst_1_apply, show FloatOps.ofBits (F := Ideal) .f32 0xFF800000#32 = ⊥ from hb]
  refine le_antisymm (Finset.sup_le (s := Finset.univ) fun j _ => ?_) (Finset.sup_le fun j hj => ?_)
  · rw [← masked_of_fin]
    exact Finset.le_sup (f := masked q k sel b h i) (Finset.mem_range.mpr j.isLt)
  · rw [masked, dif_pos (Finset.mem_range.mp hj)]
    exact Finset.le_sup (s := Finset.univ) (f := fun j : Fin 4096 => val_main_v22 (F := Ideal) q k sel (ix4 b h i j))
      (Finset.mem_univ _)

/-- Column `d` of head `h`. -/
def col (h : Fin 16) (d : Fin 128) : Fin 2048 := ⟨128 * h.val + d.val, by omega⟩

/-- Row `i` of batch `b`. -/
def row (b : Fin 2) (i : Fin 4096) : Fin 8192 := ⟨4096 * b.val + i.val, by omega⟩

/-- Head `h`'s value of key `j` at its column `d`; 0 past the last key. -/
def values (v : Vec Ideal S8192x2048 .bf16) (b : Fin 2) (h : Fin 16) (d : Fin 128) (j : ℕ) : EReal :=
  if hj : j < 4096 then v (ix2 (row b ⟨j, hj⟩) (col h d)) else 0

/-- A score's exponential, shifted by the maximum `z` of its row. -/
theorem exp_at (q k : Vec Ideal S8192x2048 .bf16) (sel : Vec Ideal S8192x4096 .i32) (b : Fin 2) (h : Fin 16)
    (i j : Fin 4096) : val_main_v29 (F := Ideal) q k sel (ix4 b h i j)
      = Ideal.exp (val_main_v22 (F := Ideal) q k sel (ix4 b h i j) - val_main_v23 (F := Ideal) q k sel (ix3 b h i)) := by
  have hb : Ideal.ofBits FTy.f32 4286578688#32 = ⊥ := by simp [Ideal.ofBits, Ideal.ieee]
  have e : idx_main_v26 (idx_main_v27 (ix4 b h i j)) = ix3 b h i := funext fun a => by fin_cases a <;> rfl
  rw [val_main_v29_apply, val_main_v28_apply, val_main_v27_apply, val_main_v26_apply, e, val_main_v25_apply,
    val_main_v24_apply, val_main_cst_2_apply]
  generalize val_main_v23 (F := Ideal) q k sel (ix3 b h i) = z
  generalize val_main_v22 (F := Ideal) q k sel (ix4 b h i j) = y
  change Ideal.exp (y - max (Ideal.ofBits FTy.f32 4286578688#32) z) = _
  rw [hb, max_eq_right bot_le]

/-- A weight is its exponential over the row's sum of them. -/
theorem quotient_at (q k : Vec Ideal S8192x2048 .bf16) (sel : Vec Ideal S8192x4096 .i32) (b : Fin 2) (h : Fin 16)
    (i j : Fin 4096) : val_main_v33 (F := Ideal) q k sel (ix4 b h i j)
      = Ideal.div (val_main_v29 (F := Ideal) q k sel (ix4 b h i j))
          (∑ a : Fin 4096, val_main_v29 (F := Ideal) q k sel (ix4 b h i a)) := by
  have e : idx_main_v31 (idx_main_v32 (ix4 b h i j)) = ix3 b h i := funext fun a => by fin_cases a <;> rfl
  have e' : ∀ a : Fin 4096, idx_main_v30 (ix3 b h i) a = ix4 b h i a := fun a => funext fun a => by fin_cases a <;> rfl
  have hz : Ideal.ofBits FTy.f32 0#32 = 0 := by simp [Ideal.ofBits, Ideal.ieee]
  rw [val_main_v33_apply, val_main_v32_apply, val_main_v31_apply, e, val_main_v30_apply, val_main_cst_3_apply]
  simp only [e']
  generalize (∑ a : Fin 4096, val_main_v29 (F := Ideal) q k sel (ix4 b h i a)) = z
  generalize val_main_v29 (F := Ideal) q k sel (ix4 b h i j) = y
  change Ideal.div y (Ideal.ofBits FTy.f32 0#32 + z) = _
  rw [hz, zero_add]

/-- The same over the masked scores. -/
theorem weight_at (q k : Vec Ideal S8192x2048 .bf16) (sel : Vec Ideal S8192x4096 .i32) (b : Fin 2) (h : Fin 16)
    (i j : Fin 4096) : val_main_v33 (F := Ideal) q k sel (ix4 b h i j)
      = Ideal.div (Ideal.exp (masked q k sel b h i j - Online.top (masked q k sel b h i) 4096))
          (∑ a ∈ Finset.range 4096, Ideal.exp (masked q k sel b h i a - Online.top (masked q k sel b h i) 4096)) := by
  rw [quotient_at, exp_at, max_at, masked_of_fin, Finset.sum_range]
  refine congrArg _ (Finset.sum_congr rfl fun a _ => ?_)
  rw [exp_at, max_at, masked_of_fin]

/-- The reference's entry. -/
theorem ref_at (q k v : Vec Ideal S8192x2048 .bf16) (sel : Vec Ideal S8192x4096 .i32) (b : Fin 2) (h : Fin 16)
    (i : Fin 4096) (d : Fin 128) : val_main_v37 (F := Ideal) q k v sel (ix2 (row b i) (col h d))
      = ∑ j ∈ Finset.range 4096, values v b h d j
          * Ideal.div (Ideal.exp (masked q k sel b h i j - Online.top (masked q k sel b h i) 4096))
          (∑ a ∈ Finset.range 4096, Ideal.exp (masked q k sel b h i a - Online.top (masked q k sel b h i) 4096)) := by
  have e36 : idx_main_v36 (ix2 (row b i) (col h d)) = ix4 b i h d := by
    funext a
    fin_cases a <;> apply Fin.ext <;> simp [idx_main_v36, row, col] <;> omega
  rw [val_main_v37_apply, val_main_v36_apply, e36, val_main_v35_apply, val_main_v34_apply, Finset.sum_range]
  refine Finset.sum_congr rfl fun j _ => ?_
  rw [show ridx_main_v34 (idx_main_v35 (ix4 b i h d)) j = ix4 b h i j from funext fun a => by fin_cases a <;> rfl,
    weight_at, values, dif_pos j.isLt]
  refine congrArg (· * _) ?_
  pointwise [val_main_v5, val_main_v4]
  refine congrArg₂ (fun r c => v (ix2 r c)) (Fin.ext ?_) (Fin.ext ?_) <;> simp only [row, col] <;> omega

/-- Whether query `i` of batch `b` sees key `j`, as a bit. -/
def seen (sel : Vec Ideal S8192x4096 .i32) (b : Fin 2) (i j : Fin 4096) : BitVec 1 :=
  val_main_v20 (F := Ideal) sel (ix3 b i j)

/-- The mask's bit: the key is selected and not after the query. -/
theorem seen_eq (sel : Vec Ideal S8192x4096 .i32) (b : Fin 2) (i j : Fin 4096) :
    seen sel b i j = IntOp.andi (IntOp.cmpi .sgt (sel (ix2 (row b i) j)) 0#32)
      (IntOp.cmpi .sle (BitVec.ofNat 32 j.val) (BitVec.ofNat 32 i.val)) := by
  rw [seen]
  pointwise [val_main_v20, val_main_v19, val_main_v18, val_main_v17, val_main_v16, val_main_v15, val_main_v14, val_main_v13, val_main_v12, val_main_c, val_main_v11, val_main_v10]
  refine congrArg (fun r => IntOp.andi (IntOp.cmpi .sgt (sel (ix2 r j)) 0#32) _) (Fin.ext ?_)
  simp only [row]
  omega

/-- The reference's masked score is the score where the key is seen and minus infinity elsewhere. -/
theorem masked_eq (q k : Vec Ideal S8192x2048 .bf16) (sel : Vec Ideal S8192x4096 .i32) (b : Fin 2) (h : Fin 16)
    (i j : Fin 4096) : masked q k sel b h i j = if seen sel b i j = 1#1
      then Ideal.div (∑ d : Fin 128, q (ix2 (row b i) (col h d)) * k (ix2 (row b j) (col h d))) (Real.sqrt 128 : ℝ) else ⊥ := by
  have hb : Ideal.ofBits FTy.f32 4286578688#32 = ⊥ := by simp [Ideal.ofBits, Ideal.ieee]
  rw [masked_of_fin]
  pointwise [val_main_v22, val_main_call0_v1, val_main_v21, val_main_call0_v2, val_main_call0_v0, val_main_cst_0, val_main_v9, val_main_v8, val_main_v7, val_main_cst, val_main_v6, val_main_v1, val_main_v3, val_main_v0, val_main_v2]
  have hd : Ideal.sqrt (Ideal.ofBits FTy.f32 1124073472#32) = (Real.sqrt 128 : ℝ) := by
    rw [show Ideal.ofBits FTy.f32 1124073472#32 = ((128 : ℝ) : EReal) by
      simp [Ideal.ofBits, Ideal.ieee, -EReal.coe_mul]; norm_num]
    rw [Ideal.sqrt_coe, if_neg (by norm_num)]
  rw [hd, show id (constant (F := Ideal) S_ FTy.f32 4286578688#32) ix0 = ⊥ from hb]
  unfold Scalar.select seen
  refine if_congr Iff.rfl (congrArg (Ideal.div · _) (Finset.sum_congr rfl fun d _ => ?_)) rfl
  refine congrArg₂ (· * ·) (congrArg₂ (fun r c => q (ix2 r c)) (Fin.ext ?_) (Fin.ext ?_))
    (congrArg₂ (fun r c => k (ix2 r c)) (Fin.ext ?_) (Fin.ext ?_)) <;> simp only [row, col] <;> omega

end Cert.ReferenceIdeal.Hand
-- ==== Proof.DsaBias.lean ====
module
public import proofs.«01_k».proof.Proof.DsaPoint
public import proofs.«01_k».proof.Proof.DsaRef

/-! The bias that the sparse attention reads from the selection: zero at a seen key, minus infinity elsewhere. -/

@[expose] public section

set_option maxRecDepth 16384

noncomputable section

namespace Cert.KernelIdeal.Hand

open Cert.KernelIdeal Cert.KernelIdeal.Gen Idealize.ShloMosaic Idealize.ShloMosaic.TcCoe Idealize.SL.Sem
open Cert.ReferenceIdeal.Hand (row seen seen_eq)

variable (m : (ℓ : Loc nD τ sig) → Buf (Elt Ideal) ℓ)

/-- The position of a row within its batch. -/
theorem rem_row (r : ℕ) (h : r < 8192) : IntOp.remsi .host (BitVec.ofNat 32 r) 4096#32 = BitVec.ofNat 32 (r % 4096) := by
  have hc : ¬IntOp.SDivCorner (BitVec.ofNat 32 r) 4096#32 := by simp [IntOp.SDivCorner]
  have hs : (BitVec.ofNat 32 r).msb = false := by
    rw [BitVec.msb_eq_decide, BitVec.toNat_ofNat]
    simp
    omega
  rw [IntOp.remsi, if_neg hc, BitVec.srem_eq, hs]
  apply BitVec.eq_of_toNat_eq
  show (BitVec.ofNat 32 r % 4096#32).toNat = _
  have e : ∀ a, a < 8192 → (BitVec.ofNat 32 a).toNat = a := fun a ha => by
    rw [BitVec.toNat_ofNat]
    exact Nat.mod_eq_of_lt (by omega)
  rw [BitVec.toNat_umod, e _ h, e _ (by omega), e _ (by omega)]

/-- The bias array. -/
theorem bias_at (c : Dev nD) (b : Fin 2) (i j : Fin 4096) :
    (V m c main_v8 (ix2 (row b i) j) : EReal)
      = if seen (m ((c : Thread nD τ).loc main_arg3)) b i j = 1#1 then (0 : EReal) else ⊥ := by
  have hb : Ideal.ofBits FTy.f32 4286578688#32 = ⊥ := by simp [Ideal.ofBits, Ideal.ieee]
  unfold V
  simp only [hostOps0, hostOps0_1, List.flatten_cons, List.flatten_nil, List.cons_append, List.nil_append, List.append_nil]
  after_results
  rw [seen_eq]
  change select
      (andi
        (cmpi .sgt (m (c.tc.loc main_arg3)) (broadcastInDim S8192x4096 ![] bcast_S_S8192x4096 (constantI S_ 32 0#32)))
        (cmpi .sle (iotaInDim S8192x4096 32 1)
          (Host.remsi (iotaInDim S8192x4096 32 0)
            (broadcastInDim S8192x4096 ![] bcast_S_S8192x4096 (constantI S_ 32 4096#32)))))
      (broadcastInDim S8192x4096 ![] bcast_S_S8192x4096 (constant (F := Ideal) S_ .f32 0#32))
      (broadcastInDim S8192x4096 ![] bcast_S_S8192x4096 (constant (F := Ideal) S_ .f32 4286578688#32)) (ix2 (row b i) j) = _
  pointwise
  rw [rem_row _ (row b i).isLt, hb]
  have e : (row b i).val % 4096 = i.val := by
    show (4096 * b.val + i.val) % 4096 = _
    omega
  rw [e]
  rfl

/-- The batch of point `t`. -/
def batchOf (t : Fin cfg0.N) : Fin 2 := ⟨t.val / 64, by have := t.isLt; have : cfg0.N = 128 := rfl; omega⟩

/-- Query row `r` of point `t`, within its batch. -/
def queryOf (t : Fin cfg0.N) (r : Fin 256) : Fin 4096 := ⟨256 * (t.val % 16) + r.val, by omega⟩

/-- Head `e` of point `t`. -/
def headOf (t : Fin cfg0.N) (e : Fin 4) : Fin 16 := ⟨4 * (t.val / 16 % 4) + e.val, by omega⟩

/-- Point `t` works on a batch, a block of queries and four heads. -/
theorem idx : ∀ t : Fin cfg0.N, win0_0.index t = ![16 * (t.val / 64) + t.val % 16, t.val / 16 % 4]
    ∧ win0_1.index t = ![t.val / 64, t.val / 16 % 4] ∧ win0_2.index t = ![t.val / 64, t.val / 16 % 4]
    ∧ win0_3.index t = ![16 * (t.val / 64) + t.val % 16, 0]
    ∧ win0_4.index t = ![16 * (t.val / 64) + t.val % 16, t.val / 16 % 4] ∧ ((grid0.coords t) 2).val = t.val % 16 :=
  (by decide +kernel : ∀ t : Fin grid0.N, _)

/-- An entry of the query block. -/
theorem query_blk (c : Dev nD) (t : Fin cfg0.N) (r : Fin 256) (e : Fin 4) (d : Fin 128) :
    iblk m c 0 t (ix2 r (col e d))
      = m ((c : Thread nD τ).loc main_arg0) (ix2 (row (batchOf t) (queryOf t r)) (Cert.ReferenceIdeal.Hand.col (headOf t e) d)) := by
  blk_point [iblk, V, idx t]
  all_goals simp only [row, batchOf, queryOf, headOf, col, Cert.ReferenceIdeal.Hand.col]; omega

/-- An entry of the key block. -/
theorem key_blk (c : Dev nD) (t : Fin cfg0.N) (j : Fin 4096) (e : Fin 4) (d : Fin 128) :
    iblk m c 1 t (ix2 j (col e d))
      = m ((c : Thread nD τ).loc main_arg1) (ix2 (row (batchOf t) j) (Cert.ReferenceIdeal.Hand.col (headOf t e) d)) := by
  blk_point [iblk, V, idx t]
  all_goals simp only [row, batchOf, queryOf, headOf, col, Cert.ReferenceIdeal.Hand.col]; omega

/-- An entry of the value block. -/
theorem value_blk (c : Dev nD) (t : Fin cfg0.N) (j : Fin 4096) (e : Fin 4) (d : Fin 128) :
    iblk m c 2 t (ix2 j (col e d))
      = m ((c : Thread nD τ).loc main_arg2) (ix2 (row (batchOf t) j) (Cert.ReferenceIdeal.Hand.col (headOf t e) d)) := by
  blk_point [iblk, V, idx t]
  all_goals simp only [row, batchOf, queryOf, headOf, col, Cert.ReferenceIdeal.Hand.col]; omega

/-- An entry of the bias block. -/
theorem bias_blk (c : Dev nD) (t : Fin cfg0.N) (r : Fin 256) (j : Fin 4096) :
    (iblk m c 3 t (ix2 r j) : EReal)
      = if seen (m ((c : Thread nD τ).loc main_arg3)) (batchOf t) (queryOf t r) j = 1#1 then (0 : EReal) else ⊥ := by
  rw [← bias_at m c]
  blk_ext [iblk, idx t]
  all_goals simp only [row, batchOf, queryOf]; omega

end Cert.KernelIdeal.Hand
-- ==== Proof.DsaPre.lean ====
module
public import proofs.«01_k».proof.Proof.Gen.Pre_selected_and_finite
public import proofs.«01_k».proof.Proof.DsaRef
public import Idealize.ShloMosaic.Lib.ReduceAll

/-! What the precondition of the sparse attention says: queries and keys are real, and every query sees a key. -/

@[expose] public section

set_option maxRecDepth 16384

noncomputable section

namespace Cert.Pre_selected_and_finite.Hand

open Cert.Pre_selected_and_finite Cert.Pre_selected_and_finite.Gen Idealize.ShloMosaic

/-- An `or` over a set that is 1 has a 1 in it. -/
theorem fold_ori {ι : Type} (s : Finset ι) (f : ι → BitVec 1) (h : s.fold IntOp.ori 0#1 f = 1#1) : ∃ j, f j = 1#1 := by
  classical
  induction s using Finset.induction_on with
  | empty => exact absurd (show (0#1 : BitVec 1) = 1#1 from h) (by decide)
  | insert a s ha ih =>
    rw [Finset.fold_insert ha] at h
    by_cases e : f a = 1#1
    · exact ⟨a, e⟩
    · refine ih ?_
      have e0 : f a = 0#1 := by
        generalize f a = w at e
        revert e
        revert w
        decide
      rw [e0] at h
      rw [← h]
      exact (BitVec.zero_or).symm

/-- A conjunction of bits that is one has both bits one. -/
theorem and_one (x y : BitVec 1) (h : IntOp.andi x y = 1#1) : x = 1#1 ∧ y = 1#1 := by
  revert x y
  decide

/-- A value whose absolute value is below infinity is real. -/
theorem real_of_abs (x : EReal) (h : FloatOps.cmpf (F := Ideal) (φ := .f32) .olt (FloatOps.hostAbsf (F := Ideal) (φ := .f32) x)
      (Ideal.ofBits .f32 0x7F800000#32) = 1#1) :
    x ≠ ⊥ ∧ x ≠ ⊤ := by
  have ht : Ideal.ofBits .f32 0x7F800000#32 = ⊤ := by simp [Ideal.ofBits, Ideal.ieee]
  rw [ht] at h
  constructor
  · rintro rfl
    exact absurd h (by change ¬Ideal.cmp .olt (max _ (-_)) _ = _; simp [Ideal.cmp])
  · rintro rfl
    exact absurd h (by change ¬Ideal.cmp .olt (max _ (-_)) _ = _; simp [Ideal.cmp])

/-- A row that has some bit set, read out of the reduction. -/
theorem any_at (x : IVec S2x4096x4096 1) (b : Fin 2) (i : Fin 4096) :
    Host.reduce IntOp.ori x (constantI S_ 1 0#1) Facts.reducesTo_S2x4096x4096_S2x4096_d2 Facts.h_S_ (ix2 b i)
      = Finset.fold IntOp.ori 0#1 (fun j : Fin 4096 => x (ix3 b i j)) Finset.univ := by
  pointwise

/-- What the precondition says, entry by entry. -/
theorem facts_of (q k v : Vec Ideal S8192x2048 .bf16) (sel : Vec Ideal S8192x4096 .i32)
    (h : fn (F := Ideal) q k v sel = fun _ => 1#1) :
    (∀ i, q i ≠ ⊥ ∧ q i ≠ ⊤) ∧ (∀ i, k i ≠ ⊥ ∧ k i ≠ ⊤)
      ∧ ∀ b i, ∃ j, Cert.ReferenceIdeal.Hand.seen sel b i j = 1#1 := by
  have h0 := congrFun h ix0
  unfold fn fn_part1 at h0
  dsimp only at h0
  obtain ⟨h1, h3⟩ := and_one _ _ h0
  obtain ⟨h1, h2⟩ := and_one _ _ h1
  haveI : Subsingleton S_.Idx := ⟨fun a b => funext fun x => x.elim0⟩
  refine ⟨fun i => ?_, fun i => ?_, fun b i => ?_⟩
  · exact real_of_abs _ (Host.reduce_andi_all _ _ _ _ _ h1 i)
  · exact real_of_abs _ (Host.reduce_andi_all _ _ _ _ _ h2 i)
  · have := Host.reduce_andi_all _ _ _ _ _ h3 (ix2 b i)
    rw [any_at] at this
    obtain ⟨j, hj⟩ := fold_ori _ _ this
    refine ⟨j, ?_⟩
    rw [Cert.ReferenceIdeal.Hand.seen_eq, ← hj]
    clear hj this h3 h2 h1 h0 h
    pointwise
    refine congrArg (fun r => IntOp.andi (IntOp.cmpi .sgt (sel (ix2 r j)) 0#32) _) (Fin.ext ?_)
    simp only [Cert.ReferenceIdeal.Hand.row]
    omega

end Cert.Pre_selected_and_finite.Hand
-- ==== Proof.DsaValue.lean ====
module
public import proofs.«01_k».proof.Defs
public import proofs.«01_k».proof.Proof.DsaBias
public import proofs.«01_k».proof.Proof.DsaPre
public import proofs.«01_k».proof.Proof.Gen.KernelIdeal.Value
public import proofs.«01_k».proof.Proof.Gen.ReferenceIdeal.Run

/-! The sparse attention: the array the kernel leaves is softmax attention over the selected keys. -/

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Cert.ReferenceIdeal.Hand (row seen seen_eq masked masked_eq masked_of_fin values ref_at)
open Cert.ReferenceIdeal.Read

/-- A sum of products of real values is real. -/
theorem real_dot {ι : Type} [Fintype ι] (f g : ι → EReal) (hf : ∀ d, f d ≠ ⊥ ∧ f d ≠ ⊤) (hg : ∀ d, g d ≠ ⊥ ∧ g d ≠ ⊤) :
    ∃ x : ℝ, ∑ d, f d * g d = x := by
  classical
  suffices h : ∀ s : Finset ι, ∃ x : ℝ, ∑ d ∈ s, f d * g d = x from h _
  intro s
  induction s using Finset.induction_on with
  | empty => exact ⟨0, rfl⟩
  | insert a s ha ih =>
    obtain ⟨x, hx⟩ := ih
    refine ⟨(f a).toReal * (g a).toReal + x, ?_⟩
    rw [Finset.sum_insert ha, hx, EReal.coe_add, EReal.coe_mul, EReal.coe_toReal (hf a).2 (hf a).1,
      EReal.coe_toReal (hg a).2 (hg a).1]

section reference

variable (q k : Vec Ideal S8192x2048 .bf16) (sel : Vec Ideal S8192x4096 .i32) (b : Fin 2) (h : Fin 16) (i : Fin 4096)

/-- The masked score of a seen key is real. -/
theorem masked_seen (hq : ∀ i, q i ≠ ⊥ ∧ q i ≠ ⊤) (hk : ∀ i, k i ≠ ⊥ ∧ k i ≠ ⊤) (j : Fin 4096) (hs : seen sel b i j = 1#1) :
    ∃ x : ℝ, masked q k sel b h i j.val = x := by
  obtain ⟨x, hx⟩ := real_dot (fun d => q (ix2 (row b i) (Cert.ReferenceIdeal.Hand.col h d)))
    (fun d => k (ix2 (row b j) (Cert.ReferenceIdeal.Hand.col h d))) (fun _ => hq _) (fun _ => hk _)
  refine ⟨x * (1 / Real.sqrt 128), ?_⟩
  rw [masked_eq, if_pos hs, hx, Ideal.div_coe (by positivity), EReal.coe_mul]

/-- No masked score is plus infinity. -/
theorem masked_ne_top (hq : ∀ i, q i ≠ ⊥ ∧ q i ≠ ⊤) (hk : ∀ i, k i ≠ ⊥ ∧ k i ≠ ⊤) (j : ℕ) :
    masked q k sel b h i j ≠ ⊤ := by
  by_cases hj : j < 4096
  · by_cases hs : seen sel b i ⟨j, hj⟩ = 1#1
    · obtain ⟨x, hx⟩ := masked_seen q k sel b h i hq hk ⟨j, hj⟩ hs
      rw [show masked q k sel b h i j = x from hx]
      exact EReal.coe_ne_top x
    · rw [show masked q k sel b h i j = _ from masked_eq q k sel b h i ⟨j, hj⟩, if_neg hs]
      exact bot_ne_top
  · rw [masked, dif_neg hj]
    exact bot_ne_top

/-- A later key is masked. -/
theorem masked_later (j : ℕ) (hij : i.val < j) : masked q k sel b h i j = ⊥ := by
  by_cases hj : j < 4096
  · refine (masked_eq q k sel b h i ⟨j, hj⟩).trans (if_neg ?_)
    have e : IntOp.cmpi .sle (BitVec.ofNat 32 j) (BitVec.ofNat 32 i.val) = 0#1 := by
      have ht : ∀ a, a < 4096 → (BitVec.ofNat 32 a).toInt = a := fun a ha => by
        rw [BitVec.toInt_ofNat', Int.bmod_eq_of_le] <;> omega
      simp only [IntOp.cmpi, BitVec.sle, ht j hj, ht i.val i.isLt]
      rw [decide_eq_false (by omega)]
      rfl
    rw [seen_eq, e]
    exact fun hf => absurd (Cert.Pre_selected_and_finite.Hand.and_one _ _ hf).2 (by decide)
  · rw [masked, dif_neg hj]

end reference

variable (m : (ℓ : Loc nD τ sig) → Buf (Elt Ideal) ℓ) (c : Dev nD) (t : Fin cfg0.N)

/-- The kernel's scores are the masked scores in units of `log 2`. -/
theorem score_eq (hq : ∀ i, m ((c : Thread nD τ).loc main_arg0) i ≠ (⊥ : EReal) ∧ m ((c : Thread nD τ).loc main_arg0) i ≠ (⊤ : EReal))
    (hk : ∀ i, m ((c : Thread nD τ).loc main_arg1) i ≠ (⊥ : EReal) ∧ m ((c : Thread nD τ).loc main_arg1) i ≠ (⊤ : EReal))
    (e : Fin 4) (r : Fin 256) (j : ℕ) :
    score (iblk m c 0 t) (iblk m c 1 t) (iblk m c 3 t) e r j
      = masked (m ((c : Thread nD τ).loc main_arg0)) (m ((c : Thread nD τ).loc main_arg1)) (m ((c : Thread nD τ).loc main_arg3))
          (batchOf t) (headOf t e) (queryOf t r) j * ((Real.log 2)⁻¹ : ℝ) := by
  have hlog : 0 < (Real.log 2)⁻¹ := inv_pos.mpr (Real.log_pos one_lt_two)
  by_cases hj : j < 4096
  · rw [score, dif_pos hj, bias_blk,
      show masked _ _ _ (batchOf t) (headOf t e) (queryOf t r) j = _ from masked_eq _ _ _ _ _ _ ⟨j, hj⟩]
    rw [Finset.sum_congr rfl fun d _ => congrArg₂ (fun x y : EReal => x * y) (query_blk m c t r e d) (key_blk m c t ⟨j, hj⟩ e d)]
    obtain ⟨x, hx⟩ := real_dot
      (fun d => m ((c : Thread nD τ).loc main_arg0) (ix2 (row (batchOf t) (queryOf t r)) (Cert.ReferenceIdeal.Hand.col (headOf t e) d)))
      (fun d => m ((c : Thread nD τ).loc main_arg1) (ix2 (row (batchOf t) ⟨j, hj⟩) (Cert.ReferenceIdeal.Hand.col (headOf t e) d)))
      (fun _ => hq _) (fun _ => hk _)
    rw [hx]
    split
    · rw [Ideal.div_coe (by positivity), add_zero, ← EReal.coe_mul, ← EReal.coe_mul, ← EReal.coe_mul]
      congr 1
      ring
    · rw [EReal.add_bot, EReal.bot_mul_coe_of_pos hlog]
  · rw [score, dif_neg hj, masked, dif_neg hj, EReal.bot_mul_coe_of_pos hlog]

/-- A positive multiple of a value below plus infinity is below it. -/
theorem score_ne_top (x : EReal) (hx : x ≠ ⊤) {a : ℝ} (ha : 0 < a) : x * a ≠ ⊤ := by
  induction x with
  | bot => rw [EReal.bot_mul_coe_of_pos ha]; exact bot_ne_top
  | coe x => rw [← EReal.coe_mul]; exact EReal.coe_ne_top _
  | top => exact absurd rfl hx

/-- The kernel's values are the reference's. -/
theorem value_eq (e : Fin 4) (d : Fin 128) : value (iblk m c 2 t) e d
    = values (m ((c : Thread nD τ).loc main_arg2)) (batchOf t) (headOf t e) d := by
  funext j
  by_cases hj : j < 4096
  · rw [value, values, dif_pos hj, dif_pos hj]
    exact value_blk m c t ⟨j, hj⟩ e d
  · rw [value, values, dif_neg hj, dif_neg hj]

/-- A head of the kernel's output at a query is the reference's. -/
theorem att_eq (hq : ∀ i, m ((c : Thread nD τ).loc main_arg0) i ≠ (⊥ : EReal) ∧ m ((c : Thread nD τ).loc main_arg0) i ≠ (⊤ : EReal))
    (hk : ∀ i, m ((c : Thread nD τ).loc main_arg1) i ≠ (⊥ : EReal) ∧ m ((c : Thread nD τ).loc main_arg1) i ≠ (⊤ : EReal))
    (hs : ∀ b i, ∃ j, seen (m ((c : Thread nD τ).loc main_arg3)) b i j = 1#1) (r : Fin 256) (e : Fin 4) (d : Fin 128) :
    att (iblk m c 0 t) (iblk m c 1 t) (iblk m c 2 t) (iblk m c 3 t) (512 * (k0_t1_loop (grid0.coords t)).trips) r e d
      = val_main_v37 (F := Ideal) (m ((c : Thread nD τ).loc main_arg0)) (m ((c : Thread nD τ).loc main_arg1))
          (m ((c : Thread nD τ).loc main_arg2)) (m ((c : Thread nD τ).loc main_arg3))
          (ix2 (row (batchOf t) (queryOf t r)) (Cert.ReferenceIdeal.Hand.col (headOf t e) d)) := by
  rw [ref_at, att, value_eq]
  have hn := trips_eq (grid0.coords t)
  rw [(idx t).2.2.2.2.2] at hn
  generalize (k0_t1_loop (grid0.coords t)).trips = n at hn ⊢
  obtain ⟨j, hj⟩ := hs (batchOf t) (queryOf t r)
  obtain ⟨x, hx⟩ := masked_seen _ _ _ _ (headOf t e) _ hq hk j hj
  exact Online.attend _ _ _ (score_eq m c t hq hk e r) (masked_ne_top _ _ _ _ _ _ hq hk) (by omega)
    (fun j h1 _ => masked_later _ _ _ _ _ _ j (by
      have := r.isLt
      show 256 * (t.val % 16) + r.val < j
      omega)) j.isLt (by rw [hx]; exact EReal.coe_ne_bot x)

/-- The output array is the reference's result. -/
theorem final (hq : ∀ i, m ((c : Thread nD τ).loc main_arg0) i ≠ (⊥ : EReal) ∧ m ((c : Thread nD τ).loc main_arg0) i ≠ (⊤ : EReal))
    (hk : ∀ i, m ((c : Thread nD τ).loc main_arg1) i ≠ (⊥ : EReal) ∧ m ((c : Thread nD τ).loc main_arg1) i ≠ (⊤ : EReal))
    (hs : ∀ b i, ∃ j, seen (m ((c : Thread nD τ).loc main_arg3)) b i j = 1#1) : (dats m 0 c).arrAt 4 cfg0.N
    = val_main_v37 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4, point m c t y fun e r j => ?_]
  · refine (att_eq m c t hq hk hs _ _ _).trans ?_
    blk_ext [idx t]
    all_goals simp only [row, batchOf, queryOf, headOf, Cert.ReferenceIdeal.Hand.col]; omega
  · rw [score_eq m c t hq hk]
    refine score_ne_top _ (masked_ne_top _ _ _ _ _ _ hq hk j) ?_
    exact inv_pos.mpr (Real.log_pos one_lt_two)

/-- The kernel and the reference leave the same array. -/
theorem algebraic : Cert.algebraic_KernelIdeal_ReferenceIdeal_pre_selected_and_finite := fun m ρ m' ρ' hpre hag =>
  ⟨_, Value.run_blocks m ρ, (θ_run Cert.ReferenceIdeal.defs _ _).mono
    (fun _ h c => ⟨(h c).1.trans (by
      obtain ⟨hq, hk, hs⟩ := Cert.Pre_selected_and_finite.Hand.facts_of _ _ _ _ (hpre c)
      rw [val_main_v37_eq, (hag c).1, (hag c).2.1, (hag c).2.2.1, (hag c).2.2.2, final m c hq hk hs]), (h c).2⟩)
    (Cert.ReferenceIdeal.Value.run (F := Ideal) m' ρ')⟩

end Cert.KernelIdeal.Hand
-- ==== Proof.UpValue.lean ====
module
public import proofs.«01_k».proof.Defs
public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit

/-! The gated up projection of the feed-forward layer: `silu (h @ w_gate) * (h @ w_up)`, one 1024×512 block per grid
    point.  The cast column blocks of the two weights are kept in scratch buffers for the eight row blocks of a sweep. -/

@[expose] public section

set_option maxRecDepth 16384

noncomputable section

namespace Cert.UpIdeal.Hand

open Cert.UpIdeal Cert.UpIdeal.Gen Idealize.ShloMosaic Idealize.ShloMosaic.TcCoe Idealize.SL.Sem
open Idealize.ShloMosaic.Pipeline (Dat)
open Idealize.ShloMosaic.ValueIdx
open Cert.UpRefIdeal.Read

variable (m : (ℓ : Loc nD τ sig) → Buf (Elt Ideal) ℓ)

/-- Point `t` works on row block `t % 8` and column block `t / 8`. -/
theorem idx : ∀ t : Fin cfg0.N, win0_0.index t = ![t.val % 8, 0] ∧ win0_1.index t = ![0, t.val / 8]
    ∧ win0_2.index t = ![0, t.val / 8] ∧ win0_3.index t = ![t.val % 8, t.val / 8] :=
  (by decide +kernel : ∀ t : Fin grid0.N, _)

/-- A column block of the gate weights stays staged for the eight row blocks it serves. -/
theorem gate_stays (c : Dev nD) (n : ℕ) (h : n + 1 < cfg0.N) (h0 : ¬(n + 1) % 8 = 0) (y : S2048x512.Idx) :
    iblk m c 1 ⟨n, Nat.lt_of_succ_lt h⟩ y = iblk m c 1 ⟨n + 1, h⟩ y := by
  have e : n / 8 = (n + 1) / 8 := by omega
  have i1 := (idx ⟨n, Nat.lt_of_succ_lt h⟩).2.1
  have i2 := (idx ⟨n + 1, h⟩).2.1
  dsimp only at i1 i2
  blk_ext [iblk, V, i1, i2, e]

/-- So does a column block of the up weights. -/
theorem up_stays (c : Dev nD) (n : ℕ) (h : n + 1 < cfg0.N) (h0 : ¬(n + 1) % 8 = 0) (y : S2048x512.Idx) :
    iblk m c 2 ⟨n, Nat.lt_of_succ_lt h⟩ y = iblk m c 2 ⟨n + 1, h⟩ y := by
  have e : n / 8 = (n + 1) / 8 := by omega
  have i1 := (idx ⟨n, Nat.lt_of_succ_lt h⟩).2.2.1
  have i2 := (idx ⟨n + 1, h⟩).2.2.1
  dsimp only at i1 i2
  blk_ext [iblk, V, i1, i2, e]

/-- The scratch buffers hold the current column blocks of the two weights. -/
theorem scratch_eq (c : Dev nD) (n : ℕ) (h : n < cfg0.N) :
    (∀ y : S2048x512.Idx, (outsAt0 m c n h).2.1 y = iblk m c 1 ⟨n, h⟩ y)
      ∧ ∀ y : S2048x512.Idx, (outsAt0 m c n h).2.2 y = iblk m c 2 ⟨n, h⟩ y := by
  induction n with
  | zero =>
    have e := outsAt0_A m c ⟨0, h⟩ (by rfl)
    dsimp only at e
    rw [e]; dsimp only
    constructor
    · intro y
      frame_out
      pointwise [k0_pay1]
    · intro y
      frame_out
      pointwise [k0_pay2]
  | succ n ih =>
    by_cases h0 : (n + 1) % 8 = 0
    · have e := outsAt0_A m c ⟨n + 1, h⟩ h0
      dsimp only at e
      rw [e]; dsimp only
      constructor
      · intro y
        frame_out
        pointwise [k0_pay1]
      · intro y
        frame_out
        pointwise [k0_pay2]
    · have e := outsAt0_B m c ⟨n + 1, h⟩ h0
      dsimp only at e
      rw [e]; dsimp only
      exact ⟨fun y => ((ih (Nat.lt_of_succ_lt h)).1 y).trans (gate_stays m c n h h0 y),
        fun y => ((ih (Nat.lt_of_succ_lt h)).2 y).trans (up_stays m c n h h0 y)⟩

/-- Every point stores the gated product of its row block with its two weight blocks. -/
theorem point (c : Dev nD) (t : Fin cfg0.N) (y : S1024x512.Idx) :
    (outsAt0 m c t.val t.isLt).1 y = k0_pay3 (F := Ideal) (iblk m c 0 t) (iblk m c 1 t) (iblk m c 2 t) y := by
  by_cases h0 : t.val % 8 = 0
  · rw [outsAt0_A m c t h0]; dsimp only
    frame_out
    rw [show k0_pay1 (F := Ideal) (iblk m c 1 t) = iblk m c 1 t from funext fun j => by pointwise [k0_pay1],
      show k0_pay2 (F := Ideal) (iblk m c 2 t) = iblk m c 2 t from funext fun j => by pointwise [k0_pay2]]
  · rw [outsAt0_B m c t h0]; dsimp only
    frame_out
    rw [(Memref.isWhole_whole _).read_unread, (Memref.isWhole_whole _).read_unread]
    obtain ⟨n, h⟩ := t
    cases n with
    | zero => exact absurd rfl h0
    | succ n =>
      have hs := scratch_eq m c n (Nat.lt_of_succ_lt h)
      exact congrArg₂ (fun g u => k0_pay3 (F := Ideal) (iblk m c 0 ⟨n + 1, h⟩) g u y)
        (funext fun j => (hs.1 j).trans (gate_stays m c n h h0 j))
        (funext fun j => (hs.2 j).trans (up_stays m c n h h0 j))

/-- The output array is the reference's result. -/
theorem final (c : Dev nD) : (dats m 0 c).arrAt 3 cfg0.N
    = val_main_v5 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, point]
  simp only [val_main_v5_apply, val_main_v4_apply, val_main_v3_apply, val_main_v2_apply, val_main_v1_apply,
    val_main_call0_v5_apply, val_main_call0_v4_apply, val_main_call0_v3_apply, val_main_call0_v2_apply,
    val_main_call0_v1_apply, val_main_call0_v0_apply, val_main_call0_cst_apply, val_main_call0_cst_0_apply]
  pointwise [k0_pay3, val_main_v0]
  rw [sub_eq_add_neg, zero_add]
  blk_point [iblk, V, idx t]

/-- The kernel and the reference leave the same array. -/
theorem algebraic : Cert.algebraic_UpIdeal_UpRefIdeal := fun m ρ m' ρ' _ hag =>
  ⟨_, Value.run_blocks m ρ, (θ_run Cert.UpRefIdeal.defs _ _).mono
    (fun _ h c => ⟨(h c).1.trans (by
      rw [(hag c).1, (hag c).2.1, (hag c).2.2, final, val_main_v5_eq]), (h c).2⟩)
    (Cert.UpRefIdeal.Value.run (F := Ideal) m' ρ')⟩

end Cert.UpIdeal.Hand
-- ==== Proof.DownValue.lean ====
module
public import proofs.«01_k».proof.Defs
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit

/-! The down projection of the feed-forward layer: `res + a @ w`, one 512×512 block per grid point.  The cast column
    block of the weights is kept in a scratch buffer for the sixteen row blocks of its sweep. -/

@[expose] public section

set_option maxRecDepth 16384

noncomputable section

namespace Cert.DownIdeal.Hand

open Cert.DownIdeal Cert.DownIdeal.Gen Idealize.ShloMosaic Idealize.ShloMosaic.TcCoe Idealize.SL.Sem
open Idealize.ShloMosaic.Pipeline (Dat)
open Idealize.ShloMosaic.ValueIdx
open Cert.DownRefIdeal.Read

variable (m : (ℓ : Loc nD τ sig) → Buf (Elt Ideal) ℓ)

/-- Point `t` works on row block `t % 16` and column block `t / 16`. -/
theorem idx : ∀ t : Fin cfg0.N, win0_0.index t = ![t.val % 16, 0] ∧ win0_1.index t = ![0, t.val / 16]
    ∧ win0_2.index t = ![t.val % 16, t.val / 16] ∧ win0_3.index t = ![t.val % 16, t.val / 16] :=
  (by decide +kernel : ∀ t : Fin grid0.N, _)

/-- A column block of the weights stays staged for the sixteen row blocks it serves. -/
theorem weights_stay (c : Dev nD) (n : ℕ) (h : n + 1 < cfg0.N) (h0 : ¬(n + 1) % 16 = 0) (y : S5632x512.Idx) :
    iblk m c 1 ⟨n, Nat.lt_of_succ_lt h⟩ y = iblk m c 1 ⟨n + 1, h⟩ y := by
  have e : n / 16 = (n + 1) / 16 := by omega
  have i1 := (idx ⟨n, Nat.lt_of_succ_lt h⟩).2.1
  have i2 := (idx ⟨n + 1, h⟩).2.1
  dsimp only at i1 i2
  blk_ext [iblk, V, i1, i2, e]

/-- The scratch buffer holds the current column block of the weights. -/
theorem scratch_eq (c : Dev nD) (n : ℕ) (h : n < cfg0.N) (y : S5632x512.Idx) :
    (outsAt0 m c n h).2 y = iblk m c 1 ⟨n, h⟩ y := by
  induction n with
  | zero =>
    have e := outsAt0_A m c ⟨0, h⟩ (by rfl)
    dsimp only at e
    rw [e]; dsimp only
    frame_out
    pointwise [k0_pay1]
  | succ n ih =>
    by_cases h0 : (n + 1) % 16 = 0
    · have e := outsAt0_A m c ⟨n + 1, h⟩ h0
      dsimp only at e
      rw [e]; dsimp only
      frame_out
      pointwise [k0_pay1]
    · have e := outsAt0_B m c ⟨n + 1, h⟩ h0
      dsimp only at e
      rw [e]; dsimp only
      exact (ih (Nat.lt_of_succ_lt h)).trans (weights_stay m c n h h0 y)

/-- Every point stores its residual block plus its row block times its weight block. -/
theorem point (c : Dev nD) (t : Fin cfg0.N) (y : S512x512.Idx) :
    (outsAt0 m c t.val t.isLt).1 y = k0_pay2 (F := Ideal) (iblk m c 2 t) (iblk m c 0 t) (iblk m c 1 t) y := by
  by_cases h0 : t.val % 16 = 0
  · rw [outsAt0_A m c t h0]; dsimp only
    frame_out
    rw [show k0_pay1 (F := Ideal) (iblk m c 1 t) = iblk m c 1 t from funext fun j => by pointwise [k0_pay1]]
  · rw [outsAt0_B m c t h0]; dsimp only
    frame_out
    rw [(Memref.isWhole_whole _).read_unread]
    obtain ⟨n, h⟩ := t
    cases n with
    | zero => exact absurd rfl h0
    | succ n =>
      exact congrArg (fun w => k0_pay2 (F := Ideal) (iblk m c 2 ⟨n + 1, h⟩) (iblk m c 0 ⟨n + 1, h⟩) w y)
        (funext fun j => (scratch_eq m c n (Nat.lt_of_succ_lt h) j).trans (weights_stay m c n h h0 j))

/-- The output array is the reference's result. -/
theorem final (c : Dev nD) : (dats m 0 c).arrAt 3 cfg0.N
    = val_main_v2 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, point, val_main_v2_apply, val_main_v1_apply]
  pointwise [k0_pay2, val_main_v0]
  blk_point [iblk, V, idx t]

/-- The kernel and the reference leave the same array. -/
theorem algebraic : Cert.algebraic_DownIdeal_DownRefIdeal := fun m ρ m' ρ' _ hag =>
  ⟨_, Value.run_blocks m ρ, (θ_run Cert.DownRefIdeal.defs _ _).mono
    (fun _ h c => ⟨(h c).1.trans (by
      rw [(hag c).1, (hag c).2.1, (hag c).2.2, final, val_main_v2_eq]), (h c).2⟩)
    (Cert.DownRefIdeal.Value.run (F := Ideal) m' ρ')⟩

end Cert.DownIdeal.Hand
-- ==== Proof.OutProjValue.lean ====
module
public import proofs.«01_k».proof.Defs
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit

/-! The output projection of an attention layer: `res + a @ w`, one 1024×512 block per grid point.  The cast column
    block of the weights is kept in a scratch buffer for the eight row blocks of its sweep. -/

@[expose] public section

set_option maxRecDepth 16384

noncomputable section

namespace Cert.OutProjIdeal.Hand

open Cert.OutProjIdeal Cert.OutProjIdeal.Gen Idealize.ShloMosaic Idealize.ShloMosaic.TcCoe Idealize.SL.Sem
open Idealize.ShloMosaic.Pipeline (Dat)
open Idealize.ShloMosaic.ValueIdx
open Cert.OutProjRefIdeal.Read

variable (m : (ℓ : Loc nD τ sig) → Buf (Elt Ideal) ℓ)

/-- Point `t` works on row block `t % 8` and column block `t / 8`. -/
theorem idx : ∀ t : Fin cfg0.N, win0_0.index t = ![t.val % 8, 0] ∧ win0_1.index t = ![0, t.val / 8]
    ∧ win0_2.index t = ![t.val % 8, t.val / 8] ∧ win0_3.index t = ![t.val % 8, t.val / 8] :=
  (by decide +kernel : ∀ t : Fin grid0.N, _)

/-- A column block of the weights stays staged for the eight row blocks it serves. -/
theorem weights_stay (c : Dev nD) (n : ℕ) (h : n + 1 < cfg0.N) (h0 : ¬(n + 1) % 8 = 0) (y : S2048x512.Idx) :
    iblk m c 1 ⟨n, Nat.lt_of_succ_lt h⟩ y = iblk m c 1 ⟨n + 1, h⟩ y := by
  have e : n / 8 = (n + 1) / 8 := by omega
  have i1 := (idx ⟨n, Nat.lt_of_succ_lt h⟩).2.1
  have i2 := (idx ⟨n + 1, h⟩).2.1
  dsimp only at i1 i2
  blk_ext [iblk, V, i1, i2, e]

/-- The scratch buffer holds the current column block of the weights. -/
theorem scratch_eq (c : Dev nD) (n : ℕ) (h : n < cfg0.N) (y : S2048x512.Idx) :
    (outsAt0 m c n h).2 y = iblk m c 1 ⟨n, h⟩ y := by
  induction n with
  | zero =>
    have e := outsAt0_A m c ⟨0, h⟩ (by rfl)
    dsimp only at e
    rw [e]; dsimp only
    frame_out
    pointwise [k0_pay1]
  | succ n ih =>
    by_cases h0 : (n + 1) % 8 = 0
    · have e := outsAt0_A m c ⟨n + 1, h⟩ h0
      dsimp only at e
      rw [e]; dsimp only
      frame_out
      pointwise [k0_pay1]
    · have e := outsAt0_B m c ⟨n + 1, h⟩ h0
      dsimp only at e
      rw [e]; dsimp only
      exact (ih (Nat.lt_of_succ_lt h)).trans (weights_stay m c n h h0 y)

/-- Every point stores its residual block plus its row block times its weight block. -/
theorem point (c : Dev nD) (t : Fin cfg0.N) (y : S1024x512.Idx) :
    (outsAt0 m c t.val t.isLt).1 y = k0_pay2 (F := Ideal) (iblk m c 2 t) (iblk m c 0 t) (iblk m c 1 t) y := by
  by_cases h0 : t.val % 8 = 0
  · rw [outsAt0_A m c t h0]; dsimp only
    frame_out
    rw [show k0_pay1 (F := Ideal) (iblk m c 1 t) = iblk m c 1 t from funext fun j => by pointwise [k0_pay1]]
  · rw [outsAt0_B m c t h0]; dsimp only
    frame_out
    rw [(Memref.isWhole_whole _).read_unread]
    obtain ⟨n, h⟩ := t
    cases n with
    | zero => exact absurd rfl h0
    | succ n =>
      exact congrArg (fun w => k0_pay2 (F := Ideal) (iblk m c 2 ⟨n + 1, h⟩) (iblk m c 0 ⟨n + 1, h⟩) w y)
        (funext fun j => (scratch_eq m c n (Nat.lt_of_succ_lt h) j).trans (weights_stay m c n h h0 j))

/-- The output array is the reference's result. -/
theorem final (c : Dev nD) : (dats m 0 c).arrAt 3 cfg0.N
    = val_main_v2 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, point, val_main_v2_apply, val_main_v1_apply]
  pointwise [k0_pay2, val_main_v0]
  blk_point [iblk, V, idx t]

/-- The kernel and the reference leave the same array. -/
theorem algebraic : Cert.algebraic_OutProjIdeal_OutProjRefIdeal := fun m ρ m' ρ' _ hag =>
  ⟨_, Value.run_blocks m ρ, (θ_run Cert.OutProjRefIdeal.defs _ _).mono
    (fun _ h c => ⟨(h c).1.trans (by
      rw [(hag c).1, (hag c).2.1, (hag c).2.2, final, val_main_v2_eq]), (h c).2⟩)
    (Cert.OutProjRefIdeal.Value.run (F := Ideal) m' ρ')⟩

end Cert.OutProjIdeal.Hand
-- ==== Proof.ProjVValue.lean ====
module
public import proofs.«01_k».proof.Defs
public import proofs.«01_k».proof.Proof.Gen.ProjVIdeal.Value
public import proofs.«01_k».proof.Proof.Gen.ProjVRefIdeal.Run
public import proofs.«01_k».proof.Proof.Gen.ProjVRefIdeal.Read
public import Idealize.ShloMosaic.Lib.Pipeline.ValueKit

/-! The value projection of a stick-breaking layer: the last third of the columns of `h @ w`, at full width and at half
    width, one 1024×512 block per grid point, written as four chunks of 256 rows.  The cast column
    block of the weights is kept in a scratch buffer for the eight row blocks of its sweep. -/

@[expose] public section

set_option maxRecDepth 16384

noncomputable section

namespace Cert.ProjVIdeal.Hand

open Cert.ProjVIdeal Cert.ProjVIdeal.Gen Idealize.ShloMosaic Idealize.ShloMosaic.TcCoe Idealize.SL.Sem
open Idealize.ShloMosaic.Pipeline (Dat)
open Cert.ProjVRefIdeal.Read

variable (m : (ℓ : Loc nD τ sig) → Buf (Elt Ideal) ℓ)

/-- Point `t` works on row block `t % 8` and column block `t / 8`. -/
theorem idx : ∀ t : Fin cfg0.N, win0_0.index t = ![t.val % 8, 0] ∧ win0_1.index t = ![0, t.val / 8 + 8]
    ∧ win0_2.index t = ![t.val % 8, t.val / 8] ∧ win0_3.index t = ![t.val % 8, t.val / 8] :=
  (by decide +kernel : ∀ t : Fin grid0.N, _)

/-- A column block of the weights stays staged for the eight row blocks it serves. -/
theorem weights_stay (c : Dev nD) (n : ℕ) (h : n + 1 < cfg0.N) (h0 : ¬(n + 1) % 8 = 0) (y : S2048x512.Idx) :
    iblk m c 1 ⟨n, Nat.lt_of_succ_lt h⟩ y = iblk m c 1 ⟨n + 1, h⟩ y := by
  have e : n / 8 = (n + 1) / 8 := by omega
  have i1 := (idx ⟨n, Nat.lt_of_succ_lt h⟩).2.1
  have i2 := (idx ⟨n + 1, h⟩).2.1
  dsimp only at i1 i2
  blk_ext [iblk, V, i1, i2, e]

/-- The scratch buffer holds the current column block of the weights. -/
theorem scratch_eq (c : Dev nD) (n : ℕ) (h : n < cfg0.N) (y : S2048x512.Idx) :
    (outsAt0 m c n h).2.2 y = iblk m c 1 ⟨n, h⟩ y := by
  induction n with
  | zero =>
    have e := outsAt0_A m c ⟨0, h⟩ (by rfl)
    dsimp only at e
    rw [e]; dsimp only
    frame_out
    pointwise [k0_pay5]
  | succ n ih =>
    by_cases h0 : (n + 1) % 8 = 0
    · have e := outsAt0_A m c ⟨n + 1, h⟩ h0
      dsimp only at e
      rw [e]; dsimp only
      frame_out
      pointwise [k0_pay5]
    · have e := outsAt0_B m c ⟨n + 1, h⟩ h0
      dsimp only at e
      rw [e]; dsimp only
      exact (ih (Nat.lt_of_succ_lt h)).trans (weights_stay m c n h h0 y)

/-- Entry `(r, j)` of the product of a row block and a weight block. -/
def prod (X : Vec Ideal S1024x2048 .bf16) (W : Vec Ideal S2048x512 .bf16) (r : Fin 1024) (j : Fin 512) : EReal :=
  ∑ e : Fin 2048, X (ix2 r e) * W (ix2 e j)

/-- An index whose lane is written as a sum is the index itself. -/
theorem at_lane (v : Vec Ideal S256x512 .f32) (y : S256x512.Idx) (n : ℕ) (hn : n < 512) (e : n = (y 1 : ℕ)) :
    v (ix2 (y 0) ⟨n, hn⟩) = v y := by
  subst e
  exact congrArg v (ix2_eta y)

/-- The four heads of 128 lanes, cut and joined, are the array itself. -/
theorem join_at (v : Vec Ideal S256x512 .f32) (y : S256x512.Idx) : k0_pay3 (F := Ideal) v y = v y := by
  pointwise [k0_pay3]
  split_ifs
  · rfl
  all_goals exact at_lane v y _ _ (by omega)

/-- One entry of a chunk of 256 rows times the weights. -/
def dot (W : Vec Ideal S2048x512 .bf16) (X : Vec Ideal S256x2048 .bf16) (y : S256x512.Idx) : EReal :=
  ∑ e : Fin 2048, X (ix2 (y 0) e) * W (ix2 e (y 1))

/-- The product that a chunk stores, entry by entry. -/
theorem pay7_at (W : Vec Ideal S2048x512 .bf16) (X : Vec Ideal S256x2048 .bf16) (y : S256x512.Idx) :
    k0_pay7 (F := Ideal) W X y = dot W X y := by
  pointwise [k0_pay7, dot]

/-- The cast of the weights changes nothing over the reals. -/
theorem pay5_eq (W : Vec Ideal S2048x512 .bf16) : k0_pay5 (F := Ideal) W = W := funext fun j => by
  pointwise [k0_pay5]

/-- What is stored for the last chunk, at full width. -/
theorem tile3 (W : Vec Ideal S2048x512 .bf16) (X : Vec Ideal S256x2048 .bf16) (y : S256x512.Idx) :
    k0_pay3 (F := Ideal) (k0_pay7 W X) y = dot W X y := (join_at _ y).trans (pay7_at W X y)

/-- For the third chunk. -/
theorem tile2 (W : Vec Ideal S2048x512 .bf16) (X : Vec Ideal S256x2048 .bf16) (y : S256x512.Idx) :
    k0_pay1 (F := Ideal) (k0_pay6 W X) (k0_pay12 W X) y = dot W X y := tile3 W X y

/-- For the second chunk. -/
theorem tile1 (W : Vec Ideal S2048x512 .bf16) (X : Vec Ideal S256x2048 .bf16) (y : S256x512.Idx) :
    k0_pay10 (F := Ideal) W X y = dot W X y := tile3 W X y

/-- For the first chunk. -/
theorem tile0 (W : Vec Ideal S2048x512 .bf16) (X : Vec Ideal S256x2048 .bf16) (y : S256x512.Idx) :
    k0_pay8 (F := Ideal) W X y = dot W X y := tile3 W X y

/-- What is stored for the last chunk, at half width. -/
theorem half3 (W : Vec Ideal S2048x512 .bf16) (X : Vec Ideal S256x2048 .bf16) (y : S256x512.Idx) :
    k0_pay4 (F := Ideal) (k0_pay7 W X) y = dot W X y := tile3 W X y

/-- For the third chunk. -/
theorem half2 (W : Vec Ideal S2048x512 .bf16) (X : Vec Ideal S256x2048 .bf16) (y : S256x512.Idx) :
    k0_pay2 (F := Ideal) (k0_pay6 W X) (k0_pay12 W X) y = dot W X y := tile3 W X y

/-- For the second chunk. -/
theorem half1 (W : Vec Ideal S2048x512 .bf16) (X : Vec Ideal S256x2048 .bf16) (y : S256x512.Idx) :
    k0_pay11 (F := Ideal) W X y = dot W X y := tile3 W X y

/-- For the first chunk. -/
theorem half0 (W : Vec Ideal S2048x512 .bf16) (X : Vec Ideal S256x2048 .bf16) (y : S256x512.Idx) :
    k0_pay9 (F := Ideal) W X y = dot W X y := tile3 W X y

/-- An entry of a chunk's product is an entry of the block's product. -/
theorem dot_ld (X : Vec Ideal S1024x2048 .bf16) (W : Vec Ideal S2048x512 .bf16) (o : ℕ)
    (b : ∀ a, (![o, 0] : Fin 2 → ℕ) a + (![256, 2048] : Fin 2 → ℕ) a ≤ S1024x2048.size a)
    (y : S256x512.Idx) (x : S1024x512.Idx) (h0 : (x 0 : ℕ) = o + (y 0 : ℕ)) (h1 : (x 1 : ℕ) = (y 1 : ℕ)) :
    dot W (View.ld X (Rect.unit ![o, 0] ![256, 2048] b)) y = prod X W (x 0) (x 1) := by
  unfold dot prod
  refine Finset.sum_congr rfl fun e _ => ?_
  congr 1
  · refine congrArg X (funext fun a => Fin.ext ?_)
    fin_cases a
    · show o + 1 * (y 0 : ℕ) = (x 0 : ℕ)
      omega
    · show 0 + 1 * (e : ℕ) = (e : ℕ)
      omega
  · exact congrArg W (by rw [Fin.ext h1])

/-- Where a sweep starts, the point casts its weight block and multiplies with it. -/
theorem body_A (c : Dev nD) (t : Fin cfg0.N) (h0 : t.val % 8 = 0) (y : S1024x512.Idx) :
    (outsAt0 m c t.val t.isLt).1 y = prod (iblk m c 0 t) (iblk m c 1 t) (y 0) (y 1) := by
  rw [outsAt0_A m c t h0]; dsimp only
  frame_out
  rw [pay5_eq]
  canon_tiles y h
  · exact (tile3 _ _ _).trans (dot_ld _ _ 768 _ _ _ (by omega) (by omega))
  · exact (tile2 _ _ _).trans (dot_ld _ _ 512 _ _ _ (by omega) (by omega))
  · exact (tile1 _ _ _).trans (dot_ld _ _ 256 _ _ _ (by omega) (by omega))
  · exact (tile0 _ _ _).trans (dot_ld _ _ 0 _ _ _ (by omega) (by omega))

/-- The same at half width. -/
theorem half_A (c : Dev nD) (t : Fin cfg0.N) (h0 : t.val % 8 = 0) (y : S1024x512.Idx) :
    (outsAt0 m c t.val t.isLt).2.1 y = prod (iblk m c 0 t) (iblk m c 1 t) (y 0) (y 1) := by
  rw [outsAt0_A m c t h0]; dsimp only
  frame_out
  rw [pay5_eq]
  canon_tiles y h
  · exact (half3 _ _ _).trans (dot_ld _ _ 768 _ _ _ (by omega) (by omega))
  · exact (half2 _ _ _).trans (dot_ld _ _ 512 _ _ _ (by omega) (by omega))
  · exact (half1 _ _ _).trans (dot_ld _ _ 256 _ _ _ (by omega) (by omega))
  · exact (half0 _ _ _).trans (dot_ld _ _ 0 _ _ _ (by omega) (by omega))

/-- Within a sweep the scratch buffer holds the point's weight block already. -/
theorem kept (c : Dev nD) (t : Fin cfg0.N) (h0 : ¬t.val % 8 = 0) :
    (outsAt0 m c (t.val - 1) (Nat.lt_of_le_of_lt (Nat.sub_le _ _) t.isLt)).2.2 = iblk m c 1 t := by
  obtain ⟨n, h⟩ := t
  cases n with
  | zero => exact absurd rfl h0
  | succ n => exact funext fun j => (scratch_eq m c n (Nat.lt_of_succ_lt h) j).trans (weights_stay m c n h h0 j)

/-- Elsewhere in a sweep, the point multiplies with the kept weights. -/
theorem body_B (c : Dev nD) (t : Fin cfg0.N) (h0 : ¬t.val % 8 = 0) (y : S1024x512.Idx) :
    (outsAt0 m c t.val t.isLt).1 y = prod (iblk m c 0 t) (iblk m c 1 t) (y 0) (y 1) := by
  rw [outsAt0_B m c t h0]; dsimp only
  frame_out
  rw [(Memref.isWhole_whole _).read_unread, kept m c t h0]
  canon_tiles y h
  · exact (tile3 _ _ _).trans (dot_ld _ _ 768 _ _ _ (by omega) (by omega))
  · exact (tile2 _ _ _).trans (dot_ld _ _ 512 _ _ _ (by omega) (by omega))
  · exact (tile1 _ _ _).trans (dot_ld _ _ 256 _ _ _ (by omega) (by omega))
  · exact (tile0 _ _ _).trans (dot_ld _ _ 0 _ _ _ (by omega) (by omega))

/-- The same at half width. -/
theorem half_B (c : Dev nD) (t : Fin cfg0.N) (h0 : ¬t.val % 8 = 0) (y : S1024x512.Idx) :
    (outsAt0 m c t.val t.isLt).2.1 y = prod (iblk m c 0 t) (iblk m c 1 t) (y 0) (y 1) := by
  rw [outsAt0_B m c t h0]; dsimp only
  frame_out
  rw [(Memref.isWhole_whole _).read_unread, kept m c t h0]
  canon_tiles y h
  · exact (half3 _ _ _).trans (dot_ld _ _ 768 _ _ _ (by omega) (by omega))
  · exact (half2 _ _ _).trans (dot_ld _ _ 512 _ _ _ (by omega) (by omega))
  · exact (half1 _ _ _).trans (dot_ld _ _ 256 _ _ _ (by omega) (by omega))
  · exact (half0 _ _ _).trans (dot_ld _ _ 0 _ _ _ (by omega) (by omega))

/-- Every point stores its row block times its weight block, at full width. -/
theorem point (c : Dev nD) (t : Fin cfg0.N) (y : S1024x512.Idx) :
    (outsAt0 m c t.val t.isLt).1 y = prod (iblk m c 0 t) (iblk m c 1 t) (y 0) (y 1) :=
  if h0 : t.val % 8 = 0 then body_A m c t h0 y else body_B m c t h0 y

/-- The same at half width. -/
theorem half (c : Dev nD) (t : Fin cfg0.N) (y : S1024x512.Idx) :
    (outsAt0 m c t.val t.isLt).2.1 y = prod (iblk m c 0 t) (iblk m c 1 t) (y 0) (y 1) :=
  if h0 : t.val % 8 = 0 then half_A m c t h0 y else half_B m c t h0 y

/-- The reference's entry: the row times the column 4096 further right. -/
theorem ref_at (x0 : Vec Ideal S8192x2048 .bf16) (x1 : Vec Ideal S2048x6144 .f32) (i : S8192x2048.Idx) (j : Fin 6144)
    (hj : (j : ℕ) = 4096 + (i 1 : ℕ)) :
    val_main_v5 (F := Ideal) x0 x1 i = ∑ e : Fin 2048, (x0 (ix2 (i 0) e) : EReal) * x1 (ix2 e j) := by
  have b0 : (i 0 : ℕ) < 8192 := (i 0).isLt
  have b1 : (i 1 : ℕ) < 2048 := (i 1).isLt
  rw [val_main_v5_apply, val_main_v4_apply, val_main_v3_apply, val_main_v2_apply, val_main_v1_apply]
  refine Finset.sum_congr rfl fun e _ => congrArg₂ (fun x y : EReal => x * y) (congrArg x0 ?_) (congrArg x1 ?_)
  · refine funext fun a => Fin.ext ?_
    fin_cases a
    · dsimp; omega
    · rfl
  · refine funext fun a => Fin.ext ?_
    fin_cases a
    · rfl
    · dsimp; omega

/-- An entry of a grid point's product is the reference's entry. -/
theorem prod_ref (c : Dev nD) (t : Fin cfg0.N) (y : S1024x512.Idx) (i : S8192x2048.Idx)
    (h0 : (i 0 : ℕ) = t.val % 8 * 1024 + (y 0 : ℕ)) (h1 : (i 1 : ℕ) = t.val / 8 * 512 + (y 1 : ℕ)) :
    prod (iblk m c 0 t) (iblk m c 1 t) (y 0) (y 1)
      = val_main_v5 (F := Ideal) (m ((c : Thread nD τ).loc main_arg0)) (m ((c : Thread nD τ).loc main_arg1)) i := by
  have b1 : (i 1 : ℕ) < 2048 := (i 1).isLt
  rw [ref_at _ _ i ⟨4096 + (i 1 : ℕ), by omega⟩ rfl]
  unfold prod
  refine Finset.sum_congr rfl fun e _ => congrArg₂ (fun x y : EReal => x * y) ?_ ?_
  · blk_point [iblk, V, idx t]
  · blk_point [iblk, V, idx t]

/-- The full-width output array is the reference's first result. -/
theorem final (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2, point]
  refine prod_ref m c t y _ ?_ ?_
  · blk_simp [idx t]
  · blk_simp [idx t]

/-- The half-width output array is its second. -/
theorem final_half (c : Dev nD) : (dats m 0 c).arrAt 3 cfg0.N
    = val_main_v6 (F := Ideal) (m ((c : Thread nD τ).loc main_arg0)) (m ((c : Thread nD τ).loc main_arg1)) := by
  refine (dats m 0 c).arrAt_eq_of_covers 3 _ (by decide +kernel) fun t _ y => ?_
  blk_simp
  rw [after0_3, half]
  refine prod_ref m c t y _ ?_ ?_
  · blk_simp [idx t]
  · blk_simp [idx t]

/-- The kernel and the reference leave the same two arrays. -/
theorem algebraic : Cert.algebraic_ProjVIdeal_ProjVRefIdeal := fun m ρ m' ρ' _ hag =>
  ⟨_, _, Value.run_blocks m ρ, (θ_run Cert.ProjVRefIdeal.defs _ _).mono
    (fun _ h c => ⟨(h c).1.trans (by rw [(hag c).1, (hag c).2, final, val_main_v5_eq]),
      (h c).2.1.trans (by rw [(hag c).1, (hag c).2, final_half, val_main_v6_eq]), (h c).2.2⟩)
    (Cert.ProjVRefIdeal.Value.run (F := Ideal) m' ρ')⟩

end Cert.ProjVIdeal.Hand
-- ==== Proof.ProjQValue.lean ====
module
public import proofs.«01_k».proof.Defs
public import proofs.«01_k».proof.Proof.Gen.ProjQIdeal.Value
public import proofs.«01_k».proof.Proof.Gen.ProjQRefIdeal.Run
public import proofs.«01_k».proof.Proof.Gen.ProjQRefIdeal.Read
public import Idealize.ShloMosaic.Lib.Pipeline.ValueKit

/-! The query projection of a stick-breaking layer: the first third of the columns of `h @ w`, each head of 128 lanes
    divided by its root mean square and scaled, one 1024×512 block per grid point, written as four chunks of 256 rows.
    The cast column block of the weights is kept in a scratch buffer for the eight row blocks of its sweep.  The lemmas on
    a block's heads serve the key projection too. -/

@[expose] public section

set_option maxRecDepth 16384

noncomputable section

namespace Cert.ProjQIdeal.Hand

open Cert.ProjQIdeal Cert.ProjQIdeal.Gen Idealize.ShloMosaic Idealize.ShloMosaic.TcCoe Idealize.SL.Sem
open Idealize.ShloMosaic.Pipeline (Dat)
open Cert.ProjQRefIdeal.Read

variable (m : (ℓ : Loc nD τ sig) → Buf (Elt Ideal) ℓ)

/-- Point `t` works on row block `t % 8` and column block `t / 8`. -/
theorem idx : ∀ t : Fin cfg0.N, win0_0.index t = ![t.val % 8, 0] ∧ win0_1.index t = ![0, t.val / 8]
    ∧ win0_2.index t = ![0, 0] ∧ win0_3.index t = ![t.val % 8, t.val / 8] :=
  (by decide +kernel : ∀ t : Fin grid0.N, _)

/-- A column block of the weights stays staged for the eight row blocks it serves. -/
theorem weights_stay (c : Dev nD) (n : ℕ) (h : n + 1 < cfg0.N) (h0 : ¬(n + 1) % 8 = 0) (y : S2048x512.Idx) :
    iblk m c 1 ⟨n, Nat.lt_of_succ_lt h⟩ y = iblk m c 1 ⟨n + 1, h⟩ y := by
  have e : n / 8 = (n + 1) / 8 := by omega
  have i1 := (idx ⟨n, Nat.lt_of_succ_lt h⟩).2.1
  have i2 := (idx ⟨n + 1, h⟩).2.1
  dsimp only at i1 i2
  blk_ext [iblk, V, i1, i2, e]

/-- The scratch buffer holds the current column block of the weights. -/
theorem scratch_eq (c : Dev nD) (n : ℕ) (h : n < cfg0.N) (y : S2048x512.Idx) :
    (outsAt0 m c n h).2 y = iblk m c 1 ⟨n, h⟩ y := by
  induction n with
  | zero =>
    have e := outsAt0_A m c ⟨0, h⟩ (by rfl)
    dsimp only at e
    rw [e]; dsimp only
    frame_out
    pointwise [k0_pay2]
  | succ n ih =>
    by_cases h0 : (n + 1) % 8 = 0
    · have e := outsAt0_A m c ⟨n + 1, h⟩ h0
      dsimp only at e
      rw [e]; dsimp only
      frame_out
      pointwise [k0_pay2]
    · have e := outsAt0_B m c ⟨n + 1, h⟩ h0
      dsimp only at e
      rw [e]; dsimp only
      exact (ih (Nat.lt_of_succ_lt h)).trans (weights_stay m c n h h0 y)

/-- Entry `(r, j)` of the product of a row block and a weight block. -/
def prod (X : Vec Ideal S1024x2048 .bf16) (W : Vec Ideal S2048x512 .bf16) (r : Fin 1024) (j : Fin 512) : EReal :=
  ∑ e : Fin 2048, X (ix2 r e) * W (ix2 e j)

/-- One head of 128 lanes, divided by its root mean square and scaled by a gain. -/
def head (x : FVec Ideal S256x128 .f32) (g : FVec Ideal S1x128 .f32) : FVec Ideal S256x128 .f32 :=
  mulf (mulf x (broadcastTo S256x128 (rsqrt (addf (divf (shapeCast S256x1
    (multiReduction .add [1] S256 (mulf x x) 0x00000000#32 reduces_S256x128_S256 (.inl rfl) rfl) shapeCasts_S256_S256x1)
    (broadcast S256x1 (Scalar.ofBits .f32 0x43000000#32))) (broadcast S256x1 (Scalar.ofBits .f32 0x358637BD#32))))
    broadcasts_S256x1_S256x128)) (broadcastTo S256x128 (shapeCast S1x128 g shapeCasts_S1x128_S1x128) broadcasts_S1x128_S256x128)

/-- The four heads of a chunk, normed and joined. -/
def heads (v : FVec Ideal S256x512 .f32) (g0 g1 g2 g3 : FVec Ideal S1x128 .f32) : FVec Ideal S256x512 .f32 :=
  concatenate S256x512 1 [⟨S256x128, head (extractStridedSlice S256x128 ![0, 0] v slices_S256x512_o0_0_S256x128) g0⟩,
    ⟨S256x128, head (extractStridedSlice S256x128 ![0, 128] v slices_S256x512_o0_128_S256x128) g1⟩,
    ⟨S256x128, head (extractStridedSlice S256x128 ![0, 256] v slices_S256x512_o0_256_S256x128) g2⟩,
    ⟨S256x128, head (extractStridedSlice S256x128 ![0, 384] v slices_S256x512_o0_384_S256x128) g3⟩]
    concatenates_S256x128_S256x128_S256x128_S256x128_S256x512_d1

/-- A number divided by the root mean square of its head and scaled by its gain. -/
def scaled (x : EReal) (q : Fin 128 → EReal) (g : EReal) : EReal :=
  x * Ideal.rsqrt (Ideal.div (∑ k : Fin 128, q k * q k) (Ideal.ofBits .f32 0x43000000#32)
    + Ideal.ofBits .f32 0x358637BD#32) * g

/-- Lane `j` of a row of four heads, each normed and scaled. -/
def entry (P : Fin 512 → EReal) (g : Vec Ideal S1x512 .f32) (j : Fin 512) : EReal :=
  scaled (P j) (fun k => P ⟨(j : ℕ) / 128 * 128 + (k : ℕ), by omega⟩) (g (ix2 0 j))

/-- An entry of a head. -/
theorem head_at (x : FVec Ideal S256x128 .f32) (g : FVec Ideal S1x128 .f32) (y : S256x128.Idx) :
    head x g y = scaled (x y) (fun k => x (ix2 (y 0) k)) (g (ix2 0 (y 1))) := by
  pointwise [head, scaled]

/-- One head of a chunk, at a lane of the chunk. -/
theorem head_lane (v : FVec Ideal S256x512 .f32) (g : Vec Ideal S1x512 .f32) (o : ℕ) (hs : S256x512.Slices ![0, o] S256x128)
    (b : ∀ a, (![0, o] : Fin 2 → ℕ) a + (![1, 128] : Fin 2 → ℕ) a ≤ S1x512.size a) (r : Fin 256) (l : Fin 128) (j : Fin 512)
    (hj : (j : ℕ) = o + (l : ℕ)) (ho : (j : ℕ) / 128 * 128 = o) :
    head (extractStridedSlice S256x128 ![0, o] v hs) (View.ld g (Rect.unit ![0, o] ![1, 128] b)) (ix2 r l)
      = entry (fun j => v (ix2 r j)) g j := by
  have cut : ∀ k : Fin 128, ∀ i : Fin 512, (i : ℕ) = o + (k : ℕ) →
      extractStridedSlice S256x128 ![0, o] v hs (ix2 r k) = v (ix2 r i) := fun k i hi =>
    extractStridedSlice_apply ![0, o] v hs (ix2 r k) (ix2 r i) fun a => by
      fin_cases a
      · show (r : ℕ) = 0 + (r : ℕ); omega
      · show (i : ℕ) = o + (k : ℕ); omega
  rw [head_at]
  unfold entry
  have e : View.ld g (Rect.unit ![0, o] ![1, 128] b) (ix2 0 l) = g (ix2 0 j) := by
    refine congrArg g (funext fun a => Fin.ext ?_)
    fin_cases a
    · show 0 + 1 * 0 = 0; rfl
    · show o + 1 * (l : ℕ) = (j : ℕ); omega
  show scaled (extractStridedSlice S256x128 ![0, o] v hs (ix2 r l)) (fun k => extractStridedSlice S256x128 ![0, o] v hs (ix2 r k))
    (View.ld g (Rect.unit ![0, o] ![1, 128] b) (ix2 0 l)) = _
  rw [cut l j hj, e, funext fun k => cut k ⟨(j : ℕ) / 128 * 128 + (k : ℕ), by omega⟩ (by show _ + (k : ℕ) = o + (k : ℕ); omega)]

/-- Every lane of the four joined heads. -/
theorem heads_at (v : FVec Ideal S256x512 .f32) (g : Vec Ideal S1x512 .f32) (y : S256x512.Idx) :
    heads v (View.ld g (Rect.unit ![0, 0] ![1, 128] inb_S1x512_S1x128_0_0)) (View.ld g (Rect.unit ![0, 128] ![1, 128] inb_S1x512_S1x128_0_128))
      (View.ld g (Rect.unit ![0, 256] ![1, 128] inb_S1x512_S1x128_0_256)) (View.ld g (Rect.unit ![0, 384] ![1, 128] inb_S1x512_S1x128_0_384)) y
      = entry (fun j => v (ix2 (y 0) j)) g (y 1) := by
  have b1 : (y 1 : ℕ) < 512 := (y 1).isLt
  pointwise [heads]
  by_cases h0 : (y 1 : ℕ) < 128
  · rw [dif_pos h0]
    exact head_lane v g 0 _ _ (y 0) ⟨(y 1 : ℕ), h0⟩ (y 1) (by show (y 1 : ℕ) = 0 + (y 1 : ℕ); omega) (by omega)
  by_cases h1 : (y 1 : ℕ) - 128 < 128
  · rw [dif_neg h0, dif_pos h1]
    exact head_lane v g 128 _ _ (y 0) ⟨(y 1 : ℕ) - 128, h1⟩ (y 1) (by show (y 1 : ℕ) = 128 + ((y 1 : ℕ) - 128); omega) (by omega)
  by_cases h2 : (y 1 : ℕ) - 128 - 128 < 128
  · rw [dif_neg h0, dif_neg h1, dif_pos h2]
    exact head_lane v g 256 _ _ (y 0) ⟨(y 1 : ℕ) - 128 - 128, h2⟩ (y 1)
      (by show (y 1 : ℕ) = 256 + ((y 1 : ℕ) - 128 - 128); omega) (by omega)
  · rw [dif_neg h0, dif_neg h1, dif_neg h2]
    exact head_lane v g 384 _ _ (y 0) ⟨(y 1 : ℕ) - 128 - 128 - 128, by omega⟩ (y 1)
      (by show (y 1 : ℕ) = 384 + ((y 1 : ℕ) - 128 - 128 - 128); omega) (by omega)

/-- An entry of a chunk's product is an entry of the block's product. -/
theorem pay3_at (X : Vec Ideal S1024x2048 .bf16) (W : Vec Ideal S2048x512 .bf16) (o : ℕ)
    (b : ∀ a, (![o, 0] : Fin 2 → ℕ) a + (![256, 2048] : Fin 2 → ℕ) a ≤ S1024x2048.size a)
    (r : Fin 256) (x : Fin 1024) (j : Fin 512) (h0 : (x : ℕ) = o + (r : ℕ)) :
    k0_pay3 (F := Ideal) W (View.ld X (Rect.unit ![o, 0] ![256, 2048] b)) (ix2 r j) = prod X W x j := by
  generalize hv : View.ld X (Rect.unit ![o, 0] ![256, 2048] b) = v
  pointwise [k0_pay3, prod]
  subst hv
  refine Finset.sum_congr rfl fun e _ => congrArg₂ (fun x y : EReal => x * y) (congrArg X (funext fun a => Fin.ext ?_)) rfl
  fin_cases a
  · show o + 1 * (r : ℕ) = (x : ℕ); omega
  · show 0 + 1 * (e : ℕ) = (e : ℕ); omega

/-- What is stored for a chunk of 256 rows. -/
theorem tile (X : Vec Ideal S1024x2048 .bf16) (W : Vec Ideal S2048x512 .bf16) (g : Vec Ideal S1x512 .f32) (o : ℕ)
    (b : ∀ a, (![o, 0] : Fin 2 → ℕ) a + (![256, 2048] : Fin 2 → ℕ) a ≤ S1024x2048.size a)
    (y : S256x512.Idx) (x : S1024x512.Idx) (h0 : (x 0 : ℕ) = o + (y 0 : ℕ)) (h1 : (x 1 : ℕ) = (y 1 : ℕ)) :
    heads (k0_pay3 (F := Ideal) W (View.ld X (Rect.unit ![o, 0] ![256, 2048] b)))
      (View.ld g (Rect.unit ![0, 0] ![1, 128] inb_S1x512_S1x128_0_0)) (View.ld g (Rect.unit ![0, 128] ![1, 128] inb_S1x512_S1x128_0_128))
      (View.ld g (Rect.unit ![0, 256] ![1, 128] inb_S1x512_S1x128_0_256)) (View.ld g (Rect.unit ![0, 384] ![1, 128] inb_S1x512_S1x128_0_384)) y
      = entry (prod X W (x 0)) g (x 1) := by
  rw [heads_at, show x 1 = y 1 from Fin.ext h1]
  exact congrArg (fun P => entry P g (y 1)) (funext fun j => pay3_at X W o b (y 0) (x 0) j h0)

/-- The cast of the weights changes nothing over the reals. -/
theorem pay2_eq (W : Vec Ideal S2048x512 .bf16) : k0_pay2 (F := Ideal) W = W := funext fun j => by
  pointwise [k0_pay2]

/-- Within a sweep the scratch buffer holds the point's weight block already. -/
theorem kept (c : Dev nD) (t : Fin cfg0.N) (h0 : ¬t.val % 8 = 0) :
    (outsAt0 m c (t.val - 1) (Nat.lt_of_le_of_lt (Nat.sub_le _ _) t.isLt)).2 = iblk m c 1 t := by
  obtain ⟨n, h⟩ := t
  cases n with
  | zero => exact absurd rfl h0
  | succ n => exact funext fun j => (scratch_eq m c n (Nat.lt_of_succ_lt h) j).trans (weights_stay m c n h h0 j)

/-- Where a sweep starts, the point casts its weight block and multiplies with it. -/
theorem body_A (c : Dev nD) (t : Fin cfg0.N) (h0 : t.val % 8 = 0) (y : S1024x512.Idx) :
    (outsAt0 m c t.val t.isLt).1 y = entry (prod (iblk m c 0 t) (iblk m c 1 t) (y 0)) (iblk m c 2 t) (y 1) := by
  rw [outsAt0_A m c t h0]; dsimp only
  frame_out
  rw [pay2_eq]
  canon_tiles y h
  · exact tile _ _ _ 768 _ _ _ (by omega) (by omega)
  · exact tile _ _ _ 512 _ _ _ (by omega) (by omega)
  · exact tile _ _ _ 256 _ _ _ (by omega) (by omega)
  · exact tile _ _ _ 0 _ _ _ (by omega) (by omega)

/-- Elsewhere in a sweep, the point multiplies with the kept weights. -/
theorem body_B (c : Dev nD) (t : Fin cfg0.N) (h0 : ¬t.val % 8 = 0) (y : S1024x512.Idx) :
    (outsAt0 m c t.val t.isLt).1 y = entry (prod (iblk m c 0 t) (iblk m c 1 t) (y 0)) (iblk m c 2 t) (y 1) := by
  rw [outsAt0_B m c t h0]; dsimp only
  frame_out
  rw [(Memref.isWhole_whole _).read_unread, kept m c t h0]
  canon_tiles y h
  · exact tile _ _ _ 768 _ _ _ (by omega) (by omega)
  · exact tile _ _ _ 512 _ _ _ (by omega) (by omega)
  · exact tile _ _ _ 256 _ _ _ (by omega) (by omega)
  · exact tile _ _ _ 0 _ _ _ (by omega) (by omega)

/-- Every point stores its row block times its weight block, each head normed. -/
theorem point (c : Dev nD) (t : Fin cfg0.N) (y : S1024x512.Idx) :
    (outsAt0 m c t.val t.isLt).1 y = entry (prod (iblk m c 0 t) (iblk m c 1 t) (y 0)) (iblk m c 2 t) (y 1) :=
  if h0 : t.val % 8 = 0 then body_A m c t h0 y else body_B m c t h0 y

/-- The reference's row of a head, before the norm. -/
theorem row_at (x0 : Vec Ideal S8192x2048 .bf16) (x1 : Vec Ideal S2048x6144 .f32) (i : Cert.ProjQRefIdeal.S8192x16x128.Idx) (j : Fin 6144)
    (hj : (j : ℕ) = (i 1 : ℕ) * 128 + (i 2 : ℕ)) :
    val_main_v4 (F := Ideal) x0 x1 i = ∑ e : Fin 2048, (x0 (ix2 (i 0) e) : EReal) * x1 (ix2 e j) := by
  have b0 : (i 0 : ℕ) < 8192 := (i 0).isLt
  have b1 : (i 1 : ℕ) < 16 := (i 1).isLt
  have b2 : (i 2 : ℕ) < 128 := (i 2).isLt
  rw [val_main_v4_apply, val_main_v3_apply, val_main_v2_apply, val_main_v1_apply]
  refine Finset.sum_congr rfl fun e _ => congrArg₂ (fun x y : EReal => x * y) (congrArg x0 ?_) (congrArg x1 ?_)
  · refine funext fun a => Fin.ext ?_
    fin_cases a
    · dsimp; omega
    · rfl
  · refine funext fun a => Fin.ext ?_
    fin_cases a
    · rfl
    · dsimp; omega

/-- The column of the weights that lane `j` of a row of sixteen heads reads. -/
def col (j : ℕ) (h : j < 2048) : Fin 6144 := ⟨j, by omega⟩

/-- A lane of a row's product with the weights. -/
def full (x0 : Vec Ideal S8192x2048 .bf16) (x1 : Vec Ideal S2048x6144 .f32) (r : Fin 8192) (j : Fin 2048) : EReal :=
  ∑ e : Fin 2048, (x0 (ix2 r e) : EReal) * x1 (ix2 e (col j j.isLt))

/-- The reference's entry: a lane of the row's product, normed over its head. -/
theorem ref_at (x0 : Vec Ideal S8192x2048 .bf16) (x1 : Vec Ideal S2048x6144 .f32) (x2 : Vec Ideal S128 .f32) (r : Fin 8192)
    (j : Fin 2048) (P : Fin 2048 → EReal) (hP : ∀ j : Fin 2048, P j = full x0 x1 r j) :
    val_main_v18 (F := Ideal) x0 x1 x2 (ix2 r j)
      = scaled (P j) (fun k => P ⟨(j : ℕ) / 128 * 128 + (k : ℕ), by omega⟩) (x2 (ix1 ⟨(j : ℕ) % 128, Nat.mod_lt _ (by decide)⟩)) := by
  have row : ∀ (q : Cert.ProjQRefIdeal.S8192x16x128.Idx) (j : Fin 2048), (q 0 : ℕ) = (r : ℕ) → (j : ℕ) = (q 1 : ℕ) * 128 + (q 2 : ℕ) →
      val_main_v4 (F := Ideal) x0 x1 q = P j := fun q j h0 hj => by
    rw [row_at x0 x1 q (col j j.isLt) hj, hP, show q 0 = r from Fin.ext h0]
    rfl
  have sq : ∀ k : Fin 128, val_main_v5 (F := Ideal) x0 x1 (idx_main_v6 (idx_main_v7 (idx_main_v13 (idx_main_v18 (ix2 r j)))) k)
      = P ⟨(j : ℕ) / 128 * 128 + (k : ℕ), by omega⟩ * P ⟨(j : ℕ) / 128 * 128 + (k : ℕ), by omega⟩ := fun k => by
    rw [val_main_v5_apply, row _ ⟨(j : ℕ) / 128 * 128 + (k : ℕ), by omega⟩ (by dsimp; omega) (by dsimp; omega)]
    rfl
  rw [val_main_v18_apply, val_main_v17_apply, val_main_v14_apply, val_main_v13_apply, val_main_v12_apply, val_main_v11_apply,
    val_main_v9_apply, val_main_v7_apply, val_main_v6_apply, val_main_v8_apply, val_main_cst_0_apply, val_main_v10_apply,
    val_main_cst_1_apply, val_main_v16_apply, val_main_v15_apply, val_main_cst_apply, Finset.sum_congr rfl fun k _ => sq k,
    row (idx_main_v18 (ix2 r j)) j (by dsimp; omega) (by dsimp; omega)]
  have e : idx_main_v15 (idx_main_v16 (idx_main_v18 (ix2 r j))) = ix1 ⟨(j : ℕ) % 128, Nat.mod_lt _ (by decide)⟩ := by
    refine funext fun a => Fin.ext ?_
    fin_cases a
    dsimp; omega
  rw [e]
  rw [show FloatOps.ofBits (F := Ideal) .f32 0#32 = (0 : EReal) from Ideal.ofBits_zero_f32, zero_add]
  rfl

/-- The staged gain repeats the head's gain four times. -/
theorem gain_at (c : Dev nD) (t : Fin cfg0.N) (j : Fin 512) :
    iblk m c 2 t (ix2 0 j) = m ((c : Thread nD τ).loc main_arg2) (ix1 ⟨(j : ℕ) % 128, Nat.mod_lt _ (by decide)⟩) := by
  blk_point [iblk, V, idx t]

/-- What a grid point stores is the reference's entry. -/
theorem entry_ref (c : Dev nD) (t : Fin cfg0.N) (y : S1024x512.Idx) (i : S8192x2048.Idx)
    (h0 : (i 0 : ℕ) = t.val % 8 * 1024 + (y 0 : ℕ)) (h1 : (i 1 : ℕ) = t.val / 8 * 512 + (y 1 : ℕ)) :
    entry (prod (iblk m c 0 t) (iblk m c 1 t) (y 0)) (iblk m c 2 t) (y 1)
      = val_main_v18 (F := Ideal) (m ((c : Thread nD τ).loc main_arg0)) (m ((c : Thread nD τ).loc main_arg1))
          (m ((c : Thread nD τ).loc main_arg2)) i := by
  obtain ⟨r, j, rfl⟩ : ∃ (r : Fin 8192) (j : Fin 2048), i = ix2 r j := ⟨i 0, i 1, (ix2_eta i).symm⟩
  obtain ⟨a, b, rfl⟩ : ∃ (a : Fin 1024) (b : Fin 512), y = ix2 a b := ⟨y 0, y 1, (ix2_eta y).symm⟩
  dsimp only [ix2_0, ix2_1] at h0 h1 ⊢
  have bb : (b : ℕ) < 512 := b.isLt
  have jj : (j : ℕ) < 2048 := j.isLt
  have at_col : ∀ (b' : Fin 512) (j' : Fin 2048), (j' : ℕ) = t.val / 8 * 512 + (b' : ℕ) →
      prod (iblk m c 0 t) (iblk m c 1 t) a b'
        = full (m ((c : Thread nD τ).loc main_arg0)) (m ((c : Thread nD τ).loc main_arg1)) r j' := fun b' j' hj => by
    unfold prod full col
    refine Finset.sum_congr rfl fun e _ => congrArg₂ (fun x y : EReal => x * y) ?_ ?_
    · blk_point [iblk, V, idx t]
    · blk_point [iblk, V, idx t]
  rw [ref_at _ _ _ r j _ (fun _ => rfl)]
  unfold entry
  rw [at_col b j h1, gain_at,
    funext fun k : Fin 128 => at_col ⟨(b : ℕ) / 128 * 128 + (k : ℕ), by omega⟩ ⟨(j : ℕ) / 128 * 128 + (k : ℕ), by omega⟩
      (by show (j : ℕ) / 128 * 128 + (k : ℕ) = t.val / 8 * 512 + ((b : ℕ) / 128 * 128 + (k : ℕ)); omega)]
  exact congrArg _ (congrArg _ (congrArg ix1 (Fin.ext (by dsimp; omega))))

/-- The output array is the reference's result. -/
theorem final (c : Dev nD) : (dats m 0 c).arrAt 3 cfg0.N
    = val_main_v19 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, point]
  refine entry_ref m c t y _ ?_ ?_
  · blk_simp [idx t]
  · blk_simp [idx t]

/-- The kernel and the reference leave the same array. -/
theorem algebraic : Cert.algebraic_ProjQIdeal_ProjQRefIdeal := fun m ρ m' ρ' _ hag =>
  ⟨_, Value.run_blocks m ρ, (θ_run Cert.ProjQRefIdeal.defs _ _).mono
    (fun _ h c => ⟨(h c).1.trans (by
      rw [(hag c).1, (hag c).2.1, (hag c).2.2, final, val_main_v19_eq]), (h c).2⟩)
    (Cert.ProjQRefIdeal.Value.run (F := Ideal) m' ρ')⟩

end Cert.ProjQIdeal.Hand
-- ==== Proof.ProjKValue.lean ====
module
public import proofs.«01_k».proof.Defs
public import proofs.«01_k».proof.Proof.Gen.ProjKIdeal.Value
public import proofs.«01_k».proof.Proof.Gen.ProjKRefIdeal.Run
public import proofs.«01_k».proof.Proof.Gen.ProjKRefIdeal.Read
public import proofs.«01_k».proof.Proof.ProjQValue
public import Idealize.ShloMosaic.Lib.Pipeline.ValueKit

/-! The key projection of a stick-breaking layer: the middle third of the columns of `h @ w`, each head of 128 lanes
    divided by its root mean square and scaled, at full width and at half width.  The blocks are those of the query
    projection, whose lemmas on heads are used. -/

@[expose] public section

set_option maxRecDepth 16384

noncomputable section

namespace Cert.ProjKIdeal.Hand

open Cert.ProjKIdeal Cert.ProjKIdeal.Gen Idealize.ShloMosaic Idealize.ShloMosaic.TcCoe Idealize.SL.Sem
open Idealize.ShloMosaic.Pipeline (Dat)
open Cert.ProjKRefIdeal.Read
open Cert.ProjQIdeal.Hand (prod scaled entry tile)

variable (m : (ℓ : Loc nD τ sig) → Buf (Elt Ideal) ℓ)

/-- Point `t` works on row block `t % 8` and column block `t / 8`. -/
theorem idx : ∀ t : Fin cfg0.N, win0_0.index t = ![t.val % 8, 0] ∧ win0_1.index t = ![0, t.val / 8 + 4]
    ∧ win0_2.index t = ![0, 0] ∧ win0_3.index t = ![t.val % 8, t.val / 8]
    ∧ win0_4.index t = ![t.val % 8, t.val / 8] :=
  (by decide +kernel : ∀ t : Fin grid0.N, _)

/-- A column block of the weights stays staged for the eight row blocks it serves. -/
theorem weights_stay (c : Dev nD) (n : ℕ) (h : n + 1 < cfg0.N) (h0 : ¬(n + 1) % 8 = 0) (y : S2048x512.Idx) :
    iblk m c 1 ⟨n, Nat.lt_of_succ_lt h⟩ y = iblk m c 1 ⟨n + 1, h⟩ y := by
  have e : n / 8 = (n + 1) / 8 := by omega
  have i1 := (idx ⟨n, Nat.lt_of_succ_lt h⟩).2.1
  have i2 := (idx ⟨n + 1, h⟩).2.1
  dsimp only at i1 i2
  blk_ext [iblk, V, i1, i2, e]

/-- The scratch buffer holds the current column block of the weights. -/
theorem scratch_eq (c : Dev nD) (n : ℕ) (h : n < cfg0.N) (y : S2048x512.Idx) :
    (outsAt0 m c n h).2.2 y = iblk m c 1 ⟨n, h⟩ y := by
  induction n with
  | zero =>
    have e := outsAt0_A m c ⟨0, h⟩ (by rfl)
    dsimp only at e
    rw [e]; dsimp only
    frame_out
    pointwise [k0_pay3]
  | succ n ih =>
    by_cases h0 : (n + 1) % 8 = 0
    · have e := outsAt0_A m c ⟨n + 1, h⟩ h0
      dsimp only at e
      rw [e]; dsimp only
      frame_out
      pointwise [k0_pay3]
    · have e := outsAt0_B m c ⟨n + 1, h⟩ h0
      dsimp only at e
      rw [e]; dsimp only
      exact (ih (Nat.lt_of_succ_lt h)).trans (weights_stay m c n h h0 y)

/-- The cast of the weights changes nothing over the reals. -/
theorem pay3_eq (W : Vec Ideal S2048x512 .bf16) : k0_pay3 (F := Ideal) W = W := funext fun j => by
  pointwise [k0_pay3]

/-- Within a sweep the scratch buffer holds the point's weight block already. -/
theorem kept (c : Dev nD) (t : Fin cfg0.N) (h0 : ¬t.val % 8 = 0) :
    (outsAt0 m c (t.val - 1) (Nat.lt_of_le_of_lt (Nat.sub_le _ _) t.isLt)).2.2 = iblk m c 1 t := by
  obtain ⟨n, h⟩ := t
  cases n with
  | zero => exact absurd rfl h0
  | succ n => exact funext fun j => (scratch_eq m c n (Nat.lt_of_succ_lt h) j).trans (weights_stay m c n h h0 j)

/-- Where a sweep starts, the point casts its weight block and multiplies with it. -/
theorem body_A (c : Dev nD) (t : Fin cfg0.N) (h0 : t.val % 8 = 0) (y : S1024x512.Idx) :
    (outsAt0 m c t.val t.isLt).1 y = entry (prod (iblk m c 0 t) (iblk m c 1 t) (y 0)) (iblk m c 2 t) (y 1) := by
  rw [outsAt0_A m c t h0]; dsimp only
  frame_out
  rw [pay3_eq]
  canon_tiles y h
  · exact tile _ _ _ 768 _ _ _ (by omega) (by omega)
  · exact tile _ _ _ 512 _ _ _ (by omega) (by omega)
  · exact tile _ _ _ 256 _ _ _ (by omega) (by omega)
  · exact tile _ _ _ 0 _ _ _ (by omega) (by omega)

/-- The same at half width. -/
theorem half_A (c : Dev nD) (t : Fin cfg0.N) (h0 : t.val % 8 = 0) (y : S1024x512.Idx) :
    (outsAt0 m c t.val t.isLt).2.1 y = entry (prod (iblk m c 0 t) (iblk m c 1 t) (y 0)) (iblk m c 2 t) (y 1) := by
  rw [outsAt0_A m c t h0]; dsimp only
  frame_out
  rw [pay3_eq]
  canon_tiles y h
  · exact tile _ _ _ 768 _ _ _ (by omega) (by omega)
  · exact tile _ _ _ 512 _ _ _ (by omega) (by omega)
  · exact tile _ _ _ 256 _ _ _ (by omega) (by omega)
  · exact tile _ _ _ 0 _ _ _ (by omega) (by omega)

/-- Elsewhere in a sweep, the point multiplies with the kept weights. -/
theorem body_B (c : Dev nD) (t : Fin cfg0.N) (h0 : ¬t.val % 8 = 0) (y : S1024x512.Idx) :
    (outsAt0 m c t.val t.isLt).1 y = entry (prod (iblk m c 0 t) (iblk m c 1 t) (y 0)) (iblk m c 2 t) (y 1) := by
  rw [outsAt0_B m c t h0]; dsimp only
  frame_out
  rw [(Memref.isWhole_whole _).read_unread, kept m c t h0]
  canon_tiles y h
  · exact tile _ _ _ 768 _ _ _ (by omega) (by omega)
  · exact tile _ _ _ 512 _ _ _ (by omega) (by omega)
  · exact tile _ _ _ 256 _ _ _ (by omega) (by omega)
  · exact tile _ _ _ 0 _ _ _ (by omega) (by omega)

/-- The same at half width. -/
theorem half_B (c : Dev nD) (t : Fin cfg0.N) (h0 : ¬t.val % 8 = 0) (y : S1024x512.Idx) :
    (outsAt0 m c t.val t.isLt).2.1 y = entry (prod (iblk m c 0 t) (iblk m c 1 t) (y 0)) (iblk m c 2 t) (y 1) := by
  rw [outsAt0_B m c t h0]; dsimp only
  frame_out
  rw [(Memref.isWhole_whole _).read_unread, kept m c t h0]
  canon_tiles y h
  · exact tile _ _ _ 768 _ _ _ (by omega) (by omega)
  · exact tile _ _ _ 512 _ _ _ (by omega) (by omega)
  · exact tile _ _ _ 256 _ _ _ (by omega) (by omega)
  · exact tile _ _ _ 0 _ _ _ (by omega) (by omega)

/-- Every point stores its row block times its weight block, each head normed. -/
theorem point (c : Dev nD) (t : Fin cfg0.N) (y : S1024x512.Idx) :
    (outsAt0 m c t.val t.isLt).1 y = entry (prod (iblk m c 0 t) (iblk m c 1 t) (y 0)) (iblk m c 2 t) (y 1) :=
  if h0 : t.val % 8 = 0 then body_A m c t h0 y else body_B m c t h0 y

/-- The same at half width. -/
theorem half (c : Dev nD) (t : Fin cfg0.N) (y : S1024x512.Idx) :
    (outsAt0 m c t.val t.isLt).2.1 y = entry (prod (iblk m c 0 t) (iblk m c 1 t) (y 0)) (iblk m c 2 t) (y 1) :=
  if h0 : t.val % 8 = 0 then half_A m c t h0 y else half_B m c t h0 y

/-- The reference's row of a head, before the norm. -/
theorem row_at (x0 : Vec Ideal S8192x2048 .bf16) (x1 : Vec Ideal S2048x6144 .f32) (i : Cert.ProjKRefIdeal.S8192x16x128.Idx) (j : Fin 6144)
    (hj : (j : ℕ) = 2048 + ((i 1 : ℕ) * 128 + (i 2 : ℕ))) :
    val_main_v4 (F := Ideal) x0 x1 i = ∑ e : Fin 2048, (x0 (ix2 (i 0) e) : EReal) * x1 (ix2 e j) := by
  have b0 : (i 0 : ℕ) < 8192 := (i 0).isLt
  have b1 : (i 1 : ℕ) < 16 := (i 1).isLt
  have b2 : (i 2 : ℕ) < 128 := (i 2).isLt
  rw [val_main_v4_apply, val_main_v3_apply, val_main_v2_apply, val_main_v1_apply]
  refine Finset.sum_congr rfl fun e _ => congrArg₂ (fun x y : EReal => x * y) (congrArg x0 ?_) (congrArg x1 ?_)
  · refine funext fun a => Fin.ext ?_
    fin_cases a
    · dsimp; omega
    · rfl
  · refine funext fun a => Fin.ext ?_
    fin_cases a
    · rfl
    · dsimp; omega

/-- The column of the weights that lane `j` of a row of sixteen heads reads. -/
def col (j : ℕ) (h : j < 2048) : Fin 6144 := ⟨2048 + j, by omega⟩

/-- A lane of a row's product with the weights. -/
def full (x0 : Vec Ideal S8192x2048 .bf16) (x1 : Vec Ideal S2048x6144 .f32) (r : Fin 8192) (j : Fin 2048) : EReal :=
  ∑ e : Fin 2048, (x0 (ix2 r e) : EReal) * x1 (ix2 e (col j j.isLt))

/-- The reference's entry: a lane of the row's product, normed over its head. -/
theorem ref_at (x0 : Vec Ideal S8192x2048 .bf16) (x1 : Vec Ideal S2048x6144 .f32) (x2 : Vec Ideal S128 .f32) (r : Fin 8192)
    (j : Fin 2048) (P : Fin 2048 → EReal) (hP : ∀ j : Fin 2048, P j = full x0 x1 r j) :
    val_main_v18 (F := Ideal) x0 x1 x2 (ix2 r j)
      = scaled (P j) (fun k => P ⟨(j : ℕ) / 128 * 128 + (k : ℕ), by omega⟩) (x2 (ix1 ⟨(j : ℕ) % 128, Nat.mod_lt _ (by decide)⟩)) := by
  have row : ∀ (q : Cert.ProjKRefIdeal.S8192x16x128.Idx) (j : Fin 2048), (q 0 : ℕ) = (r : ℕ) → (j : ℕ) = (q 1 : ℕ) * 128 + (q 2 : ℕ) →
      val_main_v4 (F := Ideal) x0 x1 q = P j := fun q j h0 hj => by
    rw [row_at x0 x1 q (col j j.isLt) (congrArg (2048 + ·) hj), hP, show q 0 = r from Fin.ext h0]
    rfl
  have sq : ∀ k : Fin 128, val_main_v5 (F := Ideal) x0 x1 (idx_main_v6 (idx_main_v7 (idx_main_v13 (idx_main_v18 (ix2 r j)))) k)
      = P ⟨(j : ℕ) / 128 * 128 + (k : ℕ), by omega⟩ * P ⟨(j : ℕ) / 128 * 128 + (k : ℕ), by omega⟩ := fun k => by
    rw [val_main_v5_apply, row _ ⟨(j : ℕ) / 128 * 128 + (k : ℕ), by omega⟩ (by dsimp; omega) (by dsimp; omega)]
    rfl
  rw [val_main_v18_apply, val_main_v17_apply, val_main_v14_apply, val_main_v13_apply, val_main_v12_apply, val_main_v11_apply,
    val_main_v9_apply, val_main_v7_apply, val_main_v6_apply, val_main_v8_apply, val_main_cst_0_apply, val_main_v10_apply,
    val_main_cst_1_apply, val_main_v16_apply, val_main_v15_apply, val_main_cst_apply, Finset.sum_congr rfl fun k _ => sq k,
    row (idx_main_v18 (ix2 r j)) j (by dsimp; omega) (by dsimp; omega)]
  have e : idx_main_v15 (idx_main_v16 (idx_main_v18 (ix2 r j))) = ix1 ⟨(j : ℕ) % 128, Nat.mod_lt _ (by decide)⟩ := by
    refine funext fun a => Fin.ext ?_
    fin_cases a
    dsimp; omega
  rw [e]
  rw [show FloatOps.ofBits (F := Ideal) .f32 0#32 = (0 : EReal) from Ideal.ofBits_zero_f32, zero_add]
  rfl

/-- The staged gain repeats the head's gain four times. -/
theorem gain_at (c : Dev nD) (t : Fin cfg0.N) (j : Fin 512) :
    iblk m c 2 t (ix2 0 j) = m ((c : Thread nD τ).loc main_arg2) (ix1 ⟨(j : ℕ) % 128, Nat.mod_lt _ (by decide)⟩) := by
  blk_point [iblk, V, idx t]

/-- What a grid point stores is the reference's entry. -/
theorem entry_ref (c : Dev nD) (t : Fin cfg0.N) (y : S1024x512.Idx) (i : S8192x2048.Idx)
    (h0 : (i 0 : ℕ) = t.val % 8 * 1024 + (y 0 : ℕ)) (h1 : (i 1 : ℕ) = t.val / 8 * 512 + (y 1 : ℕ)) :
    entry (prod (iblk m c 0 t) (iblk m c 1 t) (y 0)) (iblk m c 2 t) (y 1)
      = val_main_v18 (F := Ideal) (m ((c : Thread nD τ).loc main_arg0)) (m ((c : Thread nD τ).loc main_arg1))
          (m ((c : Thread nD τ).loc main_arg2)) i := by
  obtain ⟨r, j, rfl⟩ : ∃ (r : Fin 8192) (j : Fin 2048), i = ix2 r j := ⟨i 0, i 1, (ix2_eta i).symm⟩
  obtain ⟨a, b, rfl⟩ : ∃ (a : Fin 1024) (b : Fin 512), y = ix2 a b := ⟨y 0, y 1, (ix2_eta y).symm⟩
  dsimp only [ix2_0, ix2_1] at h0 h1 ⊢
  have bb : (b : ℕ) < 512 := b.isLt
  have jj : (j : ℕ) < 2048 := j.isLt
  have at_col : ∀ (b' : Fin 512) (j' : Fin 2048), (j' : ℕ) = t.val / 8 * 512 + (b' : ℕ) →
      prod (iblk m c 0 t) (iblk m c 1 t) a b'
        = full (m ((c : Thread nD τ).loc main_arg0)) (m ((c : Thread nD τ).loc main_arg1)) r j' := fun b' j' hj => by
    unfold prod full col
    refine Finset.sum_congr rfl fun e _ => congrArg₂ (fun x y : EReal => x * y) ?_ ?_
    · blk_point [iblk, V, idx t]
    · blk_point [iblk, V, idx t]
  rw [ref_at _ _ _ r j _ (fun _ => rfl)]
  unfold entry
  rw [at_col b j h1, gain_at,
    funext fun k : Fin 128 => at_col ⟨(b : ℕ) / 128 * 128 + (k : ℕ), by omega⟩ ⟨(j : ℕ) / 128 * 128 + (k : ℕ), by omega⟩
      (by show (j : ℕ) / 128 * 128 + (k : ℕ) = t.val / 8 * 512 + ((b : ℕ) / 128 * 128 + (k : ℕ)); omega)]
  exact congrArg _ (congrArg _ (congrArg ix1 (Fin.ext (by dsimp; omega))))

/-- The full-width output array is the reference's first result. -/
theorem final (c : Dev nD) : (dats m 0 c).arrAt 3 cfg0.N
    = val_main_v18 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, point]
  refine entry_ref m c t y _ ?_ ?_
  · blk_simp [idx t]
  · blk_simp [idx t]

/-- The half-width output array is its second. -/
theorem final_half (c : Dev nD) : (dats m 0 c).arrAt 4 cfg0.N
    = val_main_v19 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4, half]
  refine entry_ref m c t y _ ?_ ?_
  · blk_simp [idx t]
  · blk_simp [idx t]

/-- The kernel and the reference leave the same two arrays. -/
theorem algebraic : Cert.algebraic_ProjKIdeal_ProjKRefIdeal := fun m ρ m' ρ' _ hag =>
  ⟨_, _, Value.run_blocks m ρ, (θ_run Cert.ProjKRefIdeal.defs _ _).mono
    (fun _ h c => ⟨(h c).1.trans (by rw [(hag c).1, (hag c).2.1, (hag c).2.2, final, val_main_v18_eq]),
      (h c).2.1.trans (by rw [(hag c).1, (hag c).2.1, (hag c).2.2, final_half, val_main_v19_eq]), (h c).2.2⟩)
    (Cert.ProjKRefIdeal.Value.run (F := Ideal) m' ρ')⟩

end Cert.ProjKIdeal.Hand
-- ==== Proof.DsaVValue.lean ====
module
public import proofs.«01_k».proof.Defs
public import proofs.«01_k».proof.Proof.Gen.DsaVIdeal.Value
public import proofs.«01_k».proof.Proof.Gen.DsaVRefIdeal.Run
public import proofs.«01_k».proof.Proof.Gen.DsaVRefIdeal.Read
public import proofs.«01_k».proof.Proof.ProjVValue
public import Idealize.ShloMosaic.Lib.Pipeline.ValueKit

/-! The value projection of the sparse layer: columns 4096 to 6143 of `h @ w`, at full width and at half width.  The blocks
    are those of a stick-breaking layer's value projection, whose lemmas on a block's product are used; the weights are wider
    and the reference keeps the two batches apart. -/

@[expose] public section

set_option maxRecDepth 16384

noncomputable section

namespace Cert.DsaVIdeal.Hand

open Cert.DsaVIdeal Cert.DsaVIdeal.Gen Idealize.ShloMosaic Idealize.ShloMosaic.TcCoe Idealize.SL.Sem
open Idealize.ShloMosaic.Pipeline (Dat)
open Cert.DsaVRefIdeal.Read
open Cert.ProjVIdeal.Hand (prod dot_ld tile0 tile1 tile2 tile3 half0 half1 half2 half3)

variable (m : (ℓ : Loc nD τ sig) → Buf (Elt Ideal) ℓ)

/-- Point `t` works on row block `t % 8` and column block `t / 8`. -/
theorem idx : ∀ t : Fin cfg0.N, win0_0.index t = ![t.val % 8, 0] ∧ win0_1.index t = ![0, t.val / 8 + 8]
    ∧ win0_2.index t = ![t.val % 8, t.val / 8] ∧ win0_3.index t = ![t.val % 8, t.val / 8] :=
  (by decide +kernel : ∀ t : Fin grid0.N, _)

/-- The staged weights: 2048 rows of 512 columns, none of them beyond the array's end. -/
theorem weights_at (c : Dev nD) (t : Fin cfg0.N) (y : S2048x512.Idx) (j : Fin 7248)
    (hj : (j : ℕ) = (t.val / 8 + 8) * 512 + (y 1 : ℕ)) :
    X0_1 m c t y = m ((c : Thread nD τ).loc main_arg1) (ix2 (y 0) j) := by
  unfold X0_1 Pipeline.Window.fill
  rw [dif_pos (moved0_1 t y)]
  blk_point [iblk, V, idx t]

/-- A column block of the weights stays staged for the eight row blocks it serves. -/
theorem weights_stay (c : Dev nD) (n : ℕ) (h : n + 1 < cfg0.N) (h0 : ¬(n + 1) % 8 = 0) (y : S2048x512.Idx) :
    X0_1 m c ⟨n, Nat.lt_of_succ_lt h⟩ y = X0_1 m c ⟨n + 1, h⟩ y := by
  have hn : n + 1 < 32 := h
  have b1 : (y 1 : ℕ) < 512 := (y 1).isLt
  rw [weights_at m c ⟨n, _⟩ y ⟨(n / 8 + 8) * 512 + (y 1 : ℕ), by omega⟩ rfl,
    weights_at m c ⟨n + 1, _⟩ y ⟨(n / 8 + 8) * 512 + (y 1 : ℕ), by omega⟩ (by dsimp; omega)]

/-- The scratch buffer holds the current column block of the weights. -/
theorem scratch_eq (c : Dev nD) (n : ℕ) (h : n < cfg0.N) (y : S2048x512.Idx) :
    (outsAt0 m c n h).2.2 y = X0_1 m c ⟨n, h⟩ y := by
  induction n with
  | zero =>
    have e := outsAt0_A m c ⟨0, h⟩ (by rfl)
    dsimp only at e
    rw [e]; dsimp only
    frame_out
    pointwise [k0_pay5]
  | succ n ih =>
    by_cases h0 : (n + 1) % 8 = 0
    · have e := outsAt0_A m c ⟨n + 1, h⟩ h0
      dsimp only at e
      rw [e]; dsimp only
      frame_out
      pointwise [k0_pay5]
    · have e := outsAt0_B m c ⟨n + 1, h⟩ h0
      dsimp only at e
      rw [e]; dsimp only
      exact (ih (Nat.lt_of_succ_lt h)).trans (weights_stay m c n h h0 y)

/-- Within a sweep the scratch buffer holds the point's weight block already. -/
theorem kept (c : Dev nD) (t : Fin cfg0.N) (h0 : ¬t.val % 8 = 0) :
    (outsAt0 m c (t.val - 1) (Nat.lt_of_le_of_lt (Nat.sub_le _ _) t.isLt)).2.2 = X0_1 m c t := by
  obtain ⟨n, h⟩ := t
  cases n with
  | zero => exact absurd rfl h0
  | succ n => exact funext fun j => (scratch_eq m c n (Nat.lt_of_succ_lt h) j).trans (weights_stay m c n h h0 j)

/-- The cast of the weights changes nothing over the reals. -/
theorem pay5_eq (W : Vec Ideal S2048x512 .bf16) : k0_pay5 (F := Ideal) W = W := Cert.ProjVIdeal.Hand.pay5_eq W

/-- Where a sweep starts, the point casts its weight block and multiplies with it. -/
theorem body_A (c : Dev nD) (t : Fin cfg0.N) (h0 : t.val % 8 = 0) (y : S1024x512.Idx) :
    (outsAt0 m c t.val t.isLt).1 y = prod (iblk m c 0 t) (X0_1 m c t) (y 0) (y 1) := by
  rw [outsAt0_A m c t h0]; dsimp only
  frame_out
  rw [pay5_eq]
  canon_tiles y h
  · exact (tile3 _ _ _).trans (dot_ld _ _ 768 _ _ _ (by omega) (by omega))
  · exact (tile2 _ _ _).trans (dot_ld _ _ 512 _ _ _ (by omega) (by omega))
  · exact (tile1 _ _ _).trans (dot_ld _ _ 256 _ _ _ (by omega) (by omega))
  · exact (tile0 _ _ _).trans (dot_ld _ _ 0 _ _ _ (by omega) (by omega))

/-- The same at half width. -/
theorem half_A (c : Dev nD) (t : Fin cfg0.N) (h0 : t.val % 8 = 0) (y : S1024x512.Idx) :
    (outsAt0 m c t.val t.isLt).2.1 y = prod (iblk m c 0 t) (X0_1 m c t) (y 0) (y 1) := by
  rw [outsAt0_A m c t h0]; dsimp only
  frame_out
  rw [pay5_eq]
  canon_tiles y h
  · exact (half3 _ _ _).trans (dot_ld _ _ 768 _ _ _ (by omega) (by omega))
  · exact (half2 _ _ _).trans (dot_ld _ _ 512 _ _ _ (by omega) (by omega))
  · exact (half1 _ _ _).trans (dot_ld _ _ 256 _ _ _ (by omega) (by omega))
  · exact (half0 _ _ _).trans (dot_ld _ _ 0 _ _ _ (by omega) (by omega))

/-- Elsewhere in a sweep, the point multiplies with the kept weights. -/
theorem body_B (c : Dev nD) (t : Fin cfg0.N) (h0 : ¬t.val % 8 = 0) (y : S1024x512.Idx) :
    (outsAt0 m c t.val t.isLt).1 y = prod (iblk m c 0 t) (X0_1 m c t) (y 0) (y 1) := by
  rw [outsAt0_B m c t h0]; dsimp only
  frame_out
  rw [(Memref.isWhole_whole _).read_unread, kept m c t h0]
  canon_tiles y h
  · exact (tile3 _ _ _).trans (dot_ld _ _ 768 _ _ _ (by omega) (by omega))
  · exact (tile2 _ _ _).trans (dot_ld _ _ 512 _ _ _ (by omega) (by omega))
  · exact (tile1 _ _ _).trans (dot_ld _ _ 256 _ _ _ (by omega) (by omega))
  · exact (tile0 _ _ _).trans (dot_ld _ _ 0 _ _ _ (by omega) (by omega))

/-- The same at half width. -/
theorem half_B (c : Dev nD) (t : Fin cfg0.N) (h0 : ¬t.val % 8 = 0) (y : S1024x512.Idx) :
    (outsAt0 m c t.val t.isLt).2.1 y = prod (iblk m c 0 t) (X0_1 m c t) (y 0) (y 1) := by
  rw [outsAt0_B m c t h0]; dsimp only
  frame_out
  rw [(Memref.isWhole_whole _).read_unread, kept m c t h0]
  canon_tiles y h
  · exact (half3 _ _ _).trans (dot_ld _ _ 768 _ _ _ (by omega) (by omega))
  · exact (half2 _ _ _).trans (dot_ld _ _ 512 _ _ _ (by omega) (by omega))
  · exact (half1 _ _ _).trans (dot_ld _ _ 256 _ _ _ (by omega) (by omega))
  · exact (half0 _ _ _).trans (dot_ld _ _ 0 _ _ _ (by omega) (by omega))

/-- Every point stores its row block times its weight block, at full width. -/
theorem point (c : Dev nD) (t : Fin cfg0.N) (y : S1024x512.Idx) :
    (outsAt0 m c t.val t.isLt).1 y = prod (iblk m c 0 t) (X0_1 m c t) (y 0) (y 1) :=
  if h0 : t.val % 8 = 0 then body_A m c t h0 y else body_B m c t h0 y

/-- The same at half width. -/
theorem half (c : Dev nD) (t : Fin cfg0.N) (y : S1024x512.Idx) :
    (outsAt0 m c t.val t.isLt).2.1 y = prod (iblk m c 0 t) (X0_1 m c t) (y 0) (y 1) :=
  if h0 : t.val % 8 = 0 then half_A m c t h0 y else half_B m c t h0 y

/-- The reference's entry: the row times the column 4096 further right. -/
theorem ref_at (x0 : Vec Ideal S8192x2048 .bf16) (x1 : Vec Ideal S2048x7248 .f32) (i : S8192x2048.Idx) (j : Fin 7248)
    (hj : (j : ℕ) = 4096 + (i 1 : ℕ)) :
    val_main_v6 (F := Ideal) x0 x1 i = ∑ e : Fin 2048, (x0 (ix2 (i 0) e) : EReal) * x1 (ix2 e j) := by
  have b0 : (i 0 : ℕ) < 8192 := (i 0).isLt
  have b1 : (i 1 : ℕ) < 2048 := (i 1).isLt
  rw [val_main_v6_apply, val_main_v5_apply, val_main_v4_apply, val_main_v3_apply, val_main_v2_apply, val_main_v1_apply]
  refine Finset.sum_congr rfl fun e _ => congrArg₂ (fun x y : EReal => x * y) (congrArg x0 ?_) (congrArg x1 ?_)
  · refine funext fun a => Fin.ext ?_
    fin_cases a
    · dsimp; omega
    · rfl
  · refine funext fun a => Fin.ext ?_
    fin_cases a
    · rfl
    · dsimp; omega

/-- An entry of a grid point's product is the reference's entry. -/
theorem prod_ref (c : Dev nD) (t : Fin cfg0.N) (y : S1024x512.Idx) (i : S8192x2048.Idx)
    (h0 : (i 0 : ℕ) = t.val % 8 * 1024 + (y 0 : ℕ)) (h1 : (i 1 : ℕ) = t.val / 8 * 512 + (y 1 : ℕ)) :
    prod (iblk m c 0 t) (X0_1 m c t) (y 0) (y 1)
      = val_main_v6 (F := Ideal) (m ((c : Thread nD τ).loc main_arg0)) (m ((c : Thread nD τ).loc main_arg1)) i := by
  have b1 : (i 1 : ℕ) < 2048 := (i 1).isLt
  rw [ref_at _ _ i ⟨4096 + (i 1 : ℕ), by omega⟩ rfl]
  unfold prod
  refine Finset.sum_congr rfl fun e _ => congrArg₂ (fun x y : EReal => x * y) ?_ ?_
  · blk_point [iblk, V, idx t]
  · exact weights_at m c t _ _ (by dsimp; omega)

/-- The full-width output array is the reference's first result. -/
theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2, point]
  refine prod_ref m c t y _ ?_ ?_
  · blk_simp [idx t]
  · blk_simp [idx t]

/-- The half-width output array is its second. -/
theorem final_half (c : Dev nD) : (dats m 0 c).arrAt 3 cfg0.N
    = val_main_v7 (F := Ideal) (m ((c : Thread nD τ).loc main_arg0)) (m ((c : Thread nD τ).loc main_arg1)) := by
  refine (dats m 0 c).arrAt_eq_of_covers 3 _ (by decide +kernel) fun t _ y => ?_
  blk_simp
  rw [after0_3, half]
  refine prod_ref m c t y _ ?_ ?_
  · blk_simp [idx t]
  · blk_simp [idx t]

/-- The kernel and the reference leave the same two arrays. -/
theorem algebraic : Cert.algebraic_DsaVIdeal_DsaVRefIdeal := fun m ρ m' ρ' _ hag =>
  ⟨_, _, Value.run_blocks m ρ, (θ_run Cert.DsaVRefIdeal.defs _ _).mono
    (fun _ h c => ⟨(h c).1.trans (by rw [(hag c).1, (hag c).2, final, val_main_v6_eq]),
      (h c).2.1.trans (by rw [(hag c).1, (hag c).2, final_half, val_main_v7_eq]), (h c).2.2⟩)
    (Cert.DsaVRefIdeal.Value.run (F := Ideal) m' ρ')⟩

end Cert.DsaVIdeal.Hand
-- ==== Proof.DsaQValue.lean ====
module
public import proofs.«01_k».proof.Defs
public import proofs.«01_k».proof.Proof.Gen.DsaQIdeal.Value
public import proofs.«01_k».proof.Proof.Gen.DsaQRefIdeal.Run
public import proofs.«01_k».proof.Proof.Gen.DsaQRefIdeal.Read
public import proofs.«01_k».proof.Proof.ProjQValue
public import Idealize.ShloMosaic.Lib.Pipeline.ValueKit

/-! The query projection of the sparse layer: the first 2048 columns of `h @ w`, each head of 128 lanes normed as in a
    stick-breaking layer and then turned: lanes 0 to 31 are rotated by the angles of the row's position.  The kernel turns a
    head with two cyclic shifts and three tables, the reference with slices; they agree because a table is zero where a shift
    brings in a lane that isn't wanted. -/

@[expose] public section

set_option maxRecDepth 16384

noncomputable section

namespace Cert.DsaQIdeal.Hand

open Cert.DsaQIdeal Cert.DsaQIdeal.Gen Idealize.ShloMosaic Idealize.ShloMosaic.TcCoe Idealize.SL.Sem
open Idealize.ShloMosaic.Pipeline (Dat)
open Cert.DsaQRefIdeal.Read
open Cert.ProjQIdeal.Hand (prod scaled entry head head_lane pay3_at)

variable (m : (ℓ : Loc nD τ sig) → Buf (Elt Ideal) ℓ)

/-- Point `t` works on row block `t % 8` and column block `t / 8`; the tables have four row blocks. -/
theorem idx : ∀ t : Fin cfg0.N, win0_0.index t = ![t.val % 8, 0] ∧ win0_1.index t = ![0, t.val / 8]
    ∧ win0_2.index t = ![0, 0] ∧ win0_3.index t = ![t.val % 8 % 4, 0] ∧ win0_4.index t = ![t.val % 8 % 4, 0]
    ∧ win0_5.index t = ![t.val % 8 % 4, 0] ∧ win0_6.index t = ![t.val % 8, t.val / 8] :=
  (by decide +kernel : ∀ t : Fin grid0.N, _)

/-- The staged weights: 2048 rows of 512 columns, none of them beyond the array's end. -/
theorem weights_at (c : Dev nD) (t : Fin cfg0.N) (y : S2048x512.Idx) (j : Fin 7248)
    (hj : (j : ℕ) = t.val / 8 * 512 + (y 1 : ℕ)) :
    X0_1 m c t y = m ((c : Thread nD τ).loc main_arg1) (ix2 (y 0) j) := by
  unfold X0_1 Pipeline.Window.fill
  rw [dif_pos (moved0_1 t y)]
  blk_point [iblk, V, idx t]

/-- A column block of the weights stays staged for the eight row blocks it serves. -/
theorem weights_stay (c : Dev nD) (n : ℕ) (h : n + 1 < cfg0.N) (h0 : ¬(n + 1) % 8 = 0) (y : S2048x512.Idx) :
    X0_1 m c ⟨n, Nat.lt_of_succ_lt h⟩ y = X0_1 m c ⟨n + 1, h⟩ y := by
  have hn : n + 1 < 32 := h
  have b1 : (y 1 : ℕ) < 512 := (y 1).isLt
  rw [weights_at m c ⟨n, _⟩ y ⟨n / 8 * 512 + (y 1 : ℕ), by omega⟩ rfl,
    weights_at m c ⟨n + 1, _⟩ y ⟨n / 8 * 512 + (y 1 : ℕ), by omega⟩ (by dsimp; omega)]

/-- The scratch buffer holds the current column block of the weights. -/
theorem scratch_eq (c : Dev nD) (n : ℕ) (h : n < cfg0.N) (y : S2048x512.Idx) :
    (outsAt0 m c n h).2 y = X0_1 m c ⟨n, h⟩ y := by
  induction n with
  | zero =>
    have e := outsAt0_A m c ⟨0, h⟩ (by rfl)
    dsimp only at e
    rw [e]; dsimp only
    frame_out
    pointwise [k0_pay1]
  | succ n ih =>
    by_cases h0 : (n + 1) % 8 = 0
    · have e := outsAt0_A m c ⟨n + 1, h⟩ h0
      dsimp only at e
      rw [e]; dsimp only
      frame_out
      pointwise [k0_pay1]
    · have e := outsAt0_B m c ⟨n + 1, h⟩ h0
      dsimp only at e
      rw [e]; dsimp only
      exact (ih (Nat.lt_of_succ_lt h)).trans (weights_stay m c n h h0 y)

/-- Within a sweep the scratch buffer holds the point's weight block already. -/
theorem kept (c : Dev nD) (t : Fin cfg0.N) (h0 : ¬t.val % 8 = 0) :
    (outsAt0 m c (t.val - 1) (Nat.lt_of_le_of_lt (Nat.sub_le _ _) t.isLt)).2 = X0_1 m c t := by
  obtain ⟨n, h⟩ := t
  cases n with
  | zero => exact absurd rfl h0
  | succ n => exact funext fun j => (scratch_eq m c n (Nat.lt_of_succ_lt h) j).trans (weights_stay m c n h h0 j)

/-- The cast of the weights changes nothing over the reals. -/
theorem pay1_eq (W : Vec Ideal S2048x512 .bf16) : k0_pay1 (F := Ideal) W = W := Cert.ProjQIdeal.Hand.pay2_eq W

/-- A head turned: its lanes times the first table, the lanes sixteen to the left times the second, those sixteen to the
    right times the third. -/
def turn (x : FVec Ideal S256x128 .f32) (c s z : Vec Ideal S256x128 .f32) : FVec Ideal S256x128 .f32 :=
  addf (addf (mulf x (shapeCast S256x128 c shapeCasts_S256x128_S256x128))
    (mulf (dynamicRotate 1 16#32 none x rotates_S256x128_d1) (shapeCast S256x128 s shapeCasts_S256x128_S256x128)))
    (mulf (dynamicRotate 1 112#32 none x rotates_S256x128_d1) (shapeCast S256x128 z shapeCasts_S256x128_S256x128))

/-- The four heads of a chunk, normed, turned and joined. -/
def turns (v : FVec Ideal S256x512 .f32) (g0 g1 g2 g3 : FVec Ideal S1x128 .f32) (c s z : Vec Ideal S256x128 .f32) :
    FVec Ideal S256x512 .f32 :=
  concatenate S256x512 1 [⟨S256x128, turn (head (extractStridedSlice S256x128 ![0, 0] v slices_S256x512_o0_0_S256x128) g0) c s z⟩,
    ⟨S256x128, turn (head (extractStridedSlice S256x128 ![0, 128] v slices_S256x512_o0_128_S256x128) g1) c s z⟩,
    ⟨S256x128, turn (head (extractStridedSlice S256x128 ![0, 256] v slices_S256x512_o0_256_S256x128) g2) c s z⟩,
    ⟨S256x128, turn (head (extractStridedSlice S256x128 ![0, 384] v slices_S256x512_o0_384_S256x128) g3) c s z⟩]
    concatenates_S256x128_S256x128_S256x128_S256x128_S256x512_d1

/-- Lane `j` of a row of four heads `N`, turned. -/
def turned (N : Fin 512 → EReal) (c s z : Fin 128 → EReal) (j : Fin 512) : EReal :=
  N j * c ⟨(j : ℕ) % 128, Nat.mod_lt _ (by decide)⟩
    + N ⟨(j : ℕ) / 128 * 128 + ((j : ℕ) % 128 + 112) % 128, by omega⟩ * s ⟨(j : ℕ) % 128, Nat.mod_lt _ (by decide)⟩
    + N ⟨(j : ℕ) / 128 * 128 + ((j : ℕ) % 128 + 16) % 128, by omega⟩ * z ⟨(j : ℕ) % 128, Nat.mod_lt _ (by decide)⟩

/-- An entry of a turned head. -/
theorem turn_at (x : FVec Ideal S256x128 .f32) (c s z : Vec Ideal S256x128 .f32) (r : Fin 256) (l : Fin 128) :
    turn x c s z (ix2 r l) = x (ix2 r l) * c (ix2 r l) + x (ix2 r ⟨((l : ℕ) + 112) % 128, Nat.mod_lt _ (by decide)⟩) * s (ix2 r l)
      + x (ix2 r ⟨((l : ℕ) + 16) % 128, Nat.mod_lt _ (by decide)⟩) * z (ix2 r l) := by
  pointwise [turn]
  simp only [show (l : ℕ) + 128 - 16 = (l : ℕ) + 112 by omega, show (l : ℕ) + 128 - 112 = (l : ℕ) + 16 by omega]

/-- One head of a chunk, normed and turned, at a lane of the chunk. -/
theorem turn_lane (v : FVec Ideal S256x512 .f32) (g : Vec Ideal S1x512 .f32) (c s z : Vec Ideal S256x128 .f32) (o : ℕ)
    (hs : S256x512.Slices ![0, o] S256x128)
    (b : ∀ a, (![0, o] : Fin 2 → ℕ) a + (![1, 128] : Fin 2 → ℕ) a ≤ S1x512.size a) (r : Fin 256) (l : Fin 128) (j : Fin 512)
    (hj : (j : ℕ) = o + (l : ℕ)) (ho : (j : ℕ) / 128 * 128 = o) :
    turn (head (extractStridedSlice S256x128 ![0, o] v hs) (View.ld g (Rect.unit ![0, o] ![1, 128] b))) c s z (ix2 r l)
      = turned (entry (fun j => v (ix2 r j)) g) (fun l => c (ix2 r l)) (fun l => s (ix2 r l)) (fun l => z (ix2 r l)) j := by
  have el : l = ⟨(j : ℕ) % 128, Nat.mod_lt _ (by decide)⟩ := Fin.ext (by show (l : ℕ) = (j : ℕ) % 128; omega)
  rw [turn_at, head_lane v g o hs b r l j hj ho,
    head_lane v g o hs b r ⟨((l : ℕ) + 112) % 128, _⟩ ⟨o + ((l : ℕ) + 112) % 128, by omega⟩ rfl (by dsimp; omega),
    head_lane v g o hs b r ⟨((l : ℕ) + 16) % 128, _⟩ ⟨o + ((l : ℕ) + 16) % 128, by omega⟩ rfl (by dsimp; omega)]
  subst ho el
  rfl

/-- Every lane of the four joined heads. -/
theorem turns_at (v : FVec Ideal S256x512 .f32) (g : Vec Ideal S1x512 .f32) (c s z : Vec Ideal S256x128 .f32) (y : S256x512.Idx) :
    turns v (View.ld g (Rect.unit ![0, 0] ![1, 128] inb_S1x512_S1x128_0_0)) (View.ld g (Rect.unit ![0, 128] ![1, 128] inb_S1x512_S1x128_0_128))
      (View.ld g (Rect.unit ![0, 256] ![1, 128] inb_S1x512_S1x128_0_256)) (View.ld g (Rect.unit ![0, 384] ![1, 128] inb_S1x512_S1x128_0_384))
      c s z y
      = turned (entry (fun j => v (ix2 (y 0) j)) g) (fun l => c (ix2 (y 0) l)) (fun l => s (ix2 (y 0) l)) (fun l => z (ix2 (y 0) l)) (y 1) := by
  have b1 : (y 1 : ℕ) < 512 := (y 1).isLt
  pointwise [turns]
  by_cases h0 : (y 1 : ℕ) < 128
  · rw [dif_pos h0]
    exact turn_lane v g c s z 0 _ _ (y 0) ⟨(y 1 : ℕ), h0⟩ (y 1) (by show (y 1 : ℕ) = 0 + (y 1 : ℕ); omega) (by omega)
  by_cases h1 : (y 1 : ℕ) - 128 < 128
  · rw [dif_neg h0, dif_pos h1]
    exact turn_lane v g c s z 128 _ _ (y 0) ⟨(y 1 : ℕ) - 128, h1⟩ (y 1) (by show (y 1 : ℕ) = 128 + ((y 1 : ℕ) - 128); omega) (by omega)
  by_cases h2 : (y 1 : ℕ) - 128 - 128 < 128
  · rw [dif_neg h0, dif_neg h1, dif_pos h2]
    exact turn_lane v g c s z 256 _ _ (y 0) ⟨(y 1 : ℕ) - 128 - 128, h2⟩ (y 1)
      (by show (y 1 : ℕ) = 256 + ((y 1 : ℕ) - 128 - 128); omega) (by omega)
  · rw [dif_neg h0, dif_neg h1, dif_neg h2]
    exact turn_lane v g c s z 384 _ _ (y 0) ⟨(y 1 : ℕ) - 128 - 128 - 128, by omega⟩ (y 1)
      (by show (y 1 : ℕ) = 384 + ((y 1 : ℕ) - 128 - 128 - 128); omega) (by omega)

/-- What a grid point stores: the product of its blocks, each head normed and turned by its row of the tables. -/
def stored (X : Vec Ideal S1024x2048 .bf16) (W : Vec Ideal S2048x512 .bf16) (g : Vec Ideal S1x512 .f32)
    (c s z : Vec Ideal S1024x128 .f32) (r : Fin 1024) (j : Fin 512) : EReal :=
  turned (entry (prod X W r) g) (fun l => c (ix2 r l)) (fun l => s (ix2 r l)) (fun l => z (ix2 r l)) j

/-- What is stored for a chunk of 256 rows. -/
theorem tile (X : Vec Ideal S1024x2048 .bf16) (W : Vec Ideal S2048x512 .bf16) (g : Vec Ideal S1x512 .f32)
    (c s z : Vec Ideal S1024x128 .f32) (o : ℕ)
    (b : ∀ a, (![o, 0] : Fin 2 → ℕ) a + (![256, 2048] : Fin 2 → ℕ) a ≤ S1024x2048.size a)
    (d : ∀ a, (![o, 0] : Fin 2 → ℕ) a + (![256, 128] : Fin 2 → ℕ) a ≤ S1024x128.size a)
    (y : S256x512.Idx) (x : S1024x512.Idx) (h0 : (x 0 : ℕ) = o + (y 0 : ℕ)) (h1 : (x 1 : ℕ) = (y 1 : ℕ)) :
    turns (Cert.ProjQIdeal.Gen.k0_pay3 (F := Ideal) W (View.ld X (Rect.unit ![o, 0] ![256, 2048] b)))
      (View.ld g (Rect.unit ![0, 0] ![1, 128] inb_S1x512_S1x128_0_0)) (View.ld g (Rect.unit ![0, 128] ![1, 128] inb_S1x512_S1x128_0_128))
      (View.ld g (Rect.unit ![0, 256] ![1, 128] inb_S1x512_S1x128_0_256)) (View.ld g (Rect.unit ![0, 384] ![1, 128] inb_S1x512_S1x128_0_384))
      (View.ld c (Rect.unit ![o, 0] ![256, 128] d)) (View.ld s (Rect.unit ![o, 0] ![256, 128] d))
      (View.ld z (Rect.unit ![o, 0] ![256, 128] d)) y
      = stored X W g c s z (x 0) (x 1) := by
  have row : ∀ (T : Vec Ideal S1024x128 .f32) (l : Fin 128),
      View.ld T (Rect.unit ![o, 0] ![256, 128] d) (ix2 (y 0) l) = T (ix2 (x 0) l) := fun T l => by
    refine congrArg T (funext fun a => Fin.ext ?_)
    fin_cases a
    · show o + 1 * (y 0 : ℕ) = (x 0 : ℕ); omega
    · show 0 + 1 * (l : ℕ) = (l : ℕ); omega
  rw [turns_at, show x 1 = y 1 from Fin.ext h1]
  unfold stored
  rw [funext fun l => row c l, funext fun l => row s l, funext fun l => row z l]
  exact congrArg (fun P => turned (entry P g) _ _ _ (y 1)) (funext fun j => pay3_at X W o b (y 0) (x 0) j h0)

/-- Where a sweep starts, the point casts its weight block and multiplies with it. -/
theorem body_A (c : Dev nD) (t : Fin cfg0.N) (h0 : t.val % 8 = 0) (y : S1024x512.Idx) :
    (outsAt0 m c t.val t.isLt).1 y = stored (iblk m c 0 t) (X0_1 m c t) (iblk m c 2 t) (iblk m c 3 t) (iblk m c 4 t) (iblk m c 5 t) (y 0) (y 1) := by
  rw [outsAt0_A m c t h0]; dsimp only
  frame_out
  rw [pay1_eq]
  canon_tiles y h
  · exact tile _ _ _ _ _ _ 768 _ _ _ _ (by omega) (by omega)
  · exact tile _ _ _ _ _ _ 512 _ _ _ _ (by omega) (by omega)
  · exact tile _ _ _ _ _ _ 256 _ _ _ _ (by omega) (by omega)
  · exact tile _ _ _ _ _ _ 0 _ _ _ _ (by omega) (by omega)

/-- Elsewhere in a sweep, the point multiplies with the kept weights. -/
theorem body_B (c : Dev nD) (t : Fin cfg0.N) (h0 : ¬t.val % 8 = 0) (y : S1024x512.Idx) :
    (outsAt0 m c t.val t.isLt).1 y = stored (iblk m c 0 t) (X0_1 m c t) (iblk m c 2 t) (iblk m c 3 t) (iblk m c 4 t) (iblk m c 5 t) (y 0) (y 1) := by
  rw [outsAt0_B m c t h0]; dsimp only
  frame_out
  rw [(Memref.isWhole_whole _).read_unread, kept m c t h0]
  canon_tiles y h
  · exact tile _ _ _ _ _ _ 768 _ _ _ _ (by omega) (by omega)
  · exact tile _ _ _ _ _ _ 512 _ _ _ _ (by omega) (by omega)
  · exact tile _ _ _ _ _ _ 256 _ _ _ _ (by omega) (by omega)
  · exact tile _ _ _ _ _ _ 0 _ _ _ _ (by omega) (by omega)

/-- Every point stores its row block times its weight block, each head normed. -/
theorem point (c : Dev nD) (t : Fin cfg0.N) (y : S1024x512.Idx) :
    (outsAt0 m c t.val t.isLt).1 y = stored (iblk m c 0 t) (X0_1 m c t) (iblk m c 2 t) (iblk m c 3 t) (iblk m c 4 t) (iblk m c 5 t) (y 0) (y 1) :=
  if h0 : t.val % 8 = 0 then body_A m c t h0 y else body_B m c t h0 y

end Cert.DsaQIdeal.Hand
-- ==== Proof.DsaQTables.lean ====
module
public import proofs.«01_k».proof.Proof.DsaQValue
public import Idealize.ShloMosaic.Lib.Pipeline.ValueKit

/-! The three tables the sparse layer's query projection turns a head with.  A table is read in three stages: the host's
    operations up to the cosines and sines, the joining of these to rows of 128 lanes, and the copies that follow. -/

@[expose] public section

set_option maxRecDepth 16384

noncomputable section

namespace Cert.DsaQIdeal.Hand

open Cert.DsaQIdeal Cert.DsaQIdeal.Gen Idealize.ShloMosaic Idealize.ShloMosaic.TcCoe Idealize.SL.Sem
open Idealize.ShloMosaic.Pipeline (Dat)

variable (m : (ℓ : Loc nD τ sig) → Buf (Elt Ideal) ℓ)

/-- The angle of frequency `l` at position `p`. -/
def angle (p l : ℕ) : EReal :=
  FloatOps.sitofp (F := Ideal) .f32 (BitVec.ofNat 32 p) * Ideal.pow (Ideal.ofBits .f32 0x48F42400#32)
    (Ideal.div (-FloatOps.sitofp (F := Ideal) .f32 (BitVec.ofNat 32 l)) (Ideal.ofBits .f32 0x41800000#32))

/-- The table of the lane itself. -/
def table0 (p : ℕ) (l : ℕ) : EReal :=
  if l < 16 then Ideal.cos (angle p l) else if l - 16 < 16 then Ideal.cos (angle p (l - 16)) else 1

/-- The table of the lane sixteen to the left. -/
def table1 (p : ℕ) (l : ℕ) : EReal :=
  if l < 16 then 0 else if l - 16 < 16 then Ideal.sin (angle p (l - 16)) else 0

/-- The table of the lane sixteen to the right. -/
def table2 (p : ℕ) (l : ℕ) : EReal :=
  if l < 16 then -Ideal.sin (angle p l) else 0

/-- A row of sixteen heads `N` at position `p`, lanes 0 to 31 of each rotated. -/
def roped (N : Fin 2048 → EReal) (p : ℕ) (j : Fin 2048) : EReal :=
  if h : (j : ℕ) % 128 < 16 then
    N j * Ideal.cos (angle p ((j : ℕ) % 128)) - N ⟨(j : ℕ) + 16, by omega⟩ * Ideal.sin (angle p ((j : ℕ) % 128))
  else if (j : ℕ) % 128 - 16 < 16 then
    N j * Ideal.cos (angle p ((j : ℕ) % 128 - 16)) + N ⟨(j : ℕ) - 16, by omega⟩ * Ideal.sin (angle p ((j : ℕ) % 128 - 16))
  else N j

/-- Turning four heads with the tables rotates them: a table is zero where the shift brings in a lane that isn't wanted. -/
theorem turned_eq (R : Fin 512 → EReal) (N : Fin 2048 → EReal) (p o : ℕ) (b : Fin 512) (j : Fin 2048)
    (hj : (j : ℕ) = o * 512 + (b : ℕ))
    (hR : ∀ (b' : Fin 512) (j' : Fin 2048), (j' : ℕ) = o * 512 + (b' : ℕ) → R b' = N j') :
    turned R (fun l => table0 p l) (fun l => table1 p l) (fun l => table2 p l) b = roped N p j := by
  have e : (j : ℕ) % 128 = (b : ℕ) % 128 := by omega
  have bb : (b : ℕ) < 512 := b.isLt
  unfold turned roped table0 table1 table2
  dsimp only
  rw [hR b j hj]
  by_cases h0 : (b : ℕ) % 128 < 16
  · rw [dif_pos (by omega), if_pos h0, if_pos h0, if_pos h0, mul_zero, add_zero, mul_neg, ← sub_eq_add_neg,
      hR _ ⟨(j : ℕ) + 16, by omega⟩ (by dsimp; omega)]
    simp only [e]
  by_cases h1 : (b : ℕ) % 128 - 16 < 16
  · rw [dif_neg (by omega), if_pos (show (j : ℕ) % 128 - 16 < 16 by omega), if_neg h0, if_pos h1, if_neg h0, if_pos h1, if_neg h0,
      mul_zero, add_zero, hR _ ⟨(j : ℕ) - 16, by omega⟩ (by dsimp; omega)]
    simp only [e]
  · rw [dif_neg (by omega), if_neg (show ¬(j : ℕ) % 128 - 16 < 16 by omega), if_neg h0, if_neg h1, if_neg h0, if_neg h1, if_neg h0,
      mul_zero, mul_zero, add_zero, add_zero, mul_one]

/-- The host's operations, cut where the cosines and sines are made, before the last table and after it. -/
theorem stages (c : Dev nD) (b : Ref sig .tc) : V m c b = StableHlo.after (List.drop 27 (hostOps0 (F := Ideal)))
    (StableHlo.after (List.take 1 (List.drop 26 hostOps0)) (StableHlo.after (List.take 3 (List.drop 23 hostOps0))
      (StableHlo.after (List.take 23 hostOps0) fun b => m (c, b)))) b := by
  rw [← StableHlo.after_append, ← StableHlo.after_append, ← StableHlo.after_append]
  rfl

/-- The cosines, the sines and the constants of the tables. -/
theorem made (σ : Valuation τ sig (Elt Ideal)) (p : Fin 4096) :
    (∀ l : Fin 16, StableHlo.after (List.take 23 hostOps0) σ main_v13 (ix2 p l) = Ideal.cos (angle p l))
    ∧ (∀ l : Fin 16, StableHlo.after (List.take 23 hostOps0) σ main_v14 (ix2 p l) = Ideal.sin (angle p l))
    ∧ (∀ l : Fin 96, StableHlo.after (List.take 23 hostOps0) σ main_v15 (ix2 p l) = (1 : EReal))
    ∧ (∀ l : Fin 16, StableHlo.after (List.take 23 hostOps0) σ main_v16 (ix2 p l) = (0 : EReal))
    ∧ (∀ l : Fin 96, StableHlo.after (List.take 23 hostOps0) σ main_v17 (ix2 p l) = (0 : EReal)) := by
  simp only [hostOps0, List.take_succ_cons, List.take_zero]
  refine ⟨fun l => ?_, fun l => ?_, fun l => ?_, fun l => ?_, fun l => ?_⟩ <;> entry_read <;> pointwise [angle]

/-- A choice between three pieces of a row, made number by number. -/
theorem three (l : ℕ) (A : l < 16 → EReal) (B : l - 16 < 16 → EReal) (C : ¬l < 16 → ¬l - 16 < 16 → EReal) (a b d : EReal)
    (hA : ∀ h, A h = a) (hB : ∀ h, B h = b) (hC : ∀ h h', C h h' = d) :
    (if h : l < 16 then A h else if h' : l - 16 < 16 then B h' else C h h') = if l < 16 then a else if l - 16 < 16 then b else d := by
  by_cases h : l < 16
  · rw [dif_pos h, if_pos h, hA]
  by_cases h' : l - 16 < 16
  · rw [dif_neg h, dif_pos h', if_neg h, if_pos h', hB]
  · rw [dif_neg h, dif_neg h', if_neg h, if_neg h', hC]

/-- The rows of the first two tables, and what the third is made of. -/
theorem joined (σ : Valuation τ sig (Elt Ideal)) (p : Fin 4096)
    (h13 : ∀ l : Fin 16, σ main_v13 (ix2 p l) = Ideal.cos (angle p l)) (h14 : ∀ l : Fin 16, σ main_v14 (ix2 p l) = Ideal.sin (angle p l))
    (h15 : ∀ l : Fin 96, σ main_v15 (ix2 p l) = (1 : EReal)) (h16 : ∀ l : Fin 16, σ main_v16 (ix2 p l) = (0 : EReal))
    (h17 : ∀ l : Fin 96, σ main_v17 (ix2 p l) = (0 : EReal)) :
    (∀ l : Fin 128, StableHlo.after (List.take 3 (List.drop 23 hostOps0)) σ main_v18 (ix2 p l) = table0 p l)
    ∧ (∀ l : Fin 128, StableHlo.after (List.take 3 (List.drop 23 hostOps0)) σ main_v19 (ix2 p l) = table1 p l)
    ∧ (∀ l : Fin 16, StableHlo.after (List.take 3 (List.drop 23 hostOps0)) σ main_v20 (ix2 p l) = -Ideal.sin (angle p l))
    ∧ (∀ l : Fin 16, StableHlo.after (List.take 3 (List.drop 23 hostOps0)) σ main_v16 (ix2 p l) = (0 : EReal))
    ∧ (∀ l : Fin 96, StableHlo.after (List.take 3 (List.drop 23 hostOps0)) σ main_v17 (ix2 p l) = (0 : EReal)) := by
  simp only [hostOps0, List.drop_succ_cons, List.drop_zero, List.take_succ_cons, List.take_zero]
  refine ⟨fun l => ?_, fun l => ?_, fun l => ?_, fun l => ?_, fun l => ?_⟩
  · entry_read
    pointwise
    exact three _ _ _ _ _ _ _ (fun h => h13 _) (fun h => h13 _) (fun h h' => h15 _)
  · entry_read
    pointwise
    exact three _ _ _ _ _ _ _ (fun h => h16 _) (fun h => h14 _) (fun h h' => h17 _)
  · entry_read
    pointwise
    exact congrArg (fun x : EReal => -x) (h14 l)
  · entry_read
    exact h16 l
  · entry_read
    exact h17 l

/-- The rows of the third table. -/
theorem joined2 (σ : Valuation τ sig (Elt Ideal)) (p : Fin 4096)
    (h20 : ∀ l : Fin 16, σ main_v20 (ix2 p l) = -Ideal.sin (angle p l)) (h16 : ∀ l : Fin 16, σ main_v16 (ix2 p l) = (0 : EReal))
    (h17 : ∀ l : Fin 96, σ main_v17 (ix2 p l) = (0 : EReal)) (l : Fin 128) :
    StableHlo.after (List.take 1 (List.drop 26 hostOps0)) σ main_v18 (ix2 p l) = σ main_v18 (ix2 p l)
    ∧ StableHlo.after (List.take 1 (List.drop 26 hostOps0)) σ main_v19 (ix2 p l) = σ main_v19 (ix2 p l)
    ∧ StableHlo.after (List.take 1 (List.drop 26 hostOps0)) σ main_v21 (ix2 p l) = table2 p l := by
  simp only [hostOps0, List.drop_succ_cons, List.drop_zero, List.take_succ_cons, List.take_zero]
  refine ⟨?_, ?_, ?_⟩
  · entry_read
    rfl
  · entry_read
    rfl
  · entry_read
    pointwise
    rw [show table2 p l = if (l : ℕ) < 16 then -Ideal.sin (angle p l) else if (l : ℕ) - 16 < 16 then 0 else 0 from by
      unfold table2; rw [ite_self]]
    exact three _ _ _ _ _ _ _ (fun h => h20 _) (fun h => h16 _) (fun h h' => h17 _)

/-- The copies change nothing. -/
theorem copied (σ : Valuation τ sig (Elt Ideal)) (p : Fin 4096) (l : Fin 128) :
    StableHlo.after (List.drop 27 hostOps0) σ main_v24 (ix2 p l) = σ main_v18 (ix2 p l)
    ∧ StableHlo.after (List.drop 27 hostOps0) σ main_v27 (ix2 p l) = σ main_v19 (ix2 p l)
    ∧ StableHlo.after (List.drop 27 hostOps0) σ main_v30 (ix2 p l) = σ main_v21 (ix2 p l) := by
  simp only [hostOps0, List.drop_succ_cons, List.drop_zero]
  refine ⟨?_, ?_, ?_⟩ <;> entry_read <;> pointwise

/-- What the kernel is given as tables. -/
theorem tables (c : Dev nD) (p : Fin 4096) (l : Fin 128) :
    V m c main_v24 (ix2 p l) = table0 p l ∧ V m c main_v27 (ix2 p l) = table1 p l ∧ V m c main_v30 (ix2 p l) = table2 p l := by
  obtain ⟨h13, h14, h15, h16, h17⟩ := made (fun b => m (c, b)) p
  obtain ⟨j0, j1, h20, h16, h17⟩ := joined _ p h13 h14 h15 h16 h17
  obtain ⟨i0, i1, i2⟩ := joined2 _ p h20 h16 h17 l
  obtain ⟨k0, k1, k2⟩ := copied (StableHlo.after (List.take 1 (List.drop 26 hostOps0)) (StableHlo.after (List.take 3 (List.drop 23 hostOps0))
    (StableHlo.after (List.take 23 hostOps0) fun b => m (c, b)))) p l
  rw [stages, stages, stages]
  exact ⟨k0.trans (i0.trans (j0 l)), k1.trans (i1.trans (j1 l)), k2.trans i2⟩

/-- The staged rows of the tables: position `t % 8 % 4 * 1024 + r`. -/
theorem tables_at (c : Dev nD) (t : Fin cfg0.N) (r : Fin 1024) (p : ℕ) (hp : p = t.val % 8 % 4 * 1024 + (r : ℕ)) (l : Fin 128) :
    iblk m c 3 t (ix2 r l) = table0 p l ∧ iblk m c 4 t (ix2 r l) = table1 p l ∧ iblk m c 5 t (ix2 r l) = table2 p l := by
  have h : p < 4096 := by omega
  subst hp
  obtain ⟨k0, k1, k2⟩ := tables m c ⟨t.val % 8 % 4 * 1024 + (r : ℕ), h⟩ l
  refine ⟨Eq.trans ?_ k0, Eq.trans ?_ k1, Eq.trans ?_ k2⟩ <;> unfold iblk
  · blk_ext [idx t]
  · blk_ext [idx t]
  · blk_ext [idx t]

end Cert.DsaQIdeal.Hand
-- ==== Proof.DsaKValue.lean ====
module
public import proofs.«01_k».proof.Defs
public import proofs.«01_k».proof.Proof.Gen.DsaKIdeal.Value
public import proofs.«01_k».proof.Proof.DsaQTables
public import Idealize.ShloMosaic.Lib.Pipeline.ValueKit

/-! The key projection of the sparse layer: columns 2048 to 4095 of `h @ w`, each head normed and turned, at full width and
    at half width.  The blocks are those of the query projection, whose lemmas on heads and tables are used. -/

@[expose] public section

set_option maxRecDepth 16384

noncomputable section

namespace Cert.DsaKIdeal.Hand

open Cert.DsaKIdeal Cert.DsaKIdeal.Gen Idealize.ShloMosaic Idealize.ShloMosaic.TcCoe Idealize.SL.Sem
open Idealize.ShloMosaic.Pipeline (Dat)
open Cert.DsaQIdeal.Hand (stored tile angle table0 table1 table2 three)

variable (m : (ℓ : Loc nD τ sig) → Buf (Elt Ideal) ℓ)

/-- Point `t` works on row block `t % 8` and column block `t / 8`, four blocks further right in the weights; the tables have
    four row blocks. -/
theorem idx : ∀ t : Fin cfg0.N, win0_0.index t = ![t.val % 8, 0] ∧ win0_1.index t = ![0, t.val / 8 + 4]
    ∧ win0_2.index t = ![0, 0] ∧ win0_3.index t = ![t.val % 8 % 4, 0] ∧ win0_4.index t = ![t.val % 8 % 4, 0]
    ∧ win0_5.index t = ![t.val % 8 % 4, 0] ∧ win0_6.index t = ![t.val % 8, t.val / 8] ∧ win0_7.index t = ![t.val % 8, t.val / 8] :=
  (by decide +kernel : ∀ t : Fin grid0.N, _)

/-- The staged weights: 2048 rows of 512 columns, none of them beyond the array's end. -/
theorem weights_at (c : Dev nD) (t : Fin cfg0.N) (y : S2048x512.Idx) (j : Fin 7248)
    (hj : (j : ℕ) = (t.val / 8 + 4) * 512 + (y 1 : ℕ)) :
    X0_1 m c t y = m ((c : Thread nD τ).loc main_arg1) (ix2 (y 0) j) := by
  unfold X0_1 Pipeline.Window.fill
  rw [dif_pos (moved0_1 t y)]
  blk_point [iblk, V, idx t]

/-- A column block of the weights stays staged for the eight row blocks it serves. -/
theorem weights_stay (c : Dev nD) (n : ℕ) (h : n + 1 < cfg0.N) (h0 : ¬(n + 1) % 8 = 0) (y : S2048x512.Idx) :
    X0_1 m c ⟨n, Nat.lt_of_succ_lt h⟩ y = X0_1 m c ⟨n + 1, h⟩ y := by
  have hn : n + 1 < 32 := h
  have b1 : (y 1 : ℕ) < 512 := (y 1).isLt
  rw [weights_at m c ⟨n, _⟩ y ⟨(n / 8 + 4) * 512 + (y 1 : ℕ), by omega⟩ rfl,
    weights_at m c ⟨n + 1, _⟩ y ⟨(n / 8 + 4) * 512 + (y 1 : ℕ), by omega⟩ (by dsimp; omega)]

/-- The scratch buffer holds the current column block of the weights. -/
theorem scratch_eq (c : Dev nD) (n : ℕ) (h : n < cfg0.N) (y : S2048x512.Idx) :
    (outsAt0 m c n h).2.2 y = X0_1 m c ⟨n, h⟩ y := by
  induction n with
  | zero =>
    have e := outsAt0_A m c ⟨0, h⟩ (by rfl)
    dsimp only at e
    rw [e]; dsimp only
    frame_out
    pointwise [k0_pay2]
  | succ n ih =>
    by_cases h0 : (n + 1) % 8 = 0
    · have e := outsAt0_A m c ⟨n + 1, h⟩ h0
      dsimp only at e
      rw [e]; dsimp only
      frame_out
      pointwise [k0_pay2]
    · have e := outsAt0_B m c ⟨n + 1, h⟩ h0
      dsimp only at e
      rw [e]; dsimp only
      exact (ih (Nat.lt_of_succ_lt h)).trans (weights_stay m c n h h0 y)

/-- Within a sweep the scratch buffer holds the point's weight block already. -/
theorem kept (c : Dev nD) (t : Fin cfg0.N) (h0 : ¬t.val % 8 = 0) :
    (outsAt0 m c (t.val - 1) (Nat.lt_of_le_of_lt (Nat.sub_le _ _) t.isLt)).2.2 = X0_1 m c t := by
  obtain ⟨n, h⟩ := t
  cases n with
  | zero => exact absurd rfl h0
  | succ n => exact funext fun j => (scratch_eq m c n (Nat.lt_of_succ_lt h) j).trans (weights_stay m c n h h0 j)

/-- The cast of the weights changes nothing over the reals. -/
theorem pay2_eq (W : Vec Ideal S2048x512 .bf16) : k0_pay2 (F := Ideal) W = W := Cert.ProjQIdeal.Hand.pay2_eq W

/-- Where a sweep starts, the point casts its weight block and multiplies with it. -/
theorem body_A (c : Dev nD) (t : Fin cfg0.N) (h0 : t.val % 8 = 0) (y : S1024x512.Idx) :
    (outsAt0 m c t.val t.isLt).1 y = stored (iblk m c 0 t) (X0_1 m c t) (iblk m c 2 t) (iblk m c 3 t) (iblk m c 4 t) (iblk m c 5 t) (y 0) (y 1) := by
  rw [outsAt0_A m c t h0]; dsimp only
  frame_out
  rw [pay2_eq]
  canon_tiles y h
  · exact tile _ _ _ _ _ _ 768 _ _ _ _ (by omega) (by omega)
  · exact tile _ _ _ _ _ _ 512 _ _ _ _ (by omega) (by omega)
  · exact tile _ _ _ _ _ _ 256 _ _ _ _ (by omega) (by omega)
  · exact tile _ _ _ _ _ _ 0 _ _ _ _ (by omega) (by omega)

/-- The same at half width. -/
theorem half_A (c : Dev nD) (t : Fin cfg0.N) (h0 : t.val % 8 = 0) (y : S1024x512.Idx) :
    (outsAt0 m c t.val t.isLt).2.1 y = stored (iblk m c 0 t) (X0_1 m c t) (iblk m c 2 t) (iblk m c 3 t) (iblk m c 4 t) (iblk m c 5 t) (y 0) (y 1) := by
  rw [outsAt0_A m c t h0]; dsimp only
  frame_out
  rw [pay2_eq]
  canon_tiles y h
  · exact tile _ _ _ _ _ _ 768 _ _ _ _ (by omega) (by omega)
  · exact tile _ _ _ _ _ _ 512 _ _ _ _ (by omega) (by omega)
  · exact tile _ _ _ _ _ _ 256 _ _ _ _ (by omega) (by omega)
  · exact tile _ _ _ _ _ _ 0 _ _ _ _ (by omega) (by omega)

/-- Elsewhere in a sweep, the point multiplies with the kept weights. -/
theorem body_B (c : Dev nD) (t : Fin cfg0.N) (h0 : ¬t.val % 8 = 0) (y : S1024x512.Idx) :
    (outsAt0 m c t.val t.isLt).1 y = stored (iblk m c 0 t) (X0_1 m c t) (iblk m c 2 t) (iblk m c 3 t) (iblk m c 4 t) (iblk m c 5 t) (y 0) (y 1) := by
  rw [outsAt0_B m c t h0]; dsimp only
  frame_out
  rw [(Memref.isWhole_whole _).read_unread, kept m c t h0]
  canon_tiles y h
  · exact tile _ _ _ _ _ _ 768 _ _ _ _ (by omega) (by omega)
  · exact tile _ _ _ _ _ _ 512 _ _ _ _ (by omega) (by omega)
  · exact tile _ _ _ _ _ _ 256 _ _ _ _ (by omega) (by omega)
  · exact tile _ _ _ _ _ _ 0 _ _ _ _ (by omega) (by omega)

/-- The same at half width. -/
theorem half_B (c : Dev nD) (t : Fin cfg0.N) (h0 : ¬t.val % 8 = 0) (y : S1024x512.Idx) :
    (outsAt0 m c t.val t.isLt).2.1 y = stored (iblk m c 0 t) (X0_1 m c t) (iblk m c 2 t) (iblk m c 3 t) (iblk m c 4 t) (iblk m c 5 t) (y 0) (y 1) := by
  rw [outsAt0_B m c t h0]; dsimp only
  frame_out
  rw [(Memref.isWhole_whole _).read_unread, kept m c t h0]
  canon_tiles y h
  · exact tile _ _ _ _ _ _ 768 _ _ _ _ (by omega) (by omega)
  · exact tile _ _ _ _ _ _ 512 _ _ _ _ (by omega) (by omega)
  · exact tile _ _ _ _ _ _ 256 _ _ _ _ (by omega) (by omega)
  · exact tile _ _ _ _ _ _ 0 _ _ _ _ (by omega) (by omega)

/-- Every point stores its row block times its weight block, each head normed and turned. -/
theorem point (c : Dev nD) (t : Fin cfg0.N) (y : S1024x512.Idx) :
    (outsAt0 m c t.val t.isLt).1 y = stored (iblk m c 0 t) (X0_1 m c t) (iblk m c 2 t) (iblk m c 3 t) (iblk m c 4 t) (iblk m c 5 t) (y 0) (y 1) :=
  if h0 : t.val % 8 = 0 then body_A m c t h0 y else body_B m c t h0 y

/-- The same at half width. -/
theorem half (c : Dev nD) (t : Fin cfg0.N) (y : S1024x512.Idx) :
    (outsAt0 m c t.val t.isLt).2.1 y = stored (iblk m c 0 t) (X0_1 m c t) (iblk m c 2 t) (iblk m c 3 t) (iblk m c 4 t) (iblk m c 5 t) (y 0) (y 1) :=
  if h0 : t.val % 8 = 0 then half_A m c t h0 y else half_B m c t h0 y

/-- The host's operations, cut where the cosines and sines are made, before the last table and after it. -/
theorem stages (c : Dev nD) (b : Ref sig .tc) : V m c b = StableHlo.after (List.drop 27 (hostOps0 (F := Ideal)))
    (StableHlo.after (List.take 1 (List.drop 26 hostOps0)) (StableHlo.after (List.take 3 (List.drop 23 hostOps0))
      (StableHlo.after (List.take 23 hostOps0) fun b => m (c, b)))) b := by
  rw [← StableHlo.after_append, ← StableHlo.after_append, ← StableHlo.after_append]
  rfl

/-- The cosines, the sines and the constants of the tables. -/
theorem made (σ : Valuation τ sig (Elt Ideal)) (p : Fin 4096) :
    (∀ l : Fin 16, StableHlo.after (List.take 23 hostOps0) σ main_v13 (ix2 p l) = Ideal.cos (angle p l))
    ∧ (∀ l : Fin 16, StableHlo.after (List.take 23 hostOps0) σ main_v14 (ix2 p l) = Ideal.sin (angle p l))
    ∧ (∀ l : Fin 96, StableHlo.after (List.take 23 hostOps0) σ main_v15 (ix2 p l) = (1 : EReal))
    ∧ (∀ l : Fin 16, StableHlo.after (List.take 23 hostOps0) σ main_v16 (ix2 p l) = (0 : EReal))
    ∧ (∀ l : Fin 96, StableHlo.after (List.take 23 hostOps0) σ main_v17 (ix2 p l) = (0 : EReal)) := by
  simp only [hostOps0, List.take_succ_cons, List.take_zero]
  refine ⟨fun l => ?_, fun l => ?_, fun l => ?_, fun l => ?_, fun l => ?_⟩ <;> entry_read <;> pointwise [angle]

/-- The rows of the first two tables, and what the third is made of. -/
theorem joined (σ : Valuation τ sig (Elt Ideal)) (p : Fin 4096)
    (h13 : ∀ l : Fin 16, σ main_v13 (ix2 p l) = Ideal.cos (angle p l)) (h14 : ∀ l : Fin 16, σ main_v14 (ix2 p l) = Ideal.sin (angle p l))
    (h15 : ∀ l : Fin 96, σ main_v15 (ix2 p l) = (1 : EReal)) (h16 : ∀ l : Fin 16, σ main_v16 (ix2 p l) = (0 : EReal))
    (h17 : ∀ l : Fin 96, σ main_v17 (ix2 p l) = (0 : EReal)) :
    (∀ l : Fin 128, StableHlo.after (List.take 3 (List.drop 23 hostOps0)) σ main_v18 (ix2 p l) = table0 p l)
    ∧ (∀ l : Fin 128, StableHlo.after (List.take 3 (List.drop 23 hostOps0)) σ main_v19 (ix2 p l) = table1 p l)
    ∧ (∀ l : Fin 16, StableHlo.after (List.take 3 (List.drop 23 hostOps0)) σ main_v20 (ix2 p l) = -Ideal.sin (angle p l))
    ∧ (∀ l : Fin 16, StableHlo.after (List.take 3 (List.drop 23 hostOps0)) σ main_v16 (ix2 p l) = (0 : EReal))
    ∧ (∀ l : Fin 96, StableHlo.after (List.take 3 (List.drop 23 hostOps0)) σ main_v17 (ix2 p l) = (0 : EReal)) := by
  simp only [hostOps0, List.drop_succ_cons, List.drop_zero, List.take_succ_cons, List.take_zero]
  refine ⟨fun l => ?_, fun l => ?_, fun l => ?_, fun l => ?_, fun l => ?_⟩
  · entry_read
    pointwise
    exact three _ _ _ _ _ _ _ (fun h => h13 _) (fun h => h13 _) (fun h h' => h15 _)
  · entry_read
    pointwise
    exact three _ _ _ _ _ _ _ (fun h => h16 _) (fun h => h14 _) (fun h h' => h17 _)
  · entry_read
    pointwise
    exact congrArg (fun x : EReal => -x) (h14 l)
  · entry_read
    exact h16 l
  · entry_read
    exact h17 l

/-- The rows of the third table. -/
theorem joined2 (σ : Valuation τ sig (Elt Ideal)) (p : Fin 4096)
    (h20 : ∀ l : Fin 16, σ main_v20 (ix2 p l) = -Ideal.sin (angle p l)) (h16 : ∀ l : Fin 16, σ main_v16 (ix2 p l) = (0 : EReal))
    (h17 : ∀ l : Fin 96, σ main_v17 (ix2 p l) = (0 : EReal)) (l : Fin 128) :
    StableHlo.after (List.take 1 (List.drop 26 hostOps0)) σ main_v18 (ix2 p l) = σ main_v18 (ix2 p l)
    ∧ StableHlo.after (List.take 1 (List.drop 26 hostOps0)) σ main_v19 (ix2 p l) = σ main_v19 (ix2 p l)
    ∧ StableHlo.after (List.take 1 (List.drop 26 hostOps0)) σ main_v21 (ix2 p l) = table2 p l := by
  simp only [hostOps0, List.drop_succ_cons, List.drop_zero, List.take_succ_cons, List.take_zero]
  refine ⟨?_, ?_, ?_⟩
  · entry_read
    rfl
  · entry_read
    rfl
  · entry_read
    pointwise
    rw [show table2 p l = if (l : ℕ) < 16 then -Ideal.sin (angle p l) else if (l : ℕ) - 16 < 16 then 0 else 0 from by
      unfold table2; rw [ite_self]]
    exact three _ _ _ _ _ _ _ (fun h => h20 _) (fun h => h16 _) (fun h h' => h17 _)

/-- The copies change nothing. -/
theorem copied (σ : Valuation τ sig (Elt Ideal)) (p : Fin 4096) (l : Fin 128) :
    StableHlo.after (List.drop 27 hostOps0) σ main_v24 (ix2 p l) = σ main_v18 (ix2 p l)
    ∧ StableHlo.after (List.drop 27 hostOps0) σ main_v27 (ix2 p l) = σ main_v19 (ix2 p l)
    ∧ StableHlo.after (List.drop 27 hostOps0) σ main_v30 (ix2 p l) = σ main_v21 (ix2 p l) := by
  simp only [hostOps0, List.drop_succ_cons, List.drop_zero]
  refine ⟨?_, ?_, ?_⟩ <;> entry_read <;> pointwise

/-- What the kernel is given as tables. -/
theorem tables (c : Dev nD) (p : Fin 4096) (l : Fin 128) :
    V m c main_v24 (ix2 p l) = table0 p l ∧ V m c main_v27 (ix2 p l) = table1 p l ∧ V m c main_v30 (ix2 p l) = table2 p l := by
  obtain ⟨h13, h14, h15, h16, h17⟩ := made (fun b => m (c, b)) p
  obtain ⟨j0, j1, h20, h16, h17⟩ := joined _ p h13 h14 h15 h16 h17
  obtain ⟨i0, i1, i2⟩ := joined2 _ p h20 h16 h17 l
  obtain ⟨k0, k1, k2⟩ := copied (StableHlo.after (List.take 1 (List.drop 26 hostOps0)) (StableHlo.after (List.take 3 (List.drop 23 hostOps0))
    (StableHlo.after (List.take 23 hostOps0) fun b => m (c, b)))) p l
  rw [stages, stages, stages]
  exact ⟨k0.trans (i0.trans (j0 l)), k1.trans (i1.trans (j1 l)), k2.trans i2⟩

/-- The staged rows of the tables: position `t % 8 % 4 * 1024 + r`. -/
theorem tables_at (c : Dev nD) (t : Fin cfg0.N) (r : Fin 1024) (p : ℕ) (hp : p = t.val % 8 % 4 * 1024 + (r : ℕ)) (l : Fin 128) :
    iblk m c 3 t (ix2 r l) = table0 p l ∧ iblk m c 4 t (ix2 r l) = table1 p l ∧ iblk m c 5 t (ix2 r l) = table2 p l := by
  have h : p < 4096 := by omega
  subst hp
  obtain ⟨k0, k1, k2⟩ := tables m c ⟨t.val % 8 % 4 * 1024 + (r : ℕ), h⟩ l
  refine ⟨Eq.trans ?_ k0, Eq.trans ?_ k1, Eq.trans ?_ k2⟩ <;> unfold iblk
  · blk_ext [idx t]
  · blk_ext [idx t]
  · blk_ext [idx t]

end Cert.DsaKIdeal.Hand
-- ==== Proof.DsaQClaim.lean ====
module
public import proofs.«01_k».proof.Proof.DsaQTables
public import Idealize.ShloMosaic.Lib.Pipeline.ValueKit

/-! The query projection of the sparse layer: the reference's entries, and the claim. -/

@[expose] public section

set_option maxRecDepth 16384

noncomputable section

namespace Cert.DsaQIdeal.Hand

open Cert.DsaQIdeal Cert.DsaQIdeal.Gen Idealize.ShloMosaic Idealize.ShloMosaic.TcCoe Idealize.SL.Sem
open Idealize.ShloMosaic.Pipeline (Dat)
open Cert.DsaQRefIdeal.Read
open Cert.ProjQIdeal.Hand (prod scaled entry)

variable (m : (ℓ : Loc nD τ sig) → Buf (Elt Ideal) ℓ)

/-- The reference's angles. -/
theorem cos_at (p : Fin 4096) (l : Fin 16) : val_main_v31 (F := Ideal) (ix2 p l) = Ideal.cos (angle p l) := by
  pointwise [val_main_v31, val_main_v30, val_main_v29, val_main_v28, val_main_v27, val_main_v26, val_main_v25, val_main_v24,
    val_main_v23, val_main_v22, val_main_v21, val_main_v20, val_main_v19, val_main_cst_2, val_main_cst_3, angle]

/-- Their sines. -/
theorem sin_at (p : Fin 4096) (l : Fin 16) : val_main_v33 (F := Ideal) (ix2 p l) = Ideal.sin (angle p l) := by
  pointwise [val_main_v33, val_main_v30, val_main_v29, val_main_v28, val_main_v27, val_main_v26, val_main_v25, val_main_v24,
    val_main_v23, val_main_v22, val_main_v21, val_main_v20, val_main_v19, val_main_cst_2, val_main_cst_3, angle]

/-- The tables the reference rotates with. -/
theorem spread_at (b : Fin 2) (p : Fin 4096) (h : Fin 16) (l : Fin 16) :
    val_main_v37 (F := Ideal) (ix4 b p h l) = Ideal.cos (angle p l) ∧ val_main_v42 (F := Ideal) (ix4 b p h l) = Ideal.cos (angle p l)
    ∧ val_main_v39 (F := Ideal) (ix4 b p h l) = Ideal.sin (angle p l)
    ∧ val_main_v44 (F := Ideal) (ix4 b p h l) = Ideal.sin (angle p l) := by
  refine ⟨?_, ?_, ?_, ?_⟩
  · rw [← cos_at]; pointwise [val_main_v37, val_main_v32]
  · rw [← cos_at]; pointwise [val_main_v42, val_main_v32]
  · rw [← sin_at]; pointwise [val_main_v39, val_main_v34]
  · rw [← sin_at]; pointwise [val_main_v44, val_main_v34]

section Rotation
open Cert.DsaQRefIdeal Cert.DsaQRefIdeal.Facts₀ Cert.DsaQRefIdeal.Facts

/-- Heads rotated as the reference does it: two slices of sixteen lanes, and the rest. -/
def rot (Y : FVec Ideal S2x4096x16x128 .f32) : FVec Ideal S2x4096x16x128 .f32 :=
  concatenate S2x4096x16x128 3
    [⟨S2x4096x16x16, subf
      (mulf (extractStridedSlice S2x4096x16x16 ![0, 0, 0, 0] Y slices_S2x4096x16x128_S2x4096x16x16_0_0_0_0) (val_main_v37 (F := Ideal)))
      (mulf (extractStridedSlice S2x4096x16x16 ![0, 0, 0, 16] Y slices_S2x4096x16x128_S2x4096x16x16_0_0_0_16) (val_main_v39 (F := Ideal)))⟩,
     ⟨S2x4096x16x16, addf
      (mulf (extractStridedSlice S2x4096x16x16 ![0, 0, 0, 16] Y slices_S2x4096x16x128_S2x4096x16x16_0_0_0_16) (val_main_v42 (F := Ideal)))
      (mulf (extractStridedSlice S2x4096x16x16 ![0, 0, 0, 0] Y slices_S2x4096x16x128_S2x4096x16x16_0_0_0_0) (val_main_v44 (F := Ideal)))⟩,
     ⟨S2x4096x16x96, extractStridedSlice S2x4096x16x96 ![0, 0, 0, 32] Y slices_S2x4096x16x128_S2x4096x16x96_0_0_0_32⟩]
    concatenates_S2x4096x16x16_S2x4096x16x16_S2x4096x16x96_S2x4096x16x128_d3

/-- What the rotation makes of a row whose numbers are `N`. -/
theorem rot_at (Y : FVec Ideal S2x4096x16x128 .f32) (N : Fin 2048 → EReal) (b : Fin 2) (p : Fin 4096) (h : Fin 16) (l : Fin 128)
    (hY : ∀ (l : Fin 128) (j : Fin 2048), (j : ℕ) = (h : ℕ) * 128 + (l : ℕ) → Y (ix4 b p h l) = N j)
    (j : Fin 2048) (hj : (j : ℕ) = (h : ℕ) * 128 + (l : ℕ)) :
    rot Y (ix4 b p h l) = roped N p j := by
  pointwise [rot]
  unfold roped
  have e : (j : ℕ) % 128 = (l : ℕ) := by omega
  have y0 : Y (ix4 b p h l) = N j := hY l j hj
  have cs : ∀ i : Fin 16, val_main_v37 (F := Ideal) (ix4 b p h i) = Ideal.cos (angle p i) := fun i => (spread_at b p h i).1
  have cs' : ∀ i : Fin 16, val_main_v42 (F := Ideal) (ix4 b p h i) = Ideal.cos (angle p i) := fun i => (spread_at b p h i).2.1
  have sn : ∀ i : Fin 16, val_main_v39 (F := Ideal) (ix4 b p h i) = Ideal.sin (angle p i) := fun i => (spread_at b p h i).2.2.1
  have sn' : ∀ i : Fin 16, val_main_v44 (F := Ideal) (ix4 b p h i) = Ideal.sin (angle p i) := fun i => (spread_at b p h i).2.2.2
  by_cases h0 : (l : ℕ) < 16
  · have y1 := hY ⟨16 + (l : ℕ), by omega⟩ ⟨(j : ℕ) + 16, by omega⟩ (by show (j : ℕ) + 16 = (h : ℕ) * 128 + (16 + (l : ℕ)); omega)
    refine (dif_pos h0).trans ?_
    rw [dif_pos (show (j : ℕ) % 128 < 16 by omega), y0, y1, cs, sn]
    simp only [e]
  by_cases h1 : (l : ℕ) - 16 < 16
  · have y1 := hY ⟨(l : ℕ) - 16, by omega⟩ ⟨(j : ℕ) - 16, by omega⟩ (by show (j : ℕ) - 16 = (h : ℕ) * 128 + ((l : ℕ) - 16); omega)
    have y2 := hY ⟨16 + ((l : ℕ) - 16), by omega⟩ j (by show (j : ℕ) = (h : ℕ) * 128 + (16 + ((l : ℕ) - 16)); omega)
    refine (dif_neg h0).trans ((dif_pos h1).trans ?_)
    rw [dif_neg (show ¬(j : ℕ) % 128 < 16 by omega), if_pos (show (j : ℕ) % 128 - 16 < 16 by omega), y1, y2, cs', sn']
    simp only [e]
  · have y2 := hY ⟨32 + ((l : ℕ) - 16 - 16), by omega⟩ j (by show (j : ℕ) = (h : ℕ) * 128 + (32 + ((l : ℕ) - 16 - 16)); omega)
    refine (dif_neg h0).trans ((dif_neg h1).trans ?_)
    rw [dif_neg (show ¬(j : ℕ) % 128 < 16 by omega), if_neg (show ¬(j : ℕ) % 128 - 16 < 16 by omega)]
    exact y2
end Rotation

/-- The reference's row of a head, before the norm. -/
theorem row_at (x0 : Vec Ideal S8192x2048 .bf16) (x1 : Vec Ideal S2048x7248 .f32) (q : Cert.DsaQRefIdeal.S2x4096x16x128.Idx)
    (r : Fin 8192) (j : Fin 7248) (hr : (r : ℕ) = (q 0 : ℕ) * 4096 + (q 1 : ℕ)) (hj : (j : ℕ) = (q 2 : ℕ) * 128 + (q 3 : ℕ)) :
    val_main_v5 (F := Ideal) x0 x1 q = ∑ e : Fin 2048, (x0 (ix2 r e) : EReal) * x1 (ix2 e j) := by
  have b0 : (q 0 : ℕ) < 2 := (q 0).isLt
  have b1 : (q 1 : ℕ) < 4096 := (q 1).isLt
  have b2 : (q 2 : ℕ) < 16 := (q 2).isLt
  have b3 : (q 3 : ℕ) < 128 := (q 3).isLt
  rw [val_main_v5_apply, val_main_v4_apply, val_main_v3_apply, val_main_v2_apply, val_main_v1_apply]
  refine Finset.sum_congr rfl fun e _ => congrArg₂ (fun x y : EReal => x * y) (congrArg x0 ?_) (congrArg x1 ?_)
  · refine funext fun a => Fin.ext ?_
    fin_cases a
    · dsimp; omega
    · rfl
  · refine funext fun a => Fin.ext ?_
    fin_cases a
    · rfl
    · dsimp; omega

/-- The column of the weights that lane `j` of a row of sixteen heads reads. -/
def col (j : ℕ) (h : j < 2048) : Fin 7248 := ⟨j, by omega⟩

/-- A lane of a row's product with the weights. -/
def full (x0 : Vec Ideal S8192x2048 .bf16) (x1 : Vec Ideal S2048x7248 .f32) (r : Fin 8192) (j : Fin 2048) : EReal :=
  ∑ e : Fin 2048, (x0 (ix2 r e) : EReal) * x1 (ix2 e (col j j.isLt))

/-- A row of sixteen heads `P`, each normed and scaled by the gain `g`. -/
def normed (P : Fin 2048 → EReal) (g : Vec Ideal S128 .f32) (j : Fin 2048) : EReal :=
  scaled (P j) (fun k => P ⟨(j : ℕ) / 128 * 128 + (k : ℕ), by omega⟩) (g (ix1 ⟨(j : ℕ) % 128, Nat.mod_lt _ (by decide)⟩))

/-- The reference's heads after the norm. -/
theorem norm_at (x0 : Vec Ideal S8192x2048 .bf16) (x1 : Vec Ideal S2048x7248 .f32) (x2 : Vec Ideal S128 .f32)
    (q : Cert.DsaQRefIdeal.S2x4096x16x128.Idx) (r : Fin 8192) (j : Fin 2048) (hr : (r : ℕ) = (q 0 : ℕ) * 4096 + (q 1 : ℕ))
    (hj : (j : ℕ) = (q 2 : ℕ) * 128 + (q 3 : ℕ)) :
    val_main_v18 (F := Ideal) x0 x1 x2 q = normed (full x0 x1 r) x2 j := by
  have b0 : (q 0 : ℕ) < 2 := (q 0).isLt
  have b1 : (q 1 : ℕ) < 4096 := (q 1).isLt
  have b2 : (q 2 : ℕ) < 16 := (q 2).isLt
  have b3 : (q 3 : ℕ) < 128 := (q 3).isLt
  have row : ∀ (q : Cert.DsaQRefIdeal.S2x4096x16x128.Idx) (j : Fin 2048), (r : ℕ) = (q 0 : ℕ) * 4096 + (q 1 : ℕ) →
      (j : ℕ) = (q 2 : ℕ) * 128 + (q 3 : ℕ) → val_main_v5 (F := Ideal) x0 x1 q = full x0 x1 r j := fun q j h0 hj =>
    row_at x0 x1 q r (col j j.isLt) h0 hj
  have sq : ∀ k : Fin 128, val_main_v6 (F := Ideal) x0 x1 (idx_main_v7 (idx_main_v8 (idx_main_v14 q)) k)
      = full x0 x1 r ⟨(j : ℕ) / 128 * 128 + (k : ℕ), by omega⟩ * full x0 x1 r ⟨(j : ℕ) / 128 * 128 + (k : ℕ), by omega⟩ := fun k => by
    rw [val_main_v6_apply, row _ ⟨(j : ℕ) / 128 * 128 + (k : ℕ), by omega⟩ (by dsimp; omega) (by dsimp; omega)]
    rfl
  rw [val_main_v18_apply, val_main_v15_apply, val_main_v14_apply, val_main_v13_apply, val_main_v12_apply,
    val_main_v10_apply, val_main_v8_apply, val_main_v7_apply, val_main_v9_apply, val_main_cst_0_apply, val_main_v11_apply,
    val_main_cst_1_apply, val_main_v17_apply, val_main_v16_apply, val_main_cst_apply, Finset.sum_congr rfl fun k _ => sq k,
    row q j hr hj]
  have e : idx_main_v16 (idx_main_v17 q) = ix1 ⟨(j : ℕ) % 128, Nat.mod_lt _ (by decide)⟩ := by
    refine funext fun a => Fin.ext ?_
    fin_cases a
    dsimp; omega
  rw [e]
  rw [show FloatOps.ofBits (F := Ideal) .f32 0#32 = (0 : EReal) from Ideal.ofBits_zero_f32, zero_add]
  rfl

/-- The reference's entry: a lane of the row's product, normed over its head and rotated by the row's position. -/
theorem ref_at (x0 : Vec Ideal S8192x2048 .bf16) (x1 : Vec Ideal S2048x7248 .f32) (x2 : Vec Ideal S128 .f32) (r : Fin 8192)
    (j : Fin 2048) :
    val_main_v49 (F := Ideal) x0 x1 x2 (ix2 r j) = roped (normed (full x0 x1 r) x2) ((r : ℕ) % 4096) j := by
  have e : idx_main_v49 (ix2 r j) = ix4 ⟨(r : ℕ) / 4096, by omega⟩ ⟨(r : ℕ) % 4096, by omega⟩ ⟨(j : ℕ) / 128, by omega⟩
      ⟨(j : ℕ) % 128, by omega⟩ := by
    refine funext fun a => Fin.ext ?_
    fin_cases a <;> dsimp <;> omega
  rw [val_main_v49_apply, e]
  refine (rot_at (val_main_v18 (F := Ideal) x0 x1 x2) _ _ ⟨(r : ℕ) % 4096, by omega⟩ _ _ (fun l j' h => ?_) j ?_)
  · exact norm_at x0 x1 x2 _ r j' (by dsimp; omega) (by simpa using h)
  · dsimp; omega

/-- The staged gain repeats the head's gain four times. -/
theorem gain_at (c : Dev nD) (t : Fin cfg0.N) (j : Fin 512) :
    iblk m c 2 t (ix2 0 j) = m ((c : Thread nD τ).loc main_arg2) (ix1 ⟨(j : ℕ) % 128, Nat.mod_lt _ (by decide)⟩) := by
  blk_point [iblk, V, idx t]

/-- What a grid point stores is the reference's entry. -/
theorem entry_ref (c : Dev nD) (t : Fin cfg0.N) (y : S1024x512.Idx) (i : S8192x2048.Idx)
    (h0 : (i 0 : ℕ) = t.val % 8 * 1024 + (y 0 : ℕ)) (h1 : (i 1 : ℕ) = t.val / 8 * 512 + (y 1 : ℕ)) :
    stored (iblk m c 0 t) (X0_1 m c t) (iblk m c 2 t) (iblk m c 3 t) (iblk m c 4 t) (iblk m c 5 t) (y 0) (y 1)
      = val_main_v49 (F := Ideal) (m ((c : Thread nD τ).loc main_arg0)) (m ((c : Thread nD τ).loc main_arg1))
          (m ((c : Thread nD τ).loc main_arg2)) i := by
  obtain ⟨r, j, rfl⟩ : ∃ (r : Fin 8192) (j : Fin 2048), i = ix2 r j := ⟨i 0, i 1, (ix2_eta i).symm⟩
  obtain ⟨a, b, rfl⟩ : ∃ (a : Fin 1024) (b : Fin 512), y = ix2 a b := ⟨y 0, y 1, (ix2_eta y).symm⟩
  dsimp only [ix2_0, ix2_1] at h0 h1 ⊢
  have bb : (b : ℕ) < 512 := b.isLt
  have jj : (j : ℕ) < 2048 := j.isLt
  have at_col : ∀ (b' : Fin 512) (j' : Fin 2048), (j' : ℕ) = t.val / 8 * 512 + (b' : ℕ) →
      prod (iblk m c 0 t) (X0_1 m c t) a b'
        = full (m ((c : Thread nD τ).loc main_arg0)) (m ((c : Thread nD τ).loc main_arg1)) r j' := fun b' j' hj => by
    unfold prod full
    refine Finset.sum_congr rfl fun e _ => congrArg₂ (fun x y : EReal => x * y) ?_ ?_
    · blk_point [iblk, V, idx t]
    · exact weights_at m c t _ (col j' j'.isLt) hj
  have aa : (a : ℕ) < 1024 := a.isLt
  have hp : (r : ℕ) % 4096 = t.val % 8 % 4 * 1024 + (a : ℕ) := by omega
  rw [ref_at]
  unfold stored
  rw [funext fun l => (tables_at m c t a _ hp l).1, funext fun l => (tables_at m c t a _ hp l).2.1,
    funext fun l => (tables_at m c t a _ hp l).2.2]
  refine turned_eq _ _ _ (t.val / 8) b j h1 fun b' j' hj => ?_
  have bb' : (b' : ℕ) < 512 := b'.isLt
  unfold entry normed
  rw [at_col b' j' hj, gain_at,
    funext fun k : Fin 128 => at_col ⟨(b' : ℕ) / 128 * 128 + (k : ℕ), by omega⟩ ⟨(j' : ℕ) / 128 * 128 + (k : ℕ), by omega⟩
      (by show (j' : ℕ) / 128 * 128 + (k : ℕ) = t.val / 8 * 512 + ((b' : ℕ) / 128 * 128 + (k : ℕ)); omega)]
  exact congrArg _ (congrArg _ (congrArg ix1 (Fin.ext (by dsimp; omega))))

/-- The output array is the reference's result. -/
theorem final (c : Dev nD) : (dats m 0 c).arrAt 6 cfg0.N
    = val_main_v50 (F := Ideal) (m ((c : Thread nD τ).loc main_arg0)) (m ((c : Thread nD τ).loc main_arg1))
        (m ((c : Thread nD τ).loc main_arg2)) := by
  refine (dats m 0 c).arrAt_eq_of_covers 6 _ (by decide +kernel) fun t _ y => ?_
  blk_simp
  rw [after0_6, point]
  refine entry_ref m c t y _ ?_ ?_
  · blk_simp [idx t]
  · blk_simp [idx t]

/-- The kernel and the reference leave the same array. -/
theorem algebraic : Cert.algebraic_DsaQIdeal_DsaQRefIdeal := fun m ρ m' ρ' _ hag =>
  ⟨_, Value.run_blocks m ρ, (θ_run Cert.DsaQRefIdeal.defs _ _).mono
    (fun _ h c => ⟨(h c).1.trans (by
      rw [val_main_v50_eq, (hag c).1, (hag c).2.1, (hag c).2.2, final]), (h c).2⟩)
    (Cert.DsaQRefIdeal.Value.run (F := Ideal) m' ρ')⟩

end Cert.DsaQIdeal.Hand
-- ==== Proof.DsaKClaim.lean ====
module
public import proofs.«01_k».proof.Proof.DsaKValue
public import proofs.«01_k».proof.Proof.DsaQClaim
public import proofs.«01_k».proof.Proof.Gen.DsaKRefIdeal.Run
public import proofs.«01_k».proof.Proof.Gen.DsaKRefIdeal.Read
public import Idealize.ShloMosaic.Lib.Pipeline.ValueKit

/-! The key projection of the sparse layer: the reference's entries, and the claim. -/

@[expose] public section

set_option maxRecDepth 16384

noncomputable section

namespace Cert.DsaKIdeal.Hand

open Cert.DsaKIdeal Cert.DsaKIdeal.Gen Idealize.ShloMosaic Idealize.ShloMosaic.TcCoe Idealize.SL.Sem
open Idealize.ShloMosaic.Pipeline (Dat)
open Cert.DsaKRefIdeal.Read
open Cert.ProjQIdeal.Hand (prod scaled entry)
open Cert.DsaQIdeal.Hand (stored normed roped rot_at turned_eq)

variable (m : (ℓ : Loc nD τ sig) → Buf (Elt Ideal) ℓ)

/-- The reference's row of a head, before the norm. -/
theorem row_at (x0 : Vec Ideal S8192x2048 .bf16) (x1 : Vec Ideal S2048x7248 .f32) (q : Cert.DsaKRefIdeal.S2x4096x16x128.Idx)
    (r : Fin 8192) (j : Fin 7248) (hr : (r : ℕ) = (q 0 : ℕ) * 4096 + (q 1 : ℕ)) (hj : (j : ℕ) = 2048 + ((q 2 : ℕ) * 128 + (q 3 : ℕ))) :
    val_main_v5 (F := Ideal) x0 x1 q = ∑ e : Fin 2048, (x0 (ix2 r e) : EReal) * x1 (ix2 e j) := by
  have b0 : (q 0 : ℕ) < 2 := (q 0).isLt
  have b1 : (q 1 : ℕ) < 4096 := (q 1).isLt
  have b2 : (q 2 : ℕ) < 16 := (q 2).isLt
  have b3 : (q 3 : ℕ) < 128 := (q 3).isLt
  rw [val_main_v5_apply, val_main_v4_apply, val_main_v3_apply, val_main_v2_apply, val_main_v1_apply]
  refine Finset.sum_congr rfl fun e _ => congrArg₂ (fun x y : EReal => x * y) (congrArg x0 ?_) (congrArg x1 ?_)
  · refine funext fun a => Fin.ext ?_
    fin_cases a
    · dsimp; omega
    · rfl
  · refine funext fun a => Fin.ext ?_
    fin_cases a
    · rfl
    · dsimp; omega

/-- The column of the weights that lane `j` of a row of sixteen heads reads. -/
def col (j : ℕ) (h : j < 2048) : Fin 7248 := ⟨2048 + j, by omega⟩

/-- A lane of a row's product with the weights. -/
def full (x0 : Vec Ideal S8192x2048 .bf16) (x1 : Vec Ideal S2048x7248 .f32) (r : Fin 8192) (j : Fin 2048) : EReal :=
  ∑ e : Fin 2048, (x0 (ix2 r e) : EReal) * x1 (ix2 e (col j j.isLt))

/-- The reference's heads after the norm. -/
theorem norm_at (x0 : Vec Ideal S8192x2048 .bf16) (x1 : Vec Ideal S2048x7248 .f32) (x2 : Vec Ideal S128 .f32)
    (q : Cert.DsaKRefIdeal.S2x4096x16x128.Idx) (r : Fin 8192) (j : Fin 2048) (hr : (r : ℕ) = (q 0 : ℕ) * 4096 + (q 1 : ℕ))
    (hj : (j : ℕ) = (q 2 : ℕ) * 128 + (q 3 : ℕ)) :
    val_main_v18 (F := Ideal) x0 x1 x2 q = normed (full x0 x1 r) x2 j := by
  have b0 : (q 0 : ℕ) < 2 := (q 0).isLt
  have b1 : (q 1 : ℕ) < 4096 := (q 1).isLt
  have b2 : (q 2 : ℕ) < 16 := (q 2).isLt
  have b3 : (q 3 : ℕ) < 128 := (q 3).isLt
  have row : ∀ (q : Cert.DsaKRefIdeal.S2x4096x16x128.Idx) (j : Fin 2048), (r : ℕ) = (q 0 : ℕ) * 4096 + (q 1 : ℕ) →
      (j : ℕ) = (q 2 : ℕ) * 128 + (q 3 : ℕ) → val_main_v5 (F := Ideal) x0 x1 q = full x0 x1 r j := fun q j h0 hj =>
    row_at x0 x1 q r (col j j.isLt) h0 (by show 2048 + (j : ℕ) = 2048 + ((q 2 : ℕ) * 128 + (q 3 : ℕ)); omega)
  have sq : ∀ k : Fin 128, val_main_v6 (F := Ideal) x0 x1 (idx_main_v7 (idx_main_v8 (idx_main_v14 q)) k)
      = full x0 x1 r ⟨(j : ℕ) / 128 * 128 + (k : ℕ), by omega⟩ * full x0 x1 r ⟨(j : ℕ) / 128 * 128 + (k : ℕ), by omega⟩ := fun k => by
    rw [val_main_v6_apply, row _ ⟨(j : ℕ) / 128 * 128 + (k : ℕ), by omega⟩ (by dsimp; omega) (by dsimp; omega)]
    rfl
  rw [val_main_v18_apply, val_main_v15_apply, val_main_v14_apply, val_main_v13_apply, val_main_v12_apply,
    val_main_v10_apply, val_main_v8_apply, val_main_v7_apply, val_main_v9_apply, val_main_cst_0_apply, val_main_v11_apply,
    val_main_cst_1_apply, val_main_v17_apply, val_main_v16_apply, val_main_cst_apply, Finset.sum_congr rfl fun k _ => sq k,
    row q j hr hj]
  have e : idx_main_v16 (idx_main_v17 q) = ix1 ⟨(j : ℕ) % 128, Nat.mod_lt _ (by decide)⟩ := by
    refine funext fun a => Fin.ext ?_
    fin_cases a
    dsimp; omega
  rw [e]
  rw [show FloatOps.ofBits (F := Ideal) .f32 0#32 = (0 : EReal) from Ideal.ofBits_zero_f32, zero_add]
  rfl

/-- The reference's entry: a lane of the row's product, normed over its head and rotated by the row's position. -/
theorem ref_at (x0 : Vec Ideal S8192x2048 .bf16) (x1 : Vec Ideal S2048x7248 .f32) (x2 : Vec Ideal S128 .f32) (r : Fin 8192)
    (j : Fin 2048) :
    val_main_v49 (F := Ideal) x0 x1 x2 (ix2 r j) = roped (normed (full x0 x1 r) x2) ((r : ℕ) % 4096) j := by
  have e : idx_main_v49 (ix2 r j) = ix4 ⟨(r : ℕ) / 4096, by omega⟩ ⟨(r : ℕ) % 4096, by omega⟩ ⟨(j : ℕ) / 128, by omega⟩
      ⟨(j : ℕ) % 128, by omega⟩ := by
    refine funext fun a => Fin.ext ?_
    fin_cases a <;> dsimp <;> omega
  rw [val_main_v49_apply, e]
  refine (rot_at (val_main_v18 (F := Ideal) x0 x1 x2) _ _ ⟨(r : ℕ) % 4096, by omega⟩ _ _ (fun l j' h => ?_) j ?_)
  · exact norm_at x0 x1 x2 _ r j' (by dsimp; omega) (by simpa using h)
  · dsimp; omega

/-- The staged gain repeats the head's gain four times. -/
theorem gain_at (c : Dev nD) (t : Fin cfg0.N) (j : Fin 512) :
    iblk m c 2 t (ix2 0 j) = m ((c : Thread nD τ).loc main_arg2) (ix1 ⟨(j : ℕ) % 128, Nat.mod_lt _ (by decide)⟩) := by
  blk_point [iblk, V, idx t]

/-- What a grid point stores is the reference's entry. -/
theorem entry_ref (c : Dev nD) (t : Fin cfg0.N) (y : S1024x512.Idx) (i : S8192x2048.Idx)
    (h0 : (i 0 : ℕ) = t.val % 8 * 1024 + (y 0 : ℕ)) (h1 : (i 1 : ℕ) = t.val / 8 * 512 + (y 1 : ℕ)) :
    stored (iblk m c 0 t) (X0_1 m c t) (iblk m c 2 t) (iblk m c 3 t) (iblk m c 4 t) (iblk m c 5 t) (y 0) (y 1)
      = val_main_v49 (F := Ideal) (m ((c : Thread nD τ).loc main_arg0)) (m ((c : Thread nD τ).loc main_arg1))
          (m ((c : Thread nD τ).loc main_arg2)) i := by
  obtain ⟨r, j, rfl⟩ : ∃ (r : Fin 8192) (j : Fin 2048), i = ix2 r j := ⟨i 0, i 1, (ix2_eta i).symm⟩
  obtain ⟨a, b, rfl⟩ : ∃ (a : Fin 1024) (b : Fin 512), y = ix2 a b := ⟨y 0, y 1, (ix2_eta y).symm⟩
  dsimp only [ix2_0, ix2_1] at h0 h1 ⊢
  have bb : (b : ℕ) < 512 := b.isLt
  have jj : (j : ℕ) < 2048 := j.isLt
  have at_col : ∀ (b' : Fin 512) (j' : Fin 2048), (j' : ℕ) = t.val / 8 * 512 + (b' : ℕ) →
      prod (iblk m c 0 t) (X0_1 m c t) a b'
        = full (m ((c : Thread nD τ).loc main_arg0)) (m ((c : Thread nD τ).loc main_arg1)) r j' := fun b' j' hj => by
    unfold prod full
    refine Finset.sum_congr rfl fun e _ => congrArg₂ (fun x y : EReal => x * y) ?_ ?_
    · blk_point [iblk, V, idx t]
    · exact weights_at m c t _ (col j' j'.isLt) (by show 2048 + (j' : ℕ) = (t.val / 8 + 4) * 512 + (b' : ℕ); omega)
  have aa : (a : ℕ) < 1024 := a.isLt
  have hp : (r : ℕ) % 4096 = t.val % 8 % 4 * 1024 + (a : ℕ) := by omega
  rw [ref_at]
  unfold stored
  rw [funext fun l => (tables_at m c t a _ hp l).1, funext fun l => (tables_at m c t a _ hp l).2.1,
    funext fun l => (tables_at m c t a _ hp l).2.2]
  refine turned_eq _ _ _ (t.val / 8) b j h1 fun b' j' hj => ?_
  have bb' : (b' : ℕ) < 512 := b'.isLt
  unfold entry normed
  rw [at_col b' j' hj, gain_at,
    funext fun k : Fin 128 => at_col ⟨(b' : ℕ) / 128 * 128 + (k : ℕ), by omega⟩ ⟨(j' : ℕ) / 128 * 128 + (k : ℕ), by omega⟩
      (by show (j' : ℕ) / 128 * 128 + (k : ℕ) = t.val / 8 * 512 + ((b' : ℕ) / 128 * 128 + (k : ℕ)); omega)]
  exact congrArg _ (congrArg _ (congrArg ix1 (Fin.ext (by dsimp; omega))))

/-- The full-width output array is the reference's first result. -/
theorem final (c : Dev nD) : (dats m 0 c).arrAt 6 cfg0.N
    = val_main_v49 (F := Ideal) (m ((c : Thread nD τ).loc main_arg0)) (m ((c : Thread nD τ).loc main_arg1))
        (m ((c : Thread nD τ).loc main_arg2)) := by
  refine (dats m 0 c).arrAt_eq_of_covers 6 _ (by decide +kernel) fun t _ y => ?_
  blk_simp
  rw [after0_6, point]
  refine entry_ref m c t y _ ?_ ?_
  · blk_simp [idx t]
  · blk_simp [idx t]

/-- The half-width output array is its second. -/
theorem final_half (c : Dev nD) : (dats m 0 c).arrAt 7 cfg0.N
    = val_main_v50 (F := Ideal) (m ((c : Thread nD τ).loc main_arg0)) (m ((c : Thread nD τ).loc main_arg1))
        (m ((c : Thread nD τ).loc main_arg2)) := by
  refine (dats m 0 c).arrAt_eq_of_covers 7 _ (by decide +kernel) fun t _ y => ?_
  blk_simp
  rw [after0_7, half]
  refine entry_ref m c t y _ ?_ ?_
  · blk_simp [idx t]
  · blk_simp [idx t]

/-- The kernel and the reference leave the same two arrays. -/
theorem algebraic : Cert.algebraic_DsaKIdeal_DsaKRefIdeal := fun m ρ m' ρ' _ hag =>
  ⟨_, _, Value.run_blocks m ρ, (θ_run Cert.DsaKRefIdeal.defs _ _).mono
    (fun _ h c => ⟨(h c).1.trans (by rw [val_main_v49_eq, (hag c).1, (hag c).2.1, (hag c).2.2, final]),
      (h c).2.1.trans (by rw [val_main_v50_eq, (hag c).1, (hag c).2.1, (hag c).2.2, final_half]), (h c).2.2⟩)
    (Cert.DsaKRefIdeal.Value.run (F := Ideal) m' ρ')⟩

end Cert.DsaKIdeal.Hand
-- ==== Proof.NormValue.lean ====
module
public import proofs.«01_k».proof.Defs
public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit

/-! The row norm: each of 32 rows divided by its root mean square and scaled by the gain, in one grid point. -/

@[expose] public section

set_option maxRecDepth 16384

noncomputable section

namespace Cert.NormIdeal.Hand

open Cert.NormIdeal Cert.NormIdeal.Gen Idealize.ShloMosaic Idealize.ShloMosaic.TcCoe Idealize.SL.Sem
open Idealize.ShloMosaic.Pipeline (Dat)
open Cert.NormRefIdeal.Read

variable (m : (ℓ : Loc nD τ sig) → Buf (Elt Ideal) ℓ)

/-- The one point works on the whole arrays. -/
theorem idx : ∀ t : Fin cfg0.N, win0_0.index t = ![0, 0] ∧ win0_1.index t = ![0, 0] ∧ win0_2.index t = ![0, 0] :=
  (by decide +kernel : ∀ t : Fin grid0.N, _)

/-- Lane `x` of a row `q` divided by the row's root mean square, times the gain. -/
def scaled (x : EReal) (q : Fin 2048 → EReal) (g : EReal) : EReal :=
  x * Ideal.rsqrt (Ideal.div (∑ k : Fin 2048, q k * q k) (Ideal.ofBits .f32 0x45000000#32)
    + Ideal.ofBits .f32 0x358637BD#32) * g

/-- What the point stores. -/
theorem pay_at (X : Vec Ideal S32x2048 .f32) (g : Vec Ideal S1x2048 .f32) (y : S32x2048.Idx) :
    k0_pay1 (F := Ideal) X g y = scaled (X y) (fun k => X (ix2 (y 0) k)) (g (ix2 0 (y 1))) := by
  pointwise [k0_pay1, scaled]

/-- The reference's entry. -/
theorem ref_at (x0 : Vec Ideal S32x2048 .f32) (x1 : Vec Ideal S2048 .f32) (y : S32x2048.Idx) :
    val_main_v12 (F := Ideal) x0 x1 y = scaled (x0 y) (fun k => x0 (ix2 (y 0) k)) (x1 (ix1 (y 1))) := by
  have sq : ∀ k : Fin 2048, val_main_v0 (F := Ideal) x0 (idx_main_v1 (idx_main_v2 (idx_main_v8 y)) k)
      = (x0 (ix2 (y 0) k) : EReal) * x0 (ix2 (y 0) k) := fun k => by
    have e : idx_main_v1 (idx_main_v2 (idx_main_v8 y)) k = ix2 (y 0) k := by
      refine funext fun a => Fin.ext ?_
      fin_cases a <;> rfl
    rw [val_main_v0_apply, e]
    rfl
  have e : idx_main_v10 (idx_main_v11 y) = ix1 (y 1) := by
    refine funext fun a => Fin.ext ?_
    fin_cases a
    rfl
  rw [val_main_v12_apply, val_main_v9_apply, val_main_v8_apply, val_main_v7_apply, val_main_v6_apply, val_main_v4_apply,
    val_main_v2_apply, val_main_v1_apply, val_main_v3_apply, val_main_cst_0_apply, val_main_v5_apply, val_main_cst_1_apply,
    val_main_v11_apply, val_main_v10_apply, val_main_cst_apply, Finset.sum_congr rfl fun k _ => sq k, e,
    show FloatOps.ofBits (F := Ideal) .f32 0#32 = (0 : EReal) from Ideal.ofBits_zero_f32, zero_add]
  rfl

/-- The output array is the reference's result. -/
theorem final (c : Dev nD) : (dats m 0 c).arrAt 2 cfg0.N
    = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [pay_at, ref_at]
  have row : ∀ k : Fin 2048, iblk m c 0 t (ix2 (y 0) k) = m ((c : Thread nD τ).loc main_arg0) (ix2 (y 0) k) := fun k => by
    blk_point [iblk, V, idx t]
  have gain : iblk m c 1 t (ix2 0 (y 1)) = m ((c : Thread nD τ).loc main_arg1) (ix1 (y 1)) := by
    blk_point [iblk, V, idx t]
  rw [gain, funext row]
  blk_point [iblk, V, idx t]

/-- The kernel and the reference leave the same array. -/
theorem algebraic : Cert.algebraic_NormIdeal_NormRefIdeal := fun m ρ m' ρ' _ hag =>
  ⟨_, Value.run_blocks m ρ, (θ_run Cert.NormRefIdeal.defs _ _).mono
    (fun _ h c => ⟨(h c).1.trans (by rw [val_main_v12_eq, (hag c).1, (hag c).2, final]), (h c).2⟩)
    (Cert.NormRefIdeal.Value.run (F := Ideal) m' ρ')⟩

end Cert.NormIdeal.Hand
-- ==== Proof.PoolSValue.lean ====
module
public import proofs.«01_k».proof.Defs
public import proofs.«01_k».proof.Proof.Gen.PoolSIdeal.Frame
public import proofs.«01_k».proof.Proof.Gen.PoolSRefIdeal.Run
public import proofs.«01_k».proof.Proof.Gen.PoolSRefIdeal.Read
public import Idealize.ShloMosaic.Lib.Pipeline.ValueKit

/-! The pooling state that the sample leaves: the old state's rows and then the four new normalised rows of each sequence,
of which the last fifteen stay. The region norms the 32 new rows in one grid point; the rest follows it on the host. -/

@[expose] public section

set_option maxRecDepth 16384

noncomputable section

namespace Cert.PoolSIdeal.Hand

open Cert.PoolSIdeal Cert.PoolSIdeal.Gen Idealize.ShloMosaic Idealize.ShloMosaic.TcCoe Idealize.SL.Sem
open Idealize.ShloMosaic.Pipeline (Dat)
open Cert.PoolSRefIdeal.Read

variable (m : (ℓ : Loc nD τ sig) → Buf (Elt Ideal) ℓ)

/-- The one point works on the whole arrays. -/
theorem idx : ∀ t : Fin cfg0.N, win0_0.index t = ![0, 0] ∧ win0_1.index t = ![0, 0] ∧ win0_2.index t = ![0, 0] :=
  (by decide +kernel : ∀ t : Fin grid0.N, _)

/-- Lane `x` of a row `q` divided by the row's root mean square, times the gain. -/
def scaled (x : EReal) (q : Fin 2048 → EReal) (g : EReal) : EReal :=
  x * Ideal.rsqrt (Ideal.div (∑ k : Fin 2048, q k * q k) (Ideal.ofBits .f32 0x45000000#32)
    + Ideal.ofBits .f32 0x358637BD#32) * g

/-- What the point stores. -/
theorem pay_at (X : Vec Ideal S32x2048 .f32) (g : Vec Ideal S1x2048 .f32) (y : S32x2048.Idx) :
    k0_pay1 (F := Ideal) X g y = scaled (X y) (fun k => X (ix2 (y 0) k)) (g (ix2 0 (y 1))) := by
  pointwise [k0_pay1, scaled]

/-- The reference's entry. -/
theorem ref_at (x1 : Vec Ideal S32x2048 .f32) (x2 : Vec Ideal S2048 .f32) (y : S32x2048.Idx) :
    val_main_v12 (F := Ideal) x1 x2 y = scaled (x1 y) (fun k => x1 (ix2 (y 0) k)) (x2 (ix1 (y 1))) := by
  have sq : ∀ k : Fin 2048, val_main_v0 (F := Ideal) x1 (idx_main_v1 (idx_main_v2 (idx_main_v8 y)) k)
      = (x1 (ix2 (y 0) k) : EReal) * x1 (ix2 (y 0) k) := fun k => by
    have e : idx_main_v1 (idx_main_v2 (idx_main_v8 y)) k = ix2 (y 0) k := by
      refine funext fun a => Fin.ext ?_
      fin_cases a <;> rfl
    rw [val_main_v0_apply, e]
    rfl
  have e : idx_main_v10 (idx_main_v11 y) = ix1 (y 1) := by
    refine funext fun a => Fin.ext ?_
    fin_cases a
    rfl
  rw [val_main_v12_apply, val_main_v9_apply, val_main_v8_apply, val_main_v7_apply, val_main_v6_apply, val_main_v4_apply,
    val_main_v2_apply, val_main_v1_apply, val_main_v3_apply, val_main_cst_0_apply, val_main_v5_apply, val_main_cst_1_apply,
    val_main_v11_apply, val_main_v10_apply, val_main_cst_apply, Finset.sum_congr rfl fun k _ => sq k, e,
    show FloatOps.ofBits (F := Ideal) .f32 0#32 = (0 : EReal) from Ideal.ofBits_zero_f32, zero_add]
  rfl

/-- The gain as the region finds it: the one row of the launched array. -/
theorem gain_row (c : Dev nD) : V m c main_v0
    = shapeCast S1x2048 (m ((c : Thread nD τ).loc main_arg2)) shapeCasts_S2048_S1x2048 := by
  simp only [V, V0, List.flatten_cons, List.flatten_nil, List.append_nil]
  after_results <;> rfl

/-- The array that the region leaves is the reference's row norm. -/
theorem final (c : Dev nD) : (dats m 0 c).arrAt 2 cfg0.N
    = val_main_v12 (F := Ideal) (m ((c : Thread nD τ).loc main_arg1)) (m ((c : Thread nD τ).loc main_arg2)) := by
  refine (dats m 0 c).arrAt_eq_of_covers 2 _ (by decide +kernel) fun t _ y => ?_
  blk_simp
  rw [after0_2]
  frame_out
  rw [pay_at, ref_at]
  have row : ∀ k : Fin 2048, iblk m c 0 t (ix2 (y 0) k) = m ((c : Thread nD τ).loc main_arg1) (ix2 (y 0) k) := fun k => by
    blk_point [iblk, V, V0, idx t]
  have gain : iblk m c 1 t (ix2 0 (y 1)) = m ((c : Thread nD τ).loc main_arg2) (ix1 (y 1)) := by
    unfold iblk
    rw [show V m c (Pipeline.arrRef spec0 1) = _ from gain_row m c]
    blk_simp [idx t]
    pointwise
    blk_ext [idx t]
  rw [gain, funext row]
  blk_point [iblk, V, V0, idx t]

/-- The operations after the region turn the rows that it leaves into the new state. -/
theorem tail (c : Dev nD) : Pipeline.afterTail₀ cfgs (dats m) 0 (V0 m) [hostOps1] c main_v4
    = val_main_v15 (F := Ideal) (m ((c : Thread nD τ).loc main_arg0)) (m ((c : Thread nD τ).loc main_arg1))
      (m ((c : Thread nD τ).loc main_arg2)) := by
  have rows := Pipeline.withArrays_arr spec0 launch0.win.arr_inj c (V0 m c) (fun w => (dats m 0 c).arrAt w cfg0.N) 2
  have old := Pipeline.withArrays_of_ne spec0 c (V0 m c) (fun w => (dats m 0 c).arrAt w cfg0.N) main_arg0
    (by exact (by decide : ∀ w, Pipeline.arrRef spec0 w ≠ main_arg0))
  rw [final] at rows
  rw [show V0 m c (Proc.devRef .tc main_arg0) = _ from V_main_arg0 m c] at old
  unfold Pipeline.afterTail₀
  generalize Pipeline.withArrays spec0 c (V0 m c) (fun w => (dats m 0 c).arrAt w cfg0.N) = W at rows old
  simp only [List.flatten_cons, List.flatten_nil, List.append_nil]
  after_results
  rw [rows, old]
  rfl

/-- The kernel and the reference leave the same array. -/
theorem algebraic : Cert.algebraic_PoolSIdeal_PoolSRefIdeal := fun m ρ m' ρ' _ hag =>
  ⟨_, (θ_run Cert.PoolSIdeal.defs _ _).mono
    (fun _ h c => ⟨((h c).2 main_v4 (Pipeline.mem_restRefs_of main_v4 (by decide) (by decide))).trans (tail m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ), (θ_run Cert.PoolSRefIdeal.defs _ _).mono
    (fun _ h c => ⟨(h c).1.trans (by rw [val_main_v15_eq, (hag c).1, (hag c).2.1, (hag c).2.2]), (h c).2⟩)
    (Cert.PoolSRefIdeal.Value.run (F := Ideal) m' ρ')⟩

end Cert.PoolSIdeal.Hand
-- ==== Proof.OutProjSValue.lean ====
module
public import proofs.«01_k».proof.Defs
public import proofs.«01_k».proof.Proof.Gen.OutProjSIdeal.Value
public import proofs.«01_k».proof.Proof.Gen.OutProjSRefIdeal.Run
public import proofs.«01_k».proof.Proof.Gen.OutProjSRefIdeal.Read
public import Idealize.ShloMosaic.Lib.Pipeline.ValueKit

/-! The output projection of an attention layer for the sample's 32 rows: `res + a @ w`, one block of 512 columns per grid
    point.  There is one row block, so every point casts its own weights. -/

@[expose] public section

set_option maxRecDepth 16384

noncomputable section

namespace Cert.OutProjSIdeal.Hand

open Cert.OutProjSIdeal Cert.OutProjSIdeal.Gen Idealize.ShloMosaic Idealize.ShloMosaic.TcCoe Idealize.SL.Sem
open Idealize.ShloMosaic.Pipeline (Dat)
open Idealize.ShloMosaic.ValueIdx
open Cert.OutProjSRefIdeal.Read

variable (m : (ℓ : Loc nD τ sig) → Buf (Elt Ideal) ℓ)

/-- Point `t` works on column block `t`. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

/-- The cast of the weights changes nothing over the reals. -/
theorem pay1_eq (W : Vec Ideal S2048x512 .f32) : k0_pay1 (F := Ideal) W = W := funext fun j => by
  pointwise [k0_pay1]

/-- Every point stores its residual block plus the rows times its weight block. -/
theorem point (c : Dev nD) (t : Fin cfg0.N) (y : S32x512.Idx) :
    outsAt0 m c t y = k0_pay2 (F := Ideal) (iblk m c 2 t) (iblk m c 0 t) (iblk m c 1 t) y := by
  unfold outsAt0
  frame_out
  rw [pay1_eq]

/-- The output array is the reference's result. -/
theorem final (c : Dev nD) : (dats m 0 c).arrAt 3 cfg0.N
    = val_main_v2 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, point, val_main_v2_apply, val_main_v1_apply]
  pointwise [k0_pay2, val_main_v0]
  blk_point [iblk, V, idx t]

/-- The kernel and the reference leave the same array. -/
theorem algebraic : Cert.algebraic_OutProjSIdeal_OutProjSRefIdeal := fun m ρ m' ρ' _ hag =>
  ⟨_, Value.run_blocks m ρ, (θ_run Cert.OutProjSRefIdeal.defs _ _).mono
    (fun _ h c => ⟨(h c).1.trans (by
      rw [(hag c).1, (hag c).2.1, (hag c).2.2, final, val_main_v2_eq]), (h c).2⟩)
    (Cert.OutProjSRefIdeal.Value.run (F := Ideal) m' ρ')⟩

end Cert.OutProjSIdeal.Hand
-- ==== Proof.UpSValue.lean ====
module
public import proofs.«01_k».proof.Defs
public import proofs.«01_k».proof.Proof.Gen.UpSIdeal.Value
public import proofs.«01_k».proof.Proof.Gen.UpSRefIdeal.Run
public import proofs.«01_k».proof.Proof.Gen.UpSRefIdeal.Read
public import Idealize.ShloMosaic.Lib.Pipeline.ValueKit

/-! The gated up projection of the feed-forward layer for the sample's 32 rows: `silu (h @ w_gate) * (h @ w_up)`, one block
    of 512 columns per grid point.  There is one row block, so every point casts its own weights. -/

@[expose] public section

set_option maxRecDepth 16384

noncomputable section

namespace Cert.UpSIdeal.Hand

open Cert.UpSIdeal Cert.UpSIdeal.Gen Idealize.ShloMosaic Idealize.ShloMosaic.TcCoe Idealize.SL.Sem
open Idealize.ShloMosaic.Pipeline (Dat)
open Idealize.ShloMosaic.ValueIdx
open Cert.UpSRefIdeal.Read

variable (m : (ℓ : Loc nD τ sig) → Buf (Elt Ideal) ℓ)

/-- Point `t` works on column block `t`. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

/-- Every point stores the gated product of the rows with its two weight blocks. -/
theorem point (c : Dev nD) (t : Fin cfg0.N) (y : S32x512.Idx) :
    outsAt0 m c t y = k0_pay3 (F := Ideal) (iblk m c 0 t) (iblk m c 1 t) (iblk m c 2 t) y := by
  unfold outsAt0
  frame_out
  rw [show k0_pay1 (F := Ideal) (iblk m c 1 t) = iblk m c 1 t from funext fun j => by pointwise [k0_pay1],
    show k0_pay2 (F := Ideal) (iblk m c 2 t) = iblk m c 2 t from funext fun j => by pointwise [k0_pay2]]

/-- The output array is the reference's result. -/
theorem final (c : Dev nD) : (dats m 0 c).arrAt 3 cfg0.N
    = val_main_v5 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, point]
  simp only [val_main_v5_apply, val_main_v4_apply, val_main_v3_apply, val_main_v2_apply, val_main_v1_apply,
    val_main_call0_v5_apply, val_main_call0_v4_apply, val_main_call0_v3_apply, val_main_call0_v2_apply,
    val_main_call0_v1_apply, val_main_call0_v0_apply, val_main_call0_cst_apply, val_main_call0_cst_0_apply]
  pointwise [k0_pay3, val_main_v0]
  rw [sub_eq_add_neg, zero_add]
  blk_point [iblk, V, idx t]

/-- The kernel and the reference leave the same array. -/
theorem algebraic : Cert.algebraic_UpSIdeal_UpSRefIdeal := fun m ρ m' ρ' _ hag =>
  ⟨_, Value.run_blocks m ρ, (θ_run Cert.UpSRefIdeal.defs _ _).mono
    (fun _ h c => ⟨(h c).1.trans (by
      rw [(hag c).1, (hag c).2.1, (hag c).2.2, final, val_main_v5_eq]), (h c).2⟩)
    (Cert.UpSRefIdeal.Value.run (F := Ideal) m' ρ')⟩

end Cert.UpSIdeal.Hand
-- ==== Proof.SampleHeads.lean ====
module
public import proofs.«01_k».proof.Defs
public import proofs.«01_k».proof.Proof.Gen.ProjKSIdeal.Value
public import proofs.«01_k».proof.Proof.ProjQValue
public import Idealize.ShloMosaic.Lib.Pipeline.ValueKit

/-! Heads of the sample's 32 rows: four heads of 128 lanes, each divided by its root mean square and scaled by its gain.  The
    prompt's lemmas have chunks of 256 rows; a lane's value is named as there. -/

@[expose] public section

set_option maxRecDepth 16384

noncomputable section

namespace Cert.ProjKSIdeal.Hand

open Cert.ProjKSIdeal Cert.ProjKSIdeal.Gen Idealize.ShloMosaic Idealize.ShloMosaic.TcCoe Idealize.SL.Sem
open Cert.ProjQIdeal.Hand (scaled entry)

/-- One head of 128 lanes, divided by its root mean square and scaled by a gain. -/
def head (x : FVec Ideal S32x128 .f32) (g : FVec Ideal S1x128 .f32) : FVec Ideal S32x128 .f32 :=
  mulf (mulf x (broadcastTo S32x128 (rsqrt (addf (divf (shapeCast S32x1
    (multiReduction .add [1] S32 (mulf x x) 0x00000000#32 reduces_S32x128_S32 (.inl rfl) rfl) shapeCasts_S32_S32x1)
    (broadcast S32x1 (Scalar.ofBits .f32 0x43000000#32))) (broadcast S32x1 (Scalar.ofBits .f32 0x358637BD#32))))
    broadcasts_S32x1_S32x128)) (broadcastTo S32x128 (shapeCast S1x128 g shapeCasts_S1x128_S1x128) broadcasts_S1x128_S32x128)

/-- The four heads of a row, normed and joined. -/
def heads (v : FVec Ideal S32x512 .f32) (g0 g1 g2 g3 : FVec Ideal S1x128 .f32) : FVec Ideal S32x512 .f32 :=
  concatenate S32x512 1 [⟨S32x128, head (extractStridedSlice S32x128 ![0, 0] v slices_S32x512_o0_0_S32x128) g0⟩,
    ⟨S32x128, head (extractStridedSlice S32x128 ![0, 128] v slices_S32x512_o0_128_S32x128) g1⟩,
    ⟨S32x128, head (extractStridedSlice S32x128 ![0, 256] v slices_S32x512_o0_256_S32x128) g2⟩,
    ⟨S32x128, head (extractStridedSlice S32x128 ![0, 384] v slices_S32x512_o0_384_S32x128) g3⟩]
    concatenates_S32x128_S32x128_S32x128_S32x128_S32x512_d1

/-- An entry of a head. -/
theorem head_at (x : FVec Ideal S32x128 .f32) (g : FVec Ideal S1x128 .f32) (y : S32x128.Idx) :
    head x g y = scaled (x y) (fun k => x (ix2 (y 0) k)) (g (ix2 0 (y 1))) := by
  pointwise [head, scaled]

/-- One head of a row, at a lane of the row. -/
theorem head_lane (v : FVec Ideal S32x512 .f32) (g : Vec Ideal S1x512 .f32) (o : ℕ) (hs : S32x512.Slices ![0, o] S32x128)
    (b : ∀ a, (![0, o] : Fin 2 → ℕ) a + (![1, 128] : Fin 2 → ℕ) a ≤ S1x512.size a) (r : Fin 32) (l : Fin 128) (j : Fin 512)
    (hj : (j : ℕ) = o + (l : ℕ)) (ho : (j : ℕ) / 128 * 128 = o) :
    head (extractStridedSlice S32x128 ![0, o] v hs) (View.ld g (Rect.unit ![0, o] ![1, 128] b)) (ix2 r l)
      = entry (fun j => v (ix2 r j)) g j := by
  have cut : ∀ k : Fin 128, ∀ i : Fin 512, (i : ℕ) = o + (k : ℕ) →
      extractStridedSlice S32x128 ![0, o] v hs (ix2 r k) = v (ix2 r i) := fun k i hi =>
    extractStridedSlice_apply ![0, o] v hs (ix2 r k) (ix2 r i) fun a => by
      fin_cases a
      · show (r : ℕ) = 0 + (r : ℕ); omega
      · show (i : ℕ) = o + (k : ℕ); omega
  rw [head_at]
  unfold entry
  have e : View.ld g (Rect.unit ![0, o] ![1, 128] b) (ix2 0 l) = g (ix2 0 j) := by
    refine congrArg g (funext fun a => Fin.ext ?_)
    fin_cases a
    · show 0 + 1 * 0 = 0; rfl
    · show o + 1 * (l : ℕ) = (j : ℕ); omega
  show scaled (extractStridedSlice S32x128 ![0, o] v hs (ix2 r l)) (fun k => extractStridedSlice S32x128 ![0, o] v hs (ix2 r k))
    (View.ld g (Rect.unit ![0, o] ![1, 128] b) (ix2 0 l)) = _
  rw [cut l j hj, e, funext fun k => cut k ⟨(j : ℕ) / 128 * 128 + (k : ℕ), by omega⟩ (by show _ + (k : ℕ) = o + (k : ℕ); omega)]

/-- Every lane of the four joined heads. -/
theorem heads_at (v : FVec Ideal S32x512 .f32) (g : Vec Ideal S1x512 .f32) (y : S32x512.Idx) :
    heads v (View.ld g (Rect.unit ![0, 0] ![1, 128] inb_S1x512_S1x128_0_0)) (View.ld g (Rect.unit ![0, 128] ![1, 128] inb_S1x512_S1x128_0_128))
      (View.ld g (Rect.unit ![0, 256] ![1, 128] inb_S1x512_S1x128_0_256)) (View.ld g (Rect.unit ![0, 384] ![1, 128] inb_S1x512_S1x128_0_384)) y
      = entry (fun j => v (ix2 (y 0) j)) g (y 1) := by
  have b1 : (y 1 : ℕ) < 512 := (y 1).isLt
  pointwise [heads]
  by_cases h0 : (y 1 : ℕ) < 128
  · rw [dif_pos h0]
    exact head_lane v g 0 _ _ (y 0) ⟨(y 1 : ℕ), h0⟩ (y 1) (by show (y 1 : ℕ) = 0 + (y 1 : ℕ); omega) (by omega)
  by_cases h1 : (y 1 : ℕ) - 128 < 128
  · rw [dif_neg h0, dif_pos h1]
    exact head_lane v g 128 _ _ (y 0) ⟨(y 1 : ℕ) - 128, h1⟩ (y 1) (by show (y 1 : ℕ) = 128 + ((y 1 : ℕ) - 128); omega) (by omega)
  by_cases h2 : (y 1 : ℕ) - 128 - 128 < 128
  · rw [dif_neg h0, dif_neg h1, dif_pos h2]
    exact head_lane v g 256 _ _ (y 0) ⟨(y 1 : ℕ) - 128 - 128, h2⟩ (y 1)
      (by show (y 1 : ℕ) = 256 + ((y 1 : ℕ) - 128 - 128); omega) (by omega)
  · rw [dif_neg h0, dif_neg h1, dif_neg h2]
    exact head_lane v g 384 _ _ (y 0) ⟨(y 1 : ℕ) - 128 - 128 - 128, by omega⟩ (y 1)
      (by show (y 1 : ℕ) = 384 + ((y 1 : ℕ) - 128 - 128 - 128); omega) (by omega)

/-- Entry `(r, j)` of the product of the rows and a weight block. -/
def prod (X : Vec Ideal S32x2048 .bf16) (W : Vec Ideal S2048x512 .bf16) (r : Fin 32) (j : Fin 512) : EReal :=
  ∑ e : Fin 2048, X (ix2 r e) * W (ix2 e j)

/-- The product a grid point makes. -/
theorem pay4_at (X : Vec Ideal S32x2048 .bf16) (W : Vec Ideal S2048x512 .bf16) (r : Fin 32) (j : Fin 512) :
    k0_pay4 (F := Ideal) W X (ix2 r j) = prod X W r j := by
  pointwise [k0_pay4, prod]

/-- The cast of the weights changes nothing over the reals. -/
theorem pay3_eq (W : Vec Ideal S2048x512 .bf16) : k0_pay3 (F := Ideal) W = W := funext fun j => by
  pointwise [k0_pay3]

/-- What is stored for the rows. -/
theorem stored_at (X : Vec Ideal S32x2048 .bf16) (W : Vec Ideal S2048x512 .bf16) (g : Vec Ideal S1x512 .f32) (y : S32x512.Idx) :
    heads (k0_pay4 (F := Ideal) W X)
      (View.ld g (Rect.unit ![0, 0] ![1, 128] inb_S1x512_S1x128_0_0)) (View.ld g (Rect.unit ![0, 128] ![1, 128] inb_S1x512_S1x128_0_128))
      (View.ld g (Rect.unit ![0, 256] ![1, 128] inb_S1x512_S1x128_0_256)) (View.ld g (Rect.unit ![0, 384] ![1, 128] inb_S1x512_S1x128_0_384)) y
      = entry (prod X W (y 0)) g (y 1) := by
  rw [heads_at]
  exact congrArg (fun P => entry P g (y 1)) (funext fun j => pay4_at X W (y 0) j)

end Cert.ProjKSIdeal.Hand
-- ==== Proof.ProjQSValue.lean ====
module
public import proofs.«01_k».proof.Defs
public import proofs.«01_k».proof.Proof.Gen.ProjQSIdeal.Value
public import proofs.«01_k».proof.Proof.Gen.ProjQSRefIdeal.Run
public import proofs.«01_k».proof.Proof.Gen.ProjQSRefIdeal.Read
public import proofs.«01_k».proof.Proof.SampleHeads
public import Idealize.ShloMosaic.Lib.Pipeline.ValueKit

/-! The query projection of a stick-breaking layer for the sample's 32 rows: the first third of the columns of `h @ w`, each
    head of 128 lanes divided by its root mean square and scaled, one block of 512 columns
    per grid point. -/

@[expose] public section

set_option maxRecDepth 16384

noncomputable section

namespace Cert.ProjQSIdeal.Hand

open Cert.ProjQSIdeal Cert.ProjQSIdeal.Gen Idealize.ShloMosaic Idealize.ShloMosaic.TcCoe Idealize.SL.Sem
open Idealize.ShloMosaic.Pipeline (Dat)
open Cert.ProjQSRefIdeal.Read
open Cert.ProjQIdeal.Hand (scaled entry)
open Cert.ProjKSIdeal.Hand (prod heads stored_at)

variable (m : (ℓ : Loc nD τ sig) → Buf (Elt Ideal) ℓ)

/-- Point `t` works on column block `t`. -/
theorem idx : ∀ t : Fin cfg0.N, win0_0.index t = ![0, 0] ∧ win0_1.index t = ![0, t.val]
    ∧ win0_2.index t = ![0, 0] ∧ win0_3.index t = ![0, t.val] :=
  (by decide +kernel : ∀ t : Fin grid0.N, _)

/-- The cast of the weights changes nothing over the reals. -/
theorem pay2_eq (W : Vec Ideal S2048x512 .f32) : k0_pay2 (F := Ideal) W = W := funext fun j => by
  pointwise [k0_pay2]

/-- Every point stores the rows times its weight block, each head normed.  The four heads are those of the key projection. -/
theorem point (c : Dev nD) (t : Fin cfg0.N) (y : S32x512.Idx) :
    outsAt0 m c t y = entry (prod (iblk m c 0 t) (iblk m c 1 t) (y 0)) (iblk m c 2 t) (y 1) := by
  unfold outsAt0
  frame_out
  rw [pay2_eq]
  exact stored_at _ _ _ y

/-- The reference's row of a head, before the norm. -/
theorem row_at (x0 : Vec Ideal S32x2048 .bf16) (x1 : Vec Ideal S2048x6144 .f32) (i : Cert.ProjQSRefIdeal.S32x16x128.Idx) (j : Fin 6144)
    (hj : (j : ℕ) = (i 1 : ℕ) * 128 + (i 2 : ℕ)) :
    val_main_v4 (F := Ideal) x0 x1 i = ∑ e : Fin 2048, (x0 (ix2 (i 0) e) : EReal) * x1 (ix2 e j) := by
  have b0 : (i 0 : ℕ) < 32 := (i 0).isLt
  have b1 : (i 1 : ℕ) < 16 := (i 1).isLt
  have b2 : (i 2 : ℕ) < 128 := (i 2).isLt
  rw [val_main_v4_apply, val_main_v3_apply, val_main_v2_apply, val_main_v1_apply]
  refine Finset.sum_congr rfl fun e _ => congrArg₂ (fun x y : EReal => x * y) (congrArg x0 ?_) (congrArg x1 ?_)
  · refine funext fun a => Fin.ext ?_
    fin_cases a
    · dsimp; omega
    · rfl
  · refine funext fun a => Fin.ext ?_
    fin_cases a
    · rfl
    · dsimp; omega

/-- The column of the weights that lane `j` of a row of sixteen heads reads. -/
def col (j : ℕ) (h : j < 2048) : Fin 6144 := ⟨j, by omega⟩

/-- A lane of a row's product with the weights. -/
def full (x0 : Vec Ideal S32x2048 .bf16) (x1 : Vec Ideal S2048x6144 .f32) (r : Fin 32) (j : Fin 2048) : EReal :=
  ∑ e : Fin 2048, (x0 (ix2 r e) : EReal) * x1 (ix2 e (col j j.isLt))

/-- The reference's entry: a lane of the row's product, normed over its head. -/
theorem ref_at (x0 : Vec Ideal S32x2048 .bf16) (x1 : Vec Ideal S2048x6144 .f32) (x2 : Vec Ideal S128 .f32) (r : Fin 32)
    (j : Fin 2048) (P : Fin 2048 → EReal) (hP : ∀ j : Fin 2048, P j = full x0 x1 r j) :
    val_main_v18 (F := Ideal) x0 x1 x2 (ix2 r j)
      = scaled (P j) (fun k => P ⟨(j : ℕ) / 128 * 128 + (k : ℕ), by omega⟩) (x2 (ix1 ⟨(j : ℕ) % 128, Nat.mod_lt _ (by decide)⟩)) := by
  have row : ∀ (q : Cert.ProjQSRefIdeal.S32x16x128.Idx) (j : Fin 2048), (q 0 : ℕ) = (r : ℕ) → (j : ℕ) = (q 1 : ℕ) * 128 + (q 2 : ℕ) →
      val_main_v4 (F := Ideal) x0 x1 q = P j := fun q j h0 hj => by
    rw [row_at x0 x1 q (col j j.isLt) hj, hP, show q 0 = r from Fin.ext h0]
    rfl
  have sq : ∀ k : Fin 128, val_main_v5 (F := Ideal) x0 x1 (idx_main_v6 (idx_main_v7 (idx_main_v13 (idx_main_v18 (ix2 r j)))) k)
      = P ⟨(j : ℕ) / 128 * 128 + (k : ℕ), by omega⟩ * P ⟨(j : ℕ) / 128 * 128 + (k : ℕ), by omega⟩ := fun k => by
    rw [val_main_v5_apply, row _ ⟨(j : ℕ) / 128 * 128 + (k : ℕ), by omega⟩ (by dsimp; omega) (by dsimp; omega)]
    rfl
  rw [val_main_v18_apply, val_main_v17_apply, val_main_v14_apply, val_main_v13_apply, val_main_v12_apply, val_main_v11_apply,
    val_main_v9_apply, val_main_v7_apply, val_main_v6_apply, val_main_v8_apply, val_main_cst_0_apply, val_main_v10_apply,
    val_main_cst_1_apply, val_main_v16_apply, val_main_v15_apply, val_main_cst_apply, Finset.sum_congr rfl fun k _ => sq k,
    row (idx_main_v18 (ix2 r j)) j (by dsimp; omega) (by dsimp; omega)]
  have e : idx_main_v15 (idx_main_v16 (idx_main_v18 (ix2 r j))) = ix1 ⟨(j : ℕ) % 128, Nat.mod_lt _ (by decide)⟩ := by
    refine funext fun a => Fin.ext ?_
    fin_cases a
    dsimp; omega
  rw [e]
  rw [show FloatOps.ofBits (F := Ideal) .f32 0#32 = (0 : EReal) from Ideal.ofBits_zero_f32, zero_add]
  rfl

/-- The staged gain repeats the head's gain four times. -/
theorem gain_at (c : Dev nD) (t : Fin cfg0.N) (j : Fin 512) :
    iblk m c 2 t (ix2 0 j) = m ((c : Thread nD τ).loc main_arg2) (ix1 ⟨(j : ℕ) % 128, Nat.mod_lt _ (by decide)⟩) := by
  blk_point [iblk, V, idx t]

/-- What a grid point stores is the reference's entry. -/
theorem entry_ref (c : Dev nD) (t : Fin cfg0.N) (y : S32x512.Idx) (i : S32x2048.Idx)
    (h0 : (i 0 : ℕ) = (y 0 : ℕ)) (h1 : (i 1 : ℕ) = t.val * 512 + (y 1 : ℕ)) :
    entry (prod (iblk m c 0 t) (iblk m c 1 t) (y 0)) (iblk m c 2 t) (y 1)
      = val_main_v18 (F := Ideal) (m ((c : Thread nD τ).loc main_arg0)) (m ((c : Thread nD τ).loc main_arg1))
          (m ((c : Thread nD τ).loc main_arg2)) i := by
  obtain ⟨r, j, rfl⟩ : ∃ (r : Fin 32) (j : Fin 2048), i = ix2 r j := ⟨i 0, i 1, (ix2_eta i).symm⟩
  obtain ⟨a, b, rfl⟩ : ∃ (a : Fin 32) (b : Fin 512), y = ix2 a b := ⟨y 0, y 1, (ix2_eta y).symm⟩
  dsimp only [ix2_0, ix2_1] at h0 h1 ⊢
  have bb : (b : ℕ) < 512 := b.isLt
  have jj : (j : ℕ) < 2048 := j.isLt
  have at_col : ∀ (b' : Fin 512) (j' : Fin 2048), (j' : ℕ) = t.val * 512 + (b' : ℕ) →
      prod (iblk m c 0 t) (iblk m c 1 t) a b'
        = full (m ((c : Thread nD τ).loc main_arg0)) (m ((c : Thread nD τ).loc main_arg1)) r j' := fun b' j' hj => by
    unfold prod full col
    refine Finset.sum_congr rfl fun e _ => congrArg₂ (fun x y : EReal => x * y) ?_ ?_
    · blk_point [iblk, V, idx t]
    · blk_point [iblk, V, idx t]
  rw [ref_at _ _ _ r j _ (fun _ => rfl)]
  unfold entry
  rw [at_col b j h1, gain_at,
    funext fun k : Fin 128 => at_col ⟨(b : ℕ) / 128 * 128 + (k : ℕ), by omega⟩ ⟨(j : ℕ) / 128 * 128 + (k : ℕ), by omega⟩
      (by show (j : ℕ) / 128 * 128 + (k : ℕ) = t.val * 512 + ((b : ℕ) / 128 * 128 + (k : ℕ)); omega)]
  exact congrArg _ (congrArg _ (congrArg ix1 (Fin.ext (by dsimp; omega))))

/-- The output array is the reference's result. -/
theorem final (c : Dev nD) : (dats m 0 c).arrAt 3 cfg0.N
    = val_main_v19 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, point]
  refine entry_ref m c t y _ ?_ ?_
  · blk_simp [idx t]
  · blk_simp [idx t]

/-- The kernel and the reference leave the same array. -/
theorem algebraic : Cert.algebraic_ProjQSIdeal_ProjQSRefIdeal := fun m ρ m' ρ' _ hag =>
  ⟨_, Value.run_blocks m ρ, (θ_run Cert.ProjQSRefIdeal.defs _ _).mono
    (fun _ h c => ⟨(h c).1.trans (by
      rw [(hag c).1, (hag c).2.1, (hag c).2.2, final, val_main_v19_eq]), (h c).2⟩)
    (Cert.ProjQSRefIdeal.Value.run (F := Ideal) m' ρ')⟩

end Cert.ProjQSIdeal.Hand
-- ==== Proof.PoolPValue.lean ====
module
public import proofs.«01_k».proof.Defs
public import proofs.«01_k».proof.Proof.Gen.PoolPIdeal.Frame
public import proofs.«01_k».proof.Proof.Gen.PoolPRefIdeal.Run
public import proofs.«01_k».proof.Proof.Gen.PoolPRefIdeal.Read
public import Idealize.ShloMosaic.Lib.Pipeline.ValueKit

/-! The pooling state that the prompt leaves: the last fifteen normalised rows of each prompt. The host takes the last sixteen
rows of each, the region norms these 32 rows in one grid point, and the host drops the first of each sixteen. -/

@[expose] public section

set_option maxRecDepth 16384

noncomputable section

namespace Cert.PoolPIdeal.Hand

open Cert.PoolPIdeal Cert.PoolPIdeal.Gen Idealize.ShloMosaic Idealize.ShloMosaic.TcCoe Idealize.SL.Sem
open Idealize.ShloMosaic.Pipeline (Dat)
open Cert.PoolPRefIdeal.Read

variable (m : (ℓ : Loc nD τ sig) → Buf (Elt Ideal) ℓ)

/-- The one point works on the whole arrays. -/
theorem idx : ∀ t : Fin cfg0.N, win0_0.index t = ![0, 0] ∧ win0_1.index t = ![0, 0] ∧ win0_2.index t = ![0, 0] :=
  (by decide +kernel : ∀ t : Fin grid0.N, _)

/-- Lane `x` of a row `q` divided by the row's root mean square, times the gain. -/
def scaled (x : EReal) (q : Fin 2048 → EReal) (g : EReal) : EReal :=
  x * Ideal.rsqrt (Ideal.div (∑ k : Fin 2048, q k * q k) (Ideal.ofBits .f32 0x45000000#32)
    + Ideal.ofBits .f32 0x358637BD#32) * g

/-- What the point stores. -/
theorem pay_at (X : Vec Ideal S32x2048 .f32) (g : Vec Ideal S1x2048 .f32) (y : S32x2048.Idx) :
    k0_pay1 (F := Ideal) X g y = scaled (X y) (fun k => X (ix2 (y 0) k)) (g (ix2 0 (y 1))) := by
  pointwise [k0_pay1, scaled]

/-- The row of the prompts that row `r` of the region's array comes from. -/
def source (r : Fin 32) : Fin 8192 := ⟨(r : ℕ) / 16 * 4096 + 4080 + (r : ℕ) % 16, by omega⟩

/-- The reference's normed rows. -/
theorem ref_at (x0 : Vec Ideal S8192x2048 .f32) (x1 : Vec Ideal S2048 .f32) (y : S8192x2048.Idx) :
    val_main_v12 (F := Ideal) x0 x1 y = scaled (x0 y) (fun k => x0 (ix2 (y 0) k)) (x1 (ix1 (y 1))) := by
  have sq : ∀ k : Fin 2048, val_main_v0 (F := Ideal) x0 (idx_main_v1 (idx_main_v2 (idx_main_v8 y)) k)
      = (x0 (ix2 (y 0) k) : EReal) * x0 (ix2 (y 0) k) := fun k => by
    have e : idx_main_v1 (idx_main_v2 (idx_main_v8 y)) k = ix2 (y 0) k := by
      refine funext fun a => Fin.ext ?_
      fin_cases a <;> rfl
    rw [val_main_v0_apply, e]
    rfl
  have e : idx_main_v10 (idx_main_v11 y) = ix1 (y 1) := by
    refine funext fun a => Fin.ext ?_
    fin_cases a
    rfl
  rw [val_main_v12_apply, val_main_v9_apply, val_main_v8_apply, val_main_v7_apply, val_main_v6_apply, val_main_v4_apply,
    val_main_v2_apply, val_main_v1_apply, val_main_v3_apply, val_main_cst_0_apply, val_main_v5_apply, val_main_cst_1_apply,
    val_main_v11_apply, val_main_v10_apply, val_main_cst_apply, Finset.sum_congr rfl fun k _ => sq k, e,
    show FloatOps.ofBits (F := Ideal) .f32 0#32 = (0 : EReal) from Ideal.ofBits_zero_f32, zero_add]
  rfl

/-- The rows as the region finds them. -/
theorem rows_at (c : Dev nD) (r : Fin 32) (k : Fin 2048) :
    V m c main_v2 (ix2 r k) = m ((c : Thread nD τ).loc main_arg0) (ix2 (source r) k) := by
  simp only [V, V0, List.flatten_cons, List.flatten_nil, List.append_nil]
  entry_read
  pointwise
  blk_ext [source]

/-- The gain as the region finds it: the one row of the launched array. -/
theorem gain_at (c : Dev nD) (k : Fin 2048) :
    V m c main_v3 (ix2 0 k) = m ((c : Thread nD τ).loc main_arg1) (ix1 k) := by
  simp only [V, V0, List.flatten_cons, List.flatten_nil, List.append_nil]
  entry_read
  pointwise
  blk_ext

/-- What the region's array is to hold. -/
def normed (c : Dev nD) (i : S32x2048.Idx) : EReal :=
  val_main_v12 (F := Ideal) (m ((c : Thread nD τ).loc main_arg0)) (m ((c : Thread nD τ).loc main_arg1)) (ix2 (source (i 0)) (i 1))

/-- What the point stores is the reference's normed row. -/
theorem stored_at (c : Dev nD) (t : Fin cfg0.N) (y : S32x2048.Idx) :
    k0_pay1 (F := Ideal) (iblk m c 0 t) (iblk m c 1 t) y = normed m c y := by
  obtain ⟨r, j, rfl⟩ : ∃ (r : Fin 32) (j : Fin 2048), y = ix2 r j := ⟨y 0, y 1, (ix2_eta y).symm⟩
  have row : ∀ k : Fin 2048, iblk m c 0 t (ix2 r k)
      = m ((c : Thread nD τ).loc main_arg0) (ix2 (source r) k) := fun k => by
    refine Eq.trans ?_ (rows_at m c r k)
    unfold iblk
    blk_ext [idx t]
  have gain : iblk m c 1 t (ix2 0 j) = m ((c : Thread nD τ).loc main_arg1) (ix1 j) := by
    refine Eq.trans ?_ (gain_at m c j)
    unfold iblk
    blk_ext [idx t]
  unfold normed
  rw [pay_at, ref_at]
  dsimp only [ix2_0, ix2_1]
  rw [gain, funext row, row]

/-- The array that the region leaves holds the reference's normed rows. -/
theorem final (c : Dev nD) : (dats m 0 c).arrAt 2 cfg0.N = normed m c := by
  refine (dats m 0 c).arrAt_eq_of_covers 2 _ (by decide +kernel) fun t _ y => ?_
  blk_simp
  rw [after0_2]
  frame_out
  refine (stored_at m c t y).trans (congrArg (normed m c) ?_)
  blk_ext [idx t]

/-- The operations after the region drop the first of each sixteen rows. -/
theorem tail (c : Dev nD) : Pipeline.afterTail₀ cfgs (dats m) 0 (V0 m) [hostOps1] c main_v6
    = val_main_v14 (F := Ideal) (m ((c : Thread nD τ).loc main_arg0)) (m ((c : Thread nD τ).loc main_arg1)) := by
  have rows := Pipeline.withArrays_arr spec0 launch0.win.arr_inj c (V0 m c) (fun w => (dats m 0 c).arrAt w cfg0.N) 2
  rw [final] at rows
  unfold Pipeline.afterTail₀
  generalize Pipeline.withArrays spec0 c (V0 m c) (fun w => (dats m 0 c).arrAt w cfg0.N) = W at rows
  refine funext fun i => ?_
  obtain ⟨b, p, d, rfl⟩ : ∃ (b : Fin 2) (p : Fin 15) (d : Fin 2048), i = ix3 b p d := ⟨i 0, i 1, i 2, (ix3_eta i).symm⟩
  simp only [List.flatten_cons, List.flatten_nil, List.append_nil]
  rw [val_main_v14_apply, val_main_v13_apply]
  entry_read
  pointwise
  rw [show W (Proc.devRef .tc main_v4) = _ from rows]
  unfold normed
  refine congrArg _ ?_
  blk_ext [source]

/-- The kernel and the reference leave the same array. -/
theorem algebraic : Cert.algebraic_PoolPIdeal_PoolPRefIdeal := fun m ρ m' ρ' _ hag =>
  ⟨_, (θ_run Cert.PoolPIdeal.defs _ _).mono
    (fun _ h c => ⟨((h c).2 main_v6 (Pipeline.mem_restRefs_of main_v6 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ), (θ_run Cert.PoolPRefIdeal.defs _ _).mono
    (fun _ h c => ⟨(h c).1.trans (by rw [val_main_v14_eq, (hag c).1, (hag c).2]), (h c).2⟩)
    (Cert.PoolPRefIdeal.Value.run (F := Ideal) m' ρ')⟩

end Cert.PoolPIdeal.Hand
-- ==== Proof.DownSValue.lean ====
module
public import proofs.«01_k».proof.Defs
public import proofs.«01_k».proof.Proof.Gen.DownSIdeal.Value
public import proofs.«01_k».proof.Proof.Gen.DownSRefIdeal.Run
public import proofs.«01_k».proof.Proof.Gen.DownSRefIdeal.Read
public import Idealize.ShloMosaic.Lib.Pipeline.ValueKit

/-! The down projection of the feed-forward layer for the sample's 32 rows: `res + a @ w`, one block of 512 columns per grid
    point.  There is one row block, so every point casts its own weights. -/

@[expose] public section

set_option maxRecDepth 16384

noncomputable section

namespace Cert.DownSIdeal.Hand

open Cert.DownSIdeal Cert.DownSIdeal.Gen Idealize.ShloMosaic Idealize.ShloMosaic.TcCoe Idealize.SL.Sem
open Idealize.ShloMosaic.Pipeline (Dat)
open Idealize.ShloMosaic.ValueIdx
open Cert.DownSRefIdeal.Read

variable (m : (ℓ : Loc nD τ sig) → Buf (Elt Ideal) ℓ)

/-- Point `t` works on column block `t`. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

/-- The cast of the weights changes nothing over the reals. -/
theorem pay1_eq (W : Vec Ideal S5632x512 .f32) : k0_pay1 (F := Ideal) W = W := funext fun j => by
  pointwise [k0_pay1]

/-- Every point stores its residual block plus the rows times its weight block. -/
theorem point (c : Dev nD) (t : Fin cfg0.N) (y : S32x512.Idx) :
    outsAt0 m c t y = k0_pay2 (F := Ideal) (iblk m c 2 t) (iblk m c 0 t) (iblk m c 1 t) y := by
  unfold outsAt0
  frame_out
  rw [pay1_eq]

/-- The output array is the reference's result. -/
theorem final (c : Dev nD) : (dats m 0 c).arrAt 3 cfg0.N
    = val_main_v2 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, point, val_main_v2_apply, val_main_v1_apply]
  pointwise [k0_pay2, val_main_v0]
  blk_point [iblk, V, idx t]

/-- The kernel and the reference leave the same array. -/
theorem algebraic : Cert.algebraic_DownSIdeal_DownSRefIdeal := fun m ρ m' ρ' _ hag =>
  ⟨_, Value.run_blocks m ρ, (θ_run Cert.DownSRefIdeal.defs _ _).mono
    (fun _ h c => ⟨(h c).1.trans (by
      rw [(hag c).1, (hag c).2.1, (hag c).2.2, final, val_main_v2_eq]), (h c).2⟩)
    (Cert.DownSRefIdeal.Value.run (F := Ideal) m' ρ')⟩

end Cert.DownSIdeal.Hand
-- ==== Proof.ProjVSValue.lean ====
module
public import proofs.«01_k».proof.Defs
public import proofs.«01_k».proof.Proof.Gen.ProjVSIdeal.Value
public import proofs.«01_k».proof.Proof.Gen.ProjVSRefIdeal.Run
public import proofs.«01_k».proof.Proof.Gen.ProjVSRefIdeal.Read
public import Idealize.ShloMosaic.Lib.Pipeline.ValueKit

/-! The value projection of a stick-breaking layer for the sample's 32 rows: the last third of the columns of `h @ w`, at
    full width and at half width, one block of 512 columns per grid point. -/

@[expose] public section

set_option maxRecDepth 16384

noncomputable section

namespace Cert.ProjVSIdeal.Hand

open Cert.ProjVSIdeal Cert.ProjVSIdeal.Gen Idealize.ShloMosaic Idealize.ShloMosaic.TcCoe Idealize.SL.Sem
open Idealize.ShloMosaic.Pipeline (Dat)
open Cert.ProjVSRefIdeal.Read

variable (m : (ℓ : Loc nD τ sig) → Buf (Elt Ideal) ℓ)

/-- Point `t` works on column block `t`, eight blocks further right in the weights. -/
theorem idx : ∀ t : Fin cfg0.N, win0_0.index t = ![0, 0] ∧ win0_1.index t = ![0, t.val + 8]
    ∧ win0_2.index t = ![0, t.val] ∧ win0_3.index t = ![0, t.val] :=
  (by decide +kernel : ∀ t : Fin grid0.N, _)

/-- Entry `(r, j)` of the product of the rows and a weight block. -/
def prod (X : Vec Ideal S32x2048 .bf16) (W : Vec Ideal S2048x512 .bf16) (r : Fin 32) (j : Fin 512) : EReal :=
  ∑ e : Fin 2048, X (ix2 r e) * W (ix2 e j)

/-- The cast of the weights changes nothing over the reals. -/
theorem pay1_eq (W : Vec Ideal S2048x512 .bf16) : k0_pay1 (F := Ideal) W = W := funext fun j => by
  pointwise [k0_pay1]

/-- The product, whose four heads of 128 lanes are cut and joined again, at full width. -/
theorem pay2_at (W : Vec Ideal S2048x512 .bf16) (X : Vec Ideal S32x2048 .bf16) (y : S32x512.Idx) :
    k0_pay2 (F := Ideal) W X y = prod X W (y 0) (y 1) := by
  have lane : ∀ j : Fin 512, (j : ℕ) = (y 1 : ℕ) → (∑ e : Fin 2048, X (ix2 (y 0) e) * W (ix2 e j) : EReal) = prod X W (y 0) (y 1) :=
    fun j h => by rw [show j = y 1 from Fin.ext h]; rfl
  pointwise [k0_pay2]
  split_ifs
  · exact lane _ rfl
  all_goals exact lane _ (by dsimp; omega)

/-- At half width. -/
theorem pay3_at (W : Vec Ideal S2048x512 .bf16) (X : Vec Ideal S32x2048 .bf16) (y : S32x512.Idx) :
    k0_pay3 (F := Ideal) W X y = prod X W (y 0) (y 1) := pay2_at W X y

/-- Every point stores the rows times its weight block, at full width. -/
theorem point (c : Dev nD) (t : Fin cfg0.N) (y : S32x512.Idx) :
    (outsAt0 m c t).1 y = prod (iblk m c 0 t) (iblk m c 1 t) (y 0) (y 1) := by
  unfold outsAt0; dsimp only
  frame_out
  rw [pay1_eq]
  exact pay2_at _ _ y

/-- The same at half width. -/
theorem half (c : Dev nD) (t : Fin cfg0.N) (y : S32x512.Idx) :
    (outsAt0 m c t).2 y = prod (iblk m c 0 t) (iblk m c 1 t) (y 0) (y 1) := by
  unfold outsAt0; dsimp only
  frame_out
  rw [pay1_eq]
  exact pay3_at _ _ y

/-- The reference's entry: the row times the column 4096 further right. -/
theorem ref_at (x0 : Vec Ideal S32x2048 .bf16) (x1 : Vec Ideal S2048x6144 .f32) (i : S32x2048.Idx) (j : Fin 6144)
    (hj : (j : ℕ) = 4096 + (i 1 : ℕ)) :
    val_main_v5 (F := Ideal) x0 x1 i = ∑ e : Fin 2048, (x0 (ix2 (i 0) e) : EReal) * x1 (ix2 e j) := by
  have b0 : (i 0 : ℕ) < 32 := (i 0).isLt
  have b1 : (i 1 : ℕ) < 2048 := (i 1).isLt
  rw [val_main_v5_apply, val_main_v4_apply, val_main_v3_apply, val_main_v2_apply, val_main_v1_apply]
  refine Finset.sum_congr rfl fun e _ => congrArg₂ (fun x y : EReal => x * y) (congrArg x0 ?_) (congrArg x1 ?_)
  · refine funext fun a => Fin.ext ?_
    fin_cases a
    · dsimp; omega
    · rfl
  · refine funext fun a => Fin.ext ?_
    fin_cases a
    · rfl
    · dsimp; omega

/-- An entry of a grid point's product is the reference's entry. -/
theorem prod_ref (c : Dev nD) (t : Fin cfg0.N) (y : S32x512.Idx) (i : S32x2048.Idx)
    (h0 : (i 0 : ℕ) = (y 0 : ℕ)) (h1 : (i 1 : ℕ) = t.val * 512 + (y 1 : ℕ)) :
    prod (iblk m c 0 t) (iblk m c 1 t) (y 0) (y 1)
      = val_main_v5 (F := Ideal) (m ((c : Thread nD τ).loc main_arg0)) (m ((c : Thread nD τ).loc main_arg1)) i := by
  have b1 : (i 1 : ℕ) < 2048 := (i 1).isLt
  rw [ref_at _ _ i ⟨4096 + (i 1 : ℕ), by omega⟩ rfl]
  unfold prod
  refine Finset.sum_congr rfl fun e _ => congrArg₂ (fun x y : EReal => x * y) ?_ ?_
  · blk_point [iblk, V, idx t]
  · blk_point [iblk, V, idx t]

/-- The full-width output array is the reference's first result. -/
theorem final (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2, point]
  refine prod_ref m c t y _ ?_ ?_
  · blk_simp [idx t]
  · blk_simp [idx t]

/-- The half-width output array is its second. -/
theorem final_half (c : Dev nD) : (dats m 0 c).arrAt 3 cfg0.N
    = val_main_v6 (F := Ideal) (m ((c : Thread nD τ).loc main_arg0)) (m ((c : Thread nD τ).loc main_arg1)) := by
  refine (dats m 0 c).arrAt_eq_of_covers 3 _ (by decide +kernel) fun t _ y => ?_
  blk_simp
  rw [after0_3, half]
  refine prod_ref m c t y _ ?_ ?_
  · blk_simp [idx t]
  · blk_simp [idx t]

/-- The kernel and the reference leave the same two arrays. -/
theorem algebraic : Cert.algebraic_ProjVSIdeal_ProjVSRefIdeal := fun m ρ m' ρ' _ hag =>
  ⟨_, _, Value.run_blocks m ρ, (θ_run Cert.ProjVSRefIdeal.defs _ _).mono
    (fun _ h c => ⟨(h c).1.trans (by rw [(hag c).1, (hag c).2, final, val_main_v5_eq]),
      (h c).2.1.trans (by rw [(hag c).1, (hag c).2, final_half, val_main_v6_eq]), (h c).2.2⟩)
    (Cert.ProjVSRefIdeal.Value.run (F := Ideal) m' ρ')⟩

end Cert.ProjVSIdeal.Hand
-- ==== Proof.ProjKSValue.lean ====
module
public import proofs.«01_k».proof.Defs
public import proofs.«01_k».proof.Proof.Gen.ProjKSIdeal.Value
public import proofs.«01_k».proof.Proof.Gen.ProjKSRefIdeal.Run
public import proofs.«01_k».proof.Proof.Gen.ProjKSRefIdeal.Read
public import proofs.«01_k».proof.Proof.SampleHeads
public import Idealize.ShloMosaic.Lib.Pipeline.ValueKit

/-! The key projection of a stick-breaking layer for the sample's 32 rows: the middle third of the columns of `h @ w`, each
    head of 128 lanes divided by its root mean square and scaled, at full width and at half width, one block of 512 columns
    per grid point. -/

@[expose] public section

set_option maxRecDepth 16384

noncomputable section

namespace Cert.ProjKSIdeal.Hand

open Cert.ProjKSIdeal Cert.ProjKSIdeal.Gen Idealize.ShloMosaic Idealize.ShloMosaic.TcCoe Idealize.SL.Sem
open Idealize.ShloMosaic.Pipeline (Dat)
open Cert.ProjKSRefIdeal.Read
open Cert.ProjQIdeal.Hand (scaled entry)

variable (m : (ℓ : Loc nD τ sig) → Buf (Elt Ideal) ℓ)

/-- Point `t` works on column block `t`, four blocks further right in the weights. -/
theorem idx : ∀ t : Fin cfg0.N, win0_0.index t = ![0, 0] ∧ win0_1.index t = ![0, t.val + 4]
    ∧ win0_2.index t = ![0, 0] ∧ win0_3.index t = ![0, t.val] ∧ win0_4.index t = ![0, t.val] :=
  (by decide +kernel : ∀ t : Fin grid0.N, _)

/-- Every point stores the rows times its weight block, each head normed. -/
theorem point (c : Dev nD) (t : Fin cfg0.N) (y : S32x512.Idx) :
    (outsAt0 m c t).1 y = entry (prod (iblk m c 0 t) (iblk m c 1 t) (y 0)) (iblk m c 2 t) (y 1) := by
  unfold outsAt0; dsimp only
  frame_out
  rw [pay3_eq]
  exact stored_at _ _ _ y

/-- The same at half width. -/
theorem half (c : Dev nD) (t : Fin cfg0.N) (y : S32x512.Idx) :
    (outsAt0 m c t).2 y = entry (prod (iblk m c 0 t) (iblk m c 1 t) (y 0)) (iblk m c 2 t) (y 1) := by
  unfold outsAt0; dsimp only
  frame_out
  rw [pay3_eq]
  exact stored_at _ _ _ y

/-- The reference's row of a head, before the norm. -/
theorem row_at (x0 : Vec Ideal S32x2048 .bf16) (x1 : Vec Ideal S2048x6144 .f32) (i : Cert.ProjKSRefIdeal.S32x16x128.Idx) (j : Fin 6144)
    (hj : (j : ℕ) = 2048 + ((i 1 : ℕ) * 128 + (i 2 : ℕ))) :
    val_main_v4 (F := Ideal) x0 x1 i = ∑ e : Fin 2048, (x0 (ix2 (i 0) e) : EReal) * x1 (ix2 e j) := by
  have b0 : (i 0 : ℕ) < 32 := (i 0).isLt
  have b1 : (i 1 : ℕ) < 16 := (i 1).isLt
  have b2 : (i 2 : ℕ) < 128 := (i 2).isLt
  rw [val_main_v4_apply, val_main_v3_apply, val_main_v2_apply, val_main_v1_apply]
  refine Finset.sum_congr rfl fun e _ => congrArg₂ (fun x y : EReal => x * y) (congrArg x0 ?_) (congrArg x1 ?_)
  · refine funext fun a => Fin.ext ?_
    fin_cases a
    · dsimp; omega
    · rfl
  · refine funext fun a => Fin.ext ?_
    fin_cases a
    · rfl
    · dsimp; omega

/-- The column of the weights that lane `j` of a row of sixteen heads reads. -/
def col (j : ℕ) (h : j < 2048) : Fin 6144 := ⟨2048 + j, by omega⟩

/-- A lane of a row's product with the weights. -/
def full (x0 : Vec Ideal S32x2048 .bf16) (x1 : Vec Ideal S2048x6144 .f32) (r : Fin 32) (j : Fin 2048) : EReal :=
  ∑ e : Fin 2048, (x0 (ix2 r e) : EReal) * x1 (ix2 e (col j j.isLt))

/-- The reference's entry: a lane of the row's product, normed over its head. -/
theorem ref_at (x0 : Vec Ideal S32x2048 .bf16) (x1 : Vec Ideal S2048x6144 .f32) (x2 : Vec Ideal S128 .f32) (r : Fin 32)
    (j : Fin 2048) (P : Fin 2048 → EReal) (hP : ∀ j : Fin 2048, P j = full x0 x1 r j) :
    val_main_v18 (F := Ideal) x0 x1 x2 (ix2 r j)
      = scaled (P j) (fun k => P ⟨(j : ℕ) / 128 * 128 + (k : ℕ), by omega⟩) (x2 (ix1 ⟨(j : ℕ) % 128, Nat.mod_lt _ (by decide)⟩)) := by
  have row : ∀ (q : Cert.ProjKSRefIdeal.S32x16x128.Idx) (j : Fin 2048), (q 0 : ℕ) = (r : ℕ) → (j : ℕ) = (q 1 : ℕ) * 128 + (q 2 : ℕ) →
      val_main_v4 (F := Ideal) x0 x1 q = P j := fun q j h0 hj => by
    rw [row_at x0 x1 q (col j j.isLt) (congrArg (2048 + ·) hj), hP, show q 0 = r from Fin.ext h0]
    rfl
  have sq : ∀ k : Fin 128, val_main_v5 (F := Ideal) x0 x1 (idx_main_v6 (idx_main_v7 (idx_main_v13 (idx_main_v18 (ix2 r j)))) k)
      = P ⟨(j : ℕ) / 128 * 128 + (k : ℕ), by omega⟩ * P ⟨(j : ℕ) / 128 * 128 + (k : ℕ), by omega⟩ := fun k => by
    rw [val_main_v5_apply, row _ ⟨(j : ℕ) / 128 * 128 + (k : ℕ), by omega⟩ (by dsimp; omega) (by dsimp; omega)]
    rfl
  rw [val_main_v18_apply, val_main_v17_apply, val_main_v14_apply, val_main_v13_apply, val_main_v12_apply, val_main_v11_apply,
    val_main_v9_apply, val_main_v7_apply, val_main_v6_apply, val_main_v8_apply, val_main_cst_0_apply, val_main_v10_apply,
    val_main_cst_1_apply, val_main_v16_apply, val_main_v15_apply, val_main_cst_apply, Finset.sum_congr rfl fun k _ => sq k,
    row (idx_main_v18 (ix2 r j)) j (by dsimp; omega) (by dsimp; omega)]
  have e : idx_main_v15 (idx_main_v16 (idx_main_v18 (ix2 r j))) = ix1 ⟨(j : ℕ) % 128, Nat.mod_lt _ (by decide)⟩ := by
    refine funext fun a => Fin.ext ?_
    fin_cases a
    dsimp; omega
  rw [e]
  rw [show FloatOps.ofBits (F := Ideal) .f32 0#32 = (0 : EReal) from Ideal.ofBits_zero_f32, zero_add]
  rfl

/-- The staged gain repeats the head's gain four times. -/
theorem gain_at (c : Dev nD) (t : Fin cfg0.N) (j : Fin 512) :
    iblk m c 2 t (ix2 0 j) = m ((c : Thread nD τ).loc main_arg2) (ix1 ⟨(j : ℕ) % 128, Nat.mod_lt _ (by decide)⟩) := by
  blk_point [iblk, V, idx t]

/-- What a grid point stores is the reference's entry. -/
theorem entry_ref (c : Dev nD) (t : Fin cfg0.N) (y : S32x512.Idx) (i : S32x2048.Idx)
    (h0 : (i 0 : ℕ) = (y 0 : ℕ)) (h1 : (i 1 : ℕ) = t.val * 512 + (y 1 : ℕ)) :
    entry (prod (iblk m c 0 t) (iblk m c 1 t) (y 0)) (iblk m c 2 t) (y 1)
      = val_main_v18 (F := Ideal) (m ((c : Thread nD τ).loc main_arg0)) (m ((c : Thread nD τ).loc main_arg1))
          (m ((c : Thread nD τ).loc main_arg2)) i := by
  obtain ⟨r, j, rfl⟩ : ∃ (r : Fin 32) (j : Fin 2048), i = ix2 r j := ⟨i 0, i 1, (ix2_eta i).symm⟩
  obtain ⟨a, b, rfl⟩ : ∃ (a : Fin 32) (b : Fin 512), y = ix2 a b := ⟨y 0, y 1, (ix2_eta y).symm⟩
  dsimp only [ix2_0, ix2_1] at h0 h1 ⊢
  have bb : (b : ℕ) < 512 := b.isLt
  have jj : (j : ℕ) < 2048 := j.isLt
  have at_col : ∀ (b' : Fin 512) (j' : Fin 2048), (j' : ℕ) = t.val * 512 + (b' : ℕ) →
      prod (iblk m c 0 t) (iblk m c 1 t) a b'
        = full (m ((c : Thread nD τ).loc main_arg0)) (m ((c : Thread nD τ).loc main_arg1)) r j' := fun b' j' hj => by
    unfold prod full col
    refine Finset.sum_congr rfl fun e _ => congrArg₂ (fun x y : EReal => x * y) ?_ ?_
    · blk_point [iblk, V, idx t]
    · blk_point [iblk, V, idx t]
  rw [ref_at _ _ _ r j _ (fun _ => rfl)]
  unfold entry
  rw [at_col b j h1, gain_at,
    funext fun k : Fin 128 => at_col ⟨(b : ℕ) / 128 * 128 + (k : ℕ), by omega⟩ ⟨(j : ℕ) / 128 * 128 + (k : ℕ), by omega⟩
      (by show (j : ℕ) / 128 * 128 + (k : ℕ) = t.val * 512 + ((b : ℕ) / 128 * 128 + (k : ℕ)); omega)]
  exact congrArg _ (congrArg _ (congrArg ix1 (Fin.ext (by dsimp; omega))))

/-- The full-width output array is the reference's first result. -/
theorem final (c : Dev nD) : (dats m 0 c).arrAt 3 cfg0.N
    = val_main_v18 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3, point]
  refine entry_ref m c t y _ ?_ ?_
  · blk_simp [idx t]
  · blk_simp [idx t]

/-- The half-width output array is its second. -/
theorem final_half (c : Dev nD) : (dats m 0 c).arrAt 4 cfg0.N
    = val_main_v19 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4, half]
  refine entry_ref m c t y _ ?_ ?_
  · blk_simp [idx t]
  · blk_simp [idx t]

/-- The kernel and the reference leave the same two arrays. -/
theorem algebraic : Cert.algebraic_ProjKSIdeal_ProjKSRefIdeal := fun m ρ m' ρ' _ hag =>
  ⟨_, _, Value.run_blocks m ρ, (θ_run Cert.ProjKSRefIdeal.defs _ _).mono
    (fun _ h c => ⟨(h c).1.trans (by rw [(hag c).1, (hag c).2.1, (hag c).2.2, final, val_main_v18_eq]),
      (h c).2.1.trans (by rw [(hag c).1, (hag c).2.1, (hag c).2.2, final_half, val_main_v19_eq]), (h c).2.2⟩)
    (Cert.ProjKSRefIdeal.Value.run (F := Ideal) m' ρ')⟩

end Cert.ProjKSIdeal.Hand
-- ==== Proof.DsaVSValue.lean ====
module
public import proofs.«01_k».proof.Defs
public import proofs.«01_k».proof.Proof.Gen.DsaVSIdeal.Value
public import proofs.«01_k».proof.Proof.Gen.DsaVSRefIdeal.Run
public import proofs.«01_k».proof.Proof.Gen.DsaVSRefIdeal.Read
public import proofs.«01_k».proof.Proof.ProjVSValue
public import Idealize.ShloMosaic.Lib.Pipeline.ValueKit

/-! The value projection of the sparse layer for the sample's 32 rows: columns 4096 to 6143 of `h @ w`, at full width and at
    half width.  The blocks are those of a stick-breaking layer's value projection, whose lemmas on a block's product are
    used; the weights are wider and the reference keeps the eight sequences apart. -/

@[expose] public section

set_option maxRecDepth 16384

noncomputable section

namespace Cert.DsaVSIdeal.Hand

open Cert.DsaVSIdeal Cert.DsaVSIdeal.Gen Idealize.ShloMosaic Idealize.ShloMosaic.TcCoe Idealize.SL.Sem
open Idealize.ShloMosaic.Pipeline (Dat)
open Cert.DsaVSRefIdeal.Read
open Cert.ProjVSIdeal.Hand (prod pay2_at pay3_at)

variable (m : (ℓ : Loc nD τ sig) → Buf (Elt Ideal) ℓ)

/-- Point `t` works on column block `t`, eight blocks further right in the weights. -/
theorem idx : ∀ t : Fin cfg0.N, win0_0.index t = ![0, 0] ∧ win0_1.index t = ![0, t.val + 8]
    ∧ win0_2.index t = ![0, t.val] ∧ win0_3.index t = ![0, t.val] :=
  (by decide +kernel : ∀ t : Fin grid0.N, _)

/-- The staged weights: 2048 rows of 512 columns, none of them beyond the array's end. -/
theorem weights_at (c : Dev nD) (t : Fin cfg0.N) (y : S2048x512.Idx) (j : Fin 7248)
    (hj : (j : ℕ) = (t.val + 8) * 512 + (y 1 : ℕ)) :
    X0_1 m c t y = m ((c : Thread nD τ).loc main_arg1) (ix2 (y 0) j) := by
  unfold X0_1 Pipeline.Window.fill
  rw [dif_pos (moved0_1 t y)]
  blk_point [iblk, V, idx t]

/-- The cast of the weights changes nothing over the reals. -/
theorem pay1_eq (W : Vec Ideal S2048x512 .bf16) : k0_pay1 (F := Ideal) W = W := Cert.ProjVSIdeal.Hand.pay1_eq W

/-- Every point stores the rows times its weight block, at full width. -/
theorem point (c : Dev nD) (t : Fin cfg0.N) (y : S32x512.Idx) :
    (outsAt0 m c t).1 y = prod (iblk m c 0 t) (X0_1 m c t) (y 0) (y 1) := by
  unfold outsAt0; dsimp only
  frame_out
  rw [pay1_eq]
  exact pay2_at _ _ y

/-- The same at half width. -/
theorem half (c : Dev nD) (t : Fin cfg0.N) (y : S32x512.Idx) :
    (outsAt0 m c t).2 y = prod (iblk m c 0 t) (X0_1 m c t) (y 0) (y 1) := by
  unfold outsAt0; dsimp only
  frame_out
  rw [pay1_eq]
  exact pay3_at _ _ y

/-- The reference's entry: the row times the column 4096 further right. -/
theorem ref_at (x0 : Vec Ideal S32x2048 .bf16) (x1 : Vec Ideal S2048x7248 .f32) (i : S32x2048.Idx) (j : Fin 7248)
    (hj : (j : ℕ) = 4096 + (i 1 : ℕ)) :
    val_main_v6 (F := Ideal) x0 x1 i = ∑ e : Fin 2048, (x0 (ix2 (i 0) e) : EReal) * x1 (ix2 e j) := by
  have b0 : (i 0 : ℕ) < 32 := (i 0).isLt
  have b1 : (i 1 : ℕ) < 2048 := (i 1).isLt
  rw [val_main_v6_apply, val_main_v5_apply, val_main_v4_apply, val_main_v3_apply, val_main_v2_apply, val_main_v1_apply]
  refine Finset.sum_congr rfl fun e _ => congrArg₂ (fun x y : EReal => x * y) (congrArg x0 ?_) (congrArg x1 ?_)
  · refine funext fun a => Fin.ext ?_
    fin_cases a
    · dsimp; omega
    · rfl
  · refine funext fun a => Fin.ext ?_
    fin_cases a
    · rfl
    · dsimp; omega

/-- An entry of a grid point's product is the reference's entry. -/
theorem prod_ref (c : Dev nD) (t : Fin cfg0.N) (y : S32x512.Idx) (i : S32x2048.Idx)
    (h0 : (i 0 : ℕ) = (y 0 : ℕ)) (h1 : (i 1 : ℕ) = t.val * 512 + (y 1 : ℕ)) :
    prod (iblk m c 0 t) (X0_1 m c t) (y 0) (y 1)
      = val_main_v6 (F := Ideal) (m ((c : Thread nD τ).loc main_arg0)) (m ((c : Thread nD τ).loc main_arg1)) i := by
  have b1 : (i 1 : ℕ) < 2048 := (i 1).isLt
  rw [ref_at _ _ i ⟨4096 + (i 1 : ℕ), by omega⟩ rfl]
  unfold prod
  refine Finset.sum_congr rfl fun e _ => congrArg₂ (fun x y : EReal => x * y) ?_ ?_
  · blk_point [iblk, V, idx t]
  · exact weights_at m c t _ _ (by dsimp; omega)

/-- The full-width output array is the reference's first result. -/
theorem final (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2, point]
  refine prod_ref m c t y _ ?_ ?_
  · blk_simp [idx t]
  · blk_simp [idx t]

/-- The half-width output array is its second. -/
theorem final_half (c : Dev nD) : (dats m 0 c).arrAt 3 cfg0.N
    = val_main_v7 (F := Ideal) (m ((c : Thread nD τ).loc main_arg0)) (m ((c : Thread nD τ).loc main_arg1)) := by
  refine (dats m 0 c).arrAt_eq_of_covers 3 _ (by decide +kernel) fun t _ y => ?_
  blk_simp
  rw [after0_3, half]
  refine prod_ref m c t y _ ?_ ?_
  · blk_simp [idx t]
  · blk_simp [idx t]

/-- The kernel and the reference leave the same two arrays. -/
theorem algebraic : Cert.algebraic_DsaVSIdeal_DsaVSRefIdeal := fun m ρ m' ρ' _ hag =>
  ⟨_, _, Value.run_blocks m ρ, (θ_run Cert.DsaVSRefIdeal.defs _ _).mono
    (fun _ h c => ⟨(h c).1.trans (by rw [(hag c).1, (hag c).2, final, val_main_v6_eq]),
      (h c).2.1.trans (by rw [(hag c).1, (hag c).2, final_half, val_main_v7_eq]), (h c).2.2⟩)
    (Cert.DsaVSRefIdeal.Value.run (F := Ideal) m' ρ')⟩

end Cert.DsaVSIdeal.Hand
-- ==== Proof.DsaKSValue.lean ====
module
public import proofs.«01_k».proof.Defs
public import proofs.«01_k».proof.Proof.Gen.DsaKSIdeal.Value
public import proofs.«01_k».proof.Proof.SampleHeads
public import proofs.«01_k».proof.Proof.DsaQTables
public import Idealize.ShloMosaic.Lib.Pipeline.ValueKit

/-! The key projection of the sparse layer for the sample's 32 rows: what a grid point stores.  Columns 2048 to 4095 of
    `h @ w`, each head normed and turned, at full width and at half width, one block of 512 columns per point. -/

@[expose] public section

set_option maxRecDepth 16384

noncomputable section

namespace Cert.DsaKSIdeal.Hand

open Cert.DsaKSIdeal Cert.DsaKSIdeal.Gen Idealize.ShloMosaic Idealize.ShloMosaic.TcCoe Idealize.SL.Sem
open Idealize.ShloMosaic.Pipeline (Dat)
open Cert.ProjQIdeal.Hand (entry)
open Cert.ProjKSIdeal.Hand (head head_lane prod pay4_at pay3_eq)
open Cert.DsaQIdeal.Hand (turned)

variable (m : (ℓ : Loc nD τ sig) → Buf (Elt Ideal) ℓ)

/-- Point `t` works on column block `t`, four blocks further right in the weights; the tables have one block. -/
theorem idx : ∀ t : Fin cfg0.N, win0_0.index t = ![0, 0] ∧ win0_1.index t = ![0, t.val + 4]
    ∧ win0_2.index t = ![0, 0] ∧ win0_3.index t = ![0, 0] ∧ win0_4.index t = ![0, 0]
    ∧ win0_5.index t = ![0, 0] ∧ win0_6.index t = ![0, t.val] ∧ win0_7.index t = ![0, t.val] :=
  (by decide +kernel : ∀ t : Fin grid0.N, _)

/-- The staged weights: 2048 rows of 512 columns, none of them beyond the array's end. -/
theorem weights_at (c : Dev nD) (t : Fin cfg0.N) (y : S2048x512.Idx) (j : Fin 7248)
    (hj : (j : ℕ) = (t.val + 4) * 512 + (y 1 : ℕ)) :
    X0_1 m c t y = m ((c : Thread nD τ).loc main_arg1) (ix2 (y 0) j) := by
  unfold X0_1 Pipeline.Window.fill
  rw [dif_pos (moved0_1 t y)]
  blk_point [iblk, V, idx t]

/-- A head turned: its lanes times the first table, the lanes sixteen to the left times the second, those sixteen to the
    right times the third. -/
def turn (x : FVec Ideal S32x128 .f32) (c s z : Vec Ideal S32x128 .f32) : FVec Ideal S32x128 .f32 :=
  addf (addf (mulf x (shapeCast S32x128 c shapeCasts_S32x128_S32x128))
    (mulf (dynamicRotate 1 16#32 none x rotates_S32x128_d1) (shapeCast S32x128 s shapeCasts_S32x128_S32x128)))
    (mulf (dynamicRotate 1 112#32 none x rotates_S32x128_d1) (shapeCast S32x128 z shapeCasts_S32x128_S32x128))

/-- The four heads of each row, normed, turned and joined. -/
def turns (v : FVec Ideal S32x512 .f32) (g0 g1 g2 g3 : FVec Ideal S1x128 .f32) (c s z : Vec Ideal S32x128 .f32) :
    FVec Ideal S32x512 .f32 :=
  concatenate S32x512 1 [⟨S32x128, turn (head (extractStridedSlice S32x128 ![0, 0] v slices_S32x512_o0_0_S32x128) g0) c s z⟩,
    ⟨S32x128, turn (head (extractStridedSlice S32x128 ![0, 128] v slices_S32x512_o0_128_S32x128) g1) c s z⟩,
    ⟨S32x128, turn (head (extractStridedSlice S32x128 ![0, 256] v slices_S32x512_o0_256_S32x128) g2) c s z⟩,
    ⟨S32x128, turn (head (extractStridedSlice S32x128 ![0, 384] v slices_S32x512_o0_384_S32x128) g3) c s z⟩]
    concatenates_S32x128_S32x128_S32x128_S32x128_S32x512_d1

/-- An entry of a turned head. -/
theorem turn_at (x : FVec Ideal S32x128 .f32) (c s z : Vec Ideal S32x128 .f32) (r : Fin 32) (l : Fin 128) :
    turn x c s z (ix2 r l) = x (ix2 r l) * c (ix2 r l) + x (ix2 r ⟨((l : ℕ) + 112) % 128, Nat.mod_lt _ (by decide)⟩) * s (ix2 r l)
      + x (ix2 r ⟨((l : ℕ) + 16) % 128, Nat.mod_lt _ (by decide)⟩) * z (ix2 r l) := by
  pointwise [turn]
  simp only [show (l : ℕ) + 128 - 16 = (l : ℕ) + 112 by omega, show (l : ℕ) + 128 - 112 = (l : ℕ) + 16 by omega]

/-- One head of a row, normed and turned, at a lane of the row. -/
theorem turn_lane (v : FVec Ideal S32x512 .f32) (g : Vec Ideal S1x512 .f32) (c s z : Vec Ideal S32x128 .f32) (o : ℕ)
    (hs : S32x512.Slices ![0, o] S32x128)
    (b : ∀ a, (![0, o] : Fin 2 → ℕ) a + (![1, 128] : Fin 2 → ℕ) a ≤ S1x512.size a) (r : Fin 32) (l : Fin 128) (j : Fin 512)
    (hj : (j : ℕ) = o + (l : ℕ)) (ho : (j : ℕ) / 128 * 128 = o) :
    turn (head (extractStridedSlice S32x128 ![0, o] v hs) (View.ld g (Rect.unit ![0, o] ![1, 128] b))) c s z (ix2 r l)
      = turned (entry (fun j => v (ix2 r j)) g) (fun l => c (ix2 r l)) (fun l => s (ix2 r l)) (fun l => z (ix2 r l)) j := by
  have el : l = ⟨(j : ℕ) % 128, Nat.mod_lt _ (by decide)⟩ := Fin.ext (by show (l : ℕ) = (j : ℕ) % 128; omega)
  rw [turn_at, head_lane v g o hs b r l j hj ho,
    head_lane v g o hs b r ⟨((l : ℕ) + 112) % 128, _⟩ ⟨o + ((l : ℕ) + 112) % 128, by omega⟩ rfl (by dsimp; omega),
    head_lane v g o hs b r ⟨((l : ℕ) + 16) % 128, _⟩ ⟨o + ((l : ℕ) + 16) % 128, by omega⟩ rfl (by dsimp; omega)]
  subst ho el
  rfl

/-- Every lane of the four joined heads. -/
theorem turns_at (v : FVec Ideal S32x512 .f32) (g : Vec Ideal S1x512 .f32) (c s z : Vec Ideal S32x128 .f32) (y : S32x512.Idx) :
    turns v (View.ld g (Rect.unit ![0, 0] ![1, 128] inb_S1x512_S1x128_0_0)) (View.ld g (Rect.unit ![0, 128] ![1, 128] inb_S1x512_S1x128_0_128))
      (View.ld g (Rect.unit ![0, 256] ![1, 128] inb_S1x512_S1x128_0_256)) (View.ld g (Rect.unit ![0, 384] ![1, 128] inb_S1x512_S1x128_0_384))
      c s z y
      = turned (entry (fun j => v (ix2 (y 0) j)) g) (fun l => c (ix2 (y 0) l)) (fun l => s (ix2 (y 0) l)) (fun l => z (ix2 (y 0) l)) (y 1) := by
  have b1 : (y 1 : ℕ) < 512 := (y 1).isLt
  pointwise [turns]
  by_cases h0 : (y 1 : ℕ) < 128
  · rw [dif_pos h0]
    exact turn_lane v g c s z 0 _ _ (y 0) ⟨(y 1 : ℕ), h0⟩ (y 1) (by show (y 1 : ℕ) = 0 + (y 1 : ℕ); omega) (by omega)
  by_cases h1 : (y 1 : ℕ) - 128 < 128
  · rw [dif_neg h0, dif_pos h1]
    exact turn_lane v g c s z 128 _ _ (y 0) ⟨(y 1 : ℕ) - 128, h1⟩ (y 1) (by show (y 1 : ℕ) = 128 + ((y 1 : ℕ) - 128); omega) (by omega)
  by_cases h2 : (y 1 : ℕ) - 128 - 128 < 128
  · rw [dif_neg h0, dif_neg h1, dif_pos h2]
    exact turn_lane v g c s z 256 _ _ (y 0) ⟨(y 1 : ℕ) - 128 - 128, h2⟩ (y 1)
      (by show (y 1 : ℕ) = 256 + ((y 1 : ℕ) - 128 - 128); omega) (by omega)
  · rw [dif_neg h0, dif_neg h1, dif_neg h2]
    exact turn_lane v g c s z 384 _ _ (y 0) ⟨(y 1 : ℕ) - 128 - 128 - 128, by omega⟩ (y 1)
      (by show (y 1 : ℕ) = 384 + ((y 1 : ℕ) - 128 - 128 - 128); omega) (by omega)

/-- What a grid point stores: the product of its blocks, each head normed and turned by its row of the tables. -/
def stored (X : Vec Ideal S32x2048 .bf16) (W : Vec Ideal S2048x512 .bf16) (g : Vec Ideal S1x512 .f32)
    (c s z : Vec Ideal S32x128 .f32) (r : Fin 32) (j : Fin 512) : EReal :=
  turned (entry (prod X W r) g) (fun l => c (ix2 r l)) (fun l => s (ix2 r l)) (fun l => z (ix2 r l)) j

/-- What is stored for the rows. -/
theorem stored_at (X : Vec Ideal S32x2048 .bf16) (W : Vec Ideal S2048x512 .bf16) (g : Vec Ideal S1x512 .f32)
    (c s z : Vec Ideal S32x128 .f32) (y : S32x512.Idx) :
    turns (Cert.ProjKSIdeal.Gen.k0_pay4 (F := Ideal) W X)
      (View.ld g (Rect.unit ![0, 0] ![1, 128] inb_S1x512_S1x128_0_0)) (View.ld g (Rect.unit ![0, 128] ![1, 128] inb_S1x512_S1x128_0_128))
      (View.ld g (Rect.unit ![0, 256] ![1, 128] inb_S1x512_S1x128_0_256)) (View.ld g (Rect.unit ![0, 384] ![1, 128] inb_S1x512_S1x128_0_384))
      c s z y = stored X W g c s z (y 0) (y 1) := by
  rw [turns_at]
  unfold stored
  exact congrArg (fun P => turned (entry P g) _ _ _ (y 1)) (funext fun j => pay4_at X W (y 0) j)

/-- The cast of the weights changes nothing over the reals. -/
theorem cast_eq (W : Vec Ideal S2048x512 .bf16) : k0_pay3 (F := Ideal) W = W := pay3_eq W

/-- Every point stores the rows times its weight block, each head normed and turned. -/
theorem point (c : Dev nD) (t : Fin cfg0.N) (y : S32x512.Idx) :
    (outsAt0 m c t).1 y = stored (iblk m c 0 t) (X0_1 m c t) (iblk m c 2 t) (iblk m c 3 t) (iblk m c 4 t) (iblk m c 5 t) (y 0) (y 1) := by
  unfold outsAt0; dsimp only
  frame_out
  rw [cast_eq]
  exact stored_at _ _ _ _ _ _ y

/-- The same at half width. -/
theorem half (c : Dev nD) (t : Fin cfg0.N) (y : S32x512.Idx) :
    (outsAt0 m c t).2 y = stored (iblk m c 0 t) (X0_1 m c t) (iblk m c 2 t) (iblk m c 3 t) (iblk m c 4 t) (iblk m c 5 t) (y 0) (y 1) := by
  unfold outsAt0; dsimp only
  frame_out
  rw [cast_eq]
  exact stored_at _ _ _ _ _ _ y

end Cert.DsaKSIdeal.Hand
-- ==== Proof.DsaKSTables.lean ====
module
public import proofs.«01_k».proof.Proof.DsaKSValue
public import Idealize.ShloMosaic.Lib.Pipeline.ValueKit

/-! The tables the key projection of the sparse layer is given for the sample's 32 rows: row `r` of them turns a head by the
    angles of position `16384 + r % 4`, the prompt's tables read at that position. -/

@[expose] public section

set_option maxRecDepth 16384

noncomputable section

namespace Cert.DsaKSIdeal.Hand

open Cert.DsaKSIdeal Cert.DsaKSIdeal.Gen Idealize.ShloMosaic Idealize.ShloMosaic.TcCoe Idealize.SL.Sem
open Idealize.ShloMosaic.Pipeline (Dat)
open Cert.DsaQIdeal.Hand (angle table0 table1 table2 three)

variable (m : (ℓ : Loc nD τ sig) → Buf (Elt Ideal) ℓ)

/-- The host's operations, cut where the positions, the cosines and sines are made, before the last table and after it. -/
theorem stages (c : Dev nD) (b : Ref sig .tc) : V m c b = StableHlo.after (List.drop 33 (hostOps0 (F := Ideal)))
    (StableHlo.after (List.take 1 (List.drop 32 hostOps0)) (StableHlo.after (List.take 3 (List.drop 29 hostOps0))
      (StableHlo.after (List.take 22 (List.drop 7 hostOps0)) (StableHlo.after (List.take 7 hostOps0) fun b => m (c, b))))) b := by
  rw [← StableHlo.after_append, ← StableHlo.after_append, ← StableHlo.after_append, ← StableHlo.after_append]
  rfl

/-- A position past the stored ones. -/
theorem past (k : ℕ) : IntOp.addi 16384#32 (BitVec.ofNat 32 k) = BitVec.ofNat 32 (16384 + k) :=
  (BitVec.ofNat_add (n := 32) 16384 k).symm

/-- The rows' positions. -/
theorem placed (σ : Valuation τ sig (Elt Ideal)) (r : Fin 32) :
    StableHlo.after (List.take 7 (hostOps0 (F := Ideal))) σ main_v5 (ix1 r) = BitVec.ofNat 32 (16384 + (r : ℕ) % 4) := by
  simp only [hostOps0, List.take_succ_cons, List.take_zero]
  entry_read
  rw [← past]
  pointwise

/-- The cosines, the sines and the constants of the tables. -/
theorem made (σ : Valuation τ sig (Elt Ideal)) (r : Fin 32) (p : ℕ) (h5 : σ main_v5 (ix1 r) = BitVec.ofNat 32 p) :
    (∀ l : Fin 16, StableHlo.after (List.take 22 (List.drop 7 hostOps0)) σ main_v18 (ix2 r l) = Ideal.cos (angle p l))
    ∧ (∀ l : Fin 16, StableHlo.after (List.take 22 (List.drop 7 hostOps0)) σ main_v19 (ix2 r l) = Ideal.sin (angle p l))
    ∧ (∀ l : Fin 96, StableHlo.after (List.take 22 (List.drop 7 hostOps0)) σ main_v20 (ix2 r l) = (1 : EReal))
    ∧ (∀ l : Fin 16, StableHlo.after (List.take 22 (List.drop 7 hostOps0)) σ main_v21 (ix2 r l) = (0 : EReal))
    ∧ (∀ l : Fin 96, StableHlo.after (List.take 22 (List.drop 7 hostOps0)) σ main_v22 (ix2 r l) = (0 : EReal)) := by
  simp only [hostOps0, List.drop_succ_cons, List.drop_zero, List.take_succ_cons, List.take_zero]
  refine ⟨fun l => ?_, fun l => ?_, fun l => ?_, fun l => ?_, fun l => ?_⟩
  · unfold angle
    rw [← h5]
    entry_read
    pointwise
  · unfold angle
    rw [← h5]
    entry_read
    pointwise
  all_goals
    entry_read
    pointwise

/-- The rows of the first two tables, and what the third is made of. -/
theorem joined (σ : Valuation τ sig (Elt Ideal)) (r : Fin 32) (p : ℕ)
    (h13 : ∀ l : Fin 16, σ main_v18 (ix2 r l) = Ideal.cos (angle p l)) (h14 : ∀ l : Fin 16, σ main_v19 (ix2 r l) = Ideal.sin (angle p l))
    (h15 : ∀ l : Fin 96, σ main_v20 (ix2 r l) = (1 : EReal)) (h16 : ∀ l : Fin 16, σ main_v21 (ix2 r l) = (0 : EReal))
    (h17 : ∀ l : Fin 96, σ main_v22 (ix2 r l) = (0 : EReal)) :
    (∀ l : Fin 128, StableHlo.after (List.take 3 (List.drop 29 hostOps0)) σ main_v23 (ix2 r l) = table0 p l)
    ∧ (∀ l : Fin 128, StableHlo.after (List.take 3 (List.drop 29 hostOps0)) σ main_v24 (ix2 r l) = table1 p l)
    ∧ (∀ l : Fin 16, StableHlo.after (List.take 3 (List.drop 29 hostOps0)) σ main_v25 (ix2 r l) = -Ideal.sin (angle p l))
    ∧ (∀ l : Fin 16, StableHlo.after (List.take 3 (List.drop 29 hostOps0)) σ main_v21 (ix2 r l) = (0 : EReal))
    ∧ (∀ l : Fin 96, StableHlo.after (List.take 3 (List.drop 29 hostOps0)) σ main_v22 (ix2 r l) = (0 : EReal)) := by
  simp only [hostOps0, List.drop_succ_cons, List.drop_zero, List.take_succ_cons, List.take_zero]
  refine ⟨fun l => ?_, fun l => ?_, fun l => ?_, fun l => ?_, fun l => ?_⟩
  · entry_read
    pointwise
    exact three _ _ _ _ _ _ _ (fun h => h13 _) (fun h => h13 _) (fun h h' => h15 _)
  · entry_read
    pointwise
    exact three _ _ _ _ _ _ _ (fun h => h16 _) (fun h => h14 _) (fun h h' => h17 _)
  · entry_read
    pointwise
    exact congrArg (fun x : EReal => -x) (h14 l)
  · entry_read
    exact h16 l
  · entry_read
    exact h17 l

/-- The rows of the third table. -/
theorem joined2 (σ : Valuation τ sig (Elt Ideal)) (r : Fin 32) (p : ℕ)
    (h20 : ∀ l : Fin 16, σ main_v25 (ix2 r l) = -Ideal.sin (angle p l)) (h16 : ∀ l : Fin 16, σ main_v21 (ix2 r l) = (0 : EReal))
    (h17 : ∀ l : Fin 96, σ main_v22 (ix2 r l) = (0 : EReal)) (l : Fin 128) :
    StableHlo.after (List.take 1 (List.drop 32 hostOps0)) σ main_v23 (ix2 r l) = σ main_v23 (ix2 r l)
    ∧ StableHlo.after (List.take 1 (List.drop 32 hostOps0)) σ main_v24 (ix2 r l) = σ main_v24 (ix2 r l)
    ∧ StableHlo.after (List.take 1 (List.drop 32 hostOps0)) σ main_v26 (ix2 r l) = table2 p l := by
  simp only [hostOps0, List.drop_succ_cons, List.drop_zero, List.take_succ_cons, List.take_zero]
  refine ⟨?_, ?_, ?_⟩
  · entry_read
    rfl
  · entry_read
    rfl
  · entry_read
    pointwise
    rw [show table2 p l = if (l : ℕ) < 16 then -Ideal.sin (angle p l) else if (l : ℕ) - 16 < 16 then 0 else 0 from by
      unfold table2; rw [ite_self]]
    exact three _ _ _ _ _ _ _ (fun h => h20 _) (fun h => h16 _) (fun h h' => h17 _)

/-- The copies change nothing. -/
theorem copied (σ : Valuation τ sig (Elt Ideal)) (r : Fin 32) (l : Fin 128) :
    StableHlo.after (List.drop 33 hostOps0) σ main_v29 (ix2 r l) = σ main_v23 (ix2 r l)
    ∧ StableHlo.after (List.drop 33 hostOps0) σ main_v32 (ix2 r l) = σ main_v24 (ix2 r l)
    ∧ StableHlo.after (List.drop 33 hostOps0) σ main_v35 (ix2 r l) = σ main_v26 (ix2 r l) := by
  simp only [hostOps0, List.drop_succ_cons, List.drop_zero]
  refine ⟨?_, ?_, ?_⟩ <;> entry_read <;> pointwise

/-- What the kernel is given as tables: row `r` is position `16384 + r % 4`. -/
theorem tables (c : Dev nD) (r : Fin 32) (l : Fin 128) :
    V m c main_v29 (ix2 r l) = table0 (16384 + (r : ℕ) % 4) l ∧ V m c main_v32 (ix2 r l) = table1 (16384 + (r : ℕ) % 4) l
    ∧ V m c main_v35 (ix2 r l) = table2 (16384 + (r : ℕ) % 4) l := by
  obtain ⟨h13, h14, h15, h16, h17⟩ := made _ r _ (placed (fun b => m (c, b)) r)
  obtain ⟨j0, j1, h20, h16, h17⟩ := joined _ r _ h13 h14 h15 h16 h17
  obtain ⟨i0, i1, i2⟩ := joined2 _ r _ h20 h16 h17 l
  obtain ⟨k0, k1, k2⟩ := copied (StableHlo.after (List.take 1 (List.drop 32 hostOps0)) (StableHlo.after (List.take 3 (List.drop 29 hostOps0))
    (StableHlo.after (List.take 22 (List.drop 7 hostOps0)) (StableHlo.after (List.take 7 hostOps0) fun b => m (c, b))))) r l
  rw [stages, stages, stages]
  exact ⟨k0.trans (i0.trans (j0 l)), k1.trans (i1.trans (j1 l)), k2.trans i2⟩

/-- The staged tables. -/
theorem tables_at (c : Dev nD) (t : Fin cfg0.N) (r : Fin 32) (p : ℕ) (hp : p = 16384 + (r : ℕ) % 4) (l : Fin 128) :
    iblk m c 3 t (ix2 r l) = table0 p l ∧ iblk m c 4 t (ix2 r l) = table1 p l ∧ iblk m c 5 t (ix2 r l) = table2 p l := by
  subst hp
  obtain ⟨k0, k1, k2⟩ := tables m c r l
  refine ⟨Eq.trans ?_ k0, Eq.trans ?_ k1, Eq.trans ?_ k2⟩ <;> unfold iblk
  · blk_ext [idx t]
  · blk_ext [idx t]
  · blk_ext [idx t]

end Cert.DsaKSIdeal.Hand
-- ==== Proof.DsaKSClaim.lean ====
module
public import proofs.«01_k».proof.Proof.DsaKSTables
public import proofs.«01_k».proof.Proof.DsaQClaim
public import proofs.«01_k».proof.Proof.Gen.DsaKSRefIdeal.Run
public import proofs.«01_k».proof.Proof.Gen.DsaKSRefIdeal.Read
public import Idealize.ShloMosaic.Lib.Pipeline.ValueKit

/-! The key projection of the sparse layer for the sample's 32 rows: the reference's entries, and the claim. -/

@[expose] public section

set_option maxRecDepth 16384

noncomputable section

namespace Cert.DsaKSIdeal.Hand

open Cert.DsaKSIdeal Cert.DsaKSIdeal.Gen Idealize.ShloMosaic Idealize.ShloMosaic.TcCoe Idealize.SL.Sem
open Idealize.ShloMosaic.Pipeline (Dat)
open Cert.DsaKSRefIdeal.Read
open Cert.ProjQIdeal.Hand (scaled entry)
open Cert.ProjKSIdeal.Hand (prod)
open Cert.DsaQIdeal.Hand (normed roped turned_eq angle)

variable (m : (ℓ : Loc nD τ sig) → Buf (Elt Ideal) ℓ)

/-- The cosines of the reference's angles. -/
theorem cos_at (p : Fin 4) (l : Fin 16) : val_main_v34 (F := Ideal) (ix2 p l) = Ideal.cos (angle (16384 + p) l) := by
  unfold angle
  rw [← past]
  pointwise [val_main_v34, val_main_v33, val_main_v32, val_main_v31, val_main_v30, val_main_v29, val_main_v28, val_main_v27,
    val_main_v26, val_main_v25, val_main_v24, val_main_v23, val_main_v22, val_main_cst_2, val_main_cst_3,
    val_main_v3, val_main_v2, val_main_v1, val_main_v0, val_main_c]

/-- Their sines. -/
theorem sin_at (p : Fin 4) (l : Fin 16) : val_main_v36 (F := Ideal) (ix2 p l) = Ideal.sin (angle (16384 + p) l) := by
  unfold angle
  rw [← past]
  pointwise [val_main_v36, val_main_v33, val_main_v32, val_main_v31, val_main_v30, val_main_v29, val_main_v28, val_main_v27,
    val_main_v26, val_main_v25, val_main_v24, val_main_v23, val_main_v22, val_main_cst_2, val_main_cst_3,
    val_main_v3, val_main_v2, val_main_v1, val_main_v0, val_main_c]

/-- The tables the reference rotates with. -/
theorem spread_at (b : Fin 8) (p : Fin 4) (h : Fin 16) (l : Fin 16) :
    val_main_v40 (F := Ideal) (ix4 b p h l) = Ideal.cos (angle (16384 + p) l) ∧ val_main_v45 (F := Ideal) (ix4 b p h l) = Ideal.cos (angle (16384 + p) l)
    ∧ val_main_v42 (F := Ideal) (ix4 b p h l) = Ideal.sin (angle (16384 + p) l)
    ∧ val_main_v47 (F := Ideal) (ix4 b p h l) = Ideal.sin (angle (16384 + p) l) := by
  refine ⟨?_, ?_, ?_, ?_⟩
  · rw [← cos_at]; pointwise [val_main_v40, val_main_v35]
  · rw [← cos_at]; pointwise [val_main_v45, val_main_v35]
  · rw [← sin_at]; pointwise [val_main_v42, val_main_v37]
  · rw [← sin_at]; pointwise [val_main_v47, val_main_v37]

section Rotation
open Cert.DsaKSRefIdeal Cert.DsaKSRefIdeal.Facts₀ Cert.DsaKSRefIdeal.Facts

/-- Heads rotated as the reference does it: two slices of sixteen lanes, and the rest. -/
def rot (Y : FVec Ideal S8x4x16x128 .f32) : FVec Ideal S8x4x16x128 .f32 :=
  concatenate S8x4x16x128 3
    [⟨S8x4x16x16, subf
      (mulf (extractStridedSlice S8x4x16x16 ![0, 0, 0, 0] Y slices_S8x4x16x128_S8x4x16x16_0_0_0_0) (val_main_v40 (F := Ideal)))
      (mulf (extractStridedSlice S8x4x16x16 ![0, 0, 0, 16] Y slices_S8x4x16x128_S8x4x16x16_0_0_0_16) (val_main_v42 (F := Ideal)))⟩,
     ⟨S8x4x16x16, addf
      (mulf (extractStridedSlice S8x4x16x16 ![0, 0, 0, 16] Y slices_S8x4x16x128_S8x4x16x16_0_0_0_16) (val_main_v45 (F := Ideal)))
      (mulf (extractStridedSlice S8x4x16x16 ![0, 0, 0, 0] Y slices_S8x4x16x128_S8x4x16x16_0_0_0_0) (val_main_v47 (F := Ideal)))⟩,
     ⟨S8x4x16x96, extractStridedSlice S8x4x16x96 ![0, 0, 0, 32] Y slices_S8x4x16x128_S8x4x16x96_0_0_0_32⟩]
    concatenates_S8x4x16x16_S8x4x16x16_S8x4x16x96_S8x4x16x128_d3

/-- What the rotation makes of a row whose numbers are `N`. -/
theorem rot_at (Y : FVec Ideal S8x4x16x128 .f32) (N : Fin 2048 → EReal) (b : Fin 8) (p : Fin 4) (h : Fin 16) (l : Fin 128)
    (hY : ∀ (l : Fin 128) (j : Fin 2048), (j : ℕ) = (h : ℕ) * 128 + (l : ℕ) → Y (ix4 b p h l) = N j)
    (j : Fin 2048) (hj : (j : ℕ) = (h : ℕ) * 128 + (l : ℕ)) :
    rot Y (ix4 b p h l) = roped N (16384 + p) j := by
  pointwise [rot]
  unfold roped
  have e : (j : ℕ) % 128 = (l : ℕ) := by omega
  have y0 : Y (ix4 b p h l) = N j := hY l j hj
  have cs : ∀ i : Fin 16, val_main_v40 (F := Ideal) (ix4 b p h i) = Ideal.cos (angle (16384 + p) i) := fun i => (spread_at b p h i).1
  have cs' : ∀ i : Fin 16, val_main_v45 (F := Ideal) (ix4 b p h i) = Ideal.cos (angle (16384 + p) i) := fun i => (spread_at b p h i).2.1
  have sn : ∀ i : Fin 16, val_main_v42 (F := Ideal) (ix4 b p h i) = Ideal.sin (angle (16384 + p) i) := fun i => (spread_at b p h i).2.2.1
  have sn' : ∀ i : Fin 16, val_main_v47 (F := Ideal) (ix4 b p h i) = Ideal.sin (angle (16384 + p) i) := fun i => (spread_at b p h i).2.2.2
  by_cases h0 : (l : ℕ) < 16
  · have y1 := hY ⟨16 + (l : ℕ), by omega⟩ ⟨(j : ℕ) + 16, by omega⟩ (by show (j : ℕ) + 16 = (h : ℕ) * 128 + (16 + (l : ℕ)); omega)
    refine (dif_pos h0).trans ?_
    rw [dif_pos (show (j : ℕ) % 128 < 16 by omega), y0, y1, cs, sn]
    simp only [e]
  by_cases h1 : (l : ℕ) - 16 < 16
  · have y1 := hY ⟨(l : ℕ) - 16, by omega⟩ ⟨(j : ℕ) - 16, by omega⟩ (by show (j : ℕ) - 16 = (h : ℕ) * 128 + ((l : ℕ) - 16); omega)
    have y2 := hY ⟨16 + ((l : ℕ) - 16), by omega⟩ j (by show (j : ℕ) = (h : ℕ) * 128 + (16 + ((l : ℕ) - 16)); omega)
    refine (dif_neg h0).trans ((dif_pos h1).trans ?_)
    rw [dif_neg (show ¬(j : ℕ) % 128 < 16 by omega), if_pos (show (j : ℕ) % 128 - 16 < 16 by omega), y1, y2, cs', sn']
    simp only [e]
  · have y2 := hY ⟨32 + ((l : ℕ) - 16 - 16), by omega⟩ j (by show (j : ℕ) = (h : ℕ) * 128 + (32 + ((l : ℕ) - 16 - 16)); omega)
    refine (dif_neg h0).trans ((dif_neg h1).trans ?_)
    rw [dif_neg (show ¬(j : ℕ) % 128 < 16 by omega), if_neg (show ¬(j : ℕ) % 128 - 16 < 16 by omega)]
    exact y2
end Rotation

/-- The reference's row of a head, before the norm. -/
theorem row_at (x0 : Vec Ideal S32x2048 .bf16) (x1 : Vec Ideal S2048x7248 .f32) (q : Cert.DsaKSRefIdeal.S8x4x16x128.Idx)
    (r : Fin 32) (j : Fin 7248) (hr : (r : ℕ) = (q 0 : ℕ) * 4 + (q 1 : ℕ)) (hj : (j : ℕ) = 2048 + ((q 2 : ℕ) * 128 + (q 3 : ℕ))) :
    val_main_v9 (F := Ideal) x0 x1 q = ∑ e : Fin 2048, (x0 (ix2 r e) : EReal) * x1 (ix2 e j) := by
  have b0 : (q 0 : ℕ) < 8 := (q 0).isLt
  have b1 : (q 1 : ℕ) < 4 := (q 1).isLt
  have b2 : (q 2 : ℕ) < 16 := (q 2).isLt
  have b3 : (q 3 : ℕ) < 128 := (q 3).isLt
  rw [val_main_v9_apply, val_main_v8_apply, val_main_v7_apply, val_main_v6_apply, val_main_v5_apply]
  refine Finset.sum_congr rfl fun e _ => congrArg₂ (fun x y : EReal => x * y) (congrArg x0 ?_) (congrArg x1 ?_)
  · refine funext fun a => Fin.ext ?_
    fin_cases a
    · dsimp; omega
    · rfl
  · refine funext fun a => Fin.ext ?_
    fin_cases a
    · rfl
    · dsimp; omega

/-- The column of the weights that lane `j` of a row of sixteen heads reads. -/
def col (j : ℕ) (h : j < 2048) : Fin 7248 := ⟨2048 + j, by omega⟩

/-- A lane of a row's product with the weights. -/
def full (x0 : Vec Ideal S32x2048 .bf16) (x1 : Vec Ideal S2048x7248 .f32) (r : Fin 32) (j : Fin 2048) : EReal :=
  ∑ e : Fin 2048, (x0 (ix2 r e) : EReal) * x1 (ix2 e (col j j.isLt))

/-- The reference's heads after the norm. -/
theorem norm_at (x0 : Vec Ideal S32x2048 .bf16) (x1 : Vec Ideal S2048x7248 .f32) (x2 : Vec Ideal S128 .f32)
    (q : Cert.DsaKSRefIdeal.S8x4x16x128.Idx) (r : Fin 32) (j : Fin 2048) (hr : (r : ℕ) = (q 0 : ℕ) * 4 + (q 1 : ℕ))
    (hj : (j : ℕ) = (q 2 : ℕ) * 128 + (q 3 : ℕ)) :
    val_main_v22 (F := Ideal) x0 x1 x2 q = normed (full x0 x1 r) x2 j := by
  have b0 : (q 0 : ℕ) < 8 := (q 0).isLt
  have b1 : (q 1 : ℕ) < 4 := (q 1).isLt
  have b2 : (q 2 : ℕ) < 16 := (q 2).isLt
  have b3 : (q 3 : ℕ) < 128 := (q 3).isLt
  have row : ∀ (q : Cert.DsaKSRefIdeal.S8x4x16x128.Idx) (j : Fin 2048), (r : ℕ) = (q 0 : ℕ) * 4 + (q 1 : ℕ) →
      (j : ℕ) = (q 2 : ℕ) * 128 + (q 3 : ℕ) → val_main_v9 (F := Ideal) x0 x1 q = full x0 x1 r j := fun q j h0 hj =>
    row_at x0 x1 q r (col j j.isLt) h0 (by show 2048 + (j : ℕ) = 2048 + ((q 2 : ℕ) * 128 + (q 3 : ℕ)); omega)
  have sq : ∀ k : Fin 128, val_main_v10 (F := Ideal) x0 x1 (idx_main_v11 (idx_main_v12 (idx_main_v18 q)) k)
      = full x0 x1 r ⟨(j : ℕ) / 128 * 128 + (k : ℕ), by omega⟩ * full x0 x1 r ⟨(j : ℕ) / 128 * 128 + (k : ℕ), by omega⟩ := fun k => by
    rw [val_main_v10_apply, row _ ⟨(j : ℕ) / 128 * 128 + (k : ℕ), by omega⟩ (by dsimp; omega) (by dsimp; omega)]
    rfl
  rw [val_main_v22_apply, val_main_v19_apply, val_main_v18_apply, val_main_v17_apply, val_main_v16_apply,
    val_main_v14_apply, val_main_v12_apply, val_main_v11_apply, val_main_v13_apply, val_main_cst_0_apply, val_main_v15_apply,
    val_main_cst_1_apply, val_main_v21_apply, val_main_v20_apply, val_main_cst_apply, Finset.sum_congr rfl fun k _ => sq k,
    row q j hr hj]
  have e : idx_main_v20 (idx_main_v21 q) = ix1 ⟨(j : ℕ) % 128, Nat.mod_lt _ (by decide)⟩ := by
    refine funext fun a => Fin.ext ?_
    fin_cases a
    dsimp; omega
  rw [e]
  rw [show FloatOps.ofBits (F := Ideal) .f32 0#32 = (0 : EReal) from Ideal.ofBits_zero_f32, zero_add]
  rfl

/-- The reference's entry: a lane of the row's product, normed over its head and rotated by the row's position. -/
theorem ref_at (x0 : Vec Ideal S32x2048 .bf16) (x1 : Vec Ideal S2048x7248 .f32) (x2 : Vec Ideal S128 .f32) (r : Fin 32)
    (j : Fin 2048) :
    val_main_v52 (F := Ideal) x0 x1 x2 (ix2 r j) = roped (normed (full x0 x1 r) x2) (16384 + (r : ℕ) % 4) j := by
  have e : idx_main_v52 (ix2 r j) = ix4 ⟨(r : ℕ) / 4, by omega⟩ ⟨(r : ℕ) % 4, by omega⟩ ⟨(j : ℕ) / 128, by omega⟩
      ⟨(j : ℕ) % 128, by omega⟩ := by
    refine funext fun a => Fin.ext ?_
    fin_cases a <;> dsimp <;> omega
  rw [val_main_v52_apply, e]
  refine (rot_at (val_main_v22 (F := Ideal) x0 x1 x2) _ _ ⟨(r : ℕ) % 4, by omega⟩ _ _ (fun l j' h => ?_) j ?_)
  · exact norm_at x0 x1 x2 _ r j' (by dsimp; omega) (by simpa using h)
  · dsimp; omega

/-- The staged gain repeats the head's gain four times. -/
theorem gain_at (c : Dev nD) (t : Fin cfg0.N) (j : Fin 512) :
    iblk m c 2 t (ix2 0 j) = m ((c : Thread nD τ).loc main_arg2) (ix1 ⟨(j : ℕ) % 128, Nat.mod_lt _ (by decide)⟩) := by
  blk_point [iblk, V, idx t]

/-- What a grid point stores is the reference's entry. -/
theorem entry_ref (c : Dev nD) (t : Fin cfg0.N) (y : S32x512.Idx) (i : S32x2048.Idx)
    (h0 : (i 0 : ℕ) = (y 0 : ℕ)) (h1 : (i 1 : ℕ) = t.val * 512 + (y 1 : ℕ)) :
    stored (iblk m c 0 t) (X0_1 m c t) (iblk m c 2 t) (iblk m c 3 t) (iblk m c 4 t) (iblk m c 5 t) (y 0) (y 1)
      = val_main_v52 (F := Ideal) (m ((c : Thread nD τ).loc main_arg0)) (m ((c : Thread nD τ).loc main_arg1))
          (m ((c : Thread nD τ).loc main_arg2)) i := by
  obtain ⟨r, j, rfl⟩ : ∃ (r : Fin 32) (j : Fin 2048), i = ix2 r j := ⟨i 0, i 1, (ix2_eta i).symm⟩
  obtain ⟨a, b, rfl⟩ : ∃ (a : Fin 32) (b : Fin 512), y = ix2 a b := ⟨y 0, y 1, (ix2_eta y).symm⟩
  dsimp only [ix2_0, ix2_1] at h0 h1 ⊢
  have bb : (b : ℕ) < 512 := b.isLt
  have jj : (j : ℕ) < 2048 := j.isLt
  have at_col : ∀ (b' : Fin 512) (j' : Fin 2048), (j' : ℕ) = t.val * 512 + (b' : ℕ) →
      prod (iblk m c 0 t) (X0_1 m c t) a b'
        = full (m ((c : Thread nD τ).loc main_arg0)) (m ((c : Thread nD τ).loc main_arg1)) r j' := fun b' j' hj => by
    unfold prod full
    refine Finset.sum_congr rfl fun e _ => congrArg₂ (fun x y : EReal => x * y) ?_ ?_
    · blk_point [iblk, V, idx t]
    · exact weights_at m c t _ (col j' j'.isLt) (by show 2048 + (j' : ℕ) = (t.val + 4) * 512 + (b' : ℕ); omega)
  have aa : (a : ℕ) < 32 := a.isLt
  have hp : 16384 + (r : ℕ) % 4 = 16384 + (a : ℕ) % 4 := by omega
  rw [ref_at]
  unfold stored
  rw [funext fun l => (tables_at m c t a _ hp l).1, funext fun l => (tables_at m c t a _ hp l).2.1,
    funext fun l => (tables_at m c t a _ hp l).2.2]
  refine turned_eq _ _ _ (t.val) b j h1 fun b' j' hj => ?_
  have bb' : (b' : ℕ) < 512 := b'.isLt
  unfold entry normed
  rw [at_col b' j' hj, gain_at,
    funext fun k : Fin 128 => at_col ⟨(b' : ℕ) / 128 * 128 + (k : ℕ), by omega⟩ ⟨(j' : ℕ) / 128 * 128 + (k : ℕ), by omega⟩
      (by show (j' : ℕ) / 128 * 128 + (k : ℕ) = t.val * 512 + ((b' : ℕ) / 128 * 128 + (k : ℕ)); omega)]
  exact congrArg _ (congrArg _ (congrArg ix1 (Fin.ext (by dsimp; omega))))

/-- The full-width output array is the reference's first result. -/
theorem final (c : Dev nD) : (dats m 0 c).arrAt 6 cfg0.N
    = val_main_v52 (F := Ideal) (m ((c : Thread nD τ).loc main_arg0)) (m ((c : Thread nD τ).loc main_arg1))
        (m ((c : Thread nD τ).loc main_arg2)) := by
  refine (dats m 0 c).arrAt_eq_of_covers 6 _ (by decide +kernel) fun t _ y => ?_
  blk_simp
  rw [after0_6, point]
  refine entry_ref m c t y _ ?_ ?_
  · blk_simp [idx t]
  · blk_simp [idx t]

/-- The half-width output array is its second. -/
theorem final_half (c : Dev nD) : (dats m 0 c).arrAt 7 cfg0.N
    = val_main_v53 (F := Ideal) (m ((c : Thread nD τ).loc main_arg0)) (m ((c : Thread nD τ).loc main_arg1))
        (m ((c : Thread nD τ).loc main_arg2)) := by
  refine (dats m 0 c).arrAt_eq_of_covers 7 _ (by decide +kernel) fun t _ y => ?_
  blk_simp
  rw [after0_7, half]
  refine entry_ref m c t y _ ?_ ?_
  · blk_simp [idx t]
  · blk_simp [idx t]

/-- The kernel and the reference leave the same two arrays. -/
theorem algebraic : Cert.algebraic_DsaKSIdeal_DsaKSRefIdeal := fun m ρ m' ρ' _ hag =>
  ⟨_, _, Value.run_blocks m ρ, (θ_run Cert.DsaKSRefIdeal.defs _ _).mono
    (fun _ h c => ⟨(h c).1.trans (by rw [val_main_v52_eq, (hag c).1, (hag c).2.1, (hag c).2.2, final]),
      (h c).2.1.trans (by rw [val_main_v53_eq, (hag c).1, (hag c).2.1, (hag c).2.2, final_half]), (h c).2.2⟩)
    (Cert.DsaKSRefIdeal.Value.run (F := Ideal) m' ρ')⟩

end Cert.DsaKSIdeal.Hand
-- ==== Proof.IdxHeads.lean ====
module
public import proofs.«01_k».proof.Defs
public import proofs.«01_k».proof.Proof.Gen.IdxKIdeal.Frame
public import Idealize.ShloMosaic.Lib.Pipeline.ValueKit

/-! The indexer's heads: 64 lanes each, two to a part of 128 lanes, lanes 0 to 15 of a head rotated by the angles of the row's
    position.  A row is written as a function of a natural number, so that a lane eight to the left or right needs no bound. -/

@[expose] public section

set_option maxRecDepth 16384

noncomputable section

namespace Cert.Indexer.Hand

open Idealize.ShloMosaic

/-- A row read at a natural number. -/
def lift {n : ℕ} [NeZero n] (P : Fin n → EReal) (k : ℕ) : EReal := P ⟨k % n, Nat.mod_lt _ (NeZero.pos n)⟩

/-- A lane of a row. -/
theorem lift_at {n : ℕ} [NeZero n] (P : Fin n → EReal) (j : Fin n) (k : ℕ) (h : (j : ℕ) = k) : P j = lift P k := by
  subst h
  exact congrArg P (Fin.ext (Nat.mod_eq_of_lt j.isLt).symm)

/-- The angle of frequency `l` at position `p`. -/
def angle (p l : ℕ) : EReal :=
  FloatOps.sitofp (F := Ideal) .f32 (BitVec.ofNat 32 p) * Ideal.pow (Ideal.ofBits .f32 0x48F42400#32)
    (Ideal.div (-FloatOps.sitofp (F := Ideal) .f32 (BitVec.ofNat 32 l)) (Ideal.ofBits .f32 0x41000000#32))

/-- The table of the lane itself. -/
def table0 (p : ℕ) (l : ℕ) : EReal :=
  if l < 8 then Ideal.cos (angle p l) else if l - 8 < 8 then Ideal.cos (angle p (l - 8)) else 1

/-- The table of the lane eight to the left. -/
def table1 (p : ℕ) (l : ℕ) : EReal :=
  if l < 8 then 0 else if l - 8 < 8 then Ideal.sin (angle p (l - 8)) else 0

/-- The table of the lane eight to the right. -/
def table2 (p : ℕ) (l : ℕ) : EReal :=
  if l < 8 then -Ideal.sin (angle p l) else 0

/-- A row of heads `N` at position `p`, lanes 0 to 15 of each rotated. -/
def roped (N : ℕ → EReal) (p : ℕ) (j : ℕ) : EReal :=
  if j % 64 < 8 then N j * Ideal.cos (angle p (j % 64)) - N (j + 8) * Ideal.sin (angle p (j % 64))
  else if j % 64 - 8 < 8 then N j * Ideal.cos (angle p (j % 64 - 8)) + N (j - 8) * Ideal.sin (angle p (j % 64 - 8))
  else N j

/-- Lane `j` of a row `R`, turned within its part of 128 lanes by three tables. -/
def turned (R : ℕ → EReal) (c s z : Fin 128 → EReal) (j : ℕ) : EReal :=
  R j * c ⟨j % 128, Nat.mod_lt _ (by decide)⟩
    + R (j / 128 * 128 + (j % 128 + 120) % 128) * s ⟨j % 128, Nat.mod_lt _ (by decide)⟩
    + R (j / 128 * 128 + (j % 128 + 8) % 128) * z ⟨j % 128, Nat.mod_lt _ (by decide)⟩

/-- Turning a row of `w` lanes with the tables rotates its heads: a table is zero where the shift brings in a lane that isn't
    wanted. -/
theorem turned_eq (R N : ℕ → EReal) (p o w b : ℕ) (hw : w % 128 = 0) (ho : o % 128 = 0) (hb : b < w)
    (hR : ∀ b', b' < w → R b' = N (o + b')) :
    turned R (fun l => table0 p ((l : ℕ) % 64)) (fun l => table1 p ((l : ℕ) % 64)) (fun l => table2 p ((l : ℕ) % 64)) b
      = roped N p (o + b) := by
  have e : b % 128 % 64 = (o + b) % 64 := by omega
  unfold turned roped table0 table1 table2
  dsimp only
  simp only [e]
  rw [hR b hb]
  by_cases h0 : (o + b) % 64 < 8
  · rw [if_pos h0, if_pos h0, if_pos h0, if_pos h0, mul_zero, add_zero, mul_neg, ← sub_eq_add_neg,
      hR _ (show b / 128 * 128 + (b % 128 + 8) % 128 < w by omega),
      show o + (b / 128 * 128 + (b % 128 + 8) % 128) = o + b + 8 by omega]
  by_cases h1 : (o + b) % 64 - 8 < 8
  · rw [if_neg h0, if_pos h1, if_neg h0, if_pos h1, if_neg h0, if_neg h0, if_pos h1, mul_zero, add_zero,
      hR _ (show b / 128 * 128 + (b % 128 + 120) % 128 < w by omega),
      show o + (b / 128 * 128 + (b % 128 + 120) % 128) = o + b - 8 by omega]
  · rw [if_neg h0, if_neg h1, if_neg h0, if_neg h1, if_neg h0, if_neg h0, if_neg h1, mul_zero, mul_zero, add_zero, add_zero, mul_one]

/-- A choice between three pieces of a row, made number by number. -/
theorem three (l : ℕ) (A : l < 8 → EReal) (B : l - 8 < 8 → EReal) (C : ¬l < 8 → ¬l - 8 < 8 → EReal) (a b d : EReal)
    (hA : ∀ h, A h = a) (hB : ∀ h, B h = b) (hC : ∀ h h', C h h' = d) :
    (if h : l < 8 then A h else if h' : l - 8 < 8 then B h' else C h h') = if l < 8 then a else if l - 8 < 8 then b else d := by
  by_cases h : l < 8
  · rw [dif_pos h, if_pos h, hA]
  by_cases h' : l - 8 < 8
  · rw [dif_neg h, dif_pos h', if_neg h, if_pos h', hB]
  · rw [dif_neg h, dif_neg h', if_neg h, if_neg h', hC]

section Part
open Cert.IdxKIdeal Cert.IdxKIdeal.Gen

/-- A part of 128 lanes turned: its lanes times the first table, the lanes eight to the left times the second, those eight to
    the right times the third. -/
def turn (x : FVec Ideal S256x128 .f32) (c s z : Vec Ideal S256x128 .f32) : FVec Ideal S256x128 .f32 :=
  addf (addf (mulf x (shapeCast S256x128 c shapeCasts_S256x128_S256x128))
    (mulf (dynamicRotate 1 8#32 none x rotates_S256x128_d1) (shapeCast S256x128 s shapeCasts_S256x128_S256x128)))
    (mulf (dynamicRotate 1 120#32 none x rotates_S256x128_d1) (shapeCast S256x128 z shapeCasts_S256x128_S256x128))

/-- An entry of a turned part. -/
theorem turn_at (x : FVec Ideal S256x128 .f32) (c s z : Vec Ideal S256x128 .f32) (r : Fin 256) (l : Fin 128) :
    turn x c s z (ix2 r l) = x (ix2 r l) * c (ix2 r l) + x (ix2 r ⟨((l : ℕ) + 120) % 128, Nat.mod_lt _ (by decide)⟩) * s (ix2 r l)
      + x (ix2 r ⟨((l : ℕ) + 8) % 128, Nat.mod_lt _ (by decide)⟩) * z (ix2 r l) := by
  pointwise [turn]
  simp only [show (l : ℕ) + 128 - 8 = (l : ℕ) + 120 by omega, show (l : ℕ) + 128 - 120 = (l : ℕ) + 8 by omega]

/-- A part that is lanes `o` to `o + 127` of a row `R`, turned. -/
theorem turn_row (x : FVec Ideal S256x128 .f32) (c s z : Vec Ideal S256x128 .f32) (R : ℕ → EReal) (r : Fin 256) (l : Fin 128)
    (o j : ℕ) (ho : o % 128 = 0) (hj : j = o + (l : ℕ)) (hx : ∀ l : Fin 128, x (ix2 r l) = R (o + (l : ℕ))) :
    turn x c s z (ix2 r l) = turned R (fun l => c (ix2 r l)) (fun l => s (ix2 r l)) (fun l => z (ix2 r l)) j := by
  subst hj
  rw [turn_at, hx, hx, hx]
  unfold turned
  have e : (o + (l : ℕ)) / 128 * 128 = o := by omega
  have e' : (o + (l : ℕ)) % 128 = (l : ℕ) := by omega
  simp only [e, e']

end Part

end Cert.Indexer.Hand
-- ==== Proof.IdxKValue.lean ====
module
public import proofs.«01_k».proof.Proof.IdxHeads
public import Idealize.ShloMosaic.Lib.Pipeline.ValueKit

/-! The indexer's keys: `h @ w_small`, two heads of 64 lanes, each rotated by the angles of the row's position.  Here: what a
    grid point stores. -/

@[expose] public section

set_option maxRecDepth 16384

noncomputable section

namespace Cert.IdxKIdeal.Hand

open Cert.IdxKIdeal Cert.IdxKIdeal.Gen Idealize.ShloMosaic Idealize.ShloMosaic.TcCoe Idealize.SL.Sem
open Idealize.ShloMosaic.Pipeline (Dat)
open Cert.Indexer.Hand

variable (m : (ℓ : Loc nD τ sig) → Buf (Elt Ideal) ℓ)

/-- Point `t` works on row block `t`; the tables have four row blocks. -/
theorem idx : ∀ t : Fin cfg0.N, win0_0.index t = ![t.val, 0] ∧ win0_1.index t = ![0, 0]
    ∧ win0_2.index t = ![t.val % 4, 0] ∧ win0_3.index t = ![t.val % 4, 0]
    ∧ win0_4.index t = ![t.val % 4, 0] ∧ win0_5.index t = ![t.val, 0] :=
  (by decide +kernel : ∀ t : Fin grid0.N, _)

/-- The staged weights are the whole array. -/
theorem weights_at (c : Dev nD) (t : Fin cfg0.N) (y : S2048x128.Idx) :
    iblk m c 1 t y = V m c main_v32 (ix2 (y 0) (y 1)) := by
  unfold iblk
  blk_ext [idx t]

/-- The scratch buffer holds the weights. -/
theorem scratch_eq (c : Dev nD) (n : ℕ) (h : n < cfg0.N) (y : S2048x128.Idx) :
    (outsAt0 m c n h).2 y = iblk m c 1 ⟨n, h⟩ y := by
  have hn : n < 8 := h
  induction n with
  | zero =>
    have e := outsAt0_A m c ⟨0, h⟩ (by rfl)
    dsimp only at e
    rw [e]; dsimp only
    frame_out
    pointwise [k0_pay2]
  | succ n ih =>
    have e := outsAt0_B m c ⟨n + 1, h⟩ (by dsimp; omega)
    dsimp only at e
    rw [e]; dsimp only
    refine (ih (Nat.lt_of_succ_lt h) (by omega)).trans ?_
    rw [weights_at, weights_at]

/-- After the first point the scratch buffer holds the weights already. -/
theorem kept (c : Dev nD) (t : Fin cfg0.N) (h0 : ¬t.val % 8 = 0) :
    (outsAt0 m c (t.val - 1) (Nat.lt_of_le_of_lt (Nat.sub_le _ _) t.isLt)).2 = iblk m c 1 t := by
  refine funext fun j => (scratch_eq m c _ _ j).trans ?_
  rw [weights_at, weights_at]

/-- The cast of the weights changes nothing over the reals. -/
theorem cast_eq (W : Vec Ideal S2048x128 .f32) : k0_pay2 (F := Ideal) W = W := funext fun j => by
  pointwise [k0_pay2]

/-- An entry of a block's product with its weights. -/
def prod (X : Vec Ideal S1024x2048 .bf16) (W : Vec Ideal S2048x128 .bf16) (r : Fin 1024) (j : Fin 128) : EReal :=
  ∑ e : Fin 2048, X (ix2 r e) * W (ix2 e j)

/-- An entry of a chunk's product is an entry of the block's product. -/
theorem chunk_at (X : Vec Ideal S1024x2048 .bf16) (W : Vec Ideal S2048x128 .bf16) (o : ℕ)
    (b : ∀ a, (![o, 0] : Fin 2 → ℕ) a + (![256, 2048] : Fin 2 → ℕ) a ≤ S1024x2048.size a)
    (r : Fin 256) (x : Fin 1024) (j : Fin 128) (h0 : (x : ℕ) = o + (r : ℕ)) :
    k0_pay3 (F := Ideal) W (View.ld X (Rect.unit ![o, 0] ![256, 2048] b)) (ix2 r j) = prod X W x j := by
  generalize hv : View.ld X (Rect.unit ![o, 0] ![256, 2048] b) = v
  pointwise [k0_pay3, prod]
  subst hv
  refine Finset.sum_congr rfl fun e _ => congrArg₂ (fun x y : EReal => x * y) (congrArg X (funext fun a => Fin.ext ?_)) rfl
  fin_cases a
  · show o + 1 * (r : ℕ) = (x : ℕ); omega
  · show 0 + 1 * (e : ℕ) = (e : ℕ); omega

/-- What a grid point stores: the product of its blocks, turned by its row of the tables. -/
def stored (X : Vec Ideal S1024x2048 .bf16) (W : Vec Ideal S2048x128 .bf16)
    (c s z : Vec Ideal S1024x128 .f32) (r : Fin 1024) (j : Fin 128) : EReal :=
  turned (lift (prod X W r)) (fun l => c (ix2 r l)) (fun l => s (ix2 r l)) (fun l => z (ix2 r l)) j

/-- A chunk's rows of a table. -/
theorem rows_at (T : Vec Ideal S1024x128 .f32) (o : ℕ)
    (d : ∀ a, (![o, 0] : Fin 2 → ℕ) a + (![256, 128] : Fin 2 → ℕ) a ≤ S1024x128.size a)
    (r : Fin 256) (x : Fin 1024) (l : Fin 128) (h0 : (x : ℕ) = o + (r : ℕ)) :
    View.ld T (Rect.unit ![o, 0] ![256, 128] d) (ix2 r l) = T (ix2 x l) := by
  refine congrArg T (funext fun a => Fin.ext ?_)
  fin_cases a
  · show o + 1 * (r : ℕ) = (x : ℕ); omega
  · show 0 + 1 * (l : ℕ) = (l : ℕ); omega

/-- What is stored for a chunk of 256 rows. -/
theorem tile (X : Vec Ideal S1024x2048 .bf16) (W : Vec Ideal S2048x128 .bf16) (c s z : Vec Ideal S1024x128 .f32) (o : ℕ)
    (b : ∀ a, (![o, 0] : Fin 2 → ℕ) a + (![256, 2048] : Fin 2 → ℕ) a ≤ S1024x2048.size a)
    (d : ∀ a, (![o, 0] : Fin 2 → ℕ) a + (![256, 128] : Fin 2 → ℕ) a ≤ S1024x128.size a)
    (y : S256x128.Idx) (x : S1024x128.Idx) (h0 : (x 0 : ℕ) = o + (y 0 : ℕ)) (h1 : (x 1 : ℕ) = (y 1 : ℕ)) :
    turn (k0_pay3 (F := Ideal) W (View.ld X (Rect.unit ![o, 0] ![256, 2048] b)))
      (View.ld c (Rect.unit ![o, 0] ![256, 128] d)) (View.ld s (Rect.unit ![o, 0] ![256, 128] d))
      (View.ld z (Rect.unit ![o, 0] ![256, 128] d)) y
      = stored X W c s z (x 0) (x 1) := by
  obtain ⟨r, l, rfl⟩ : ∃ (r : Fin 256) (l : Fin 128), y = ix2 r l := ⟨y 0, y 1, (ix2_eta y).symm⟩
  dsimp only [ix2_0, ix2_1] at h0 h1
  rw [turn_row _ _ _ _ (lift (prod X W (x 0))) r l 0 (x 1) rfl (by omega) fun k =>
    (chunk_at X W o b r (x 0) k h0).trans (lift_at _ k _ (by omega))]
  unfold stored
  rw [funext fun l => rows_at c o d r (x 0) l h0, funext fun l => rows_at s o d r (x 0) l h0,
    funext fun l => rows_at z o d r (x 0) l h0]

/-- The first point casts the weights and multiplies with them. -/
theorem body_A (c : Dev nD) (t : Fin cfg0.N) (h0 : t.val % 8 = 0) (y : S1024x128.Idx) :
    (outsAt0 m c t.val t.isLt).1 y = stored (iblk m c 0 t) (iblk m c 1 t) (iblk m c 2 t) (iblk m c 3 t) (iblk m c 4 t) (y 0) (y 1) := by
  rw [outsAt0_A m c t h0]; dsimp only
  frame_out
  rw [cast_eq]
  canon_tiles y h
  · exact tile _ _ _ _ _ 768 _ _ _ _ (by omega) (by omega)
  · exact tile _ _ _ _ _ 512 _ _ _ _ (by omega) (by omega)
  · exact tile _ _ _ _ _ 256 _ _ _ _ (by omega) (by omega)
  · exact tile _ _ _ _ _ 0 _ _ _ _ (by omega) (by omega)

/-- Every other point multiplies with the kept weights. -/
theorem body_B (c : Dev nD) (t : Fin cfg0.N) (h0 : ¬t.val % 8 = 0) (y : S1024x128.Idx) :
    (outsAt0 m c t.val t.isLt).1 y = stored (iblk m c 0 t) (iblk m c 1 t) (iblk m c 2 t) (iblk m c 3 t) (iblk m c 4 t) (y 0) (y 1) := by
  rw [outsAt0_B m c t h0]; dsimp only
  frame_out
  rw [(Memref.isWhole_whole _).read_unread, kept m c t h0]
  canon_tiles y h
  · exact tile _ _ _ _ _ 768 _ _ _ _ (by omega) (by omega)
  · exact tile _ _ _ _ _ 512 _ _ _ _ (by omega) (by omega)
  · exact tile _ _ _ _ _ 256 _ _ _ _ (by omega) (by omega)
  · exact tile _ _ _ _ _ 0 _ _ _ _ (by omega) (by omega)

/-- Every point stores its row block times the weights, each head rotated. -/
theorem point (c : Dev nD) (t : Fin cfg0.N) (y : S1024x128.Idx) :
    (outsAt0 m c t.val t.isLt).1 y = stored (iblk m c 0 t) (iblk m c 1 t) (iblk m c 2 t) (iblk m c 3 t) (iblk m c 4 t) (y 0) (y 1) :=
  if h0 : t.val % 8 = 0 then body_A m c t h0 y else body_B m c t h0 y

end Cert.IdxKIdeal.Hand
-- ==== Proof.IdxKTables.lean ====
module
public import proofs.«01_k».proof.Proof.IdxKValue
public import Idealize.ShloMosaic.Lib.Pipeline.ValueKit
public import Idealize.ShloMosaic.Lib.KernelVsHost

/-! The three tables the indexer's keys are turned with.  A table is read in three stages: the host's operations up to the
    cosines and sines, the joining of these to rows of 64 lanes, and the copies that follow. -/

@[expose] public section

set_option maxRecDepth 16384

noncomputable section

namespace Cert.IdxKIdeal.Hand

open Cert.IdxKIdeal Cert.IdxKIdeal.Gen Idealize.ShloMosaic Idealize.ShloMosaic.TcCoe Idealize.SL.Sem
open Idealize.ShloMosaic.Pipeline (Dat)
open Cert.Indexer.Hand (angle table0 table1 table2 three)

variable (m : (ℓ : Loc nD τ sig) → Buf (Elt Ideal) ℓ)

/-- The host's operations, cut where the cosines and sines are made, before the last table and after it. -/
theorem stages (c : Dev nD) (b : Ref sig .tc) : V m c b = StableHlo.after (hostOps0_1 (F := Ideal)) (StableHlo.after (List.drop 27 hostOps0)
    (StableHlo.after (List.take 1 (List.drop 26 hostOps0)) (StableHlo.after (List.take 3 (List.drop 23 hostOps0))
      (StableHlo.after (List.take 23 hostOps0) fun b => m (c, b))))) b := by
  rw [← StableHlo.after_append, ← StableHlo.after_append, ← StableHlo.after_append, ← StableHlo.after_append]
  rfl

/-- The cosines, the sines and the constants of the tables. -/
theorem made (σ : Valuation τ sig (Elt Ideal)) (p : Fin 4096) :
    (∀ l : Fin 8, StableHlo.after (List.take 23 hostOps0) σ main_v13 (ix2 p l) = Ideal.cos (angle p l))
    ∧ (∀ l : Fin 8, StableHlo.after (List.take 23 hostOps0) σ main_v14 (ix2 p l) = Ideal.sin (angle p l))
    ∧ (∀ l : Fin 48, StableHlo.after (List.take 23 hostOps0) σ main_v15 (ix2 p l) = (1 : EReal))
    ∧ (∀ l : Fin 8, StableHlo.after (List.take 23 hostOps0) σ main_v16 (ix2 p l) = (0 : EReal))
    ∧ (∀ l : Fin 48, StableHlo.after (List.take 23 hostOps0) σ main_v17 (ix2 p l) = (0 : EReal)) := by
  simp only [hostOps0, List.take_succ_cons, List.take_zero]
  refine ⟨fun l => ?_, fun l => ?_, fun l => ?_, fun l => ?_, fun l => ?_⟩ <;> entry_read <;> pointwise [angle]

/-- The rows of the first two tables, and what the third is made of. -/
theorem joined (σ : Valuation τ sig (Elt Ideal)) (p : Fin 4096)
    (h13 : ∀ l : Fin 8, σ main_v13 (ix2 p l) = Ideal.cos (angle p l)) (h14 : ∀ l : Fin 8, σ main_v14 (ix2 p l) = Ideal.sin (angle p l))
    (h15 : ∀ l : Fin 48, σ main_v15 (ix2 p l) = (1 : EReal)) (h16 : ∀ l : Fin 8, σ main_v16 (ix2 p l) = (0 : EReal))
    (h17 : ∀ l : Fin 48, σ main_v17 (ix2 p l) = (0 : EReal)) :
    (∀ l : Fin 64, StableHlo.after (List.take 3 (List.drop 23 hostOps0)) σ main_v18 (ix2 p l) = table0 p l)
    ∧ (∀ l : Fin 64, StableHlo.after (List.take 3 (List.drop 23 hostOps0)) σ main_v19 (ix2 p l) = table1 p l)
    ∧ (∀ l : Fin 8, StableHlo.after (List.take 3 (List.drop 23 hostOps0)) σ main_v20 (ix2 p l) = -Ideal.sin (angle p l))
    ∧ (∀ l : Fin 8, StableHlo.after (List.take 3 (List.drop 23 hostOps0)) σ main_v16 (ix2 p l) = (0 : EReal))
    ∧ (∀ l : Fin 48, StableHlo.after (List.take 3 (List.drop 23 hostOps0)) σ main_v17 (ix2 p l) = (0 : EReal)) := by
  simp only [hostOps0, List.drop_succ_cons, List.drop_zero, List.take_succ_cons, List.take_zero]
  refine ⟨fun l => ?_, fun l => ?_, fun l => ?_, fun l => ?_, fun l => ?_⟩
  · entry_read
    pointwise
    exact three _ _ _ _ _ _ _ (fun h => h13 _) (fun h => h13 _) (fun h h' => h15 _)
  · entry_read
    pointwise
    exact three _ _ _ _ _ _ _ (fun h => h16 _) (fun h => h14 _) (fun h h' => h17 _)
  · entry_read
    pointwise
    exact congrArg (fun x : EReal => -x) (h14 l)
  · entry_read
    exact h16 l
  · entry_read
    exact h17 l

/-- The rows of the third table. -/
theorem joined2 (σ : Valuation τ sig (Elt Ideal)) (p : Fin 4096)
    (h20 : ∀ l : Fin 8, σ main_v20 (ix2 p l) = -Ideal.sin (angle p l)) (h16 : ∀ l : Fin 8, σ main_v16 (ix2 p l) = (0 : EReal))
    (h17 : ∀ l : Fin 48, σ main_v17 (ix2 p l) = (0 : EReal)) (l : Fin 64) :
    StableHlo.after (List.take 1 (List.drop 26 hostOps0)) σ main_v18 (ix2 p l) = σ main_v18 (ix2 p l)
    ∧ StableHlo.after (List.take 1 (List.drop 26 hostOps0)) σ main_v19 (ix2 p l) = σ main_v19 (ix2 p l)
    ∧ StableHlo.after (List.take 1 (List.drop 26 hostOps0)) σ main_v21 (ix2 p l) = table2 p l := by
  simp only [hostOps0, List.drop_succ_cons, List.drop_zero, List.take_succ_cons, List.take_zero]
  refine ⟨?_, ?_, ?_⟩
  · entry_read
    rfl
  · entry_read
    rfl
  · entry_read
    pointwise
    rw [show table2 p l = if (l : ℕ) < 8 then -Ideal.sin (angle p l) else if (l : ℕ) - 8 < 8 then 0 else 0 from by
      unfold table2; rw [ite_self]]
    exact three _ _ _ _ _ _ _ (fun h => h20 _) (fun h => h16 _) (fun h h' => h17 _)

/-- The copies put a table's 64 lanes side by side twice. -/
theorem copied (σ : Valuation τ sig (Elt Ideal)) (p : Fin 4096) (l : Fin 128) :
    StableHlo.after (hostOps0_1 (F := Ideal)) (StableHlo.after (List.drop 27 hostOps0) σ) main_v24 (ix2 p l) = σ main_v18 (ix2 p ⟨(l : ℕ) % 64, Nat.mod_lt _ (by decide)⟩)
    ∧ StableHlo.after (hostOps0_1 (F := Ideal)) (StableHlo.after (List.drop 27 hostOps0) σ) main_v27 (ix2 p l) = σ main_v19 (ix2 p ⟨(l : ℕ) % 64, Nat.mod_lt _ (by decide)⟩)
    ∧ StableHlo.after (hostOps0_1 (F := Ideal)) (StableHlo.after (List.drop 27 hostOps0) σ) main_v30 (ix2 p l) = σ main_v21 (ix2 p ⟨(l : ℕ) % 64, Nat.mod_lt _ (by decide)⟩) := by
  simp only [hostOps0, hostOps0_1, List.drop_succ_cons, List.drop_zero]
  refine ⟨?_, ?_, ?_⟩ <;> entry_read <;> pointwise

/-- The small weights: the last 80 columns and padding; their first 64 columns are those of the key. -/
theorem padded (σ : Valuation τ sig (Elt Ideal)) (e : Fin 2048) (l : Fin 64) :
    StableHlo.after (hostOps0_1 (F := Ideal)) (StableHlo.after (List.drop 27 hostOps0) σ) main_v32 (ix2 e ⟨(l : ℕ), by omega⟩)
      = σ main_arg1 (ix2 e ⟨7168 + (l : ℕ), by omega⟩) := by
  simp only [hostOps0, hostOps0_1, List.drop_succ_cons, List.drop_zero]
  entry_read
  show pad S2048x128 ![0, 0] ![0, 48] ![0, 0]
    (extractStridedSlice S2048x80 ![0, 7168] (σ main_arg1 : Vec Ideal S2048x7248 .f32) slices_S2048x7248_S2048x80_0_7168)
    (sitofp (F := Ideal) .f32 (constantI S_ 32 0#32)) pads_S2048x80_S2048x128_000_0480 h_S_ (ix2 e ⟨(l : ℕ), by omega⟩) = _
  generalize (σ main_arg1 : Vec Ideal S2048x7248 .f32) = w
  rw [pad_apply_of_inside (k := ix2 e ⟨(l : ℕ), by omega⟩)]
  · pointwise
  · intro a
    fin_cases a <;> dsimp <;> omega

/-- They leave the layer's weights alone. -/
theorem untouched (σ : Valuation τ sig (Elt Ideal)) (i : S2048x7248.Idx) :
    StableHlo.after (hostOps0_1 (F := Ideal)) (StableHlo.after (List.drop 27 hostOps0) σ) main_arg1 i = σ main_arg1 i := by
  simp only [hostOps0, hostOps0_1, List.drop_succ_cons, List.drop_zero]
  entry_read
  rfl

/-- The small weights that the kernel is given. -/
abbrev small (c : Dev nD) : Vec Ideal S2048x128 .f32 := V m c main_v32

/-- Their first 64 columns. -/
theorem small_at (c : Dev nD) (e : Fin 2048) (l : Fin 64) :
    small m c (ix2 e ⟨(l : ℕ), by omega⟩) = m ((c : Thread nD τ).loc main_arg1) (ix2 e ⟨7168 + (l : ℕ), by omega⟩) := by
  rw [← V_main_arg1 m c, show small m c = _ from stages m c main_v32, stages]
  exact (padded _ e l).trans (untouched _ _).symm

/-- What the kernel is given as tables. -/
theorem tables (c : Dev nD) (p : Fin 4096) (l : Fin 128) :
    V m c main_v24 (ix2 p l) = table0 p ((l : ℕ) % 64) ∧ V m c main_v27 (ix2 p l) = table1 p ((l : ℕ) % 64)
    ∧ V m c main_v30 (ix2 p l) = table2 p ((l : ℕ) % 64) := by
  obtain ⟨h13, h14, h15, h16, h17⟩ := made (fun b => m (c, b)) p
  obtain ⟨j0, j1, h20, h16, h17⟩ := joined _ p h13 h14 h15 h16 h17
  obtain ⟨i0, i1, i2⟩ := joined2 _ p h20 h16 h17 ⟨(l : ℕ) % 64, Nat.mod_lt _ (by decide)⟩
  obtain ⟨k0, k1, k2⟩ := copied (StableHlo.after (List.take 1 (List.drop 26 hostOps0)) (StableHlo.after (List.take 3 (List.drop 23 hostOps0))
    (StableHlo.after (List.take 23 hostOps0) fun b => m (c, b)))) p l
  rw [stages, stages, stages]
  exact ⟨k0.trans (i0.trans (j0 _)), k1.trans (i1.trans (j1 _)), k2.trans i2⟩

/-- The staged rows of the tables: position `t % 4 * 1024 + r`. -/
theorem tables_at (c : Dev nD) (t : Fin cfg0.N) (r : Fin 1024) (p : ℕ) (hp : p = t.val % 4 * 1024 + (r : ℕ)) (l : Fin 128) :
    iblk m c 2 t (ix2 r l) = table0 p ((l : ℕ) % 64) ∧ iblk m c 3 t (ix2 r l) = table1 p ((l : ℕ) % 64)
    ∧ iblk m c 4 t (ix2 r l) = table2 p ((l : ℕ) % 64) := by
  have h : p < 4096 := by omega
  subst hp
  obtain ⟨k0, k1, k2⟩ := tables m c ⟨t.val % 4 * 1024 + (r : ℕ), h⟩ l
  refine ⟨Eq.trans ?_ k0, Eq.trans ?_ k1, Eq.trans ?_ k2⟩ <;> unfold iblk
  · blk_ext [idx t]
  · blk_ext [idx t]
  · blk_ext [idx t]

end Cert.IdxKIdeal.Hand
-- ==== Proof.IdxKClaim.lean ====
module
public import proofs.«01_k».proof.Proof.IdxKTables
public import proofs.«01_k».proof.Proof.Gen.IdxKRefIdeal.Run
public import proofs.«01_k».proof.Proof.Gen.IdxKRefIdeal.Read
public import Idealize.ShloMosaic.Lib.Pipeline.ValueKit

/-! The indexer's keys: the reference's entries, and the claim. -/

@[expose] public section

set_option maxRecDepth 16384

noncomputable section

namespace Cert.IdxKIdeal.Hand

open Cert.IdxKIdeal Cert.IdxKIdeal.Gen Idealize.ShloMosaic Idealize.ShloMosaic.TcCoe Idealize.SL.Sem
open Idealize.ShloMosaic.Pipeline (Dat)
open Cert.IdxKRefIdeal.Read
open Cert.Indexer.Hand (lift lift_at turned_eq roped angle)

variable (m : (ℓ : Loc nD τ sig) → Buf (Elt Ideal) ℓ)

/-- The cosines of the reference's angles. -/
theorem cos_at (p : Fin 4096) (l : Fin 8) : val_main_v16 (F := Ideal) (ix2 p l) = Ideal.cos (angle p l) := by
  unfold angle
  pointwise [val_main_v16, val_main_v15, val_main_v14, val_main_v13, val_main_v12, val_main_v11, val_main_v10, val_main_v9, val_main_v8, val_main_v7, val_main_v6, val_main_v5, val_main_v4,
    val_main_cst, val_main_cst_0]

/-- Their sines. -/
theorem sin_at (p : Fin 4096) (l : Fin 8) : val_main_v18 (F := Ideal) (ix2 p l) = Ideal.sin (angle p l) := by
  unfold angle
  pointwise [val_main_v18, val_main_v15, val_main_v14, val_main_v13, val_main_v12, val_main_v11, val_main_v10, val_main_v9, val_main_v8, val_main_v7, val_main_v6, val_main_v5, val_main_v4,
    val_main_cst, val_main_cst_0]

/-- The tables the reference rotates with. -/
theorem spread_at (b : Fin 2) (p : Fin 4096) (h : Fin 1) (l : Fin 8) :
    val_main_v22 (F := Ideal) (ix4 b p h l) = Ideal.cos (angle p l) ∧ val_main_v27 (F := Ideal) (ix4 b p h l) = Ideal.cos (angle p l)
    ∧ val_main_v24 (F := Ideal) (ix4 b p h l) = Ideal.sin (angle p l)
    ∧ val_main_v29 (F := Ideal) (ix4 b p h l) = Ideal.sin (angle p l) := by
  refine ⟨?_, ?_, ?_, ?_⟩
  · rw [← cos_at]; pointwise [val_main_v22, val_main_v17]
  · rw [← cos_at]; pointwise [val_main_v27, val_main_v17]
  · rw [← sin_at]; pointwise [val_main_v24, val_main_v19]
  · rw [← sin_at]; pointwise [val_main_v29, val_main_v19]

section Rotation
open Cert.IdxKRefIdeal Cert.IdxKRefIdeal.Facts₀ Cert.IdxKRefIdeal.Facts

/-- Heads rotated as the reference does it: two slices of eight lanes, and the rest. -/
def rot (Y : FVec Ideal S2x4096x1x64 .f32) : FVec Ideal S2x4096x1x64 .f32 :=
  concatenate S2x4096x1x64 3
    [⟨S2x4096x1x8, subf
      (mulf (extractStridedSlice S2x4096x1x8 ![0, 0, 0, 0] Y slices_S2x4096x1x64_S2x4096x1x8_0_0_0_0) (val_main_v22 (F := Ideal)))
      (mulf (extractStridedSlice S2x4096x1x8 ![0, 0, 0, 8] Y slices_S2x4096x1x64_S2x4096x1x8_0_0_0_8) (val_main_v24 (F := Ideal)))⟩,
     ⟨S2x4096x1x8, addf
      (mulf (extractStridedSlice S2x4096x1x8 ![0, 0, 0, 8] Y slices_S2x4096x1x64_S2x4096x1x8_0_0_0_8) (val_main_v27 (F := Ideal)))
      (mulf (extractStridedSlice S2x4096x1x8 ![0, 0, 0, 0] Y slices_S2x4096x1x64_S2x4096x1x8_0_0_0_0) (val_main_v29 (F := Ideal)))⟩,
     ⟨S2x4096x1x48, extractStridedSlice S2x4096x1x48 ![0, 0, 0, 16] Y slices_S2x4096x1x64_S2x4096x1x48_0_0_0_16⟩]
    concatenates_S2x4096x1x8_S2x4096x1x8_S2x4096x1x48_S2x4096x1x64_d3

/-- What the rotation makes of a row whose numbers are `N`. -/
theorem rot_at (Y : FVec Ideal S2x4096x1x64 .f32) (N : ℕ → EReal) (b : Fin 2) (p : Fin 4096) (l : Fin 64)
    (hY : ∀ l : Fin 64, Y (ix4 b p 0 l) = N (l : ℕ)) : rot Y (ix4 b p 0 l) = roped N p (l : ℕ) := by
  pointwise [rot]
  unfold roped
  have e : (l : ℕ) % 64 = (l : ℕ) := by omega
  rw [e]
  have cs : ∀ i : Fin 8, val_main_v22 (F := Ideal) (ix4 b p 0 i) = Ideal.cos (angle p i) := fun i => (spread_at b p 0 i).1
  have cs' : ∀ i : Fin 8, val_main_v27 (F := Ideal) (ix4 b p 0 i) = Ideal.cos (angle p i) := fun i => (spread_at b p 0 i).2.1
  have sn : ∀ i : Fin 8, val_main_v24 (F := Ideal) (ix4 b p 0 i) = Ideal.sin (angle p i) := fun i => (spread_at b p 0 i).2.2.1
  have sn' : ∀ i : Fin 8, val_main_v29 (F := Ideal) (ix4 b p 0 i) = Ideal.sin (angle p i) := fun i => (spread_at b p 0 i).2.2.2
  by_cases h0 : (l : ℕ) < 8
  · have y1 : Y (ix4 b p 0 ⟨8 + (l : ℕ), by omega⟩) = N ((l : ℕ) + 8) :=
      (hY _).trans (congrArg N (by show 8 + (l : ℕ) = (l : ℕ) + 8; omega))
    refine (dif_pos h0).trans ?_
    rw [if_pos h0, hY l, y1, cs, sn]
  by_cases h1 : (l : ℕ) - 8 < 8
  · have y1 : Y (ix4 b p 0 ⟨(l : ℕ) - 8, by omega⟩) = N ((l : ℕ) - 8) := hY _
    have y2 : Y (ix4 b p 0 ⟨8 + ((l : ℕ) - 8), by omega⟩) = N (l : ℕ) :=
      (hY _).trans (congrArg N (by show 8 + ((l : ℕ) - 8) = (l : ℕ); omega))
    refine (dif_neg h0).trans ((dif_pos h1).trans ?_)
    rw [if_neg h0, if_pos h1, y1, y2, cs', sn']
  · have y2 := hY ⟨16 + ((l : ℕ) - 8 - 8), by omega⟩
    refine (dif_neg h0).trans ((dif_neg h1).trans ?_)
    rw [if_neg h0, if_neg h1]
    exact y2.trans (congrArg N (by show 16 + ((l : ℕ) - 8 - 8) = (l : ℕ); omega))
end Rotation

/-- A lane of a row's product with the weights. -/
def full (x0 : Vec Ideal S8192x2048 .bf16) (x1 : Vec Ideal S2048x128 .f32) (r : Fin 8192) (j : Fin 128) : EReal :=
  ∑ e : Fin 2048, (x0 (ix2 r e) : EReal) * x1 (ix2 e j)

/-- The reference's row of a head, before the rotation: the lanes of the row's product with the small weights. -/
theorem row_at (c : Dev nD) (q : Cert.IdxKRefIdeal.S2x4096x1x64.Idx) (r : Fin 8192) (hr : (r : ℕ) = (q 0 : ℕ) * 4096 + (q 1 : ℕ)) :
    val_main_v3 (F := Ideal) (m ((c : Thread nD τ).loc main_arg0)) (m ((c : Thread nD τ).loc main_arg1)) q
      = full (m ((c : Thread nD τ).loc main_arg0)) (small m c) r ⟨(q 3 : ℕ), Nat.lt_trans (q 3).isLt (by decide)⟩ := by
  have b0 : (q 0 : ℕ) < 2 := (q 0).isLt
  have b1 : (q 1 : ℕ) < 4096 := (q 1).isLt
  have b2 : (q 2 : ℕ) < 1 := (q 2).isLt
  have b3 : (q 3 : ℕ) < 64 := (q 3).isLt
  unfold full
  rw [val_main_v3_apply, val_main_v2_apply, val_main_v1_apply]
  refine Finset.sum_congr rfl fun e _ => congrArg₂ (fun x y : EReal => x * y) (congrArg (m ((c : Thread nD τ).loc main_arg0)) ?_) ?_
  · refine funext fun a => Fin.ext ?_
    fin_cases a
    · dsimp; omega
    · rfl
  · refine Eq.trans (congrArg (m ((c : Thread nD τ).loc main_arg1)) ?_) (small_at m c e ⟨(q 3 : ℕ), b3⟩).symm
    refine funext fun a => Fin.ext ?_
    fin_cases a
    · rfl
    · dsimp; omega

/-- The reference's entry: a lane of the row's product, rotated by the row's position. -/
theorem ref_at (c : Dev nD) (r : Fin 8192) (j : Fin 64) :
    val_main_v34 (F := Ideal) (m ((c : Thread nD τ).loc main_arg0)) (m ((c : Thread nD τ).loc main_arg1)) (ix2 r j)
      = roped (lift (full (m ((c : Thread nD τ).loc main_arg0)) (small m c) r)) ((r : ℕ) % 4096) j := by
  have e : idx_main_v34 (ix2 r j) = ix4 ⟨(r : ℕ) / 4096, by omega⟩ ⟨(r : ℕ) % 4096, by omega⟩ 0 j := by
    refine funext fun a => Fin.ext ?_
    fin_cases a <;> dsimp <;> omega
  rw [val_main_v34_apply, e]
  refine rot_at (val_main_v3 (F := Ideal) (m ((c : Thread nD τ).loc main_arg0)) (m ((c : Thread nD τ).loc main_arg1)))
    (lift (full (m ((c : Thread nD τ).loc main_arg0)) (small m c) r)) _ ⟨(r : ℕ) % 4096, by omega⟩ j (fun l => ?_)
  refine (row_at m c _ r ?_).trans (lift_at _ _ _ rfl)
  dsimp; omega

/-- What the region's array is to hold: both heads of every row rotated, the second one of weights and padding. -/
def both (c : Dev nD) (i : S8192x128.Idx) : EReal :=
  roped (lift (full (m ((c : Thread nD τ).loc main_arg0)) (small m c) (i 0))) ((i 0 : ℕ) % 4096) (i 1)

/-- What a grid point stores. -/
theorem entry_ref (c : Dev nD) (t : Fin cfg0.N) (y : S1024x128.Idx) (i : S8192x128.Idx)
    (h0 : (i 0 : ℕ) = t.val * 1024 + (y 0 : ℕ)) (h1 : (i 1 : ℕ) = 0 + (y 1 : ℕ)) :
    stored (iblk m c 0 t) (iblk m c 1 t) (iblk m c 2 t) (iblk m c 3 t) (iblk m c 4 t) (y 0) (y 1)
      = both m c i := by
  obtain ⟨r, j, rfl⟩ : ∃ (r : Fin 8192) (j : Fin 128), i = ix2 r j := ⟨i 0, i 1, (ix2_eta i).symm⟩
  obtain ⟨a, b, rfl⟩ : ∃ (a : Fin 1024) (b : Fin 128), y = ix2 a b := ⟨y 0, y 1, (ix2_eta y).symm⟩
  dsimp only [ix2_0, ix2_1] at h0 h1 ⊢
  have jj : (j : ℕ) < 128 := j.isLt
  have at_col : ∀ (b' : Fin 128) (j' : Fin 128), (j' : ℕ) = 0 + (b' : ℕ) →
      prod (iblk m c 0 t) (iblk m c 1 t) a b'
        = full (m ((c : Thread nD τ).loc main_arg0)) (small m c) r j' := fun b' j' hj => by
    unfold prod full
    refine Finset.sum_congr rfl fun e _ => congrArg₂ (fun x y : EReal => x * y) ?_ ?_
    · refine Eq.trans ?_ (congrFun (V_main_arg0 m c) _)
      unfold iblk
      blk_ext [idx t]
    · exact (weights_at m c t _).trans (congrArg _ (congrArg (ix2 e) (Fin.ext (by dsimp; omega))))
  have aa : (a : ℕ) < 1024 := a.isLt
  have hp : ((r : ℕ) % 4096) = t.val % 4 * 1024 + (a : ℕ) := by omega
  unfold both stored
  dsimp only [ix2_0, ix2_1]
  rw [funext fun l => (tables_at m c t a _ hp l).1, funext fun l => (tables_at m c t a _ hp l).2.1,
    funext fun l => (tables_at m c t a _ hp l).2.2, h1]
  refine turned_eq _ _ _ (0) 128 b (by omega) (by omega) b.isLt fun b' hb => ?_
  have tt : t.val < 8 := t.isLt
  exact (lift_at _ ⟨b', hb⟩ b' rfl).symm.trans ((at_col ⟨b', hb⟩ ⟨0 + b', by omega⟩ rfl).trans (lift_at _ _ _ rfl))

/-- The array that the region leaves. -/
theorem final (c : Dev nD) : (dats m 0 c).arrAt 5 cfg0.N = both m c := by
  refine (dats m 0 c).arrAt_eq_of_covers 5 _ (by decide +kernel) fun t _ y => ?_
  blk_simp
  rw [after0_5, point]
  refine entry_ref m c t y _ ?_ ?_
  · blk_simp [idx t]
  · blk_simp [idx t]

/-- The host keeps the first head of each row. -/
theorem tail (c : Dev nD) : Pipeline.afterTail₀ cfgs (dats m) 0 (V0 m) [hostOps1] c main_v34
    = val_main_v34 (F := Ideal) (m ((c : Thread nD τ).loc main_arg0)) (m ((c : Thread nD τ).loc main_arg1)) := by
  have rows := Pipeline.withArrays_arr spec0 launch0.win.arr_inj c (V0 m c) (fun w => (dats m 0 c).arrAt w cfg0.N) 5
  rw [final] at rows
  unfold Pipeline.afterTail₀
  generalize Pipeline.withArrays spec0 c (V0 m c) (fun w => (dats m 0 c).arrAt w cfg0.N) = W at rows
  refine funext fun i => ?_
  obtain ⟨r, j, rfl⟩ : ∃ (r : Fin 8192) (j : Fin 64), i = ix2 r j := ⟨i 0, i 1, (ix2_eta i).symm⟩
  simp only [List.flatten_cons, List.flatten_nil, List.append_nil]
  rw [ref_at]
  entry_read
  pointwise
  rw [show W (Proc.devRef .tc main_v33) = _ from rows]
  rfl

/-- The kernel and the reference leave the same array. -/
theorem algebraic : Cert.algebraic_IdxKIdeal_IdxKRefIdeal := fun m ρ m' ρ' _ hag =>
  ⟨_, (θ_run Cert.IdxKIdeal.defs _ _).mono
    (fun _ h c => ⟨((h c).2 main_v34 (Pipeline.mem_restRefs_of main_v34 (by decide) (by decide))).trans (tail m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ), (θ_run Cert.IdxKRefIdeal.defs _ _).mono
    (fun _ h c => ⟨(h c).1.trans (by rw [val_main_v34_eq, (hag c).1, (hag c).2]), (h c).2⟩)
    (Cert.IdxKRefIdeal.Value.run (F := Ideal) m' ρ')⟩

end Cert.IdxKIdeal.Hand
-- ==== Proof.IdxKSValue.lean ====
module
public import proofs.«01_k».proof.Proof.IdxHeads
public import proofs.«01_k».proof.Proof.Gen.IdxKSIdeal.Frame
public import Idealize.ShloMosaic.Lib.Pipeline.ValueKit

/-! The indexer's keys for the sample's 32 rows: what the one grid point stores. -/

@[expose] public section

set_option maxRecDepth 16384

noncomputable section

namespace Cert.IdxKSIdeal.Hand

open Cert.IdxKSIdeal Cert.IdxKSIdeal.Gen Idealize.ShloMosaic Idealize.ShloMosaic.TcCoe Idealize.SL.Sem
open Idealize.ShloMosaic.Pipeline (Dat)
open Cert.Indexer.Hand (lift lift_at turned)

variable (m : (ℓ : Loc nD τ sig) → Buf (Elt Ideal) ℓ)

/-- The one point works on whole arrays. -/
theorem idx : ∀ t : Fin cfg0.N, win0_0.index t = ![0, 0] ∧ win0_1.index t = ![0, 0]
    ∧ win0_2.index t = ![0, 0] ∧ win0_3.index t = ![0, 0] ∧ win0_4.index t = ![0, 0] ∧ win0_5.index t = ![0, 0] :=
  (by decide +kernel : ∀ t : Fin grid0.N, _)

/-- The staged weights are the whole array. -/
theorem weights_at (c : Dev nD) (t : Fin cfg0.N) (y : S2048x128.Idx) :
    iblk m c 1 t y = V m c main_v37 (ix2 (y 0) (y 1)) := by
  unfold iblk
  blk_ext [idx t]

/-- The cast of the weights changes nothing over the reals. -/
theorem cast_eq (W : Vec Ideal S2048x128 .f32) : k0_pay1 (F := Ideal) W = W := funext fun j => by
  pointwise [k0_pay1]

/-- An entry of the product. -/
def prod (X : Vec Ideal S32x2048 .bf16) (W : Vec Ideal S2048x128 .bf16) (r : Fin 32) (j : Fin 128) : EReal :=
  ∑ e : Fin 2048, X (ix2 r e) * W (ix2 e j)

/-- What the grid point stores: the product, turned by the row's tables. -/
def stored (X : Vec Ideal S32x2048 .bf16) (W : Vec Ideal S2048x128 .bf16)
    (c s z : Vec Ideal S32x128 .f32) (r : Fin 32) (j : Fin 128) : EReal :=
  turned (lift (prod X W r)) (fun l => c (ix2 r l)) (fun l => s (ix2 r l)) (fun l => z (ix2 r l)) j

/-- The product of all rows. -/
def whole (W : Vec Ideal S2048x128 .bf16) (X : Vec Ideal S32x2048 .bf16) : FVec Ideal S32x128 .f32 :=
  matmul (φ₁ := .bf16) (φ₂ := .bf16) dot_S32x2048_S2048x128_S32x128_1_0_0_1_n_n none X W (constant S32x128 .f32 0x00000000#32)

/-- An entry of it. -/
theorem whole_at (X : Vec Ideal S32x2048 .bf16) (W : Vec Ideal S2048x128 .bf16) (r : Fin 32) (j : Fin 128) :
    whole W X (ix2 r j) = prod X W r j := by
  pointwise [whole, prod]

/-- The rows turned: their lanes times the first table, the lanes eight to the left times the second, those eight to the right
    times the third. -/
def turn (x : FVec Ideal S32x128 .f32) (c s z : Vec Ideal S32x128 .f32) : FVec Ideal S32x128 .f32 :=
  addf (addf (mulf x (shapeCast S32x128 c shapeCasts_S32x128_S32x128))
    (mulf (dynamicRotate 1 8#32 none x rotates_S32x128_d1) (shapeCast S32x128 s shapeCasts_S32x128_S32x128)))
    (mulf (dynamicRotate 1 120#32 none x rotates_S32x128_d1) (shapeCast S32x128 z shapeCasts_S32x128_S32x128))

/-- An entry of the turned rows. -/
theorem turn_at (x : FVec Ideal S32x128 .f32) (c s z : Vec Ideal S32x128 .f32) (r : Fin 32) (l : Fin 128) :
    turn x c s z (ix2 r l) = x (ix2 r l) * c (ix2 r l) + x (ix2 r ⟨((l : ℕ) + 120) % 128, Nat.mod_lt _ (by decide)⟩) * s (ix2 r l)
      + x (ix2 r ⟨((l : ℕ) + 8) % 128, Nat.mod_lt _ (by decide)⟩) * z (ix2 r l) := by
  pointwise [turn]
  simp only [show (l : ℕ) + 128 - 8 = (l : ℕ) + 120 by omega, show (l : ℕ) + 128 - 120 = (l : ℕ) + 8 by omega]

/-- What is stored for the rows. -/
theorem stored_at (X : Vec Ideal S32x2048 .bf16) (W : Vec Ideal S2048x128 .bf16) (c s z : Vec Ideal S32x128 .f32)
    (y : S32x128.Idx) : turn (whole W X) c s z y = stored X W c s z (y 0) (y 1) := by
  obtain ⟨r, l, rfl⟩ : ∃ (r : Fin 32) (l : Fin 128), y = ix2 r l := ⟨y 0, y 1, (ix2_eta y).symm⟩
  have e : (l : ℕ) / 128 * 128 = 0 := by omega
  have e' : (l : ℕ) % 128 = (l : ℕ) := by omega
  rw [turn_at, whole_at, whole_at, whole_at, lift_at (prod X W r) l _ rfl, lift_at (prod X W r) _ _ rfl,
    lift_at (prod X W r) ⟨((l : ℕ) + 8) % 128, _⟩ _ rfl]
  unfold stored turned
  simp only [ix2_0, ix2_1, e, e', zero_add]

/-- The point stores the rows times the weights, each head turned. -/
theorem point (c : Dev nD) (t : Fin cfg0.N) (y : S32x128.Idx) :
    outsAt0 m c t y = stored (iblk m c 0 t) (iblk m c 1 t) (iblk m c 2 t) (iblk m c 3 t) (iblk m c 4 t) (y 0) (y 1) := by
  unfold outsAt0
  frame_out
  rw [cast_eq]
  exact stored_at _ _ _ _ _ y

end Cert.IdxKSIdeal.Hand
-- ==== Proof.IdxKSTables.lean ====
module
public import Idealize.ShloMosaic.Lib.KernelVsHost
public import proofs.«01_k».proof.Proof.IdxKSValue
public import Idealize.ShloMosaic.Lib.Pipeline.ValueKit

/-! The tables the indexer's keys are turned with for the sample's 32 rows: row `r` of them rotates a head by the angles of
    position `16384 + r % 4`, the prompt's tables read at that position. -/

@[expose] public section

set_option maxRecDepth 16384

noncomputable section

namespace Cert.IdxKSIdeal.Hand

open Cert.IdxKSIdeal Cert.IdxKSIdeal.Gen Idealize.ShloMosaic Idealize.ShloMosaic.TcCoe Idealize.SL.Sem
open Idealize.ShloMosaic.Pipeline (Dat)
open Cert.Indexer.Hand (angle table0 table1 table2 three)

variable (m : (ℓ : Loc nD τ sig) → Buf (Elt Ideal) ℓ)

/-- The host's operations, cut where the positions, the cosines and sines are made, before the last table and after it. -/
theorem stages (c : Dev nD) (b : Ref sig .tc) : V m c b = StableHlo.after (hostOps0_1 (F := Ideal)) (StableHlo.after (List.drop 33 hostOps0)
    (StableHlo.after (List.take 1 (List.drop 32 hostOps0)) (StableHlo.after (List.take 3 (List.drop 29 hostOps0))
      (StableHlo.after (List.take 22 (List.drop 7 hostOps0)) (StableHlo.after (List.take 7 hostOps0) fun b => m (c, b)))))) b := by
  rw [← StableHlo.after_append, ← StableHlo.after_append, ← StableHlo.after_append, ← StableHlo.after_append, ← StableHlo.after_append]
  rfl

/-- A position past the stored ones. -/
theorem past (k : ℕ) : IntOp.addi 16384#32 (BitVec.ofNat 32 k) = BitVec.ofNat 32 (16384 + k) :=
  (BitVec.ofNat_add (n := 32) 16384 k).symm

/-- The rows' positions. -/
theorem placed (σ : Valuation τ sig (Elt Ideal)) (r : Fin 32) :
    StableHlo.after (List.take 7 (hostOps0 (F := Ideal))) σ main_v5 (ix1 r) = BitVec.ofNat 32 (16384 + (r : ℕ) % 4) := by
  simp only [hostOps0, List.take_succ_cons, List.take_zero]
  entry_read
  rw [← past]
  pointwise

/-- The cosines, the sines and the constants of the tables. -/
theorem made (σ : Valuation τ sig (Elt Ideal)) (r : Fin 32) (p : ℕ) (h5 : σ main_v5 (ix1 r) = BitVec.ofNat 32 p) :
    (∀ l : Fin 8, StableHlo.after (List.take 22 (List.drop 7 hostOps0)) σ main_v18 (ix2 r l) = Ideal.cos (angle p l))
    ∧ (∀ l : Fin 8, StableHlo.after (List.take 22 (List.drop 7 hostOps0)) σ main_v19 (ix2 r l) = Ideal.sin (angle p l))
    ∧ (∀ l : Fin 48, StableHlo.after (List.take 22 (List.drop 7 hostOps0)) σ main_v20 (ix2 r l) = (1 : EReal))
    ∧ (∀ l : Fin 8, StableHlo.after (List.take 22 (List.drop 7 hostOps0)) σ main_v21 (ix2 r l) = (0 : EReal))
    ∧ (∀ l : Fin 48, StableHlo.after (List.take 22 (List.drop 7 hostOps0)) σ main_v22 (ix2 r l) = (0 : EReal)) := by
  simp only [hostOps0, List.drop_succ_cons, List.drop_zero, List.take_succ_cons, List.take_zero]
  refine ⟨fun l => ?_, fun l => ?_, fun l => ?_, fun l => ?_, fun l => ?_⟩
  · unfold angle
    rw [← h5]
    entry_read
    pointwise
  · unfold angle
    rw [← h5]
    entry_read
    pointwise
  all_goals
    entry_read
    pointwise

/-- The rows of the first two tables, and what the third is made of. -/
theorem joined (σ : Valuation τ sig (Elt Ideal)) (r : Fin 32) (p : ℕ)
    (h13 : ∀ l : Fin 8, σ main_v18 (ix2 r l) = Ideal.cos (angle p l)) (h14 : ∀ l : Fin 8, σ main_v19 (ix2 r l) = Ideal.sin (angle p l))
    (h15 : ∀ l : Fin 48, σ main_v20 (ix2 r l) = (1 : EReal)) (h16 : ∀ l : Fin 8, σ main_v21 (ix2 r l) = (0 : EReal))
    (h17 : ∀ l : Fin 48, σ main_v22 (ix2 r l) = (0 : EReal)) :
    (∀ l : Fin 64, StableHlo.after (List.take 3 (List.drop 29 hostOps0)) σ main_v23 (ix2 r l) = table0 p l)
    ∧ (∀ l : Fin 64, StableHlo.after (List.take 3 (List.drop 29 hostOps0)) σ main_v24 (ix2 r l) = table1 p l)
    ∧ (∀ l : Fin 8, StableHlo.after (List.take 3 (List.drop 29 hostOps0)) σ main_v25 (ix2 r l) = -Ideal.sin (angle p l))
    ∧ (∀ l : Fin 8, StableHlo.after (List.take 3 (List.drop 29 hostOps0)) σ main_v21 (ix2 r l) = (0 : EReal))
    ∧ (∀ l : Fin 48, StableHlo.after (List.take 3 (List.drop 29 hostOps0)) σ main_v22 (ix2 r l) = (0 : EReal)) := by
  simp only [hostOps0, List.drop_succ_cons, List.drop_zero, List.take_succ_cons, List.take_zero]
  refine ⟨fun l => ?_, fun l => ?_, fun l => ?_, fun l => ?_, fun l => ?_⟩
  · entry_read
    pointwise
    exact three _ _ _ _ _ _ _ (fun h => h13 _) (fun h => h13 _) (fun h h' => h15 _)
  · entry_read
    pointwise
    exact three _ _ _ _ _ _ _ (fun h => h16 _) (fun h => h14 _) (fun h h' => h17 _)
  · entry_read
    pointwise
    exact congrArg (fun x : EReal => -x) (h14 l)
  · entry_read
    exact h16 l
  · entry_read
    exact h17 l

/-- The rows of the third table. -/
theorem joined2 (σ : Valuation τ sig (Elt Ideal)) (r : Fin 32) (p : ℕ)
    (h20 : ∀ l : Fin 8, σ main_v25 (ix2 r l) = -Ideal.sin (angle p l)) (h16 : ∀ l : Fin 8, σ main_v21 (ix2 r l) = (0 : EReal))
    (h17 : ∀ l : Fin 48, σ main_v22 (ix2 r l) = (0 : EReal)) (l : Fin 64) :
    StableHlo.after (List.take 1 (List.drop 32 hostOps0)) σ main_v23 (ix2 r l) = σ main_v23 (ix2 r l)
    ∧ StableHlo.after (List.take 1 (List.drop 32 hostOps0)) σ main_v24 (ix2 r l) = σ main_v24 (ix2 r l)
    ∧ StableHlo.after (List.take 1 (List.drop 32 hostOps0)) σ main_v26 (ix2 r l) = table2 p l := by
  simp only [hostOps0, List.drop_succ_cons, List.drop_zero, List.take_succ_cons, List.take_zero]
  refine ⟨?_, ?_, ?_⟩
  · entry_read
    rfl
  · entry_read
    rfl
  · entry_read
    pointwise
    rw [show table2 p l = if (l : ℕ) < 8 then -Ideal.sin (angle p l) else if (l : ℕ) - 8 < 8 then 0 else 0 from by
      unfold table2; rw [ite_self]]
    exact three _ _ _ _ _ _ _ (fun h => h20 _) (fun h => h16 _) (fun h h' => h17 _)

/-- The copies put a table's 64 lanes side by side twice. -/
theorem copied (σ : Valuation τ sig (Elt Ideal)) (r : Fin 32) (l : Fin 128) :
    StableHlo.after (hostOps0_1 (F := Ideal)) (StableHlo.after (List.drop 33 hostOps0) σ) main_v29 (ix2 r l) = σ main_v23 (ix2 r ⟨(l : ℕ) % 64, Nat.mod_lt _ (by decide)⟩)
    ∧ StableHlo.after (hostOps0_1 (F := Ideal)) (StableHlo.after (List.drop 33 hostOps0) σ) main_v32 (ix2 r l) = σ main_v24 (ix2 r ⟨(l : ℕ) % 64, Nat.mod_lt _ (by decide)⟩)
    ∧ StableHlo.after (hostOps0_1 (F := Ideal)) (StableHlo.after (List.drop 33 hostOps0) σ) main_v35 (ix2 r l) = σ main_v26 (ix2 r ⟨(l : ℕ) % 64, Nat.mod_lt _ (by decide)⟩) := by
  simp only [hostOps0, hostOps0_1, List.drop_succ_cons, List.drop_zero]
  refine ⟨?_, ?_, ?_⟩ <;> entry_read <;> pointwise

/-- The small weights: the last 80 columns and padding; their first 64 columns are those of the key. -/
theorem padded (σ : Valuation τ sig (Elt Ideal)) (e : Fin 2048) (l : Fin 64) :
    StableHlo.after (hostOps0_1 (F := Ideal)) (StableHlo.after (List.drop 33 hostOps0) σ) main_v37 (ix2 e ⟨(l : ℕ), by omega⟩)
      = σ main_arg1 (ix2 e ⟨7168 + (l : ℕ), by omega⟩) := by
  simp only [hostOps0, hostOps0_1, List.drop_succ_cons, List.drop_zero]
  entry_read
  show pad S2048x128 ![0, 0] ![0, 48] ![0, 0]
    (extractStridedSlice S2048x80 ![0, 7168] (σ main_arg1 : Vec Ideal S2048x7248 .f32) slices_S2048x7248_S2048x80_0_7168)
    (sitofp (F := Ideal) .f32 (constantI S_ 32 0#32)) pads_S2048x80_S2048x128_000_0480 h_S_ (ix2 e ⟨(l : ℕ), by omega⟩) = _
  generalize (σ main_arg1 : Vec Ideal S2048x7248 .f32) = w
  rw [pad_apply_of_inside (k := ix2 e ⟨(l : ℕ), by omega⟩)]
  · pointwise
  · intro a
    fin_cases a <;> dsimp <;> omega

/-- They leave the layer's weights alone. -/
theorem untouched (σ : Valuation τ sig (Elt Ideal)) (i : S2048x7248.Idx) :
    StableHlo.after (hostOps0_1 (F := Ideal)) (StableHlo.after (List.drop 33 hostOps0) σ) main_arg1 i = σ main_arg1 i := by
  simp only [hostOps0, hostOps0_1, List.drop_succ_cons, List.drop_zero]
  entry_read
  rfl

/-- The small weights that the kernel is given. -/
abbrev small (c : Dev nD) : Vec Ideal S2048x128 .f32 := V m c main_v37

/-- Their first 64 columns. -/
theorem small_at (c : Dev nD) (e : Fin 2048) (l : Fin 64) :
    small m c (ix2 e ⟨(l : ℕ), by omega⟩) = m ((c : Thread nD τ).loc main_arg1) (ix2 e ⟨7168 + (l : ℕ), by omega⟩) := by
  rw [← V_main_arg1 m c, show small m c = _ from stages m c main_v37, stages]
  exact (padded _ e l).trans (untouched _ _).symm

/-- What the kernel is given as tables: row `r` is position `16384 + r % 4`. -/
theorem tables (c : Dev nD) (r : Fin 32) (l : Fin 128) :
    V m c main_v29 (ix2 r l) = table0 (16384 + (r : ℕ) % 4) ((l : ℕ) % 64)
    ∧ V m c main_v32 (ix2 r l) = table1 (16384 + (r : ℕ) % 4) ((l : ℕ) % 64)
    ∧ V m c main_v35 (ix2 r l) = table2 (16384 + (r : ℕ) % 4) ((l : ℕ) % 64) := by
  obtain ⟨h13, h14, h15, h16, h17⟩ := made _ r _ (placed (fun b => m (c, b)) r)
  obtain ⟨j0, j1, h20, h16, h17⟩ := joined _ r _ h13 h14 h15 h16 h17
  obtain ⟨i0, i1, i2⟩ := joined2 _ r _ h20 h16 h17 ⟨(l : ℕ) % 64, Nat.mod_lt _ (by decide)⟩
  obtain ⟨k0, k1, k2⟩ := copied (StableHlo.after (List.take 1 (List.drop 32 hostOps0)) (StableHlo.after (List.take 3 (List.drop 29 hostOps0))
    (StableHlo.after (List.take 22 (List.drop 7 hostOps0)) (StableHlo.after (List.take 7 hostOps0) fun b => m (c, b))))) r l
  rw [stages, stages, stages]
  exact ⟨k0.trans (i0.trans (j0 _)), k1.trans (i1.trans (j1 _)), k2.trans i2⟩

/-- The staged tables. -/
theorem tables_at (c : Dev nD) (t : Fin cfg0.N) (r : Fin 32) (p : ℕ) (hp : p = 16384 + (r : ℕ) % 4) (l : Fin 128) :
    iblk m c 2 t (ix2 r l) = table0 p ((l : ℕ) % 64) ∧ iblk m c 3 t (ix2 r l) = table1 p ((l : ℕ) % 64)
    ∧ iblk m c 4 t (ix2 r l) = table2 p ((l : ℕ) % 64) := by
  subst hp
  obtain ⟨k0, k1, k2⟩ := tables m c r l
  refine ⟨Eq.trans ?_ k0, Eq.trans ?_ k1, Eq.trans ?_ k2⟩ <;> unfold iblk
  · blk_ext [idx t]
  · blk_ext [idx t]
  · blk_ext [idx t]

end Cert.IdxKSIdeal.Hand
-- ==== Proof.IdxKSClaim.lean ====
module
public import proofs.«01_k».proof.Proof.IdxKSTables
public import proofs.«01_k».proof.Proof.Gen.IdxKSRefIdeal.Run
public import proofs.«01_k».proof.Proof.Gen.IdxKSRefIdeal.Read
public import Idealize.ShloMosaic.Lib.Pipeline.ValueKit

/-! The indexer's keys for the sample's 32 rows: the reference's entries, and the claim. -/

@[expose] public section

set_option maxRecDepth 16384

noncomputable section

namespace Cert.IdxKSIdeal.Hand

open Cert.IdxKSIdeal Cert.IdxKSIdeal.Gen Idealize.ShloMosaic Idealize.ShloMosaic.TcCoe Idealize.SL.Sem
open Idealize.ShloMosaic.Pipeline (Dat)
open Cert.IdxKSRefIdeal.Read
open Cert.Indexer.Hand (lift lift_at turned_eq roped angle)

variable (m : (ℓ : Loc nD τ sig) → Buf (Elt Ideal) ℓ)

/-- The cosines of the reference's angles. -/
theorem cos_at (p : Fin 4) (l : Fin 8) : val_main_v19 (F := Ideal) (ix2 p l) = Ideal.cos (angle (16384 + p) l) := by
  unfold angle
  rw [← past]
  pointwise [val_main_v19, val_main_v18, val_main_v17, val_main_v16, val_main_v15, val_main_v14, val_main_v13, val_main_v12, val_main_v11, val_main_v10, val_main_v9, val_main_v8, val_main_v7, val_main_v6, val_main_v5, val_main_v4,
    val_main_c, val_main_cst, val_main_cst_0]

/-- Their sines. -/
theorem sin_at (p : Fin 4) (l : Fin 8) : val_main_v21 (F := Ideal) (ix2 p l) = Ideal.sin (angle (16384 + p) l) := by
  unfold angle
  rw [← past]
  pointwise [val_main_v21, val_main_v18, val_main_v17, val_main_v16, val_main_v15, val_main_v14, val_main_v13, val_main_v12, val_main_v11, val_main_v10, val_main_v9, val_main_v8, val_main_v7, val_main_v6, val_main_v5, val_main_v4,
    val_main_c, val_main_cst, val_main_cst_0]

/-- The tables the reference rotates with. -/
theorem spread_at (b : Fin 8) (p : Fin 4) (h : Fin 1) (l : Fin 8) :
    val_main_v25 (F := Ideal) (ix4 b p h l) = Ideal.cos (angle (16384 + p) l) ∧ val_main_v30 (F := Ideal) (ix4 b p h l) = Ideal.cos (angle (16384 + p) l)
    ∧ val_main_v27 (F := Ideal) (ix4 b p h l) = Ideal.sin (angle (16384 + p) l)
    ∧ val_main_v32 (F := Ideal) (ix4 b p h l) = Ideal.sin (angle (16384 + p) l) := by
  refine ⟨?_, ?_, ?_, ?_⟩
  · rw [← cos_at]; pointwise [val_main_v25, val_main_v20]
  · rw [← cos_at]; pointwise [val_main_v30, val_main_v20]
  · rw [← sin_at]; pointwise [val_main_v27, val_main_v22]
  · rw [← sin_at]; pointwise [val_main_v32, val_main_v22]

section Rotation
open Cert.IdxKSRefIdeal Cert.IdxKSRefIdeal.Facts₀ Cert.IdxKSRefIdeal.Facts

/-- Heads rotated as the reference does it: two slices of eight lanes, and the rest. -/
def rot (Y : FVec Ideal S8x4x1x64 .f32) : FVec Ideal S8x4x1x64 .f32 :=
  concatenate S8x4x1x64 3
    [⟨S8x4x1x8, subf
      (mulf (extractStridedSlice S8x4x1x8 ![0, 0, 0, 0] Y slices_S8x4x1x64_S8x4x1x8_0_0_0_0) (val_main_v25 (F := Ideal)))
      (mulf (extractStridedSlice S8x4x1x8 ![0, 0, 0, 8] Y slices_S8x4x1x64_S8x4x1x8_0_0_0_8) (val_main_v27 (F := Ideal)))⟩,
     ⟨S8x4x1x8, addf
      (mulf (extractStridedSlice S8x4x1x8 ![0, 0, 0, 8] Y slices_S8x4x1x64_S8x4x1x8_0_0_0_8) (val_main_v30 (F := Ideal)))
      (mulf (extractStridedSlice S8x4x1x8 ![0, 0, 0, 0] Y slices_S8x4x1x64_S8x4x1x8_0_0_0_0) (val_main_v32 (F := Ideal)))⟩,
     ⟨S8x4x1x48, extractStridedSlice S8x4x1x48 ![0, 0, 0, 16] Y slices_S8x4x1x64_S8x4x1x48_0_0_0_16⟩]
    concatenates_S8x4x1x8_S8x4x1x8_S8x4x1x48_S8x4x1x64_d3

/-- What the rotation makes of a row whose numbers are `N`. -/
theorem rot_at (Y : FVec Ideal S8x4x1x64 .f32) (N : ℕ → EReal) (b : Fin 8) (p : Fin 4) (l : Fin 64)
    (hY : ∀ l : Fin 64, Y (ix4 b p 0 l) = N (l : ℕ)) : rot Y (ix4 b p 0 l) = roped N (16384 + p) (l : ℕ) := by
  pointwise [rot]
  unfold roped
  have e : (l : ℕ) % 64 = (l : ℕ) := by omega
  rw [e]
  have cs : ∀ i : Fin 8, val_main_v25 (F := Ideal) (ix4 b p 0 i) = Ideal.cos (angle (16384 + p) i) := fun i => (spread_at b p 0 i).1
  have cs' : ∀ i : Fin 8, val_main_v30 (F := Ideal) (ix4 b p 0 i) = Ideal.cos (angle (16384 + p) i) := fun i => (spread_at b p 0 i).2.1
  have sn : ∀ i : Fin 8, val_main_v27 (F := Ideal) (ix4 b p 0 i) = Ideal.sin (angle (16384 + p) i) := fun i => (spread_at b p 0 i).2.2.1
  have sn' : ∀ i : Fin 8, val_main_v32 (F := Ideal) (ix4 b p 0 i) = Ideal.sin (angle (16384 + p) i) := fun i => (spread_at b p 0 i).2.2.2
  by_cases h0 : (l : ℕ) < 8
  · have y1 : Y (ix4 b p 0 ⟨8 + (l : ℕ), by omega⟩) = N ((l : ℕ) + 8) :=
      (hY _).trans (congrArg N (by show 8 + (l : ℕ) = (l : ℕ) + 8; omega))
    refine (dif_pos h0).trans ?_
    rw [if_pos h0, hY l, y1, cs, sn]
  by_cases h1 : (l : ℕ) - 8 < 8
  · have y1 : Y (ix4 b p 0 ⟨(l : ℕ) - 8, by omega⟩) = N ((l : ℕ) - 8) := hY _
    have y2 : Y (ix4 b p 0 ⟨8 + ((l : ℕ) - 8), by omega⟩) = N (l : ℕ) :=
      (hY _).trans (congrArg N (by show 8 + ((l : ℕ) - 8) = (l : ℕ); omega))
    refine (dif_neg h0).trans ((dif_pos h1).trans ?_)
    rw [if_neg h0, if_pos h1, y1, y2, cs', sn']
  · have y2 := hY ⟨16 + ((l : ℕ) - 8 - 8), by omega⟩
    refine (dif_neg h0).trans ((dif_neg h1).trans ?_)
    rw [if_neg h0, if_neg h1]
    exact y2.trans (congrArg N (by show 16 + ((l : ℕ) - 8 - 8) = (l : ℕ); omega))
end Rotation

/-- A lane of a row's product with the weights. -/
def full (x0 : Vec Ideal S32x2048 .bf16) (x1 : Vec Ideal S2048x128 .f32) (r : Fin 32) (j : Fin 128) : EReal :=
  ∑ e : Fin 2048, (x0 (ix2 r e) : EReal) * x1 (ix2 e j)

/-- The reference's row of a head, before the rotation: the lanes of the row's product with the small weights. -/
theorem row_at (c : Dev nD) (q : Cert.IdxKSRefIdeal.S8x4x1x64.Idx) (r : Fin 32) (hr : (r : ℕ) = (q 0 : ℕ) * 4 + (q 1 : ℕ)) :
    val_main_v3 (F := Ideal) (m ((c : Thread nD τ).loc main_arg0)) (m ((c : Thread nD τ).loc main_arg1)) q
      = full (m ((c : Thread nD τ).loc main_arg0)) (small m c) r ⟨(q 3 : ℕ), Nat.lt_trans (q 3).isLt (by decide)⟩ := by
  have b0 : (q 0 : ℕ) < 8 := (q 0).isLt
  have b1 : (q 1 : ℕ) < 4 := (q 1).isLt
  have b2 : (q 2 : ℕ) < 1 := (q 2).isLt
  have b3 : (q 3 : ℕ) < 64 := (q 3).isLt
  unfold full
  rw [val_main_v3_apply, val_main_v2_apply, val_main_v1_apply]
  refine Finset.sum_congr rfl fun e _ => congrArg₂ (fun x y : EReal => x * y) (congrArg (m ((c : Thread nD τ).loc main_arg0)) ?_) ?_
  · refine funext fun a => Fin.ext ?_
    fin_cases a
    · dsimp; omega
    · rfl
  · refine Eq.trans (congrArg (m ((c : Thread nD τ).loc main_arg1)) ?_) (small_at m c e ⟨(q 3 : ℕ), b3⟩).symm
    refine funext fun a => Fin.ext ?_
    fin_cases a
    · rfl
    · dsimp; omega

/-- The reference's entry: a lane of the row's product, rotated by the row's position. -/
theorem ref_at (c : Dev nD) (r : Fin 32) (j : Fin 64) :
    val_main_v37 (F := Ideal) (m ((c : Thread nD τ).loc main_arg0)) (m ((c : Thread nD τ).loc main_arg1)) (ix2 r j)
      = roped (lift (full (m ((c : Thread nD τ).loc main_arg0)) (small m c) r)) (16384 + (r : ℕ) % 4) j := by
  have e : idx_main_v37 (ix2 r j) = ix4 ⟨(r : ℕ) / 4, by omega⟩ ⟨(r : ℕ) % 4, by omega⟩ 0 j := by
    refine funext fun a => Fin.ext ?_
    fin_cases a <;> dsimp <;> omega
  rw [val_main_v37_apply, e]
  refine rot_at (val_main_v3 (F := Ideal) (m ((c : Thread nD τ).loc main_arg0)) (m ((c : Thread nD τ).loc main_arg1)))
    (lift (full (m ((c : Thread nD τ).loc main_arg0)) (small m c) r)) _ ⟨(r : ℕ) % 4, by omega⟩ j (fun l => ?_)
  refine (row_at m c _ r ?_).trans (lift_at _ _ _ rfl)
  dsimp; omega

/-- What the region's array is to hold: both heads of every row rotated, the second one of weights and padding. -/
def both (c : Dev nD) (i : S32x128.Idx) : EReal :=
  roped (lift (full (m ((c : Thread nD τ).loc main_arg0)) (small m c) (i 0))) (16384 + (i 0 : ℕ) % 4) (i 1)

/-- What a grid point stores. -/
theorem entry_ref (c : Dev nD) (t : Fin cfg0.N) (y : S32x128.Idx) (i : S32x128.Idx)
    (h0 : (i 0 : ℕ) = (y 0 : ℕ)) (h1 : (i 1 : ℕ) = 0 + (y 1 : ℕ)) :
    stored (iblk m c 0 t) (iblk m c 1 t) (iblk m c 2 t) (iblk m c 3 t) (iblk m c 4 t) (y 0) (y 1)
      = both m c i := by
  obtain ⟨r, j, rfl⟩ : ∃ (r : Fin 32) (j : Fin 128), i = ix2 r j := ⟨i 0, i 1, (ix2_eta i).symm⟩
  obtain ⟨a, b, rfl⟩ : ∃ (a : Fin 32) (b : Fin 128), y = ix2 a b := ⟨y 0, y 1, (ix2_eta y).symm⟩
  dsimp only [ix2_0, ix2_1] at h0 h1 ⊢
  have jj : (j : ℕ) < 128 := j.isLt
  have at_col : ∀ (b' : Fin 128) (j' : Fin 128), (j' : ℕ) = 0 + (b' : ℕ) →
      prod (iblk m c 0 t) (iblk m c 1 t) a b'
        = full (m ((c : Thread nD τ).loc main_arg0)) (small m c) r j' := fun b' j' hj => by
    unfold prod full
    refine Finset.sum_congr rfl fun e _ => congrArg₂ (fun x y : EReal => x * y) ?_ ?_
    · refine Eq.trans ?_ (congrFun (V_main_arg0 m c) _)
      unfold iblk
      blk_ext [idx t]
    · exact (weights_at m c t _).trans (congrArg _ (congrArg (ix2 e) (Fin.ext (by dsimp; omega))))
  have aa : (a : ℕ) < 32 := a.isLt
  have hp : 16384 + (r : ℕ) % 4 = 16384 + (a : ℕ) % 4 := by omega
  unfold both stored
  dsimp only [ix2_0, ix2_1]
  rw [funext fun l => (tables_at m c t a _ hp l).1, funext fun l => (tables_at m c t a _ hp l).2.1,
    funext fun l => (tables_at m c t a _ hp l).2.2, h1]
  refine turned_eq _ _ _ (0) 128 b (by omega) (by omega) b.isLt fun b' hb => ?_
  have tt : t.val < 1 := t.isLt
  exact (lift_at _ ⟨b', hb⟩ b' rfl).symm.trans ((at_col ⟨b', hb⟩ ⟨0 + b', by omega⟩ rfl).trans (lift_at _ _ _ rfl))

/-- The array that the region leaves. -/
theorem final (c : Dev nD) : (dats m 0 c).arrAt 5 cfg0.N = both m c := by
  refine (dats m 0 c).arrAt_eq_of_covers 5 _ (by decide +kernel) fun t _ y => ?_
  blk_simp
  rw [after0_5, point]
  refine entry_ref m c t y _ ?_ ?_
  · blk_simp [idx t]
  · blk_simp [idx t]

/-- The host keeps the first head of each row. -/
theorem tail (c : Dev nD) : Pipeline.afterTail₀ cfgs (dats m) 0 (V0 m) [hostOps1] c main_v39
    = val_main_v37 (F := Ideal) (m ((c : Thread nD τ).loc main_arg0)) (m ((c : Thread nD τ).loc main_arg1)) := by
  have rows := Pipeline.withArrays_arr spec0 launch0.win.arr_inj c (V0 m c) (fun w => (dats m 0 c).arrAt w cfg0.N) 5
  rw [final] at rows
  unfold Pipeline.afterTail₀
  generalize Pipeline.withArrays spec0 c (V0 m c) (fun w => (dats m 0 c).arrAt w cfg0.N) = W at rows
  refine funext fun i => ?_
  obtain ⟨r, j, rfl⟩ : ∃ (r : Fin 32) (j : Fin 64), i = ix2 r j := ⟨i 0, i 1, (ix2_eta i).symm⟩
  simp only [List.flatten_cons, List.flatten_nil, List.append_nil]
  rw [ref_at]
  entry_read
  pointwise
  rw [show W (Proc.devRef .tc main_v38) = _ from rows]
  rfl

/-- The kernel and the reference leave the same array. -/
theorem algebraic : Cert.algebraic_IdxKSIdeal_IdxKSRefIdeal := fun m ρ m' ρ' _ hag =>
  ⟨_, (θ_run Cert.IdxKSIdeal.defs _ _).mono
    (fun _ h c => ⟨((h c).2 main_v39 (Pipeline.mem_restRefs_of main_v39 (by decide) (by decide))).trans (tail m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ), (θ_run Cert.IdxKSRefIdeal.defs _ _).mono
    (fun _ h c => ⟨(h c).1.trans (by rw [val_main_v37_eq, (hag c).1, (hag c).2]), (h c).2⟩)
    (Cert.IdxKSRefIdeal.Value.run (F := Ideal) m' ρ')⟩

end Cert.IdxKSIdeal.Hand
-- ==== Proof.IdxQValue.lean ====
module
public import proofs.«01_k».proof.Proof.IdxKValue
public import proofs.«01_k».proof.Proof.Gen.IdxQIdeal.Value
public import proofs.«01_k».proof.Proof.ProjQValue
public import Idealize.ShloMosaic.Lib.Pipeline.ValueKit

/-! The indexer's queries: columns 6144 to 7167 of `h @ w`, sixteen heads of 64 lanes, each rotated by the angles of the row's
    position.  Here: what a grid point stores, 512 columns of 1024 rows, in four chunks of rows and four parts of 128 lanes. -/

@[expose] public section

set_option maxRecDepth 16384

noncomputable section

namespace Cert.IdxQIdeal.Hand

open Cert.IdxQIdeal Cert.IdxQIdeal.Gen Idealize.ShloMosaic Idealize.ShloMosaic.TcCoe Idealize.SL.Sem
open Idealize.ShloMosaic.Pipeline (Dat)
open Cert.ProjQIdeal.Hand (prod pay3_at)
open Cert.IdxKIdeal.Hand (rows_at)
open Cert.Indexer.Hand

variable (m : (ℓ : Loc nD τ sig) → Buf (Elt Ideal) ℓ)

/-- Point `t` works on row block `t % 8` and column block `t / 8`, twelve blocks further right in the weights; the tables have
    four row blocks. -/
theorem idx : ∀ t : Fin cfg0.N, win0_0.index t = ![t.val % 8, 0] ∧ win0_1.index t = ![0, t.val / 8 + 12]
    ∧ win0_2.index t = ![t.val % 8 % 4, 0] ∧ win0_3.index t = ![t.val % 8 % 4, 0] ∧ win0_4.index t = ![t.val % 8 % 4, 0]
    ∧ win0_5.index t = ![t.val % 8, t.val / 8] :=
  (by decide +kernel : ∀ t : Fin grid0.N, _)

/-- The staged weights: 2048 rows of 512 columns, none of them beyond the array's end. -/
theorem weights_at (c : Dev nD) (t : Fin cfg0.N) (y : S2048x512.Idx) (j : Fin 7248)
    (hj : (j : ℕ) = (t.val / 8 + 12) * 512 + (y 1 : ℕ)) :
    X0_1 m c t y = m ((c : Thread nD τ).loc main_arg1) (ix2 (y 0) j) := by
  unfold X0_1 Pipeline.Window.fill
  rw [dif_pos (moved0_1 t y)]
  blk_point [iblk, V, idx t]

/-- A column block of the weights stays staged for the eight row blocks it serves. -/
theorem weights_stay (c : Dev nD) (n : ℕ) (h : n + 1 < cfg0.N) (h0 : ¬(n + 1) % 8 = 0) (y : S2048x512.Idx) :
    X0_1 m c ⟨n, Nat.lt_of_succ_lt h⟩ y = X0_1 m c ⟨n + 1, h⟩ y := by
  have hn : n + 1 < 16 := h
  have b1 : (y 1 : ℕ) < 512 := (y 1).isLt
  rw [weights_at m c ⟨n, _⟩ y ⟨(n / 8 + 12) * 512 + (y 1 : ℕ), by omega⟩ rfl,
    weights_at m c ⟨n + 1, _⟩ y ⟨(n / 8 + 12) * 512 + (y 1 : ℕ), by omega⟩ (by dsimp; omega)]

/-- The scratch buffer holds the current column block of the weights. -/
theorem scratch_eq (c : Dev nD) (n : ℕ) (h : n < cfg0.N) (y : S2048x512.Idx) :
    (outsAt0 m c n h).2 y = X0_1 m c ⟨n, h⟩ y := by
  induction n with
  | zero =>
    have e := outsAt0_A m c ⟨0, h⟩ (by rfl)
    dsimp only at e
    rw [e]; dsimp only
    frame_out
    pointwise [k0_pay2]
  | succ n ih =>
    by_cases h0 : (n + 1) % 8 = 0
    · have e := outsAt0_A m c ⟨n + 1, h⟩ h0
      dsimp only at e
      rw [e]; dsimp only
      frame_out
      pointwise [k0_pay2]
    · have e := outsAt0_B m c ⟨n + 1, h⟩ h0
      dsimp only at e
      rw [e]; dsimp only
      exact (ih (Nat.lt_of_succ_lt h)).trans (weights_stay m c n h h0 y)

/-- Within a sweep the scratch buffer holds the point's weight block already. -/
theorem kept (c : Dev nD) (t : Fin cfg0.N) (h0 : ¬t.val % 8 = 0) :
    (outsAt0 m c (t.val - 1) (Nat.lt_of_le_of_lt (Nat.sub_le _ _) t.isLt)).2 = X0_1 m c t := by
  obtain ⟨n, h⟩ := t
  cases n with
  | zero => exact absurd rfl h0
  | succ n => exact funext fun j => (scratch_eq m c n (Nat.lt_of_succ_lt h) j).trans (weights_stay m c n h h0 j)

/-- The cast of the weights changes nothing over the reals. -/
theorem cast_eq (W : Vec Ideal S2048x512 .bf16) : k0_pay2 (F := Ideal) W = W := Cert.ProjQIdeal.Hand.pay2_eq W

/-- The four parts of a chunk, turned and joined. -/
def turns (v : FVec Ideal S256x512 .f32) (c s z : Vec Ideal S256x128 .f32) : FVec Ideal S256x512 .f32 :=
  concatenate S256x512 1 [⟨S256x128, turn (extractStridedSlice S256x128 ![0, 0] v slices_S256x512_o0_0_S256x128) c s z⟩,
    ⟨S256x128, turn (extractStridedSlice S256x128 ![0, 128] v slices_S256x512_o0_128_S256x128) c s z⟩,
    ⟨S256x128, turn (extractStridedSlice S256x128 ![0, 256] v slices_S256x512_o0_256_S256x128) c s z⟩,
    ⟨S256x128, turn (extractStridedSlice S256x128 ![0, 384] v slices_S256x512_o0_384_S256x128) c s z⟩]
    concatenates_S256x128_S256x128_S256x128_S256x128_S256x512_d1

/-- One part of a chunk, turned, at a lane of the chunk. -/
theorem turn_lane (v : FVec Ideal S256x512 .f32) (c s z : Vec Ideal S256x128 .f32) (R : ℕ → EReal) (o : ℕ)
    (hs : S256x512.Slices ![0, o] S256x128) (r : Fin 256) (l : Fin 128) (j : ℕ) (ho : o % 128 = 0) (hj : j = o + (l : ℕ)) (h : j < 512)
    (hv : ∀ k : Fin 512, v (ix2 r k) = R k) :
    turn (extractStridedSlice S256x128 ![0, o] v hs) c s z (ix2 r l)
      = turned R (fun l => c (ix2 r l)) (fun l => s (ix2 r l)) (fun l => z (ix2 r l)) j := by
  refine turn_row _ c s z R r l o j ho hj fun k => ?_
  refine Eq.trans (congrArg v ?_) (hv ⟨o + (k : ℕ), by omega⟩)
  refine funext fun a => Fin.ext ?_
  fin_cases a
  · show 0 + (r : ℕ) = (r : ℕ); omega
  · rfl

/-- Every lane of the four joined parts. -/
theorem turns_at (v : FVec Ideal S256x512 .f32) (c s z : Vec Ideal S256x128 .f32) (R : ℕ → EReal) (y : S256x512.Idx)
    (hv : ∀ k : Fin 512, v (ix2 (y 0) k) = R k) :
    turns v c s z y = turned R (fun l => c (ix2 (y 0) l)) (fun l => s (ix2 (y 0) l)) (fun l => z (ix2 (y 0) l)) (y 1 : ℕ) := by
  have b1 : (y 1 : ℕ) < 512 := (y 1).isLt
  pointwise [turns]
  by_cases h0 : (y 1 : ℕ) < 128
  · rw [dif_pos h0]
    exact turn_lane v c s z R 0 _ (y 0) ⟨(y 1 : ℕ), h0⟩ _ rfl (by show (y 1 : ℕ) = 0 + (y 1 : ℕ); omega) b1 hv
  by_cases h1 : (y 1 : ℕ) - 128 < 128
  · rw [dif_neg h0, dif_pos h1]
    exact turn_lane v c s z R 128 _ (y 0) ⟨(y 1 : ℕ) - 128, h1⟩ _ rfl (by show (y 1 : ℕ) = 128 + ((y 1 : ℕ) - 128); omega) b1 hv
  by_cases h2 : (y 1 : ℕ) - 128 - 128 < 128
  · rw [dif_neg h0, dif_neg h1, dif_pos h2]
    exact turn_lane v c s z R 256 _ (y 0) ⟨(y 1 : ℕ) - 128 - 128, h2⟩ _ rfl
      (by show (y 1 : ℕ) = 256 + ((y 1 : ℕ) - 128 - 128); omega) b1 hv
  · rw [dif_neg h0, dif_neg h1, dif_neg h2]
    exact turn_lane v c s z R 384 _ (y 0) ⟨(y 1 : ℕ) - 128 - 128 - 128, by omega⟩ _ rfl
      (by show (y 1 : ℕ) = 384 + ((y 1 : ℕ) - 128 - 128 - 128); omega) b1 hv

/-- What a grid point stores: the product of its blocks, turned by its row of the tables. -/
def stored (X : Vec Ideal S1024x2048 .bf16) (W : Vec Ideal S2048x512 .bf16)
    (c s z : Vec Ideal S1024x128 .f32) (r : Fin 1024) (j : Fin 512) : EReal :=
  turned (lift (prod X W r)) (fun l => c (ix2 r l)) (fun l => s (ix2 r l)) (fun l => z (ix2 r l)) j

/-- What is stored for a chunk of 256 rows. -/
theorem tile (X : Vec Ideal S1024x2048 .bf16) (W : Vec Ideal S2048x512 .bf16) (c s z : Vec Ideal S1024x128 .f32) (o : ℕ)
    (b : ∀ a, (![o, 0] : Fin 2 → ℕ) a + (![256, 2048] : Fin 2 → ℕ) a ≤ S1024x2048.size a)
    (d : ∀ a, (![o, 0] : Fin 2 → ℕ) a + (![256, 128] : Fin 2 → ℕ) a ≤ S1024x128.size a)
    (y : S256x512.Idx) (x : S1024x512.Idx) (h0 : (x 0 : ℕ) = o + (y 0 : ℕ)) (h1 : (x 1 : ℕ) = (y 1 : ℕ)) :
    turns (Cert.ProjQIdeal.Gen.k0_pay3 (F := Ideal) W (View.ld X (Rect.unit ![o, 0] ![256, 2048] b)))
      (View.ld c (Rect.unit ![o, 0] ![256, 128] d)) (View.ld s (Rect.unit ![o, 0] ![256, 128] d))
      (View.ld z (Rect.unit ![o, 0] ![256, 128] d)) y
      = stored X W c s z (x 0) (x 1) := by
  rw [turns_at _ _ _ _ (lift (prod X W (x 0))) y fun k => (pay3_at X W o b (y 0) (x 0) k h0).trans (lift_at _ k _ rfl)]
  unfold stored
  rw [funext fun l => rows_at c o d (y 0) (x 0) l h0, funext fun l => rows_at s o d (y 0) (x 0) l h0,
    funext fun l => rows_at z o d (y 0) (x 0) l h0, h1]

/-- Where a sweep starts, the point casts its weight block and multiplies with it. -/
theorem body_A (c : Dev nD) (t : Fin cfg0.N) (h0 : t.val % 8 = 0) (y : S1024x512.Idx) :
    (outsAt0 m c t.val t.isLt).1 y = stored (iblk m c 0 t) (X0_1 m c t) (iblk m c 2 t) (iblk m c 3 t) (iblk m c 4 t) (y 0) (y 1) := by
  rw [outsAt0_A m c t h0]; dsimp only
  frame_out
  rw [cast_eq]
  canon_tiles y h
  · exact tile _ _ _ _ _ 768 _ _ _ _ (by omega) (by omega)
  · exact tile _ _ _ _ _ 512 _ _ _ _ (by omega) (by omega)
  · exact tile _ _ _ _ _ 256 _ _ _ _ (by omega) (by omega)
  · exact tile _ _ _ _ _ 0 _ _ _ _ (by omega) (by omega)

/-- Elsewhere in a sweep, the point multiplies with the kept weights. -/
theorem body_B (c : Dev nD) (t : Fin cfg0.N) (h0 : ¬t.val % 8 = 0) (y : S1024x512.Idx) :
    (outsAt0 m c t.val t.isLt).1 y = stored (iblk m c 0 t) (X0_1 m c t) (iblk m c 2 t) (iblk m c 3 t) (iblk m c 4 t) (y 0) (y 1) := by
  rw [outsAt0_B m c t h0]; dsimp only
  frame_out
  rw [(Memref.isWhole_whole _).read_unread, kept m c t h0]
  canon_tiles y h
  · exact tile _ _ _ _ _ 768 _ _ _ _ (by omega) (by omega)
  · exact tile _ _ _ _ _ 512 _ _ _ _ (by omega) (by omega)
  · exact tile _ _ _ _ _ 256 _ _ _ _ (by omega) (by omega)
  · exact tile _ _ _ _ _ 0 _ _ _ _ (by omega) (by omega)

/-- Every point stores its row block times its weight block, each head rotated. -/
theorem point (c : Dev nD) (t : Fin cfg0.N) (y : S1024x512.Idx) :
    (outsAt0 m c t.val t.isLt).1 y = stored (iblk m c 0 t) (X0_1 m c t) (iblk m c 2 t) (iblk m c 3 t) (iblk m c 4 t) (y 0) (y 1) :=
  if h0 : t.val % 8 = 0 then body_A m c t h0 y else body_B m c t h0 y

end Cert.IdxQIdeal.Hand
-- ==== Proof.IdxQTables.lean ====
module
public import proofs.«01_k».proof.Proof.IdxQValue
public import Idealize.ShloMosaic.Lib.Pipeline.ValueKit

/-! The three tables the indexer's queries are turned with.  A table is read in three stages: the host's operations up to the
    cosines and sines, the joining of these to rows of 64 lanes, and the copies that follow. -/

@[expose] public section

set_option maxRecDepth 16384

noncomputable section

namespace Cert.IdxQIdeal.Hand

open Cert.IdxQIdeal Cert.IdxQIdeal.Gen Idealize.ShloMosaic Idealize.ShloMosaic.TcCoe Idealize.SL.Sem
open Idealize.ShloMosaic.Pipeline (Dat)
open Cert.Indexer.Hand (angle table0 table1 table2 three)

variable (m : (ℓ : Loc nD τ sig) → Buf (Elt Ideal) ℓ)

/-- The host's operations, cut where the cosines and sines are made, before the last table and after it. -/
theorem stages (c : Dev nD) (b : Ref sig .tc) : V m c b = StableHlo.after (List.drop 27 (hostOps0 (F := Ideal)))
    (StableHlo.after (List.take 1 (List.drop 26 hostOps0)) (StableHlo.after (List.take 3 (List.drop 23 hostOps0))
      (StableHlo.after (List.take 23 hostOps0) fun b => m (c, b)))) b := by
  rw [← StableHlo.after_append, ← StableHlo.after_append, ← StableHlo.after_append]
  rfl

/-- The cosines, the sines and the constants of the tables. -/
theorem made (σ : Valuation τ sig (Elt Ideal)) (p : Fin 4096) :
    (∀ l : Fin 8, StableHlo.after (List.take 23 hostOps0) σ main_v13 (ix2 p l) = Ideal.cos (angle p l))
    ∧ (∀ l : Fin 8, StableHlo.after (List.take 23 hostOps0) σ main_v14 (ix2 p l) = Ideal.sin (angle p l))
    ∧ (∀ l : Fin 48, StableHlo.after (List.take 23 hostOps0) σ main_v15 (ix2 p l) = (1 : EReal))
    ∧ (∀ l : Fin 8, StableHlo.after (List.take 23 hostOps0) σ main_v16 (ix2 p l) = (0 : EReal))
    ∧ (∀ l : Fin 48, StableHlo.after (List.take 23 hostOps0) σ main_v17 (ix2 p l) = (0 : EReal)) := by
  simp only [hostOps0, List.take_succ_cons, List.take_zero]
  refine ⟨fun l => ?_, fun l => ?_, fun l => ?_, fun l => ?_, fun l => ?_⟩ <;> entry_read <;> pointwise [angle]

/-- The rows of the first two tables, and what the third is made of. -/
theorem joined (σ : Valuation τ sig (Elt Ideal)) (p : Fin 4096)
    (h13 : ∀ l : Fin 8, σ main_v13 (ix2 p l) = Ideal.cos (angle p l)) (h14 : ∀ l : Fin 8, σ main_v14 (ix2 p l) = Ideal.sin (angle p l))
    (h15 : ∀ l : Fin 48, σ main_v15 (ix2 p l) = (1 : EReal)) (h16 : ∀ l : Fin 8, σ main_v16 (ix2 p l) = (0 : EReal))
    (h17 : ∀ l : Fin 48, σ main_v17 (ix2 p l) = (0 : EReal)) :
    (∀ l : Fin 64, StableHlo.after (List.take 3 (List.drop 23 hostOps0)) σ main_v18 (ix2 p l) = table0 p l)
    ∧ (∀ l : Fin 64, StableHlo.after (List.take 3 (List.drop 23 hostOps0)) σ main_v19 (ix2 p l) = table1 p l)
    ∧ (∀ l : Fin 8, StableHlo.after (List.take 3 (List.drop 23 hostOps0)) σ main_v20 (ix2 p l) = -Ideal.sin (angle p l))
    ∧ (∀ l : Fin 8, StableHlo.after (List.take 3 (List.drop 23 hostOps0)) σ main_v16 (ix2 p l) = (0 : EReal))
    ∧ (∀ l : Fin 48, StableHlo.after (List.take 3 (List.drop 23 hostOps0)) σ main_v17 (ix2 p l) = (0 : EReal)) := by
  simp only [hostOps0, List.drop_succ_cons, List.drop_zero, List.take_succ_cons, List.take_zero]
  refine ⟨fun l => ?_, fun l => ?_, fun l => ?_, fun l => ?_, fun l => ?_⟩
  · entry_read
    pointwise
    exact three _ _ _ _ _ _ _ (fun h => h13 _) (fun h => h13 _) (fun h h' => h15 _)
  · entry_read
    pointwise
    exact three _ _ _ _ _ _ _ (fun h => h16 _) (fun h => h14 _) (fun h h' => h17 _)
  · entry_read
    pointwise
    exact congrArg (fun x : EReal => -x) (h14 l)
  · entry_read
    exact h16 l
  · entry_read
    exact h17 l

/-- The rows of the third table. -/
theorem joined2 (σ : Valuation τ sig (Elt Ideal)) (p : Fin 4096)
    (h20 : ∀ l : Fin 8, σ main_v20 (ix2 p l) = -Ideal.sin (angle p l)) (h16 : ∀ l : Fin 8, σ main_v16 (ix2 p l) = (0 : EReal))
    (h17 : ∀ l : Fin 48, σ main_v17 (ix2 p l) = (0 : EReal)) (l : Fin 64) :
    StableHlo.after (List.take 1 (List.drop 26 hostOps0)) σ main_v18 (ix2 p l) = σ main_v18 (ix2 p l)
    ∧ StableHlo.after (List.take 1 (List.drop 26 hostOps0)) σ main_v19 (ix2 p l) = σ main_v19 (ix2 p l)
    ∧ StableHlo.after (List.take 1 (List.drop 26 hostOps0)) σ main_v21 (ix2 p l) = table2 p l := by
  simp only [hostOps0, List.drop_succ_cons, List.drop_zero, List.take_succ_cons, List.take_zero]
  refine ⟨?_, ?_, ?_⟩
  · entry_read
    rfl
  · entry_read
    rfl
  · entry_read
    pointwise
    rw [show table2 p l = if (l : ℕ) < 8 then -Ideal.sin (angle p l) else if (l : ℕ) - 8 < 8 then 0 else 0 from by
      unfold table2; rw [ite_self]]
    exact three _ _ _ _ _ _ _ (fun h => h20 _) (fun h => h16 _) (fun h h' => h17 _)

/-- The copies put a table's 64 lanes side by side twice. -/
theorem copied (σ : Valuation τ sig (Elt Ideal)) (p : Fin 4096) (l : Fin 128) :
    StableHlo.after (List.drop 27 hostOps0) σ main_v24 (ix2 p l) = σ main_v18 (ix2 p ⟨(l : ℕ) % 64, Nat.mod_lt _ (by decide)⟩)
    ∧ StableHlo.after (List.drop 27 hostOps0) σ main_v27 (ix2 p l) = σ main_v19 (ix2 p ⟨(l : ℕ) % 64, Nat.mod_lt _ (by decide)⟩)
    ∧ StableHlo.after (List.drop 27 hostOps0) σ main_v30 (ix2 p l) = σ main_v21 (ix2 p ⟨(l : ℕ) % 64, Nat.mod_lt _ (by decide)⟩) := by
  simp only [hostOps0, List.drop_succ_cons, List.drop_zero]
  refine ⟨?_, ?_, ?_⟩ <;> entry_read <;> pointwise

/-- What the kernel is given as tables. -/
theorem tables (c : Dev nD) (p : Fin 4096) (l : Fin 128) :
    V m c main_v24 (ix2 p l) = table0 p ((l : ℕ) % 64) ∧ V m c main_v27 (ix2 p l) = table1 p ((l : ℕ) % 64)
    ∧ V m c main_v30 (ix2 p l) = table2 p ((l : ℕ) % 64) := by
  obtain ⟨h13, h14, h15, h16, h17⟩ := made (fun b => m (c, b)) p
  obtain ⟨j0, j1, h20, h16, h17⟩ := joined _ p h13 h14 h15 h16 h17
  obtain ⟨i0, i1, i2⟩ := joined2 _ p h20 h16 h17 ⟨(l : ℕ) % 64, Nat.mod_lt _ (by decide)⟩
  obtain ⟨k0, k1, k2⟩ := copied (StableHlo.after (List.take 1 (List.drop 26 hostOps0)) (StableHlo.after (List.take 3 (List.drop 23 hostOps0))
    (StableHlo.after (List.take 23 hostOps0) fun b => m (c, b)))) p l
  rw [stages, stages, stages]
  exact ⟨k0.trans (i0.trans (j0 _)), k1.trans (i1.trans (j1 _)), k2.trans i2⟩

/-- The staged rows of the tables: position `t % 8 % 4 * 1024 + r`. -/
theorem tables_at (c : Dev nD) (t : Fin cfg0.N) (r : Fin 1024) (p : ℕ) (hp : p = t.val % 8 % 4 * 1024 + (r : ℕ)) (l : Fin 128) :
    iblk m c 2 t (ix2 r l) = table0 p ((l : ℕ) % 64) ∧ iblk m c 3 t (ix2 r l) = table1 p ((l : ℕ) % 64)
    ∧ iblk m c 4 t (ix2 r l) = table2 p ((l : ℕ) % 64) := by
  have h : p < 4096 := by omega
  subst hp
  obtain ⟨k0, k1, k2⟩ := tables m c ⟨t.val % 8 % 4 * 1024 + (r : ℕ), h⟩ l
  refine ⟨Eq.trans ?_ k0, Eq.trans ?_ k1, Eq.trans ?_ k2⟩ <;> unfold iblk
  · blk_ext [idx t]
  · blk_ext [idx t]
  · blk_ext [idx t]

end Cert.IdxQIdeal.Hand
-- ==== Proof.IdxQClaim.lean ====
module
public import proofs.«01_k».proof.Proof.IdxQTables
public import proofs.«01_k».proof.Proof.Gen.IdxQRefIdeal.Run
public import proofs.«01_k».proof.Proof.Gen.IdxQRefIdeal.Read
public import Idealize.ShloMosaic.Lib.Pipeline.ValueKit

/-! The indexer's queries: the reference's entries, and the claim. -/

@[expose] public section

set_option maxRecDepth 16384

noncomputable section

namespace Cert.IdxQIdeal.Hand

open Cert.IdxQIdeal Cert.IdxQIdeal.Gen Idealize.ShloMosaic Idealize.ShloMosaic.TcCoe Idealize.SL.Sem
open Idealize.ShloMosaic.Pipeline (Dat)
open Cert.IdxQRefIdeal.Read
open Cert.ProjQIdeal.Hand (prod)
open Cert.Indexer.Hand (lift lift_at turned_eq roped angle)

variable (m : (ℓ : Loc nD τ sig) → Buf (Elt Ideal) ℓ)

/-- The cosines of the reference's angles. -/
theorem cos_at (p : Fin 4096) (l : Fin 8) : val_main_v16 (F := Ideal) (ix2 p l) = Ideal.cos (angle p l) := by
  unfold angle
  pointwise [val_main_v16, val_main_v15, val_main_v14, val_main_v13, val_main_v12, val_main_v11, val_main_v10, val_main_v9, val_main_v8, val_main_v7, val_main_v6, val_main_v5, val_main_v4,
    val_main_cst, val_main_cst_0]

/-- Their sines. -/
theorem sin_at (p : Fin 4096) (l : Fin 8) : val_main_v18 (F := Ideal) (ix2 p l) = Ideal.sin (angle p l) := by
  unfold angle
  pointwise [val_main_v18, val_main_v15, val_main_v14, val_main_v13, val_main_v12, val_main_v11, val_main_v10, val_main_v9, val_main_v8, val_main_v7, val_main_v6, val_main_v5, val_main_v4,
    val_main_cst, val_main_cst_0]

/-- The tables the reference rotates with. -/
theorem spread_at (b : Fin 2) (p : Fin 4096) (h : Fin 16) (l : Fin 8) :
    val_main_v22 (F := Ideal) (ix4 b p h l) = Ideal.cos (angle p l) ∧ val_main_v27 (F := Ideal) (ix4 b p h l) = Ideal.cos (angle p l)
    ∧ val_main_v24 (F := Ideal) (ix4 b p h l) = Ideal.sin (angle p l)
    ∧ val_main_v29 (F := Ideal) (ix4 b p h l) = Ideal.sin (angle p l) := by
  refine ⟨?_, ?_, ?_, ?_⟩
  · rw [← cos_at]; pointwise [val_main_v22, val_main_v17]
  · rw [← cos_at]; pointwise [val_main_v27, val_main_v17]
  · rw [← sin_at]; pointwise [val_main_v24, val_main_v19]
  · rw [← sin_at]; pointwise [val_main_v29, val_main_v19]

section Rotation
open Cert.IdxQRefIdeal Cert.IdxQRefIdeal.Facts₀ Cert.IdxQRefIdeal.Facts

/-- Heads rotated as the reference does it: two slices of eight lanes, and the rest. -/
def rot (Y : FVec Ideal S2x4096x16x64 .f32) : FVec Ideal S2x4096x16x64 .f32 :=
  concatenate S2x4096x16x64 3
    [⟨S2x4096x16x8, subf
      (mulf (extractStridedSlice S2x4096x16x8 ![0, 0, 0, 0] Y slices_S2x4096x16x64_S2x4096x16x8_0_0_0_0) (val_main_v22 (F := Ideal)))
      (mulf (extractStridedSlice S2x4096x16x8 ![0, 0, 0, 8] Y slices_S2x4096x16x64_S2x4096x16x8_0_0_0_8) (val_main_v24 (F := Ideal)))⟩,
     ⟨S2x4096x16x8, addf
      (mulf (extractStridedSlice S2x4096x16x8 ![0, 0, 0, 8] Y slices_S2x4096x16x64_S2x4096x16x8_0_0_0_8) (val_main_v27 (F := Ideal)))
      (mulf (extractStridedSlice S2x4096x16x8 ![0, 0, 0, 0] Y slices_S2x4096x16x64_S2x4096x16x8_0_0_0_0) (val_main_v29 (F := Ideal)))⟩,
     ⟨S2x4096x16x48, extractStridedSlice S2x4096x16x48 ![0, 0, 0, 16] Y slices_S2x4096x16x64_S2x4096x16x48_0_0_0_16⟩]
    concatenates_S2x4096x16x8_S2x4096x16x8_S2x4096x16x48_S2x4096x16x64_d3

/-- What the rotation makes of a row whose numbers are `N`. -/
theorem rot_at (Y : FVec Ideal S2x4096x16x64 .f32) (N : ℕ → EReal) (b : Fin 2) (p : Fin 4096) (h : Fin 16) (l : Fin 64)
    (hY : ∀ l : Fin 64, Y (ix4 b p h l) = N ((h : ℕ) * 64 + (l : ℕ))) :
    rot Y (ix4 b p h l) = roped N p ((h : ℕ) * 64 + (l : ℕ)) := by
  pointwise [rot]
  unfold roped
  have e : ((h : ℕ) * 64 + (l : ℕ)) % 64 = (l : ℕ) := by omega
  rw [e]
  have cs : ∀ i : Fin 8, val_main_v22 (F := Ideal) (ix4 b p h i) = Ideal.cos (angle p i) := fun i => (spread_at b p h i).1
  have cs' : ∀ i : Fin 8, val_main_v27 (F := Ideal) (ix4 b p h i) = Ideal.cos (angle p i) := fun i => (spread_at b p h i).2.1
  have sn : ∀ i : Fin 8, val_main_v24 (F := Ideal) (ix4 b p h i) = Ideal.sin (angle p i) := fun i => (spread_at b p h i).2.2.1
  have sn' : ∀ i : Fin 8, val_main_v29 (F := Ideal) (ix4 b p h i) = Ideal.sin (angle p i) := fun i => (spread_at b p h i).2.2.2
  by_cases h0 : (l : ℕ) < 8
  · have y1 := hY ⟨8 + (l : ℕ), by omega⟩
    refine (dif_pos h0).trans ?_
    rw [if_pos h0, hY l, y1, cs, sn, show (h : ℕ) * 64 + (8 + (l : ℕ)) = (h : ℕ) * 64 + (l : ℕ) + 8 by omega]
  by_cases h1 : (l : ℕ) - 8 < 8
  · have y1 := hY ⟨(l : ℕ) - 8, by omega⟩
    have y2 := hY ⟨8 + ((l : ℕ) - 8), by omega⟩
    refine (dif_neg h0).trans ((dif_pos h1).trans ?_)
    rw [if_neg h0, if_pos h1, y1, y2, cs', sn', show (h : ℕ) * 64 + (8 + ((l : ℕ) - 8)) = (h : ℕ) * 64 + (l : ℕ) by omega,
      show (h : ℕ) * 64 + ((l : ℕ) - 8) = (h : ℕ) * 64 + (l : ℕ) - 8 by omega]
  · have y2 := hY ⟨16 + ((l : ℕ) - 8 - 8), by omega⟩
    refine (dif_neg h0).trans ((dif_neg h1).trans ?_)
    rw [if_neg h0, if_neg h1]
    exact y2.trans (congrArg N (by show (h : ℕ) * 64 + (16 + ((l : ℕ) - 8 - 8)) = (h : ℕ) * 64 + (l : ℕ); omega))
end Rotation

/-- The column of the weights that lane `j` of a row of sixteen heads reads. -/
def col (j : ℕ) (h : j < 1024) : Fin 7248 := ⟨6144 + j, by omega⟩

/-- A lane of a row's product with the weights. -/
def full (x0 : Vec Ideal S8192x2048 .bf16) (x1 : Vec Ideal S2048x7248 .f32) (r : Fin 8192) (j : Fin 1024) : EReal :=
  ∑ e : Fin 2048, (x0 (ix2 r e) : EReal) * x1 (ix2 e (col j j.isLt))

/-- The reference's row of a head, before the rotation. -/
theorem row_at (x0 : Vec Ideal S8192x2048 .bf16) (x1 : Vec Ideal S2048x7248 .f32) (q : Cert.IdxQRefIdeal.S2x4096x16x64.Idx)
    (r : Fin 8192) (j : Fin 1024) (hr : (r : ℕ) = (q 0 : ℕ) * 4096 + (q 1 : ℕ)) (hj : (j : ℕ) = (q 2 : ℕ) * 64 + (q 3 : ℕ)) :
    val_main_v3 (F := Ideal) x0 x1 q = full x0 x1 r j := by
  have b0 : (q 0 : ℕ) < 2 := (q 0).isLt
  have b1 : (q 1 : ℕ) < 4096 := (q 1).isLt
  have b2 : (q 2 : ℕ) < 16 := (q 2).isLt
  have b3 : (q 3 : ℕ) < 64 := (q 3).isLt
  unfold full
  rw [val_main_v3_apply, val_main_v2_apply, val_main_v1_apply]
  refine Finset.sum_congr rfl fun e _ => congrArg₂ (fun x y : EReal => x * y) (congrArg x0 ?_) (congrArg x1 ?_)
  · refine funext fun a => Fin.ext ?_
    fin_cases a
    · dsimp; omega
    · rfl
  · refine funext fun a => Fin.ext ?_
    fin_cases a
    · rfl
    · unfold col; dsimp; omega

/-- The reference's entry: a lane of the row's product, rotated by the row's position. -/
theorem ref_at (x0 : Vec Ideal S8192x2048 .bf16) (x1 : Vec Ideal S2048x7248 .f32) (r : Fin 8192) (j : Fin 1024) :
    val_main_v34 (F := Ideal) x0 x1 (ix2 r j) = roped (lift (full x0 x1 r)) ((r : ℕ) % 4096) j := by
  have e : idx_main_v34 (ix2 r j) = ix4 ⟨(r : ℕ) / 4096, by omega⟩ ⟨(r : ℕ) % 4096, by omega⟩ ⟨(j : ℕ) / 64, by omega⟩
      ⟨(j : ℕ) % 64, by omega⟩ := by
    refine funext fun a => Fin.ext ?_
    fin_cases a <;> dsimp <;> omega
  have ej : (j : ℕ) / 64 * 64 + (j : ℕ) % 64 = (j : ℕ) := by omega
  rw [val_main_v34_apply, e]
  refine (rot_at (val_main_v3 (F := Ideal) x0 x1) (lift (full x0 x1 r)) _ ⟨(r : ℕ) % 4096, by omega⟩ ⟨(j : ℕ) / 64, by omega⟩ _
    (fun l => ?_)).trans ?_
  · refine (row_at x0 x1 _ r ⟨(j : ℕ) / 64 * 64 + (l : ℕ), by omega⟩ ?_ ?_).trans (lift_at _ _ _ rfl)
    · dsimp; omega
    · rfl
  · exact congrArg (roped _ _) ej

/-- What a grid point stores is the reference's entry. -/
theorem entry_ref (c : Dev nD) (t : Fin cfg0.N) (y : S1024x512.Idx) (i : S8192x1024.Idx)
    (h0 : (i 0 : ℕ) = t.val % 8 * 1024 + (y 0 : ℕ)) (h1 : (i 1 : ℕ) = t.val / 8 * 512 + (y 1 : ℕ)) :
    stored (iblk m c 0 t) (X0_1 m c t) (iblk m c 2 t) (iblk m c 3 t) (iblk m c 4 t) (y 0) (y 1)
      = val_main_v34 (F := Ideal) (m ((c : Thread nD τ).loc main_arg0)) (m ((c : Thread nD τ).loc main_arg1)) i := by
  obtain ⟨r, j, rfl⟩ : ∃ (r : Fin 8192) (j : Fin 1024), i = ix2 r j := ⟨i 0, i 1, (ix2_eta i).symm⟩
  obtain ⟨a, b, rfl⟩ : ∃ (a : Fin 1024) (b : Fin 512), y = ix2 a b := ⟨y 0, y 1, (ix2_eta y).symm⟩
  dsimp only [ix2_0, ix2_1] at h0 h1 ⊢
  have jj : (j : ℕ) < 1024 := j.isLt
  have at_col : ∀ (b' : Fin 512) (j' : Fin 1024), (j' : ℕ) = t.val / 8 * 512 + (b' : ℕ) →
      prod (iblk m c 0 t) (X0_1 m c t) a b'
        = full (m ((c : Thread nD τ).loc main_arg0)) (m ((c : Thread nD τ).loc main_arg1)) r j' := fun b' j' hj => by
    unfold prod full
    refine Finset.sum_congr rfl fun e _ => congrArg₂ (fun x y : EReal => x * y) ?_ ?_
    · blk_point [iblk, V, idx t]
    · exact weights_at m c t _ (col j' j'.isLt) (by show 6144 + (j' : ℕ) = (t.val / 8 + 12) * 512 + (b' : ℕ); omega)
  have aa : (a : ℕ) < 1024 := a.isLt
  have hp : ((r : ℕ) % 4096) = t.val % 8 % 4 * 1024 + (a : ℕ) := by omega
  rw [ref_at]
  unfold stored
  rw [funext fun l => (tables_at m c t a _ hp l).1, funext fun l => (tables_at m c t a _ hp l).2.1,
    funext fun l => (tables_at m c t a _ hp l).2.2, h1]
  refine turned_eq _ _ _ (t.val / 8 * 512) 512 b (by omega) (by omega) b.isLt fun b' hb => ?_
  have tt : t.val < 16 := t.isLt
  exact (lift_at _ ⟨b', hb⟩ b' rfl).symm.trans ((at_col ⟨b', hb⟩ ⟨t.val / 8 * 512 + b', by omega⟩ rfl).trans (lift_at _ _ _ rfl))

/-- The output array is the reference's result. -/
theorem final (c : Dev nD) : (dats m 0 c).arrAt 5 cfg0.N
    = val_main_v35 (F := Ideal) (m ((c : Thread nD τ).loc main_arg0)) (m ((c : Thread nD τ).loc main_arg1)) := by
  refine (dats m 0 c).arrAt_eq_of_covers 5 _ (by decide +kernel) fun t _ y => ?_
  blk_simp
  rw [after0_5, point]
  refine entry_ref m c t y _ ?_ ?_
  · blk_simp [idx t]
  · blk_simp [idx t]

/-- The kernel and the reference leave the same array. -/
theorem algebraic : Cert.algebraic_IdxQIdeal_IdxQRefIdeal := fun m ρ m' ρ' _ hag =>
  ⟨_, Value.run_blocks m ρ, (θ_run Cert.IdxQRefIdeal.defs _ _).mono
    (fun _ h c => ⟨(h c).1.trans (by
      rw [val_main_v35_eq, (hag c).1, (hag c).2, final]), (h c).2⟩)
    (Cert.IdxQRefIdeal.Value.run (F := Ideal) m' ρ')⟩

end Cert.IdxQIdeal.Hand
-- ==== Proof.lean ====
module

public import proofs.«01_k».proof.Defs
public import proofs.«01_k».proof.Proof.Gen.KernelIdeal.Value
public import proofs.«01_k».proof.Proof.Gen.UpIdeal.Value
public import proofs.«01_k».proof.Proof.Gen.DownIdeal.Value
public import proofs.«01_k».proof.Proof.Gen.OutProjIdeal.Value
public import proofs.«01_k».proof.Proof.Gen.ReferenceIdeal.Run
public import proofs.«01_k».proof.Proof.Gen.ReferenceIdeal.Read
public import proofs.«01_k».proof.Proof.Gen.UpRefIdeal.Run
public import proofs.«01_k».proof.Proof.Gen.UpRefIdeal.Read
public import proofs.«01_k».proof.Proof.Gen.DownRefIdeal.Run
public import proofs.«01_k».proof.Proof.Gen.DownRefIdeal.Read
public import proofs.«01_k».proof.Proof.Gen.OutProjRefIdeal.Run
public import proofs.«01_k».proof.Proof.Gen.OutProjRefIdeal.Read
public import proofs.«01_k».proof.Proof.Gen.Pre_selected_and_finite
public import proofs.«01_k».proof.Proof.Gen.Kernel.Frame
public import proofs.«01_k».proof.Proof.Gen.Up.Frame
public import proofs.«01_k».proof.Proof.Gen.Down.Frame
public import proofs.«01_k».proof.Proof.Gen.OutProj.Frame
public import proofs.«01_k».proof.Proof.Gen.ProjVIdeal.Value
public import proofs.«01_k».proof.Proof.Gen.ProjVRefIdeal.Run
public import proofs.«01_k».proof.Proof.Gen.ProjVRefIdeal.Read
public import proofs.«01_k».proof.Proof.Gen.ProjV.Frame
public import proofs.«01_k».proof.Proof.Gen.ProjKIdeal.Value
public import proofs.«01_k».proof.Proof.Gen.ProjKRefIdeal.Run
public import proofs.«01_k».proof.Proof.Gen.ProjKRefIdeal.Read
public import proofs.«01_k».proof.Proof.Gen.ProjK.Frame
public import proofs.«01_k».proof.Proof.Gen.ProjQIdeal.Value
public import proofs.«01_k».proof.Proof.Gen.ProjQRefIdeal.Run
public import proofs.«01_k».proof.Proof.Gen.ProjQRefIdeal.Read
public import proofs.«01_k».proof.Proof.Gen.ProjQ.Frame
public import proofs.«01_k».proof.Proof.Gen.DsaVIdeal.Value
public import proofs.«01_k».proof.Proof.Gen.DsaVRefIdeal.Run
public import proofs.«01_k».proof.Proof.Gen.DsaVRefIdeal.Read
public import proofs.«01_k».proof.Proof.Gen.DsaV.Frame
public import proofs.«01_k».proof.Proof.Gen.DsaKIdeal.Value
public import proofs.«01_k».proof.Proof.Gen.DsaKRefIdeal.Run
public import proofs.«01_k».proof.Proof.Gen.DsaKRefIdeal.Read
public import proofs.«01_k».proof.Proof.Gen.DsaK.Frame
public import proofs.«01_k».proof.Proof.Gen.DsaQIdeal.Value
public import proofs.«01_k».proof.Proof.Gen.DsaQRefIdeal.Run
public import proofs.«01_k».proof.Proof.Gen.DsaQRefIdeal.Read
public import proofs.«01_k».proof.Proof.Gen.DsaQ.Frame
public import proofs.«01_k».proof.Proof.Gen.NormIdeal.Value
public import proofs.«01_k».proof.Proof.Gen.NormRefIdeal.Run
public import proofs.«01_k».proof.Proof.Gen.NormRefIdeal.Read
public import proofs.«01_k».proof.Proof.Gen.Norm.Frame
public import proofs.«01_k».proof.Proof.Gen.PoolS.Frame
public import proofs.«01_k».proof.Proof.Gen.PoolSIdeal.Frame
public import proofs.«01_k».proof.Proof.Gen.PoolSRefIdeal.Run
public import proofs.«01_k».proof.Proof.Gen.PoolSRefIdeal.Read
public import proofs.«01_k».proof.Proof.Gen.OutProjS.Frame
public import proofs.«01_k».proof.Proof.Gen.OutProjSIdeal.Value
public import proofs.«01_k».proof.Proof.Gen.OutProjSRefIdeal.Run
public import proofs.«01_k».proof.Proof.Gen.OutProjSRefIdeal.Read
public import proofs.«01_k».proof.Proof.Gen.UpS.Frame
public import proofs.«01_k».proof.Proof.Gen.UpSIdeal.Value
public import proofs.«01_k».proof.Proof.Gen.UpSRefIdeal.Run
public import proofs.«01_k».proof.Proof.Gen.UpSRefIdeal.Read
public import proofs.«01_k».proof.Proof.Gen.ProjQS.Frame
public import proofs.«01_k».proof.Proof.Gen.ProjQSIdeal.Value
public import proofs.«01_k».proof.Proof.Gen.ProjQSRefIdeal.Run
public import proofs.«01_k».proof.Proof.Gen.ProjQSRefIdeal.Read
public import proofs.«01_k».proof.Proof.Gen.PoolP.Frame
public import proofs.«01_k».proof.Proof.Gen.PoolPIdeal.Frame
public import proofs.«01_k».proof.Proof.Gen.PoolPRefIdeal.Run
public import proofs.«01_k».proof.Proof.Gen.PoolPRefIdeal.Read
public import proofs.«01_k».proof.Proof.Gen.DownSIdeal.Value
public import proofs.«01_k».proof.Proof.Gen.DownSRefIdeal.Run
public import proofs.«01_k».proof.Proof.Gen.DownSRefIdeal.Read
public import proofs.«01_k».proof.Proof.Gen.DownS.Frame
public import proofs.«01_k».proof.Proof.Gen.ProjVSIdeal.Value
public import proofs.«01_k».proof.Proof.Gen.ProjVSRefIdeal.Run
public import proofs.«01_k».proof.Proof.Gen.ProjVSRefIdeal.Read
public import proofs.«01_k».proof.Proof.Gen.ProjVS.Frame
public import proofs.«01_k».proof.Proof.Gen.ProjKSIdeal.Value
public import proofs.«01_k».proof.Proof.Gen.ProjKSRefIdeal.Run
public import proofs.«01_k».proof.Proof.Gen.ProjKSRefIdeal.Read
public import proofs.«01_k».proof.Proof.Gen.ProjKS.Frame
public import proofs.«01_k».proof.Proof.Gen.DsaVSIdeal.Value
public import proofs.«01_k».proof.Proof.Gen.DsaVSRefIdeal.Run
public import proofs.«01_k».proof.Proof.Gen.DsaVSRefIdeal.Read
public import proofs.«01_k».proof.Proof.Gen.DsaVS.Frame
public import proofs.«01_k».proof.Proof.Gen.DsaKSIdeal.Value
public import proofs.«01_k».proof.Proof.Gen.DsaKSRefIdeal.Run
public import proofs.«01_k».proof.Proof.Gen.DsaKSRefIdeal.Read
public import proofs.«01_k».proof.Proof.Gen.DsaKS.Frame
public import proofs.«01_k».proof.Proof.Gen.IdxKIdeal.Frame
public import proofs.«01_k».proof.Proof.Gen.IdxKRefIdeal.Run
public import proofs.«01_k».proof.Proof.Gen.IdxKRefIdeal.Read
public import proofs.«01_k».proof.Proof.Gen.IdxK.Frame
public import proofs.«01_k».proof.Proof.Gen.IdxKSIdeal.Frame
public import proofs.«01_k».proof.Proof.Gen.IdxKSRefIdeal.Run
public import proofs.«01_k».proof.Proof.Gen.IdxKSRefIdeal.Read
public import proofs.«01_k».proof.Proof.Gen.IdxKS.Frame
public import proofs.«01_k».proof.Proof.Gen.IdxQIdeal.Value
public import proofs.«01_k».proof.Proof.Gen.IdxQRefIdeal.Run
public import proofs.«01_k».proof.Proof.Gen.IdxQRefIdeal.Read
public import proofs.«01_k».proof.Proof.Gen.IdxQ.Frame
public import proofs.«01_k».proof.Proof.DsaValue
public import proofs.«01_k».proof.Proof.UpValue
public import proofs.«01_k».proof.Proof.DownValue
public import proofs.«01_k».proof.Proof.OutProjValue
public import proofs.«01_k».proof.Proof.ProjVValue
public import proofs.«01_k».proof.Proof.ProjKValue
public import proofs.«01_k».proof.Proof.ProjQValue
public import proofs.«01_k».proof.Proof.DsaVValue
public import proofs.«01_k».proof.Proof.DsaKClaim
public import proofs.«01_k».proof.Proof.DsaQClaim
public import proofs.«01_k».proof.Proof.NormValue
public import proofs.«01_k».proof.Proof.PoolSValue
public import proofs.«01_k».proof.Proof.OutProjSValue
public import proofs.«01_k».proof.Proof.UpSValue
public import proofs.«01_k».proof.Proof.ProjQSValue
public import proofs.«01_k».proof.Proof.PoolPValue
public import proofs.«01_k».proof.Proof.DownSValue
public import proofs.«01_k».proof.Proof.ProjVSValue
public import proofs.«01_k».proof.Proof.ProjKSValue
public import proofs.«01_k».proof.Proof.DsaVSValue
public import proofs.«01_k».proof.Proof.DsaKSClaim
public import proofs.«01_k».proof.Proof.IdxKClaim
public import proofs.«01_k».proof.Proof.IdxKSClaim
public import proofs.«01_k».proof.Proof.IdxQClaim
public import Idealize.ShloMosaic.Lib.Quiescent

@[expose] public section

noncomputable section

namespace Cert.Proof

open Idealize.ShloMosaic Idealize.SL.Sem

/-- The reference of the sparse attention runs and leaves its arguments alone. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the reference of the up projection. -/
theorem up_ref_frame : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- So does the reference of the down projection. -/
theorem down_ref_frame : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- So does the reference of the output projection. -/
theorem out_ref_frame : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- So does the reference of the value projection. -/
theorem value_ref_frame : Cert.quiescent_ProjVRefIdeal := fun m ρ _ =>
  (θ_run Cert.ProjVRefIdeal.defs _ _).mono (fun r h => ⟨fun c => (h c).2.2, sem_eq_zero_of_no_sems (by decide) r.2⟩)
    (Cert.ProjVRefIdeal.Value.run (F := Ideal) m ρ)

/-- So does the reference of the key projection. -/
theorem key_ref_frame : Cert.quiescent_ProjKRefIdeal := fun m ρ _ =>
  (θ_run Cert.ProjKRefIdeal.defs _ _).mono (fun r h => ⟨fun c => (h c).2.2, sem_eq_zero_of_no_sems (by decide) r.2⟩)
    (Cert.ProjKRefIdeal.Value.run (F := Ideal) m ρ)

/-- So does the reference of the query projection. -/
theorem query_ref_frame : Cert.quiescent_ProjQRefIdeal := fun m ρ _ =>
  (θ_run Cert.ProjQRefIdeal.defs _ _).mono (fun r h => ⟨fun c => (h c).2, sem_eq_zero_of_no_sems (by decide) r.2⟩)
    (Cert.ProjQRefIdeal.Value.run (F := Ideal) m ρ)

/-- So does the reference of the sparse layer's value projection. -/
theorem dsa_value_ref_frame : Cert.quiescent_DsaVRefIdeal := fun m ρ _ =>
  (θ_run Cert.DsaVRefIdeal.defs _ _).mono (fun r h => ⟨fun c => (h c).2.2, sem_eq_zero_of_no_sems (by decide) r.2⟩)
    (Cert.DsaVRefIdeal.Value.run (F := Ideal) m ρ)

/-- So does the reference of the sparse layer's key projection. -/
theorem dsa_key_ref_frame : Cert.quiescent_DsaKRefIdeal := fun m ρ _ =>
  (θ_run Cert.DsaKRefIdeal.defs _ _).mono (fun r h => ⟨fun c => (h c).2.2, sem_eq_zero_of_no_sems (by decide) r.2⟩)
    (Cert.DsaKRefIdeal.Value.run (F := Ideal) m ρ)

/-- So does the reference of the sparse layer's query projection. -/
theorem dsa_query_ref_frame : Cert.quiescent_DsaQRefIdeal := fun m ρ _ =>
  (θ_run Cert.DsaQRefIdeal.defs _ _).mono (fun r h => ⟨fun c => (h c).2, sem_eq_zero_of_no_sems (by decide) r.2⟩)
    (Cert.DsaQRefIdeal.Value.run (F := Ideal) m ρ)

/-- So does the reference of the row norm. -/
theorem norm_ref_frame : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

/-- So does the reference of the sample's down projection. -/
theorem down_sample_ref_frame : Cert.quiescent_DownSRefIdeal := fun m ρ _ =>
  (θ_run Cert.DownSRefIdeal.defs _ _).mono (fun r h => ⟨fun c => (h c).2, sem_eq_zero_of_no_sems (by decide) r.2⟩)
    (Cert.DownSRefIdeal.Value.run (F := Ideal) m ρ)

/-- So does the reference of the sample's value projection. -/
theorem value_sample_ref_frame : Cert.quiescent_ProjVSRefIdeal := fun m ρ _ =>
  (θ_run Cert.ProjVSRefIdeal.defs _ _).mono (fun r h => ⟨fun c => (h c).2.2, sem_eq_zero_of_no_sems (by decide) r.2⟩)
    (Cert.ProjVSRefIdeal.Value.run (F := Ideal) m ρ)

/-- So does the reference of the sample's key projection. -/
theorem key_sample_ref_frame : Cert.quiescent_ProjKSRefIdeal := fun m ρ _ =>
  (θ_run Cert.ProjKSRefIdeal.defs _ _).mono (fun r h => ⟨fun c => (h c).2.2, sem_eq_zero_of_no_sems (by decide) r.2⟩)
    (Cert.ProjKSRefIdeal.Value.run (F := Ideal) m ρ)

/-- So does the reference of the sample's value projection in the sparse layer. -/
theorem dsa_value_sample_ref_frame : Cert.quiescent_DsaVSRefIdeal := fun m ρ _ =>
  (θ_run Cert.DsaVSRefIdeal.defs _ _).mono (fun r h => ⟨fun c => (h c).2.2, sem_eq_zero_of_no_sems (by decide) r.2⟩)
    (Cert.DsaVSRefIdeal.Value.run (F := Ideal) m ρ)

/-- So does the reference of the sample's key projection in the sparse layer. -/
theorem dsa_key_sample_ref_frame : Cert.quiescent_DsaKSRefIdeal := fun m ρ _ =>
  (θ_run Cert.DsaKSRefIdeal.defs _ _).mono (fun r h => ⟨fun c => (h c).2.2, sem_eq_zero_of_no_sems (by decide) r.2⟩)
    (Cert.DsaKSRefIdeal.Value.run (F := Ideal) m ρ)

/-- So does the reference of the indexer's keys. -/
theorem index_key_ref_frame : Cert.quiescent_IdxKRefIdeal := fun m ρ _ =>
  (θ_run Cert.IdxKRefIdeal.defs _ _).mono (fun r h => ⟨fun c => (h c).2, sem_eq_zero_of_no_sems (by decide) r.2⟩)
    (Cert.IdxKRefIdeal.Value.run (F := Ideal) m ρ)

/-- So does the reference of the indexer's keys for the sample. -/
theorem index_key_sample_ref_frame : Cert.quiescent_IdxKSRefIdeal := fun m ρ _ =>
  (θ_run Cert.IdxKSRefIdeal.defs _ _).mono (fun r h => ⟨fun c => (h c).2, sem_eq_zero_of_no_sems (by decide) r.2⟩)
    (Cert.IdxKSRefIdeal.Value.run (F := Ideal) m ρ)

/-- So does the reference of the indexer's queries. -/
theorem index_query_ref_frame : Cert.quiescent_IdxQRefIdeal := fun m ρ _ =>
  (θ_run Cert.IdxQRefIdeal.defs _ _).mono (fun r h => ⟨fun c => (h c).2, sem_eq_zero_of_no_sems (by decide) r.2⟩)
    (Cert.IdxQRefIdeal.Value.run (F := Ideal) m ρ)

/-- So does the reference of the prompt's pooling state. -/
theorem pool_prompt_ref_frame : Cert.quiescent_PoolPRefIdeal := fun m ρ _ =>
  (θ_run Cert.PoolPRefIdeal.defs _ _).mono (fun r h => ⟨fun c => (h c).2, sem_eq_zero_of_no_sems (by decide) r.2⟩)
    (Cert.PoolPRefIdeal.Value.run (F := Ideal) m ρ)

/-- So does the reference of the prompt's pooling state. -/
theorem out_sample_ref_frame : Cert.quiescent_OutProjSRefIdeal := fun m ρ _ =>
  (θ_run Cert.OutProjSRefIdeal.defs _ _).mono (fun r h => ⟨fun c => (h c).2, sem_eq_zero_of_no_sems (by decide) r.2⟩)
    (Cert.OutProjSRefIdeal.Value.run (F := Ideal) m ρ)

/-- So does the reference of the prompt's pooling state. -/
theorem up_sample_ref_frame : Cert.quiescent_UpSRefIdeal := fun m ρ _ =>
  (θ_run Cert.UpSRefIdeal.defs _ _).mono (fun r h => ⟨fun c => (h c).2, sem_eq_zero_of_no_sems (by decide) r.2⟩)
    (Cert.UpSRefIdeal.Value.run (F := Ideal) m ρ)

/-- So does the reference of the prompt's pooling state. -/
theorem query_sample_ref_frame : Cert.quiescent_ProjQSRefIdeal := fun m ρ _ =>
  (θ_run Cert.ProjQSRefIdeal.defs _ _).mono (fun r h => ⟨fun c => (h c).2, sem_eq_zero_of_no_sems (by decide) r.2⟩)
    (Cert.ProjQSRefIdeal.Value.run (F := Ideal) m ρ)

/-- So does the reference of the sample's pooling state. -/
theorem pool_sample_ref_frame : Cert.quiescent_PoolSRefIdeal := fun m ρ _ =>
  (θ_run Cert.PoolSRefIdeal.defs _ _).mono (fun r h => ⟨fun c => (h c).2, sem_eq_zero_of_no_sems (by decide) r.2⟩)
    (Cert.PoolSRefIdeal.Value.run (F := Ideal) m ρ)

/-- The two constants that the sparse attention names. -/
theorem named : Cert.preserves_Kernel_KernelIdeal :=
  ⟨IdealRules.named_const.statement Cert.KernelIdeal.κ "mask" .f32 0xF149F2CA#32 ⊥ rfl,
    IdealRules.named_const.statement Cert.KernelIdeal.κ "scale_log2e" .f32 0x3E0293EE#32
      (((Real.sqrt 128)⁻¹ * (Real.log 2)⁻¹ : ℝ) : EReal) rfl⟩

/-- Every claim of the certificate. -/
theorem claim : Cert.Claim :=
  ⟨Cert.Kernel.Gen.facts, Cert.KernelIdeal.Gen.facts, Cert.ReferenceIdeal.Gen.facts, Cert.Up.Gen.facts,
    Cert.UpIdeal.Gen.facts, Cert.UpRefIdeal.Gen.facts, Cert.Down.Gen.facts, Cert.DownIdeal.Gen.facts,
    Cert.DownRefIdeal.Gen.facts, Cert.OutProj.Gen.facts, Cert.OutProjIdeal.Gen.facts, Cert.OutProjRefIdeal.Gen.facts,
    Cert.ProjV.Gen.facts, Cert.ProjVIdeal.Gen.facts, Cert.ProjVRefIdeal.Gen.facts,
    Cert.ProjK.Gen.facts, Cert.ProjKIdeal.Gen.facts, Cert.ProjKRefIdeal.Gen.facts,
    Cert.ProjQ.Gen.facts, Cert.ProjQIdeal.Gen.facts, Cert.ProjQRefIdeal.Gen.facts,
    Cert.DsaV.Gen.facts, Cert.DsaVIdeal.Gen.facts, Cert.DsaVRefIdeal.Gen.facts,
    Cert.DsaK.Gen.facts, Cert.DsaKIdeal.Gen.facts, Cert.DsaKRefIdeal.Gen.facts,
    Cert.DsaQ.Gen.facts, Cert.DsaQIdeal.Gen.facts, Cert.DsaQRefIdeal.Gen.facts,
    Cert.Norm.Gen.facts, Cert.NormIdeal.Gen.facts, Cert.NormRefIdeal.Gen.facts,
    Cert.DownS.Gen.facts, Cert.DownSIdeal.Gen.facts, Cert.DownSRefIdeal.Gen.facts,
    Cert.ProjVS.Gen.facts, Cert.ProjVSIdeal.Gen.facts, Cert.ProjVSRefIdeal.Gen.facts,
    Cert.ProjKS.Gen.facts, Cert.ProjKSIdeal.Gen.facts, Cert.ProjKSRefIdeal.Gen.facts,
    Cert.DsaVS.Gen.facts, Cert.DsaVSIdeal.Gen.facts, Cert.DsaVSRefIdeal.Gen.facts,
    Cert.DsaKS.Gen.facts, Cert.DsaKSIdeal.Gen.facts, Cert.DsaKSRefIdeal.Gen.facts,
    Cert.IdxK.Gen.facts, Cert.IdxKIdeal.Gen.facts, Cert.IdxKRefIdeal.Gen.facts,
    Cert.IdxKS.Gen.facts, Cert.IdxKSIdeal.Gen.facts, Cert.IdxKSRefIdeal.Gen.facts,
    Cert.IdxQ.Gen.facts, Cert.IdxQIdeal.Gen.facts, Cert.IdxQRefIdeal.Gen.facts,
    Cert.PoolS.Gen.facts, Cert.PoolSIdeal.Gen.facts, Cert.PoolSRefIdeal.Gen.facts,
    Cert.PoolP.Gen.facts, Cert.PoolPIdeal.Gen.facts, Cert.PoolPRefIdeal.Gen.facts,
    Cert.OutProjS.Gen.facts, Cert.OutProjSIdeal.Gen.facts, Cert.OutProjSRefIdeal.Gen.facts,
    Cert.UpS.Gen.facts, Cert.UpSIdeal.Gen.facts, Cert.UpSRefIdeal.Gen.facts,
    Cert.ProjQS.Gen.facts, Cert.ProjQSIdeal.Gen.facts, Cert.ProjQSRefIdeal.Gen.facts,
    Cert.Pre_selected_and_finite.Gen.facts,
    fun m ρ _ => Cert.Kernel.Gen.frame m ρ,
    fun m ρ _ => Cert.KernelIdeal.Gen.frame m ρ,
    fun m ρ _ => Cert.KernelIdeal.Gen.frame m ρ,
    reference_frame, fun m ρ _ => reference_frame m ρ trivial,
    fun m ρ _ => Cert.Up.Gen.frame m ρ, fun m ρ _ => Cert.UpIdeal.Gen.frame m ρ, up_ref_frame,
    fun m ρ _ => Cert.Down.Gen.frame m ρ, fun m ρ _ => Cert.DownIdeal.Gen.frame m ρ, down_ref_frame,
    fun m ρ _ => Cert.OutProj.Gen.frame m ρ, fun m ρ _ => Cert.OutProjIdeal.Gen.frame m ρ, out_ref_frame,
    fun m ρ _ => Cert.ProjV.Gen.frame m ρ, fun m ρ _ => Cert.ProjVIdeal.Gen.frame m ρ, value_ref_frame,
    fun m ρ _ => Cert.ProjK.Gen.frame m ρ, fun m ρ _ => Cert.ProjKIdeal.Gen.frame m ρ, key_ref_frame,
    fun m ρ _ => Cert.ProjQ.Gen.frame m ρ, fun m ρ _ => Cert.ProjQIdeal.Gen.frame m ρ, query_ref_frame,
    fun m ρ _ => Cert.DsaV.Gen.frame m ρ, fun m ρ _ => Cert.DsaVIdeal.Gen.frame m ρ, dsa_value_ref_frame,
    fun m ρ _ => Cert.DsaK.Gen.frame m ρ, fun m ρ _ => Cert.DsaKIdeal.Gen.frame m ρ, dsa_key_ref_frame,
    fun m ρ _ => Cert.DsaQ.Gen.frame m ρ, fun m ρ _ => Cert.DsaQIdeal.Gen.frame m ρ, dsa_query_ref_frame,
    fun m ρ _ => Cert.Norm.Gen.frame m ρ, fun m ρ _ => Cert.NormIdeal.Gen.frame m ρ, norm_ref_frame,
    fun m ρ _ => Cert.DownS.Gen.frame m ρ, fun m ρ _ => Cert.DownSIdeal.Gen.frame m ρ, down_sample_ref_frame,
    fun m ρ _ => Cert.ProjVS.Gen.frame m ρ, fun m ρ _ => Cert.ProjVSIdeal.Gen.frame m ρ, value_sample_ref_frame,
    fun m ρ _ => Cert.ProjKS.Gen.frame m ρ, fun m ρ _ => Cert.ProjKSIdeal.Gen.frame m ρ, key_sample_ref_frame,
    fun m ρ _ => Cert.DsaVS.Gen.frame m ρ, fun m ρ _ => Cert.DsaVSIdeal.Gen.frame m ρ, dsa_value_sample_ref_frame,
    fun m ρ _ => Cert.DsaKS.Gen.frame m ρ, fun m ρ _ => Cert.DsaKSIdeal.Gen.frame m ρ, dsa_key_sample_ref_frame,
    fun m ρ _ => Cert.IdxK.Gen.frame m ρ, fun m ρ _ => Cert.IdxKIdeal.Gen.frame m ρ, index_key_ref_frame,
    fun m ρ _ => Cert.IdxKS.Gen.frame m ρ, fun m ρ _ => Cert.IdxKSIdeal.Gen.frame m ρ, index_key_sample_ref_frame,
    fun m ρ _ => Cert.IdxQ.Gen.frame m ρ, fun m ρ _ => Cert.IdxQIdeal.Gen.frame m ρ, index_query_ref_frame,
    fun m ρ _ => Cert.PoolS.Gen.frame m ρ, fun m ρ _ => Cert.PoolSIdeal.Gen.frame m ρ, pool_sample_ref_frame,
    fun m ρ _ => Cert.PoolP.Gen.frame m ρ, fun m ρ _ => Cert.PoolPIdeal.Gen.frame m ρ, pool_prompt_ref_frame,
    fun m ρ _ => Cert.OutProjS.Gen.frame m ρ, fun m ρ _ => Cert.OutProjSIdeal.Gen.frame m ρ, out_sample_ref_frame,
    fun m ρ _ => Cert.UpS.Gen.frame m ρ, fun m ρ _ => Cert.UpSIdeal.Gen.frame m ρ, up_sample_ref_frame,
    fun m ρ _ => Cert.ProjQS.Gen.frame m ρ, fun m ρ _ => Cert.ProjQSIdeal.Gen.frame m ρ, query_sample_ref_frame,
    named, Cert.KernelIdeal.Hand.algebraic,
    trivial, Cert.UpIdeal.Hand.algebraic,
    trivial, Cert.DownIdeal.Hand.algebraic,
    trivial, Cert.OutProjIdeal.Hand.algebraic,
    trivial, Cert.ProjVIdeal.Hand.algebraic,
    trivial, Cert.ProjKIdeal.Hand.algebraic,
    trivial, Cert.ProjQIdeal.Hand.algebraic,
    trivial, Cert.DsaVIdeal.Hand.algebraic,
    trivial, Cert.DsaKIdeal.Hand.algebraic,
    trivial, Cert.DsaQIdeal.Hand.algebraic,
    trivial, Cert.NormIdeal.Hand.algebraic,
    trivial, Cert.DownSIdeal.Hand.algebraic,
    trivial, Cert.ProjVSIdeal.Hand.algebraic,
    trivial, Cert.ProjKSIdeal.Hand.algebraic,
    trivial, Cert.DsaVSIdeal.Hand.algebraic,
    trivial, Cert.DsaKSIdeal.Hand.algebraic,
    trivial, Cert.IdxKIdeal.Hand.algebraic,
    trivial, Cert.IdxKSIdeal.Hand.algebraic,
    trivial, Cert.IdxQIdeal.Hand.algebraic,
    trivial, Cert.PoolSIdeal.Hand.algebraic,
    trivial, Cert.PoolPIdeal.Hand.algebraic,
    trivial, Cert.OutProjSIdeal.Hand.algebraic,
    trivial, Cert.UpSIdeal.Hand.algebraic,
    trivial, Cert.ProjQSIdeal.Hand.algebraic⟩

end Cert.Proof

end
